-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_attn_finite [hPre_attn_finite : Cert.Pre_attn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_attn_finite [hPre_attn_finite : Cert.Pre_attn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_attn_fwd_finite [hPre_attn_fwd_finite : Cert.Pre_attn_fwd_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_attn_fwd_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_attn_fwd_finite [hPre_attn_fwd_finite : Cert.Pre_attn_fwd_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_attn_fwd_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_attn_finite [hKernel2Ideal : Cert.Kernel2Ideal.Facts] [hPre_attn_finite : Cert.Pre_attn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_attn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_attn_finite [hReference2Ideal : Cert.Reference2Ideal.Facts] [hPre_attn_finite : Cert.Pre_attn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_attn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_attn_fwd_finite [hKernel3Ideal : Cert.Kernel3Ideal.Facts] [hPre_attn_fwd_finite : Cert.Pre_attn_fwd_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_attn_fwd_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_attn_fwd_finite [hReference3Ideal : Cert.Reference3Ideal.Facts] [hPre_attn_fwd_finite : Cert.Pre_attn_fwd_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_attn_fwd_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "mask" .f32 0xF149F2CA#32 ⊥

def algebraic_Kernel2Ideal_Reference2Ideal_pre_attn_finite [hKernel2Ideal : Cert.Kernel2Ideal.Facts] [hReference2Ideal : Cert.Reference2Ideal.Facts] [hPre_attn_finite : Cert.Pre_attn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_attn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v63)) (v1 : (c : Dev Cert.Kernel2Ideal.nD) → Buf (Elt Ideal) ((c.tc : Thread Cert.Kernel2Ideal.nD Cert.Kernel2Ideal.τ).loc Cert.Kernel2Ideal.main_v67)) (v2 : (c : Dev Cert.Kernel2Ideal.nD) → Buf (Elt Ideal) ((c.tc : Thread Cert.Kernel2Ideal.nD Cert.Kernel2Ideal.τ).loc Cert.Kernel2Ideal.main_v71)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v63) = v0 c
          ∧ r.2.mem ((c.tc : Thread Cert.Kernel2Ideal.nD Cert.Kernel2Ideal.τ).loc Cert.Kernel2Ideal.main_v67) = v1 c
          ∧ r.2.mem ((c.tc : Thread Cert.Kernel2Ideal.nD Cert.Kernel2Ideal.τ).loc Cert.Kernel2Ideal.main_v71) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "mask" .f32 0xF149F2CA#32 ⊥

def algebraic_Kernel3Ideal_Reference3Ideal_pre_attn_fwd_finite [hKernel3Ideal : Cert.Kernel3Ideal.Facts] [hReference3Ideal : Cert.Reference3Ideal.Facts] [hPre_attn_fwd_finite : Cert.Pre_attn_fwd_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_attn_fwd_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v24) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v92)) (v1 : (c : Dev Cert.Kernel4Ideal.nD) → Buf (Elt Ideal) ((c.tc : Thread Cert.Kernel4Ideal.nD Cert.Kernel4Ideal.τ).loc Cert.Kernel4Ideal.main_v93)) (v2 : (c : Dev Cert.Kernel4Ideal.nD) → Buf (Elt Ideal) ((c.tc : Thread Cert.Kernel4Ideal.nD Cert.Kernel4Ideal.τ).loc Cert.Kernel4Ideal.main_v94)) (v3 : (c : Dev Cert.Kernel4Ideal.nD) → Buf (Elt Ideal) ((c.tc : Thread Cert.Kernel4Ideal.nD Cert.Kernel4Ideal.τ).loc Cert.Kernel4Ideal.main_v84_1)) (v4 : (c : Dev Cert.Kernel4Ideal.nD) → Buf (Elt Ideal) ((c.tc : Thread Cert.Kernel4Ideal.nD Cert.Kernel4Ideal.τ).loc Cert.Kernel4Ideal.main_v88)) (v5 : (c : Dev Cert.Kernel4Ideal.nD) → Buf (Elt Ideal) ((c.tc : Thread Cert.Kernel4Ideal.nD Cert.Kernel4Ideal.τ).loc Cert.Kernel4Ideal.main_v84_2)) (v6 : (c : Dev Cert.Kernel4Ideal.nD) → Buf (Elt Ideal) ((c.tc : Thread Cert.Kernel4Ideal.nD Cert.Kernel4Ideal.τ).loc Cert.Kernel4Ideal.main_v91)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v92) = v0 c
          ∧ r.2.mem ((c.tc : Thread Cert.Kernel4Ideal.nD Cert.Kernel4Ideal.τ).loc Cert.Kernel4Ideal.main_v93) = v1 c
          ∧ r.2.mem ((c.tc : Thread Cert.Kernel4Ideal.nD Cert.Kernel4Ideal.τ).loc Cert.Kernel4Ideal.main_v94) = v2 c
          ∧ r.2.mem ((c.tc : Thread Cert.Kernel4Ideal.nD Cert.Kernel4Ideal.τ).loc Cert.Kernel4Ideal.main_v84_1) = v3 c
          ∧ r.2.mem ((c.tc : Thread Cert.Kernel4Ideal.nD Cert.Kernel4Ideal.τ).loc Cert.Kernel4Ideal.main_v88) = v4 c
          ∧ r.2.mem ((c.tc : Thread Cert.Kernel4Ideal.nD Cert.Kernel4Ideal.τ).loc Cert.Kernel4Ideal.main_v84_2) = v5 c
          ∧ r.2.mem ((c.tc : Thread Cert.Kernel4Ideal.nD Cert.Kernel4Ideal.τ).loc Cert.Kernel4Ideal.main_v91) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v178) = v0 c
          ∧ r.2.mem ((c.tc : Thread Cert.Reference4Ideal.nD Cert.Reference4Ideal.τ).loc Cert.Reference4Ideal.main_v132) = v1 c
          ∧ r.2.mem ((c.tc : Thread Cert.Reference4Ideal.nD Cert.Reference4Ideal.τ).loc Cert.Reference4Ideal.main_v103) = v2 c
          ∧ r.2.mem ((c.tc : Thread Cert.Reference4Ideal.nD Cert.Reference4Ideal.τ).loc Cert.Reference4Ideal.main_v179) = v3 c
          ∧ r.2.mem ((c.tc : Thread Cert.Reference4Ideal.nD Cert.Reference4Ideal.τ).loc Cert.Reference4Ideal.main_v157) = v4 c
          ∧ r.2.mem ((c.tc : Thread Cert.Reference4Ideal.nD Cert.Reference4Ideal.τ).loc Cert.Reference4Ideal.main_v133) = v5 c
          ∧ r.2.mem ((c.tc : Thread Cert.Reference4Ideal.nD Cert.Reference4Ideal.τ).loc Cert.Reference4Ideal.main_v111) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v38)) (v1 : (c : Dev Cert.Kernel5Ideal.nD) → Buf (Elt Ideal) ((c.tc : Thread Cert.Kernel5Ideal.nD Cert.Kernel5Ideal.τ).loc Cert.Kernel5Ideal.main_v42)) (v2 : (c : Dev Cert.Kernel5Ideal.nD) → Buf (Elt Ideal) ((c.tc : Thread Cert.Kernel5Ideal.nD Cert.Kernel5Ideal.τ).loc Cert.Kernel5Ideal.main_v46)) (v3 : (c : Dev Cert.Kernel5Ideal.nD) → Buf (Elt Ideal) ((c.tc : Thread Cert.Kernel5Ideal.nD Cert.Kernel5Ideal.τ).loc Cert.Kernel5Ideal.main_v49)) (v4 : (c : Dev Cert.Kernel5Ideal.nD) → Buf (Elt Ideal) ((c.tc : Thread Cert.Kernel5Ideal.nD Cert.Kernel5Ideal.τ).loc Cert.Kernel5Ideal.main_v52)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v38) = v0 c
          ∧ r.2.mem ((c.tc : Thread Cert.Kernel5Ideal.nD Cert.Kernel5Ideal.τ).loc Cert.Kernel5Ideal.main_v42) = v1 c
          ∧ r.2.mem ((c.tc : Thread Cert.Kernel5Ideal.nD Cert.Kernel5Ideal.τ).loc Cert.Kernel5Ideal.main_v46) = v2 c
          ∧ r.2.mem ((c.tc : Thread Cert.Kernel5Ideal.nD Cert.Kernel5Ideal.τ).loc Cert.Kernel5Ideal.main_v49) = v3 c
          ∧ r.2.mem ((c.tc : Thread Cert.Kernel5Ideal.nD Cert.Kernel5Ideal.τ).loc Cert.Kernel5Ideal.main_v52) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v71) = v0 c
          ∧ r.2.mem ((c.tc : Thread Cert.Reference5Ideal.nD Cert.Reference5Ideal.τ).loc Cert.Reference5Ideal.main_v69) = v1 c
          ∧ r.2.mem ((c.tc : Thread Cert.Reference5Ideal.nD Cert.Reference5Ideal.τ).loc Cert.Reference5Ideal.main_v72) = v2 c
          ∧ r.2.mem ((c.tc : Thread Cert.Reference5Ideal.nD Cert.Reference5Ideal.τ).loc Cert.Reference5Ideal.main_v13) = v3 c
          ∧ r.2.mem ((c.tc : Thread Cert.Reference5Ideal.nD Cert.Reference5Ideal.τ).loc Cert.Reference5Ideal.main_v27) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_attn_finite : Cert.Pre_attn_finite.Facts) (hPre_attn_fwd_finite : Cert.Pre_attn_fwd_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_attn_finite (hKernel2Ideal := hKernel2Ideal) (hPre_attn_finite := hPre_attn_finite)
    ∧ quiescent_Reference2Ideal (hReference2Ideal := hReference2Ideal)
    ∧ quiescent_Reference2Ideal_pre_attn_finite (hReference2Ideal := hReference2Ideal) (hPre_attn_finite := hPre_attn_finite)
    ∧ quiescent_Kernel3 (hKernel3 := hKernel3)
    ∧ quiescent_Kernel3Ideal (hKernel3Ideal := hKernel3Ideal)
    ∧ quiescent_Kernel3Ideal_pre_attn_fwd_finite (hKernel3Ideal := hKernel3Ideal) (hPre_attn_fwd_finite := hPre_attn_fwd_finite)
    ∧ quiescent_Reference3Ideal (hReference3Ideal := hReference3Ideal)
    ∧ quiescent_Reference3Ideal_pre_attn_fwd_finite (hReference3Ideal := hReference3Ideal) (hPre_attn_fwd_finite := hPre_attn_fwd_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_attn_finite (hKernel2Ideal := hKernel2Ideal) (hReference2Ideal := hReference2Ideal) (hPre_attn_finite := hPre_attn_finite)
    ∧ preserves_Kernel3_Kernel3Ideal
    ∧ algebraic_Kernel3Ideal_Reference3Ideal_pre_attn_fwd_finite (hKernel3Ideal := hKernel3Ideal) (hReference3Ideal := hReference3Ideal) (hPre_attn_fwd_finite := hPre_attn_fwd_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_attn_finite.lean ====
abbrev S1x8x4096x96 : Shape := ⟨4, ![1, 8, 4096, 96]⟩
abbrev S1x8x4096x64 : Shape := ⟨4, ![1, 8, 4096, 64]⟩
abbrev S_ : Shape := ⟨0, ![]⟩

class Facts : Prop where
  bcast_S_S1x8x4096x96 : S_.BroadcastsInDim S1x8x4096x96 (![] : Fin 0 → Fin S1x8x4096x96.rank)
  reducesTo_S1x8x4096x96_S_d0_1_2_3 : S1x8x4096x96.ReducesTo [0, 1, 2, 3] S_
  h_S_ : 0 < S_.numel
  bcast_S_S1x8x4096x64 : S_.BroadcastsInDim S1x8x4096x64 (![] : Fin 0 → Fin S1x8x4096x64.rank)
  reducesTo_S1x8x4096x64_S_d0_1_2_3 : S1x8x4096x64.ReducesTo [0, 1, 2, 3] S_

variable [Facts]

def fn_part1 {F : FTy → Type} [FloatOps F] (main_v13 : IVec S_ 1) (main_v16 : IVec S1x8x4096x64 1) : IVec S_ 1 :=
  let main_c_5 : IVec S_ 1 := constantI S_ 1 1#1
  let main_v17 : IVec S_ 1 := (fun x v => Host.reduce IntOp.andi x v reducesTo_S1x8x4096x64_S_d0_1_2_3 h_S_) main_v16 main_c_5
  let main_v18 : IVec S_ 1 := andi main_v13 main_v17
  main_v18

def fn {F : FTy → Type} [FloatOps F] (main_arg0 : FVec F S1x8x4096x96 .f32) (main_arg1 : FVec F S1x8x4096x96 .f32) (main_arg2 : FVec F S1x8x4096x64 .f32) (main_arg3 : FVec F S1x8x4096x64 .f32) : IVec S_ 1 :=
  let main_v0 : FVec F S1x8x4096x96 .f32 := Host.absf main_arg0
  let main_cst : FVec F S_ .f32 := constant S_ .f32 0x7F800000#32
  let main_v1 : FVec F S1x8x4096x96 .f32 := broadcastInDim S1x8x4096x96 ![] bcast_S_S1x8x4096x96 main_cst
  let main_v2 : IVec S1x8x4096x96 1 := cmpf .olt main_v0 main_v1
  let main_c : IVec S_ 1 := constantI S_ 1 1#1
  let main_v3 : IVec S_ 1 := (fun x v => Host.reduce IntOp.andi x v reducesTo_S1x8x4096x96_S_d0_1_2_3 h_S_) main_v2 main_c
  let main_v4 : FVec F S1x8x4096x96 .f32 := Host.absf main_arg1
  let main_cst_0 : FVec F S_ .f32 := constant S_ .f32 0x7F800000#32
  let main_v5 : FVec F S1x8x4096x96 .f32 := broadcastInDim S1x8x4096x96 ![] bcast_S_S1x8x4096x96 main_cst_0
  let main_v6 : IVec S1x8x4096x96 1 := cmpf .olt main_v4 main_v5
  let main_c_1 : IVec S_ 1 := constantI S_ 1 1#1
  let main_v7 : IVec S_ 1 := (fun x v => Host.reduce IntOp.andi x v reducesTo_S1x8x4096x96_S_d0_1_2_3 h_S_) main_v6 main_c_1
  let main_v8 : IVec S_ 1 := andi main_v3 main_v7
  let main_v9 : FVec F S1x8x4096x64 .f32 := Host.absf main_arg2
  let main_cst_2 : FVec F S_ .f32 := constant S_ .f32 0x7F800000#32
  let main_v10 : FVec F S1x8x4096x64 .f32 := broadcastInDim S1x8x4096x64 ![] bcast_S_S1x8x4096x64 main_cst_2
  let main_v11 : IVec S1x8x4096x64 1 := cmpf .olt main_v9 main_v10
  let main_c_3 : IVec S_ 1 := constantI S_ 1 1#1
  let main_v12 : IVec S_ 1 := (fun x v => Host.reduce IntOp.andi x v reducesTo_S1x8x4096x64_S_d0_1_2_3 h_S_) main_v11 main_c_3
  let main_v13 : IVec S_ 1 := andi main_v8 main_v12
  let main_v14 : FVec F S1x8x4096x64 .f32 := Host.absf main_arg3
  let main_cst_4 : FVec F S_ .f32 := constant S_ .f32 0x7F800000#32
  let main_v15 : FVec F S1x8x4096x64 .f32 := broadcastInDim S1x8x4096x64 ![] bcast_S_S1x8x4096x64 main_cst_4
  let main_v16 : IVec S1x8x4096x64 1 := cmpf .olt main_v14 main_v15
  fn_part1 (F := F) main_v13 main_v16
-- ==== Pre_attn_fwd_finite.lean ====
abbrev S1x8x4096x96 : Shape := ⟨4, ![1, 8, 4096, 96]⟩
abbrev S1x8x4096x64 : Shape := ⟨4, ![1, 8, 4096, 64]⟩
abbrev S_ : Shape := ⟨0, ![]⟩

class Facts : Prop where
  bcast_S_S1x8x4096x96 : S_.BroadcastsInDim S1x8x4096x96 (![] : Fin 0 → Fin S1x8x4096x96.rank)
  reducesTo_S1x8x4096x96_S_d0_1_2_3 : S1x8x4096x96.ReducesTo [0, 1, 2, 3] S_
  h_S_ : 0 < S_.numel
  bcast_S_S1x8x4096x64 : S_.BroadcastsInDim S1x8x4096x64 (![] : Fin 0 → Fin S1x8x4096x64.rank)
  reducesTo_S1x8x4096x64_S_d0_1_2_3 : S1x8x4096x64.ReducesTo [0, 1, 2, 3] S_

variable [Facts]

def fn {F : FTy → Type} [FloatOps F] (main_arg0 : FVec F S1x8x4096x96 .f32) (main_arg1 : FVec F S1x8x4096x96 .f32) (main_arg2 : FVec F S1x8x4096x64 .f32) : IVec S_ 1 :=
  let main_v0 : FVec F S1x8x4096x96 .f32 := Host.absf main_arg0
  let main_cst : FVec F S_ .f32 := constant S_ .f32 0x7F800000#32
  let main_v1 : FVec F S1x8x4096x96 .f32 := broadcastInDim S1x8x4096x96 ![] bcast_S_S1x8x4096x96 main_cst
  let main_v2 : IVec S1x8x4096x96 1 := cmpf .olt main_v0 main_v1
  let main_c : IVec S_ 1 := constantI S_ 1 1#1
  let main_v3 : IVec S_ 1 := (fun x v => Host.reduce IntOp.andi x v reducesTo_S1x8x4096x96_S_d0_1_2_3 h_S_) main_v2 main_c
  let main_v4 : FVec F S1x8x4096x96 .f32 := Host.absf main_arg1
  let main_cst_0 : FVec F S_ .f32 := constant S_ .f32 0x7F800000#32
  let main_v5 : FVec F S1x8x4096x96 .f32 := broadcastInDim S1x8x4096x96 ![] bcast_S_S1x8x4096x96 main_cst_0
  let main_v6 : IVec S1x8x4096x96 1 := cmpf .olt main_v4 main_v5
  let main_c_1 : IVec S_ 1 := constantI S_ 1 1#1
  let main_v7 : IVec S_ 1 := (fun x v => Host.reduce IntOp.andi x v reducesTo_S1x8x4096x96_S_d0_1_2_3 h_S_) main_v6 main_c_1
  let main_v8 : IVec S_ 1 := andi main_v3 main_v7
  let main_v9 : FVec F S1x8x4096x64 .f32 := Host.absf main_arg2
  let main_cst_2 : FVec F S_ .f32 := constant S_ .f32 0x7F800000#32
  let main_v10 : FVec F S1x8x4096x64 .f32 := broadcastInDim S1x8x4096x64 ![] bcast_S_S1x8x4096x64 main_cst_2
  let main_v11 : IVec S1x8x4096x64 1 := cmpf .olt main_v9 main_v10
  let main_c_3 : IVec S_ 1 := constantI S_ 1 1#1
  let main_v12 : IVec S_ 1 := (fun x v => Host.reduce IntOp.andi x v reducesTo_S1x8x4096x64_S_d0_1_2_3 h_S_) main_v11 main_c_3
  let main_v13 : IVec S_ 1 := andi main_v8 main_v12
  main_v13
-- ==== Kernel.lean ====
abbrev S1x4096x1024 : Shape := ⟨3, ![1, 4096, 1024]⟩
abbrev S1x1024 : Shape := ⟨2, ![1, 1024]⟩
abbrev S1x1024x5664 : Shape := ⟨3, ![1, 1024, 5664]⟩
abbrev S1x4096x5664 : Shape := ⟨3, ![1, 4096, 5664]⟩
abbrev S4096x5664 : Shape := ⟨2, ![4096, 5664]⟩
abbrev S4096x2048 : Shape := ⟨2, ![4096, 2048]⟩
abbrev S4096x512 : Shape := ⟨2, ![4096, 512]⟩
abbrev S4096x1536 : Shape := ⟨2, ![4096, 1536]⟩
abbrev S4096x1024 : Shape := ⟨2, ![4096, 1024]⟩
abbrev S_ : Shape := ⟨0, ![]⟩
abbrev S4096x64 : Shape := ⟨2, ![4096, 64]⟩
abbrev S4096x32 : Shape := ⟨2, ![4096, 32]⟩
abbrev S4096x5760 : Shape := ⟨2, ![4096, 5760]⟩
abbrev S1024x5664 : Shape := ⟨2, ![1024, 5664]⟩
abbrev S1024x2048 : Shape := ⟨2, ![1024, 2048]⟩
abbrev S1024x512 : Shape := ⟨2, ![1024, 512]⟩
abbrev S1024x1536 : Shape := ⟨2, ![1024, 1536]⟩
abbrev S1024x1024 : Shape := ⟨2, ![1024, 1024]⟩
abbrev S1024x64 : Shape := ⟨2, ![1024, 64]⟩
abbrev S1024x32 : Shape := ⟨2, ![1024, 32]⟩
abbrev S1024x160 : Shape := ⟨2, ![1024, 160]⟩
abbrev S1024x5888 : Shape := ⟨2, ![1024, 5888]⟩
abbrev S5888x1024 : Shape := ⟨2, ![5888, 1024]⟩
abbrev S256x5760 : Shape := ⟨2, ![256, 5760]⟩
abbrev S5760x1024 : Shape := ⟨2, ![5760, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 36
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5664, .f32⟩
  | .hbm, ⟨3, _⟩ => ⟨S1x4096x5664, .f32⟩
  | .hbm, ⟨4, _⟩ => ⟨S1x4096x1024, .f32⟩
  | .hbm, ⟨5, _⟩ => ⟨S4096x5664, .f32⟩
  | .hbm, ⟨6, _⟩ => ⟨S4096x2048, .f32⟩
  | .hbm, ⟨7, _⟩ => ⟨S4096x512, .f32⟩
  | .hbm, ⟨8, _⟩ => ⟨S4096x512, .f32⟩
  | .hbm, ⟨9, _⟩ => ⟨S4096x1536, .f32⟩
  | .hbm, ⟨10, _⟩ => ⟨S4096x1024, .f32⟩
  | .hbm, ⟨11, _⟩ => ⟨S_, .f32⟩
  | .hbm, ⟨12, _⟩ => ⟨S4096x64, .f32⟩
  | .hbm, ⟨13, _⟩ => ⟨S4096x32, .f32⟩
  | .hbm, ⟨14, _⟩ => ⟨S_, .f32⟩
  | .hbm, ⟨15, _⟩ => ⟨S4096x32, .f32⟩
  | .hbm, ⟨16, _⟩ => ⟨S4096x5760, .f32⟩
  | .hbm, ⟨17, _⟩ => ⟨S4096x5760, .bf16⟩
  | .hbm, ⟨18, _⟩ => ⟨S1024x5664, .f32⟩
  | .hbm, ⟨19, _⟩ => ⟨S1024x2048, .f32⟩
  | .hbm, ⟨20, _⟩ => ⟨S1024x512, .f32⟩
  | .hbm, ⟨21, _⟩ => ⟨S1024x512, .f32⟩
  | .hbm, ⟨22, _⟩ => ⟨S1024x1536, .f32⟩
  | .hbm, ⟨23, _⟩ => ⟨S1024x1024, .f32⟩
  | .hbm, ⟨24, _⟩ => ⟨S_, .f32⟩
  | .hbm, ⟨25, _⟩ => ⟨S1024x64, .f32⟩
  | .hbm, ⟨26, _⟩ => ⟨S1024x32, .f32⟩
  | .hbm, ⟨27, _⟩ => ⟨S_, .f32⟩
  | .hbm, ⟨28, _⟩ => ⟨S1024x160, .f32⟩
  | .hbm, ⟨29, _⟩ => ⟨S1024x5888, .f32⟩
  | .hbm, ⟨30, _⟩ => ⟨S5888x1024, .f32⟩
  | .hbm, ⟨31, _⟩ => ⟨S5888x1024, .bf16⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1x1024, .f32⟩
  | .local _ .vmem, ⟨0, _⟩ => ⟨S256x5760, .bf16⟩
  | .local _ .vmem, ⟨1, _⟩ => ⟨S256x5760, .bf16⟩
  | .local _ .vmem, ⟨2, _⟩ => ⟨S5760x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5760x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x4096x1024 : Shape := ⟨3, ![1, 4096, 1024]⟩
abbrev S1x1024 : Shape := ⟨2, ![1, 1024]⟩
abbrev S1x1024x5664 : Shape := ⟨3, ![1, 1024, 5664]⟩
abbrev S1x4096x5664 : Shape := ⟨3, ![1, 4096, 5664]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x5664 : Shape := ⟨2, ![1024, 5664]⟩
abbrev S4096 : Shape := ⟨1, ![4096]⟩
abbrev S4096x1024 : Shape := ⟨2, ![4096, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5664, .f32⟩
  | .hbm, ⟨3, _⟩ => ⟨S1x4096x5664, .f32⟩
  | .hbm, ⟨4, _⟩ => ⟨S1x4096x1024, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1024x5664, .f32⟩
  | .hbm, ⟨27, _⟩ => ⟨S1x4096x5664, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1024, .f32⟩
  | .hbm, ⟨37, _⟩ => ⟨S1x4096x1024, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x1024, .f32⟩
  | .hbm, ⟨57, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel2.lean ====
abbrev S1x8x4096x96 : Shape := ⟨4, ![1, 8, 4096, 96]⟩
abbrev S1x8x4096x64 : Shape := ⟨4, ![1, 8, 4096, 64]⟩
abbrev S4096 : Shape := ⟨1, ![4096]⟩
abbrev S_ : Shape := ⟨0, ![]⟩
abbrev S1x8x4096x4096 : Shape := ⟨4, ![1, 8, 4096, 4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x8x4096x98 : Shape := ⟨4, ![1, 8, 4096, 98]⟩
abbrev S1x8x4096x128 : Shape := ⟨4, ![1, 8, 4096, 128]⟩
abbrev S1x4096x8x128 : Shape := ⟨4, ![1, 4096, 8, 128]⟩
abbrev S4096x1024 : Shape := ⟨2, ![4096, 1024]⟩
abbrev S1x8x4096x66 : Shape := ⟨4, ![1, 8, 4096, 66]⟩
abbrev S4096x256 : Shape := ⟨2, ![4096, 256]⟩
abbrev S512x256 : Shape := ⟨2, ![512, 256]⟩
abbrev S512x128 : Shape := ⟨2, ![512, 128]⟩
abbrev S256x128 : Shape := ⟨2, ![256, 128]⟩
abbrev S256x512 : Shape := ⟨2, ![256, 512]⟩
abbrev S256x256 : Shape := ⟨2, ![256, 256]⟩
abbrev S512x512 : Shape := ⟨2, ![512, 512]⟩

abbrev nBuf : Space → Nat
  | .hbm => 114
  | .vmem => 17
  | .smem => 0
  | _ => 0

abbrev bufTy : (tb : Table) → Fin (tcTables nBuf tb) → BufTy
  | .hbm, ⟨0, _⟩ => ⟨S1x8x4096x96, .f32⟩
  | .hbm, ⟨1, _⟩ => ⟨S1x8x4096x96, .f32⟩
  | .hbm, ⟨2, _⟩ => ⟨S1x8x4096x64, .f32⟩
  | .hbm, ⟨3, _⟩ => ⟨S1x8x4096x64, .f32⟩
  | .hbm, ⟨4, _⟩ => ⟨S4096, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S1x8x4096x4096, .f32⟩
  | .hbm, ⟨24, _⟩ => ⟨S_, .f32⟩
  | .hbm, ⟨25, _⟩ => ⟨S1x8x4096x4096, .f32⟩
  | .hbm, ⟨26, _⟩ => ⟨S1x8x4096x4096, .f32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S1x8x4096x4096, .i1⟩
  | .hbm, ⟨35, _⟩ => ⟨S1x8x4096x4096, .f32⟩
  | .hbm, ⟨36, _⟩ => ⟨S1x8x4096x4096, .f32⟩
  | .hbm, ⟨37, _⟩ => ⟨S_, .f32⟩
  | .hbm, ⟨38, _⟩ => ⟨S1x8x4096, .f32⟩
  | .hbm, ⟨39, _⟩ => ⟨S1x8x4096x1, .f32⟩
  | .hbm, ⟨40, _⟩ => ⟨S1x8x4096x4096, .f32⟩
  | .hbm, ⟨41, _⟩ => ⟨S1x8x4096x4096, .f32⟩
  | .hbm, ⟨42, _⟩ => ⟨S1x8x4096x4096, .f32⟩
  | .hbm, ⟨43, _⟩ => ⟨S_, .f32⟩
  | .hbm, ⟨44, _⟩ => ⟨S1x8x4096, .f32⟩
  | .hbm, ⟨45, _⟩ => ⟨S1x8x4096x1, .f32⟩
  | .hbm, ⟨46, _⟩ => ⟨S1x8x4096x4096, .f32⟩
  | .hbm, ⟨47, _⟩ => ⟨S1x8x4096x4096, .f32⟩
  | .hbm, ⟨48, _⟩ => ⟨S1x8x4096x64, .f32⟩
  | .hbm, ⟨49, _⟩ => ⟨S1x8x4096x1, .f32⟩
  | .hbm, ⟨50, _⟩ => ⟨S1x8x4096x1, .f32⟩
  | .hbm, ⟨51, _⟩ => ⟨S1x8x4096x1, .f32⟩
  | .hbm, ⟨52, _⟩ => ⟨S1x8x4096x1, .bf16⟩
  | .hbm, ⟨53, _⟩ => ⟨S1x8x4096x1, .f32⟩
  | .hbm, ⟨54, _⟩ => ⟨S1x8x4096x1, .f32⟩
  | .hbm, ⟨55, _⟩ => ⟨S1x8x4096x64, .f32⟩
  | .hbm, ⟨56, _⟩ => ⟨S_, .f32⟩
  | .hbm, ⟨57, _⟩ => ⟨S1x8x4096, .f32⟩
  | .hbm, ⟨58, _⟩ => ⟨S1x8x4096x1, .f32⟩
  | .hbm, ⟨59, _⟩ => ⟨S1x8x4096x1, .f32⟩
  | .hbm, ⟨60, _⟩ => ⟨S1x8x4096x1, .bf16⟩
  | .hbm, ⟨61, _⟩ => ⟨S1x8x4096x1, .f32⟩
  | .hbm, ⟨62, _⟩ => ⟨S1x8x4096x1, .f32⟩
  | .hbm, ⟨63, _⟩ => ⟨S_, .f32⟩
  | .hbm, ⟨64, _⟩ => ⟨S1x8x4096x1, .f32⟩
  | .hbm, ⟨65, _⟩ => ⟨S_, .f32⟩
  | .hbm, ⟨66, _⟩ => ⟨S1x8x4096x96, .f32⟩
  | .hbm, ⟨67, _⟩ => ⟨S1x8x4096x96, .f32⟩
  | .hbm, ⟨68, _⟩ => ⟨S1x8x4096x98, .f32⟩
  | .hbm, ⟨69, _⟩ => ⟨S_, .i32⟩
  | .hbm, ⟨70, _⟩ => ⟨S_, .f32⟩
  | .hbm, ⟨71, _⟩ => ⟨S1x8x4096x128, .f32⟩
  | .hbm, ⟨72, _⟩ => ⟨S1x8x4096x128, .bf16⟩
  | .hbm, ⟨73, _⟩ => ⟨S1x4096x8x128, .bf16⟩
  | .hbm, ⟨74, _⟩ => ⟨S4096x1024, .bf16⟩
  | .hbm, ⟨75, _⟩ => ⟨S1x8x4096x98, .f32⟩
  | .hbm, ⟨76, _⟩ => ⟨S_, .i32⟩
  | .hbm, ⟨77, _⟩ => ⟨S_, .f32⟩
  | .hbm, ⟨78, _⟩ => ⟨S1x8x4096x128, .f32⟩
  | .hbm, ⟨79, _⟩ => ⟨S1x8x4096x128, .bf16⟩
  | .hbm, ⟨80, _⟩ => ⟨S1x4096x8x128, .bf16⟩
  | .hbm, ⟨81, _⟩ => ⟨S4096x1024, .bf16⟩
  | .hbm, ⟨82, _⟩ => ⟨S1x8x4096x66, .f32⟩
  | .hbm, ⟨83, _⟩ => ⟨S_, .i32⟩
  | .hbm, ⟨84, _⟩ => ⟨S_, .f32⟩
  | .hbm, ⟨85, _⟩ => ⟨S1x8x4096x128, .f32⟩
  | .hbm, ⟨86, _⟩ => ⟨S1x8x4096x128, .bf16⟩
  | .hbm, ⟨87, _⟩ => ⟨S1x4096x8x128, .bf16⟩
  | .hbm, ⟨88, _⟩ => ⟨S4096x1024, .bf16⟩
  | .hbm, ⟨89, _⟩ => ⟨S1x8x4096x66, .f32⟩
  | .hbm, ⟨90, _⟩ => ⟨S_, .i32⟩
  | .hbm, ⟨91, _⟩ => ⟨S_, .f32⟩
  | .hbm, ⟨92, _⟩ => ⟨S1x8x4096x128, .f32⟩
  | .hbm, ⟨93, _⟩ => ⟨S1x8x4096x128, .bf16⟩
  | .hbm, ⟨94, _⟩ => ⟨S1x4096x8x128, .bf16⟩
  | .hbm, ⟨95, _⟩ => ⟨S4096x1024, .bf16⟩
  | .hbm, ⟨96, _⟩ => ⟨S4096x1024, .bf16⟩
  | .hbm, ⟨97, _⟩ => ⟨S4096x1024, .bf16⟩
  | .hbm, ⟨98, _⟩ => ⟨S4096x1024, .bf16⟩
  | .hbm, ⟨99, _⟩ => ⟨S1x4096x8x128, .bf16⟩
  | .hbm, ⟨100, _⟩ => ⟨S1x8x4096x128, .bf16⟩
  | .hbm, ⟨101, _⟩ => ⟨S1x8x4096x96, .bf16⟩
  | .hbm, ⟨102, _⟩ => ⟨S1x8x4096x96, .f32⟩
  | .hbm, ⟨103, _⟩ => ⟨S_, .f32⟩
  | .hbm, ⟨104, _⟩ => ⟨S1x8x4096x96, .f32⟩
  | .hbm, ⟨105, _⟩ => ⟨S1x8x4096x96, .f32⟩
  | .hbm, ⟨106, _⟩ => ⟨S1x4096x8x128, .bf16⟩
  | .hbm, ⟨107, _⟩ => ⟨S1x8x4096x128, .bf16⟩
  | .hbm, ⟨108, _⟩ => ⟨S1x8x4096x96, .bf16⟩
  | .hbm, ⟨109, _⟩ => ⟨S1x8x4096x96, .f32⟩
  | .hbm, ⟨110, _⟩ => ⟨S1x4096x8x128, .bf16⟩
  | .hbm, ⟨111, _⟩ => ⟨S1x8x4096x128, .bf16⟩
  | .hbm, ⟨112, _⟩ => ⟨S1x8x4096x64, .bf16⟩
  | .hbm, ⟨113, _⟩ => ⟨S1x8x4096x64, .f32⟩
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S4096x256, .f32⟩
  | .local _ .vmem, ⟨15, _⟩ => ⟨S512x256, .f32⟩
  | .local _ .vmem, ⟨16, _⟩ => ⟨S512x256, .f32⟩
  | _, _ => ⟨S1x8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_4 : Ref sig .tc := ⟨.hbm, 63, rfl⟩
abbrev main_v34 : Ref sig .tc := ⟨.hbm, 64, rfl⟩
abbrev main_cst_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_6 : Ref sig .tc := ⟨.hbm, 69, rfl⟩
abbrev main_call2_v0 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_7 : Ref sig .tc := ⟨.hbm, 76, rfl⟩
abbrev main_call3_v0 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_8 : Ref sig .tc := ⟨.hbm, 83, rfl⟩
abbrev main_call4_v0 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c_9 : Ref sig .tc := ⟨.hbm, 90, rfl⟩
abbrev main_call5_v0 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57_0 : Ref sig .tc := ⟨.hbm, 96, rfl⟩
abbrev main_v57_1 : Ref sig .tc := ⟨.hbm, 97, rfl⟩
abbrev main_v57_2 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_10 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v19 : BitVec 32 := Scalar.muli arg1 c512_i32
  let c0_i32_12 : BitVec 32 := 0#32
  let v20 : BitVec 32 := Scalar.addi v19 c0_i32_12
  v20
def k0_off1 (i : grid0.Coords) : Fin 2 → Nat :=
  let arg1 : BitVec 32 := BitVec.ofNat 32 (i 1).val
  let c512_i32 : BitVec 32 := 512#32
  let v19 : BitVec 32 := Scalar.muli arg1 c512_i32
  let c0_i32_12 : BitVec 32 := 0#32
  let v20 : BitVec 32 := Scalar.addi v19 c0_i32_12
  let v21 : BitVec 32 := v20
  let v22 : Index := Scalar.indexCast v21
  let c0_13 : Index := 0#32
  ![v22.toNat, 0]
def k0_off2 (i : grid0.Coords) : Fin 2 → Nat :=
  let arg1 : BitVec 32 := BitVec.ofNat 32 (i 1).val
  let c512_i32 : BitVec 32 := 512#32
  let v19 : BitVec 32 := Scalar.muli arg1 c512_i32
  let c0_i32_12 : BitVec 32 := 0#32
  let v20 : BitVec 32 := Scalar.addi v19 c0_i32_12
  let v21 : BitVec 32 := v20
  let v66 : Index := Scalar.indexCast v21
  let c128_32 : Index := 128#32
  ![v66.toNat, 128]
def k0_mult2 (i : grid0.Coords) : BitVec 32 :=
  let arg1 : BitVec 32 := BitVec.ofNat 32 (i 1).val
  let c512_i32_52 : BitVec 32 := 512#32
  let v110 : BitVec 32 := Scalar.muli arg1 c512_i32_52
  let c256_i32 : BitVec 32 := 256#32
  let v111 : BitVec 32 := Scalar.addi v110 c256_i32
  v111
def k0_off3 (i : grid0.Coords) : Fin 2 → Nat :=
  let arg1 : BitVec 32 := BitVec.ofNat 32 (i 1).val
  let c512_i32_52 : BitVec 32 := 512#32
  let v110 : BitVec 32 := Scalar.muli arg1 c512_i32_52
  let c256_i32 : BitVec 32 := 256#32
  let v111 : BitVec 32 := Scalar.addi v110 c256_i32
  let v112 : BitVec 32 := v111
  let v113 : Index := Scalar.indexCast v112
  let c0_53 : Index := 0#32
  ![v113.toNat, 0]
def k0_off4 (i : grid0.Coords) : Fin 2 → Nat :=
  let arg1 : BitVec 32 := BitVec.ofNat 32 (i 1).val
  let c512_i32_52 : BitVec 32 := 512#32
  let v110 : BitVec 32 := Scalar.muli arg1 c512_i32_52
  let c256_i32 : BitVec 32 := 256#32
  let v111 : BitVec 32 := Scalar.addi v110 c256_i32
  let v112 : BitVec 32 := v111
  let v157 : Index := Scalar.indexCast v112
  let c128_72 : Index := 128#32
  ![v157.toNat, 128]
@[reducible] def k0_t1_loop (i : grid0.Coords) : Scf.Loop 32 :=
  let arg1 : BitVec 32 := BitVec.ofNat 32 (i 1).val
  let c1_i32 : BitVec 32 := 1#32
  let v201 : BitVec 32 := Scalar.addi arg1 c1_i32
  let c8_i32 : BitVec 32 := 8#32
  let v202 : BitVec 32 := Scalar.subi c8_i32 v201
  let c1_i32_93 : BitVec 32 := 1#32
  let v204 : BitVec 32 := Scalar.divsi v202 c1_i32_93
  let v205 : BitVec 32 := Scalar.muli v204 c1_i32_93
  let v206 : BitVec 32 := Scalar.addi v201 v205
  let c1_i32_94 : BitVec 32 := 1#32
  ⟨v201, v206, c1_i32_94⟩
def k0_mult3 (i : grid0.Coords) (k0_t1 : Fin (k0_t1_loop i).trips) : BitVec 32 :=
  let arg1 : BitVec 32 := BitVec.ofNat 32 (i 1).val
  let c1_i32 : BitVec 32 := 1#32
  let v201 : BitVec 32 := Scalar.addi arg1 c1_i32
  let c1_i32_94 : BitVec 32 := 1#32
  let arg12 : BitVec 32 := Scf.iv v201 c1_i32_94 k0_t1
  let c512_i32_105 : BitVec 32 := 512#32
  let v216 : BitVec 32 := Scalar.muli arg12 c512_i32_105
  let c0_i32_106 : BitVec 32 := 0#32
  let v217 : BitVec 32 := Scalar.addi v216 c0_i32_106
  v217
def k0_off5 (i : grid0.Coords) (k0_t1 : Fin (k0_t1_loop i).trips) : Fin 2 → Nat :=
  let arg1 : BitVec 32 := BitVec.ofNat 32 (i 1).val
  let c1_i32 : BitVec 32 := 1#32
  let v201 : BitVec 32 := Scalar.addi arg1 c1_i32
  let c1_i32_94 : BitVec 32 := 1#32
  let arg12 : BitVec 32 := Scf.iv v201 c1_i32_94 k0_t1
  let c512_i32_105 : BitVec 32 := 512#32
  let v216 : BitVec 32 := Scalar.muli arg12 c512_i32_105
  let c0_i32_106 : BitVec 32 := 0#32
  let v217 : BitVec 32 := Scalar.addi v216 c0_i32_106
  let v218 : BitVec 32 := v217
  let v219 : Index := Scalar.indexCast v218
  let c0_107 : Index := 0#32
  ![v219.toNat, 0]
def k0_off6 (i : grid0.Coords) (k0_t1 : Fin (k0_t1_loop i).trips) : Fin 2 → Nat :=
  let arg1 : BitVec 32 := BitVec.ofNat 32 (i 1).val
  let c1_i32 : BitVec 32 := 1#32
  let v201 : BitVec 32 := Scalar.addi arg1 c1_i32
  let c1_i32_94 : BitVec 32 := 1#32
  let arg12 : BitVec 32 := Scf.iv v201 c1_i32_94 k0_t1
  let c512_i32_105 : BitVec 32 := 512#32
  let v216 : BitVec 32 := Scalar.muli arg12 c512_i32_105
  let c0_i32_106 : BitVec 32 := 0#32
  let v217 : BitVec 32 := Scalar.addi v216 c0_i32_106
  let v218 : BitVec 32 := v217
  let v251 : Index := Scalar.indexCast v218
  let c128_124 : Index := 128#32
  ![v251.toNat, 128]
@[reducible] def k0_t2_loop (i : grid0.Coords) : Scf.Loop 32 :=
  let arg1 : BitVec 32 := BitVec.ofNat 32 (i 1).val
  let c1_i32 : BitVec 32 := 1#32
  let v201 : BitVec 32 := Scalar.addi arg1 c1_i32
  let c8_i32 : BitVec 32 := 8#32
  let v202 : BitVec 32 := Scalar.subi c8_i32 v201
  let c1_i32_93 : BitVec 32 := 1#32
  let v204 : BitVec 32 := Scalar.divsi v202 c1_i32_93
  let v205 : BitVec 32 := Scalar.muli v204 c1_i32_93
  let v206 : BitVec 32 := Scalar.addi v201 v205
  let v203 : BitVec 32 := Scalar.addi v201 v202
  let c1_i32_95 : BitVec 32 := 1#32
  ⟨v206, v203, c1_i32_95⟩
def k0_mult4 (i : grid0.Coords) (k0_t2 : Fin (k0_t2_loop i).trips) : BitVec 32 :=
  let arg1 : BitVec 32 := BitVec.ofNat 32 (i 1).val
  let c1_i32 : BitVec 32 := 1#32
  let v201 : BitVec 32 := Scalar.addi arg1 c1_i32
  let c8_i32 : BitVec 32 := 8#32
  let v202 : BitVec 32 := Scalar.subi c8_i32 v201
  let c1_i32_93 : BitVec 32 := 1#32
  let v204 : BitVec 32 := Scalar.divsi v202 c1_i32_93
  let v205 : BitVec 32 := Scalar.muli v204 c1_i32_93
  let v206 : BitVec 32 := Scalar.addi v201 v205
  let c1_i32_95 : BitVec 32 := 1#32
  let arg12 : BitVec 32 := Scf.iv v206 c1_i32_95 k0_t2
  let c512_i32_105 : BitVec 32 := 512#32
  let v216 : BitVec 32 := Scalar.muli arg12 c512_i32_105
  let c0_i32_106 : BitVec 32 := 0#32
  let v217 : BitVec 32 := Scalar.addi v216 c0_i32_106
  v217
def k0_off7 (i : grid0.Coords) (k0_t2 : Fin (k0_t2_loop i).trips) : Fin 2 → Nat :=
  let arg1 : BitVec 32 := BitVec.ofNat 32 (i 1).val
  let c1_i32 : BitVec 32 := 1#32
  let v201 : BitVec 32 := Scalar.addi arg1 c1_i32
  let c8_i32 : BitVec 32 := 8#32
  let v202 : BitVec 32 := Scalar.subi c8_i32 v201
  let c1_i32_93 : BitVec 32 := 1#32
  let v204 : BitVec 32 := Scalar.divsi v202 c1_i32_93
  let v205 : BitVec 32 := Scalar.muli v204 c1_i32_93
  let v206 : BitVec 32 := Scalar.addi v201 v205
  let c1_i32_95 : BitVec 32 := 1#32
  let arg12 : BitVec 32 := Scf.iv v206 c1_i32_95 k0_t2
  let c512_i32_105 : BitVec 32 := 512#32
  let v216 : BitVec 32 := Scalar.muli arg12 c512_i32_105
  let c0_i32_106 : BitVec 32 := 0#32
  let v217 : BitVec 32 := Scalar.addi v216 c0_i32_106
  let v218 : BitVec 32 := v217
  let v219 : Index := Scalar.indexCast v218
  let c0_107 : Index := 0#32
  ![v219.toNat, 0]
def k0_off8 (i : grid0.Coords) (k0_t2 : Fin (k0_t2_loop i).trips) : Fin 2 → Nat :=
  let arg1 : BitVec 32 := BitVec.ofNat 32 (i 1).val
  let c1_i32 : BitVec 32 := 1#32
  let v201 : BitVec 32 := Scalar.addi arg1 c1_i32
  let c8_i32 : BitVec 32 := 8#32
  let v202 : BitVec 32 := Scalar.subi c8_i32 v201
  let c1_i32_93 : BitVec 32 := 1#32
  let v204 : BitVec 32 := Scalar.divsi v202 c1_i32_93
  let v205 : BitVec 32 := Scalar.muli v204 c1_i32_93
  let v206 : BitVec 32 := Scalar.addi v201 v205
  let c1_i32_95 : BitVec 32 := 1#32
  let arg12 : BitVec 32 := Scf.iv v206 c1_i32_95 k0_t2
  let c512_i32_105 : BitVec 32 := 512#32
  let v216 : BitVec 32 := Scalar.muli arg12 c512_i32_105
  let c0_i32_106 : BitVec 32 := 0#32
  let v217 : BitVec 32 := Scalar.addi v216 c0_i32_106
  let v218 : BitVec 32 := v217
  let v251 : Index := Scalar.indexCast v218
  let c128_124 : Index := 128#32
  ![v251.toNat, 128]
def k0_cond2 (i : grid0.Coords) : BitVec 1 :=
  let arg1 : BitVec 32 := BitVec.ofNat 32 (i 1).val
  let c7_i32 : BitVec 32 := 7#32
  let v213 : BitVec 1 := Scalar.cmpi .eq arg1 c7_i32
  let v214 : BitVec 32 := Scalar.extui v213
  let c0_i32_104 : BitVec 32 := 0#32
  let v215 : BitVec 1 := Scalar.cmpi .ne v214 c0_i32_104
  v215

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S1x8x4096x96 : Shape := ⟨4, ![1, 8, 4096, 96]⟩
abbrev S1x8x4096x64 : Shape := ⟨4, ![1, 8, 4096, 64]⟩
abbrev S4096 : Shape := ⟨1, ![4096]⟩
abbrev S_ : Shape := ⟨0, ![]⟩
abbrev S1x8x4096x4096 : Shape := ⟨4, ![1, 8, 4096, 4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x8x64x4096 : Shape := ⟨4, ![1, 8, 64, 4096]⟩
abbrev S8x4096 : Shape := ⟨2, ![8, 4096]⟩

abbrev nBuf : Space → Nat
  | .hbm => 104
  | .vmem => 0
  | .smem => 0
  | _ => 0

abbrev bufTy : (tb : Table) → Fin (tcTables nBuf tb) → BufTy
  | .hbm, ⟨0, _⟩ => ⟨S1x8x4096x96, .f32⟩
  | .hbm, ⟨1, _⟩ => ⟨S1x8x4096x96, .f32⟩
  | .hbm, ⟨2, _⟩ => ⟨S1x8x4096x64, .f32⟩
  | .hbm, ⟨3, _⟩ => ⟨S1x8x4096x64, .f32⟩
  | .hbm, ⟨4, _⟩ => ⟨S4096, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S1x8x4096x4096, .f32⟩
  | .hbm, ⟨24, _⟩ => ⟨S_, .f32⟩
  | .hbm, ⟨25, _⟩ => ⟨S1x8x4096x4096, .f32⟩
  | .hbm, ⟨26, _⟩ => ⟨S1x8x4096x4096, .f32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S1x8x4096x4096, .i1⟩
  | .hbm, ⟨35, _⟩ => ⟨S1x8x4096x4096, .f32⟩
  | .hbm, ⟨36, _⟩ => ⟨S1x8x4096x4096, .f32⟩
  | .hbm, ⟨37, _⟩ => ⟨S_, .f32⟩
  | .hbm, ⟨38, _⟩ => ⟨S1x8x4096x4096, .f32⟩
  | .hbm, ⟨39, _⟩ => ⟨S_, .f32⟩
  | .hbm, ⟨40, _⟩ => ⟨S1x8x4096, .f32⟩
  | .hbm, ⟨41, _⟩ => ⟨S1x8x4096x1, .f32⟩
  | .hbm, ⟨42, _⟩ => ⟨S1x8x4096x4096, .f32⟩
  | .hbm, ⟨43, _⟩ => ⟨S1x8x4096x4096, .i1⟩
  | .hbm, ⟨44, _⟩ => ⟨S1x8x4096x4096, .f32⟩
  | .hbm, ⟨45, _⟩ => ⟨S_, .f32⟩
  | .hbm, ⟨46, _⟩ => ⟨S1x8x4096, .f32⟩
  | .hbm, ⟨47, _⟩ => ⟨S_, .f32⟩
  | .hbm, ⟨48, _⟩ => ⟨S1x8x4096, .f32⟩
  | .hbm, ⟨49, _⟩ => ⟨S1x8x4096, .f32⟩
  | .hbm, ⟨50, _⟩ => ⟨S_, .f32⟩
  | .hbm, ⟨51, _⟩ => ⟨S1x8x4096, .f32⟩
  | .hbm, ⟨52, _⟩ => ⟨S1x8x4096, .i1⟩
  | .hbm, ⟨53, _⟩ => ⟨S_, .f32⟩
  | .hbm, ⟨54, _⟩ => ⟨S1x8x4096, .f32⟩
  | .hbm, ⟨55, _⟩ => ⟨S1x8x4096, .i1⟩
  | .hbm, ⟨56, _⟩ => ⟨S_, .f32⟩
  | .hbm, ⟨57, _⟩ => ⟨S1x8x4096, .f32⟩
  | .hbm, ⟨58, _⟩ => ⟨S_, .f32⟩
  | .hbm, ⟨59, _⟩ => ⟨S1x8x4096, .f32⟩
  | .hbm, ⟨60, _⟩ => ⟨S_, .f32⟩
  | .hbm, ⟨61, _⟩ => ⟨S1x8x4096, .f32⟩
  | .hbm, ⟨62, _⟩ => ⟨S1x8x4096, .f32⟩
  | .hbm, ⟨63, _⟩ => ⟨S1x8x4096, .f32⟩
  | .hbm, ⟨64, _⟩ => ⟨S1x8x4096x1, .f32⟩
  | .hbm, ⟨65, _⟩ => ⟨S1x8x4096x4096, .f32⟩
  | .hbm, ⟨66, _⟩ => ⟨S1x8x4096x4096, .f32⟩
  | .hbm, ⟨67, _⟩ => ⟨S1x8x4096x4096, .f32⟩
  | .hbm, ⟨68, _⟩ => ⟨S_, .f32⟩
  | .hbm, ⟨69, _⟩ => ⟨S1x8x4096, .f32⟩
  | .hbm, ⟨70, _⟩ => ⟨S1x8x4096x1, .f32⟩
  | .hbm, ⟨71, _⟩ => ⟨S1x8x4096x4096, .f32⟩
  | .hbm, ⟨72, _⟩ => ⟨S1x8x4096x4096, .f32⟩
  | .hbm, ⟨73, _⟩ => ⟨S1x8x4096x1, .f32⟩
  | .hbm, ⟨74, _⟩ => ⟨S_, .f32⟩
  | .hbm, ⟨75, _⟩ => ⟨S1x8x4096x1, .f32⟩
  | .hbm, ⟨76, _⟩ => ⟨S1x8x4096x1, .f32⟩
  | .hbm, ⟨77, _⟩ => ⟨S1x8x4096x64, .f32⟩
  | .hbm, ⟨78, _⟩ => ⟨S1x8x64x4096, .f32⟩
  | .hbm, ⟨79, _⟩ => ⟨S1x8x4096x64, .f32⟩
  | .hbm, ⟨80, _⟩ => ⟨S1x8x4096x4096, .f32⟩
  | .hbm, ⟨81, _⟩ => ⟨S1x8x4096x4096, .f32⟩
  | .hbm, ⟨82, _⟩ => ⟨S1x8x4096x4096, .f32⟩
  | .hbm, ⟨83, _⟩ => ⟨S1x8x4096x4096, .f32⟩
  | .hbm, ⟨84, _⟩ => ⟨S_, .f32⟩
  | .hbm, ⟨85, _⟩ => ⟨S1x8x4096, .f32⟩
  | .hbm, ⟨86, _⟩ => ⟨S1x8x4096x1, .f32⟩
  | .hbm, ⟨87, _⟩ => ⟨S1x8x4096x1, .f32⟩
  | .hbm, ⟨88, _⟩ => ⟨S1x8x4096x4096, .f32⟩
  | .hbm, ⟨89, _⟩ => ⟨S1x8x4096x4096, .f32⟩
  | .hbm, ⟨90, _⟩ => ⟨S_, .f32⟩
  | .hbm, ⟨91, _⟩ => ⟨S8x4096, .f32⟩
  | .hbm, ⟨92, _⟩ => ⟨S1x8x4096, .f32⟩
  | .hbm, ⟨93, _⟩ => ⟨S1x8x4096x4096, .f32⟩
  | .hbm, ⟨94, _⟩ => ⟨S1x8x4096x4096, .f32⟩
  | .hbm, ⟨95, _⟩ => ⟨S1x8x4096x4096, .f32⟩
  | .hbm, ⟨96, _⟩ => ⟨S_, .f32⟩
  | .hbm, ⟨97, _⟩ => ⟨S1x8x4096x4096, .f32⟩
  | .hbm, ⟨98, _⟩ => ⟨S1x8x4096x4096, .f32⟩
  | .hbm, ⟨99, _⟩ => ⟨S_, .f32⟩
  | .hbm, ⟨100, _⟩ => ⟨S1x8x4096x4096, .f32⟩
  | .hbm, ⟨101, _⟩ => ⟨S1x8x4096x4096, .f32⟩
  | .hbm, ⟨102, _⟩ => ⟨S1x8x4096x96, .f32⟩
  | .hbm, ⟨103, _⟩ => ⟨S1x8x4096x96, .f32⟩
  | _, _ => ⟨S1x8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_v10_1 : Ref sig .tc := ⟨.hbm, 34, rfl⟩
abbrev main_call1_v2 : Ref sig .tc := ⟨.hbm, 35, rfl⟩
abbrev main_v10_0 : Ref sig .tc := ⟨.hbm, 36, rfl⟩
abbrev main_call1_cst : Ref sig .tc := ⟨.hbm, 37, rfl⟩
abbrev main_v10_2 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_cst_8 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_9 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_10 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_11 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_12 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_call2_cst : Ref sig .tc := ⟨.hbm, 96, rfl⟩
abbrev main_call2_v0 : Ref sig .tc := ⟨.hbm, 97, rfl⟩
abbrev main_v56 : Ref sig .tc := ⟨.hbm, 98, rfl⟩
abbrev main_cst_13 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩

abbrev nD : Nat := 1
abbrev τ : Topo := Topo.v7x

variable {F : FTy → Type} [FloatOps F]
-- ==== Kernel3.lean ====
abbrev S1x8x4096x96 : Shape := ⟨4, ![1, 8, 4096, 96]⟩
abbrev S1x8x4096x64 : Shape := ⟨4, ![1, 8, 4096, 64]⟩
abbrev S_ : Shape := ⟨0, ![]⟩
abbrev S1x8x4096x1 : Shape := ⟨4, ![1, 8, 4096, 1]⟩
abbrev S1x8x4096x128 : Shape := ⟨4, ![1, 8, 4096, 128]⟩
abbrev S1x4096x8x128 : Shape := ⟨4, ![1, 4096, 8, 128]⟩
abbrev S4096x1024 : Shape := ⟨2, ![4096, 1024]⟩
abbrev S1x8x4096x98 : Shape := ⟨4, ![1, 8, 4096, 98]⟩
abbrev S1x8x4096x66 : Shape := ⟨4, ![1, 8, 4096, 66]⟩
abbrev S4096x512 : Shape := ⟨2, ![4096, 512]⟩
abbrev S512x512 : Shape := ⟨2, ![512, 512]⟩
abbrev S512x256 : Shape := ⟨2, ![512, 256]⟩
abbrev S2x4x512x512 : Shape := ⟨4, ![2, 4, 512, 512]⟩
abbrev S512x128 : Shape := ⟨2, ![512, 128]⟩
abbrev S512x1 : Shape := ⟨2, ![512, 1]⟩
abbrev S1x1x512x512 : Shape := ⟨4, ![1, 1, 512, 512]⟩
abbrev S512 : Shape := ⟨1, ![512]⟩
abbrev S4096x8x128 : Shape := ⟨3, ![4096, 8, 128]⟩
abbrev S4096x8x1 : Shape := ⟨3, ![4096, 8, 1]⟩
abbrev S4096x8 : Shape := ⟨2, ![4096, 8]⟩

abbrev nBuf : Space → Nat
  | .hbm => 37
  | .vmem => 11
  | .smem => 0
  | _ => 0

abbrev bufTy : (tb : Table) → Fin (tcTables nBuf tb) → BufTy
  | .hbm, ⟨0, _⟩ => ⟨S1x8x4096x96, .f32⟩
  | .hbm, ⟨1, _⟩ => ⟨S1x8x4096x96, .f32⟩
  | .hbm, ⟨2, _⟩ => ⟨S1x8x4096x64, .f32⟩
  | .hbm, ⟨3, _⟩ => ⟨S_, .f32⟩
  | .hbm, ⟨4, _⟩ => ⟨S1x8x4096x1, .f32⟩
  | .hbm, ⟨5, _⟩ => ⟨S_, .f32⟩
  | .hbm, ⟨6, _⟩ => ⟨S1x8x4096x96, .f32⟩
  | .hbm, ⟨7, _⟩ => ⟨S1x8x4096x96, .f32⟩
  | .hbm, ⟨8, _⟩ => ⟨S_, .i32⟩
  | .hbm, ⟨9, _⟩ => ⟨S_, .f32⟩
  | .hbm, ⟨10, _⟩ => ⟨S1x8x4096x128, .f32⟩
  | .hbm, ⟨11, _⟩ => ⟨S1x8x4096x128, .bf16⟩
  | .hbm, ⟨12, _⟩ => ⟨S1x4096x8x128, .bf16⟩
  | .hbm, ⟨13, _⟩ => ⟨S4096x1024, .bf16⟩
  | .hbm, ⟨14, _⟩ => ⟨S1x8x4096x98, .f32⟩
  | .hbm, ⟨15, _⟩ => ⟨S_, .i32⟩
  | .hbm, ⟨16, _⟩ => ⟨S_, .f32⟩
  | .hbm, ⟨17, _⟩ => ⟨S1x8x4096x128, .f32⟩
  | .hbm, ⟨18, _⟩ => ⟨S1x8x4096x128, .bf16⟩
  | .hbm, ⟨19, _⟩ => ⟨S1x4096x8x128, .bf16⟩
  | .hbm, ⟨20, _⟩ => ⟨S4096x1024, .bf16⟩
  | .hbm, ⟨21, _⟩ => ⟨S1x8x4096x66, .f32⟩
  | .hbm, ⟨22, _⟩ => ⟨S_, .i32⟩
  | .hbm, ⟨23, _⟩ => ⟨S_, .f32⟩
  | .hbm, ⟨24, _⟩ => ⟨S1x8x4096x128, .f32⟩
  | .hbm, ⟨25, _⟩ => ⟨S1x8x4096x128, .bf16⟩
  | .hbm, ⟨26, _⟩ => ⟨S1x4096x8x128, .bf16⟩
  | .hbm, ⟨27, _⟩ => ⟨S4096x1024, .bf16⟩
  | .hbm, ⟨28, _⟩ => ⟨S4096x512, .f32⟩
  | .hbm, ⟨29, _⟩ => ⟨S4096x1024, .bf16⟩
  | .hbm, ⟨30, _⟩ => ⟨S4096x8x128, .bf16⟩
  | .hbm, ⟨31, _⟩ => ⟨S4096x8x128, .f32⟩
  | .hbm, ⟨32, _⟩ => ⟨S4096x8x1, .f32⟩
  | .hbm, ⟨33, _⟩ => ⟨S4096x8, .f32⟩
  | .hbm, ⟨34, _⟩ => ⟨S4096x8x1, .f32⟩
  | .hbm, ⟨35, _⟩ => ⟨S4096x8, .f32⟩
  | .hbm, ⟨36, _⟩ => ⟨S4096x8, .f32⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S512x256, .f32⟩
  | .local _ .vmem, ⟨7, _⟩ => ⟨S512x256, .f32⟩
  | .local _ .vmem, ⟨8, _⟩ => ⟨S512x512, .bf16⟩
  | .local _ .vmem, ⟨9, _⟩ => ⟨S512x512, .bf16⟩
  | .local _ .vmem, ⟨10, _⟩ => ⟨S2x4x512x512, .f32⟩
  | _, _ => ⟨S1x8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call2_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_mult1 : BitVec 32 :=
  let c0_i32 : BitVec 32 := 0#32
  c0_i32
@[reducible] def k0_t1_loop (i : grid0.Coords) : Scf.Loop 32 :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_33 : BitVec 32 := 1#32
  ⟨c0_i32_32, v50, c1_i32_33⟩
def k0_mult2 (i : grid0.Coords) (k0_t1 : Fin (k0_t1_loop i).trips) : BitVec 32 :=
  let c0_i32_32 : BitVec 32 := 0#32
  let c1_i32_33 : BitVec 32 := 1#32
  let arg8 : BitVec 32 := Scf.iv c0_i32_32 c1_i32_33 k0_t1
  let c512_i32_99 : BitVec 32 := 512#32
  let v273 : BitVec 32 := Scalar.muli arg8 c512_i32_99
  v273
def k0_off1 (i : grid0.Coords) (k0_t1 : Fin (k0_t1_loop i).trips) : Fin 4 → Nat :=
  let c0_i32_32 : BitVec 32 := 0#32
  let c1_i32_33 : BitVec 32 := 1#32
  let arg8 : BitVec 32 := Scf.iv c0_i32_32 c1_i32_33 k0_t1
  let c1_i32_100 : BitVec 32 := 1#32
  let v275 : BitVec 32 := Scalar.andi arg8 c1_i32_100
  let v276 : Index := Scalar.indexCast v275
  let c0_101 : Index := 0#32
  let c0_102 : Index := 0#32
  let c0_103 : Index := 0#32
  ![v276.toNat, 0, 0, 0]
def k0_off2 (i : grid0.Coords) (k0_t1 : Fin (k0_t1_loop i).trips) : Fin 2 → Nat :=
  let c0_i32_32 : BitVec 32 := 0#32
  let c1_i32_33 : BitVec 32 := 1#32
  let arg8 : BitVec 32 := Scf.iv c0_i32_32 c1_i32_33 k0_t1
  let c512_i32_99 : BitVec 32 := 512#32
  let v273 : BitVec 32 := Scalar.muli arg8 c512_i32_99
  let v274 : BitVec 32 := v273
  let v290 : Index := Scalar.indexCast v274
  let c0_105 : Index := 0#32
  ![v290.toNat, 0]
def k0_off3 (i : grid0.Coords) (k0_t1 : Fin (k0_t1_loop i).trips) : Fin 4 → Nat :=
  let c0_i32_32 : BitVec 32 := 0#32
  let c1_i32_33 : BitVec 32 := 1#32
  let arg8 : BitVec 32 := Scf.iv c0_i32_32 c1_i32_33 k0_t1
  let c1_i32_107 : BitVec 32 := 1#32
  let v295 : BitVec 32 := Scalar.andi arg8 c1_i32_107
  let v296 : Index := Scalar.indexCast v295
  let c1_108 : Index := 1#32
  let c0_109 : Index := 0#32
  let c0_110 : Index := 0#32
  ![v296.toNat, 1, 0, 0]
def k0_off4 (i : grid0.Coords) (k0_t1 : Fin (k0_t1_loop i).trips) : Fin 2 → Nat :=
  let c0_i32_32 : BitVec 32 := 0#32
  let c1_i32_33 : BitVec 32 := 1#32
  let arg8 : BitVec 32 := Scf.iv c0_i32_32 c1_i32_33 k0_t1
  let c512_i32_99 : BitVec 32 := 512#32
  let v273 : BitVec 32 := Scalar.muli arg8 c512_i32_99
  let v274 : BitVec 32 := v273
  let v310 : Index := Scalar.indexCast v274
  let c128_112 : Index := 128#32
  ![v310.toNat, 128]
def k0_off5 (i : grid0.Coords) (k0_t1 : Fin (k0_t1_loop i).trips) : Fin 4 → Nat :=
  let c0_i32_32 : BitVec 32 := 0#32
  let c1_i32_33 : BitVec 32 := 1#32
  let arg8 : BitVec 32 := Scf.iv c0_i32_32 c1_i32_33 k0_t1
  let c1_i32_114 : BitVec 32 := 1#32
  let v315 : BitVec 32 := Scalar.andi arg8 c1_i32_114
  let v316 : Index := Scalar.indexCast v315
  let c2_115 : Index := 2#32
  let c0_116 : Index := 0#32
  let c0_117 : Index := 0#32
  ![v316.toNat, 2, 0, 0]
def k0_off6 (i : grid0.Coords) (k0_t1 : Fin (k0_t1_loop i).trips) : Fin 2 → Nat :=
  let c0_i32_32 : BitVec 32 := 0#32
  let c1_i32_33 : BitVec 32 := 1#32
  let arg8 : BitVec 32 := Scf.iv c0_i32_32 c1_i32_33 k0_t1
  let c512_i32_99 : BitVec 32 := 512#32
  let v273 : BitVec 32 := Scalar.muli arg8 c512_i32_99
  let v274 : BitVec 32 := v273
  let v330 : Index := Scalar.indexCast v274
  let c256_119 : Index := 256#32
  ![v330.toNat, 256]
def k0_off7 (i : grid0.Coords) (k0_t1 : Fin (k0_t1_loop i).trips) : Fin 4 → Nat :=
  let c0_i32_32 : BitVec 32 := 0#32
  let c1_i32_33 : BitVec 32 := 1#32
  let arg8 : BitVec 32 := Scf.iv c0_i32_32 c1_i32_33 k0_t1
  let c1_i32_121 : BitVec 32 := 1#32
  let v335 : BitVec 32 := Scalar.andi arg8 c1_i32_121
  let v336 : Index := Scalar.indexCast v335
  let c3_122 : Index := 3#32
  let c0_123 : Index := 0#32
  let c0_124 : Index := 0#32
  ![v336.toNat, 3, 0, 0]
def k0_off8 (i : grid0.Coords) (k0_t1 : Fin (k0_t1_loop i).trips) : Fin 2 → Nat :=
  let c0_i32_32 : BitVec 32 := 0#32
  let c1_i32_33 : BitVec 32 := 1#32
  let arg8 : BitVec 32 := Scf.iv c0_i32_32 c1_i32_33 k0_t1
  let c512_i32_99 : BitVec 32 := 512#32
  let v273 : BitVec 32 := Scalar.muli arg8 c512_i32_99
  let v274 : BitVec 32 := v273
  let v350 : Index := Scalar.indexCast v274
  let c384_126 : Index := 384#32
  ![v350.toNat, 384]
def k0_mult3 (i : grid0.Coords) (k0_t1 : Fin (k0_t1_loop i).trips) : BitVec 32 :=
  let c0_i32_32 : BitVec 32 := 0#32
  let c1_i32_33 : BitVec 32 := 1#32
  let arg8 : BitVec 32 := Scf.iv c0_i32_32 c1_i32_33 k0_t1
  let c1_i32_128 : BitVec 32 := 1#32
  let v355 : BitVec 32 := Scalar.addi arg8 c1_i32_128
  let c512_i32_129 : BitVec 32 := 512#32
  let v356 : BitVec 32 := Scalar.muli v355 c512_i32_129
  v356
def k0_off9 (i : grid0.Coords) (k0_t1 : Fin (k0_t1_loop i).trips) : Fin 2 → Nat :=
  let c0_i32_32 : BitVec 32 := 0#32
  let c1_i32_33 : BitVec 32 := 1#32
  let arg8 : BitVec 32 := Scf.iv c0_i32_32 c1_i32_33 k0_t1
  let c1_i32_128 : BitVec 32 := 1#32
  let v355 : BitVec 32 := Scalar.addi arg8 c1_i32_128
  let c512_i32_129 : BitVec 32 := 512#32
  let v356 : BitVec 32 := Scalar.muli v355 c512_i32_129
  let v357 : BitVec 32 := v356
  let v358 : Index := Scalar.indexCast v357
  let c0_130 : Index := 0#32
  ![v358.toNat, 0]
def k0_off10 (i : grid0.Coords) (k0_t1 : Fin (k0_t1_loop i).trips) : Fin 4 → Nat :=
  let c0_i32_32 : BitVec 32 := 0#32
  let c1_i32_33 : BitVec 32 := 1#32
  let arg8 : BitVec 32 := Scf.iv c0_i32_32 c1_i32_33 k0_t1
  let c1_i32_128 : BitVec 32 := 1#32
  let v355 : BitVec 32 := Scalar.addi arg8 c1_i32_128
  let c1_i32_132 : BitVec 32 := 1#32
  let v362 : BitVec 32 := Scalar.andi v355 c1_i32_132
  let v363 : Index := Scalar.indexCast v362
  let c0_133 : Index := 0#32
  let c0_134 : Index := 0#32
  let c0_135 : Index := 0#32
  ![v363.toNat, 0, 0, 0]
def k0_off11 (i : grid0.Coords) (k0_t1 : Fin (k0_t1_loop i).trips) : Fin 2 → Nat :=
  let c0_i32_32 : BitVec 32 := 0#32
  let c1_i32_33 : BitVec 32 := 1#32
  let arg8 : BitVec 32 := Scf.iv c0_i32_32 c1_i32_33 k0_t1
  let c1_i32_128 : BitVec 32 := 1#32
  let v355 : BitVec 32 := Scalar.addi arg8 c1_i32_128
  let c512_i32_129 : BitVec 32 := 512#32
  let v356 : BitVec 32 := Scalar.muli v355 c512_i32_129
  let v357 : BitVec 32 := v356
  let v367 : Index := Scalar.indexCast v357
  let c128_136 : Index := 128#32
  ![v367.toNat, 128]
def k0_off12 (i : grid0.Coords) (k0_t1 : Fin (k0_t1_loop i).trips) : Fin 4 → Nat :=
  let c0_i32_32 : BitVec 32 := 0#32
  let c1_i32_33 : BitVec 32 := 1#32
  let arg8 : BitVec 32 := Scf.iv c0_i32_32 c1_i32_33 k0_t1
  let c1_i32_128 : BitVec 32 := 1#32
  let v355 : BitVec 32 := Scalar.addi arg8 c1_i32_128
  let c1_i32_138 : BitVec 32 := 1#32
  let v371 : BitVec 32 := Scalar.andi v355 c1_i32_138
  let v372 : Index := Scalar.indexCast v371
  let c1_139 : Index := 1#32
  let c0_140 : Index := 0#32
  let c0_141 : Index := 0#32
  ![v372.toNat, 1, 0, 0]
def k0_off13 (i : grid0.Coords) (k0_t1 : Fin (k0_t1_loop i).trips) : Fin 2 → Nat :=
  let c0_i32_32 : BitVec 32 := 0#32
  let c1_i32_33 : BitVec 32 := 1#32
  let arg8 : BitVec 32 := Scf.iv c0_i32_32 c1_i32_33 k0_t1
  let c1_i32_128 : BitVec 32 := 1#32
  let v355 : BitVec 32 := Scalar.addi arg8 c1_i32_128
  let c512_i32_129 : BitVec 32 := 512#32
  let v356 : BitVec 32 := Scalar.muli v355 c512_i32_129
  let v357 : BitVec 32 := v356
  let v376 : Index := Scalar.indexCast v357
  let c256_142 : Index := 256#32
  ![v376.toNat, 256]
def k0_off14 (i : grid0.Coords) (k0_t1 : Fin (k0_t1_loop i).trips) : Fin 4 → Nat :=
  let c0_i32_32 : BitVec 32 := 0#32
  let c1_i32_33 : BitVec 32 := 1#32
  let arg8 : BitVec 32 := Scf.iv c0_i32_32 c1_i32_33 k0_t1
  let c1_i32_128 : BitVec 32 := 1#32
  let v355 : BitVec 32 := Scalar.addi arg8 c1_i32_128
  let c1_i32_144 : BitVec 32 := 1#32
  let v380 : BitVec 32 := Scalar.andi v355 c1_i32_144
  let v381 : Index := Scalar.indexCast v380
  let c2_145 : Index := 2#32
  let c0_146 : Index := 0#32
  let c0_147 : Index := 0#32
  ![v381.toNat, 2, 0, 0]
def k0_off15 (i : grid0.Coords) (k0_t1 : Fin (k0_t1_loop i).trips) : Fin 2 → Nat :=
  let c0_i32_32 : BitVec 32 := 0#32
  let c1_i32_33 : BitVec 32 := 1#32
  let arg8 : BitVec 32 := Scf.iv c0_i32_32 c1_i32_33 k0_t1
  let c1_i32_128 : BitVec 32 := 1#32
  let v355 : BitVec 32 := Scalar.addi arg8 c1_i32_128
  let c512_i32_129 : BitVec 32 := 512#32
  let v356 : BitVec 32 := Scalar.muli v355 c512_i32_129
  let v357 : BitVec 32 := v356
  let v385 : Index := Scalar.indexCast v357
  let c384_148 : Index := 384#32
  ![v385.toNat, 384]
def k0_off16 (i : grid0.Coords) (k0_t1 : Fin (k0_t1_loop i).trips) : Fin 4 → Nat :=
  let c0_i32_32 : BitVec 32 := 0#32
  let c1_i32_33 : BitVec 32 := 1#32
  let arg8 : BitVec 32 := Scf.iv c0_i32_32 c1_i32_33 k0_t1
  let c1_i32_128 : BitVec 32 := 1#32
  let v355 : BitVec 32 := Scalar.addi arg8 c1_i32_128
  let c1_i32_150 : BitVec 32 := 1#32
  let v389 : BitVec 32 := Scalar.andi v355 c1_i32_150
  let v390 : Index := Scalar.indexCast v389
  let c3_151 : Index := 3#32
  let c0_152 : Index := 0#32
  let c0_153 : Index := 0#32
  ![v390.toNat, 3, 0, 0]
@[reducible] def k0_t2_loop (i : grid0.Coords) : Scf.Loop 32 :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let v47 : BitVec 32 := Scalar.addi c0_i32_32 v46
  let c1_i32_34 : BitVec 32 := 1#32
  ⟨v50, v47, c1_i32_34⟩
def k0_mult4 (i : grid0.Coords) (k0_t2 : Fin (k0_t2_loop i).trips) : BitVec 32 :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c512_i32_99 : BitVec 32 := 512#32
  let v273 : BitVec 32 := Scalar.muli arg8 c512_i32_99
  v273
def k0_off17 (i : grid0.Coords) (k0_t2 : Fin (k0_t2_loop i).trips) : Fin 4 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c1_i32_100 : BitVec 32 := 1#32
  let v275 : BitVec 32 := Scalar.andi arg8 c1_i32_100
  let v276 : Index := Scalar.indexCast v275
  let c0_101 : Index := 0#32
  let c0_102 : Index := 0#32
  let c0_103 : Index := 0#32
  ![v276.toNat, 0, 0, 0]
def k0_off18 (i : grid0.Coords) (k0_t2 : Fin (k0_t2_loop i).trips) : Fin 2 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c512_i32_99 : BitVec 32 := 512#32
  let v273 : BitVec 32 := Scalar.muli arg8 c512_i32_99
  let v274 : BitVec 32 := v273
  let v290 : Index := Scalar.indexCast v274
  let c0_105 : Index := 0#32
  ![v290.toNat, 0]
def k0_off19 (i : grid0.Coords) (k0_t2 : Fin (k0_t2_loop i).trips) : Fin 4 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c1_i32_107 : BitVec 32 := 1#32
  let v295 : BitVec 32 := Scalar.andi arg8 c1_i32_107
  let v296 : Index := Scalar.indexCast v295
  let c1_108 : Index := 1#32
  let c0_109 : Index := 0#32
  let c0_110 : Index := 0#32
  ![v296.toNat, 1, 0, 0]
def k0_off20 (i : grid0.Coords) (k0_t2 : Fin (k0_t2_loop i).trips) : Fin 2 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c512_i32_99 : BitVec 32 := 512#32
  let v273 : BitVec 32 := Scalar.muli arg8 c512_i32_99
  let v274 : BitVec 32 := v273
  let v310 : Index := Scalar.indexCast v274
  let c128_112 : Index := 128#32
  ![v310.toNat, 128]
def k0_off21 (i : grid0.Coords) (k0_t2 : Fin (k0_t2_loop i).trips) : Fin 4 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c1_i32_114 : BitVec 32 := 1#32
  let v315 : BitVec 32 := Scalar.andi arg8 c1_i32_114
  let v316 : Index := Scalar.indexCast v315
  let c2_115 : Index := 2#32
  let c0_116 : Index := 0#32
  let c0_117 : Index := 0#32
  ![v316.toNat, 2, 0, 0]
def k0_off22 (i : grid0.Coords) (k0_t2 : Fin (k0_t2_loop i).trips) : Fin 2 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c512_i32_99 : BitVec 32 := 512#32
  let v273 : BitVec 32 := Scalar.muli arg8 c512_i32_99
  let v274 : BitVec 32 := v273
  let v330 : Index := Scalar.indexCast v274
  let c256_119 : Index := 256#32
  ![v330.toNat, 256]
def k0_off23 (i : grid0.Coords) (k0_t2 : Fin (k0_t2_loop i).trips) : Fin 4 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c1_i32_121 : BitVec 32 := 1#32
  let v335 : BitVec 32 := Scalar.andi arg8 c1_i32_121
  let v336 : Index := Scalar.indexCast v335
  let c3_122 : Index := 3#32
  let c0_123 : Index := 0#32
  let c0_124 : Index := 0#32
  ![v336.toNat, 3, 0, 0]
def k0_off24 (i : grid0.Coords) (k0_t2 : Fin (k0_t2_loop i).trips) : Fin 2 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c512_i32_99 : BitVec 32 := 512#32
  let v273 : BitVec 32 := Scalar.muli arg8 c512_i32_99
  let v274 : BitVec 32 := v273
  let v350 : Index := Scalar.indexCast v274
  let c384_126 : Index := 384#32
  ![v350.toNat, 384]
def k0_mult5 (i : grid0.Coords) (k0_t2 : Fin (k0_t2_loop i).trips) : BitVec 32 :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c1_i32_128 : BitVec 32 := 1#32
  let v355 : BitVec 32 := Scalar.addi arg8 c1_i32_128
  let c512_i32_129 : BitVec 32 := 512#32
  let v356 : BitVec 32 := Scalar.muli v355 c512_i32_129
  v356
def k0_off25 (i : grid0.Coords) (k0_t2 : Fin (k0_t2_loop i).trips) : Fin 2 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c1_i32_128 : BitVec 32 := 1#32
  let v355 : BitVec 32 := Scalar.addi arg8 c1_i32_128
  let c512_i32_129 : BitVec 32 := 512#32
  let v356 : BitVec 32 := Scalar.muli v355 c512_i32_129
  let v357 : BitVec 32 := v356
  let v358 : Index := Scalar.indexCast v357
  let c0_130 : Index := 0#32
  ![v358.toNat, 0]
def k0_off26 (i : grid0.Coords) (k0_t2 : Fin (k0_t2_loop i).trips) : Fin 4 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c1_i32_128 : BitVec 32 := 1#32
  let v355 : BitVec 32 := Scalar.addi arg8 c1_i32_128
  let c1_i32_132 : BitVec 32 := 1#32
  let v362 : BitVec 32 := Scalar.andi v355 c1_i32_132
  let v363 : Index := Scalar.indexCast v362
  let c0_133 : Index := 0#32
  let c0_134 : Index := 0#32
  let c0_135 : Index := 0#32
  ![v363.toNat, 0, 0, 0]
def k0_off27 (i : grid0.Coords) (k0_t2 : Fin (k0_t2_loop i).trips) : Fin 2 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c1_i32_128 : BitVec 32 := 1#32
  let v355 : BitVec 32 := Scalar.addi arg8 c1_i32_128
  let c512_i32_129 : BitVec 32 := 512#32
  let v356 : BitVec 32 := Scalar.muli v355 c512_i32_129
  let v357 : BitVec 32 := v356
  let v367 : Index := Scalar.indexCast v357
  let c128_136 : Index := 128#32
  ![v367.toNat, 128]
def k0_off28 (i : grid0.Coords) (k0_t2 : Fin (k0_t2_loop i).trips) : Fin 4 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c1_i32_128 : BitVec 32 := 1#32
  let v355 : BitVec 32 := Scalar.addi arg8 c1_i32_128
  let c1_i32_138 : BitVec 32 := 1#32
  let v371 : BitVec 32 := Scalar.andi v355 c1_i32_138
  let v372 : Index := Scalar.indexCast v371
  let c1_139 : Index := 1#32
  let c0_140 : Index := 0#32
  let c0_141 : Index := 0#32
  ![v372.toNat, 1, 0, 0]
def k0_off29 (i : grid0.Coords) (k0_t2 : Fin (k0_t2_loop i).trips) : Fin 2 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c1_i32_128 : BitVec 32 := 1#32
  let v355 : BitVec 32 := Scalar.addi arg8 c1_i32_128
  let c512_i32_129 : BitVec 32 := 512#32
  let v356 : BitVec 32 := Scalar.muli v355 c512_i32_129
  let v357 : BitVec 32 := v356
  let v376 : Index := Scalar.indexCast v357
  let c256_142 : Index := 256#32
  ![v376.toNat, 256]
def k0_off30 (i : grid0.Coords) (k0_t2 : Fin (k0_t2_loop i).trips) : Fin 4 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c1_i32_128 : BitVec 32 := 1#32
  let v355 : BitVec 32 := Scalar.addi arg8 c1_i32_128
  let c1_i32_144 : BitVec 32 := 1#32
  let v380 : BitVec 32 := Scalar.andi v355 c1_i32_144
  let v381 : Index := Scalar.indexCast v380
  let c2_145 : Index := 2#32
  let c0_146 : Index := 0#32
  let c0_147 : Index := 0#32
  ![v381.toNat, 2, 0, 0]
def k0_off31 (i : grid0.Coords) (k0_t2 : Fin (k0_t2_loop i).trips) : Fin 2 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c1_i32_128 : BitVec 32 := 1#32
  let v355 : BitVec 32 := Scalar.addi arg8 c1_i32_128
  let c512_i32_129 : BitVec 32 := 512#32
  let v356 : BitVec 32 := Scalar.muli v355 c512_i32_129
  let v357 : BitVec 32 := v356
  let v385 : Index := Scalar.indexCast v357
  let c384_148 : Index := 384#32
  ![v385.toNat, 384]
def k0_off32 (i : grid0.Coords) (k0_t2 : Fin (k0_t2_loop i).trips) : Fin 4 → Nat :=
  let c0_i32_32 : BitVec 32 := 0#32
  let arg1 : BitVec 32 := BitVec.ofNat 32 (i 1).val
  let v46 : BitVec 32 := Scalar.subi arg1 c0_i32_32
  let c1_i32 : BitVec 32 := 1#32
  let v48 : BitVec 32 := Scalar.divsi v46 c1_i32
  let v49 : BitVec 32 := Scalar.muli v48 c1_i32
  let v50 : BitVec 32 := Scalar.addi c0_i32_32 v49
  let c1_i32_34 : BitVec 32 := 1#32
  let arg8 : BitVec 32 := Scf.iv v50 c1_i32_34 k0_t2
  let c1_i32_128 : BitVec 32 := 1#32
  let v355 : BitVec 32 := Scalar.addi arg8 c1_i32_128
  let c1_i32_150 : BitVec 32 := 1#32
  let v389 : BitVec 32 := Scalar.andi v355 c1_i32_150
  let v390 : Index := Scalar.indexCast v389
  let c3_151 : Index := 3#32
  let c0_152 : Index := 0#32
  let c0_153 : Index := 0#32
  ![v390.toNat, 3, 0, 0]
def k0_mult6 (i : grid0.Coords) : BitVec 32 :=
  let arg1 : BitVec 32 := BitVec.ofNat 32 (i 1).val
  let c512_i32 : BitVec 32 := 512#32
  let v53 : BitVec 32 := Scalar.muli arg1 c512_i32
  v53
def k0_off33 (i : grid0.Coords) : Fin 4 → Nat :=
  let arg1 : BitVec 32 := BitVec.ofNat 32 (i 1).val
  let c1_i32_35 : BitVec 32 := 1#32
  let v55 : BitVec 32 := Scalar.andi arg1 c1_i32_35
  let v56 : Index := Scalar.indexCast v55
  let c0_36 : Index := 0#32
  let c0_37 : Index := 0#32
  let c0_38 : Index := 0#32
  ![v56.toNat, 0, 0, 0]
def k0_off34 (i : grid0.Coords) : Fin 2 → Nat :=
  let arg1 : BitVec 32 := BitVec.ofNat 32 (i 1).val
  let c512_i32 : BitVec 32 := 512#32
  let v53 : BitVec 32 := Scalar.muli arg1 c512_i32
  let v54 : BitVec 32 := v53
  let v79 : Index := Scalar.indexCast v54
  let c0_42 : Index := 0#32
  ![v79.toNat, 0]
def k0_off35 (i : grid0.Coords) : Fin 4 → Nat :=
  let arg1 : BitVec 32 := BitVec.ofNat 32 (i 1).val
  let c1_i32_44 : BitVec 32 := 1#32
  let v84 : BitVec 32 := Scalar.andi arg1 c1_i32_44
  let v85 : Index := Scalar.indexCast v84
  let c1_45 : Index := 1#32
  let c0_46 : Index := 0#32
  let c0_47 : Index := 0#32
  ![v85.toNat, 1, 0, 0]
def k0_off36 (i : grid0.Coords) : Fin 2 → Nat :=
  let arg1 : BitVec 32 := BitVec.ofNat 32 (i 1).val
  let c512_i32 : BitVec 32 := 512#32
  let v53 : BitVec 32 := Scalar.muli arg1 c512_i32
  let v54 : BitVec 32 := v53
  let v108 : Index := Scalar.indexCast v54
  let c128_52 : Index := 128#32
  ![v108.toNat, 128]
def k0_off37 (i : grid0.Coords) : Fin 4 → Nat :=
  let arg1 : BitVec 32 := BitVec.ofNat 32 (i 1).val
  let c1_i32_54 : BitVec 32 := 1#32
  let v113 : BitVec 32 := Scalar.andi arg1 c1_i32_54
  let v114 : Index := Scalar.indexCast v113
  let c2_55 : Index := 2#32
  let c0_56 : Index := 0#32
  let c0_57 : Index := 0#32
  ![v114.toNat, 2, 0, 0]
def k0_off38 (i : grid0.Coords) : Fin 2 → Nat :=
  let arg1 : BitVec 32 := BitVec.ofNat 32 (i 1).val
  let c512_i32 : BitVec 32 := 512#32
  let v53 : BitVec 32 := Scalar.muli arg1 c512_i32
  let v54 : BitVec 32 := v53
  let v137 : Index := Scalar.indexCast v54
  let c256_62 : Index := 256#32
  ![v137.toNat, 256]
def k0_off39 (i : grid0.Coords) : Fin 4 → Nat :=
  let arg1 : BitVec 32 := BitVec.ofNat 32 (i 1).val
  let c1_i32_64 : BitVec 32 := 1#32
  let v142 : BitVec 32 := Scalar.andi arg1 c1_i32_64
  let v143 : Index := Scalar.indexCast v142
  let c3_65 : Index := 3#32
  let c0_66 : Index := 0#32
  let c0_67 : Index := 0#32
  ![v143.toNat, 3, 0, 0]
def k0_off40 (i : grid0.Coords) : Fin 2 → Nat :=
  let arg1 : BitVec 32 := BitVec.ofNat 32 (i 1).val
  let c512_i32 : BitVec 32 := 512#32
  let v53 : BitVec 32 := Scalar.muli arg1 c512_i32
  let v54 : BitVec 32 := v53
  let v166 : Index := Scalar.indexCast v54
  let c384_72 : Index := 384#32
  ![v166.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S1x8x4096x96 : Shape := ⟨4, ![1, 8, 4096, 96]⟩
abbrev S1x8x4096x64 : Shape := ⟨4, ![1, 8, 4096, 64]⟩
abbrev S4096 : Shape := ⟨1, ![4096]⟩
abbrev S_ : Shape := ⟨0, ![]⟩
abbrev S1x8x4096x4096 : Shape := ⟨4, ![1, 8, 4096, 4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x4096x8x64 : Shape := ⟨4, ![1, 4096, 8, 64]⟩
abbrev S4096x512 : Shape := ⟨2, ![4096, 512]⟩
abbrev S8x4096 : Shape := ⟨2, ![8, 4096]⟩
abbrev S4096x8 : Shape := ⟨2, ![4096, 8]⟩

abbrev nBuf : Space → Nat
  | .hbm => 66
  | .vmem => 0
  | .smem => 0
  | _ => 0

abbrev bufTy : (tb : Table) → Fin (tcTables nBuf tb) → BufTy
  | .hbm, ⟨0, _⟩ => ⟨S1x8x4096x96, .f32⟩
  | .hbm, ⟨1, _⟩ => ⟨S1x8x4096x96, .f32⟩
  | .hbm, ⟨2, _⟩ => ⟨S1x8x4096x64, .f32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S1x8x4096x4096, .f32⟩
  | .hbm, ⟨23, _⟩ => ⟨S_, .f32⟩
  | .hbm, ⟨24, _⟩ => ⟨S1x8x4096x4096, .f32⟩
  | .hbm, ⟨25, _⟩ => ⟨S1x8x4096x4096, .f32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S1x8x4096x4096, .i1⟩
  | .hbm, ⟨34, _⟩ => ⟨S1x8x4096x4096, .f32⟩
  | .hbm, ⟨35, _⟩ => ⟨S1x8x4096x4096, .f32⟩
  | .hbm, ⟨36, _⟩ => ⟨S_, .f32⟩
  | .hbm, ⟨37, _⟩ => ⟨S1x8x4096, .f32⟩
  | .hbm, ⟨38, _⟩ => ⟨S_, .f32⟩
  | .hbm, ⟨39, _⟩ => ⟨S1x8x4096, .f32⟩
  | .hbm, ⟨40, _⟩ => ⟨S1x8x4096, .f32⟩
  | .hbm, ⟨41, _⟩ => ⟨S1x8x4096x1, .f32⟩
  | .hbm, ⟨42, _⟩ => ⟨S1x8x4096x4096, .f32⟩
  | .hbm, ⟨43, _⟩ => ⟨S1x8x4096x4096, .f32⟩
  | .hbm, ⟨44, _⟩ => ⟨S1x8x4096x4096, .f32⟩
  | .hbm, ⟨45, _⟩ => ⟨S_, .f32⟩
  | .hbm, ⟨46, _⟩ => ⟨S1x8x4096, .f32⟩
  | .hbm, ⟨47, _⟩ => ⟨S1x8x4096x1, .f32⟩
  | .hbm, ⟨48, _⟩ => ⟨S1x8x4096x4096, .f32⟩
  | .hbm, ⟨49, _⟩ => ⟨S1x8x4096x4096, .f32⟩
  | .hbm, ⟨50, _⟩ => ⟨S1x8x4096x64, .f32⟩
  | .hbm, ⟨51, _⟩ => ⟨S_, .f32⟩
  | .hbm, ⟨52, _⟩ => ⟨S1x8x4096, .f32⟩
  | .hbm, ⟨53, _⟩ => ⟨S1x8x4096x1, .f32⟩
  | .hbm, ⟨54, _⟩ => ⟨S1x8x4096x4096, .f32⟩
  | .hbm, ⟨55, _⟩ => ⟨S1x8x4096x4096, .f32⟩
  | .hbm, ⟨56, _⟩ => ⟨S1x8x4096x4096, .f32⟩
  | .hbm, ⟨57, _⟩ => ⟨S_, .f32⟩
  | .hbm, ⟨58, _⟩ => ⟨S1x8x4096, .f32⟩
  | .hbm, ⟨59, _⟩ => ⟨S1x8x4096, .f32⟩
  | .hbm, ⟨60, _⟩ => ⟨S1x8x4096, .f32⟩
  | .hbm, ⟨61, _⟩ => ⟨S1x4096x8x64, .f32⟩
  | .hbm, ⟨62, _⟩ => ⟨S4096x512, .f32⟩
  | .hbm, ⟨63, _⟩ => ⟨S8x4096, .f32⟩
  | .hbm, ⟨64, _⟩ => ⟨S4096x8, .f32⟩
  | .hbm, ⟨65, _⟩ => ⟨S4096x8, .f32⟩
  | _, _ => ⟨S1x8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩

abbrev nD : Nat := 1
abbrev τ : Topo := Topo.v7x

variable {F : FTy → Type} [FloatOps F]
-- ==== Kernel4.lean ====
abbrev S1x4096x768 : Shape := ⟨3, ![1, 4096, 768]⟩
abbrev S1x4096x256 : Shape := ⟨3, ![1, 4096, 256]⟩
abbrev S1x4096x32 : Shape := ⟨3, ![1, 4096, 32]⟩
abbrev S1x768 : Shape := ⟨2, ![1, 768]⟩
abbrev S1x768x768 : Shape := ⟨3, ![1, 768, 768]⟩
abbrev S1x256 : Shape := ⟨2, ![1, 256]⟩
abbrev S1x256x1024 : Shape := ⟨3, ![1, 256, 1024]⟩
abbrev S4096x16 : Shape := ⟨2, ![4096, 16]⟩
abbrev S1x8x4096x96 : Shape := ⟨4, ![1, 8, 4096, 96]⟩
abbrev S1x8x4096x64 : Shape := ⟨4, ![1, 8, 4096, 64]⟩
abbrev S_ : Shape := ⟨0, ![]⟩
abbrev S4096x64 : Shape := ⟨2, ![4096, 64]⟩
abbrev S4096x32 : Shape := ⟨2, ![4096, 32]⟩
abbrev S4096x128 : Shape := ⟨2, ![4096, 128]⟩
abbrev S4096x4608 : Shape := ⟨2, ![4096, 4608]⟩
abbrev S4096x768 : Shape := ⟨2, ![4096, 768]⟩
abbrev S4096x256 : Shape := ⟨2, ![4096, 256]⟩
abbrev S4096x160 : Shape := ⟨2, ![4096, 160]⟩
abbrev S4096x5888 : Shape := ⟨2, ![4096, 5888]⟩
abbrev S768x768 : Shape := ⟨2, ![768, 768]⟩
abbrev S768x8x96 : Shape := ⟨3, ![768, 8, 96]⟩
abbrev S768x8x128 : Shape := ⟨3, ![768, 8, 128]⟩
abbrev S768x1024 : Shape := ⟨2, ![768, 1024]⟩
abbrev S256x1024 : Shape := ⟨2, ![256, 1024]⟩
abbrev S256x8x128 : Shape := ⟨3, ![256, 8, 128]⟩
abbrev S256x8x64 : Shape := ⟨3, ![256, 8, 64]⟩
abbrev S256x2048 : Shape := ⟨2, ![256, 2048]⟩
abbrev S768 : Shape := ⟨1, ![768]⟩
abbrev S1x4096 : Shape := ⟨2, ![1, 4096]⟩
abbrev S1x4096x1 : Shape := ⟨3, ![1, 4096, 1]⟩
abbrev S1x1x768 : Shape := ⟨3, ![1, 1, 768]⟩
abbrev S768x4096 : Shape := ⟨2, ![768, 4096]⟩
abbrev S256 : Shape := ⟨1, ![256]⟩
abbrev S1x1x256 : Shape := ⟨3, ![1, 1, 256]⟩
abbrev S256x4096 : Shape := ⟨2, ![256, 4096]⟩
abbrev S1x8x4096x128 : Shape := ⟨4, ![1, 8, 4096, 128]⟩
abbrev S1x4096x8x128 : Shape := ⟨4, ![1, 4096, 8, 128]⟩
abbrev S4096x1024 : Shape := ⟨2, ![4096, 1024]⟩
abbrev S1024x768 : Shape := ⟨2, ![1024, 768]⟩
abbrev S2048x256 : Shape := ⟨2, ![2048, 256]⟩
abbrev S4096x5760 : Shape := ⟨2, ![4096, 5760]⟩
abbrev S8x96x768 : Shape := ⟨3, ![8, 96, 768]⟩
abbrev S8x256x128 : Shape := ⟨3, ![8, 256, 128]⟩
abbrev S512x768 : Shape := ⟨2, ![512, 768]⟩
abbrev S512x256 : Shape := ⟨2, ![512, 256]⟩
abbrev S512x1024 : Shape := ⟨2, ![512, 1024]⟩
abbrev S512x128 : Shape := ⟨2, ![512, 128]⟩
abbrev S768x512 : Shape := ⟨2, ![768, 512]⟩
abbrev S256x512 : Shape := ⟨2, ![256, 512]⟩
abbrev S512x1152 : Shape := ⟨2, ![512, 1152]⟩
abbrev S512x2048 : Shape := ⟨2, ![512, 2048]⟩
abbrev S512 : Shape := ⟨1, ![512]⟩
abbrev S512x1 : Shape := ⟨2, ![512, 1]⟩
abbrev S96x96 : Shape := ⟨2, ![96, 96]⟩
abbrev S96x768 : Shape := ⟨2, ![96, 768]⟩
abbrev S1x96x768 : Shape := ⟨3, ![1, 96, 768]⟩
abbrev S256x64 : Shape := ⟨2, ![256, 64]⟩
abbrev S256x128 : Shape := ⟨2, ![256, 128]⟩
abbrev S1x256x128 : Shape := ⟨3, ![1, 256, 128]⟩
abbrev S1x4096x5760 : Shape := ⟨3, ![1, 4096, 5760]⟩

abbrev nBuf : Space → Nat
  | .hbm => 141
  | .vmem => 34
  | .smem => 0
  | _ => 0

abbrev hbmTy0_0 (i : Nat) : BufTy := match i % 128 with
  | 0 => ⟨S1x4096x768, .f32⟩
  | 1 => ⟨S1x4096x256, .f32⟩
  | 2 => ⟨S1x4096x32, .f32⟩
  | 3 => ⟨S1x768, .f32⟩
  | 4 => ⟨S1x768x768, .f32⟩
  | 5 => ⟨S1x256, .f32⟩
  | 6 => ⟨S1x256x1024, .f32⟩
  | 7 => ⟨S4096x16, .f32⟩
  | 8 => ⟨S4096x16, .f32⟩
  | 9 => ⟨S1x8x4096x96, .f32⟩
  | 10 => ⟨S1x8x4096x96, .f32⟩
  | 11 => ⟨S1x8x4096x64, .f32⟩
  | 12 => ⟨S_, .f32⟩
  | 13 => ⟨S4096x64, .f32⟩
  | 14 => ⟨S_, .f32⟩
  | 15 => ⟨S4096x32, .f32⟩
  | 16 => ⟨S4096x128, .f32⟩
  | 17 => ⟨S_, .f32⟩
  | 18 => ⟨S4096x64, .f32⟩
  | 19 => ⟨S4096x16, .f32⟩
  | 20 => ⟨S_, .f32⟩
  | 21 => ⟨S4096x16, .f32⟩
  | 22 => ⟨S_, .f32⟩
  | 23 => ⟨S4096x32, .f32⟩
  | 24 => ⟨S4096x128, .f32⟩
  | 25 => ⟨S_, .f32⟩
  | 26 => ⟨S4096x64, .f32⟩
  | 27 => ⟨S_, .f32⟩
  | 28 => ⟨S4096x16, .f32⟩
  | 29 => ⟨S_, .f32⟩
  | 30 => ⟨S4096x32, .f32⟩
  | 31 => ⟨S4096x128, .f32⟩
  | 32 => ⟨S_, .f32⟩
  | 33 => ⟨S4096x4608, .f32⟩
  | 34 => ⟨S4096x768, .f32⟩
  | 35 => ⟨S4096x256, .f32⟩
  | 36 => ⟨S_, .f32⟩
  | 37 => ⟨S4096x64, .f32⟩
  | 38 => ⟨S4096x32, .f32⟩
  | 39 => ⟨S_, .f32⟩
  | 40 => ⟨S4096x160, .f32⟩
  | 41 => ⟨S4096x5888, .f32⟩
  | 42 => ⟨S768x768, .f32⟩
  | 43 => ⟨S768x8x96, .f32⟩
  | 44 => ⟨S_, .i32⟩
  | 45 => ⟨S_, .f32⟩
  | 46 => ⟨S768x8x128, .f32⟩
  | 47 => ⟨S768x1024, .f32⟩
  | 48 => ⟨S256x1024, .f32⟩
  | 49 => ⟨S256x8x128, .f32⟩
  | 50 => ⟨S256x8x64, .f32⟩
  | 51 => ⟨S_, .i32⟩
  | 52 => ⟨S_, .f32⟩
  | 53 => ⟨S256x8x128, .f32⟩
  | 54 => ⟨S256x1024, .f32⟩
  | 55 => ⟨S256x8x64, .f32⟩
  | 56 => ⟨S_, .i32⟩
  | 57 => ⟨S_, .f32⟩
  | 58 => ⟨S256x8x128, .f32⟩
  | 59 => ⟨S256x1024, .f32⟩
  | 60 => ⟨S256x2048, .f32⟩
  | 61 => ⟨S768, .f32⟩
  | 62 => ⟨S1x4096x768, .f32⟩
  | 63 => ⟨S_, .f32⟩
  | 64 => ⟨S1x4096, .f32⟩
  | 65 => ⟨S1x4096x1, .f32⟩
  | 66 => ⟨S_, .f32⟩
  | 67 => ⟨S1x4096x1, .f32⟩
  | 68 => ⟨S1x4096x1, .f32⟩
  | 69 => ⟨S_, .f32⟩
  | 70 => ⟨S1x4096x1, .f32⟩
  | 71 => ⟨S1x4096x1, .f32⟩
  | 72 => ⟨S1x4096x1, .f32⟩
  | 73 => ⟨S1x4096x768, .f32⟩
  | 74 => ⟨S1x4096x768, .f32⟩
  | 75 => ⟨S1x1x768, .f32⟩
  | 76 => ⟨S1x4096x768, .f32⟩
  | 77 => ⟨S1x4096x768, .f32⟩
  | 78 => ⟨S4096x768, .f32⟩
  | 79 => ⟨S768x4096, .f32⟩
  | 80 => ⟨S768x4096, .bf16⟩
  | 81 => ⟨S256, .f32⟩
  | 82 => ⟨S1x4096x256, .f32⟩
  | 83 => ⟨S_, .f32⟩
  | 84 => ⟨S1x4096, .f32⟩
  | 85 => ⟨S1x4096x1, .f32⟩
  | 86 => ⟨S_, .f32⟩
  | 87 => ⟨S1x4096x1, .f32⟩
  | 88 => ⟨S1x4096x1, .f32⟩
  | 89 => ⟨S_, .f32⟩
  | 90 => ⟨S1x4096x1, .f32⟩
  | 91 => ⟨S1x4096x1, .f32⟩
  | 92 => ⟨S1x4096x1, .f32⟩
  | 93 => ⟨S1x4096x256, .f32⟩
  | 94 => ⟨S1x4096x256, .f32⟩
  | 95 => ⟨S1x1x256, .f32⟩
  | 96 => ⟨S1x4096x256, .f32⟩
  | 97 => ⟨S1x4096x256, .f32⟩
  | 98 => ⟨S4096x256, .f32⟩
  | 99 => ⟨S256x4096, .f32⟩
  | 100 => ⟨S256x4096, .bf16⟩
  | 101 => ⟨S_, .i32⟩
  | 102 => ⟨S_, .f32⟩
  | 103 => ⟨S1x8x4096x128, .f32⟩
  | 104 => ⟨S1x8x4096x128, .bf16⟩
  | 105 => ⟨S1x4096x8x128, .bf16⟩
  | 106 => ⟨S4096x1024, .bf16⟩
  | 107 => ⟨S_, .i32⟩
  | 108 => ⟨S_, .f32⟩
  | 109 => ⟨S1x8x4096x128, .f32⟩
  | 110 => ⟨S1x8x4096x128, .bf16⟩
  | 111 => ⟨S1x4096x8x128, .bf16⟩
  | 112 => ⟨S4096x1024, .bf16⟩
  | 113 => ⟨S_, .i32⟩
  | 114 => ⟨S_, .f32⟩
  | 115 => ⟨S1x8x4096x128, .f32⟩
  | 116 => ⟨S1x8x4096x128, .bf16⟩
  | 117 => ⟨S1x4096x8x128, .bf16⟩
  | 118 => ⟨S4096x1024, .bf16⟩
  | 119 => ⟨S1024x768, .f32⟩
  | 120 => ⟨S1024x768, .bf16⟩
  | 121 => ⟨S2048x256, .f32⟩
  | 122 => ⟨S2048x256, .bf16⟩
  | 123 => ⟨S_, .f32⟩
  | 124 => ⟨S4096x5760, .f32⟩
  | 125 => ⟨S4096x5760, .bf16⟩
  | 126 => ⟨S4096x5760, .bf16⟩
  | 127 => ⟨S1x768, .f32⟩
  | _ => ⟨S1x4096x768, .f32⟩

abbrev hbmTy0_1 (i : Nat) : BufTy := match i % 128 with
  | 0 => ⟨S1x256, .f32⟩
  | 1 => ⟨S8x96x768, .bf16⟩
  | 2 => ⟨S8x256x128, .bf16⟩
  | 3 => ⟨S4096x5760, .f32⟩
  | 4 => ⟨S1x4096x5760, .f32⟩
  | 5 => ⟨S8x96x768, .f32⟩
  | 6 => ⟨S1x768x768, .f32⟩
  | 7 => ⟨S8x256x128, .f32⟩
  | 8 => ⟨S256x8x128, .f32⟩
  | 9 => ⟨S1x256x1024, .f32⟩
  | 10 => ⟨S1x4096x768, .f32⟩
  | 11 => ⟨S1x4096x256, .f32⟩
  | 12 => ⟨S1x4096x32, .f32⟩
  | _ => ⟨S1x4096x768, .f32⟩

abbrev hbmTy (i : Nat) : BufTy := match i / 128 with
  | 0 => hbmTy0_0 i
  | 1 => hbmTy0_1 i
  | _ => ⟨S1x4096x768, .f32⟩

abbrev bufTy : (tb : Table) → Fin (tcTables nBuf tb) → BufTy
  | .hbm, ⟨i, _⟩ => hbmTy i
  | .local _ .vmem, ⟨0, _⟩ => ⟨S512x768, .f32⟩
  | .local _ .vmem, ⟨1, _⟩ => ⟨S512x768, .f32⟩
  | .local _ .vmem, ⟨2, _⟩ => ⟨S512x256, .f32⟩
  | .local _ .vmem, ⟨3, _⟩ => ⟨S512x256, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x768, .f32⟩
  | .local _ .vmem, ⟨11, _⟩ => ⟨S1x256, .f32⟩
  | .local _ .vmem, ⟨12, _⟩ => ⟨S1024x768, .bf16⟩
  | .local _ .vmem, ⟨13, _⟩ => ⟨S2048x256, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S768x512, .bf16⟩
  | .local _ .vmem, ⟨21, _⟩ => ⟨S768x512, .bf16⟩
  | .local _ .vmem, ⟨22, _⟩ => ⟨S256x512, .bf16⟩
  | .local _ .vmem, ⟨23, _⟩ => ⟨S256x512, .bf16⟩
  | .local _ .vmem, ⟨24, _⟩ => ⟨S512x1152, .bf16⟩
  | .local _ .vmem, ⟨25, _⟩ => ⟨S512x1152, .bf16⟩
  | .local _ .vmem, ⟨26, _⟩ => ⟨S1x768, .f32⟩
  | .local _ .vmem, ⟨27, _⟩ => ⟨S1x256, .f32⟩
  | .local _ .vmem, ⟨28, _⟩ => ⟨S8x96x768, .bf16⟩
  | .local _ .vmem, ⟨29, _⟩ => ⟨S8x256x128, .bf16⟩
  | .local _ .vmem, ⟨30, _⟩ => ⟨S512x1024, .bf16⟩
  | .local _ .vmem, ⟨31, _⟩ => ⟨S512x2048, .bf16⟩
  | .local _ .vmem, ⟨32, _⟩ => ⟨S768x1024, .f32⟩
  | .local _ .vmem, ⟨33, _⟩ => ⟨S256x2048, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_cst_5 : Ref sig .tc := ⟨.hbm, 27, rfl⟩
abbrev main_v9 : Ref sig .tc := ⟨.hbm, 28, rfl⟩
abbrev main_cst_6 : Ref sig .tc := ⟨.hbm, 29, rfl⟩
abbrev main_v10 : Ref sig .tc := ⟨.hbm, 30, rfl⟩
abbrev main_v11 : Ref sig .tc := ⟨.hbm, 31, rfl⟩
abbrev main_cst_7 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_8 : Ref sig .tc := ⟨.hbm, 36, rfl⟩
abbrev main_v15 : Ref sig .tc := ⟨.hbm, 37, rfl⟩
abbrev main_v16 : Ref sig .tc := ⟨.hbm, 38, rfl⟩
abbrev main_cst_9 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_call0_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_10 : Ref sig .tc := ⟨.hbm, 51, rfl⟩
abbrev main_call1_v0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_11 : Ref sig .tc := ⟨.hbm, 56, rfl⟩
abbrev main_call2_v0 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_12 : Ref sig .tc := ⟨.hbm, 63, rfl⟩
abbrev main_v34 : Ref sig .tc := ⟨.hbm, 64, rfl⟩
abbrev main_v35 : Ref sig .tc := ⟨.hbm, 65, rfl⟩
abbrev main_cst_13 : Ref sig .tc := ⟨.hbm, 66, rfl⟩
abbrev main_v36 : Ref sig .tc := ⟨.hbm, 67, rfl⟩
abbrev main_v37 : Ref sig .tc := ⟨.hbm, 68, rfl⟩
abbrev main_cst_14 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_15 : Ref sig .tc := ⟨.hbm, 83, rfl⟩
abbrev main_v51 : Ref sig .tc := ⟨.hbm, 84, rfl⟩
abbrev main_v52 : Ref sig .tc := ⟨.hbm, 85, rfl⟩
abbrev main_cst_16 : Ref sig .tc := ⟨.hbm, 86, rfl⟩
abbrev main_v53 : Ref sig .tc := ⟨.hbm, 87, rfl⟩
abbrev main_v54 : Ref sig .tc := ⟨.hbm, 88, rfl⟩
abbrev main_cst_17 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_18 : Ref sig .tc := ⟨.hbm, 101, rfl⟩
abbrev main_call3_v0 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_19 : Ref sig .tc := ⟨.hbm, 107, rfl⟩
abbrev main_call4_v0 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_20 : Ref sig .tc := ⟨.hbm, 113, rfl⟩
abbrev main_call5_v0 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_21 : Ref sig .tc := ⟨.hbm, 123, rfl⟩
abbrev main_v82 : Ref sig .tc := ⟨.hbm, 124, rfl⟩
abbrev main_v83 : Ref sig .tc := ⟨.hbm, 125, rfl⟩
abbrev main_v84_0 : Ref sig .tc := ⟨.hbm, 126, rfl⟩
abbrev main_v84_1 : Ref sig .tc := ⟨.hbm, 127, rfl⟩
abbrev main_v84_2 : Ref sig .tc := ⟨.hbm, 128, rfl⟩
abbrev main_v84_3 : Ref sig .tc := ⟨.hbm, 129, rfl⟩
abbrev main_v84_4 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v439 : BitVec 1 := Scalar.cmpi .eq arg0 c7_i32
  let v440 : BitVec 32 := Scalar.extui v439
  let c0_i32_202 : BitVec 32 := 0#32
  let v441 : BitVec 1 := Scalar.cmpi .ne v440 c0_i32_202
  v441

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S768x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1152 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x96x768 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x256x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference4Ideal.lean ====
abbrev S1x4096x768 : Shape := ⟨3, ![1, 4096, 768]⟩
abbrev S1x4096x256 : Shape := ⟨3, ![1, 4096, 256]⟩
abbrev S1x4096x32 : Shape := ⟨3, ![1, 4096, 32]⟩
abbrev S1x768 : Shape := ⟨2, ![1, 768]⟩
abbrev S1x768x768 : Shape := ⟨3, ![1, 768, 768]⟩
abbrev S1x256 : Shape := ⟨2, ![1, 256]⟩
abbrev S1x256x1024 : Shape := ⟨3, ![1, 256, 1024]⟩
abbrev S4096x16 : Shape := ⟨2, ![4096, 16]⟩
abbrev S1x8x4096x96 : Shape := ⟨4, ![1, 8, 4096, 96]⟩
abbrev S1x8x4096x64 : Shape := ⟨4, ![1, 8, 4096, 64]⟩
abbrev S768 : Shape := ⟨1, ![768]⟩
abbrev S_ : Shape := ⟨0, ![]⟩
abbrev S1x4096 : Shape := ⟨2, ![1, 4096]⟩
abbrev S1x4096x1 : Shape := ⟨3, ![1, 4096, 1]⟩
abbrev S1x1x768 : Shape := ⟨3, ![1, 1, 768]⟩
abbrev S768x768 : Shape := ⟨2, ![768, 768]⟩
abbrev S1x4096x8x96 : Shape := ⟨4, ![1, 4096, 8, 96]⟩
abbrev S1x4096x8x64 : Shape := ⟨4, ![1, 4096, 8, 64]⟩
abbrev S1x4096x8x32 : Shape := ⟨4, ![1, 4096, 8, 32]⟩
abbrev S1x4096x8x16 : Shape := ⟨4, ![1, 4096, 8, 16]⟩
abbrev S1x4096x1x16 : Shape := ⟨4, ![1, 4096, 1, 16]⟩
abbrev S256 : Shape := ⟨1, ![256]⟩
abbrev S1x1x256 : Shape := ⟨3, ![1, 1, 256]⟩
abbrev S256x1024 : Shape := ⟨2, ![256, 1024]⟩
abbrev S1x4096x1024 : Shape := ⟨3, ![1, 4096, 1024]⟩
abbrev S1x4096x8x128 : Shape := ⟨4, ![1, 4096, 8, 128]⟩
abbrev S1x4096x1x32 : Shape := ⟨4, ![1, 4096, 1, 32]⟩
abbrev S4096x32 : Shape := ⟨2, ![4096, 32]⟩
abbrev S1024x256 : Shape := ⟨2, ![1024, 256]⟩
abbrev S4096 : Shape := ⟨1, ![4096]⟩

abbrev nBuf : Space → Nat
  | .hbm => 222
  | .vmem => 0
  | .smem => 0
  | _ => 0

abbrev hbmTy0_0 (i : Nat) : BufTy := match i % 128 with
  | 0 => ⟨S1x4096x768, .f32⟩
  | 1 => ⟨S1x4096x256, .f32⟩
  | 2 => ⟨S1x4096x32, .f32⟩
  | 3 => ⟨S1x768, .f32⟩
  | 4 => ⟨S1x768x768, .f32⟩
  | 5 => ⟨S1x256, .f32⟩
  | 6 => ⟨S1x256x1024, .f32⟩
  | 7 => ⟨S4096x16, .f32⟩
  | 8 => ⟨S4096x16, .f32⟩
  | 9 => ⟨S1x8x4096x96, .f32⟩
  | 10 => ⟨S1x8x4096x96, .f32⟩
  | 11 => ⟨S1x8x4096x64, .f32⟩
  | 12 => ⟨S768, .f32⟩
  | 13 => ⟨S1x4096x768, .f32⟩
  | 14 => ⟨S_, .f32⟩
  | 15 => ⟨S1x4096, .f32⟩
  | 16 => ⟨S1x4096x1, .f32⟩
  | 17 => ⟨S_, .f32⟩
  | 18 => ⟨S1x4096x1, .f32⟩
  | 19 => ⟨S1x4096x1, .f32⟩
  | 20 => ⟨S_, .f32⟩
  | 21 => ⟨S1x4096x1, .f32⟩
  | 22 => ⟨S1x4096x1, .f32⟩
  | 23 => ⟨S1x4096x1, .f32⟩
  | 24 => ⟨S1x4096x1, .f32⟩
  | 25 => ⟨S_, .f32⟩
  | 26 => ⟨S1x4096x1, .f32⟩
  | 27 => ⟨S1x4096x1, .f32⟩
  | 28 => ⟨S1x4096x768, .f32⟩
  | 29 => ⟨S1x4096x768, .f32⟩
  | 30 => ⟨S1x1x768, .f32⟩
  | 31 => ⟨S1x4096x768, .f32⟩
  | 32 => ⟨S1x4096x768, .f32⟩
  | 33 => ⟨S768x768, .f32⟩
  | 34 => ⟨S1x4096x768, .f32⟩
  | 35 => ⟨S1x4096x8x96, .f32⟩
  | 36 => ⟨S1x4096x8x64, .f32⟩
  | 37 => ⟨S1x4096x8x32, .f32⟩
  | 38 => ⟨S1x4096x8x16, .f32⟩
  | 39 => ⟨S1x4096x8x16, .f32⟩
  | 40 => ⟨S1x4096x1x16, .f32⟩
  | 41 => ⟨S1x4096x1x16, .f32⟩
  | 42 => ⟨S1x4096x8x16, .f32⟩
  | 43 => ⟨S1x4096x8x16, .f32⟩
  | 44 => ⟨S1x4096x8x16, .f32⟩
  | 45 => ⟨S1x4096x8x16, .f32⟩
  | 46 => ⟨S1x4096x8x16, .f32⟩
  | 47 => ⟨S1x4096x8x16, .f32⟩
  | 48 => ⟨S1x4096x8x16, .f32⟩
  | 49 => ⟨S1x4096x8x16, .f32⟩
  | 50 => ⟨S1x4096x8x16, .f32⟩
  | 51 => ⟨S1x4096x8x16, .f32⟩
  | 52 => ⟨S1x4096x8x32, .f32⟩
  | 53 => ⟨S256, .f32⟩
  | 54 => ⟨S1x4096x256, .f32⟩
  | 55 => ⟨S_, .f32⟩
  | 56 => ⟨S1x4096, .f32⟩
  | 57 => ⟨S1x4096x1, .f32⟩
  | 58 => ⟨S_, .f32⟩
  | 59 => ⟨S1x4096x1, .f32⟩
  | 60 => ⟨S1x4096x1, .f32⟩
  | 61 => ⟨S_, .f32⟩
  | 62 => ⟨S1x4096x1, .f32⟩
  | 63 => ⟨S1x4096x1, .f32⟩
  | 64 => ⟨S1x4096x1, .f32⟩
  | 65 => ⟨S1x4096x1, .f32⟩
  | 66 => ⟨S_, .f32⟩
  | 67 => ⟨S1x4096x1, .f32⟩
  | 68 => ⟨S1x4096x1, .f32⟩
  | 69 => ⟨S1x4096x256, .f32⟩
  | 70 => ⟨S1x4096x256, .f32⟩
  | 71 => ⟨S1x1x256, .f32⟩
  | 72 => ⟨S1x4096x256, .f32⟩
  | 73 => ⟨S1x4096x256, .f32⟩
  | 74 => ⟨S256x1024, .f32⟩
  | 75 => ⟨S1x4096x1024, .f32⟩
  | 76 => ⟨S1x4096x8x128, .f32⟩
  | 77 => ⟨S1x4096x8x64, .f32⟩
  | 78 => ⟨S1x4096x8x64, .f32⟩
  | 79 => ⟨S1x4096x1x32, .f32⟩
  | 80 => ⟨S1x4096x1x16, .f32⟩
  | 81 => ⟨S1x4096x1x16, .f32⟩
  | 82 => ⟨S1x4096x1x16, .f32⟩
  | 83 => ⟨S1x4096x1x16, .f32⟩
  | 84 => ⟨S1x4096x1x16, .f32⟩
  | 85 => ⟨S1x4096x1x16, .f32⟩
  | 86 => ⟨S1x4096x1x16, .f32⟩
  | 87 => ⟨S1x4096x1x16, .f32⟩
  | 88 => ⟨S1x4096x1x16, .f32⟩
  | 89 => ⟨S1x4096x1x16, .f32⟩
  | 90 => ⟨S1x4096x1x32, .f32⟩
  | 91 => ⟨S1x4096x8x32, .f32⟩
  | 92 => ⟨S1x4096x8x96, .f32⟩
  | 93 => ⟨S1x8x4096x96, .f32⟩
  | 94 => ⟨S1x4096x8x96, .f32⟩
  | 95 => ⟨S1x8x4096x96, .f32⟩
  | 96 => ⟨S_, .f32⟩
  | 97 => ⟨S1x8x4096x96, .f32⟩
  | 98 => ⟨S1x8x4096x96, .f32⟩
  | 99 => ⟨S1x8x4096x64, .f32⟩
  | 100 => ⟨S1x4096x8x64, .f32⟩
  | 101 => ⟨S_, .f32⟩
  | 102 => ⟨S1x8x4096x96, .f32⟩
  | 103 => ⟨S1x8x4096x96, .f32⟩
  | 104 => ⟨S1x4096x8x96, .f32⟩
  | 105 => ⟨S1x4096x8x64, .f32⟩
  | 106 => ⟨S1x4096x8x32, .f32⟩
  | 107 => ⟨S1x4096x8x96, .f32⟩
  | 108 => ⟨S1x4096x8x64, .f32⟩
  | 109 => ⟨S1x4096x8x32, .f32⟩
  | 110 => ⟨S_, .f32⟩
  | 111 => ⟨S4096x32, .f32⟩
  | 112 => ⟨S1x4096x1x32, .f32⟩
  | 113 => ⟨S1x4096x1x16, .f32⟩
  | 114 => ⟨S1x4096x1x16, .f32⟩
  | 115 => ⟨S1x4096x1x16, .f32⟩
  | 116 => ⟨S1x4096x1x16, .f32⟩
  | 117 => ⟨S1x4096x1x16, .f32⟩
  | 118 => ⟨S1x4096x1x16, .f32⟩
  | 119 => ⟨S1x4096x1x16, .f32⟩
  | 120 => ⟨S1x4096x1x16, .f32⟩
  | 121 => ⟨S1x4096x1x16, .f32⟩
  | 122 => ⟨S_, .f32⟩
  | 123 => ⟨S1x4096x1x32, .f32⟩
  | 124 => ⟨S_, .f32⟩
  | 125 => ⟨S1x4096x1x32, .f32⟩
  | 126 => ⟨S1x4096x1x32, .f32⟩
  | 127 => ⟨S_, .f32⟩
  | _ => ⟨S1x4096x768, .f32⟩

abbrev hbmTy0_1 (i : Nat) : BufTy := match i % 128 with
  | 0 => ⟨S4096x32, .f32⟩
  | 1 => ⟨S1x4096x32, .f32⟩
  | 2 => ⟨S_, .f32⟩
  | 3 => ⟨S1x4096x8x128, .f32⟩
  | 4 => ⟨S_, .f32⟩
  | 5 => ⟨S1x4096x8x128, .f32⟩
  | 6 => ⟨S1x4096x8x128, .f32⟩
  | 7 => ⟨S1x4096x1024, .f32⟩
  | 8 => ⟨S1024x256, .f32⟩
  | 9 => ⟨S256x1024, .f32⟩
  | 10 => ⟨S1x4096x256, .f32⟩
  | 11 => ⟨S1x256x1024, .f32⟩
  | 12 => ⟨S1x4096x256, .f32⟩
  | 13 => ⟨S_, .f32⟩
  | 14 => ⟨S1x256, .f32⟩
  | 15 => ⟨S1x1x256, .f32⟩
  | 16 => ⟨S1x4096x256, .f32⟩
  | 17 => ⟨S1x4096x256, .f32⟩
  | 18 => ⟨S_, .f32⟩
  | 19 => ⟨S256, .f32⟩
  | 20 => ⟨S1x4096x256, .f32⟩
  | 21 => ⟨S_, .f32⟩
  | 22 => ⟨S1x4096, .f32⟩
  | 23 => ⟨S1x4096x1, .f32⟩
  | 24 => ⟨S1x4096x256, .f32⟩
  | 25 => ⟨S1x4096x256, .f32⟩
  | 26 => ⟨S1x4096x1, .f32⟩
  | 27 => ⟨S_, .f32⟩
  | 28 => ⟨S1x4096x1, .f32⟩
  | 29 => ⟨S1x4096x1, .f32⟩
  | 30 => ⟨S_, .f32⟩
  | 31 => ⟨S4096, .f32⟩
  | 32 => ⟨S1x4096, .f32⟩
  | 33 => ⟨S1x4096x256, .f32⟩
  | 34 => ⟨S1x4096x256, .f32⟩
  | 35 => ⟨S1x4096x256, .f32⟩
  | 36 => ⟨S1x4096x256, .f32⟩
  | 37 => ⟨S1x4096x256, .f32⟩
  | 38 => ⟨S1x256, .f32⟩
  | 39 => ⟨S1x4096x8x16, .f32⟩
  | 40 => ⟨S1x4096x8x16, .f32⟩
  | 41 => ⟨S1x4096x8x16, .f32⟩
  | 42 => ⟨S1x4096x8x16, .f32⟩
  | 43 => ⟨S1x4096x8x16, .f32⟩
  | 44 => ⟨S1x4096x8x16, .f32⟩
  | 45 => ⟨S1x4096x8x16, .f32⟩
  | 46 => ⟨S1x4096x8x16, .f32⟩
  | 47 => ⟨S1x4096x8x16, .f32⟩
  | 48 => ⟨S1x4096x8x16, .f32⟩
  | 49 => ⟨S1x4096x8x16, .f32⟩
  | 50 => ⟨S1x4096x8x16, .f32⟩
  | 51 => ⟨S1x4096x8x16, .f32⟩
  | 52 => ⟨S_, .f32⟩
  | 53 => ⟨S1x4096x8x32, .f32⟩
  | 54 => ⟨S_, .f32⟩
  | 55 => ⟨S1x4096x8x32, .f32⟩
  | 56 => ⟨S1x4096x8x32, .f32⟩
  | 57 => ⟨S_, .f32⟩
  | 58 => ⟨S1x4096x8x96, .f32⟩
  | 59 => ⟨S_, .f32⟩
  | 60 => ⟨S1x4096x8x96, .f32⟩
  | 61 => ⟨S1x4096x8x96, .f32⟩
  | 62 => ⟨S1x4096x768, .f32⟩
  | 63 => ⟨S768x768, .f32⟩
  | 64 => ⟨S768x768, .f32⟩
  | 65 => ⟨S1x4096x768, .f32⟩
  | 66 => ⟨S1x768x768, .f32⟩
  | 67 => ⟨S1x4096x768, .f32⟩
  | 68 => ⟨S_, .f32⟩
  | 69 => ⟨S1x768, .f32⟩
  | 70 => ⟨S1x1x768, .f32⟩
  | 71 => ⟨S1x4096x768, .f32⟩
  | 72 => ⟨S1x4096x768, .f32⟩
  | 73 => ⟨S_, .f32⟩
  | 74 => ⟨S768, .f32⟩
  | 75 => ⟨S1x4096x768, .f32⟩
  | 76 => ⟨S_, .f32⟩
  | 77 => ⟨S1x4096, .f32⟩
  | 78 => ⟨S1x4096x1, .f32⟩
  | 79 => ⟨S1x4096x768, .f32⟩
  | 80 => ⟨S1x4096x768, .f32⟩
  | 81 => ⟨S1x4096x1, .f32⟩
  | 82 => ⟨S_, .f32⟩
  | 83 => ⟨S1x4096x1, .f32⟩
  | 84 => ⟨S1x4096x1, .f32⟩
  | 85 => ⟨S_, .f32⟩
  | 86 => ⟨S4096, .f32⟩
  | 87 => ⟨S1x4096, .f32⟩
  | 88 => ⟨S1x4096x768, .f32⟩
  | 89 => ⟨S1x4096x768, .f32⟩
  | 90 => ⟨S1x4096x768, .f32⟩
  | 91 => ⟨S1x4096x768, .f32⟩
  | 92 => ⟨S1x4096x768, .f32⟩
  | 93 => ⟨S1x768, .f32⟩
  | _ => ⟨S1x4096x768, .f32⟩

abbrev hbmTy (i : Nat) : BufTy := match i / 128 with
  | 0 => hbmTy0_0 i
  | 1 => hbmTy0_1 i
  | _ => ⟨S1x4096x768, .f32⟩

abbrev bufTy : (tb : Table) → Fin (tcTables nBuf tb) → BufTy
  | .hbm, ⟨i, _⟩ => hbmTy i
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_7 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_8 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_9 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_10 : Ref sig .tc := ⟨.hbm, 122, rfl⟩
abbrev main_v99 : Ref sig .tc := ⟨.hbm, 123, rfl⟩
abbrev main_cst_11 : Ref sig .tc := ⟨.hbm, 124, rfl⟩
abbrev main_v100 : Ref sig .tc := ⟨.hbm, 125, rfl⟩
abbrev main_v101 : Ref sig .tc := ⟨.hbm, 126, rfl⟩
abbrev main_cst_12 : Ref sig .tc := ⟨.hbm, 127, rfl⟩
abbrev main_v102 : Ref sig .tc := ⟨.hbm, 128, rfl⟩
abbrev main_v103 : Ref sig .tc := ⟨.hbm, 129, rfl⟩
abbrev main_cst_13 : Ref sig .tc := ⟨.hbm, 130, rfl⟩
abbrev main_v104 : Ref sig .tc := ⟨.hbm, 131, rfl⟩
abbrev main_cst_14 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_15 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_16 : Ref sig .tc := ⟨.hbm, 146, rfl⟩
abbrev main_v117 : Ref sig .tc := ⟨.hbm, 147, rfl⟩
abbrev main_v118 : Ref sig .tc := ⟨.hbm, 148, rfl⟩
abbrev main_cst_17 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_cst_18 : Ref sig .tc := ⟨.hbm, 155, rfl⟩
abbrev main_v124 : Ref sig .tc := ⟨.hbm, 156, rfl⟩
abbrev main_v125 : Ref sig .tc := ⟨.hbm, 157, rfl⟩
abbrev main_cst_19 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_cst_20 : Ref sig .tc := ⟨.hbm, 180, rfl⟩
abbrev main_v147 : Ref sig .tc := ⟨.hbm, 181, rfl⟩
abbrev main_cst_21 : Ref sig .tc := ⟨.hbm, 182, rfl⟩
abbrev main_v148 : Ref sig .tc := ⟨.hbm, 183, rfl⟩
abbrev main_v149 : Ref sig .tc := ⟨.hbm, 184, rfl⟩
abbrev main_cst_22 : Ref sig .tc := ⟨.hbm, 185, rfl⟩
abbrev main_v150 : Ref sig .tc := ⟨.hbm, 186, rfl⟩
abbrev main_cst_23 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_cst_24 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_cst_25 : Ref sig .tc := ⟨.hbm, 201, rfl⟩
abbrev main_v163 : Ref sig .tc := ⟨.hbm, 202, rfl⟩
abbrev main_v164 : Ref sig .tc := ⟨.hbm, 203, rfl⟩
abbrev main_cst_26 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_cst_27 : Ref sig .tc := ⟨.hbm, 210, rfl⟩
abbrev main_v170 : Ref sig .tc := ⟨.hbm, 211, rfl⟩
abbrev main_v171 : Ref sig .tc := ⟨.hbm, 212, rfl⟩
abbrev main_cst_28 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩

abbrev nD : Nat := 1
abbrev τ : Topo := Topo.v7x

variable {F : FTy → Type} [FloatOps F]
-- ==== Kernel5.lean ====
abbrev S1x4096x768 : Shape := ⟨3, ![1, 4096, 768]⟩
abbrev S1x4096x256 : Shape := ⟨3, ![1, 4096, 256]⟩
abbrev S1x4096x32 : Shape := ⟨3, ![1, 4096, 32]⟩
abbrev S1x768 : Shape := ⟨2, ![1, 768]⟩
abbrev S1x768x768 : Shape := ⟨3, ![1, 768, 768]⟩
abbrev S1x256 : Shape := ⟨2, ![1, 256]⟩
abbrev S1x256x1024 : Shape := ⟨3, ![1, 256, 1024]⟩
abbrev S4096x16 : Shape := ⟨2, ![4096, 16]⟩
abbrev S_ : Shape := ⟨0, ![]⟩
abbrev S4096x64 : Shape := ⟨2, ![4096, 64]⟩
abbrev S4096x32 : Shape := ⟨2, ![4096, 32]⟩
abbrev S4096x128 : Shape := ⟨2, ![4096, 128]⟩
abbrev S4096x4608 : Shape := ⟨2, ![4096, 4608]⟩
abbrev S4096x768 : Shape := ⟨2, ![4096, 768]⟩
abbrev S4096x256 : Shape := ⟨2, ![4096, 256]⟩
abbrev S4096x160 : Shape := ⟨2, ![4096, 160]⟩
abbrev S4096x5888 : Shape := ⟨2, ![4096, 5888]⟩
abbrev S768x768 : Shape := ⟨2, ![768, 768]⟩
abbrev S768x8x96 : Shape := ⟨3, ![768, 8, 96]⟩
abbrev S768x8x128 : Shape := ⟨3, ![768, 8, 128]⟩
abbrev S768x1024 : Shape := ⟨2, ![768, 1024]⟩
abbrev S256x1024 : Shape := ⟨2, ![256, 1024]⟩
abbrev S256x8x128 : Shape := ⟨3, ![256, 8, 128]⟩
abbrev S256x8x64 : Shape := ⟨3, ![256, 8, 64]⟩
abbrev S256x2048 : Shape := ⟨2, ![256, 2048]⟩
abbrev S4096x1024 : Shape := ⟨2, ![4096, 1024]⟩
abbrev S768x4096 : Shape := ⟨2, ![768, 4096]⟩
abbrev S256x4096 : Shape := ⟨2, ![256, 4096]⟩
abbrev S512x768 : Shape := ⟨2, ![512, 768]⟩
abbrev S512x256 : Shape := ⟨2, ![512, 256]⟩
abbrev S512x128 : Shape := ⟨2, ![512, 128]⟩
abbrev S512x1024 : Shape := ⟨2, ![512, 1024]⟩
abbrev S768x512 : Shape := ⟨2, ![768, 512]⟩
abbrev S256x512 : Shape := ⟨2, ![256, 512]⟩
abbrev S512 : Shape := ⟨1, ![512]⟩
abbrev S512x1 : Shape := ⟨2, ![512, 1]⟩
abbrev S512x2048 : Shape := ⟨2, ![512, 2048]⟩
abbrev S1x4096x8x128 : Shape := ⟨4, ![1, 4096, 8, 128]⟩
abbrev S1x4096x8x96 : Shape := ⟨4, ![1, 4096, 8, 96]⟩
abbrev S1x8x4096x96 : Shape := ⟨4, ![1, 8, 4096, 96]⟩
abbrev S1x4096x8x64 : Shape := ⟨4, ![1, 4096, 8, 64]⟩
abbrev S1x8x4096x64 : Shape := ⟨4, ![1, 8, 4096, 64]⟩

abbrev nBuf : Space → Nat
  | .hbm => 83
  | .vmem => 26
  | .smem => 0
  | _ => 0

abbrev bufTy : (tb : Table) → Fin (tcTables nBuf tb) → BufTy
  | .hbm, ⟨0, _⟩ => ⟨S1x4096x768, .f32⟩
  | .hbm, ⟨1, _⟩ => ⟨S1x4096x256, .f32⟩
  | .hbm, ⟨2, _⟩ => ⟨S1x4096x32, .f32⟩
  | .hbm, ⟨3, _⟩ => ⟨S1x768, .f32⟩
  | .hbm, ⟨4, _⟩ => ⟨S1x768x768, .f32⟩
  | .hbm, ⟨5, _⟩ => ⟨S1x256, .f32⟩
  | .hbm, ⟨6, _⟩ => ⟨S1x256x1024, .f32⟩
  | .hbm, ⟨7, _⟩ => ⟨S4096x16, .f32⟩
  | .hbm, ⟨8, _⟩ => ⟨S4096x16, .f32⟩
  | .hbm, ⟨9, _⟩ => ⟨S_, .f32⟩
  | .hbm, ⟨10, _⟩ => ⟨S4096x64, .f32⟩
  | .hbm, ⟨11, _⟩ => ⟨S_, .f32⟩
  | .hbm, ⟨12, _⟩ => ⟨S4096x32, .f32⟩
  | .hbm, ⟨13, _⟩ => ⟨S4096x128, .f32⟩
  | .hbm, ⟨14, _⟩ => ⟨S_, .f32⟩
  | .hbm, ⟨15, _⟩ => ⟨S4096x64, .f32⟩
  | .hbm, ⟨16, _⟩ => ⟨S4096x16, .f32⟩
  | .hbm, ⟨17, _⟩ => ⟨S_, .f32⟩
  | .hbm, ⟨18, _⟩ => ⟨S4096x16, .f32⟩
  | .hbm, ⟨19, _⟩ => ⟨S_, .f32⟩
  | .hbm, ⟨20, _⟩ => ⟨S4096x32, .f32⟩
  | .hbm, ⟨21, _⟩ => ⟨S4096x128, .f32⟩
  | .hbm, ⟨22, _⟩ => ⟨S_, .f32⟩
  | .hbm, ⟨23, _⟩ => ⟨S4096x64, .f32⟩
  | .hbm, ⟨24, _⟩ => ⟨S_, .f32⟩
  | .hbm, ⟨25, _⟩ => ⟨S4096x16, .f32⟩
  | .hbm, ⟨26, _⟩ => ⟨S_, .f32⟩
  | .hbm, ⟨27, _⟩ => ⟨S4096x32, .f32⟩
  | .hbm, ⟨28, _⟩ => ⟨S4096x128, .f32⟩
  | .hbm, ⟨29, _⟩ => ⟨S_, .f32⟩
  | .hbm, ⟨30, _⟩ => ⟨S4096x4608, .f32⟩
  | .hbm, ⟨31, _⟩ => ⟨S4096x768, .f32⟩
  | .hbm, ⟨32, _⟩ => ⟨S4096x256, .f32⟩
  | .hbm, ⟨33, _⟩ => ⟨S_, .f32⟩
  | .hbm, ⟨34, _⟩ => ⟨S4096x64, .f32⟩
  | .hbm, ⟨35, _⟩ => ⟨S4096x32, .f32⟩
  | .hbm, ⟨36, _⟩ => ⟨S_, .f32⟩
  | .hbm, ⟨37, _⟩ => ⟨S4096x160, .f32⟩
  | .hbm, ⟨38, _⟩ => ⟨S4096x5888, .f32⟩
  | .hbm, ⟨39, _⟩ => ⟨S768x768, .f32⟩
  | .hbm, ⟨40, _⟩ => ⟨S768x8x96, .f32⟩
  | .hbm, ⟨41, _⟩ => ⟨S_, .i32⟩
  | .hbm, ⟨42, _⟩ => ⟨S_, .f32⟩
  | .hbm, ⟨43, _⟩ => ⟨S768x8x128, .f32⟩
  | .hbm, ⟨44, _⟩ => ⟨S768x1024, .f32⟩
  | .hbm, ⟨45, _⟩ => ⟨S256x1024, .f32⟩
  | .hbm, ⟨46, _⟩ => ⟨S256x8x128, .f32⟩
  | .hbm, ⟨47, _⟩ => ⟨S256x8x64, .f32⟩
  | .hbm, ⟨48, _⟩ => ⟨S_, .i32⟩
  | .hbm, ⟨49, _⟩ => ⟨S_, .f32⟩
  | .hbm, ⟨50, _⟩ => ⟨S256x8x128, .f32⟩
  | .hbm, ⟨51, _⟩ => ⟨S256x1024, .f32⟩
  | .hbm, ⟨52, _⟩ => ⟨S256x8x64, .f32⟩
  | .hbm, ⟨53, _⟩ => ⟨S_, .i32⟩
  | .hbm, ⟨54, _⟩ => ⟨S_, .f32⟩
  | .hbm, ⟨55, _⟩ => ⟨S256x8x128, .f32⟩
  | .hbm, ⟨56, _⟩ => ⟨S256x1024, .f32⟩
  | .hbm, ⟨57, _⟩ => ⟨S256x2048, .f32⟩
  | .hbm, ⟨58, _⟩ => ⟨S768x1024, .bf16⟩
  | .hbm, ⟨59, _⟩ => ⟨S256x2048, .bf16⟩
  | .hbm, ⟨60, _⟩ => ⟨S4096x1024, .bf16⟩
  | .hbm, ⟨61, _⟩ => ⟨S4096x1024, .bf16⟩
  | .hbm, ⟨62, _⟩ => ⟨S4096x1024, .bf16⟩
  | .hbm, ⟨63, _⟩ => ⟨S768x4096, .bf16⟩
  | .hbm, ⟨64, _⟩ => ⟨S256x4096, .bf16⟩
  | .hbm, ⟨65, _⟩ => ⟨S4096x1024, .f32⟩
  | .hbm, ⟨66, _⟩ => ⟨S1x4096x8x128, .f32⟩
  | .hbm, ⟨67, _⟩ => ⟨S1x4096x8x96, .f32⟩
  | .hbm, ⟨68, _⟩ => ⟨S1x8x4096x96, .f32⟩
  | .hbm, ⟨69, _⟩ => ⟨S4096x1024, .f32⟩
  | .hbm, ⟨70, _⟩ => ⟨S1x4096x8x128, .f32⟩
  | .hbm, ⟨71, _⟩ => ⟨S1x4096x8x96, .f32⟩
  | .hbm, ⟨72, _⟩ => ⟨S1x8x4096x96, .f32⟩
  | .hbm, ⟨73, _⟩ => ⟨S4096x1024, .f32⟩
  | .hbm, ⟨74, _⟩ => ⟨S1x4096x8x128, .f32⟩
  | .hbm, ⟨75, _⟩ => ⟨S1x4096x8x64, .f32⟩
  | .hbm, ⟨76, _⟩ => ⟨S1x8x4096x64, .f32⟩
  | .hbm, ⟨77, _⟩ => ⟨S768x4096, .f32⟩
  | .hbm, ⟨78, _⟩ => ⟨S4096x768, .f32⟩
  | .hbm, ⟨79, _⟩ => ⟨S1x4096x768, .f32⟩
  | .hbm, ⟨80, _⟩ => ⟨S256x4096, .f32⟩
  | .hbm, ⟨81, _⟩ => ⟨S4096x256, .f32⟩
  | .hbm, ⟨82, _⟩ => ⟨S1x4096x256, .f32⟩
  | .local _ .vmem, ⟨0, _⟩ => ⟨S512x768, .f32⟩
  | .local _ .vmem, ⟨1, _⟩ => ⟨S512x768, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S1x768, .f32⟩
  | .local _ .vmem, ⟨7, _⟩ => ⟨S1x256, .f32⟩
  | .local _ .vmem, ⟨8, _⟩ => ⟨S768x1024, .bf16⟩
  | .local _ .vmem, ⟨9, _⟩ => ⟨S256x2048, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S768x512, .bf16⟩
  | .local _ .vmem, ⟨23, _⟩ => ⟨S768x512, .bf16⟩
  | .local _ .vmem, ⟨24, _⟩ => ⟨S256x512, .bf16⟩
  | .local _ .vmem, ⟨25, _⟩ => ⟨S256x512, .bf16⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_cst_5 : Ref sig .tc := ⟨.hbm, 24, rfl⟩
abbrev main_v9 : Ref sig .tc := ⟨.hbm, 25, rfl⟩
abbrev main_cst_6 : Ref sig .tc := ⟨.hbm, 26, rfl⟩
abbrev main_v10 : Ref sig .tc := ⟨.hbm, 27, rfl⟩
abbrev main_v11 : Ref sig .tc := ⟨.hbm, 28, rfl⟩
abbrev main_cst_7 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_8 : Ref sig .tc := ⟨.hbm, 33, rfl⟩
abbrev main_v15 : Ref sig .tc := ⟨.hbm, 34, rfl⟩
abbrev main_v16 : Ref sig .tc := ⟨.hbm, 35, rfl⟩
abbrev main_cst_9 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_call0_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_10 : Ref sig .tc := ⟨.hbm, 48, rfl⟩
abbrev main_call1_v0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_11 : Ref sig .tc := ⟨.hbm, 53, rfl⟩
abbrev main_call2_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34_0 : Ref sig .tc := ⟨.hbm, 60, rfl⟩
abbrev main_v34_1 : Ref sig .tc := ⟨.hbm, 61, rfl⟩
abbrev main_v34_2 : Ref sig .tc := ⟨.hbm, 62, rfl⟩
abbrev main_v34_3 : Ref sig .tc := ⟨.hbm, 63, rfl⟩
abbrev main_v34_4 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_2 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S768x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S1x4096x768 : Shape := ⟨3, ![1, 4096, 768]⟩
abbrev S1x4096x256 : Shape := ⟨3, ![1, 4096, 256]⟩
abbrev S1x4096x32 : Shape := ⟨3, ![1, 4096, 32]⟩
abbrev S1x768 : Shape := ⟨2, ![1, 768]⟩
abbrev S1x768x768 : Shape := ⟨3, ![1, 768, 768]⟩
abbrev S1x256 : Shape := ⟨2, ![1, 256]⟩
abbrev S1x256x1024 : Shape := ⟨3, ![1, 256, 1024]⟩
abbrev S4096x16 : Shape := ⟨2, ![4096, 16]⟩
abbrev S768 : Shape := ⟨1, ![768]⟩
abbrev S_ : Shape := ⟨0, ![]⟩
abbrev S1x4096 : Shape := ⟨2, ![1, 4096]⟩
abbrev S1x4096x1 : Shape := ⟨3, ![1, 4096, 1]⟩
abbrev S1x1x768 : Shape := ⟨3, ![1, 1, 768]⟩
abbrev S256 : Shape := ⟨1, ![256]⟩
abbrev S1x1x256 : Shape := ⟨3, ![1, 1, 256]⟩
abbrev S768x768 : Shape := ⟨2, ![768, 768]⟩
abbrev S1x4096x8x96 : Shape := ⟨4, ![1, 4096, 8, 96]⟩
abbrev S1x4096x8x64 : Shape := ⟨4, ![1, 4096, 8, 64]⟩
abbrev S1x4096x8x32 : Shape := ⟨4, ![1, 4096, 8, 32]⟩
abbrev S1x4096x8x16 : Shape := ⟨4, ![1, 4096, 8, 16]⟩
abbrev S1x4096x1x16 : Shape := ⟨4, ![1, 4096, 1, 16]⟩
abbrev S256x1024 : Shape := ⟨2, ![256, 1024]⟩
abbrev S1x4096x1024 : Shape := ⟨3, ![1, 4096, 1024]⟩
abbrev S1x4096x8x128 : Shape := ⟨4, ![1, 4096, 8, 128]⟩
abbrev S1x4096x1x32 : Shape := ⟨4, ![1, 4096, 1, 32]⟩
abbrev S1x8x4096x96 : Shape := ⟨4, ![1, 8, 4096, 96]⟩
abbrev S1x8x4096x64 : Shape := ⟨4, ![1, 8, 4096, 64]⟩

abbrev nBuf : Space → Nat
  | .hbm => 89
  | .vmem => 0
  | .smem => 0
  | _ => 0

abbrev bufTy : (tb : Table) → Fin (tcTables nBuf tb) → BufTy
  | .hbm, ⟨0, _⟩ => ⟨S1x4096x768, .f32⟩
  | .hbm, ⟨1, _⟩ => ⟨S1x4096x256, .f32⟩
  | .hbm, ⟨2, _⟩ => ⟨S1x4096x32, .f32⟩
  | .hbm, ⟨3, _⟩ => ⟨S1x768, .f32⟩
  | .hbm, ⟨4, _⟩ => ⟨S1x768x768, .f32⟩
  | .hbm, ⟨5, _⟩ => ⟨S1x256, .f32⟩
  | .hbm, ⟨6, _⟩ => ⟨S1x256x1024, .f32⟩
  | .hbm, ⟨7, _⟩ => ⟨S4096x16, .f32⟩
  | .hbm, ⟨8, _⟩ => ⟨S4096x16, .f32⟩
  | .hbm, ⟨9, _⟩ => ⟨S768, .f32⟩
  | .hbm, ⟨10, _⟩ => ⟨S1x4096x768, .f32⟩
  | .hbm, ⟨11, _⟩ => ⟨S_, .f32⟩
  | .hbm, ⟨12, _⟩ => ⟨S1x4096, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S1x4096x768, .f32⟩
  | .hbm, ⟨22, _⟩ => ⟨S1x4096x768, .f32⟩
  | .hbm, ⟨23, _⟩ => ⟨S1x1x768, .f32⟩
  | .hbm, ⟨24, _⟩ => ⟨S1x4096x768, .f32⟩
  | .hbm, ⟨25, _⟩ => ⟨S1x4096x768, .f32⟩
  | .hbm, ⟨26, _⟩ => ⟨S256, .f32⟩
  | .hbm, ⟨27, _⟩ => ⟨S1x4096x256, .f32⟩
  | .hbm, ⟨28, _⟩ => ⟨S_, .f32⟩
  | .hbm, ⟨29, _⟩ => ⟨S1x4096, .f32⟩
  | .hbm, ⟨30, _⟩ => ⟨S1x4096x1, .f32⟩
  | .hbm, ⟨31, _⟩ => ⟨S_, .f32⟩
  | .hbm, ⟨32, _⟩ => ⟨S1x4096x1, .f32⟩
  | .hbm, ⟨33, _⟩ => ⟨S1x4096x1, .f32⟩
  | .hbm, ⟨34, _⟩ => ⟨S_, .f32⟩
  | .hbm, ⟨35, _⟩ => ⟨S1x4096x1, .f32⟩
  | .hbm, ⟨36, _⟩ => ⟨S1x4096x1, .f32⟩
  | .hbm, ⟨37, _⟩ => ⟨S1x4096x1, .f32⟩
  | .hbm, ⟨38, _⟩ => ⟨S1x4096x256, .f32⟩
  | .hbm, ⟨39, _⟩ => ⟨S1x4096x256, .f32⟩
  | .hbm, ⟨40, _⟩ => ⟨S1x1x256, .f32⟩
  | .hbm, ⟨41, _⟩ => ⟨S1x4096x256, .f32⟩
  | .hbm, ⟨42, _⟩ => ⟨S1x4096x256, .f32⟩
  | .hbm, ⟨43, _⟩ => ⟨S768x768, .f32⟩
  | .hbm, ⟨44, _⟩ => ⟨S1x4096x768, .f32⟩
  | .hbm, ⟨45, _⟩ => ⟨S1x4096x8x96, .f32⟩
  | .hbm, ⟨46, _⟩ => ⟨S1x4096x8x64, .f32⟩
  | .hbm, ⟨47, _⟩ => ⟨S1x4096x8x32, .f32⟩
  | .hbm, ⟨48, _⟩ => ⟨S1x4096x8x16, .f32⟩
  | .hbm, ⟨49, _⟩ => ⟨S1x4096x8x16, .f32⟩
  | .hbm, ⟨50, _⟩ => ⟨S1x4096x1x16, .f32⟩
  | .hbm, ⟨51, _⟩ => ⟨S1x4096x1x16, .f32⟩
  | .hbm, ⟨52, _⟩ => ⟨S1x4096x8x16, .f32⟩
  | .hbm, ⟨53, _⟩ => ⟨S1x4096x8x16, .f32⟩
  | .hbm, ⟨54, _⟩ => ⟨S1x4096x8x16, .f32⟩
  | .hbm, ⟨55, _⟩ => ⟨S1x4096x8x16, .f32⟩
  | .hbm, ⟨56, _⟩ => ⟨S1x4096x8x16, .f32⟩
  | .hbm, ⟨57, _⟩ => ⟨S1x4096x8x16, .f32⟩
  | .hbm, ⟨58, _⟩ => ⟨S1x4096x8x16, .f32⟩
  | .hbm, ⟨59, _⟩ => ⟨S1x4096x8x16, .f32⟩
  | .hbm, ⟨60, _⟩ => ⟨S1x4096x8x16, .f32⟩
  | .hbm, ⟨61, _⟩ => ⟨S1x4096x8x16, .f32⟩
  | .hbm, ⟨62, _⟩ => ⟨S1x4096x8x32, .f32⟩
  | .hbm, ⟨63, _⟩ => ⟨S256x1024, .f32⟩
  | .hbm, ⟨64, _⟩ => ⟨S1x4096x1024, .f32⟩
  | .hbm, ⟨65, _⟩ => ⟨S1x4096x8x128, .f32⟩
  | .hbm, ⟨66, _⟩ => ⟨S1x4096x8x64, .f32⟩
  | .hbm, ⟨67, _⟩ => ⟨S1x4096x8x64, .f32⟩
  | .hbm, ⟨68, _⟩ => ⟨S1x4096x1x32, .f32⟩
  | .hbm, ⟨69, _⟩ => ⟨S1x4096x1x16, .f32⟩
  | .hbm, ⟨70, _⟩ => ⟨S1x4096x1x16, .f32⟩
  | .hbm, ⟨71, _⟩ => ⟨S1x4096x1x16, .f32⟩
  | .hbm, ⟨72, _⟩ => ⟨S1x4096x1x16, .f32⟩
  | .hbm, ⟨73, _⟩ => ⟨S1x4096x1x16, .f32⟩
  | .hbm, ⟨74, _⟩ => ⟨S1x4096x1x16, .f32⟩
  | .hbm, ⟨75, _⟩ => ⟨S1x4096x1x16, .f32⟩
  | .hbm, ⟨76, _⟩ => ⟨S1x4096x1x16, .f32⟩
  | .hbm, ⟨77, _⟩ => ⟨S1x4096x1x16, .f32⟩
  | .hbm, ⟨78, _⟩ => ⟨S1x4096x1x16, .f32⟩
  | .hbm, ⟨79, _⟩ => ⟨S1x4096x1x32, .f32⟩
  | .hbm, ⟨80, _⟩ => ⟨S1x4096x8x32, .f32⟩
  | .hbm, ⟨81, _⟩ => ⟨S1x4096x8x96, .f32⟩
  | .hbm, ⟨82, _⟩ => ⟨S1x8x4096x96, .f32⟩
  | .hbm, ⟨83, _⟩ => ⟨S1x4096x8x96, .f32⟩
  | .hbm, ⟨84, _⟩ => ⟨S1x8x4096x96, .f32⟩
  | .hbm, ⟨85, _⟩ => ⟨S_, .f32⟩
  | .hbm, ⟨86, _⟩ => ⟨S1x8x4096x96, .f32⟩
  | .hbm, ⟨87, _⟩ => ⟨S1x8x4096x96, .f32⟩
  | .hbm, ⟨88, _⟩ => ⟨S1x8x4096x64, .f32⟩
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_5 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩

abbrev nD : Nat := 1
abbrev τ : Topo := Topo.v7x

variable {F : FTy → Type} [FloatOps F]
-- ==== Proof.DhEntry.lean ====
module

public import proofs.«01_k».proof.Proof.Gen.KernelIdeal.Frame
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (m : (ℓ : Loc nD τ sig) → Buf (Elt Ideal) ℓ)

/-- The columns of the projection's cotangent in the kernel's order. -/
def packD (A : FVec Ideal S1x4096x5664 .f32) : FVec Ideal S4096x5760 .bf16 :=
  truncf .bf16 (concatenate S4096x5760 1 [⟨S4096x2048, extractStridedSlice S4096x2048 ![0, 3616] (shapeCast S4096x5664 A shapeCasts_S1x4096x5664_S4096x5664) slices_S4096x5664_S4096x2048_0_3616⟩, ⟨S4096x512, extractStridedSlice S4096x512 ![0, 1056] (shapeCast S4096x5664 A shapeCasts_S1x4096x5664_S4096x5664) slices_S4096x5664_S4096x512_0_1056⟩, ⟨S4096x512, extractStridedSlice S4096x512 ![0, 3104] (shapeCast S4096x5664 A shapeCasts_S1x4096x5664_S4096x5664) slices_S4096x5664_S4096x512_0_3104⟩, ⟨S4096x1536, extractStridedSlice S4096x1536 ![0, 1568] (shapeCast S4096x5664 A shapeCasts_S1x4096x5664_S4096x5664) slices_S4096x5664_S4096x1536_0_1568⟩, ⟨S4096x1024, extractStridedSlice S4096x1024 ![0, 0] (shapeCast S4096x5664 A shapeCasts_S1x4096x5664_S4096x5664) slices_S4096x5664_S4096x1024_0_0⟩, ⟨S4096x64, broadcastInDim S4096x64 ![] bcast_S_S4096x64 (constant S_ .f32 0x00000000#32)⟩, ⟨S4096x32, extractStridedSlice S4096x32 ![0, 1024] (shapeCast S4096x5664 A shapeCasts_S1x4096x5664_S4096x5664) slices_S4096x5664_S4096x32_0_1024⟩, ⟨S4096x32, broadcastInDim S4096x32 ![] bcast_S_S4096x32 (constant S_ .f32 0x00000000#32)⟩] concatenates_S4096x2048_S4096x512_S4096x512_S4096x1536_S4096x1024_S4096x64_S4096x32_S4096x32_S4096x5760_d1) bitsLt_bf16_f32

/-- The rows of the transposed weight in the kernel's order. -/
def packW (A : FVec Ideal S1x1024x5664 .f32) : FVec Ideal S5888x1024 .bf16 :=
  truncf .bf16 (transpose S5888x1024 [1, 0] (concatenate S1024x5888 1 [⟨S1024x2048, extractStridedSlice S1024x2048 ![0, 3616] (shapeCast S1024x5664 A shapeCasts_S1x1024x5664_S1024x5664) slices_S1024x5664_S1024x2048_0_3616⟩, ⟨S1024x512, extractStridedSlice S1024x512 ![0, 1056] (shapeCast S1024x5664 A shapeCasts_S1x1024x5664_S1024x5664) slices_S1024x5664_S1024x512_0_1056⟩, ⟨S1024x512, extractStridedSlice S1024x512 ![0, 3104] (shapeCast S1024x5664 A shapeCasts_S1x1024x5664_S1024x5664) slices_S1024x5664_S1024x512_0_3104⟩, ⟨S1024x1536, extractStridedSlice S1024x1536 ![0, 1568] (shapeCast S1024x5664 A shapeCasts_S1x1024x5664_S1024x5664) slices_S1024x5664_S1024x1536_0_1568⟩, ⟨S1024x1024, extractStridedSlice S1024x1024 ![0, 0] (shapeCast S1024x5664 A shapeCasts_S1x1024x5664_S1024x5664) slices_S1024x5664_S1024x1024_0_0⟩, ⟨S1024x64, broadcastInDim S1024x64 ![] bcast_S_S1024x64 (constant S_ .f32 0x00000000#32)⟩, ⟨S1024x32, extractStridedSlice S1024x32 ![0, 1024] (shapeCast S1024x5664 A shapeCasts_S1x1024x5664_S1024x5664) slices_S1024x5664_S1024x32_0_1024⟩, ⟨S1024x160, broadcastInDim S1024x160 ![] bcast_S_S1024x160 (constant S_ .f32 0x00000000#32)⟩] concatenates_S1024x2048_S1024x512_S1024x512_S1024x1536_S1024x1024_S1024x64_S1024x32_S1024x160_S1024x5888_d1) transposes_S1024x5888_S5888x1024_1_0) bitsLt_bf16_f32

set_option maxHeartbeats 2000000 in
theorem V10 (c : Dev nD) : V m c main_v10 = packD (m ((c : Thread nD τ).loc main_arg3)) := by
  rfl

set_option maxHeartbeats 2000000 in
theorem V22 (c : Dev nD) : V m c main_v22 = packW (m ((c : Thread nD τ).loc main_arg2)) := by
  rfl

/-- Entry `j` of a row in the kernel's order, zero on the padding. -/
def lad (f : Fin 5664 → EReal) (j : ℕ) : EReal :=
  if h : j < 2048 then f ⟨3616 + j, by omega⟩
  else if h : j - 2048 < 512 then f ⟨1056 + (j - 2048), by omega⟩
  else if h : j - 2048 - 512 < 512 then f ⟨3104 + (j - 2048 - 512), by omega⟩
  else if h : j - 2048 - 512 - 512 < 1536 then f ⟨1568 + (j - 2048 - 512 - 512), by omega⟩
  else if h : j - 2048 - 512 - 512 - 1536 < 1024 then f ⟨j - 2048 - 512 - 512 - 1536, by omega⟩
  else if h : j - 2048 - 512 - 512 - 1536 - 1024 < 64 then 0
  else if h : j - 2048 - 512 - 512 - 1536 - 1024 - 64 < 32 then
    f ⟨1024 + (j - 2048 - 512 - 512 - 1536 - 1024 - 64), by omega⟩
  else 0

theorem packD_apply (A : FVec Ideal S1x4096x5664 .f32) (r : Fin 4096) (j : Fin 5760) :
    packD A (ix2 r j) = lad (fun c => A (ix3 0 r c)) j := by
  pointwise [packD]
  rfl

theorem packW_apply (A : FVec Ideal S1x1024x5664 .f32) (r : Fin 1024) (j : Fin 5888) :
    packW A (ix2 j r) = lad (fun c => A (ix3 0 r c)) j := by
  pointwise [packW]
  rfl

/-- Where the kernel keeps column `c`. -/
def place (c : Fin 5664) : Fin 5760 :=
  if h : c.val < 1024 then ⟨4608 + c.val, by omega⟩
  else if h : c.val < 1056 then ⟨5696 + (c.val - 1024), by omega⟩
  else if h : c.val < 1568 then ⟨2048 + (c.val - 1056), by omega⟩
  else if h : c.val < 3104 then ⟨3072 + (c.val - 1568), by omega⟩
  else if h : c.val < 3616 then ⟨2560 + (c.val - 3104), by omega⟩
  else ⟨c.val - 3616, by omega⟩

theorem place_inj {a b : Fin 5664} (h : place a = place b) : a = b := by
  have h' := congrArg Fin.val h
  have ha := a.isLt; have hb := b.isLt
  unfold place at h'
  apply Fin.ext
  split_ifs at h' <;> simp only at h' <;> omega

theorem place_cases (c : Fin 5664) :
    (c.val < 1024 ∧ (place c).val = 4608 + c.val)
    ∨ (1024 ≤ c.val ∧ c.val < 1056 ∧ (place c).val = 5696 + (c.val - 1024))
    ∨ (1056 ≤ c.val ∧ c.val < 1568 ∧ (place c).val = 2048 + (c.val - 1056))
    ∨ (1568 ≤ c.val ∧ c.val < 3104 ∧ (place c).val = 3072 + (c.val - 1568))
    ∨ (3104 ≤ c.val ∧ c.val < 3616 ∧ (place c).val = 2560 + (c.val - 3104))
    ∨ (3616 ≤ c.val ∧ (place c).val = c.val - 3616) := by
  unfold place
  split_ifs
  · exact .inl ⟨by omega, rfl⟩
  · exact .inr (.inl ⟨by omega, by omega, rfl⟩)
  · exact .inr (.inr (.inl ⟨by omega, by omega, rfl⟩))
  · exact .inr (.inr (.inr (.inl ⟨by omega, by omega, rfl⟩)))
  · exact .inr (.inr (.inr (.inr (.inl ⟨by omega, by omega, rfl⟩))))
  · exact .inr (.inr (.inr (.inr (.inr ⟨by omega, rfl⟩))))

theorem lad_place (f : Fin 5664 → EReal) (c : Fin 5664) : lad f (place c) = f c := by
  have hc := c.isLt
  have h := place_cases c
  generalize (place c).val = j at h
  have hf : ∀ (n : ℕ) (hn : n < 5664), n = c.val → f ⟨n, hn⟩ = f c := fun n hn e => congrArg f (Fin.ext e)
  unfold lad
  split_ifs <;> first
    | exact hf _ _ (by omega)
    | (exfalso; omega)

theorem lad_off (f : Fin 5664 → EReal) (j : Fin 5760) (h : ∀ c, place c ≠ j) : lad f j = 0 := by
  have hj := j.isLt
  have key : ∀ (n : ℕ) (hn : n < 5664), (place ⟨n, hn⟩).val ≠ j.val := fun n hn e => h ⟨n, hn⟩ (Fin.ext e)
  unfold lad
  split_ifs with h1 h2 h3 h4 h5 h6 h7
  · exact (key (3616 + j) (by omega) (by unfold place; simp only; split_ifs <;> simp only <;> omega)).elim
  · exact (key (1056 + (j - 2048)) (by omega) (by unfold place; simp only; split_ifs <;> simp only <;> omega)).elim
  · exact (key (3104 + (j - 2048 - 512)) (by omega) (by unfold place; simp only; split_ifs <;> simp only <;> omega)).elim
  · exact (key (1568 + (j - 2048 - 512 - 512)) (by omega) (by unfold place; simp only; split_ifs <;> simp only <;> omega)).elim
  · exact (key (j - 2048 - 512 - 512 - 1536) (by omega) (by unfold place; simp only; split_ifs <;> simp only <;> omega)).elim
  · rfl
  · exact (key (1024 + (j - 2048 - 512 - 512 - 1536 - 1024 - 64)) (by omega) (by unfold place; simp only; split_ifs <;> simp only <;> omega)).elim
  · rfl

/-- A contraction over the kernel's columns is the contraction over the projection's. -/
theorem sum_lad (f g : Fin 5664 → EReal) : ∑ j : Fin 5760, lad f j * lad g j = ∑ c : Fin 5664, f c * g c := by
  symm
  refine Finset.sum_of_injOn place (fun a _ b _ h => place_inj h) (fun _ _ => Finset.mem_coe.2 (Finset.mem_univ _)) ?_ ?_
  · intro j _ hj
    have : ∀ c, place c ≠ j := fun c e => hj ⟨c, Finset.mem_coe.2 (Finset.mem_univ c), e⟩
    rw [lad_off f j this, zero_mul]
  · intro c _
    rw [lad_place, lad_place]

theorem entry_x (c : Dev nD) (r : Fin 4096) (j : Fin 1024) :
    V m c main_v23 (ix2 r j) = m ((c : Thread nD τ).loc main_arg0) (ix3 0 r j) := by
  entry_read
  pointwise

theorem entry_dout (c : Dev nD) (r : Fin 4096) (j : Fin 1024) :
    V m c main_v24 (ix2 r j) = m ((c : Thread nD τ).loc main_arg4) (ix3 0 r j) := by
  entry_read
  pointwise

end Cert.KernelIdeal.Val

end
-- ==== Proof.Norm.lean ====
module

public import Idealize.ShloMosaic.Lib.Pointwise
public import Idealize.ShloMosaic.Lib.IdealHost

@[expose] public section

noncomputable section

open Idealize.ShloMosaic

namespace Cert.Norm

/-- A real number at least zero goes into a sum of extended reals. -/
theorem coe_mul_sum {n : ℕ} (a : ℝ) (ha : 0 ≤ a) (f : Fin n → EReal) :
    (a : EReal) * ∑ k, f k = ∑ k, (a : EReal) * f k := by
  have key : ∀ s : Finset (Fin n), (a : EReal) * ∑ k ∈ s, f k = ∑ k ∈ s, (a : EReal) * f k := by
    intro s
    induction s using Finset.cons_induction with
    | empty => simp
    | cons b s hb ih =>
      rw [Finset.sum_cons, Finset.sum_cons, ← ih,
        EReal.left_distrib_of_nonneg_of_ne_top (EReal.coe_nonneg.2 ha) (EReal.coe_ne_top a)]
  exact key _

/-- A sum of squares is infinite or a real number at least zero. -/
theorem sum_sq {n : ℕ} (x : Fin n → EReal) :
    (∑ k, x k * x k) = ⊤ ∨ ∃ a : ℝ, 0 ≤ a ∧ (∑ k, x k * x k) = (a : EReal) := by
  have h0 : (0 : EReal) ≤ ∑ k, x k * x k := by
    refine Finset.sum_nonneg fun k _ => ?_
    induction x k with
    | bot => simp
    | top => simp
    | coe r => rw [← EReal.coe_mul]; exact EReal.coe_nonneg.2 (mul_self_nonneg r)
  generalize (∑ k, x k * x k) = S at h0 ⊢
  induction S with
  | bot => simp at h0
  | top => exact .inl rfl
  | coe r => exact .inr ⟨r, EReal.coe_nonneg.1 h0, rfl⟩

/-- The reciprocal root of a mean square: zero, or a positive real number. -/
theorem rsqrt_cases {n : ℕ} (x : Fin n → EReal) (c ε : ℝ) (hc : 0 < c) (hε : 0 < ε) :
    (Ideal.div (∑ k, x k * x k) (c : EReal) + (ε : EReal) = ⊤
      ∧ Ideal.rsqrt (Ideal.div (∑ k, x k * x k) (c : EReal) + (ε : EReal)) = 0)
    ∨ ∃ ρ : ℝ, 0 < ρ ∧ Ideal.div (∑ k, x k * x k) (c : EReal) + (ε : EReal) = (((ρ * ρ)⁻¹ : ℝ) : EReal)
      ∧ Ideal.rsqrt (Ideal.div (∑ k, x k * x k) (c : EReal) + (ε : EReal)) = (ρ : EReal) := by
  rw [Ideal.div_coe hc.ne']
  rcases sum_sq x with h | ⟨a, ha, h⟩
  · left
    have : (⊤ : EReal) * ((1 / c : ℝ) : EReal) + (ε : EReal) = ⊤ := by
      rw [EReal.top_mul_coe_of_pos (by positivity), EReal.top_add_coe]
    rw [h, this]
    exact ⟨rfl, rfl⟩
  · right
    have hu : 0 < a * (1 / c) + ε := by positivity
    refine ⟨(Real.sqrt (a * (1 / c) + ε))⁻¹, inv_pos.2 (Real.sqrt_pos.2 hu), ?_, ?_⟩
    · rw [h, ← EReal.coe_mul, ← EReal.coe_add, ← mul_inv, inv_inv, Real.mul_self_sqrt hu.le]
    · rw [h, ← EReal.coe_mul, ← EReal.coe_add, Ideal.rsqrt_coe, if_neg (not_lt.2 hu.le), if_neg hu.ne']

theorem twice (P : EReal) (q : ℝ) : P * (q : EReal) + P * (q : EReal) = P * ((2 * q : ℝ) : EReal) := by
  induction P with
  | coe p => rw [← EReal.coe_mul, ← EReal.coe_add, ← EReal.coe_mul]; congr 1; ring
  | top =>
    rcases lt_trichotomy q 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy q 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The gradient through a root-mean-square normalisation: the closed form against the two halves that the chain rule
    adds. -/
theorem grad {n : ℕ} (x e : Fin n → EReal) (c ε : ℝ) (hc : 0 < c) (hε : 0 < ε) (D : EReal) (j : Fin n)
    (u r W : EReal) (hu : u = Ideal.div (∑ k, x k * x k) (c : EReal) + (ε : EReal)) (hr : r = Ideal.rsqrt u)
    (hW : W = Ideal.div ((∑ k, x k * e k) * (((-(1 / 2) : ℝ) : EReal) * Ideal.div r u)) (c : EReal)) :
    D + r * (e j - x j * r * Ideal.div (∑ k, e k * (x k * r)) (c : EReal)) = D + e j * r + x j * W + W * x j := by
  rcases rsqrt_cases x c ε hc hε with ⟨h1, h2⟩ | ⟨ρ, hρ, h1, h2⟩
  · rw [← hu] at h1 h2
    rw [← hr] at h2
    rw [h2, h1] at hW
    have : W = 0 := by
      rw [hW]
      simp [Ideal.div, hc.ne']
    rw [h2, this]
    simp
  · rw [← hu] at h1 h2
    rw [← hr] at h2
    have hs : (∑ k, e k * (x k * r)) = (ρ : EReal) * ∑ k, x k * e k := by
      rw [coe_mul_sum ρ hρ.le, h2]
      refine Finset.sum_congr rfl fun k _ => ?_
      rw [mul_comm (ρ : EReal), mul_comm (x k) (e k), mul_assoc]
    rw [hs, Ideal.div_coe hc.ne']
    rw [Ideal.div_coe hc.ne', h1, h2, Ideal.div_coe (by positivity), ← EReal.coe_mul, ← EReal.coe_mul, mul_assoc,
      ← EReal.coe_mul] at hW
    rw [h2, sub_eq_add_neg,
      EReal.left_distrib_of_nonneg_of_ne_top (EReal.coe_nonneg.2 hρ.le) (EReal.coe_ne_top ρ), add_assoc, add_assoc]
    generalize (∑ k, x k * e k) = S at hW ⊢
    congr 1
    rw [mul_comm (ρ : EReal) (e j)]
    congr 1
    rw [hW, mul_comm (S * _) (x j), ← mul_assoc (x j) S, twice]
    have : (ρ : EReal) * (x j * (ρ : EReal) * ((ρ : EReal) * S * ((1 / c : ℝ) : EReal)))
        = x j * S * ((ρ * ρ * ρ * (1 / c) : ℝ) : EReal) := by
      rw [EReal.coe_mul, EReal.coe_mul, EReal.coe_mul]
      ac_rfl
    rw [mul_neg, this, ← mul_neg, ← EReal.coe_neg]
    congr 2
    have := hρ.ne'
    field_simp

theorem n1024 : Ideal.ofBits .f32 0x44800000#32 = ((1024 : ℝ) : EReal) := by
  simp [Ideal.ofBits, Ideal.ieee]; rw [← EReal.coe_mul]; norm_num

theorem nhalf : Ideal.ofBits .f32 0xBF000000#32 = ((-(1 / 2) : ℝ) : EReal) := by
  simp [Ideal.ofBits, Ideal.ieee]; rw [← EReal.coe_mul]; norm_num

/-- The small constant is a positive real number. -/
theorem eps : ∃ ε : ℝ, 0 < ε ∧ Ideal.ofBits .f32 0x358637BD#32 = (ε : EReal) := by
  refine ⟨_, ?_, by simp [Ideal.ofBits, Ideal.ieee]; rw [← EReal.coe_mul]⟩
  norm_num

end Cert.Norm

end
-- ==== Proof.DhPoint.lean ====
module

public import proofs.«01_k».proof.Proof.DhEntry
public import proofs.«01_k».proof.Proof.Norm
public import proofs.«01_k».proof.Proof.Gen.KernelIdeal.Value
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- One element of a block's product. -/
def prod (D : Vec Ideal S256x5760 .bf16) (W : Vec Ideal S5760x1024 .bf16) (a : Fin 256) (k : Fin 1024) : EReal :=
  ∑ l : Fin 5760, D (ix2 a l) * W (ix2 l k)

/-- The mean square of a row, and the small constant. -/
def u (X : Vec Ideal S256x1024 .f32) (a : Fin 256) : EReal :=
  Ideal.div (∑ k : Fin 1024, X (ix2 a k) * X (ix2 a k)) (1024 : ℝ) + (Ideal.ofBits .f32 0x358637BD#32)

theorem pay_dx (D : Vec Ideal S256x5760 .bf16) (W : Vec Ideal S5760x1024 .bf16) (X DO : Vec Ideal S256x1024 .f32)
    (G : Vec Ideal S1x1024 .f32) (a : Fin 256) (k : Fin 1024) :
    k0_pay1 (F := Ideal) (k0_pay5 X) (k0_pay6 X) (k0_pay8 D W G) (k0_pay9 DO) (k0_pay10 D W X G) (ix2 a k)
      = DO (ix2 a k) + Ideal.rsqrt (u X a) * (prod D W a k * G (ix2 0 k) - X (ix2 a k) * Ideal.rsqrt (u X a)
          * Ideal.div (∑ l : Fin 1024, prod D W a l * G (ix2 0 l) * (X (ix2 a l) * Ideal.rsqrt (u X a))) (1024 : ℝ)) := by
  rw [← Norm.n1024]
  unfold u
  rw [← Norm.n1024]
  pointwise [k0_pay1, k0_pay3, k0_pay4, k0_pay5, k0_pay6, k0_pay8, k0_pay9, k0_pay10, prod]

theorem pay_dg (D : Vec Ideal S256x5760 .bf16) (W : Vec Ideal S5760x1024 .bf16) (X : Vec Ideal S256x1024 .f32)
    (A : Vec Ideal S1x1024 .f32) (k : Fin 1024) :
    k0_pay7 (F := Ideal) D W X A (ix2 0 k)
      = A (ix2 0 k) + ∑ a : Fin 256, prod D W a k * (X (ix2 a k) * Ideal.rsqrt (u X a)) := by
  unfold u
  rw [← Norm.n1024]
  pointwise [k0_pay7, k0_pay3, k0_pay4, k0_pay5, k0_pay6, prod]

theorem pay_zero (j : S1x1024.Idx) : k0_pay2 (F := Ideal) j = 0 := by pointwise [k0_pay2]

/-! ## The blocks at the arguments -/

/-- One element of the product over the projection's own columns. -/
def dh (DP : Vec Ideal S1x4096x5664 .f32) (W : Vec Ideal S1x1024x5664 .f32) (r : Fin 4096) (k : Fin 1024) : EReal :=
  ∑ l : Fin 5664, DP (ix3 0 r l) * W (ix3 0 k l)

def ux (X : Vec Ideal S1x4096x1024 .f32) (r : Fin 4096) : EReal :=
  Ideal.div (∑ k : Fin 1024, X (ix3 0 r k) * X (ix3 0 r k)) (1024 : ℝ) + (Ideal.ofBits .f32 0x358637BD#32)

theorem w_block (c : Dev nD) (t : Fin cfg0.N) (l : Fin 5760) (k : Fin 1024) :
    X0_1 m c t (ix2 l k) = V m c main_v22 (ix2 ⟨l.val, by omega⟩ k) := by
  unfold X0_1 Pipeline.Window.fill
  rw [dif_pos (moved0_1 t _)]
  blk_point [iblk, V, idx t]

theorem row_lt (t : Fin cfg0.N) (a : Fin 256) : t.val * 256 + a.val < 4096 := by
  have := t.isLt; have h : cfg0.N = 16 := N_0; omega

abbrev row (t : Fin cfg0.N) (a : Fin 256) : Fin 4096 := ⟨t.val * 256 + a.val, row_lt t a⟩

theorem d_block (c : Dev nD) (t : Fin cfg0.N) (a : Fin 256) (l : Fin 5760) :
    iblk m c 0 t (ix2 a l) = V m c main_v10 (ix2 (row t a) l) := by
  blk_point [iblk, V, idx t]

theorem x_block (c : Dev nD) (t : Fin cfg0.N) (a : Fin 256) (k : Fin 1024) :
    iblk m c 2 t (ix2 a k) = m ((c : Thread nD τ).loc main_arg0) (ix3 0 (row t a) k) := by
  rw [← entry_x m]
  blk_point [iblk, V, idx t]

theorem dout_block (c : Dev nD) (t : Fin cfg0.N) (a : Fin 256) (k : Fin 1024) :
    iblk m c 3 t (ix2 a k) = m ((c : Thread nD τ).loc main_arg4) (ix3 0 (row t a) k) := by
  rw [← entry_dout m]
  blk_point [iblk, V, idx t]

theorem g_block (c : Dev nD) (t : Fin cfg0.N) (k : Fin 1024) :
    iblk m c 4 t (ix2 0 k) = m ((c : Thread nD τ).loc main_arg1) (ix2 0 k) := by
  blk_point [iblk, V, idx t]

theorem prod_block (c : Dev nD) (t : Fin cfg0.N) (a : Fin 256) (k : Fin 1024) :
    prod (iblk m c 0 t) (X0_1 m c t) a k
      = dh (m ((c : Thread nD τ).loc main_arg3)) (m ((c : Thread nD τ).loc main_arg2)) (row t a) k := by
  unfold prod dh
  rw [← sum_lad]
  refine Fin.sum_fin_congr fun l => ?_
  rw [w_block, V22, packW_apply, d_block, V10, packD_apply]

theorem u_block (c : Dev nD) (t : Fin cfg0.N) (a : Fin 256) :
    u (iblk m c 2 t) a = ux (m ((c : Thread nD τ).loc main_arg0)) (row t a) := by
  unfold u ux
  simp only [x_block]

/-! ## The two arrays the kernel leaves -/

/-- The gradient of a row's element. -/
def dx (X : Vec Ideal S1x4096x1024 .f32) (G : Vec Ideal S1x1024 .f32) (W : Vec Ideal S1x1024x5664 .f32)
    (DP : Vec Ideal S1x4096x5664 .f32) (DO : Vec Ideal S1x4096x1024 .f32) (r : Fin 4096) (k : Fin 1024) : EReal :=
  DO (ix3 0 r k) + Ideal.rsqrt (ux X r) * (dh DP W r k * G (ix2 0 k) - X (ix3 0 r k) * Ideal.rsqrt (ux X r)
    * Ideal.div (∑ l : Fin 1024, dh DP W r l * G (ix2 0 l) * (X (ix3 0 r l) * Ideal.rsqrt (ux X r))) (1024 : ℝ))

def dgTerm (X : Vec Ideal S1x4096x1024 .f32) (W : Vec Ideal S1x1024x5664 .f32) (DP : Vec Ideal S1x4096x5664 .f32)
    (r : Fin 4096) (k : Fin 1024) : EReal :=
  dh DP W r k * (X (ix3 0 r k) * Ideal.rsqrt (ux X r))

theorem point_dx (c : Dev nD) (t : Fin cfg0.N) (a : Fin 256) (k : Fin 1024) :
    k0_pay1 (F := Ideal) (k0_pay5 (iblk m c 2 t)) (k0_pay6 (iblk m c 2 t))
      (k0_pay8 (iblk m c 0 t) (X0_1 m c t) (iblk m c 4 t)) (k0_pay9 (iblk m c 3 t))
      (k0_pay10 (iblk m c 0 t) (X0_1 m c t) (iblk m c 2 t) (iblk m c 4 t)) (ix2 a k)
    = dx (m ((c : Thread nD τ).loc main_arg0)) (m ((c : Thread nD τ).loc main_arg1))
        (m ((c : Thread nD τ).loc main_arg2)) (m ((c : Thread nD τ).loc main_arg3)) (m ((c : Thread nD τ).loc main_arg4))
        (row t a) k := by
  rw [pay_dx]
  unfold dx
  simp only [x_block, dout_block, g_block, prod_block, u_block]

theorem point_dg (c : Dev nD) (t : Fin cfg0.N) (A : Vec Ideal S1x1024 .f32) (j : S1x1024.Idx) :
    k0_pay7 (F := Ideal) (iblk m c 0 t) (X0_1 m c t) (iblk m c 2 t) A j
    = A j + ∑ a : Fin 256, dgTerm (m ((c : Thread nD τ).loc main_arg0)) (m ((c : Thread nD τ).loc main_arg2))
        (m ((c : Thread nD τ).loc main_arg3)) (row t a) (j 1) := by
  idx_vars j
  rw [Subsingleton.elim j0 0, pay_dg]
  unfold dgTerm
  simp only [x_block, prod_block, u_block]

theorem final_dx (c : Dev nD) : (dats m 0 c).arrAt 5 (cfgs 0).N
    = fun i : S4096x1024.Idx => dx (m ((c : Thread nD τ).loc main_arg0)) (m ((c : Thread nD τ).loc main_arg1))
        (m ((c : Thread nD τ).loc main_arg2)) (m ((c : Thread nD τ).loc main_arg3)) (m ((c : Thread nD τ).loc main_arg4)) (i 0) (i 1) := by
  refine (dats m 0 c).arrAt_eq_of_covers 5 _ (by decide +kernel) fun t _ y => ?_
  blk_simp
  rw [after0_5]
  idx_vars y
  have e0 : ((View.whole main_v25_0).slice (win0_5.rect t)).emb (ix2 y0 y1) 0 = row t y0 := by
    apply Fin.ext; blk_simp [idx t]
  have e1 : ((View.whole main_v25_0).slice (win0_5.rect t)).emb (ix2 y0 y1) 1 = y1 := by
    apply Fin.ext; blk_simp [idx t]
  rw [e0, e1]
  by_cases h : t.val % 16 = 0
  · rw [outsAt0_A m c t h]; frame_out
    exact point_dx m c t y0 y1
  · rw [outsAt0_B m c t h]; frame_out
    exact point_dx m c t y0 y1

/-- The gradient of the gain. -/
def dg (X : Vec Ideal S1x4096x1024 .f32) (W : Vec Ideal S1x1024x5664 .f32) (DP : Vec Ideal S1x4096x5664 .f32)
    (k : Fin 1024) : EReal :=
  ∑ r : Fin 4096, dgTerm X W DP r k

theorem final_dg (c : Dev nD) : (dats m 0 c).arrAt 6 (cfgs 0).N
    = fun i : S1x1024.Idx => dg (m ((c : Thread nD τ).loc main_arg0))
        (m ((c : Thread nD τ).loc main_arg2)) (m ((c : Thread nD τ).loc main_arg3)) (i 1) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0) _
    (fun t h j => by
      rw [outsAt0_A m c t h]; frame_out; rw [point_dg, pay_zero])
    (fun t h j => by rw [outsAt0_B m c t h]; frame_out; rw [point_dg])
    (le_of_eq N_0) t0_15 rfl _, zero_add]
  unfold dg
  exact Fin.sum_mul_add_congr (fun t a hl => rfl)

end Cert.KernelIdeal.Val

end
-- ==== Proof.Reduce.lean ====
module

public import Idealize.ShloMosaic.Lib.Pointwise
public import Idealize.ShloMosaic.Lib.IdealHost

@[expose] public section

noncomputable section

open Idealize.ShloMosaic

namespace Cert.Norm

variable {n : Nat}

/-- A reduction whose fibre has one element. -/
theorem reduce_one {s t : Shape} {axes : List (Fin s.rank)} (h : s.ReducesTo axes t) (v : s.Idx → EReal) (init : EReal)
    (j : t.Idx) (i0 : s.Idx) (h0 : ∀ i, h.drop i = j ↔ i = i0) : Ideal.hostReduceAdd h v init j = init + v i0 := by
  unfold Ideal.hostReduceAdd
  congr 1
  have : Finset.univ.filter (fun i => h.drop i = j) = {i0} := by
    ext i
    simp [h0 i]
  rw [this, Finset.sum_singleton]

theorem reduce_11n (h : (⟨3, ![1, 1, n]⟩ : Shape).ReducesTo [0, 1] ⟨1, ![n]⟩) (v : (⟨3, ![1, 1, n]⟩ : Shape).Idx → EReal)
    (init : EReal) (k : Fin n) : Ideal.hostReduceAdd h v init (ix1 k) = init + v (ix3 0 0 k) := by
  refine reduce_one h v init _ _ fun i => ⟨fun e => ?_, fun e => ?_⟩
  · funext a
    apply Fin.ext
    match a with
    | ⟨0, _⟩ => exact (congrArg Fin.val (Subsingleton.elim (α := Fin 1) (i 0) 0))
    | ⟨1, _⟩ => exact (congrArg Fin.val (Subsingleton.elim (α := Fin 1) (i 1) 0))
    | ⟨2, _⟩ => exact congrArg Fin.val (congrFun e 0)
  · subst e
    funext b
    apply Fin.ext
    match b with
    | ⟨0, _⟩ => rfl

theorem reduce_1n1 (h : (⟨3, ![1, n, 1]⟩ : Shape).ReducesTo [0, 2] ⟨1, ![n]⟩) (v : (⟨3, ![1, n, 1]⟩ : Shape).Idx → EReal)
    (init : EReal) (k : Fin n) : Ideal.hostReduceAdd h v init (ix1 k) = init + v (ix3 0 k 0) := by
  refine reduce_one h v init _ _ fun i => ⟨fun e => ?_, fun e => ?_⟩
  · funext a
    apply Fin.ext
    match a with
    | ⟨0, _⟩ => exact (congrArg Fin.val (Subsingleton.elim (α := Fin 1) (i 0) 0))
    | ⟨2, _⟩ => exact (congrArg Fin.val (Subsingleton.elim (α := Fin 1) (i 2) 0))
    | ⟨1, _⟩ => exact congrArg Fin.val (congrFun e 0)
  · subst e
    funext b
    apply Fin.ext
    match b with
    | ⟨0, _⟩ => rfl

end Cert.Norm

end
-- ==== Proof.DhRef.lean ====
module

public import proofs.«01_k».proof.Proof.DhPoint
public import proofs.«01_k».proof.Proof.Reduce
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.ReferenceIdeal.Read
open Cert.KernelIdeal.Val (dh ux dx dg dgTerm)

variable (X : FVec Ideal S1x4096x1024 .f32) (G : FVec Ideal S1x1024 .f32) (W : FVec Ideal S1x1024x5664 .f32)
    (DP : FVec Ideal S1x4096x5664 .f32) (DO : FVec Ideal S1x4096x1024 .f32)

theorem u_read (r : Fin 4096) : val_main_v7 (F := Ideal) X (ix3 0 r 0) = ux X r := by
  unfold ux
  rw [← Norm.n1024]
  pointwise [val_main_v7, val_main_v6, val_main_cst_1, val_main_v5, val_main_v4, val_main_cst_0, val_main_v3, val_main_v2,
    val_main_cst, val_main_v1]

theorem dh_read (r : Fin 4096) (k : Fin 1024) : val_main_v19 (F := Ideal) W DP (ix3 0 r k) = dh DP W r k := by
  pointwise [val_main_v19, val_main_v17, dh]

theorem xh_read (r : Fin 4096) (k : Fin 1024) :
    val_main_v13 (F := Ideal) X (ix3 0 r k) = X (ix3 0 r k) * Ideal.rsqrt (ux X r) := by
  rw [← u_read]
  pointwise [val_main_v13, val_main_v12, val_main_v8]

theorem e_read (r : Fin 4096) (k : Fin 1024) :
    val_main_v24 (F := Ideal) G W DP (ix3 0 r k) = dh DP W r k * G (ix2 0 k) := by
  rw [← dh_read]
  pointwise [val_main_v24, val_main_v23, val_main_v14, val_main_v0]

theorem dg_read (k : Fin 1024) : val_main_v42 (F := Ideal) X W DP (ix2 0 k) = dg X W DP k := by
  unfold dg dgTerm
  simp only [← dh_read, ← xh_read]
  pointwise [val_main_v42, val_main_v25, val_main_v22, val_main_v21, val_main_v20, val_main_cst_3, val_main_cst_4]
  rw [Norm.reduce_11n]
  pointwise
  simp only [mul_comm]

/-- The part of a row's gradient that goes through its scale. -/
def thru (r : Fin 4096) : EReal :=
  Ideal.div ((∑ k : Fin 1024, X (ix3 0 r k) * (dh DP W r k * G (ix2 0 k)))
    * (((-(1 / 2) : ℝ) : EReal) * Ideal.div (Ideal.rsqrt (ux X r)) (ux X r))) ((1024 : ℝ) : EReal)

theorem thru_read (r : Fin 4096) (k : Fin 1024) : val_main_v37 (F := Ideal) X G W DP (ix3 0 r k) = thru X G W DP r := by
  unfold thru
  rw [← Norm.n1024, ← Norm.nhalf]
  simp only [← u_read, ← e_read]
  pointwise [val_main_v37, val_main_v36, val_main_v35, val_main_v34, val_main_v33, val_main_v32, val_main_cst_6,
    val_main_cst_7, val_main_v28, val_main_v27, val_main_v26, val_main_cst_5, val_main_v11, val_main_v10, val_main_v9,
    val_main_v8, val_main_cst_2]
  rw [Norm.reduce_1n1]
  pointwise

theorem dx_read (r : Fin 4096) (k : Fin 1024) : val_main_v43 (F := Ideal) X G W DP DO (ix2 r k) = dx X G W DP DO r k := by
  obtain ⟨ε, hε, he⟩ := Norm.eps
  unfold dx
  rw [Norm.grad (fun l => X (ix3 0 r l)) (fun l => dh DP W r l * G (ix2 0 l)) 1024 ε (by norm_num) hε _ k (ux X r) _
    (thru X G W DP r) (by unfold ux; rw [he]) rfl rfl]
  rw [← thru_read (k := k), ← e_read, ← u_read]
  pointwise [val_main_v43, val_main_v41, val_main_v40, val_main_v39, val_main_v38, val_main_v31, val_main_v30, val_main_v29,
    val_main_v8]

end Cert.ReferenceIdeal.Val

end
-- ==== Proof.AttnStep.lean ====
/-
  The attention's backward region, one grid point: what its stores leave in the three accumulators, as functions of the
  blocks it reads and of what the accumulators held before, for any float values. A load reads a window of a vector and a
  store puts a window back (`VecWindow`).
-/
module

public import proofs.«01_k».proof.Proof.Gen.Kernel2Ideal.Skeleton
public import Idealize.ShloMosaic.Lib.VecWindow

@[expose] public section

set_option maxRecDepth 16384

noncomputable section

namespace Cert.Kernel2Ideal.Attn

open Cert.Kernel2Ideal Cert.Kernel2Ideal.Gen
open Idealize.ShloMosaic Idealize.SL.Sem
open VecWindow (window put)

variable {F : FTy → Type} [FloatOps F] [Named F]

/-- `f` applied to `a` once per trip before trip `k`, in order; past the last trip nothing more. -/
def upTo {α : Type} {N : ℕ} (f : Fin N → α → α) (a : α) : ℕ → α
  | 0 => a
  | k + 1 => if h : k < N then f ⟨k, h⟩ (upTo f a k) else upTo f a k

theorem upTo_succ {α : Type} {N : ℕ} (f : Fin N → α → α) (a : α) (k : Fin N) :
    upTo f a (k.val + 1) = f k (upTo f a k.val) := by
  rw [upTo, dif_pos k.isLt]

/-- `g` applied to the window of `x` of sizes `size` at `off`, the rest of `x` kept. -/
def bump {α : Type} {s : Shape} (x : s.Idx → α) (off size : Fin s.rank → ℕ) (inb : ∀ a, off a + size a ≤ s.size a)
    (g : ((Rect.unit off size inb).shape.Idx → α) → ((a : Fin s.rank) → Fin (size a)) → α) : s.Idx → α :=
  put x off size (g (window x off size inb))

/-- `g` applied to the window of `x` at `off` and `g'` to its window at `off'`, apart from the first. -/
def bump2 {α : Type} {s : Shape} (x : s.Idx → α) (off size : Fin s.rank → ℕ) (inb : ∀ a, off a + size a ≤ s.size a)
    (g : ((Rect.unit off size inb).shape.Idx → α) → ((a : Fin s.rank) → Fin (size a)) → α)
    (off' size' : Fin s.rank → ℕ) (inb' : ∀ a, off' a + size' a ≤ s.size a)
    (g' : ((Rect.unit off' size' inb').shape.Idx → α) → ((a : Fin s.rank) → Fin (size' a)) → α) : s.Idx → α :=
  put (put x off size (g (window x off size inb))) off' size' (g' (window x off' size' inb'))

variable (i : grid0.Coords)

/-! ## The key block's two heads -/

/-- Head 0's lanes of a key block. -/
def lo (x : Vec F S512x256 .bf16) : FVec F S512x128 .bf16 := window x ![0, 0] S512x128.size inb_S512x256_S512x128_0_0
/-- Head 1's lanes of a key block. -/
def hi (x : Vec F S512x256 .bf16) : FVec F S512x128 .bf16 := window x ![0, 128] S512x128.size inb_S512x256_S512x128_0_128

/-! ## One later query block -/

section Trip

variable (k v : Vec F S512x256 .bf16) (q d : Vec F S4096x256 .bf16) (t : Fin (k0_t1_loop i).trips)

/-- Head 0's rows of query block `t` after the key block's own. -/
def rows5 (x : Vec F S4096x256 .bf16) : FVec F S512x128 .bf16 := window x (k0_off5 i t) S512x128.size (k0_off5_inb i t)
/-- Head 1's rows of query block `t` after the key block's own. -/
def rows6 (x : Vec F S4096x256 .bf16) : FVec F S512x128 .bf16 := window x (k0_off6 i t) S512x128.size (k0_off6_inb i t)

/-- The accumulator of the values' gradient after trip `t`. -/
def tripV (x : Vec F S512x256 .f32) : Vec F S512x256 .f32 :=
  bump2 x ![0, 0] S512x128.size inb_S512x256_S512x128_0_0
      (k0_pay24 (k0_pay37 (lo k)) (rows5 i t q) (rows5 i t d))
    ![0, 128] S512x128.size inb_S512x256_S512x128_0_128
    (k0_pay7 (k0_pay38 (hi k)) (rows6 i t q) (rows6 i t d))

/-- The accumulator of the keys' gradient after trip `t`. -/
def tripK (x : Vec F S512x256 .f32) : Vec F S512x256 .f32 :=
  bump2 x ![0, 0] S512x128.size inb_S512x256_S512x128_0_0
      (k0_pay25 (k0_pay37 (lo k)) (k0_pay39 (lo v)) (rows5 i t q) (rows5 i t d))
    ![0, 128] S512x128.size inb_S512x256_S512x128_0_128
    (k0_pay8 (k0_pay38 (hi k)) (k0_pay40 (hi v)) (rows6 i t q) (rows6 i t d))

/-- The accumulator of the queries' gradient after trip `t`. -/
def tripQ (x : Vec F S4096x256 .f32) : Vec F S4096x256 .f32 :=
  bump2 x (k0_off5 i t) S512x128.size (k0_off5_inb i t)
      (k0_pay26 (k0_pay37 (lo k)) (k0_pay39 (lo v)) (rows5 i t q) (rows5 i t d))
    (k0_off6 i t) S512x128.size (k0_off6_inb i t)
    (k0_pay9 (k0_pay38 (hi k)) (k0_pay40 (hi v)) (rows6 i t q) (rows6 i t d))

end Trip

/-! ## The key block's own query block -/

section Own

variable (k v : Vec F S512x256 .bf16) (q d : Vec F S4096x256 .bf16)

/-- Head 0's rows of the own query block. -/
def rows1 (x : Vec F S4096x256 .bf16) : FVec F S512x128 .bf16 := window x (k0_off1 i) S512x128.size (k0_off1_inb i)
/-- Head 1's rows of the own query block. -/
def rows2 (x : Vec F S4096x256 .bf16) : FVec F S512x128 .bf16 := window x (k0_off2 i) S512x128.size (k0_off2_inb i)
/-- Head 0's rows of the own query block's second half. -/
def rows3 (x : Vec F S4096x256 .bf16) : FVec F S256x128 .bf16 := window x (k0_off3 i) S256x128.size (k0_off3_inb i)
/-- Head 1's rows of the own query block's second half. -/
def rows4 (x : Vec F S4096x256 .bf16) : FVec F S256x128 .bf16 := window x (k0_off4 i) S256x128.size (k0_off4_inb i)

/-- The accumulator of the values' gradient after the own query block. -/
def ownV : Vec F S512x256 .f32 :=
  bump (bump (bump (bump (k0_pay36 (F := F))
      ![0, 0] S256x128.size inb_S512x256_S256x128_0_0
        (k0_pay47 (k0_pay42 (rows1 i d)) (k0_pay43 (lo k) (rows1 i q)) k0_pay44))
      ![0, 128] S256x128.size inb_S512x256_S256x128_0_128
        (k0_pay54 (k0_pay38 (hi k)) (k0_pay50 (rows2 i q)) (k0_pay51 (rows2 i d))))
      ![256, 0] S256x128.size inb_S512x256_S256x128_256_0
        (k0_pay61 (k0_pay37 (lo k)) (rows3 i q) (rows3 i d)))
      ![256, 128] S256x128.size inb_S512x256_S256x128_256_128
        (k0_pay68 (k0_pay38 (hi k)) (rows4 i q) (rows4 i d))

/-- The accumulator of the keys' gradient after the own query block. -/
def ownK : Vec F S512x256 .f32 :=
  bump (bump (bump (bump (k0_pay35 (F := F))
      ![0, 0] S256x128.size inb_S512x256_S256x128_0_0
        (k0_pay48 (k0_pay39 (lo v)) (k0_pay41 (rows1 i q)) (k0_pay42 (rows1 i d)) (k0_pay43 (lo k) (rows1 i q)) k0_pay44))
      ![0, 128] S256x128.size inb_S512x256_S256x128_0_128
        (k0_pay55 (k0_pay38 (hi k)) (k0_pay40 (hi v)) (k0_pay50 (rows2 i q)) (k0_pay51 (rows2 i d))))
      ![256, 0] S256x128.size inb_S512x256_S256x128_256_0
        (k0_pay62 (k0_pay37 (lo k)) (k0_pay39 (lo v)) (rows3 i q) (rows3 i d)))
      ![256, 128] S256x128.size inb_S512x256_S256x128_256_128
        (fun x => k0_pay1 (k0_pay69 (k0_pay38 (hi k)) (k0_pay40 (hi v)) (rows4 i q) (rows4 i d) x))

/-- The accumulator of the queries' gradient after the own query block, from what it held before. -/
def ownQ (x : Vec F S4096x256 .f32) : Vec F S4096x256 .f32 :=
  bump (bump (bump (bump x
      (k0_off1 i) S512x128.size (k0_off1_inb i)
        (k0_pay49 (k0_pay37 (lo k)) (k0_pay39 (lo v)) (k0_pay42 (rows1 i d)) (k0_pay43 (lo k) (rows1 i q)) k0_pay44))
      (k0_off2 i) S512x128.size (k0_off2_inb i)
        (k0_pay56 (k0_pay38 (hi k)) (k0_pay40 (hi v)) (k0_pay50 (rows2 i q)) (k0_pay51 (rows2 i d))))
      (k0_off3 i) S256x128.size (k0_off3_inb i)
        (k0_pay63 (k0_pay37 (lo k)) (k0_pay60 (k0_pay37 (lo k)) (k0_pay39 (lo v)) (rows3 i q) (rows3 i d))))
      (k0_off4 i) S256x128.size (k0_off4_inb i)
        (k0_pay2 (k0_pay38 (hi k)) (k0_pay67 (k0_pay38 (hi k)) (k0_pay40 (hi v)) (rows4 i q) (rows4 i d)))

/-! ## The whole point -/

/-- The values' gradient at the end of the point. -/
def endV : Vec F S512x256 .f32 := upTo (tripV i k q d) (ownV i k q d) (k0_t1_loop i).trips
/-- The keys' gradient at the end of the point. -/
def endK : Vec F S512x256 .f32 := upTo (tripK i k v q d) (ownK i k v q d) (k0_t1_loop i).trips
/-- The queries' gradient at the end of the point, from what it held once the point began its work. -/
def endQ (x : Vec F S4096x256 .f32) : Vec F S4096x256 .f32 := upTo (tripQ i k v q d) (ownQ i k v q d x) (k0_t1_loop i).trips

end Own

end Cert.Kernel2Ideal.Attn

end
-- ==== Proof.AttnTrip.lean ====
/-
  The attention's backward region: one trip of the loop over the later query blocks, as a triple over the values that the
  buffers hold.
-/
module

public import proofs.«01_k».proof.Proof.AttnStep
public import proofs.«01_k».proof.Proof.Gen.Kernel2Ideal.Frame

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

variable {sp : Space} {s : Shape} {e : EltTy} {κ : Kind}

/-- A load at a rectangle of stride one reads a window. -/
theorem readAt_window (v : View sig κ sp s e) (f : v.ty.Contents (Elt F)) {off size : Fin s.rank → ℕ}
    (inb : ∀ a, off a + size a ≤ s.size a) :
    v.readAt (Elt F) (Rect.unit off size inb).toLoadRect f = window (v.read (Elt F) f) off size inb := rfl

/-- The newest store of a list puts its payload over what the earlier ones left. -/
theorem read_put (v : View sig κ sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put v f inb w L rfl

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x256 .bf16) (harg4 : arg4.IsWhole) (arg5 : Memref sig .tc .vmem S4096x256 .bf16) (harg5 : arg5.IsWhole)
  (arg6 : Memref sig .tc .vmem S4096x256 .bf16) (harg6 : arg6.IsWhole) (arg7 : Memref sig .tc .vmem S512x256 .bf16) (harg7 : arg7.IsWhole)
  (arg8 : Memref sig .tc .vmem S512x256 .bf16) (harg8 : arg8.IsWhole) (arg9 : Memref sig .tc .vmem S4096x256 .f32) (harg9 : arg9.IsWhole)
  (arg10 : Memref sig .tc .vmem S512x256 .f32) (harg10 : arg10.IsWhole) (arg11 : Memref sig .tc .vmem S512x256 .f32) (harg11 : arg11.IsWhole)

/-- What a trip holds: the queries and the cotangent at their blocks, the three accumulators at values. -/
abbrev Held (q d : Vec F S4096x256 .bf16) (xq : Vec F S4096x256 .f32) (xk xv : Vec F S512x256 .f32) : sProp 𝕄 :=
  iprop(owns (c : Thread nD τ) arg2 fullShare q ∗ owns (c : Thread nD τ) arg5 fullShare d ∗ owns (c : Thread nD τ) arg9 fullShare xq
    ∗ owns (c : Thread nD τ) arg10 fullShare xk ∗ owns (c : Thread nD τ) arg11 fullShare xv)

set_option maxHeartbeats 1000000 in
/-- One trip. -/
theorem trip_sound (E : Set ℕ) (k v : Vec F S512x256 .bf16) (q d : Vec F S4096x256 .bf16) (t : Fin (k0_t1_loop i).trips)
    (xq : Vec F S4096x256 .f32) (xk xv : Vec F S512x256 .f32) (v201 : BitVec 32) (u : Unit) :
    Held (F := F) c arg2 arg5 arg9 arg10 arg11 q d xq xk xv
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11
            (k0_pay37 (lo k)) (k0_pay38 (hi k)) (k0_pay39 (lo v)) (k0_pay40 (hi v)) v201 t u)
          (fun _ => Held (F := F) c arg2 arg5 arg9 arg10 arg11 q d (tripQ i k v q d t xq) (tripK i k v q d t xk) (tripV i k q d t xv)) := by
  unfold Held owns
  iintro ⟨⟨%f2, %h2, H2⟩, ⟨%f5, %h5, H5⟩, ⟨%f9, %h9, H9⟩, ⟨%f10, %h10, H10⟩, ⟨%f11, %h11, H11⟩⟩
  subst h2; subst h5; subst h9; subst h10; subst h11
  unfold k0_t1_body
  simp only [k0_part1_eq_skeleton]
  sl_exec
  sl_step
  isplitl [H2]
  · iexists _; isplitr; swap; · iexact H2
    ipureintro; rfl
  isplitl [H5]
  · iexists _; isplitr; swap; · iexact H5
    ipureintro; rfl
  isplitl [H9]
  · iexists _; isplitr; swap; · iexact H9
    ipureintro

    simp only [read_put, readAt_window, View.writes_nil]

    rfl
  isplitl [H10]
  · iexists _; isplitr; swap; · iexact H10
    ipureintro

    simp only [read_put, readAt_window, View.writes_nil]
    rfl
  · iexists _; isplitr; swap; · iexact H11
    ipureintro
    simp only [read_put, readAt_window, View.writes_nil]
    rfl

end Cert.Kernel2Ideal.Attn

end
-- ==== Proof.AttnBody.lean ====
/-
  The attention's backward region: the body at one grid point, as a triple over the values that the buffers hold.
-/
module

public import proofs.«01_k».proof.Proof.AttnTrip

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

/-! ## Where the own query block lies -/

theorem off1_eq : ∀ i : grid0.Coords, k0_off1 i = ![512 * (i 1).val, 0] := by decide +kernel
theorem off2_eq : ∀ i : grid0.Coords, k0_off2 i = ![512 * (i 1).val, 128] := by decide +kernel
theorem off3_eq : ∀ i : grid0.Coords, k0_off3 i = ![512 * (i 1).val + 256, 0] := by decide +kernel
theorem off4_eq : ∀ i : grid0.Coords, k0_off4 i = ![512 * (i 1).val + 256, 128] := by decide +kernel

/-! ## Four stores in turn, read back -/

section Read

variable {sp : Space} {κ : Kind}

/-- A store of what `g` makes of its own window. -/
theorem read_bump {s : Shape} {e : EltTy} (v : View sig κ sp s e) (f : v.ty.Contents (Elt F)) {off size : Fin s.rank → ℕ}
    (inb : ∀ a, off a + size a ≤ s.size a) (g : ((Rect.unit off size inb).shape.Idx → Elt F e) → ((a : Fin s.rank) → Fin (size a)) → Elt F e)
    (L : List (View.Piece (Elt F) s e)) :
    v.read (Elt F) (v.writes (Elt F) f (⟨Rect.unit off size inb, g (v.readAt (Elt F) (Rect.unit off size inb).toLoadRect (v.writes (Elt F) f L))⟩ :: L))
      = bump (v.read (Elt F) (v.writes (Elt F) f L)) off size inb g :=
  read_put v f inb _ L

variable (i : grid0.Coords) (v : View sig κ sp S4096x256 .f32) (f : v.ty.Contents (Elt F))
  (w1 w2 : FVec F S512x128 .f32 → FVec F S512x128 .f32) (w3 w4 : FVec F S256x128 .f32 → FVec F S256x128 .f32)

/-- The two whole heads' stores of the own query block. -/
abbrev two : List (View.Piece (Elt F) S4096x256 .f32) :=
  [⟨Rect.unit (s := S4096x256) (k0_off2 i) S512x128.size (k0_off2_inb i), w2 (v.readAt (Elt F) (Rect.unit (s := S4096x256) (k0_off2 i) S512x128.size (k0_off2_inb i)).toLoadRect f)⟩,
    ⟨Rect.unit (s := S4096x256) (k0_off1 i) S512x128.size (k0_off1_inb i), w1 (v.readAt (Elt F) (Rect.unit (s := S4096x256) (k0_off1 i) S512x128.size (k0_off1_inb i)).toLoadRect f)⟩]

/-- The third store after them. -/
abbrev three : List (View.Piece (Elt F) S4096x256 .f32) :=
  ⟨Rect.unit (s := S4096x256) (k0_off3 i) S256x128.size (k0_off3_inb i), w3 (v.readCov (Val := Elt F) (two i v f w1 w2) (Rect.unit (s := S4096x256) (k0_off3 i) S256x128.size (k0_off3_inb i)).toLoadRect)⟩ :: two i v f w1 w2

theorem read_two : v.read (Elt F) (v.writes (Elt F) f (two i v f w1 w2))
    = bump (bump (v.read (Elt F) f) (k0_off1 i) S512x128.size (k0_off1_inb i) w1) (k0_off2 i) S512x128.size (k0_off2_inb i) w2 := by
  refine (read_put v f (k0_off2_inb i) _ _).trans ?_
  rw [read_put v f (k0_off1_inb i)]
  unfold bump
  rw [VecWindow.window_put_of_disjoint _ _ _ _ _ _ _ 1 (by rw [off1_eq, off2_eq]; right; exact le_refl _)]
  rfl

theorem window_two (x x' : Vec F S4096x256 .f32) (u1 u2 : FVec F S512x128 .f32) :
    window (put (put x (k0_off1 i) S512x128.size u1) (k0_off2 i) S512x128.size u2) (k0_off3 i) S256x128.size (k0_off3_inb i)
      = window (put (put x' (k0_off1 i) S512x128.size u1) (k0_off2 i) S512x128.size u2) (k0_off3 i) S256x128.size (k0_off3_inb i) := by
  have hd : (k0_off3 i) 1 + S256x128.size 1 ≤ (k0_off2 i) 1 ∨ (k0_off2 i) 1 + S512x128.size 1 ≤ (k0_off3 i) 1 := by
    rw [off2_eq, off3_eq]; left; exact le_refl _
  have hi : ∀ a, (k0_off1 i) a ≤ (k0_off3 i) a ∧ (k0_off3 i) a + S256x128.size a ≤ (k0_off1 i) a + S512x128.size a := by
    rw [off1_eq, off3_eq]; intro a; fin_cases a <;> constructor <;> simp <;> omega
  rw [VecWindow.window_put_of_disjoint (put x _ _ u1) (k0_off2 i) _ _ _ _ _ 1 hd, VecWindow.window_put_of_disjoint (put x' _ _ u1) (k0_off2 i) _ _ _ _ _ 1 hd,
    VecWindow.window_put_of_inside _ _ _ _ _ _ _ hi, VecWindow.window_put_of_inside _ _ _ _ _ _ _ hi]

theorem window_three (x x' : Vec F S4096x256 .f32) (u1 u2 : FVec F S512x128 .f32) (u3 : FVec F S256x128 .f32) :
    window (put (put (put x (k0_off1 i) S512x128.size u1) (k0_off2 i) S512x128.size u2) (k0_off3 i) S256x128.size u3) (k0_off4 i) S256x128.size (k0_off4_inb i)
      = window (put (put (put x' (k0_off1 i) S512x128.size u1) (k0_off2 i) S512x128.size u2) (k0_off3 i) S256x128.size u3) (k0_off4 i) S256x128.size (k0_off4_inb i) := by
  have hd : (k0_off4 i) 1 + S256x128.size 1 ≤ (k0_off3 i) 1 ∨ (k0_off3 i) 1 + S256x128.size 1 ≤ (k0_off4 i) 1 := by
    rw [off3_eq, off4_eq]; right; exact le_refl _
  have hi : ∀ a, (k0_off2 i) a ≤ (k0_off4 i) a ∧ (k0_off4 i) a + S256x128.size a ≤ (k0_off2 i) a + S512x128.size a := by
    rw [off2_eq, off4_eq]; intro a; fin_cases a <;> constructor <;> simp <;> omega
  rw [VecWindow.window_put_of_disjoint (put (put x _ _ u1) _ _ u2) (k0_off3 i) _ _ _ _ _ 1 hd, VecWindow.window_put_of_disjoint (put (put x' _ _ u1) _ _ u2) (k0_off3 i) _ _ _ _ _ 1 hd,
    VecWindow.window_put_of_inside _ _ _ _ _ _ _ hi, VecWindow.window_put_of_inside _ _ _ _ _ _ _ hi]

theorem read_three : v.read (Elt F) (v.writes (Elt F) f (three i v f w1 w2 w3))
    = bump (bump (bump (v.read (Elt F) f) (k0_off1 i) S512x128.size (k0_off1_inb i) w1) (k0_off2 i) S512x128.size (k0_off2_inb i) w2)
        (k0_off3 i) S256x128.size (k0_off3_inb i) w3 := by
  refine (read_put v f (k0_off3_inb i) _ _).trans ?_
  rw [← read_two i v f w1 w2]
  refine congrArg (fun z => put (v.read (Elt F) (v.writes (Elt F) f (two i v f w1 w2))) (k0_off3 i) S256x128.size (w3 z)) ?_
  show window (v.read (Elt F) (v.writes (Elt F) v.junk (two i v f w1 w2))) _ _ _ = window _ _ _ _
  have e : ∀ g, v.read (Elt F) (v.writes (Elt F) g (two i v f w1 w2)) = put (put (v.read (Elt F) g) (k0_off1 i) S512x128.size (w1 (v.readAt (Elt F) (Rect.unit (s := S4096x256) (k0_off1 i) S512x128.size (k0_off1_inb i)).toLoadRect f)))
      (k0_off2 i) S512x128.size (w2 (v.readAt (Elt F) (Rect.unit (s := S4096x256) (k0_off2 i) S512x128.size (k0_off2_inb i)).toLoadRect f)) := fun g => by
    simp only [two, read_put, View.writes_nil]
  rw [e, e]
  exact window_two i _ _ _ _

/-- The four stores of the own query block. -/
theorem read_four : v.read (Elt F) (v.writes (Elt F) f
      (⟨Rect.unit (s := S4096x256) (k0_off4 i) S256x128.size (k0_off4_inb i), w4 (v.readCov (Val := Elt F) (three i v f w1 w2 w3) (Rect.unit (s := S4096x256) (k0_off4 i) S256x128.size (k0_off4_inb i)).toLoadRect)⟩ :: three i v f w1 w2 w3))
    = bump (bump (bump (bump (v.read (Elt F) f) (k0_off1 i) S512x128.size (k0_off1_inb i) w1) (k0_off2 i) S512x128.size (k0_off2_inb i) w2)
        (k0_off3 i) S256x128.size (k0_off3_inb i) w3) (k0_off4 i) S256x128.size (k0_off4_inb i) w4 := by
  refine (read_put v f (k0_off4_inb i) _ _).trans ?_
  rw [← read_three i v f w1 w2 w3]
  refine congrArg (fun z => put (v.read (Elt F) (v.writes (Elt F) f (three i v f w1 w2 w3))) (k0_off4 i) S256x128.size (w4 z)) ?_
  show window (v.read (Elt F) (v.writes (Elt F) v.junk (three i v f w1 w2 w3))) _ _ _ = window _ _ _ _
  have e : ∀ g, v.read (Elt F) (v.writes (Elt F) g (three i v f w1 w2 w3)) = put (put (put (v.read (Elt F) g) (k0_off1 i) S512x128.size (w1 (v.readAt (Elt F) (Rect.unit (s := S4096x256) (k0_off1 i) S512x128.size (k0_off1_inb i)).toLoadRect f)))
      (k0_off2 i) S512x128.size (w2 (v.readAt (Elt F) (Rect.unit (s := S4096x256) (k0_off2 i) S512x128.size (k0_off2_inb i)).toLoadRect f)))
      (k0_off3 i) S256x128.size (w3 (v.readCov (Val := Elt F) (two i v f w1 w2) (Rect.unit (s := S4096x256) (k0_off3 i) S256x128.size (k0_off3_inb i)).toLoadRect)) := fun g => by
    simp only [three, two, read_put, View.writes_nil]
  rw [e, e]
  exact window_three i _ _ _ _ _

end Read

section Acc

variable {sp : Space} {κ : Kind} (v : View sig κ sp S512x256 .f32) (z : Vec F S512x256 .f32) (w1 w2 w3 w4 : FVec F S256x128 .f32 → FVec F S256x128 .f32)

abbrev L1 : List (View.Piece (Elt F) S512x256 .f32) := [⟨Rect.unit (s := S512x256) ![0, 0] S512x256.size inb_S512x256_S512x256_0_0, z⟩]
abbrev L2 : List (View.Piece (Elt F) S512x256 .f32) :=
  ⟨Rect.unit (s := S512x256) ![0, 0] S256x128.size inb_S512x256_S256x128_0_0, w1 (v.readCov (Val := Elt F) (L1 z) (Rect.unit (s := S512x256) ![0, 0] S256x128.size inb_S512x256_S256x128_0_0).toLoadRect)⟩ :: L1 z
abbrev L3 : List (View.Piece (Elt F) S512x256 .f32) :=
  ⟨Rect.unit (s := S512x256) ![0, 128] S256x128.size inb_S512x256_S256x128_0_128, w2 (v.readCov (Val := Elt F) (L2 v z w1) (Rect.unit (s := S512x256) ![0, 128] S256x128.size inb_S512x256_S256x128_0_128).toLoadRect)⟩ :: L2 v z w1
abbrev L4 : List (View.Piece (Elt F) S512x256 .f32) :=
  ⟨Rect.unit (s := S512x256) ![256, 0] S256x128.size inb_S512x256_S256x128_256_0, w3 (v.readCov (Val := Elt F) (L3 v z w1 w2) (Rect.unit (s := S512x256) ![256, 0] S256x128.size inb_S512x256_S256x128_256_0).toLoadRect)⟩ :: L3 v z w1 w2
abbrev L5 : List (View.Piece (Elt F) S512x256 .f32) :=
  ⟨Rect.unit (s := S512x256) ![256, 128] S256x128.size inb_S512x256_S256x128_256_128, w4 (v.readCov (Val := Elt F) (L4 v z w1 w2 w3) (Rect.unit (s := S512x256) ![256, 128] S256x128.size inb_S512x256_S256x128_256_128).toLoadRect)⟩ :: L4 v z w1 w2 w3

/-- The zero fill and the four stores of an accumulator of the key block. -/
theorem read_acc : v.read (Elt F) (v.writes (Elt F) v.junk (L5 v z w1 w2 w3 w4))
    = bump (bump (bump (bump z ![0, 0] S256x128.size inb_S512x256_S256x128_0_0 w1) ![0, 128] S256x128.size inb_S512x256_S256x128_0_128 w2)
        ![256, 0] S256x128.size inb_S512x256_S256x128_256_0 w3) ![256, 128] S256x128.size inb_S512x256_S256x128_256_128 w4 := by
  have e1 : v.read (Elt F) (v.writes (Elt F) v.junk (L1 z)) = z := View.read_writes_full v _ inb_S512x256_S512x256_0_0 _ _
  have e2 := read_bump v v.junk inb_S512x256_S256x128_0_0 w1 (L1 z)
  have e3 := read_bump v v.junk inb_S512x256_S256x128_0_128 w2 (L2 v z w1)
  have e4 := read_bump v v.junk inb_S512x256_S256x128_256_0 w3 (L3 v z w1 w2)
  have e5 := read_bump v v.junk inb_S512x256_S256x128_256_128 w4 (L4 v z w1 w2 w3)
  rw [e1] at e2
  have h2 : v.read (Elt F) (v.writes (Elt F) v.junk (L2 v z w1)) = _ := e2
  rw [h2] at e3
  have h3 : v.read (Elt F) (v.writes (Elt F) v.junk (L3 v z w1 w2)) = _ := e3
  rw [h3] at e4
  have h4 : v.read (Elt F) (v.writes (Elt F) v.junk (L4 v z w1 w2 w3)) = _ := e4
  rw [h4] at e5
  exact e5

end Acc

/-- The remainder loop runs no trip. -/
theorem trips2 : ∀ i : grid0.Coords, (k0_t2_loop i).trips = 0 := by decide +kernel

/-- The point is the first of its pair of heads. -/
abbrev First (i : grid0.Coords) : Prop :=
  Scalar.cmpi .ne (Scalar.extui (Scalar.cmpi .eq (BitVec.ofNat 32 (i 1).val) 0#32) : BitVec 32) 0#32 = 1#1

variable (c : Dev nD) (i : grid0.Coords)
  (arg2 : Memref sig .tc .vmem S4096x256 .bf16) (harg2 : arg2.IsWhole) (arg3 : Memref sig .tc .vmem S512x256 .bf16) (harg3 : arg3.IsWhole)
  (arg4 : Memref sig .tc .vmem S512x256 .bf16) (harg4 : arg4.IsWhole) (arg5 : Memref sig .tc .vmem S4096x256 .bf16) (harg5 : arg5.IsWhole)
  (arg6 : Memref sig .tc .vmem S4096x256 .bf16) (harg6 : arg6.IsWhole) (arg7 : Memref sig .tc .vmem S512x256 .bf16) (harg7 : arg7.IsWhole)
  (arg8 : Memref sig .tc .vmem S512x256 .bf16) (harg8 : arg8.IsWhole) (arg9 : Memref sig .tc .vmem S4096x256 .f32) (harg9 : arg9.IsWhole)
  (arg10 : Memref sig .tc .vmem S512x256 .f32) (harg10 : arg10.IsWhole) (arg11 : Memref sig .tc .vmem S512x256 .f32) (harg11 : arg11.IsWhole)

/-- What the accumulator of the queries' gradient holds when the point's work begins. -/
def start (x : Vec F S4096x256 .f32) : Vec F S4096x256 .f32 := if First i then k0_pay34 else x

set_option maxHeartbeats 4000000 in
/-- One grid point. -/
theorem body_sound (E : Set ℕ) (k v : Vec F S512x256 .bf16) (q d : Vec F S4096x256 .bf16) (y : Vec F S4096x256 .bf16) (x : Vec F S4096x256 .f32) (K : PUnit → sProp 𝕄) :
    iprop(owns (c : Thread nD τ) arg2 fullShare q ∗ owns (c : Thread nD τ) arg3 fullShare k ∗ owns (c : Thread nD τ) arg4 fullShare v ∗ owns (c : Thread nD τ) arg5 fullShare d
        ∗ owns (c : Thread nD τ) arg6 fullShare y ∗ (∃ z, owns (c : Thread nD τ) arg7 fullShare z) ∗ (∃ z, owns (c : Thread nD τ) arg8 fullShare z)
        ∗ owns (c : Thread nD τ) arg9 fullShare x ∗ (∃ z, owns (c : Thread nD τ) arg10 fullShare z) ∗ (∃ z, owns (c : Thread nD τ) arg11 fullShare z)
        ∗ (iprop(owns (c : Thread nD τ) arg2 fullShare q ∗ owns (c : Thread nD τ) arg3 fullShare k ∗ owns (c : Thread nD τ) arg4 fullShare v ∗ owns (c : Thread nD τ) arg5 fullShare d
            ∗ owns (c : Thread nD τ) arg6 fullShare (if k0_cond2 i = 1#1 then k0_pay19 (endQ i k v q d (start i x)) else y) ∗ owns (c : Thread nD τ) arg7 fullShare (k0_pay17 (endK i k v q d))
            ∗ owns (c : Thread nD τ) arg8 fullShare (k0_pay18 (endV i k q d)) ∗ owns (c : Thread nD τ) arg9 fullShare (endQ i k v q d (start i x))
            ∗ (∃ z, owns (c : Thread nD τ) arg10 fullShare z) ∗ (∃ z, owns (c : Thread nD τ) arg11 fullShare z)) -∗ K ⟨⟩))
      ⊢ wp frame (wpE (defs₀ (F := F)) Variants.none c none) E
          (cc0_attn_bwd i arg2 harg2 arg3 harg3 arg4 harg4 arg5 harg5 arg6 harg6 arg7 harg7 arg8 harg8 arg9 harg9 arg10 harg10 arg11 harg11) K := by
  have htr := trips2 i
  unfold owns
  iintro ⟨⟨%f2, %e2, H2⟩, ⟨%f3, %e3, H3⟩, ⟨%f4, %e4, H4⟩, ⟨%f5, %e5, H5⟩, ⟨%f6, %e6, H6⟩, ⟨%y7, %f7, -, H7⟩, ⟨%y8, %f8, -, H8⟩,
    ⟨%f9, %e9, H9⟩, ⟨%y10, %f10, -, H10⟩, ⟨%y11, %f11, -, H11⟩, HK⟩
  subst e2; subst e3; subst e4; subst e5; subst e6; subst e9
  simp only [cc0_attn_bwd_eq_skeleton]; unfold cc0_attn_bwd_skel
  simp only [k0_part3_eq_skeleton, k0_part4_eq_skeleton, k0_part5_eq_skeleton, k0_part6_eq_skeleton, k0_part7_eq_skeleton]
  sl_exec
  sl_for (fun n (_ : PUnit) => Held (F := F) c arg2 arg5 arg9 arg10 arg11 (arg2.view.read (Elt F) f2) (arg5.view.read (Elt F) f5)
      (upTo (tripQ i (arg3.view.read (Elt F) f3) (arg4.view.read (Elt F) f4) (arg2.view.read (Elt F) f2) (arg5.view.read (Elt F) f5)) (ownQ i (arg3.view.read (Elt F) f3) (arg4.view.read (Elt F) f4) (arg2.view.read (Elt F) f2) (arg5.view.read (Elt F) f5) (start i (arg9.view.read (Elt F) f9))) n)
      (upTo (tripK i (arg3.view.read (Elt F) f3) (arg4.view.read (Elt F) f4) (arg2.view.read (Elt F) f2) (arg5.view.read (Elt F) f5)) (ownK i (arg3.view.read (Elt F) f3) (arg4.view.read (Elt F) f4) (arg2.view.read (Elt F) f2) (arg5.view.read (Elt F) f5)) n)
      (upTo (tripV i (arg3.view.read (Elt F) f3) (arg2.view.read (Elt F) f2) (arg5.view.read (Elt F) f5)) (ownV i (arg3.view.read (Elt F) f3) (arg2.view.read (Elt F) f2) (arg5.view.read (Elt F) f5)) n)) $$ [H2 H5 H9 H10 H11]
  case region =>
    intro t u
    rw [upTo_succ, upTo_succ, upTo_succ]
    exact trip_sound c i arg2 harg2 arg3 harg3 arg4 harg4 arg5 harg5 arg6 harg6 arg7 harg7 arg8 harg8 arg9 harg9 arg10 harg10 arg11 harg11 E (arg3.view.read (Elt F) f3) (arg4.view.read (Elt F) f4) (arg2.view.read (Elt F) f2) (arg5.view.read (Elt F) f5) t _ _ _ _ u
  · unfold Held owns
    isplitl [H2]
    · iexists _; isplitr; swap; · iexact H2
      ipureintro; rfl
    isplitl [H5]
    · iexists _; isplitr; swap; · iexact H5
      ipureintro; rfl
    isplitl [H9]
    · iexists _; isplitr; swap; · iexact H9
      ipureintro
      have hX : arg9.view.read (Elt F) (if hc : First i then arg9.view.writes (Elt F) f9 [⟨Rect.unit ![0, 0] S4096x256.size inb_S4096x256_S4096x256_0_0, k0_pay34⟩] else f9)
          = start i (arg9.view.read (Elt F) f9) := by
        unfold start
        by_cases h : First i
        · rw [dif_pos h, if_pos h]; exact View.read_writes_full _ _ inb_S4096x256_S4096x256_0_0 _ _
        · rw [dif_neg h, if_neg h]
      have h4 := read_four (F := F) i arg9.view (if hc : First i then arg9.view.writes (Elt F) f9 [⟨Rect.unit ![0, 0] S4096x256.size inb_S4096x256_S4096x256_0_0, k0_pay34⟩] else f9)
        (k0_pay49 (k0_pay37 (lo (arg3.view.read (Elt F) f3))) (k0_pay39 (lo (arg4.view.read (Elt F) f4))) (k0_pay42 (rows1 i (arg5.view.read (Elt F) f5))) (k0_pay43 (lo (arg3.view.read (Elt F) f3)) (rows1 i (arg2.view.read (Elt F) f2))) k0_pay44)
        (k0_pay56 (k0_pay38 (hi (arg3.view.read (Elt F) f3))) (k0_pay40 (hi (arg4.view.read (Elt F) f4))) (k0_pay50 (rows2 i (arg2.view.read (Elt F) f2))) (k0_pay51 (rows2 i (arg5.view.read (Elt F) f5))))
        (k0_pay63 (k0_pay37 (lo (arg3.view.read (Elt F) f3))) (k0_pay60 (k0_pay37 (lo (arg3.view.read (Elt F) f3))) (k0_pay39 (lo (arg4.view.read (Elt F) f4))) (rows3 i (arg2.view.read (Elt F) f2)) (rows3 i (arg5.view.read (Elt F) f5))))
        (k0_pay2 (k0_pay38 (hi (arg3.view.read (Elt F) f3))) (k0_pay67 (k0_pay38 (hi (arg3.view.read (Elt F) f3))) (k0_pay40 (hi (arg4.view.read (Elt F) f4))) (rows4 i (arg2.view.read (Elt F) f2)) (rows4 i (arg5.view.read (Elt F) f5))))
      rw [hX] at h4
      exact h4
    isplitl [H10]
    · iexists _; isplitr; swap; · iexact H10
      ipureintro
      exact read_acc arg10.view k0_pay35
        (k0_pay48 (k0_pay39 (lo (arg4.view.read (Elt F) f4))) (k0_pay41 (rows1 i (arg2.view.read (Elt F) f2))) (k0_pay42 (rows1 i (arg5.view.read (Elt F) f5))) (k0_pay43 (lo (arg3.view.read (Elt F) f3)) (rows1 i (arg2.view.read (Elt F) f2))) k0_pay44)
        (k0_pay55 (k0_pay38 (hi (arg3.view.read (Elt F) f3))) (k0_pay40 (hi (arg4.view.read (Elt F) f4))) (k0_pay50 (rows2 i (arg2.view.read (Elt F) f2))) (k0_pay51 (rows2 i (arg5.view.read (Elt F) f5))))
        (k0_pay62 (k0_pay37 (lo (arg3.view.read (Elt F) f3))) (k0_pay39 (lo (arg4.view.read (Elt F) f4))) (rows3 i (arg2.view.read (Elt F) f2)) (rows3 i (arg5.view.read (Elt F) f5)))
        (fun x => k0_pay1 (k0_pay69 (k0_pay38 (hi (arg3.view.read (Elt F) f3))) (k0_pay40 (hi (arg4.view.read (Elt F) f4))) (rows4 i (arg2.view.read (Elt F) f2)) (rows4 i (arg5.view.read (Elt F) f5)) x))
    iexists _; isplitr; swap; · iexact H11
    ipureintro
    exact read_acc arg11.view k0_pay36
      (k0_pay47 (k0_pay42 (rows1 i (arg5.view.read (Elt F) f5))) (k0_pay43 (lo (arg3.view.read (Elt F) f3)) (rows1 i (arg2.view.read (Elt F) f2))) k0_pay44)
      (k0_pay54 (k0_pay38 (hi (arg3.view.read (Elt F) f3))) (k0_pay50 (rows2 i (arg2.view.read (Elt F) f2))) (k0_pay51 (rows2 i (arg5.view.read (Elt F) f5))))
      (k0_pay61 (k0_pay37 (lo (arg3.view.read (Elt F) f3))) (rows3 i (arg2.view.read (Elt F) f2)) (rows3 i (arg5.view.read (Elt F) f5)))
      (k0_pay68 (k0_pay38 (hi (arg3.view.read (Elt F) f3))) (rows4 i (arg2.view.read (Elt F) f2)) (rows4 i (arg5.view.read (Elt F) f5)))
  unfold Held owns
  iintro %acc ⟨⟨%g2, %e2, H2⟩, ⟨%g5, %e5, H5⟩, ⟨%g9, %e9, H9⟩, ⟨%g10, %e10, H10⟩, ⟨%g11, %e11, H11⟩⟩
  sl_exec
  sl_step
  iapply HK
  isplitl [H2]
  · iexists _; isplitr; swap; · iexact H2
    ipureintro; exact e2
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; exact e5
  isplitl [H6]
  · iexists _; isplitr; swap; · iexact H6
    ipureintro
    by_cases h : k0_cond2 i = 1#1
    · rw [dif_pos h, if_pos h]
      refine (View.read_writes_full arg6.view f6 inb_S4096x256_S4096x256_0_0 _ []).trans (congrArg k0_pay19 ?_)
      exact (View.readAt_full arg9.view g9 inb_S4096x256_S4096x256_0_0).trans e9
    · rw [dif_neg h, if_neg h]
  isplitl [H7]
  · iexists _; isplitr; swap; · iexact H7
    ipureintro
    refine (View.read_writes_full arg7.view f7 inb_S512x256_S512x256_0_0 _ []).trans (congrArg k0_pay17 ?_)
    exact (View.readAt_full arg10.view g10 inb_S512x256_S512x256_0_0).trans e10
  isplitl [H8]
  · iexists _; isplitr; swap; · iexact H8
    ipureintro
    refine (View.read_writes_full arg8.view f8 inb_S512x256_S512x256_0_0 _ []).trans (congrArg k0_pay18 ?_)
    exact (View.readAt_full arg11.view g11 inb_S512x256_S512x256_0_0).trans e11
  isplitl [H9]
  · iexists _; isplitr; swap; · iexact H9
    ipureintro; exact e9
  isplitl [H10]
  · iexists _; iexists _; isplitr; swap; · iexact H10
    ipureintro; rfl
  iexists _; iexists _; isplitr; swap; · iexact H11
  ipureintro; rfl

end Cert.Kernel2Ideal.Attn

end
-- ==== Proof.AttnFrame.lean ====
/-
  The attention's backward region as a whole: the pipeline's proof data over the body's triple, and the launch. Between two
  points the queries' accumulator holds what the points so far have left in it (`heldQ`); the two accumulators of a key block
  are filled anew at every point.
-/
module

public import proofs.«01_k».proof.Proof.AttnBody
public import Idealize.ShloMosaic.Lib.Claim

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The blocks of a point -/

/-- The queries' block at point `t`. -/
abbrev qAt (c : Dev nD) (t : Fin cfg0.N) : Vec F S4096x256 .bf16 := iblk m c 0 t
/-- The keys' block. -/
abbrev kAt (c : Dev nD) (t : Fin cfg0.N) : Vec F S512x256 .bf16 := iblk m c 1 t
/-- The values' block. -/
abbrev vAt (c : Dev nD) (t : Fin cfg0.N) : Vec F S512x256 .bf16 := iblk m c 2 t
/-- The cotangent's block. -/
abbrev dAt (c : Dev nD) (t : Fin cfg0.N) : Vec F S4096x256 .bf16 := iblk m c 3 t

/-- What point `t` makes of the queries' accumulator. -/
def stepQ (c : Dev nD) (t : Fin cfg0.N) (x : Vec F S4096x256 .f32) : Vec F S4096x256 .f32 :=
  endQ (grid0.coords t) (kAt m c t) (vAt m c t) (qAt m c t) (dAt m c t) (start (grid0.coords t) x)

/-- The queries' accumulator before point `n`. -/
def heldQ (c : Dev nD) (n : ℕ) : Vec F S4096x256 .f32 := upTo (stepQ m c) k0_pay34 n

theorem heldQ_succ (c : Dev nD) (t : Fin cfg0.N) : heldQ m c (t.val + 1) = stepQ m c t (heldQ m c t.val) := upTo_succ _ _ t

/-- The first point is the first of its pair of heads, so what the accumulator held before does not count. -/
theorem first_zero : ∀ t : Fin cfg0.N, t.val = 0 → First (grid0.coords t) := by decide +kernel

/-- The last key block's points write the queries' gradient, and no other does. -/
theorem cond2_flush : ∀ t : Fin cfg0.N, ¬ k0_cond2 (grid0.coords t) = 1#1 → t.val % 8 ≠ 7 := by decide +kernel

/-! ## The proof data -/

/-- The invariant before point `n`: the queries' accumulator at its value once a point has run, the rest at anything. -/
def Inv (c : Dev nD) (n : ℕ) : sProp 𝕄 :=
  iprop((∃ x, ⌜n ≠ 0 → x = heldQ m c n⌝ ∗ owns (c : Thread nD τ) (Memref.whole cc0_scratch0) fullShare x)
    ∗ (∃ x, owns (c : Thread nD τ) (Memref.whole cc0_scratch1) fullShare x)
    ∗ (∃ x, owns (c : Thread nD τ) (Memref.whole cc0_scratch2) fullShare x) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay19 (heldQ m c (t.val + 1))
    | ⟨5, _⟩ => k0_pay17 (endK (grid0.coords t) (kAt m c t) (vAt m c t) (qAt m c t) (dAt m c t))
    | ⟨6, _⟩ => k0_pay18 (endV (grid0.coords t) (kAt m c t) (qAt m c t) (dAt m c t))
  Φ t := Inv m c t.val
  q w := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay19 (heldQ m c (t.val + 1)) := by dsimp only [dats]
theorem after_5 (c : Dev nD) (t : Fin cfg0.N) :
    (dats m 0 c).after 5 t = k0_pay17 (endK (grid0.coords t) (kAt m c t) (vAt m c t) (qAt m c t) (dAt m c t)) := by dsimp only [dats]
theorem after_6 (c : Dev nD) (t : Fin cfg0.N) :
    (dats m 0 c).after 6 t = k0_pay18 (endV (grid0.coords t) (kAt m c t) (qAt m c t) (dAt m c t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body at a point -/

/-- What the pipeline hands the body. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it wants back of the queries' gradient: the block where the point writes it, else what was there. -/
def back4 (c : Dev nD) (t : Fin cfg0.N) : sProp 𝕄 :=
  match cfg0.idle 4 (cfg0.grid.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

/-- What it wants back. -/
def back (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ back4 m c t
    ∗ owns (c : Thread nD τ) (st0_5 t) fullShare ((dats m 0 c).after 5 t)
    ∗ owns (c : Thread nD τ) (st0_6 t) fullShare ((dats m 0 c).after 6 t))

theorem idle_4 (t : Fin cfg0.N) : cfg0.idle 4 (cfg0.grid.coords t) = !(k0_cond2 (grid0.coords t) == 1#1) := rfl

/-- The queries' gradient handed back. -/
theorem to_back4 (c : Dev nD) (t : Fin cfg0.N) (d) :
    owns (c : Thread nD τ) (st0_4 t) fullShare (if k0_cond2 (grid0.coords t) = 1#1 then k0_pay19 (heldQ m c (t.val + 1)) else (dats m 0 c).before 4 t d)
      ⊢ (back4 m c t : sProp 𝕄) := by
  unfold back4
  rw [idle_4]
  by_cases h : k0_cond2 (grid0.coords t) = 1#1
  · rw [if_pos h, h, after_4]
    exact .rfl
  · have hf : (cfg0.win 4).flush t = false := by
      rw [Bool.eq_false_iff]; exact fun hf => cond2_flush t h ((flush0_4 t).mp hf)
    rw [if_neg h, show (!(k0_cond2 (grid0.coords t) == 1#1)) = true from by simpa using h, hf]
    iintro H
    iexists d
    iexact H

theorem sound (c : Dev nD) (t : Fin cfg0.N) :
    given m c t ⊢ wp frame (wpE (defs₀ (F := F)) Variants.none c none) Set.univ (bodyAt0 t) (fun _ => back m c t) := by
  unfold given back bodyAt0
  simp only [before_0, before_1, before_2, before_3]
  rw [show (dats m 0 c).owesAt () t.succ = (dats m 0 c).owesAt () t.castSucc from rfl, after_0, after_1, after_2, after_3, after_5, after_6,
    show (dats m 0 c).Φ t.castSucc = Inv m c t.val from rfl, show (dats m 0 c).Φ t.succ = Inv m c (t.val + 1) from rfl]
  unfold Inv
  iintro ⟨⟨⟨%x, %hx, S0⟩, S1, S2, Hg⟩, Ho, ⟨%d0, H0⟩, ⟨%d1, H1⟩, ⟨%d2, H2⟩, ⟨%d3, H3⟩, ⟨%d4, H4⟩, ⟨%d5, H5⟩, ⟨%d6, H6⟩⟩
  have hs : start (grid0.coords t) x = start (grid0.coords t) (heldQ m c t.val) := by
    by_cases h : t.val = 0
    · unfold start; rw [if_pos (first_zero t h), if_pos (first_zero t h)]
    · rw [hx h]
  have hq : endQ (grid0.coords t) (kAt m c t) (vAt m c t) (qAt m c t) (dAt m c t) (start (grid0.coords t) x) = heldQ m c (t.val + 1) := by
    rw [hs, heldQ_succ]; rfl
  iapply (body_sound c (grid0.coords t) _ _ _ _ _ _ _ _ _ _ _ _ _ _ _ _ _ _ _ _ Set.univ (kAt m c t) (vAt m c t) (qAt m c t) (dAt m c t) ((dats m 0 c).before 4 t d4) x _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [S0]; · iexact S0
  isplitl [S1]; · iexact S1
  isplitl [S2]; · iexact S2
  rw [hq]
  iintro ⟨H0, H1, H2, H3, H4, H5, H6, S0, S1, S2⟩
  isplitl [S0 S1 S2 Hg]
  · isplitl [S0]
    · iexists _; isplitr; swap; · iexact S0
      ipureintro; exact fun _ => rfl
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]
  · iapply (to_back4 m c t d4); iexact H4
  isplitl [H5]; · iexact H5
  iexact H6

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

/-- The kernel's own scratch, owned at anything, and the generator's register. -/
theorem rest_eq (c : Dev nD) :
    (Pipeline.ΦA spec0 c : sProp 𝕄)
      = iprop(((∃ x, owns (c : Thread nD τ) (Memref.whole cc0_scratch0) fullShare x) ∗ (∃ x, owns (c : Thread nD τ) (Memref.whole cc0_scratch1) fullShare x)
        ∗ (∃ x, owns (c : Thread nD τ) (Memref.whole cc0_scratch2) fullShare x)) ∗ (∃ r, prngReg c r)) := by
  unfold Pipeline.ΦA; rw [scopedRest0_eq]; simp only [owns_whole]; try rfl

theorem enter (c : Dev nD) : Pipeline.ΦA spec0 c ⊢ (dats m 0 c).Φ 0 := by
  rw [show (dats m 0 c).Φ 0 = Inv m c 0 from rfl, rest_eq]
  unfold Inv
  iintro ⟨⟨⟨%x, S0⟩, S1, S2⟩, Hg⟩
  isplitl [S0]
  · iexists x; isplitr; swap; · iexact S0
    ipureintro; exact fun h => absurd rfl h
  isplitl [S1]; · iexact S1
  isplitl [S2]; · iexact S2
  iexact Hg

theorem leave (c : Dev nD) : (dats m 0 c).Φ (Fin.last cfg0.N) ⊢ Pipeline.ΦA spec0 c := by
  rw [show (dats m 0 c).Φ (Fin.last cfg0.N) = Inv m c cfg0.N from rfl, rest_eq]
  unfold Inv
  iintro ⟨⟨%x, -, S0⟩, S1, S2, Hg⟩
  isplitl [S0 S1 S2]
  · isplitl [S0]
    · iexists x; iexact S0
    isplitl [S1]; · iexact S1
    iexact S2
  iexact Hg

/-! ## The run -/

set_option backward.isDefEq.respectTransparency.types false in
/-- Every execution ends with the pipeline's arrays and the other buffers at what the proof data say, and with every
    semaphore counter at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (fun c => (obligation m c).loose) (fun c w => by simp only [Dat.share, dats, ite_self]) (fun _ _ => rfl) (V0 m) [hostOps1] sfx_sub sfx_fresh sfx_keeps (hmain m Variants.none)
    (A_eq m) (enter m) (leave m) (Q' := _) (fun _ h => h)

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Kernel2Ideal.Attn

end
-- ==== Proof.AttnBits.lean ====
/-
  The frame of the program as it was written, from the run over any float values: at the words the mask's name is its
  literal.
-/
module

public import proofs.«01_k».proof.Proof.AttnFrame
public import proofs.«01_k».proof.Proof.Gen.Kernel2
public import proofs.«01_k».proof.Kernel2
public import Idealize.ShloMosaic.PureOps.BitExact
public import Idealize.ShloMosaic.Lib.Claim

@[expose] public section

noncomputable section

namespace Cert.Kernel2Ideal.Attn

open Idealize.ShloMosaic Idealize.SL.Sem

/-- At the words a named constant is the literal it stands for. -/
local instance written : Named Bits where
  named _ _ {φ} bits := FloatOps.ofBits φ bits

/-- The frame of the program with the mask named, read at the words. -/
def NamedFrame : Prop :=
  ∀ (m : (ℓ : Loc Cert.Kernel2Ideal.nD Cert.Kernel2Ideal.τ Cert.Kernel2Ideal.sig) → Buf (Elt Bits) ℓ) (ρ : Dev Cert.Kernel2Ideal.nD → PrngReg),
    θ_run (Cert.Kernel2Ideal.defs (F := Bits)) (onTc (τ := Cert.Kernel2Ideal.τ) (Cert.Kernel2Ideal.main (F := Bits))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0) ∧
      r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1) ∧
      r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2) ∧
      r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

/-- The frame of the program as written. -/
def WrittenFrame : Prop :=
  ∀ (m : (ℓ : Loc Cert.Kernel2.nD Cert.Kernel2.τ Cert.Kernel2.sig) → Buf (Elt Bits) ℓ) (ρ : Dev Cert.Kernel2.nD → PrngReg),
    θ_run (Cert.Kernel2.defs (F := Bits)) (onTc (τ := Cert.Kernel2.τ) (Cert.Kernel2.main (F := Bits))) ⟨m, fun _ => 0, ρ⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0) ∧
      r.2.mem ((c.tc : Thread Cert.Kernel2.nD Cert.Kernel2.τ).loc Cert.Kernel2.main_arg1) = m ((c.tc : Thread Cert.Kernel2.nD Cert.Kernel2.τ).loc Cert.Kernel2.main_arg1) ∧
      r.2.mem ((c.tc : Thread Cert.Kernel2.nD Cert.Kernel2.τ).loc Cert.Kernel2.main_arg2) = m ((c.tc : Thread Cert.Kernel2.nD Cert.Kernel2.τ).loc Cert.Kernel2.main_arg2) ∧
      r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

theorem same_frame : NamedFrame = WrittenFrame := by
  sl_kernel_rfl

theorem frame_written : WrittenFrame := same_frame.mp fun m ρ => frame m ρ

end Cert.Kernel2Ideal.Attn

end
-- ==== Proof.AttnPre.lean ====
/-
  The precondition read: the attention's arguments are finite, so each of their elements is a real number.
-/
module

public import proofs.«01_k».proof.Proof.Gen.Pre_attn_finite
public import Idealize.ShloMosaic.Lib.Pointwise
public import Idealize.ShloMosaic.Lib.Claim
public import Idealize.ShloMosaic.PureOps.Reduce

@[expose] public section

set_option maxRecDepth 16384

noncomputable section

namespace Cert.Pre_attn_finite.Attn

open Cert.Pre_attn_finite Cert.Pre_attn_finite.Gen
open Idealize.ShloMosaic Idealize.SL.Sem

theorem andi_one : ∀ a b : BitVec 1, IntOp.andi a b = 1#1 → a = 1#1 ∧ b = 1#1 := by decide +kernel

theorem fold_one {ι : Type} (s : Finset ι) (f : ι → BitVec 1) (b : BitVec 1) (h : s.fold IntOp.andi b f = 1#1) : ∀ i ∈ s, f i = 1#1 := by
  classical
  induction s using Finset.induction_on with
  | empty => simp
  | insert a s ha ih =>
    rw [Finset.fold_insert ha] at h
    obtain ⟨h1, h2⟩ := andi_one _ _ h
    intro i hi
    rcases Finset.mem_insert.mp hi with rfl | hi
    · exact h1
    · exact ih h2 i hi

/-- Where the conjunction of all of an array's elements holds, each holds. -/
theorem all_one {s : Shape} {axes : List (Fin s.rank)} (x : IVec s 1) (init : IVec S_ 1) (h' : s.ReducesTo axes S_) (hu : 0 < S_.numel) (j : S_.Idx)
    (h : Host.reduce IntOp.andi x init h' hu j = 1#1) (i : s.Idx) : x i = 1#1 := by
  rw [Host.reduce_eq_fold] at h
  refine fold_one _ x _ h i (Finset.mem_filter.mpr ⟨Finset.mem_univ _, ?_⟩)
  funext a
  exact a.elim0

/-- An extended real below infinity in absolute value is a real number. -/
theorem real_of (x : EReal) (h : FloatOps.cmpf (F := Ideal) (φ := .f32) .olt (FloatOps.hostAbsf (F := Ideal) (φ := .f32) x) (Ideal.ofBits .f32 0x7F800000#32) = 1#1) : ∃ r : ℝ, x = (r : EReal) := by
  have hi : Ideal.ofBits .f32 0x7F800000#32 = (⊤ : EReal) := by simp [Ideal.ofBits, Ideal.ieee]
  rw [hi] at h
  change Ideal.cmp .olt (max x (-x)) ⊤ = 1#1 at h
  induction x using EReal.rec with
  | bot => simp [Ideal.cmp] at h
  | top => simp [Ideal.cmp] at h
  | coe r => exact ⟨r, rfl⟩

theorem finite96 (x : FVec Ideal S1x8x4096x96 .f32) (j : S_.Idx)
    (h : Host.reduce IntOp.andi (cmpf .olt (Host.absf x) (broadcastInDim S1x8x4096x96 ![] bcast_S_S1x8x4096x96 (constant S_ .f32 0x7F800000#32))) (constantI S_ 1 1#1) reducesTo_S1x8x4096x96_S_d0_1_2_3 h_S_ j = 1#1) :
    ∃ X : Fin 8 → Fin 4096 → Fin 96 → ℝ, ∀ h s c, x (ix4 0 h s c) = (X h s c : EReal) := by
  have e := all_one _ _ _ _ j h
  have r : ∀ (h : Fin 8) (s : Fin 4096) (c : Fin 96), ∃ r : ℝ, x (ix4 0 h s c) = (r : EReal) := fun h s c => real_of _ (e (ix4 0 h s c))
  choose X hX using r
  exact ⟨X, hX⟩

theorem finite64 (x : FVec Ideal S1x8x4096x64 .f32) (j : S_.Idx)
    (h : Host.reduce IntOp.andi (cmpf .olt (Host.absf x) (broadcastInDim S1x8x4096x64 ![] bcast_S_S1x8x4096x64 (constant S_ .f32 0x7F800000#32))) (constantI S_ 1 1#1) reducesTo_S1x8x4096x64_S_d0_1_2_3 h_S_ j = 1#1) :
    ∃ X : Fin 8 → Fin 4096 → Fin 64 → ℝ, ∀ h s c, x (ix4 0 h s c) = (X h s c : EReal) := by
  have e := all_one _ _ _ _ j h
  have r : ∀ (h : Fin 8) (s : Fin 4096) (c : Fin 64), ∃ r : ℝ, x (ix4 0 h s c) = (r : EReal) := fun h s c => real_of _ (e (ix4 0 h s c))
  choose X hX using r
  exact ⟨X, hX⟩

theorem finite (a0 a1 : FVec Ideal S1x8x4096x96 .f32) (a2 a3 : FVec Ideal S1x8x4096x64 .f32) (h : fn (F := Ideal) a0 a1 a2 a3 = fun _ => 1#1) :
    (∃ X : Fin 8 → Fin 4096 → Fin 96 → ℝ, ∀ h s c, a0 (ix4 0 h s c) = (X h s c : EReal)) ∧ (∃ X : Fin 8 → Fin 4096 → Fin 96 → ℝ, ∀ h s c, a1 (ix4 0 h s c) = (X h s c : EReal))
    ∧ (∃ X : Fin 8 → Fin 4096 → Fin 64 → ℝ, ∀ h s c, a2 (ix4 0 h s c) = (X h s c : EReal)) ∧ (∃ X : Fin 8 → Fin 4096 → Fin 64 → ℝ, ∀ h s c, a3 (ix4 0 h s c) = (X h s c : EReal)) := by
  have j : S_.Idx := fun a => a.elim0
  have h0 : IntOp.andi (IntOp.andi (IntOp.andi (Host.reduce IntOp.andi (cmpf .olt (Host.absf a0) (broadcastInDim S1x8x4096x96 ![] bcast_S_S1x8x4096x96 (constant S_ .f32 0x7F800000#32))) (constantI S_ 1 1#1) reducesTo_S1x8x4096x96_S_d0_1_2_3 h_S_ j) (Host.reduce IntOp.andi (cmpf .olt (Host.absf a1) (broadcastInDim S1x8x4096x96 ![] bcast_S_S1x8x4096x96 (constant S_ .f32 0x7F800000#32))) (constantI S_ 1 1#1) reducesTo_S1x8x4096x96_S_d0_1_2_3 h_S_ j)) (Host.reduce IntOp.andi (cmpf .olt (Host.absf a2) (broadcastInDim S1x8x4096x64 ![] bcast_S_S1x8x4096x64 (constant S_ .f32 0x7F800000#32))) (constantI S_ 1 1#1) reducesTo_S1x8x4096x64_S_d0_1_2_3 h_S_ j)) (Host.reduce IntOp.andi (cmpf .olt (Host.absf a3) (broadcastInDim S1x8x4096x64 ![] bcast_S_S1x8x4096x64 (constant S_ .f32 0x7F800000#32))) (constantI S_ 1 1#1) reducesTo_S1x8x4096x64_S_d0_1_2_3 h_S_ j) = 1#1 := congrFun h j
  obtain ⟨h1, hd⟩ := andi_one _ _ h0
  obtain ⟨h2, hc⟩ := andi_one _ _ h1
  obtain ⟨ha, hb⟩ := andi_one _ _ h2
  exact ⟨finite96 a0 j ha, finite96 a1 j hb, finite64 a2 j hc, finite64 a3 j hd⟩

end Cert.Pre_attn_finite.Attn

end
-- ==== Proof.AttnHost.lean ====
/-
  The host lines before the attention's backward region: the softmax of the masked scores, its row log-sum and the row sum of
  the cotangent times the output.
-/
module

public import proofs.«01_k».proof.Proof.Gen.Kernel2Ideal.Frame
public import Idealize.ShloMosaic.Lib.Pipeline.ValueKit
public import Idealize.ShloMosaic.Lib.Claim
public import Idealize.ShloMosaic.Lib.Pointwise

@[expose] public section

set_option maxRecDepth 16384

noncomputable section

namespace Cert.Kernel2Ideal.Attn

open Cert.Kernel2Ideal Cert.Kernel2Ideal.Gen
open Idealize.ShloMosaic Idealize.ShloMosaic.TcCoe Idealize.SL.Sem
open Idealize.ShloMosaic.Pipeline (Dat)

/-! ## The mask -/

/-- The chunk of each position. -/
def chunkH : IVec S4096 32 :=
  select (andi (cmpi .ne (signi (iotaInDim S4096 32 0)) (broadcastInDim S4096 ![] bcast_S_S4096 (signi (constantI S_ 32 64#32))))
      (cmpi .ne (Host.remsi (iotaInDim S4096 32 0) (broadcastInDim S4096 ![] bcast_S_S4096 (constantI S_ 32 64#32))) (broadcastInDim S4096 ![] bcast_S_S4096 (constantI S_ 32 0#32))))
    (subi (Host.divsi (iotaInDim S4096 32 0) (broadcastInDim S4096 ![] bcast_S_S4096 (constantI S_ 32 64#32))) (broadcastInDim S4096 ![] bcast_S_S4096 (constantI S_ 32 1#32)))
    (Host.divsi (iotaInDim S4096 32 0) (broadcastInDim S4096 ![] bcast_S_S4096 (constantI S_ 32 64#32)))

/-- The key of column `r` is seen by the query of row `s`. -/
def maskH : IVec S4096x4096 1 :=
  cmpi .sle (broadcastInDim S4096x4096 ![0, 1] bcast_S1x4096_S4096x4096_0_1 (broadcastInDim S1x4096 ![1] bcast_S4096_S1x4096_1 chunkH))
    (broadcastInDim S4096x4096 ![0, 1] bcast_S4096x1_S4096x4096_0_1 (broadcastInDim S4096x1 ![0] bcast_S4096_S4096x1_0 chunkH))

/-- The sign of a word. -/
def sgn (b : BitVec 32) : BitVec 32 := if b = 0 then 0 else if b.msb then -1 else 1

theorem word_chunk : ∀ a : Fin 4096,
    Scalar.select (IntOp.andi (IntOp.cmpi .ne (sgn (BitVec.ofNat 32 a.val)) (sgn 64#32))
      (IntOp.cmpi .ne (IntOp.remsi .host (BitVec.ofNat 32 a.val) 64#32) 0#32))
      (IntOp.subi (IntOp.divsi .host (BitVec.ofNat 32 a.val) 64#32) 1#32) (IntOp.divsi .host (BitVec.ofNat 32 a.val) 64#32) = BitVec.ofNat 32 (a.val / 64) := by
  decide +kernel

theorem chunkH_at (a : Fin 4096) : chunkH (ix1 a) = BitVec.ofNat 32 (a.val / 64) := by
  refine Eq.trans ?_ (word_chunk a)
  pointwise [chunkH]
  rfl

theorem word_le : ∀ a b : Fin 64, IntOp.cmpi .sle (BitVec.ofNat 32 a.val) (BitVec.ofNat 32 b.val) = if a.val ≤ b.val then 1#1 else 0#1 := by
  decide +kernel

theorem maskH_at (s r : Fin 4096) : maskH (ix2 s r) = if r.val / 64 ≤ s.val / 64 then 1#1 else 0#1 := by
  refine Eq.trans ?_ (word_le ⟨r.val / 64, by omega⟩ ⟨s.val / 64, by omega⟩)
  rw [← chunkH_at, ← chunkH_at]
  pointwise [maskH]

/-! ## The softmax -/

/-- The masked scores. -/
def scoreH (q k : FVec Ideal S1x8x4096x96 .f32) : FVec Ideal S1x8x4096x4096 .f32 :=
  select (broadcastInDim S1x8x4096x4096 ![2, 3] bcast_S4096x4096_S1x8x4096x4096_2_3 maskH)
    (mulf (Host.dotGeneral dot_S1x8x4096x96_S1x8x4096x96_S1x8x4096x4096_3_3_2_2_01_01 none q k)
      (broadcastInDim S1x8x4096x4096 ![] bcast_S_S1x8x4096x4096 (constant S_ .f32 0x3DD105EC#32)))
    (broadcastInDim S1x8x4096x4096 ![] bcast_S_S1x8x4096x4096 (constant S_ .f32 0xFF800000#32))

theorem score_row (M : IVec S4096x4096 1) (q k : FVec Ideal S1x8x4096x96 .f32) (h : Fin 8) (s r : Fin 4096) :
    (select (broadcastInDim S1x8x4096x4096 ![2, 3] bcast_S4096x4096_S1x8x4096x4096_2_3 M)
    (mulf (Host.dotGeneral dot_S1x8x4096x96_S1x8x4096x96_S1x8x4096x4096_3_3_2_2_01_01 none q k)
      (broadcastInDim S1x8x4096x4096 ![] bcast_S_S1x8x4096x4096 (constant S_ .f32 0x3DD105EC#32)))
    (broadcastInDim S1x8x4096x4096 ![] bcast_S_S1x8x4096x4096 (constant S_ .f32 0xFF800000#32)) : FVec Ideal S1x8x4096x4096 .f32) (ix4 0 h s r)
     = Scalar.select (M (ix2 s r)) ((∑ x, q (ix4 0 h s x) * k (ix4 0 h r x)) * Ideal.ofBits FTy.f32 0x3DD105EC#32)
      (Ideal.ofBits FTy.f32 0xFF800000#32) := by
  pointwise

theorem neg_inf : Ideal.ofBits FTy.f32 0xFF800000#32 = (⊥ : EReal) := by
  simp [Ideal.ofBits, Ideal.ieee]

/-- The scale, as the number its float word is. -/
def scaleH : EReal := Ideal.ofBits FTy.f32 0x3DD105EC#32

theorem scale_real : ∃ σ : ℝ, scaleH = (σ : EReal) := by
  simp [scaleH, Ideal.ofBits, Ideal.ieee, -EReal.coe_mul]

theorem scoreH_at (q k : FVec Ideal S1x8x4096x96 .f32) (h : Fin 8) (s r : Fin 4096) :
    scoreH q k (ix4 0 h s r) = if r.val / 64 ≤ s.val / 64 then (∑ c : Fin 96, (q (ix4 0 h s c) : EReal) * (k (ix4 0 h r c) : EReal)) * scaleH else (⊥ : EReal) := by
  refine (score_row maskH q k h s r).trans ?_
  rw [maskH_at, neg_inf]
  split_ifs with h <;> simp [Scalar.select, scaleH]

/-- Each row's greatest score. -/
def maxH (q k : FVec Ideal S1x8x4096x96 .f32) : FVec Ideal S1x8x4096 .f32 :=
  Host.reduce FloatOps.maximumf (scoreH q k) (constant S_ .f32 0xFF800000#32) reducesTo_S1x8x4096x4096_S1x8x4096_d3 h_S_
theorem maxH_at (q k : FVec Ideal S1x8x4096x96 .f32) (h : Fin 8) (s : Fin 4096) :
    maxH q k (ix3 0 h s) = (Finset.univ : Finset (Fin 4096)).fold max (⊥ : EReal) fun r => scoreH q k (ix4 0 h s r) := by
  have hr : S1x8x4096x4096.Reduces [3] S1x8x4096 := by decide
  unfold maxH
  generalize scoreH q k = S
  rw [Host.reduce_eq_fold_single FloatOps.maximumf S _ reducesTo_S1x8x4096x4096_S1x8x4096_d3 hr h_S_]
  have hi : ∀ r : Fin 4096, hr.lift (ix3 0 h s) r = ix4 0 h s r := by
    intro r
    funext a
    apply Fin.ext
    fin_cases a <;> simp [Shape.Reduces.lift] <;> rfl
  have hc : (constant S_ .f32 0xFF800000#32 : FVec Ideal S_ .f32) (Shape.Idx.first h_S_) = (⊥ : EReal) := neg_inf
  rw [hc]
  refine Finset.fold_congr fun r _ => ?_
  exact congrArg S (hi r)

/-- The exponentials. -/
def expH (q k : FVec Ideal S1x8x4096x96 .f32) : FVec Ideal S1x8x4096x4096 .f32 :=
  Host.exp (subf (scoreH q k) (broadcastInDim S1x8x4096x4096 ![0, 1, 2, 3] bcast_S1x8x4096x1_S1x8x4096x4096_0_1_2_3
    (broadcastInDim S1x8x4096x1 ![0, 1, 2] bcast_S1x8x4096_S1x8x4096x1_0_1_2 (maxH q k))))
/-- Their row sums. -/
def sumH (q k : FVec Ideal S1x8x4096x96 .f32) : FVec Ideal S1x8x4096x1 .f32 :=
  broadcastInDim S1x8x4096x1 ![0, 1, 2] bcast_S1x8x4096_S1x8x4096x1_0_1_2
    (Host.reduceAdd (expH q k) (constant S_ .f32 0x00000000#32) reducesTo_S1x8x4096x4096_S1x8x4096_d3 h_S_)
/-- The softmax. -/
def probH (q k : FVec Ideal S1x8x4096x96 .f32) : FVec Ideal S1x8x4096x4096 .f32 :=
  Host.divf (expH q k) (broadcastInDim S1x8x4096x4096 ![0, 1, 2, 3] bcast_S1x8x4096x1_S1x8x4096x4096_0_1_2_3 (sumH q k))

theorem exp_row (S : FVec Ideal S1x8x4096x4096 .f32) (M : FVec Ideal S1x8x4096 .f32) (h : Fin 8) (s r : Fin 4096) :
    (Host.exp (subf S (broadcastInDim S1x8x4096x4096 ![0, 1, 2, 3] bcast_S1x8x4096x1_S1x8x4096x4096_0_1_2_3
      (broadcastInDim S1x8x4096x1 ![0, 1, 2] bcast_S1x8x4096_S1x8x4096x1_0_1_2 M))) : FVec Ideal S1x8x4096x4096 .f32) (ix4 0 h s r)
      = Ideal.exp (S (ix4 0 h s r) - M (ix3 0 h s)) := by
  pointwise
theorem expH_at (q k : FVec Ideal S1x8x4096x96 .f32) (h : Fin 8) (s r : Fin 4096) :
    expH q k (ix4 0 h s r) = Ideal.exp (scoreH q k (ix4 0 h s r) - maxH q k (ix3 0 h s)) :=
  exp_row _ _ h s r
theorem sum_row (E : FVec Ideal S1x8x4096x4096 .f32) (h : Fin 8) (s : Fin 4096) (z : Fin 1) :
    (broadcastInDim S1x8x4096x1 ![0, 1, 2] bcast_S1x8x4096_S1x8x4096x1_0_1_2
      (Host.reduceAdd E (constant S_ .f32 0x00000000#32) reducesTo_S1x8x4096x4096_S1x8x4096_d3 h_S_) : FVec Ideal S1x8x4096x1 .f32) (ix4 0 h s z) = ∑ r : Fin 4096, E (ix4 0 h s r) := by
  pointwise
theorem sumH_at (q k : FVec Ideal S1x8x4096x96 .f32) (h : Fin 8) (s : Fin 4096) (z : Fin 1) :
    sumH q k (ix4 0 h s z) = ∑ r : Fin 4096, expH q k (ix4 0 h s r) :=
  sum_row _ h s z
theorem div_row (E : FVec Ideal S1x8x4096x4096 .f32) (L : FVec Ideal S1x8x4096x1 .f32) (h : Fin 8) (s r : Fin 4096) :
    (Host.divf E (broadcastInDim S1x8x4096x4096 ![0, 1, 2, 3] bcast_S1x8x4096x1_S1x8x4096x4096_0_1_2_3 L) : FVec Ideal S1x8x4096x4096 .f32) (ix4 0 h s r)
      = Ideal.div (E (ix4 0 h s r)) (L (ix4 0 h s 0)) := by
  pointwise
theorem probH_at (q k : FVec Ideal S1x8x4096x96 .f32) (h : Fin 8) (s r : Fin 4096) :
    probH q k (ix4 0 h s r) = Ideal.div (expH q k (ix4 0 h s r)) (sumH q k (ix4 0 h s 0)) :=
  div_row _ _ h s r

/-- The row log-sum, negated. -/
def lseH (q k : FVec Ideal S1x8x4096x96 .f32) : FVec Ideal S1x8x4096x1 .f32 :=
  Host.negf (addf (broadcastInDim S1x8x4096x1 ![0, 1, 2] bcast_S1x8x4096_S1x8x4096x1_0_1_2 (maxH q k)) (Host.log (sumH q k)))
/-- The row sum of the cotangent times the output, negated. -/
def delH (q k : FVec Ideal S1x8x4096x96 .f32) (v d : FVec Ideal S1x8x4096x64 .f32) : FVec Ideal S1x8x4096x1 .f32 :=
  Host.negf (broadcastInDim S1x8x4096x1 ![0, 1, 2] bcast_S1x8x4096_S1x8x4096x1_0_1_2
    (Host.reduceAdd (mulf d (Host.dotGeneral dot_S1x8x4096x4096_S1x8x4096x64_S1x8x4096x64_3_2_2_3_01_01 none (probH q k) v))
      (constant S_ .f32 0x00000000#32) reducesTo_S1x8x4096x64_S1x8x4096_d3 h_S_))

theorem lse_row (M : FVec Ideal S1x8x4096 .f32) (L : FVec Ideal S1x8x4096x1 .f32) (h : Fin 8) (s : Fin 4096) :
    (Host.negf (addf (broadcastInDim S1x8x4096x1 ![0, 1, 2] bcast_S1x8x4096_S1x8x4096x1_0_1_2 M) (Host.log L)) : FVec Ideal S1x8x4096x1 .f32) (ix4 0 h s 0)
      = -(M (ix3 0 h s) + Ideal.log (L (ix4 0 h s 0))) := by
  pointwise
theorem lseH_at (q k : FVec Ideal S1x8x4096x96 .f32) (h : Fin 8) (s : Fin 4096) :
    lseH q k (ix4 0 h s 0) = -(maxH q k (ix3 0 h s) + Ideal.log (sumH q k (ix4 0 h s 0))) :=
  lse_row _ _ h s
theorem del_row (P : FVec Ideal S1x8x4096x4096 .f32) (v d : FVec Ideal S1x8x4096x64 .f32) (h : Fin 8) (s : Fin 4096) :
    (Host.negf (broadcastInDim S1x8x4096x1 ![0, 1, 2] bcast_S1x8x4096_S1x8x4096x1_0_1_2
      (Host.reduceAdd (mulf d (Host.dotGeneral dot_S1x8x4096x4096_S1x8x4096x64_S1x8x4096x64_3_2_2_3_01_01 none P v))
      (constant S_ .f32 0x00000000#32) reducesTo_S1x8x4096x64_S1x8x4096_d3 h_S_)) : FVec Ideal S1x8x4096x1 .f32) (ix4 0 h s 0)
      = -(∑ e : Fin 64, d (ix4 0 h s e) * ∑ r : Fin 4096, P (ix4 0 h s r) * v (ix4 0 h r e)) := by
  pointwise
theorem delH_at (q k : FVec Ideal S1x8x4096x96 .f32) (v d : FVec Ideal S1x8x4096x64 .f32) (h : Fin 8) (s : Fin 4096) :
    delH q k v d (ix4 0 h s 0) = -(∑ e : Fin 64, d (ix4 0 h s e) * ∑ r : Fin 4096, probH q k (ix4 0 h s r) * v (ix4 0 h r e)) :=
  del_row _ v d h s

end Cert.Kernel2Ideal.Attn

end
-- ==== Proof.AttnEntry.lean ====
/-
  The operands of the attention's backward region: each head's columns with its two further lanes.
-/
module

public import proofs.«01_k».proof.Proof.AttnHost
public import Idealize.ShloMosaic.Lib.StableHlo.RunRead

@[expose] public section

set_option maxRecDepth 16384

noncomputable section

namespace Cert.Kernel2Ideal.Attn

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The contents when the scores are there. -/
def scored (c : Dev nD) : Valuation τ sig (Elt Ideal) :=
  StableHlo.after (List.flatten [hostOps0, hostOps0_1, hostOps0_2, hostOps0_3]) (fun b => m (c, b))
/-- The contents after that when the softmax's sums are there. -/
def summed (U : Valuation τ sig (Elt Ideal)) : Valuation τ sig (Elt Ideal) := StableHlo.after hostOps0_4 U
/-- The contents after that when the operands are packed. -/
def packed (U : Valuation τ sig (Elt Ideal)) : Valuation τ sig (Elt Ideal) :=
  StableHlo.after (List.flatten [hostOps0_5, hostOps0_6, hostOps0_7, hostOps0_8, hostOps0_9, hostOps0_10, hostOps0_11, hostOps0_12]) U

theorem V0_split (c : Dev nD) : V0 m c = packed (summed (scored m c)) := by
  unfold V0 packed summed scored
  rw [← StableHlo.after_append, ← StableHlo.after_append]
  simp only [List.flatten_cons, List.append_assoc, List.flatten_nil, List.append_nil]

theorem scored_v10 (c : Dev nD) : scored m c (Proc.devRef .tc main_v10) = scoreH (m ((c : Thread nD τ).loc main_arg0)) (m ((c : Thread nD τ).loc main_arg1)) := by
  rfl
theorem scored_arg0 (c : Dev nD) : scored m c (Proc.devRef .tc main_arg0) = (m ((c : Thread nD τ).loc main_arg0)) := by
  rfl
theorem scored_arg2 (c : Dev nD) : scored m c (Proc.devRef .tc main_arg2) = (m ((c : Thread nD τ).loc main_arg2)) := by
  rfl
theorem scored_arg3 (c : Dev nD) : scored m c (Proc.devRef .tc main_arg3) = (m ((c : Thread nD τ).loc main_arg3)) := by
  rfl
theorem scored_arg1 (c : Dev nD) : scored m c (Proc.devRef .tc main_arg1) = (m ((c : Thread nD τ).loc main_arg1)) := by
  rfl

/-- Two further lanes beside a head's 96 columns, zeros up to 128, the heads side by side. -/
def lanes96 (A : FVec Ideal S1x8x4096x96 .f32) (x y : FVec Ideal S1x8x4096x1 .f32) : FVec Ideal S4096x1024 .bf16 :=
  shapeCast S4096x1024 (transpose S1x4096x8x128 [0, 2, 1, 3] (truncf .bf16 (pad S1x8x4096x128 ![0, 0, 0, 0] ![0, 0, 0, 30] ![0, 0, 0, 0]
    (concatenate S1x8x4096x98 3 [⟨S1x8x4096x96, A⟩, ⟨S1x8x4096x1, x⟩, ⟨S1x8x4096x1, y⟩] concatenates_S1x8x4096x96_S1x8x4096x1_S1x8x4096x1_S1x8x4096x98_d3)
    (sitofp .f32 (constantI S_ 32 0#32)) pads_S1x8x4096x98_S1x8x4096x128_000_000_000_0300 h_S_) bitsLt_bf16_f32) transposes_S1x8x4096x128_S1x4096x8x128_0_2_1_3) shapeCasts_S1x4096x8x128_S4096x1024
/-- The same beside a head's 64 columns. -/
def lanes64 (A : FVec Ideal S1x8x4096x64 .f32) (x y : FVec Ideal S1x8x4096x1 .f32) : FVec Ideal S4096x1024 .bf16 :=
  shapeCast S4096x1024 (transpose S1x4096x8x128 [0, 2, 1, 3] (truncf .bf16 (pad S1x8x4096x128 ![0, 0, 0, 0] ![0, 0, 0, 62] ![0, 0, 0, 0]
    (concatenate S1x8x4096x66 3 [⟨S1x8x4096x64, A⟩, ⟨S1x8x4096x1, x⟩, ⟨S1x8x4096x1, y⟩] concatenates_S1x8x4096x64_S1x8x4096x1_S1x8x4096x1_S1x8x4096x66_d3)
    (sitofp .f32 (constantI S_ 32 0#32)) pads_S1x8x4096x66_S1x8x4096x128_000_000_000_0620 h_S_) bitsLt_bf16_f32) transposes_S1x8x4096x128_S1x4096x8x128_0_2_1_3) shapeCasts_S1x4096x8x128_S4096x1024

/-- A value rounded, and what the rounding left out. -/
def hiH (x : FVec Ideal S1x8x4096x1 .f32) : FVec Ideal S1x8x4096x1 .f32 := extf .f32 (truncf .bf16 x bitsLt_bf16_f32) bitsLt_bf16_f32
def loH (x : FVec Ideal S1x8x4096x1 .f32) : FVec Ideal S1x8x4096x1 .f32 := subf x (hiH x)
def oneH : FVec Ideal S1x8x4096x1 .f32 := broadcastInDim S1x8x4096x1 ![] bcast_S_S1x8x4096x1 (constant S_ .f32 0x3F800000#32)
def scaledH (q : FVec Ideal S1x8x4096x96 .f32) : FVec Ideal S1x8x4096x96 .f32 :=
  mulf q (broadcastInDim S1x8x4096x96 ![] bcast_S_S1x8x4096x96 (constant S_ .f32 0x3DD105EC#32))

variable (U : Valuation τ sig (Elt Ideal))

/-! ### The softmax's sums. -/

theorem summed_v23 (q k : FVec Ideal S1x8x4096x96 .f32) (h : U (Proc.devRef .tc main_v10) = scoreH q k) : summed U (Proc.devRef .tc main_v23) = lseH q k := by
  unfold summed lseH sumH expH maxH
  rw [← h]
  after_reads_simp
theorem summed_v30 (q k : FVec Ideal S1x8x4096x96 .f32) (h : U (Proc.devRef .tc main_v10) = scoreH q k) :
    summed U (Proc.devRef .tc main_v30) = delH q k (U (Proc.devRef .tc main_arg2)) (U (Proc.devRef .tc main_arg3)) := by
  unfold summed delH probH sumH expH maxH
  rw [← h]
  after_reads_simp

theorem summed_v25 : summed U (Proc.devRef .tc main_v25) = hiH (summed U (Proc.devRef .tc main_v23)) := by
  unfold summed hiH
  after_reads_simp
theorem summed_v26 : summed U (Proc.devRef .tc main_v26) = loH (summed U (Proc.devRef .tc main_v23)) := by
  unfold summed loH hiH
  after_reads_simp
theorem summed_v32 : summed U (Proc.devRef .tc main_v32) = hiH (summed U (Proc.devRef .tc main_v30)) := by
  unfold summed hiH
  after_reads_simp
theorem summed_v33 : summed U (Proc.devRef .tc main_v33) = loH (summed U (Proc.devRef .tc main_v30)) := by
  unfold summed loH hiH
  after_reads_simp
theorem summed_v34 : summed U (Proc.devRef .tc main_v34) = oneH := by
  unfold summed oneH
  after_reads_simp
theorem summed_v36 : summed U (Proc.devRef .tc main_v36) = scaledH (U (Proc.devRef .tc main_arg0)) := by
  unfold summed scaledH
  after_reads_simp
theorem summed_v37 : summed U (Proc.devRef .tc main_v37) = concatenate S1x8x4096x98 3 [⟨S1x8x4096x96, summed U (Proc.devRef .tc main_v36)⟩,
    ⟨S1x8x4096x1, summed U (Proc.devRef .tc main_v25)⟩, ⟨S1x8x4096x1, summed U (Proc.devRef .tc main_v26)⟩] concatenates_S1x8x4096x96_S1x8x4096x1_S1x8x4096x1_S1x8x4096x98_d3 := by
  have e : summed U = StableHlo.after (List.drop 31 hostOps0_4) (StableHlo.after (List.take 31 hostOps0_4) U) := by
    rw [← StableHlo.after_append, List.take_append_drop]; rfl
  rw [e]
  generalize StableHlo.after (List.take 31 hostOps0_4) U = T
  rfl
theorem summed_c6 : summed U (Proc.devRef .tc main_c_6) = constantI S_ 32 0#32 := by
  unfold summed
  after_reads_simp
theorem summed_arg1 : summed U (Proc.devRef .tc main_arg1) = U (Proc.devRef .tc main_arg1) := by
  unfold summed
  after_reads_simp
theorem summed_arg2 : summed U (Proc.devRef .tc main_arg2) = U (Proc.devRef .tc main_arg2) := by
  unfold summed
  after_reads_simp
theorem summed_arg3 : summed U (Proc.devRef .tc main_arg3) = U (Proc.devRef .tc main_arg3) := by
  unfold summed
  after_reads_simp

/-! ### The packing. -/

set_option maxRecDepth 400000 in
theorem packed_v41 (A : FVec Ideal S1x8x4096x96 .f32) (x y : FVec Ideal S1x8x4096x1 .f32)
    (h : U (Proc.devRef .tc main_v37) = concatenate S1x8x4096x98 3 [⟨S1x8x4096x96, A⟩, ⟨S1x8x4096x1, x⟩, ⟨S1x8x4096x1, y⟩] concatenates_S1x8x4096x96_S1x8x4096x1_S1x8x4096x1_S1x8x4096x98_d3)
    (h' : U (Proc.devRef .tc main_c_6) = constantI S_ 32 0#32) : packed U (Proc.devRef .tc main_v41) = lanes96 A x y := by
  unfold lanes96
  rw [← h, ← h']
  rfl
set_option maxRecDepth 400000 in
theorem packed_v46 : packed U (Proc.devRef .tc main_v46) = lanes96 (U (Proc.devRef .tc main_arg1)) (U (Proc.devRef .tc main_v34)) (U (Proc.devRef .tc main_v34)) := by
  rfl
set_option maxRecDepth 400000 in
theorem packed_v51 : packed U (Proc.devRef .tc main_v51) = lanes64 (U (Proc.devRef .tc main_arg2)) (U (Proc.devRef .tc main_v34)) (U (Proc.devRef .tc main_v34)) := by
  rfl
set_option maxRecDepth 400000 in
theorem packed_v56 : packed U (Proc.devRef .tc main_v56) = lanes64 (U (Proc.devRef .tc main_arg3)) (U (Proc.devRef .tc main_v32)) (U (Proc.devRef .tc main_v33)) := by
  rfl

/-! ### The region's four operands. -/

theorem V46 (c : Dev nD) : V m c main_v46 = lanes96 (m ((c : Thread nD τ).loc main_arg1)) oneH oneH := by
  unfold V
  rw [V0_split, packed_v46, summed_v34, summed_arg1, scored_arg1]
theorem V51 (c : Dev nD) : V m c main_v51 = lanes64 (m ((c : Thread nD τ).loc main_arg2)) oneH oneH := by
  unfold V
  rw [V0_split, packed_v51, summed_v34, summed_arg2, scored_arg2]
theorem V41 (c : Dev nD) : V m c main_v41 = lanes96 (scaledH (m ((c : Thread nD τ).loc main_arg0))) (hiH (lseH (m ((c : Thread nD τ).loc main_arg0)) (m ((c : Thread nD τ).loc main_arg1)))) (loH (lseH (m ((c : Thread nD τ).loc main_arg0)) (m ((c : Thread nD τ).loc main_arg1)))) := by
  unfold V
  rw [V0_split, packed_v41 _ _ _ _ (summed_v37 _) (summed_c6 _), summed_v36, summed_v25, summed_v26, summed_v23 _ _ _ (scored_v10 m c), scored_arg0]
theorem V56 (c : Dev nD) : V m c main_v56 = lanes64 (m ((c : Thread nD τ).loc main_arg3))
    (hiH (delH (m ((c : Thread nD τ).loc main_arg0)) (m ((c : Thread nD τ).loc main_arg1)) (m ((c : Thread nD τ).loc main_arg2)) (m ((c : Thread nD τ).loc main_arg3))))
    (loH (delH (m ((c : Thread nD τ).loc main_arg0)) (m ((c : Thread nD τ).loc main_arg1)) (m ((c : Thread nD τ).loc main_arg2)) (m ((c : Thread nD τ).loc main_arg3)))) := by
  unfold V
  rw [V0_split, packed_v56, summed_v32, summed_v33, summed_v30 _ _ _ (scored_v10 m c), summed_arg3, scored_arg3, scored_arg2]

end Cert.Kernel2Ideal.Attn

end
-- ==== Proof.AttnPay.lean ====
/-
  The attention's backward region at exact values: each stored vector read at one place. With `k`, `v` one head of the key block
  and `q`, `d` one head of the query rows, a weight is the exponential of the product of a key's and a query's lanes, or of
  minus infinity where the mask forbids the pair.
-/
module

public import proofs.«01_k».proof.Proof.AttnStep
public import Idealize.ShloMosaic.Lib.Pointwise

@[expose] public section

set_option maxRecDepth 16384

noncomputable section

namespace Cert.Kernel2Ideal.Attn

open Cert.Kernel2Ideal Cert.Kernel2Ideal.Gen
open Idealize.ShloMosaic Idealize.ShloMosaic.TcCoe Idealize.SL.Sem

/-- The mask's constant is minus infinity. -/
theorem mask_bot : Named.named (F := Ideal) κ "mask" (φ := .f32) 0xF149F2CA#32 = (⊥ : EReal) :=
  IdealRules.named_const.ideal_named_scalar _ _ _ _ rfl

theorem chunk_word : ∀ r : Fin 512, IntOp.shrsi ArithUnit.vector (BitVec.ofNat 32 r.val) 6#32 = BitVec.ofNat 32 (r.val / 64) := by
  decide +kernel

theorem chunk_le : ∀ a b : Fin 8, IntOp.cmpi .sle (BitVec.ofNat 32 a.val) (BitVec.ofNat 32 b.val) = if a.val ≤ b.val then 1#1 else 0#1 := by
  decide +kernel

/-- The mask inside the own query block: a key is seen by the queries of its chunk of 64 and of the later ones. -/
theorem mask_word {m n : ℕ} (hm : m ≤ 512) (hn : n ≤ 512) (r : Fin m) (s : Fin n) (z : EReal) :
    Scalar.select (IntOp.cmpi .sle (IntOp.shrsi ArithUnit.vector (BitVec.ofNat 32 r.val) 6#32) (IntOp.shrsi ArithUnit.vector (BitVec.ofNat 32 s.val) 6#32))
      z (Named.named (F := Ideal) κ "mask" (φ := .f32) 0xF149F2CA#32) = if r.val / 64 ≤ s.val / 64 then z else (⊥ : EReal) := by
  rw [chunk_word ⟨r.val, by omega⟩, chunk_word ⟨s.val, by omega⟩, mask_bot]
  have h := chunk_le ⟨r.val / 64, by omega⟩ ⟨s.val / 64, by omega⟩
  dsimp only at h ⊢
  rw [h]
  by_cases hc : r.val / 64 ≤ s.val / 64
  · rw [if_pos hc, if_pos hc]; rfl
  · rw [if_neg hc, if_neg hc]; rfl

/-- The product of the lanes of row `r` of `x` and of row `s` of `y`. -/
def dotp {m n : ℕ} (x : (⟨2, ![m, 128]⟩ : Shape).Idx → EReal) (y : (⟨2, ![n, 128]⟩ : Shape).Idx → EReal) (r : Fin m) (s : Fin n) : EReal :=
  ∑ c : Fin 128, x (ix2 r c) * y (ix2 s c)

/-- A weight inside the own query block, between a key's place and a query's place in the block. -/
def maskExp (r s : ℕ) (z : EReal) : EReal := Ideal.exp (if r / 64 ≤ s / 64 then z else ⊥)

/-- A later query block's share of the values' gradient. -/
theorem tripV0 (k v q d : FVec Ideal S512x128 .bf16) (x : FVec Ideal S512x128 .f32) (r : Fin 512) (l : Fin 128) :
    k0_pay24 (F := Ideal) (k0_pay37 k) q d x (ix2 r l) = x (ix2 r l) + ∑ s : Fin 512, Ideal.exp (dotp k q r s) * d (ix2 s l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- A later query block's share of the keys' gradient. -/
theorem tripK0 (k v q d : FVec Ideal S512x128 .bf16) (x : FVec Ideal S512x128 .f32) (r : Fin 512) (l : Fin 128) :
    k0_pay25 (F := Ideal) (k0_pay37 k) (k0_pay39 v) q d x (ix2 r l) = x (ix2 r l) + ∑ s : Fin 512, Ideal.exp (dotp k q r s) * dotp v d r s * q (ix2 s l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- The key block's share of a later query block's gradient. -/
theorem tripQ0 (k v q d : FVec Ideal S512x128 .bf16) (x : FVec Ideal S512x128 .f32) (r : Fin 512) (l : Fin 128) :
    k0_pay26 (F := Ideal) (k0_pay37 k) (k0_pay39 v) q d x (ix2 r l) = x (ix2 r l) + ∑ s : Fin 512, Ideal.exp (dotp k q s r) * dotp v d s r * k (ix2 s l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- A later query block's share of the values' gradient. -/
theorem tripV1 (k v q d : FVec Ideal S512x128 .bf16) (x : FVec Ideal S512x128 .f32) (r : Fin 512) (l : Fin 128) :
    k0_pay7 (F := Ideal) (k0_pay38 k) q d x (ix2 r l) = x (ix2 r l) + ∑ s : Fin 512, Ideal.exp (dotp k q r s) * d (ix2 s l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- A later query block's share of the keys' gradient. -/
theorem tripK1 (k v q d : FVec Ideal S512x128 .bf16) (x : FVec Ideal S512x128 .f32) (r : Fin 512) (l : Fin 128) :
    k0_pay8 (F := Ideal) (k0_pay38 k) (k0_pay40 v) q d x (ix2 r l) = x (ix2 r l) + ∑ s : Fin 512, Ideal.exp (dotp k q r s) * dotp v d r s * q (ix2 s l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- The key block's share of a later query block's gradient. -/
theorem tripQ1 (k v q d : FVec Ideal S512x128 .bf16) (x : FVec Ideal S512x128 .f32) (r : Fin 512) (l : Fin 128) :
    k0_pay9 (F := Ideal) (k0_pay38 k) (k0_pay40 v) q d x (ix2 r l) = x (ix2 r l) + ∑ s : Fin 512, Ideal.exp (dotp k q s r) * dotp v d s r * k (ix2 s l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- The own query block's share of the values' gradient, first half of the keys. -/
theorem ownV0 (k v : FVec Ideal S512x128 .bf16) (q d : FVec Ideal S512x128 .bf16) (x : FVec Ideal S256x128 .f32) (r : Fin 256) (l : Fin 128) :
    k0_pay47 (F := Ideal) (k0_pay42 d) (k0_pay43 k q) k0_pay44 x (ix2 r l) = x (ix2 r l) + ∑ s : Fin 512, maskExp r s (dotp k q ⟨r.val, by omega⟩ s) * d (ix2 s l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- The own query block's share of the keys' gradient, first half of the keys. -/
theorem ownK0 (k v : FVec Ideal S512x128 .bf16) (q d : FVec Ideal S512x128 .bf16) (x : FVec Ideal S256x128 .f32) (r : Fin 256) (l : Fin 128) :
    k0_pay48 (F := Ideal) (k0_pay39 v) (k0_pay41 q) (k0_pay42 d) (k0_pay43 k q) k0_pay44 x (ix2 r l) = x (ix2 r l) + ∑ s : Fin 512, maskExp r s (dotp k q ⟨r.val, by omega⟩ s) * dotp v d ⟨r.val, by omega⟩ s * q (ix2 s l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- The first half of the keys' share of the own query block's gradient. -/
theorem ownQ0 (k v : FVec Ideal S512x128 .bf16) (q d : FVec Ideal S512x128 .bf16) (x : FVec Ideal S512x128 .f32) (s : Fin 512) (l : Fin 128) :
    k0_pay49 (F := Ideal) (k0_pay37 k) (k0_pay39 v) (k0_pay42 d) (k0_pay43 k q) k0_pay44 x (ix2 s l) = x (ix2 s l) + ∑ r : Fin 256, maskExp r s (dotp k q ⟨r.val, by omega⟩ s) * dotp v d ⟨r.val, by omega⟩ s * k (ix2 ⟨r.val, by omega⟩ l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- The own query block's share of the values' gradient, first half of the keys. -/
theorem ownV1 (k v : FVec Ideal S512x128 .bf16) (q d : FVec Ideal S512x128 .bf16) (x : FVec Ideal S256x128 .f32) (r : Fin 256) (l : Fin 128) :
    k0_pay54 (F := Ideal) (k0_pay38 k) (k0_pay50 q) (k0_pay51 d) x (ix2 r l) = x (ix2 r l) + ∑ s : Fin 512, maskExp r s (dotp k q ⟨r.val, by omega⟩ s) * d (ix2 s l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- The own query block's share of the keys' gradient, first half of the keys. -/
theorem ownK1 (k v : FVec Ideal S512x128 .bf16) (q d : FVec Ideal S512x128 .bf16) (x : FVec Ideal S256x128 .f32) (r : Fin 256) (l : Fin 128) :
    k0_pay55 (F := Ideal) (k0_pay38 k) (k0_pay40 v) (k0_pay50 q) (k0_pay51 d) x (ix2 r l) = x (ix2 r l) + ∑ s : Fin 512, maskExp r s (dotp k q ⟨r.val, by omega⟩ s) * dotp v d ⟨r.val, by omega⟩ s * q (ix2 s l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- The first half of the keys' share of the own query block's gradient. -/
theorem ownQ1 (k v : FVec Ideal S512x128 .bf16) (q d : FVec Ideal S512x128 .bf16) (x : FVec Ideal S512x128 .f32) (s : Fin 512) (l : Fin 128) :
    k0_pay56 (F := Ideal) (k0_pay38 k) (k0_pay40 v) (k0_pay50 q) (k0_pay51 d) x (ix2 s l) = x (ix2 s l) + ∑ r : Fin 256, maskExp r s (dotp k q ⟨r.val, by omega⟩ s) * dotp v d ⟨r.val, by omega⟩ s * k (ix2 ⟨r.val, by omega⟩ l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- The own query block's share of the values' gradient, second half of the keys. -/
theorem ownV2 (k v : FVec Ideal S512x128 .bf16) (q d : FVec Ideal S256x128 .bf16) (x : FVec Ideal S256x128 .f32) (r : Fin 256) (l : Fin 128) :
    k0_pay61 (F := Ideal) (k0_pay37 k) q d x (ix2 r l) = x (ix2 r l) + ∑ s : Fin 256, maskExp r s (dotp k q ⟨256 + r.val, by omega⟩ s) * d (ix2 s l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- The own query block's share of the keys' gradient, second half of the keys. -/
theorem ownK2 (k v : FVec Ideal S512x128 .bf16) (q d : FVec Ideal S256x128 .bf16) (x : FVec Ideal S256x128 .f32) (r : Fin 256) (l : Fin 128) :
    k0_pay62 (F := Ideal) (k0_pay37 k) (k0_pay39 v) q d x (ix2 r l) = x (ix2 r l) + ∑ s : Fin 256, maskExp r s (dotp k q ⟨256 + r.val, by omega⟩ s) * dotp v d ⟨256 + r.val, by omega⟩ s * q (ix2 s l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- The second half of the keys' share of the own query block's gradient. -/
theorem ownQ2 (k v : FVec Ideal S512x128 .bf16) (q d : FVec Ideal S256x128 .bf16) (x : FVec Ideal S256x128 .f32) (s : Fin 256) (l : Fin 128) :
    k0_pay63 (F := Ideal) (k0_pay37 k) (k0_pay60 (k0_pay37 k) (k0_pay39 v) q d) x (ix2 s l) = x (ix2 s l) + ∑ r : Fin 256, maskExp r s (dotp k q ⟨256 + r.val, by omega⟩ s) * dotp v d ⟨256 + r.val, by omega⟩ s * k (ix2 ⟨256 + r.val, by omega⟩ l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- The own query block's share of the values' gradient, second half of the keys. -/
theorem ownV3 (k v : FVec Ideal S512x128 .bf16) (q d : FVec Ideal S256x128 .bf16) (x : FVec Ideal S256x128 .f32) (r : Fin 256) (l : Fin 128) :
    k0_pay68 (F := Ideal) (k0_pay38 k) q d x (ix2 r l) = x (ix2 r l) + ∑ s : Fin 256, maskExp r s (dotp k q ⟨256 + r.val, by omega⟩ s) * d (ix2 s l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- The own query block's share of the keys' gradient, second half of the keys. -/
theorem ownK3 (k v : FVec Ideal S512x128 .bf16) (q d : FVec Ideal S256x128 .bf16) (x : FVec Ideal S256x128 .f32) (r : Fin 256) (l : Fin 128) :
    k0_pay1 (k0_pay69 (F := Ideal) (k0_pay38 k) (k0_pay40 v) q d x) (ix2 r l) = x (ix2 r l) + ∑ s : Fin 256, maskExp r s (dotp k q ⟨256 + r.val, by omega⟩ s) * dotp v d ⟨256 + r.val, by omega⟩ s * q (ix2 s l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

/-- The second half of the keys' share of the own query block's gradient. -/
theorem ownQ3 (k v : FVec Ideal S512x128 .bf16) (q d : FVec Ideal S256x128 .bf16) (x : FVec Ideal S256x128 .f32) (s : Fin 256) (l : Fin 128) :
    k0_pay2 (F := Ideal) (k0_pay38 k) (k0_pay67 (k0_pay38 k) (k0_pay40 v) q d) x (ix2 s l) = x (ix2 s l) + ∑ r : Fin 256, maskExp r s (dotp k q ⟨256 + r.val, by omega⟩ s) * dotp v d ⟨256 + r.val, by omega⟩ s * k (ix2 ⟨256 + r.val, by omega⟩ l) := by
  pointwise [k0_pay1, k0_pay2, k0_pay7, k0_pay8, k0_pay9, k0_pay3, k0_pay4, k0_pay5, k0_pay6, k0_pay20, k0_pay21, k0_pay22, k0_pay23, k0_pay24, k0_pay25, k0_pay26, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
  simp only [dotp, maskExp, mask_word (m := 256) (n := 512) (by omega) (by omega), mask_word (m := 256) (n := 256) (by omega) (by omega)] <;> rfl

end Cert.Kernel2Ideal.Attn

end
-- ==== Proof.AttnPoint.lean ====
/-
  One grid point at exact values, in closed form: a point adds to each accumulator a sum over all queries, or over the keys of
  its block, of weights that are zero wherever the mask forbids the pair.
-/
module

public import proofs.«01_k».proof.Proof.AttnPay
public import proofs.«01_k».proof.Proof.AttnBody

@[expose] public section

set_option maxRecDepth 16384

noncomputable section

namespace Cert.Kernel2Ideal.Attn

open Cert.Kernel2Ideal Cert.Kernel2Ideal.Gen
open Idealize.ShloMosaic Idealize.ShloMosaic.TcCoe Idealize.SL.Sem
open VecWindow (window put)

/-! ## Windows of a matrix at an index -/

section Windows

variable {R C n m : ℕ}

theorem window_at {α : Type} (x : (⟨2, ![R, C]⟩ : Shape).Idx → α) {off : Fin 2 → ℕ} {o p : ℕ} (ho : off = ![o, p])
    (inb : ∀ a, off a + (![n, m] : Fin 2 → ℕ) a ≤ (⟨2, ![R, C]⟩ : Shape).size a) (r : Fin n) (c : Fin m) (r' : Fin R) (c' : Fin C)
    (hr : r'.val = o + r.val) (hc : c'.val = p + c.val) :
    window (s := ⟨2, ![R, C]⟩) x off ![n, m] inb (ix2 r c) = x (ix2 r' c') := by
  subst ho
  refine congrArg x (funext fun a => Fin.ext ?_)
  fin_cases a
  · show o + 1 * r.val = r'.val; omega
  · show p + 1 * c.val = c'.val; omega

/-- A window that is put back with something added at each place. -/
theorem put_add (y x : (⟨2, ![R, C]⟩ : Shape).Idx → EReal) {off : Fin 2 → ℕ} {o p : ℕ} (ho : off = ![o, p])
    (inb : ∀ a, off a + (![n, m] : Fin 2 → ℕ) a ≤ (⟨2, ![R, C]⟩ : Shape).size a)
    (g : ((⟨2, ![n, m]⟩ : Shape).Idx → EReal) → ((⟨2, ![n, m]⟩ : Shape).Idx → EReal)) (G : Fin R → Fin C → EReal)
    (hg : ∀ w (r : Fin n) (c : Fin m) (r' : Fin R) (c' : Fin C), r'.val = o + r.val → c'.val = p + c.val → g w (ix2 r c) = w (ix2 r c) + G r' c')
    (r' : Fin R) (c' : Fin C) :
    put (s := ⟨2, ![R, C]⟩) y off ![n, m] (g (window (s := ⟨2, ![R, C]⟩) x off ![n, m] inb)) (ix2 r' c')
      = if (o ≤ r'.val ∧ r'.val < o + n) ∧ (p ≤ c'.val ∧ c'.val < p + m) then x (ix2 r' c') + G r' c' else y (ix2 r' c') := by
  subst ho
  unfold put
  by_cases h : (o ≤ r'.val ∧ r'.val < o + n) ∧ (p ≤ c'.val ∧ c'.val < p + m)
  · have h' : ∀ a, (![o, p] : Fin 2 → ℕ) a ≤ ((ix2 r' c' : (⟨2, ![R, C]⟩ : Shape).Idx) a).val ∧ ((ix2 r' c' : (⟨2, ![R, C]⟩ : Shape).Idx) a).val < (![o, p] : Fin 2 → ℕ) a + (![n, m] : Fin 2 → ℕ) a := by
      intro a; fin_cases a
      · exact h.1
      · exact h.2
    rw [dif_pos h', if_pos h]
    have hr : r'.val - o < n := by omega
    have hc : c'.val - p < m := by omega
    have e : Rect.unitLocal (s := ⟨2, ![R, C]⟩) (off := ![o, p]) (size := ![n, m]) (ix2 r' c') h' = ix2 (⟨r'.val - o, hr⟩ : Fin n) (⟨c'.val - p, hc⟩ : Fin m) := by
      funext a; apply Fin.ext; fin_cases a <;> rfl
    rw [e, hg _ _ _ r' c' (by show r'.val = o + (r'.val - o); omega) (by show c'.val = p + (c'.val - p); omega),
      window_at x rfl inb _ _ r' c' (by show r'.val = o + (r'.val - o); omega) (by show c'.val = p + (c'.val - p); omega)]
  · have h' : ¬ ∀ a, (![o, p] : Fin 2 → ℕ) a ≤ ((ix2 r' c' : (⟨2, ![R, C]⟩ : Shape).Idx) a).val ∧ ((ix2 r' c' : (⟨2, ![R, C]⟩ : Shape).Idx) a).val < (![o, p] : Fin 2 → ℕ) a + (![n, m] : Fin 2 → ℕ) a :=
      fun hall => h ⟨hall 0, hall 1⟩
    rw [dif_neg h', if_neg h]

theorem bump_add (x : (⟨2, ![R, C]⟩ : Shape).Idx → EReal) {off : Fin 2 → ℕ} {o p : ℕ} (ho : off = ![o, p])
    (inb : ∀ a, off a + (![n, m] : Fin 2 → ℕ) a ≤ (⟨2, ![R, C]⟩ : Shape).size a)
    (g : ((⟨2, ![n, m]⟩ : Shape).Idx → EReal) → ((⟨2, ![n, m]⟩ : Shape).Idx → EReal)) (G : Fin R → Fin C → EReal)
    (hg : ∀ w (r : Fin n) (c : Fin m) (r' : Fin R) (c' : Fin C), r'.val = o + r.val → c'.val = p + c.val → g w (ix2 r c) = w (ix2 r c) + G r' c')
    (r' : Fin R) (c' : Fin C) :
    bump (s := ⟨2, ![R, C]⟩) x off ![n, m] inb g (ix2 r' c')
      = x (ix2 r' c') + if (o ≤ r'.val ∧ r'.val < o + n) ∧ (p ≤ c'.val ∧ c'.val < p + m) then G r' c' else 0 := by
  refine (put_add x x ho inb g G hg r' c').trans ?_
  split_ifs
  · rfl
  · rw [add_zero]

/-- Two windows of the same rows, side by side. -/
theorem bump2_add {q : ℕ} (x : (⟨2, ![R, C]⟩ : Shape).Idx → EReal) {off off' : Fin 2 → ℕ} {o p p' : ℕ} (ho : off = ![o, p]) (ho' : off' = ![o, p'])
    (inb : ∀ a, off a + (![n, m] : Fin 2 → ℕ) a ≤ (⟨2, ![R, C]⟩ : Shape).size a)
    (inb' : ∀ a, off' a + (![n, m] : Fin 2 → ℕ) a ≤ (⟨2, ![R, C]⟩ : Shape).size a) (hp : p + m ≤ p')
    (g g' : ((⟨2, ![n, m]⟩ : Shape).Idx → EReal) → ((⟨2, ![n, m]⟩ : Shape).Idx → EReal)) (G G' : Fin R → Fin C → EReal)
    (hg : ∀ w (r : Fin n) (c : Fin m) (r' : Fin R) (c' : Fin C), r'.val = o + r.val → c'.val = p + c.val → g w (ix2 r c) = w (ix2 r c) + G r' c')
    (hg' : ∀ w (r : Fin n) (c : Fin m) (r' : Fin R) (c' : Fin C), r'.val = o + r.val → c'.val = p' + c.val → g' w (ix2 r c) = w (ix2 r c) + G' r' c')
    (r' : Fin R) (c' : Fin C) :
    bump2 (s := ⟨2, ![R, C]⟩) x off ![n, m] inb g off' ![n, m] inb' g' (ix2 r' c')
      = (x (ix2 r' c') + if (o ≤ r'.val ∧ r'.val < o + n) ∧ (p ≤ c'.val ∧ c'.val < p + m) then G r' c' else 0)
        + if (o ≤ r'.val ∧ r'.val < o + n) ∧ (p' ≤ c'.val ∧ c'.val < p' + m) then G' r' c' else 0 := by
  refine (put_add _ x ho' inb' g' G' hg' r' c').trans ?_
  rw [put_add x x ho inb g G hg r' c']
  split_ifs <;> first | (exfalso; omega) | simp only [add_zero]

end Windows

/-! ## Sums over consecutive places -/

/-- `f` at a natural number, zero beyond its range. -/
def ext {N : ℕ} (f : Fin N → EReal) (n : ℕ) : EReal := if h : n < N then f ⟨n, h⟩ else 0

theorem ext_of_lt {N : ℕ} (f : Fin N → EReal) {n : ℕ} (h : n < N) : ext f n = f ⟨n, h⟩ := dif_pos h

theorem sum_ext {N : ℕ} (f : Fin N → EReal) : ∑ n ∈ Finset.range N, ext f n = ∑ s : Fin N, f s := by
  rw [Finset.sum_range]
  exact Finset.sum_congr rfl fun s _ => ext_of_lt f s.isLt

/-- A block of consecutive places as a sum of `ext`. -/
theorem sum_block {N n : ℕ} (f : Fin N → EReal) (o : ℕ) (h : o + n ≤ N) (g : Fin n → EReal)
    (hg : ∀ (s : Fin n) (s' : Fin N), s'.val = o + s.val → g s = f s') :
    ∑ s : Fin n, g s = ∑ s ∈ Finset.range n, ext f (o + s) := by
  rw [Finset.sum_range]
  refine Finset.sum_congr rfl fun s _ => ?_
  rw [ext_of_lt f (n := o + s.val) (by omega)]
  exact hg s _ rfl

theorem sum_append (g : ℕ → EReal) (a b : ℕ) :
    ∑ s ∈ Finset.range (a + b), g s = ∑ s ∈ Finset.range a, g s + ∑ s ∈ Finset.range b, g (a + s) :=
  Finset.sum_range_add g a b

/-! ## The weights of a point -/

/-- Lane `c` of head `a` of a pair. -/
def ln (a : Fin 2) (c : Fin 128) : Fin 256 := ⟨128 * a.val + c.val, by omega⟩

/-- The product of the lanes of head `a`: a key's row and a query's row. -/
def sc (k : Vec Ideal S512x256 .bf16) (q : Vec Ideal S4096x256 .bf16) (a : Fin 2) (r : Fin 512) (s : Fin 4096) : EReal :=
  ∑ c : Fin 128, (k (ix2 r (ln a c)) : EReal) * (q (ix2 s (ln a c)) : EReal)

/-- The weight of key `r` of block `j` and query `s`. -/
def wt (j : ℕ) (k : Vec Ideal S512x256 .bf16) (q : Vec Ideal S4096x256 .bf16) (a : Fin 2) (r : Fin 512) (s : Fin 4096) : EReal :=
  Ideal.exp (if (512 * j + r.val) / 64 ≤ s.val / 64 then sc k q a r s else ⊥)

variable (j : ℕ) (k v : Vec Ideal S512x256 .bf16) (q d : Vec Ideal S4096x256 .bf16)

/-- A pair's share of the values' gradient. -/
def fV (a : Fin 2) (r : Fin 512) (l : Fin 256) (s : Fin 4096) : EReal := wt j k q a r s * (d (ix2 s l) : EReal)
/-- A pair's share of the keys' gradient. -/
def fK (a : Fin 2) (r : Fin 512) (l : Fin 256) (s : Fin 4096) : EReal := wt j k q a r s * sc v d a r s * (q (ix2 s l) : EReal)
/-- A pair's share of the queries' gradient. -/
def fQ (a : Fin 2) (s : Fin 4096) (l : Fin 256) (r : Fin 512) : EReal := wt j k q a r s * sc v d a r s * (k (ix2 r l) : EReal)

theorem wt_zero (a : Fin 2) (r : Fin 512) (s : Fin 4096) (h : s.val / 64 < (512 * j + r.val) / 64) : wt j k q a r s = 0 := by
  unfold wt; rw [if_neg (by omega)]; exact Ideal.exp_bot

theorem ext_fV_zero (a : Fin 2) (r : Fin 512) (l : Fin 256) (n : ℕ) (h : n / 64 < (512 * j + r.val) / 64) : ext (fV j k q d a r l) n = 0 := by
  unfold ext; split_ifs with hn
  · unfold fV; rw [wt_zero j k q a r ⟨n, hn⟩ h, zero_mul]
  · rfl

theorem ext_fK_zero (a : Fin 2) (r : Fin 512) (l : Fin 256) (n : ℕ) (h : n / 64 < (512 * j + r.val) / 64) : ext (fK j k v q d a r l) n = 0 := by
  unfold ext; split_ifs with hn
  · unfold fK; rw [wt_zero j k q a r ⟨n, hn⟩ h, zero_mul, zero_mul]
  · rfl

theorem ext_fQ_zero (a : Fin 2) (s : Fin 4096) (l : Fin 256) (n : ℕ) (h : s.val / 64 < (512 * j + n) / 64) : ext (fQ j k v q d a s l) n = 0 := by
  unfold ext; split_ifs with hn
  · unfold fQ; rw [wt_zero j k q a ⟨n, hn⟩ s h, zero_mul, zero_mul]
  · rfl

end Cert.Kernel2Ideal.Attn

end
-- ==== Proof.AttnEnd.lean ====
/-
  The closed form of a point: what the own query block and the later ones add up to.
-/
module

public import proofs.«01_k».proof.Proof.AttnPoint

@[expose] public section

set_option maxRecDepth 16384

noncomputable section

namespace Cert.Kernel2Ideal.Attn

open Cert.Kernel2Ideal Cert.Kernel2Ideal.Gen
open Idealize.ShloMosaic Idealize.ShloMosaic.TcCoe Idealize.SL.Sem
open VecWindow (window put)

theorem trips1 : ∀ i : grid0.Coords, (k0_t1_loop i).trips = 7 - (i 1).val := by decide +kernel
theorem off5_eq : ∀ (i : grid0.Coords) (t : Fin (k0_t1_loop i).trips), k0_off5 i t = ![512 * ((i 1).val + 1 + t.val), 0] := by decide +kernel
theorem off6_eq : ∀ (i : grid0.Coords) (t : Fin (k0_t1_loop i).trips), k0_off6 i t = ![512 * ((i 1).val + 1 + t.val), 128] := by decide +kernel
theorem j_lt : ∀ i : grid0.Coords, (i 1).val < 8 := by decide +kernel

variable (i : grid0.Coords) (k v : Vec Ideal S512x256 .bf16) (q d : Vec Ideal S4096x256 .bf16)

theorem ln_val (a : Fin 2) (c : Fin 128) : (ln a c).val = 128 * a.val + c.val := rfl

/-! ## The loads at an index -/

theorem lo_at (r : Fin 512) (c : Fin 128) : lo k (ix2 r c) = k (ix2 r (ln 0 c)) :=
  window_at k rfl _ r c r (ln 0 c) (by omega) (by rw [ln_val]; rfl)
theorem hi_at (r : Fin 512) (c : Fin 128) : hi k (ix2 r c) = k (ix2 r (ln 1 c)) :=
  window_at k rfl _ r c r (ln 1 c) (by omega) (by rw [ln_val]; rfl)
theorem rows1_at (s : Fin 512) (c : Fin 128) (s' : Fin 4096) (h : s'.val = 512 * (i 1).val + 0 + s.val) : rows1 i q (ix2 s c) = q (ix2 s' (ln 0 c)) :=
  window_at q (off1_eq i) _ s c s' (ln 0 c) (by omega) (by rw [ln_val]; rfl)
theorem rows2_at (s : Fin 512) (c : Fin 128) (s' : Fin 4096) (h : s'.val = 512 * (i 1).val + 0 + s.val) : rows2 i q (ix2 s c) = q (ix2 s' (ln 1 c)) :=
  window_at q (off2_eq i) _ s c s' (ln 1 c) (by omega) (by rw [ln_val]; rfl)
theorem rows3_at (s : Fin 256) (c : Fin 128) (s' : Fin 4096) (h : s'.val = 512 * (i 1).val + 256 + s.val) : rows3 i q (ix2 s c) = q (ix2 s' (ln 0 c)) :=
  window_at q (off3_eq i) _ s c s' (ln 0 c) (by omega) (by rw [ln_val]; rfl)
theorem rows4_at (s : Fin 256) (c : Fin 128) (s' : Fin 4096) (h : s'.val = 512 * (i 1).val + 256 + s.val) : rows4 i q (ix2 s c) = q (ix2 s' (ln 1 c)) :=
  window_at q (off4_eq i) _ s c s' (ln 1 c) (by omega) (by rw [ln_val]; rfl)
theorem rows5_at (t : Fin (k0_t1_loop i).trips) (s : Fin 512) (c : Fin 128) (s' : Fin 4096) (h : s'.val = 512 * ((i 1).val + 1 + t.val) + s.val) :
    rows5 i t q (ix2 s c) = q (ix2 s' (ln 0 c)) :=
  window_at q (off5_eq i t) _ s c s' (ln 0 c) (by omega) (by rw [ln_val]; rfl)
theorem rows6_at (t : Fin (k0_t1_loop i).trips) (s : Fin 512) (c : Fin 128) (s' : Fin 4096) (h : s'.val = 512 * ((i 1).val + 1 + t.val) + s.val) :
    rows6 i t q (ix2 s c) = q (ix2 s' (ln 1 c)) :=
  window_at q (off6_eq i t) _ s c s' (ln 1 c) (by omega) (by rw [ln_val]; rfl)

/-! ## One block of queries against one block of keys

  `kk`, `vv`, `qq`, `dd` are one head's lanes of the keys' rows and of a run of `n` query rows that starts `o` places into block `b`. -/

section Share

variable {n : ℕ} (j b o : ℕ) (a : Fin 2) (kk vv : FVec Ideal S512x128 .bf16) (qq dd : (⟨2, ![n, 128]⟩ : Shape).Idx → EReal)

theorem dot_sc (r : Fin 512) (s : Fin n) (s' : Fin 4096) (hk : ∀ c, kk (ix2 r c) = k (ix2 r (ln a c))) (hq : ∀ c, qq (ix2 s c) = q (ix2 s' (ln a c))) :
    dotp kk qq r s = sc k q a r s' :=
  Finset.sum_congr rfl fun c _ => congrArg₂ (fun x y : EReal => x * y) (hk c) (hq c)

/-- A weight of the own query block. -/
theorem own_wt (r : Fin 512) (s : Fin n) (s' : Fin 4096) (r0 : ℕ) (ho : o = 0 ∨ o = 256) (hr : r.val = o + r0) (hs : s'.val = 512 * j + o + s.val)
    (hk : ∀ c, kk (ix2 r c) = k (ix2 r (ln a c))) (hq : ∀ c, qq (ix2 s c) = q (ix2 s' (ln a c))) :
    maskExp r0 s.val (dotp kk qq r s) = wt j k q a r s' := by
  rw [dot_sc k q a kk qq r s s' hk hq]
  unfold maskExp wt
  refine congrArg Ideal.exp (if_congr ?_ rfl rfl)
  rcases ho with rfl | rfl <;> omega

/-- A weight of a later query block: the mask allows every pair. -/
theorem later_wt (r : Fin 512) (s : Fin n) (s' : Fin 4096) (hs : 512 * (j + 1) ≤ s'.val)
    (hk : ∀ c, kk (ix2 r c) = k (ix2 r (ln a c))) (hq : ∀ c, qq (ix2 s c) = q (ix2 s' (ln a c))) :
    Ideal.exp (dotp kk qq r s) = wt j k q a r s' := by
  rw [dot_sc k q a kk qq r s s' hk hq]
  unfold wt
  rw [if_pos (by omega)]

variable (hk : ∀ r c, kk (ix2 r c) = k (ix2 r (ln a c))) (hv : ∀ r c, vv (ix2 r c) = v (ix2 r (ln a c)))
  (hq : ∀ (s : Fin n) (c) (s' : Fin 4096), s'.val = b + o + s.val → qq (ix2 s c) = q (ix2 s' (ln a c)))
  (hd : ∀ (s : Fin n) (c) (s' : Fin 4096), s'.val = b + o + s.val → dd (ix2 s c) = d (ix2 s' (ln a c)))

include hd in
theorem shareV (w : Fin n → EReal) (r : Fin 512) (hw : ∀ (s : Fin n) (s' : Fin 4096), s'.val = b + o + s.val → w s = wt j k q a r s')
    (hn : b + o + n ≤ 4096) (c : Fin 128) :
    ∑ s : Fin n, w s * dd (ix2 s c) = ∑ s ∈ Finset.range n, ext (fV j k q d a r (ln a c)) (b + o + s) :=
  sum_block _ (b + o) hn _ fun s s' hs => congrArg₂ (fun x y : EReal => x * y) (hw s s' hs) (hd s c s' hs)

include hv hq hd in
theorem shareK (w : Fin n → EReal) (r : Fin 512) (hw : ∀ (s : Fin n) (s' : Fin 4096), s'.val = b + o + s.val → w s = wt j k q a r s')
    (hn : b + o + n ≤ 4096) (c : Fin 128) :
    ∑ s : Fin n, w s * dotp vv dd r s * qq (ix2 s c) = ∑ s ∈ Finset.range n, ext (fK j k v q d a r (ln a c)) (b + o + s) :=
  sum_block _ (b + o) hn _ fun s s' hs =>
    congrArg₂ (fun x y : EReal => x * y) (congrArg₂ (fun x y : EReal => x * y) (hw s s' hs) (dot_sc v d a vv dd r s s' (hv r) fun c => hd s c s' hs)) (hq s c s' hs)

include hk hv hd in
theorem shareQ {m : ℕ} (s : Fin n) (s' : Fin 4096) (hs : s'.val = b + o + s.val) (e : ℕ) (up : Fin m → Fin 512) (hup : ∀ r, (up r).val = e + r.val)
    (hm : e + m ≤ 512) (w : Fin m → EReal) (hw : ∀ r, w r = wt j k q a (up r) s') (c : Fin 128) :
    ∑ r : Fin m, w r * dotp vv dd (up r) s * kk (ix2 (up r) c) = ∑ r ∈ Finset.range m, ext (fQ j k v q d a s' (ln a c)) (e + r) :=
  sum_block _ e hm _ fun r r' hr => by
    have h : up r = r' := Fin.ext (by rw [hup, hr])
    rw [hw, h]
    exact congrArg₂ (fun x y : EReal => x * y) (congrArg₂ (fun x y : EReal => x * y) rfl (dot_sc v d a vv dd r' s s' (hv r') fun c => hd s c s' hs)) (hk r' c)

end Share

/-! ## The own query block -/

theorem sum_second {g : ℕ → EReal} (b : ℕ) (h : ∀ s, s < 256 → g (b + s) = 0) :
    ∑ s ∈ Finset.range 256, g (b + 256 + s) = ∑ s ∈ Finset.range 512, g (b + s) := by
  rw [show 512 = 256 + 256 from rfl, sum_append (fun s => g (b + s)) 256 256, Finset.sum_eq_zero (fun s hs => h s (Finset.mem_range.mp hs)), zero_add]
  exact Finset.sum_congr rfl fun s _ => congrArg g (by omega)

/-- A key's place as the stored half has it. -/
abbrev lowR (r : Fin 256) : Fin 512 := ⟨r.val, by omega⟩
/-- A key's place in the second half. -/
abbrev highR (r : Fin 256) : Fin 512 := ⟨256 + r.val, by omega⟩
theorem lowR_val (r : Fin 256) : (lowR r).val = 0 + r.val := (Nat.zero_add _).symm
theorem highR_val (r : Fin 256) : (highR r).val = 256 + r.val := rfl

/-- First half of the keys, head 0. -/
theorem ownV0_at (w : (⟨2, ![256, 128]⟩ : Shape).Idx → EReal) (r0 : Fin 256) (c0 : Fin 128) (r : Fin 512) (l : Fin 256) (hr : r.val = 0 + r0.val) (hl : l.val = 0 + c0.val) :
    k0_pay47 (F := Ideal) (k0_pay42 (rows1 i d)) (k0_pay43 (lo k) (rows1 i q)) k0_pay44 w (ix2 r0 c0)
      = w (ix2 r0 c0) + ∑ s ∈ Finset.range 512, ext (fV (i 1).val k q d 0 r l) (512 * (i 1).val + 0 + s) := by
  have hj := j_lt i
  obtain rfl : r = lowR r0 := Fin.ext (by rw [lowR_val]; exact hr)
  obtain rfl : l = ln 0 c0 := Fin.ext (by rw [ln_val]; exact hl)
  exact (ownV0 (lo k) (lo k) (rows1 i q) (rows1 i d) w r0 c0).trans (congrArg (w (ix2 r0 c0) + ·)
    (shareV k q d (i 1).val (512 * (i 1).val) 0 0 (rows1 i d) (fun s c s' hs => rows1_at i d s c s' hs) _ (lowR r0)
      (fun s s' hs => own_wt k q (i 1).val 0 0 (lo k) (rows1 i q) (lowR r0) s s' r0.val (by omega) (lowR_val r0) hs (lo_at k _) fun c => rows1_at i q s c s' hs)
      (by omega) c0))

/-- First half of the keys, head 0. -/
theorem ownK0_at (w : (⟨2, ![256, 128]⟩ : Shape).Idx → EReal) (r0 : Fin 256) (c0 : Fin 128) (r : Fin 512) (l : Fin 256) (hr : r.val = 0 + r0.val) (hl : l.val = 0 + c0.val) :
    k0_pay48 (F := Ideal) (k0_pay39 (lo v)) (k0_pay41 (rows1 i q)) (k0_pay42 (rows1 i d)) (k0_pay43 (lo k) (rows1 i q)) k0_pay44 w (ix2 r0 c0)
      = w (ix2 r0 c0) + ∑ s ∈ Finset.range 512, ext (fK (i 1).val k v q d 0 r l) (512 * (i 1).val + 0 + s) := by
  have hj := j_lt i
  obtain rfl : r = lowR r0 := Fin.ext (by rw [lowR_val]; exact hr)
  obtain rfl : l = ln 0 c0 := Fin.ext (by rw [ln_val]; exact hl)
  exact (ownK0 (lo k) (lo v) (rows1 i q) (rows1 i d) w r0 c0).trans (congrArg (w (ix2 r0 c0) + ·)
    (shareK k v q d (i 1).val (512 * (i 1).val) 0 0 (lo v) (rows1 i q) (rows1 i d) (fun r c => lo_at v r c) (fun s c s' hs => rows1_at i q s c s' hs) (fun s c s' hs => rows1_at i d s c s' hs) _ (lowR r0)
      (fun s s' hs => own_wt k q (i 1).val 0 0 (lo k) (rows1 i q) (lowR r0) s s' r0.val (by omega) (lowR_val r0) hs (lo_at k _) fun c => rows1_at i q s c s' hs)
      (by omega) c0))

/-- First half of the keys, head 1. -/
theorem ownV1_at (w : (⟨2, ![256, 128]⟩ : Shape).Idx → EReal) (r0 : Fin 256) (c0 : Fin 128) (r : Fin 512) (l : Fin 256) (hr : r.val = 0 + r0.val) (hl : l.val = 128 + c0.val) :
    k0_pay54 (F := Ideal) (k0_pay38 (hi k)) (k0_pay50 (rows2 i q)) (k0_pay51 (rows2 i d)) w (ix2 r0 c0)
      = w (ix2 r0 c0) + ∑ s ∈ Finset.range 512, ext (fV (i 1).val k q d 1 r l) (512 * (i 1).val + 0 + s) := by
  have hj := j_lt i
  obtain rfl : r = lowR r0 := Fin.ext (by rw [lowR_val]; exact hr)
  obtain rfl : l = ln 1 c0 := Fin.ext (by rw [ln_val]; exact hl)
  exact (ownV1 (hi k) (hi k) (rows2 i q) (rows2 i d) w r0 c0).trans (congrArg (w (ix2 r0 c0) + ·)
    (shareV k q d (i 1).val (512 * (i 1).val) 0 1 (rows2 i d) (fun s c s' hs => rows2_at i d s c s' hs) _ (lowR r0)
      (fun s s' hs => own_wt k q (i 1).val 0 1 (hi k) (rows2 i q) (lowR r0) s s' r0.val (by omega) (lowR_val r0) hs (hi_at k _) fun c => rows2_at i q s c s' hs)
      (by omega) c0))

/-- First half of the keys, head 1. -/
theorem ownK1_at (w : (⟨2, ![256, 128]⟩ : Shape).Idx → EReal) (r0 : Fin 256) (c0 : Fin 128) (r : Fin 512) (l : Fin 256) (hr : r.val = 0 + r0.val) (hl : l.val = 128 + c0.val) :
    k0_pay55 (F := Ideal) (k0_pay38 (hi k)) (k0_pay40 (hi v)) (k0_pay50 (rows2 i q)) (k0_pay51 (rows2 i d)) w (ix2 r0 c0)
      = w (ix2 r0 c0) + ∑ s ∈ Finset.range 512, ext (fK (i 1).val k v q d 1 r l) (512 * (i 1).val + 0 + s) := by
  have hj := j_lt i
  obtain rfl : r = lowR r0 := Fin.ext (by rw [lowR_val]; exact hr)
  obtain rfl : l = ln 1 c0 := Fin.ext (by rw [ln_val]; exact hl)
  exact (ownK1 (hi k) (hi v) (rows2 i q) (rows2 i d) w r0 c0).trans (congrArg (w (ix2 r0 c0) + ·)
    (shareK k v q d (i 1).val (512 * (i 1).val) 0 1 (hi v) (rows2 i q) (rows2 i d) (fun r c => hi_at v r c) (fun s c s' hs => rows2_at i q s c s' hs) (fun s c s' hs => rows2_at i d s c s' hs) _ (lowR r0)
      (fun s s' hs => own_wt k q (i 1).val 0 1 (hi k) (rows2 i q) (lowR r0) s s' r0.val (by omega) (lowR_val r0) hs (hi_at k _) fun c => rows2_at i q s c s' hs)
      (by omega) c0))

/-- Second half of the keys, head 0. -/
theorem ownV2_at (w : (⟨2, ![256, 128]⟩ : Shape).Idx → EReal) (r0 : Fin 256) (c0 : Fin 128) (r : Fin 512) (l : Fin 256) (hr : r.val = 256 + r0.val) (hl : l.val = 0 + c0.val) :
    k0_pay61 (F := Ideal) (k0_pay37 (lo k)) (rows3 i q) (rows3 i d) w (ix2 r0 c0)
      = w (ix2 r0 c0) + ∑ s ∈ Finset.range 256, ext (fV (i 1).val k q d 0 r l) (512 * (i 1).val + 256 + s) := by
  have hj := j_lt i
  obtain rfl : r = highR r0 := Fin.ext (by rw [highR_val]; exact hr)
  obtain rfl : l = ln 0 c0 := Fin.ext (by rw [ln_val]; exact hl)
  exact (ownV2 (lo k) (lo k) (rows3 i q) (rows3 i d) w r0 c0).trans (congrArg (w (ix2 r0 c0) + ·)
    (shareV k q d (i 1).val (512 * (i 1).val) 256 0 (rows3 i d) (fun s c s' hs => rows3_at i d s c s' hs) _ (highR r0)
      (fun s s' hs => own_wt k q (i 1).val 256 0 (lo k) (rows3 i q) (highR r0) s s' r0.val (by omega) (highR_val r0) hs (lo_at k _) fun c => rows3_at i q s c s' hs)
      (by omega) c0))

/-- Second half of the keys, head 0. -/
theorem ownK2_at (w : (⟨2, ![256, 128]⟩ : Shape).Idx → EReal) (r0 : Fin 256) (c0 : Fin 128) (r : Fin 512) (l : Fin 256) (hr : r.val = 256 + r0.val) (hl : l.val = 0 + c0.val) :
    k0_pay62 (F := Ideal) (k0_pay37 (lo k)) (k0_pay39 (lo v)) (rows3 i q) (rows3 i d) w (ix2 r0 c0)
      = w (ix2 r0 c0) + ∑ s ∈ Finset.range 256, ext (fK (i 1).val k v q d 0 r l) (512 * (i 1).val + 256 + s) := by
  have hj := j_lt i
  obtain rfl : r = highR r0 := Fin.ext (by rw [highR_val]; exact hr)
  obtain rfl : l = ln 0 c0 := Fin.ext (by rw [ln_val]; exact hl)
  exact (ownK2 (lo k) (lo v) (rows3 i q) (rows3 i d) w r0 c0).trans (congrArg (w (ix2 r0 c0) + ·)
    (shareK k v q d (i 1).val (512 * (i 1).val) 256 0 (lo v) (rows3 i q) (rows3 i d) (fun r c => lo_at v r c) (fun s c s' hs => rows3_at i q s c s' hs) (fun s c s' hs => rows3_at i d s c s' hs) _ (highR r0)
      (fun s s' hs => own_wt k q (i 1).val 256 0 (lo k) (rows3 i q) (highR r0) s s' r0.val (by omega) (highR_val r0) hs (lo_at k _) fun c => rows3_at i q s c s' hs)
      (by omega) c0))

/-- Second half of the keys, head 1. -/
theorem ownV3_at (w : (⟨2, ![256, 128]⟩ : Shape).Idx → EReal) (r0 : Fin 256) (c0 : Fin 128) (r : Fin 512) (l : Fin 256) (hr : r.val = 256 + r0.val) (hl : l.val = 128 + c0.val) :
    k0_pay68 (F := Ideal) (k0_pay38 (hi k)) (rows4 i q) (rows4 i d) w (ix2 r0 c0)
      = w (ix2 r0 c0) + ∑ s ∈ Finset.range 256, ext (fV (i 1).val k q d 1 r l) (512 * (i 1).val + 256 + s) := by
  have hj := j_lt i
  obtain rfl : r = highR r0 := Fin.ext (by rw [highR_val]; exact hr)
  obtain rfl : l = ln 1 c0 := Fin.ext (by rw [ln_val]; exact hl)
  exact (ownV3 (hi k) (hi k) (rows4 i q) (rows4 i d) w r0 c0).trans (congrArg (w (ix2 r0 c0) + ·)
    (shareV k q d (i 1).val (512 * (i 1).val) 256 1 (rows4 i d) (fun s c s' hs => rows4_at i d s c s' hs) _ (highR r0)
      (fun s s' hs => own_wt k q (i 1).val 256 1 (hi k) (rows4 i q) (highR r0) s s' r0.val (by omega) (highR_val r0) hs (hi_at k _) fun c => rows4_at i q s c s' hs)
      (by omega) c0))

/-- Second half of the keys, head 1. -/
theorem ownK3_at (w : (⟨2, ![256, 128]⟩ : Shape).Idx → EReal) (r0 : Fin 256) (c0 : Fin 128) (r : Fin 512) (l : Fin 256) (hr : r.val = 256 + r0.val) (hl : l.val = 128 + c0.val) :
    k0_pay1 (k0_pay69 (F := Ideal) (k0_pay38 (hi k)) (k0_pay40 (hi v)) (rows4 i q) (rows4 i d) w) (ix2 r0 c0)
      = w (ix2 r0 c0) + ∑ s ∈ Finset.range 256, ext (fK (i 1).val k v q d 1 r l) (512 * (i 1).val + 256 + s) := by
  have hj := j_lt i
  obtain rfl : r = highR r0 := Fin.ext (by rw [highR_val]; exact hr)
  obtain rfl : l = ln 1 c0 := Fin.ext (by rw [ln_val]; exact hl)
  exact (ownK3 (hi k) (hi v) (rows4 i q) (rows4 i d) w r0 c0).trans (congrArg (w (ix2 r0 c0) + ·)
    (shareK k v q d (i 1).val (512 * (i 1).val) 256 1 (hi v) (rows4 i q) (rows4 i d) (fun r c => hi_at v r c) (fun s c s' hs => rows4_at i q s c s' hs) (fun s c s' hs => rows4_at i d s c s' hs) _ (highR r0)
      (fun s s' hs => own_wt k q (i 1).val 256 1 (hi k) (rows4 i q) (highR r0) s s' r0.val (by omega) (highR_val r0) hs (hi_at k _) fun c => rows4_at i q s c s' hs)
      (by omega) c0))

/-- First half of the keys, head 0. -/
theorem ownQ0_at (w : (⟨2, ![512, 128]⟩ : Shape).Idx → EReal) (s0 : Fin 512) (c0 : Fin 128) (s : Fin 4096) (l : Fin 256) (hs : s.val = 512 * (i 1).val + 0 + s0.val) (hl : l.val = 0 + c0.val) :
    k0_pay49 (F := Ideal) (k0_pay37 (lo k)) (k0_pay39 (lo v)) (k0_pay42 (rows1 i d)) (k0_pay43 (lo k) (rows1 i q)) k0_pay44 w (ix2 s0 c0)
      = w (ix2 s0 c0) + ∑ r ∈ Finset.range 256, ext (fQ (i 1).val k v q d 0 s l) (0 + r) := by
  have hj := j_lt i
  obtain rfl : l = ln 0 c0 := Fin.ext (by rw [ln_val]; exact hl)
  exact (ownQ0 (lo k) (lo v) (rows1 i q) (rows1 i d) w s0 c0).trans (congrArg (w (ix2 s0 c0) + ·)
    (shareQ k v q d (i 1).val (512 * (i 1).val) 0 0 (lo k) (lo v) (rows1 i d) (fun r c => lo_at k r c) (fun r c => lo_at v r c) (fun s c s' hs => rows1_at i d s c s' hs) s0 s hs 0 lowR lowR_val (by omega) _
      (fun r => own_wt k q (i 1).val 0 0 (lo k) (rows1 i q) (lowR r) s0 s r.val (by omega) (lowR_val r) hs (lo_at k _) fun c => rows1_at i q s0 c s hs) c0))

/-- First half of the keys, head 1. -/
theorem ownQ1_at (w : (⟨2, ![512, 128]⟩ : Shape).Idx → EReal) (s0 : Fin 512) (c0 : Fin 128) (s : Fin 4096) (l : Fin 256) (hs : s.val = 512 * (i 1).val + 0 + s0.val) (hl : l.val = 128 + c0.val) :
    k0_pay56 (F := Ideal) (k0_pay38 (hi k)) (k0_pay40 (hi v)) (k0_pay50 (rows2 i q)) (k0_pay51 (rows2 i d)) w (ix2 s0 c0)
      = w (ix2 s0 c0) + ∑ r ∈ Finset.range 256, ext (fQ (i 1).val k v q d 1 s l) (0 + r) := by
  have hj := j_lt i
  obtain rfl : l = ln 1 c0 := Fin.ext (by rw [ln_val]; exact hl)
  exact (ownQ1 (hi k) (hi v) (rows2 i q) (rows2 i d) w s0 c0).trans (congrArg (w (ix2 s0 c0) + ·)
    (shareQ k v q d (i 1).val (512 * (i 1).val) 0 1 (hi k) (hi v) (rows2 i d) (fun r c => hi_at k r c) (fun r c => hi_at v r c) (fun s c s' hs => rows2_at i d s c s' hs) s0 s hs 0 lowR lowR_val (by omega) _
      (fun r => own_wt k q (i 1).val 0 1 (hi k) (rows2 i q) (lowR r) s0 s r.val (by omega) (lowR_val r) hs (hi_at k _) fun c => rows2_at i q s0 c s hs) c0))

/-- Second half of the keys, head 0. -/
theorem ownQ2_at (w : (⟨2, ![256, 128]⟩ : Shape).Idx → EReal) (s0 : Fin 256) (c0 : Fin 128) (s : Fin 4096) (l : Fin 256) (hs : s.val = 512 * (i 1).val + 256 + s0.val) (hl : l.val = 0 + c0.val) :
    k0_pay63 (F := Ideal) (k0_pay37 (lo k)) (k0_pay60 (k0_pay37 (lo k)) (k0_pay39 (lo v)) (rows3 i q) (rows3 i d)) w (ix2 s0 c0)
      = w (ix2 s0 c0) + ∑ r ∈ Finset.range 256, ext (fQ (i 1).val k v q d 0 s l) (256 + r) := by
  have hj := j_lt i
  obtain rfl : l = ln 0 c0 := Fin.ext (by rw [ln_val]; exact hl)
  exact (ownQ2 (lo k) (lo v) (rows3 i q) (rows3 i d) w s0 c0).trans (congrArg (w (ix2 s0 c0) + ·)
    (shareQ k v q d (i 1).val (512 * (i 1).val) 256 0 (lo k) (lo v) (rows3 i d) (fun r c => lo_at k r c) (fun r c => lo_at v r c) (fun s c s' hs => rows3_at i d s c s' hs) s0 s hs 256 highR highR_val (by omega) _
      (fun r => own_wt k q (i 1).val 256 0 (lo k) (rows3 i q) (highR r) s0 s r.val (by omega) (highR_val r) hs (lo_at k _) fun c => rows3_at i q s0 c s hs) c0))

/-- Second half of the keys, head 1. -/
theorem ownQ3_at (w : (⟨2, ![256, 128]⟩ : Shape).Idx → EReal) (s0 : Fin 256) (c0 : Fin 128) (s : Fin 4096) (l : Fin 256) (hs : s.val = 512 * (i 1).val + 256 + s0.val) (hl : l.val = 128 + c0.val) :
    k0_pay2 (F := Ideal) (k0_pay38 (hi k)) (k0_pay67 (k0_pay38 (hi k)) (k0_pay40 (hi v)) (rows4 i q) (rows4 i d)) w (ix2 s0 c0)
      = w (ix2 s0 c0) + ∑ r ∈ Finset.range 256, ext (fQ (i 1).val k v q d 1 s l) (256 + r) := by
  have hj := j_lt i
  obtain rfl : l = ln 1 c0 := Fin.ext (by rw [ln_val]; exact hl)
  exact (ownQ3 (hi k) (hi v) (rows4 i q) (rows4 i d) w s0 c0).trans (congrArg (w (ix2 s0 c0) + ·)
    (shareQ k v q d (i 1).val (512 * (i 1).val) 256 1 (hi k) (hi v) (rows4 i d) (fun r c => hi_at k r c) (fun r c => hi_at v r c) (fun s c s' hs => rows4_at i d s c s' hs) s0 s hs 256 highR highR_val (by omega) _
      (fun r => own_wt k q (i 1).val 256 1 (hi k) (rows4 i q) (highR r) s0 s r.val (by omega) (highR_val r) hs (hi_at k _) fun c => rows4_at i q s0 c s hs) c0))

end Cert.Kernel2Ideal.Attn

end
-- ==== Proof.AttnClosed.lean ====
/-
  A point's accumulators at their ends: the sums over all queries, and over all keys of the block, of the pairs' shares.
-/
module

public import proofs.«01_k».proof.Proof.AttnEnd

@[expose] public section

set_option maxRecDepth 16384

noncomputable section

namespace Cert.Kernel2Ideal.Attn

open Cert.Kernel2Ideal Cert.Kernel2Ideal.Gen
open Idealize.ShloMosaic Idealize.ShloMosaic.TcCoe Idealize.SL.Sem
open VecWindow (window put)

variable (i : grid0.Coords) (k v : Vec Ideal S512x256 .bf16) (q d : Vec Ideal S4096x256 .bf16)

/-! ## A later query block, one head -/

theorem tripV0_at (t : Fin (k0_t1_loop i).trips) (w : (⟨2, ![512, 128]⟩ : Shape).Idx → EReal) (r0 : Fin 512) (c0 : Fin 128) (r : Fin 512) (l : Fin 256) (hr : r.val = 0 + r0.val) (hl : l.val = 0 + c0.val) :
    k0_pay24 (F := Ideal) (k0_pay37 (lo k)) (rows5 i t q) (rows5 i t d) w (ix2 r0 c0)
      = w (ix2 r0 c0) + ∑ s ∈ Finset.range 512, ext (fV (i 1).val k q d 0 r l) (512 * ((i 1).val + 1 + t.val) + 0 + s) := by
  have ht : t.val < 7 - (i 1).val := Nat.lt_of_lt_of_eq t.isLt (trips1 i)
  obtain rfl : r = r0 := Fin.ext (by omega)
  obtain rfl : l = ln 0 c0 := Fin.ext (by rw [ln_val]; exact hl)
  exact (tripV0 (lo k) (lo k) (rows5 i t q) (rows5 i t d) w r c0).trans (congrArg (w (ix2 r c0) + ·)
    (shareV k q d (i 1).val (512 * ((i 1).val + 1 + t.val)) 0 0 (rows5 i t d) (fun s c s' hs => rows5_at i d t s c s' (by omega)) _ r (fun s s' hs => later_wt k q (i 1).val 0 (lo k) (rows5 i t q) r s s' (by omega) (lo_at k _) fun c => rows5_at i q t s c s' (by omega)) (by omega) c0))

theorem tripK0_at (t : Fin (k0_t1_loop i).trips) (w : (⟨2, ![512, 128]⟩ : Shape).Idx → EReal) (r0 : Fin 512) (c0 : Fin 128) (r : Fin 512) (l : Fin 256) (hr : r.val = 0 + r0.val) (hl : l.val = 0 + c0.val) :
    k0_pay25 (F := Ideal) (k0_pay37 (lo k)) (k0_pay39 (lo v)) (rows5 i t q) (rows5 i t d) w (ix2 r0 c0)
      = w (ix2 r0 c0) + ∑ s ∈ Finset.range 512, ext (fK (i 1).val k v q d 0 r l) (512 * ((i 1).val + 1 + t.val) + 0 + s) := by
  have ht : t.val < 7 - (i 1).val := Nat.lt_of_lt_of_eq t.isLt (trips1 i)
  obtain rfl : r = r0 := Fin.ext (by omega)
  obtain rfl : l = ln 0 c0 := Fin.ext (by rw [ln_val]; exact hl)
  exact (tripK0 (lo k) (lo v) (rows5 i t q) (rows5 i t d) w r c0).trans (congrArg (w (ix2 r c0) + ·)
    (shareK k v q d (i 1).val (512 * ((i 1).val + 1 + t.val)) 0 0 (lo v) (rows5 i t q) (rows5 i t d) (fun r c => lo_at v r c) (fun s c s' hs => rows5_at i q t s c s' (by omega)) (fun s c s' hs => rows5_at i d t s c s' (by omega)) _ r (fun s s' hs => later_wt k q (i 1).val 0 (lo k) (rows5 i t q) r s s' (by omega) (lo_at k _) fun c => rows5_at i q t s c s' (by omega)) (by omega) c0))

theorem tripQ0_at (t : Fin (k0_t1_loop i).trips) (w : (⟨2, ![512, 128]⟩ : Shape).Idx → EReal) (s0 : Fin 512) (c0 : Fin 128) (s : Fin 4096) (l : Fin 256) (hs : s.val = 512 * ((i 1).val + 1 + t.val) + s0.val) (hl : l.val = 0 + c0.val) :
    k0_pay26 (F := Ideal) (k0_pay37 (lo k)) (k0_pay39 (lo v)) (rows5 i t q) (rows5 i t d) w (ix2 s0 c0)
      = w (ix2 s0 c0) + ∑ r ∈ Finset.range 512, ext (fQ (i 1).val k v q d 0 s l) (0 + r) := by
  obtain rfl : l = ln 0 c0 := Fin.ext (by rw [ln_val]; exact hl)
  exact (tripQ0 (lo k) (lo v) (rows5 i t q) (rows5 i t d) w s0 c0).trans (congrArg (w (ix2 s0 c0) + ·)
    (shareQ k v q d (i 1).val (512 * ((i 1).val + 1 + t.val)) 0 0 (lo k) (lo v) (rows5 i t d) (fun r c => lo_at k r c) (fun r c => lo_at v r c) (fun s c s' hs => rows5_at i d t s c s' (by omega)) s0 s (by omega) 0 (fun r : Fin 512 => r)
      (fun r => (Nat.zero_add _).symm) (by omega) _
      (fun r => later_wt k q (i 1).val 0 (lo k) (rows5 i t q) r s0 s (by omega) (lo_at k _) fun c => rows5_at i q t s0 c s (by omega)) c0))

theorem tripV1_at (t : Fin (k0_t1_loop i).trips) (w : (⟨2, ![512, 128]⟩ : Shape).Idx → EReal) (r0 : Fin 512) (c0 : Fin 128) (r : Fin 512) (l : Fin 256) (hr : r.val = 0 + r0.val) (hl : l.val = 128 + c0.val) :
    k0_pay7 (F := Ideal) (k0_pay38 (hi k)) (rows6 i t q) (rows6 i t d) w (ix2 r0 c0)
      = w (ix2 r0 c0) + ∑ s ∈ Finset.range 512, ext (fV (i 1).val k q d 1 r l) (512 * ((i 1).val + 1 + t.val) + 0 + s) := by
  have ht : t.val < 7 - (i 1).val := Nat.lt_of_lt_of_eq t.isLt (trips1 i)
  obtain rfl : r = r0 := Fin.ext (by omega)
  obtain rfl : l = ln 1 c0 := Fin.ext (by rw [ln_val]; exact hl)
  exact (tripV1 (hi k) (hi k) (rows6 i t q) (rows6 i t d) w r c0).trans (congrArg (w (ix2 r c0) + ·)
    (shareV k q d (i 1).val (512 * ((i 1).val + 1 + t.val)) 0 1 (rows6 i t d) (fun s c s' hs => rows6_at i d t s c s' (by omega)) _ r (fun s s' hs => later_wt k q (i 1).val 1 (hi k) (rows6 i t q) r s s' (by omega) (hi_at k _) fun c => rows6_at i q t s c s' (by omega)) (by omega) c0))

theorem tripK1_at (t : Fin (k0_t1_loop i).trips) (w : (⟨2, ![512, 128]⟩ : Shape).Idx → EReal) (r0 : Fin 512) (c0 : Fin 128) (r : Fin 512) (l : Fin 256) (hr : r.val = 0 + r0.val) (hl : l.val = 128 + c0.val) :
    k0_pay8 (F := Ideal) (k0_pay38 (hi k)) (k0_pay40 (hi v)) (rows6 i t q) (rows6 i t d) w (ix2 r0 c0)
      = w (ix2 r0 c0) + ∑ s ∈ Finset.range 512, ext (fK (i 1).val k v q d 1 r l) (512 * ((i 1).val + 1 + t.val) + 0 + s) := by
  have ht : t.val < 7 - (i 1).val := Nat.lt_of_lt_of_eq t.isLt (trips1 i)
  obtain rfl : r = r0 := Fin.ext (by omega)
  obtain rfl : l = ln 1 c0 := Fin.ext (by rw [ln_val]; exact hl)
  exact (tripK1 (hi k) (hi v) (rows6 i t q) (rows6 i t d) w r c0).trans (congrArg (w (ix2 r c0) + ·)
    (shareK k v q d (i 1).val (512 * ((i 1).val + 1 + t.val)) 0 1 (hi v) (rows6 i t q) (rows6 i t d) (fun r c => hi_at v r c) (fun s c s' hs => rows6_at i q t s c s' (by omega)) (fun s c s' hs => rows6_at i d t s c s' (by omega)) _ r (fun s s' hs => later_wt k q (i 1).val 1 (hi k) (rows6 i t q) r s s' (by omega) (hi_at k _) fun c => rows6_at i q t s c s' (by omega)) (by omega) c0))

theorem tripQ1_at (t : Fin (k0_t1_loop i).trips) (w : (⟨2, ![512, 128]⟩ : Shape).Idx → EReal) (s0 : Fin 512) (c0 : Fin 128) (s : Fin 4096) (l : Fin 256) (hs : s.val = 512 * ((i 1).val + 1 + t.val) + s0.val) (hl : l.val = 128 + c0.val) :
    k0_pay9 (F := Ideal) (k0_pay38 (hi k)) (k0_pay40 (hi v)) (rows6 i t q) (rows6 i t d) w (ix2 s0 c0)
      = w (ix2 s0 c0) + ∑ r ∈ Finset.range 512, ext (fQ (i 1).val k v q d 1 s l) (0 + r) := by
  obtain rfl : l = ln 1 c0 := Fin.ext (by rw [ln_val]; exact hl)
  exact (tripQ1 (hi k) (hi v) (rows6 i t q) (rows6 i t d) w s0 c0).trans (congrArg (w (ix2 s0 c0) + ·)
    (shareQ k v q d (i 1).val (512 * ((i 1).val + 1 + t.val)) 0 1 (hi k) (hi v) (rows6 i t d) (fun r c => hi_at k r c) (fun r c => hi_at v r c) (fun s c s' hs => rows6_at i d t s c s' (by omega)) s0 s (by omega) 0 (fun r : Fin 512 => r)
      (fun r => (Nat.zero_add _).symm) (by omega) _
      (fun r => later_wt k q (i 1).val 1 (hi k) (rows6 i t q) r s0 s (by omega) (hi_at k _) fun c => rows6_at i q t s0 c s (by omega)) c0))

/-- The values' gradient after the own query block. -/
theorem ownV_at (a : Fin 2) (r : Fin 512) (c : Fin 128) :
    ownV i k q d (ix2 r (ln a c)) = ∑ s ∈ Finset.range 512, ext (fV (i 1).val k q d a r (ln a c)) (512 * (i 1).val + s) := by
  have hl := ln_val a c
  have e1 := fun x => bump_add (R := 512) (C := 256) (n := 256) (m := 128) x rfl inb_S512x256_S256x128_0_0 _ (fun r l => ∑ s ∈ Finset.range 512, ext (fV (i 1).val k q d 0 r l) (512 * (i 1).val + 0 + s)) (fun w r0 c0 r l hr hl => ownV0_at i k q d w r0 c0 r l hr hl) r (ln a c)
  have e2 := fun x => bump_add (R := 512) (C := 256) (n := 256) (m := 128) x rfl inb_S512x256_S256x128_0_128 _ (fun r l => ∑ s ∈ Finset.range 512, ext (fV (i 1).val k q d 1 r l) (512 * (i 1).val + 0 + s)) (fun w r0 c0 r l hr hl => ownV1_at i k q d w r0 c0 r l hr hl) r (ln a c)
  have e3 := fun x => bump_add (R := 512) (C := 256) (n := 256) (m := 128) x rfl inb_S512x256_S256x128_256_0 _ (fun r l => ∑ s ∈ Finset.range 256, ext (fV (i 1).val k q d 0 r l) (512 * (i 1).val + 256 + s)) (fun w r0 c0 r l hr hl => ownV2_at i k q d w r0 c0 r l hr hl) r (ln a c)
  have e4 := fun x => bump_add (R := 512) (C := 256) (n := 256) (m := 128) x rfl inb_S512x256_S256x128_256_128 _ (fun r l => ∑ s ∈ Finset.range 256, ext (fV (i 1).val k q d 1 r l) (512 * (i 1).val + 256 + s)) (fun w r0 c0 r l hr hl => ownV3_at i k q d w r0 c0 r l hr hl) r (ln a c)
  refine ((e4 _).trans (congrArg (· + _) ((e3 _).trans (congrArg (· + _) ((e2 _).trans (congrArg (· + _) (e1 _))))))).trans ?_
  have hz : (k0_pay36 (F := Ideal)) (ix2 r (ln a c)) = (0 : EReal) := by pointwise [k0_pay36]
  rw [hz]
  have h2 := sum_second (g := ext (fV (i 1).val k q d a r (ln a c))) (512 * (i 1).val)
  have h0 : 256 ≤ r.val → ∀ s, s < 256 → ext (fV (i 1).val k q d a r (ln a c)) (512 * (i 1).val + s) = 0 := fun hr s hs => ext_fV_zero _ k q d a r _ _ (by omega)
  rcases (show a = 0 ∨ a = 1 from by omega) with rfl | rfl <;> rcases Nat.lt_or_ge r.val 256 with hr | hr
  · rw [if_pos (by simp only [hl]; omega), if_neg (by simp only [hl]; omega), if_neg (by simp only [hl]; omega), if_neg (by simp only [hl]; omega)]
    simp only [add_zero, zero_add]
  · rw [if_neg (by simp only [hl]; omega), if_neg (by simp only [hl]; omega), if_pos (by simp only [hl]; omega), if_neg (by simp only [hl]; omega)]
    simp only [add_zero, zero_add]
    exact h2 (h0 hr)
  · rw [if_neg (by simp only [hl]; omega), if_pos (by simp only [hl]; omega), if_neg (by simp only [hl]; omega), if_neg (by simp only [hl]; omega)]
    simp only [add_zero, zero_add]
  · rw [if_neg (by simp only [hl]; omega), if_neg (by simp only [hl]; omega), if_neg (by simp only [hl]; omega), if_pos (by simp only [hl]; omega)]
    simp only [add_zero, zero_add]
    exact h2 (h0 hr)

/-- The values' gradient before trip `n` of the loop over the later query blocks. -/
theorem upToV_at (a : Fin 2) (r : Fin 512) (c : Fin 128) : ∀ n : ℕ, n ≤ (k0_t1_loop i).trips →
    upTo (tripV i k q d) (ownV i k q d) n (ix2 r (ln a c)) = ∑ s ∈ Finset.range (512 * ((i 1).val + 1 + n)), ext (fV (i 1).val k q d a r (ln a c)) s
  | 0, _ => by
    rw [show 512 * ((i 1).val + 1 + 0) = 512 * (i 1).val + 512 from by omega, sum_append,
      Finset.sum_eq_zero (fun s hs => ext_fV_zero _ k q d a r _ s (by have := Finset.mem_range.mp hs; omega)), zero_add]
    exact ownV_at i k q d a r c
  | n + 1, h => by
    have hl := ln_val a c
    rw [show n + 1 = (⟨n, h⟩ : Fin (k0_t1_loop i).trips).val + 1 from rfl, upTo_succ,
      show 512 * ((i 1).val + 1 + ((⟨n, h⟩ : Fin (k0_t1_loop i).trips).val + 1)) = 512 * ((i 1).val + 1 + n) + 512 from by show 512 * (_ + (n + 1)) = _; omega, sum_append,
      ← upToV_at a r c n (Nat.le_of_lt h)]
    refine (bump2_add (q := 0) (R := 512) (C := 256) (n := 512) (m := 128) _ rfl rfl inb_S512x256_S512x128_0_0 inb_S512x256_S512x128_0_128 (by omega) _ _
      (fun r l => ∑ s ∈ Finset.range 512, ext (fV (i 1).val k q d 0 r l) (512 * ((i 1).val + 1 + n) + 0 + s))
      (fun r l => ∑ s ∈ Finset.range 512, ext (fV (i 1).val k q d 1 r l) (512 * ((i 1).val + 1 + n) + 0 + s))
      (fun w r0 c0 r l hr hl => tripV0_at i k q d ⟨n, h⟩ w r0 c0 r l hr hl) (fun w r0 c0 r l hr hl => tripV1_at i k q d ⟨n, h⟩ w r0 c0 r l hr hl) r (ln a c)).trans ?_
    rcases (show a = 0 ∨ a = 1 from by omega) with rfl | rfl
    · rw [if_pos (by simp only [hl]; omega), if_neg (by simp only [hl]; omega), add_zero]; rfl
    · rw [if_neg (by simp only [hl]; omega), if_pos (by simp only [hl]; omega), add_zero]; rfl

/-- The values' gradient at the end of a point: a sum over all queries. -/
theorem endV_at (a : Fin 2) (r : Fin 512) (c : Fin 128) :
    endV i k q d (ix2 r (ln a c)) = ∑ s : Fin 4096, fV (i 1).val k q d a r (ln a c) s := by
  have hj := j_lt i
  unfold endV
  rw [upToV_at i k q d a r c _ (le_refl _), trips1, show 512 * ((i 1).val + 1 + (7 - (i 1).val)) = 4096 from by omega, sum_ext]

/-- The keys' gradient after the own query block. -/
theorem ownK_at (a : Fin 2) (r : Fin 512) (c : Fin 128) :
    ownK i k v q d (ix2 r (ln a c)) = ∑ s ∈ Finset.range 512, ext (fK (i 1).val k v q d a r (ln a c)) (512 * (i 1).val + s) := by
  have hl := ln_val a c
  have e1 := fun x => bump_add (R := 512) (C := 256) (n := 256) (m := 128) x rfl inb_S512x256_S256x128_0_0 _ (fun r l => ∑ s ∈ Finset.range 512, ext (fK (i 1).val k v q d 0 r l) (512 * (i 1).val + 0 + s)) (fun w r0 c0 r l hr hl => ownK0_at i k v q d w r0 c0 r l hr hl) r (ln a c)
  have e2 := fun x => bump_add (R := 512) (C := 256) (n := 256) (m := 128) x rfl inb_S512x256_S256x128_0_128 _ (fun r l => ∑ s ∈ Finset.range 512, ext (fK (i 1).val k v q d 1 r l) (512 * (i 1).val + 0 + s)) (fun w r0 c0 r l hr hl => ownK1_at i k v q d w r0 c0 r l hr hl) r (ln a c)
  have e3 := fun x => bump_add (R := 512) (C := 256) (n := 256) (m := 128) x rfl inb_S512x256_S256x128_256_0 _ (fun r l => ∑ s ∈ Finset.range 256, ext (fK (i 1).val k v q d 0 r l) (512 * (i 1).val + 256 + s)) (fun w r0 c0 r l hr hl => ownK2_at i k v q d w r0 c0 r l hr hl) r (ln a c)
  have e4 := fun x => bump_add (R := 512) (C := 256) (n := 256) (m := 128) x rfl inb_S512x256_S256x128_256_128 _ (fun r l => ∑ s ∈ Finset.range 256, ext (fK (i 1).val k v q d 1 r l) (512 * (i 1).val + 256 + s)) (fun w r0 c0 r l hr hl => ownK3_at i k v q d w r0 c0 r l hr hl) r (ln a c)
  refine ((e4 _).trans (congrArg (· + _) ((e3 _).trans (congrArg (· + _) ((e2 _).trans (congrArg (· + _) (e1 _))))))).trans ?_
  have hz : (k0_pay35 (F := Ideal)) (ix2 r (ln a c)) = (0 : EReal) := by pointwise [k0_pay35]
  rw [hz]
  have h2 := sum_second (g := ext (fK (i 1).val k v q d a r (ln a c))) (512 * (i 1).val)
  have h0 : 256 ≤ r.val → ∀ s, s < 256 → ext (fK (i 1).val k v q d a r (ln a c)) (512 * (i 1).val + s) = 0 := fun hr s hs => ext_fK_zero _ k v q d a r _ _ (by omega)
  rcases (show a = 0 ∨ a = 1 from by omega) with rfl | rfl <;> rcases Nat.lt_or_ge r.val 256 with hr | hr
  · rw [if_pos (by simp only [hl]; omega), if_neg (by simp only [hl]; omega), if_neg (by simp only [hl]; omega), if_neg (by simp only [hl]; omega)]
    simp only [add_zero, zero_add]
  · rw [if_neg (by simp only [hl]; omega), if_neg (by simp only [hl]; omega), if_pos (by simp only [hl]; omega), if_neg (by simp only [hl]; omega)]
    simp only [add_zero, zero_add]
    exact h2 (h0 hr)
  · rw [if_neg (by simp only [hl]; omega), if_pos (by simp only [hl]; omega), if_neg (by simp only [hl]; omega), if_neg (by simp only [hl]; omega)]
    simp only [add_zero, zero_add]
  · rw [if_neg (by simp only [hl]; omega), if_neg (by simp only [hl]; omega), if_neg (by simp only [hl]; omega), if_pos (by simp only [hl]; omega)]
    simp only [add_zero, zero_add]
    exact h2 (h0 hr)

/-- The keys' gradient before trip `n` of the loop over the later query blocks. -/
theorem upToK_at (a : Fin 2) (r : Fin 512) (c : Fin 128) : ∀ n : ℕ, n ≤ (k0_t1_loop i).trips →
    upTo (tripK i k v q d) (ownK i k v q d) n (ix2 r (ln a c)) = ∑ s ∈ Finset.range (512 * ((i 1).val + 1 + n)), ext (fK (i 1).val k v q d a r (ln a c)) s
  | 0, _ => by
    rw [show 512 * ((i 1).val + 1 + 0) = 512 * (i 1).val + 512 from by omega, sum_append,
      Finset.sum_eq_zero (fun s hs => ext_fK_zero _ k v q d a r _ s (by have := Finset.mem_range.mp hs; omega)), zero_add]
    exact ownK_at i k v q d a r c
  | n + 1, h => by
    have hl := ln_val a c
    rw [show n + 1 = (⟨n, h⟩ : Fin (k0_t1_loop i).trips).val + 1 from rfl, upTo_succ,
      show 512 * ((i 1).val + 1 + ((⟨n, h⟩ : Fin (k0_t1_loop i).trips).val + 1)) = 512 * ((i 1).val + 1 + n) + 512 from by show 512 * (_ + (n + 1)) = _; omega, sum_append,
      ← upToK_at a r c n (Nat.le_of_lt h)]
    refine (bump2_add (q := 0) (R := 512) (C := 256) (n := 512) (m := 128) _ rfl rfl inb_S512x256_S512x128_0_0 inb_S512x256_S512x128_0_128 (by omega) _ _
      (fun r l => ∑ s ∈ Finset.range 512, ext (fK (i 1).val k v q d 0 r l) (512 * ((i 1).val + 1 + n) + 0 + s))
      (fun r l => ∑ s ∈ Finset.range 512, ext (fK (i 1).val k v q d 1 r l) (512 * ((i 1).val + 1 + n) + 0 + s))
      (fun w r0 c0 r l hr hl => tripK0_at i k v q d ⟨n, h⟩ w r0 c0 r l hr hl) (fun w r0 c0 r l hr hl => tripK1_at i k v q d ⟨n, h⟩ w r0 c0 r l hr hl) r (ln a c)).trans ?_
    rcases (show a = 0 ∨ a = 1 from by omega) with rfl | rfl
    · rw [if_pos (by simp only [hl]; omega), if_neg (by simp only [hl]; omega), add_zero]; rfl
    · rw [if_neg (by simp only [hl]; omega), if_pos (by simp only [hl]; omega), add_zero]; rfl

/-- The keys' gradient at the end of a point: a sum over all queries. -/
theorem endK_at (a : Fin 2) (r : Fin 512) (c : Fin 128) :
    endK i k v q d (ix2 r (ln a c)) = ∑ s : Fin 4096, fK (i 1).val k v q d a r (ln a c) s := by
  have hj := j_lt i
  unfold endK
  rw [upToK_at i k v q d a r c _ (le_refl _), trips1, show 512 * ((i 1).val + 1 + (7 - (i 1).val)) = 4096 from by omega, sum_ext]

/-- The queries' gradient after the own query block. -/
theorem ownQ_at (x : Vec Ideal S4096x256 .f32) (a : Fin 2) (s : Fin 4096) (c : Fin 128) :
    (ownQ i k v q d x (ix2 s (ln a c)) : EReal)
      = if s.val < 512 * ((i 1).val + 1) then (x (ix2 s (ln a c)) : EReal) + ∑ r : Fin 512, fQ (i 1).val k v q d a s (ln a c) r else x (ix2 s (ln a c)) := by
  have hl := ln_val a c
  have e1 := fun x => bump_add (R := 4096) (C := 256) (n := 512) (m := 128) x (off1_eq i) (k0_off1_inb i) _ (fun s l => ∑ r ∈ Finset.range 256, ext (fQ (i 1).val k v q d 0 s l) (0 + r)) (fun w r0 c0 r l hr hl => ownQ0_at i k v q d w r0 c0 r l (by omega) hl) s (ln a c)
  have e2 := fun x => bump_add (R := 4096) (C := 256) (n := 512) (m := 128) x (off2_eq i) (k0_off2_inb i) _ (fun s l => ∑ r ∈ Finset.range 256, ext (fQ (i 1).val k v q d 1 s l) (0 + r)) (fun w r0 c0 r l hr hl => ownQ1_at i k v q d w r0 c0 r l (by omega) hl) s (ln a c)
  have e3 := fun x => bump_add (R := 4096) (C := 256) (n := 256) (m := 128) x (off3_eq i) (k0_off3_inb i) _ (fun s l => ∑ r ∈ Finset.range 256, ext (fQ (i 1).val k v q d 0 s l) (256 + r)) (fun w r0 c0 r l hr hl => ownQ2_at i k v q d w r0 c0 r l (by omega) hl) s (ln a c)
  have e4 := fun x => bump_add (R := 4096) (C := 256) (n := 256) (m := 128) x (off4_eq i) (k0_off4_inb i) _ (fun s l => ∑ r ∈ Finset.range 256, ext (fQ (i 1).val k v q d 1 s l) (256 + r)) (fun w r0 c0 r l hr hl => ownQ3_at i k v q d w r0 c0 r l (by omega) hl) s (ln a c)
  refine ((e4 _).trans (congrArg (· + _) ((e3 _).trans (congrArg (· + _) ((e2 _).trans (congrArg (· + _) (e1 x))))))).trans ?_
  have hs : ∑ r : Fin 512, fQ (i 1).val k v q d a s (ln a c) r = ∑ r ∈ Finset.range 256, ext (fQ (i 1).val k v q d a s (ln a c)) (0 + r) + ∑ r ∈ Finset.range 256, ext (fQ (i 1).val k v q d a s (ln a c)) (256 + r) := by
    rw [← sum_ext]
    refine (sum_append _ 256 256).trans ?_
    simp only [Nat.zero_add]
  have hz : ∀ n, s.val / 64 < (512 * (i 1).val + n) / 64 → ext (fQ (i 1).val k v q d a s (ln a c)) n = 0 := fun n hn => ext_fQ_zero _ k v q d a s _ n hn
  rcases Nat.lt_or_ge s.val (512 * (i 1).val) with h1 | h1
  · rw [if_neg (by omega), if_neg (by omega), if_neg (by omega), if_neg (by omega), if_pos (by omega), hs,
      Finset.sum_eq_zero (fun r _ => hz _ (by omega)), Finset.sum_eq_zero (fun r _ => hz _ (by omega))]
    simp only [add_zero]
  rcases Nat.lt_or_ge s.val (512 * (i 1).val + 256) with h2 | h2
  · rw [if_pos (show s.val < 512 * ((i 1).val + 1) by omega), hs, Finset.sum_eq_zero (s := Finset.range 256) (f := fun r => ext (fQ (i 1).val k v q d a s (ln a c)) (256 + r)) (fun r _ => hz _ (by omega)), add_zero]
    rcases (show a = 0 ∨ a = 1 from by omega) with rfl | rfl
    · rw [if_pos (by simp only [hl]; omega), if_neg (by simp only [hl]; omega), if_neg (by simp only [hl]; omega), if_neg (by simp only [hl]; omega)]
      simp only [add_zero]
    · rw [if_neg (by simp only [hl]; omega), if_pos (by simp only [hl]; omega), if_neg (by simp only [hl]; omega), if_neg (by simp only [hl]; omega)]
      simp only [add_zero]
  rcases Nat.lt_or_ge s.val (512 * ((i 1).val + 1)) with h3 | h3
  · rw [if_pos h3, hs]
    rcases (show a = 0 ∨ a = 1 from by omega) with rfl | rfl
    · rw [if_pos (by simp only [hl]; omega), if_neg (by simp only [hl]; omega), if_pos (by simp only [hl]; omega), if_neg (by simp only [hl]; omega)]
      simp only [add_zero, add_assoc]
    · rw [if_neg (by simp only [hl]; omega), if_pos (by simp only [hl]; omega), if_neg (by simp only [hl]; omega), if_pos (by simp only [hl]; omega)]
      simp only [add_zero, add_assoc]
  · rw [if_neg (by omega), if_neg (by omega), if_neg (by omega), if_neg (by omega), if_neg (by omega)]
    simp only [add_zero]

/-- The queries' gradient before trip `n` of the loop. -/
theorem upToQ_at (x : Vec Ideal S4096x256 .f32) (a : Fin 2) (s : Fin 4096) (c : Fin 128) : ∀ n : ℕ, n ≤ (k0_t1_loop i).trips →
    (upTo (tripQ i k v q d) (ownQ i k v q d x) n (ix2 s (ln a c)) : EReal)
      = if s.val < 512 * ((i 1).val + 1 + n) then (x (ix2 s (ln a c)) : EReal) + ∑ r : Fin 512, fQ (i 1).val k v q d a s (ln a c) r else x (ix2 s (ln a c))
  | 0, _ => ownQ_at i k v q d x a s c
  | n + 1, h => by
    have hl := ln_val a c
    rw [show n + 1 = (⟨n, h⟩ : Fin (k0_t1_loop i).trips).val + 1 from rfl, upTo_succ]
    refine (bump2_add (q := 0) (R := 4096) (C := 256) (n := 512) (m := 128) _ (off5_eq i ⟨n, h⟩) (off6_eq i ⟨n, h⟩) (k0_off5_inb i ⟨n, h⟩) (k0_off6_inb i ⟨n, h⟩) (by omega) _ _
      (fun s l => ∑ r ∈ Finset.range 512, ext (fQ (i 1).val k v q d 0 s l) (0 + r)) (fun s l => ∑ r ∈ Finset.range 512, ext (fQ (i 1).val k v q d 1 s l) (0 + r))
      (fun w r0 c0 r l hr hl => tripQ0_at i k v q d ⟨n, h⟩ w r0 c0 r l hr hl) (fun w r0 c0 r l hr hl => tripQ1_at i k v q d ⟨n, h⟩ w r0 c0 r l hr hl) s (ln a c)).trans ?_
    refine (congrArg (fun z : EReal => z + _ + _) (upToQ_at x a s c n (Nat.le_of_lt h))).trans ?_
    have hs : ∑ r ∈ Finset.range 512, ext (fQ (i 1).val k v q d a s (ln a c)) (0 + r) = ∑ r : Fin 512, fQ (i 1).val k v q d a s (ln a c) r := by
      simp only [Nat.zero_add]; exact sum_ext _
    dsimp only
    rcases Nat.lt_or_ge s.val (512 * ((i 1).val + 1 + n)) with h1 | h1
    · rw [if_pos h1, if_neg (by omega), if_neg (by omega), if_pos (by omega)]; simp only [add_zero]
    rw [if_neg (show ¬ s.val < 512 * ((i 1).val + 1 + n) by omega)]
    rcases Nat.lt_or_ge s.val (512 * ((i 1).val + 1 + (n + 1))) with h2 | h2
    · rw [if_pos h2, ← hs]
      rcases (show a = 0 ∨ a = 1 from by omega) with rfl | rfl
      · rw [if_pos (by simp only [hl]; omega), if_neg (by simp only [hl]; omega), add_zero]
      · rw [if_neg (by simp only [hl]; omega), if_pos (by simp only [hl]; omega), add_zero]
    · rw [if_neg (by omega), if_neg (by omega), if_neg (by omega)]; simp only [add_zero]

/-- The queries' gradient at the end of a point: a sum over the keys of the block more than at its start. -/
theorem endQ_at (x : Vec Ideal S4096x256 .f32) (a : Fin 2) (s : Fin 4096) (c : Fin 128) :
    (endQ i k v q d x (ix2 s (ln a c)) : EReal) = (x (ix2 s (ln a c)) : EReal) + ∑ r : Fin 512, fQ (i 1).val k v q d a s (ln a c) r := by
  have hj := j_lt i
  unfold endQ
  rw [upToQ_at i k v q d x a s c _ (le_refl _), trips1, if_pos (by omega)]

end Cert.Kernel2Ideal.Attn

end
-- ==== Proof.AttnArr.lean ====
/-
  What the attention's backward region leaves in its three arrays, at exact values, as functions of its four operands.
-/
module

public import proofs.«01_k».proof.Proof.AttnClosed
public import proofs.«01_k».proof.Proof.AttnFrame
public import Idealize.ShloMosaic.Lib.Pipeline.ValueKit
public import Idealize.ShloMosaic.Lib.Pointwise

@[expose] public section

set_option maxRecDepth 16384

noncomputable section

namespace Cert.Kernel2Ideal.Attn

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-! ## The operands and their blocks -/

/-- Lane `c` of head `h`. -/
def hd (h : Fin 8) (c : Fin 128) : Fin 1024 := ⟨128 * h.val + c.val, by omega⟩

/-- The product of a row's lanes and another row's, of one head. -/
def scA (X Y : Vec Ideal S4096x1024 .bf16) (h : Fin 8) (r s : Fin 4096) : EReal :=
  ∑ c : Fin 128, (X (ix2 r (hd h c)) : EReal) * (Y (ix2 s (hd h c)) : EReal)

/-- The weight of key `r` and query `s`. -/
def wA (K Q : Vec Ideal S4096x1024 .bf16) (h : Fin 8) (r s : Fin 4096) : EReal :=
  Ideal.exp (if r.val / 64 ≤ s.val / 64 then scA K Q h r s else ⊥)

/-- The values' gradient. -/
def dvA (K Q D : Vec Ideal S4096x1024 .bf16) (h : Fin 8) (r : Fin 4096) (c : Fin 128) : EReal :=
  ∑ s : Fin 4096, wA K Q h r s * (D (ix2 s (hd h c)) : EReal)
/-- The keys' gradient. -/
def dkA (K V Q D : Vec Ideal S4096x1024 .bf16) (h : Fin 8) (r : Fin 4096) (c : Fin 128) : EReal :=
  ∑ s : Fin 4096, wA K Q h r s * scA V D h r s * (Q (ix2 s (hd h c)) : EReal)
/-- The queries' gradient. -/
def dqA (K V Q D : Vec Ideal S4096x1024 .bf16) (h : Fin 8) (s : Fin 4096) (c : Fin 128) : EReal :=
  ∑ r : Fin 4096, wA K Q h r s * scA V D h r s * (K (ix2 r (hd h c)) : EReal)

theorem idx : ∀ t : Fin cfg0.N, win0_0.index t = ![0, t.val / 8] ∧ win0_1.index t = ![t.val % 8, t.val / 8] ∧ win0_2.index t = ![t.val % 8, t.val / 8]
    ∧ win0_3.index t = ![0, t.val / 8] ∧ win0_4.index t = ![0, t.val / 8] ∧ win0_5.index t = ![t.val % 8, t.val / 8] ∧ win0_6.index t = ![t.val % 8, t.val / 8] :=
  (by decide +kernel : ∀ t : Fin grid0.N, _)

theorem coord_one : ∀ t : Fin cfg0.N, (grid0.coords t 1).val = t.val % 8 := by decide +kernel
theorem first_iff : ∀ t : Fin cfg0.N, First (grid0.coords t) ↔ t.val % 8 = 0 := by decide +kernel

theorem t_lt (t : Fin cfg0.N) : t.val < 32 := by have := t.isLt; have h : cfg0.N = 32 := N_0; omega

/-- The head that point `t`'s pair has at place `a`. -/
def head (t : Fin cfg0.N) (a : Fin 2) : Fin 8 := ⟨2 * (t.val / 8) + a.val, by have := t_lt t; omega⟩
/-- The row that point `t`'s key block has at place `r`. -/
def rowOf (t : Fin cfg0.N) (r : Fin 512) : Fin 4096 := ⟨512 * (t.val % 8) + r.val, by omega⟩

theorem q_block (c : Dev nD) (t : Fin cfg0.N) (s : Fin 4096) (a : Fin 2) (l : Fin 128) :
    qAt m c t (ix2 s (ln a l)) = V m c main_v41 (ix2 s (hd (head t a) l)) := by
  unfold ln hd head
  blk_point [iblk, V, idx t]
theorem k_block (c : Dev nD) (t : Fin cfg0.N) (r : Fin 512) (a : Fin 2) (l : Fin 128) :
    kAt m c t (ix2 r (ln a l)) = V m c main_v46 (ix2 (rowOf t r) (hd (head t a) l)) := by
  unfold ln hd head rowOf
  blk_point [iblk, V, idx t]
theorem v_block (c : Dev nD) (t : Fin cfg0.N) (r : Fin 512) (a : Fin 2) (l : Fin 128) :
    vAt m c t (ix2 r (ln a l)) = V m c main_v51 (ix2 (rowOf t r) (hd (head t a) l)) := by
  unfold ln hd head rowOf
  blk_point [iblk, V, idx t]
theorem d_block (c : Dev nD) (t : Fin cfg0.N) (s : Fin 4096) (a : Fin 2) (l : Fin 128) :
    dAt m c t (ix2 s (ln a l)) = V m c main_v56 (ix2 s (hd (head t a) l)) := by
  unfold ln hd head
  blk_point [iblk, V, idx t]

/-! ## What a point adds -/

theorem sc_block (c : Dev nD) (t : Fin cfg0.N) (a : Fin 2) (r : Fin 512) (s : Fin 4096) :
    sc (kAt m c t) (qAt m c t) a r s = scA (V m c main_v46) (V m c main_v41) (head t a) (rowOf t r) s :=
  Finset.sum_congr rfl fun l _ => by rw [k_block, q_block]
theorem sc_block' (c : Dev nD) (t : Fin cfg0.N) (a : Fin 2) (r : Fin 512) (s : Fin 4096) :
    sc (vAt m c t) (dAt m c t) a r s = scA (V m c main_v51) (V m c main_v56) (head t a) (rowOf t r) s :=
  Finset.sum_congr rfl fun l _ => by rw [v_block, d_block]
theorem wt_block (c : Dev nD) (t : Fin cfg0.N) (a : Fin 2) (r : Fin 512) (s : Fin 4096) :
    wt (grid0.coords t 1).val (kAt m c t) (qAt m c t) a r s = wA (V m c main_v46) (V m c main_v41) (head t a) (rowOf t r) s := by
  unfold wt wA
  rw [sc_block, coord_one]
  rfl

theorem endV_arr (c : Dev nD) (t : Fin cfg0.N) (r : Fin 512) (a : Fin 2) (l : Fin 128) :
    endV (grid0.coords t) (kAt m c t) (qAt m c t) (dAt m c t) (ix2 r (ln a l)) = dvA (V m c main_v46) (V m c main_v41) (V m c main_v56) (head t a) (rowOf t r) l := by
  rw [endV_at]
  refine Finset.sum_congr rfl fun s _ => ?_
  unfold fV
  rw [wt_block, d_block]
theorem endK_arr (c : Dev nD) (t : Fin cfg0.N) (r : Fin 512) (a : Fin 2) (l : Fin 128) :
    endK (grid0.coords t) (kAt m c t) (vAt m c t) (qAt m c t) (dAt m c t) (ix2 r (ln a l)) = dkA (V m c main_v46) (V m c main_v51) (V m c main_v41) (V m c main_v56) (head t a) (rowOf t r) l := by
  rw [endK_at]
  refine Finset.sum_congr rfl fun s _ => ?_
  unfold fK
  rw [wt_block, sc_block', q_block]

/-- What key `r` adds to the queries' gradient. -/
def dqTerm (K V Q D : Vec Ideal S4096x1024 .bf16) (h : Fin 8) (s : Fin 4096) (c : Fin 128) (r : Fin 4096) : EReal :=
  wA K Q h r s * scA V D h r s * (K (ix2 r (hd h c)) : EReal)

theorem stepQ_arr (c : Dev nD) (t : Fin cfg0.N) (x : Vec Ideal S4096x256 .f32) (s : Fin 4096) (a : Fin 2) (l : Fin 128) :
    stepQ m c t x (ix2 s (ln a l)) = start (grid0.coords t) x (ix2 s (ln a l))
      + ∑ r : Fin 512, dqTerm (V m c main_v46) (V m c main_v51) (V m c main_v41) (V m c main_v56) (head t a) s l (rowOf t r) := by
  unfold stepQ
  rw [endQ_at]
  congr 1
  refine Finset.sum_congr rfl fun r _ => ?_
  unfold fQ dqTerm
  rw [wt_block, sc_block', k_block]

/-- Point `j` of pair `p`. -/
def pt (p : Fin 4) (j : Fin 8) : Fin cfg0.N := ⟨8 * p.val + j.val, by have h : cfg0.N = 32 := N_0; omega⟩

theorem start_first (t : Fin cfg0.N) (h : t.val % 8 = 0) (x : Vec Ideal S4096x256 .f32) (y : S4096x256.Idx) : start (grid0.coords t) x y = 0 := by
  unfold start
  rw [if_pos ((first_iff t).mpr h)]
  pointwise! [k0_pay34]
theorem start_later (t : Fin cfg0.N) (h : t.val % 8 ≠ 0) (x : Vec Ideal S4096x256 .f32) : start (grid0.coords t) x = x := by
  unfold start
  rw [if_neg (fun hf => h ((first_iff t).mp hf))]

theorem heldQ_step (c : Dev nD) (p : Fin 4) (s : Fin 4096) (a : Fin 2) (l : Fin 128) (n : ℕ) (hn : n < 8)
    (h : start (grid0.coords (pt p ⟨n, hn⟩)) (heldQ m c (8 * p.val + n)) (ix2 s (ln a l))
      = ∑ k ∈ Finset.range (512 * n), ext (dqTerm (V m c main_v46) (V m c main_v51) (V m c main_v41) (V m c main_v56) (head (pt p 0) a) s l) k) :
    heldQ m c (8 * p.val + n + 1) (ix2 s (ln a l))
      = ∑ k ∈ Finset.range (512 * (n + 1)), ext (dqTerm (V m c main_v46) (V m c main_v51) (V m c main_v41) (V m c main_v56) (head (pt p 0) a) s l) k := by
  have hs := heldQ_succ m c (pt p ⟨n, hn⟩)
  have hv : (pt p ⟨n, hn⟩).val = 8 * p.val + n := rfl
  rw [hv] at hs
  rw [hs, stepQ_arr]
  have hh : head (pt p ⟨n, hn⟩) a = head (pt p 0) a := by
    apply Fin.ext; simp only [head, pt, Fin.val_zero]; omega
  have hb : ∀ r : Fin 512, dqTerm (V m c main_v46) (V m c main_v51) (V m c main_v41) (V m c main_v56) (head (pt p ⟨n, hn⟩) a) s l (rowOf (pt p ⟨n, hn⟩) r)
      = ext (dqTerm (V m c main_v46) (V m c main_v51) (V m c main_v41) (V m c main_v56) (head (pt p 0) a) s l) (512 * n + r.val) := by
    intro r
    rw [hh, ext_of_lt _ (by omega : 512 * n + r.val < 4096)]
    congr 1
    apply Fin.ext; simp only [rowOf, pt]; omega
  rw [Finset.sum_congr rfl fun r _ => hb r]
  have hfin : ∑ r : Fin 512, ext (dqTerm (V m c main_v46) (V m c main_v51) (V m c main_v41) (V m c main_v56) (head (pt p 0) a) s l) (512 * n + r.val)
      = ∑ r ∈ Finset.range 512, ext (dqTerm (V m c main_v46) (V m c main_v51) (V m c main_v41) (V m c main_v56) (head (pt p 0) a) s l) (512 * n + r) :=
    Fin.sum_univ_eq_sum_range (fun r => ext (dqTerm (V m c main_v46) (V m c main_v51) (V m c main_v41) (V m c main_v56) (head (pt p 0) a) s l) (512 * n + r)) 512
  rw [hfin, Nat.mul_succ, Finset.sum_range_add]
  rw [h]

theorem heldQ_sum (c : Dev nD) (p : Fin 4) (s : Fin 4096) (a : Fin 2) (l : Fin 128) : ∀ n : ℕ, ∀ hn : n < 8,
    heldQ m c (8 * p.val + n + 1) (ix2 s (ln a l))
      = ∑ k ∈ Finset.range (512 * (n + 1)), ext (dqTerm (V m c main_v46) (V m c main_v51) (V m c main_v41) (V m c main_v56) (head (pt p 0) a) s l) k := by
  intro n
  induction n with
  | zero =>
    intro hn
    refine heldQ_step m c p s a l 0 hn ?_
    rw [start_first _ (by simp only [pt]; omega)]; simp
  | succ n ih =>
    intro hn
    refine heldQ_step m c p s a l (n + 1) hn ?_
    rw [start_later _ (by simp only [pt]; omega)]
    exact ih (by omega)

theorem heldQ_arr (c : Dev nD) (t : Fin cfg0.N) (h : t.val % 8 = 7) (s : Fin 4096) (a : Fin 2) (l : Fin 128) :
    heldQ m c (t.val + 1) (ix2 s (ln a l)) = dqA (V m c main_v46) (V m c main_v51) (V m c main_v41) (V m c main_v56) (head t a) s l := by
  have ht := t_lt t
  have hp : t.val = 8 * (⟨t.val / 8, by omega⟩ : Fin 4).val + 7 := by simp only; omega
  have hh : head (pt ⟨t.val / 8, by omega⟩ 0) a = head t a := by
    apply Fin.ext; simp only [head, pt, Fin.val_zero]; omega
  rw [hp, heldQ_sum m c ⟨t.val / 8, by omega⟩ s a l 7 (by omega), hh]
  exact sum_ext _

/-! ## The arrays -/

/-- The lane and the head of a column. -/
def colLane (y : Fin 1024) : Fin 128 := ⟨y.val % 128, by omega⟩
def colHead (y : Fin 1024) : Fin 8 := ⟨y.val / 128, by omega⟩
def pLane (y : Fin 256) : Fin 128 := ⟨y.val % 128, by omega⟩
def pHalf (y : Fin 256) : Fin 2 := ⟨y.val / 128, by omega⟩
theorem ln_of (y : Fin 256) : ln (pHalf y) (pLane y) = y := by apply Fin.ext; simp only [ln, pHalf, pLane]; omega
theorem colLane_hd (h : Fin 8) (c : Fin 128) : colLane (hd h c) = c := by apply Fin.ext; simp only [colLane, hd]; omega
theorem colHead_hd (h : Fin 8) (c : Fin 128) : colHead (hd h c) = h := by apply Fin.ext; simp only [colHead, hd]; omega

theorem pay17_at (x : Vec Ideal S512x256 .f32) (y : S512x256.Idx) : k0_pay17 (F := Ideal) x y = x y := by
  pointwise! [k0_pay17]
theorem pay18_at (x : Vec Ideal S512x256 .f32) (y : S512x256.Idx) : k0_pay18 (F := Ideal) x y = x y := by
  pointwise! [k0_pay18]
theorem pay19_at (x : Vec Ideal S4096x256 .f32) (y : S4096x256.Idx) : k0_pay19 (F := Ideal) x y = x y := by
  pointwise! [k0_pay19]

theorem final_dk (c : Dev nD) : (dats m 0 c).arrAt 5 cfg0.N
    = (fun i => dkA (V m c main_v46) (V m c main_v51) (V m c main_v41) (V m c main_v56) (colHead (i 1)) (i 0) (colLane (i 1)) : Vec Ideal S4096x1024 .bf16) := by
  refine (dats m 0 c).arrAt_eq_of_covers 5 _ (by decide +kernel) fun t _ y => ?_
  blk_simp
  rw [after_5]
  idx_vars y
  have e0 : ((View.whole main_v57_1).slice (win0_5.rect t)).emb (ix2 y0 y1) 0 = rowOf t y0 := by
    apply Fin.ext; change _ = 512 * (t.val % 8) + y0.val; blk_simp [idx t]; omega
  have e1 : ((View.whole main_v57_1).slice (win0_5.rect t)).emb (ix2 y0 y1) 1 = hd (head t (pHalf y1)) (pLane y1) := by
    apply Fin.ext; change _ = 128 * (2 * (t.val / 8) + y1.val / 128) + y1.val % 128; blk_simp [idx t]; omega
  rw [e0, e1, colHead_hd, colLane_hd, ← endK_arr, ln_of]
  exact pay17_at _ _
theorem final_dv (c : Dev nD) : (dats m 0 c).arrAt 6 cfg0.N
    = (fun i => dvA (V m c main_v46) (V m c main_v41) (V m c main_v56) (colHead (i 1)) (i 0) (colLane (i 1)) : Vec Ideal S4096x1024 .bf16) := by
  refine (dats m 0 c).arrAt_eq_of_covers 6 _ (by decide +kernel) fun t _ y => ?_
  blk_simp
  rw [after_6]
  idx_vars y
  have e0 : ((View.whole main_v57_2).slice (win0_6.rect t)).emb (ix2 y0 y1) 0 = rowOf t y0 := by
    apply Fin.ext; change _ = 512 * (t.val % 8) + y0.val; blk_simp [idx t]; omega
  have e1 : ((View.whole main_v57_2).slice (win0_6.rect t)).emb (ix2 y0 y1) 1 = hd (head t (pHalf y1)) (pLane y1) := by
    apply Fin.ext; change _ = 128 * (2 * (t.val / 8) + y1.val / 128) + y1.val % 128; blk_simp [idx t]; omega
  rw [e0, e1, colHead_hd, colLane_hd, ← endV_arr, ln_of]
  exact pay18_at _ _
theorem flush_last : ∀ t : Fin cfg0.N, (cfg0.win 4).flush t = true → t.val % 8 = 7 := by decide +kernel
theorem final_dq (c : Dev nD) : (dats m 0 c).arrAt 4 cfg0.N
    = (fun i => dqA (V m c main_v46) (V m c main_v51) (V m c main_v41) (V m c main_v56) (colHead (i 1)) (i 0) (colLane (i 1)) : Vec Ideal S4096x1024 .bf16) := by
  refine (dats m 0 c).arrAt_eq_of_covers 4 _ (by decide +kernel) fun t hf y => ?_
  have h7 := flush_last t hf
  blk_simp
  rw [after_4]
  idx_vars y
  have e0 : ((View.whole main_v57_0).slice (win0_4.rect t)).emb (ix2 y0 y1) 0 = y0 := by
    apply Fin.ext; blk_simp [idx t]
  have e1 : ((View.whole main_v57_0).slice (win0_4.rect t)).emb (ix2 y0 y1) 1 = hd (head t (pHalf y1)) (pLane y1) := by
    apply Fin.ext; change _ = 128 * (2 * (t.val / 8) + y1.val / 128) + y1.val % 128; blk_simp [idx t]; omega
  rw [e0, e1, colHead_hd, colLane_hd, ← heldQ_arr m c t h7, ln_of]
  exact pay19_at _ _

end Cert.Kernel2Ideal.Attn

end
-- ==== Proof.AttnLanes.lean ====
/-
  The operands of the attention's backward region, lane by lane.
-/
module

public import proofs.«01_k».proof.Proof.AttnEntry
public import proofs.«01_k».proof.Proof.AttnArr

@[expose] public section

set_option maxRecDepth 16384

noncomputable section

namespace Cert.Kernel2Ideal.Attn

open Cert.Kernel2Ideal Cert.Kernel2Ideal.Gen
open Idealize.ShloMosaic Idealize.ShloMosaic.TcCoe Idealize.SL.Sem

/-- The 128 lanes of a head: `n` columns, two further lanes, zeros. -/
def lad (n : ℕ) (f : Fin n → EReal) (a b : EReal) (c : Fin 128) : EReal :=
  if hc : c.val < n then f ⟨c.val, hc⟩ else if c.val < n + 1 then a else if c.val < n + 2 then b else 0

theorem zero_word : (FloatOps.sitofp FTy.f32 (0#32) : Ideal .f32) = (0 : EReal) := by
  change ((((0#32).toInt : ℝ)) : EReal) = 0
  simp

theorem side_row (B : FVec Ideal S1x8x4096x128 .f32) (h : Fin 8) (s : Fin 4096) (c : Fin 128) :
    (shapeCast S4096x1024 (transpose S1x4096x8x128 [0, 2, 1, 3] (truncf .bf16 B bitsLt_bf16_f32) transposes_S1x8x4096x128_S1x4096x8x128_0_2_1_3) shapeCasts_S1x4096x8x128_S4096x1024 : FVec Ideal S4096x1024 .bf16) (ix2 s (hd h c)) = B (ix4 0 h s c) := by
  pointwise
  have e1 : (hd h c).val / 128 = h.val := by change (128 * h.val + c.val) / 128 = _; omega
  have e2 : (hd h c).val % 128 = c.val := by change (128 * h.val + c.val) % 128 = _; omega
  congr 2 <;> exact Fin.ext (by assumption)

theorem pad_row96 (A : FVec Ideal S1x8x4096x98 .f32) (h : Fin 8) (s : Fin 4096) (c : Fin 128) :
    (pad S1x8x4096x128 ![0, 0, 0, 0] ![0, 0, 0, 30] ![0, 0, 0, 0] A (sitofp .f32 (constantI S_ 32 0#32)) pads_S1x8x4096x98_S1x8x4096x128_000_000_000_0300 h_S_ : FVec Ideal S1x8x4096x128 .f32) (ix4 0 h s c)
      = if hc : c.val < 98 then A (ix4 0 h s ⟨c.val, hc⟩) else (0 : EReal) := by
  pointwise
  split_ifs
  · rfl
  · exact zero_word

theorem con_row96 (A : FVec Ideal S1x8x4096x96 .f32) (x y : FVec Ideal S1x8x4096x1 .f32) (h : Fin 8) (s : Fin 4096) (c : Fin 98) :
    (concatenate S1x8x4096x98 3 [⟨S1x8x4096x96, A⟩, ⟨S1x8x4096x1, x⟩, ⟨S1x8x4096x1, y⟩] concatenates_S1x8x4096x96_S1x8x4096x1_S1x8x4096x1_S1x8x4096x98_d3 : FVec Ideal S1x8x4096x98 .f32) (ix4 0 h s c)
      = if hc : c.val < 96 then A (ix4 0 h s ⟨c.val, hc⟩) else if c.val < 97 then x (ix4 0 h s 0) else y (ix4 0 h s 0) := by
  pointwise
  have e (n : ℕ) (hn : n < 1) : (⟨n, hn⟩ : Fin 1) = 0 := Subsingleton.elim _ _
  simp only [e]
  split_ifs <;> first | rfl | omega

theorem lanes96_at (A : FVec Ideal S1x8x4096x96 .f32) (x y : FVec Ideal S1x8x4096x1 .f32) (h : Fin 8) (s : Fin 4096) (c : Fin 128) :
    lanes96 A x y (ix2 s (hd h c)) = lad 96 (fun c => A (ix4 0 h s c)) (x (ix4 0 h s 0)) (y (ix4 0 h s 0)) c := by
  refine (side_row _ h s c).trans ((pad_row96 _ h s c).trans ?_)
  unfold lad
  by_cases h1 : c.val < 98
  · rw [dif_pos h1, con_row96]
    dsimp only
    split_ifs <;> rfl
  · rw [dif_neg h1, dif_neg (by omega), if_neg (by omega), if_neg h1]

theorem pad_row64 (A : FVec Ideal S1x8x4096x66 .f32) (h : Fin 8) (s : Fin 4096) (c : Fin 128) :
    (pad S1x8x4096x128 ![0, 0, 0, 0] ![0, 0, 0, 62] ![0, 0, 0, 0] A (sitofp .f32 (constantI S_ 32 0#32)) pads_S1x8x4096x66_S1x8x4096x128_000_000_000_0620 h_S_ : FVec Ideal S1x8x4096x128 .f32) (ix4 0 h s c)
      = if hc : c.val < 66 then A (ix4 0 h s ⟨c.val, hc⟩) else (0 : EReal) := by
  pointwise
  split_ifs
  · rfl
  · exact zero_word

theorem con_row64 (A : FVec Ideal S1x8x4096x64 .f32) (x y : FVec Ideal S1x8x4096x1 .f32) (h : Fin 8) (s : Fin 4096) (c : Fin 66) :
    (concatenate S1x8x4096x66 3 [⟨S1x8x4096x64, A⟩, ⟨S1x8x4096x1, x⟩, ⟨S1x8x4096x1, y⟩] concatenates_S1x8x4096x64_S1x8x4096x1_S1x8x4096x1_S1x8x4096x66_d3 : FVec Ideal S1x8x4096x66 .f32) (ix4 0 h s c)
      = if hc : c.val < 64 then A (ix4 0 h s ⟨c.val, hc⟩) else if c.val < 65 then x (ix4 0 h s 0) else y (ix4 0 h s 0) := by
  pointwise
  have e (n : ℕ) (hn : n < 1) : (⟨n, hn⟩ : Fin 1) = 0 := Subsingleton.elim _ _
  simp only [e]
  split_ifs <;> first | rfl | omega

theorem lanes64_at (A : FVec Ideal S1x8x4096x64 .f32) (x y : FVec Ideal S1x8x4096x1 .f32) (h : Fin 8) (s : Fin 4096) (c : Fin 128) :
    lanes64 A x y (ix2 s (hd h c)) = lad 64 (fun c => A (ix4 0 h s c)) (x (ix4 0 h s 0)) (y (ix4 0 h s 0)) c := by
  refine (side_row _ h s c).trans ((pad_row64 _ h s c).trans ?_)
  unfold lad
  by_cases h1 : c.val < 66
  · rw [dif_pos h1, con_row64]
    dsimp only
    split_ifs <;> rfl
  · rw [dif_neg h1, dif_neg (by omega), if_neg (by omega), if_neg h1]

/-- A sum over the lanes of a head: its columns, the two further lanes, zeros. -/
theorem sum_lanes (n r : ℕ) (hn : n + (1 + (1 + r)) = 128) (F : Fin 128 → EReal) (hF : ∀ c, n + 2 ≤ c.val → F c = 0) :
    (∑ c, F c) = (∑ c : Fin n, F ⟨c.val, by omega⟩) + (F ⟨n, by omega⟩ + F ⟨n + 1, by omega⟩) := by
  rw [← Equiv.sum_comp (finCongr hn) F, Fin.sum_univ_add, Fin.sum_univ_add, Fin.sum_univ_add]
  congr 1
  rw [Fin.sum_univ_one, Fin.sum_univ_one, Finset.sum_eq_zero (fun i _ => hF _ (by simp; omega)), add_zero]
  rfl

theorem sum_lad (n r : ℕ) (hn : n + (1 + (1 + r)) = 128) (f g : Fin n → EReal) (a b a' b' : EReal) :
    (∑ c, lad n f a b c * lad n g a' b' c) = (∑ c, f c * g c) + (a * a' + b * b') := by
  rw [sum_lanes n r hn]
  · refine congrArg₂ (· + ·) (Finset.sum_congr rfl fun c _ => ?_) (congrArg₂ (· + ·) ?_ ?_)
    · simp [lad]
    · simp [lad]
    · simp [lad]
  · intro c hc
    unfold lad
    rw [dif_neg (by omega), if_neg (by omega), if_neg (by omega), zero_mul]

theorem lad_col (n : ℕ) (f : Fin n → EReal) (a b : EReal) (c : Fin n) (hn : c.val < 128) : lad n f a b ⟨c.val, hn⟩ = f c := by
  simp [lad]

theorem oneH_at (h : Fin 8) (s : Fin 4096) : oneH (ix4 0 h s 0) = (1 : EReal) := by
  pointwise [oneH]

theorem hiH_at (x : FVec Ideal S1x8x4096x1 .f32) (h : Fin 8) (s : Fin 4096) : hiH x (ix4 0 h s 0) = x (ix4 0 h s 0) := rfl
theorem loH_at (x : FVec Ideal S1x8x4096x1 .f32) (h : Fin 8) (s : Fin 4096) : loH x (ix4 0 h s 0) = (x (ix4 0 h s 0) : EReal) - (x (ix4 0 h s 0) : EReal) := rfl
theorem scaledH_at (q : FVec Ideal S1x8x4096x96 .f32) (h : Fin 8) (s : Fin 4096) (c : Fin 96) : scaledH q (ix4 0 h s c) = (q (ix4 0 h s c) : EReal) * scaleH := by
  pointwise [scaledH]
  rfl

end Cert.Kernel2Ideal.Attn

end
-- ==== Proof.AttnReal.lean ====
/-
  The attention's backward pass over real numbers: the softmax, its gradient, and what the saved row sums are.
-/
module

public import proofs.«01_k».proof.Proof.AttnLanes

@[expose] public section

set_option maxRecDepth 16384

noncomputable section

namespace Cert.Kernel2Ideal.Attn

open Cert.Kernel2Ideal Cert.Kernel2Ideal.Gen
open Idealize.ShloMosaic Idealize.ShloMosaic.TcCoe Idealize.SL.Sem

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A query row and its keys: the arguments as real numbers, the scale, each row's greatest score. -/
structure Rows where
  Q : Fin 8 → Fin 4096 → Fin 96 → ℝ
  K : Fin 8 → Fin 4096 → Fin 96 → ℝ
  W : Fin 8 → Fin 4096 → Fin 64 → ℝ
  D : Fin 8 → Fin 4096 → Fin 64 → ℝ
  σ : ℝ
  M : Fin 8 → Fin 4096 → ℝ

namespace Rows
variable (A : Rows) (h : Fin 8) (s r : Fin 4096)

/-- The scaled product of query `s` and key `r`. -/
def S : ℝ := (∑ c, A.Q h s c * A.K h r c) * A.σ
/-- Its exponential over the greatest one, of the keys that the query sees. -/
def E : ℝ := if r.val / 64 ≤ s.val / 64 then Real.exp (A.S h s r - A.M h s) else 0
def L : ℝ := ∑ r, A.E h s r
/-- The softmax. -/
def P : ℝ := A.E h s r / A.L h s
/-- The cotangent of the softmax. -/
def Y : ℝ := ∑ e, A.W h r e * A.D h s e
/-- The row sum of the cotangent times the output. -/
def Δ : ℝ := ∑ e, A.D h s e * ∑ r, A.P h s r * A.W h r e
/-- The cotangent of the scores. -/
def G : ℝ := A.P h s r * (A.Y h s r - A.Δ h s)

theorem E_nonneg : 0 ≤ A.E h s r := by
  unfold E; split_ifs
  · exact (Real.exp_pos _).le
  · exact le_refl _
theorem L_pos : 0 < A.L h s := by
  refine Finset.sum_pos' (fun r _ => A.E_nonneg h s r) ⟨0, Finset.mem_univ _, ?_⟩
  unfold E
  rw [if_pos (by simp)]
  exact Real.exp_pos _

/-- The row sum is the softmax's mean of its cotangent. -/
theorem Δ_eq : A.Δ h s = ∑ r, A.P h s r * A.Y h s r := by
  unfold Δ Y
  simp only [Finset.mul_sum]
  rw [Finset.sum_comm]
  refine Finset.sum_congr rfl fun r _ => Finset.sum_congr rfl fun e _ => by ring

/-- The values' gradient. -/
def dv (c : Fin 64) : ℝ := ∑ s, A.P h s r * A.D h s c
/-- The keys' gradient. -/
def dk (c : Fin 96) : ℝ := ∑ s, A.G h s r * A.σ * A.Q h s c
/-- The queries' gradient. -/
def dq (c : Fin 96) : ℝ := ∑ r, A.G h s r * A.σ * A.K h r c

end Rows

/-- Arrays that hold these numbers. -/
structure Holds (A : Rows) (q k : FVec Ideal S1x8x4096x96 .f32) (v d : FVec Ideal S1x8x4096x64 .f32) : Prop where
  hq : ∀ h s c, q (ix4 0 h s c) = (A.Q h s c : EReal)
  hk : ∀ h s c, k (ix4 0 h s c) = (A.K h s c : EReal)
  hv : ∀ h s c, v (ix4 0 h s c) = (A.W h s c : EReal)
  hd : ∀ h s c, d (ix4 0 h s c) = (A.D h s c : EReal)
  hσ : scaleH = (A.σ : EReal)
  hM : ∀ h s, maxH q k (ix3 0 h s) = (A.M h s : EReal)

theorem real_score {q k : FVec Ideal S1x8x4096x96 .f32} {Q K : Fin 8 → Fin 4096 → Fin 96 → ℝ} {σ : ℝ}
    (hq : ∀ h s c, q (ix4 0 h s c) = (Q h s c : EReal)) (hk : ∀ h s c, k (ix4 0 h s c) = (K h s c : EReal)) (hσ : scaleH = (σ : EReal))
    (h : Fin 8) (s r : Fin 4096) :
    scoreH q k (ix4 0 h s r) = if r.val / 64 ≤ s.val / 64 then (((∑ c, Q h s c * K h r c) * σ : ℝ) : EReal) else (⊥ : EReal) := by
  rw [scoreH_at]
  split_ifs
  · rw [hσ, EReal.coe_mul, ← coe_sum]
    simp only [hq, hk, EReal.coe_mul]
  · rfl

/-- Each row's greatest score is a real number: the row sees the first key. -/
theorem real_max {q k : FVec Ideal S1x8x4096x96 .f32} {Q K : Fin 8 → Fin 4096 → Fin 96 → ℝ} {σ : ℝ}
    (hq : ∀ h s c, q (ix4 0 h s c) = (Q h s c : EReal)) (hk : ∀ h s c, k (ix4 0 h s c) = (K h s c : EReal)) (hσ : scaleH = (σ : EReal))
    (h : Fin 8) (s : Fin 4096) : ∃ M : ℝ, maxH q k (ix3 0 h s) = (M : EReal) := by
  have hb : (⊥ : EReal) < maxH q k (ix3 0 h s) := by
    rw [maxH_at, Finset.lt_fold_max]
    refine Or.inr ⟨0, Finset.mem_univ _, ?_⟩
    rw [real_score hq hk hσ, if_pos (by simp)]
    exact EReal.bot_lt_coe _
  have ht : maxH q k (ix3 0 h s) < (⊤ : EReal) := by
    rw [maxH_at, Finset.fold_max_lt]
    refine ⟨bot_lt_top, fun r _ => ?_⟩
    rw [real_score hq hk hσ]
    split_ifs
    · exact EReal.coe_lt_top _
    · exact bot_lt_top
  exact ⟨_, (EReal.coe_toReal ht.ne hb.ne').symm⟩

theorem holds_of {q k : FVec Ideal S1x8x4096x96 .f32} {v d : FVec Ideal S1x8x4096x64 .f32} {Q K : Fin 8 → Fin 4096 → Fin 96 → ℝ} {W D : Fin 8 → Fin 4096 → Fin 64 → ℝ}
    (hq : ∀ h s c, q (ix4 0 h s c) = (Q h s c : EReal)) (hk : ∀ h s c, k (ix4 0 h s c) = (K h s c : EReal))
    (hv : ∀ h s c, v (ix4 0 h s c) = (W h s c : EReal)) (hd : ∀ h s c, d (ix4 0 h s c) = (D h s c : EReal)) : ∃ A : Rows, Holds A q k v d := by
  obtain ⟨σ, hσ⟩ := scale_real
  choose M hM using real_max hq hk hσ
  exact ⟨⟨Q, K, W, D, σ, M⟩, ⟨hq, hk, hv, hd, hσ, hM⟩⟩

namespace Holds
variable {A : Rows} {q k : FVec Ideal S1x8x4096x96 .f32} {v d : FVec Ideal S1x8x4096x64 .f32} (H : Holds A q k v d) (h : Fin 8) (s r : Fin 4096)
include H

theorem score : scoreH q k (ix4 0 h s r) = if r.val / 64 ≤ s.val / 64 then (A.S h s r : EReal) else (⊥ : EReal) :=
  real_score H.hq H.hk H.hσ h s r

theorem expo : expH q k (ix4 0 h s r) = (A.E h s r : EReal) := by
  rw [expH_at, H.score, H.hM]
  unfold Rows.E
  split_ifs
  · rw [← EReal.coe_sub, Ideal.exp_coe]
  · rw [EReal.bot_sub, Ideal.exp_bot, EReal.coe_zero]

theorem sum : sumH q k (ix4 0 h s 0) = (A.L h s : EReal) := by
  rw [sumH_at]
  simp only [H.expo]
  exact coe_sum _ _

theorem prob : probH q k (ix4 0 h s r) = (A.P h s r : EReal) := by
  rw [probH_at, H.expo, H.sum, Ideal.div_coe (A.L_pos h s).ne', ← EReal.coe_mul, mul_one_div]
  rfl

theorem lse : lseH q k (ix4 0 h s 0) = ((-(A.M h s + Real.log (A.L h s)) : ℝ) : EReal) := by
  rw [lseH_at, H.hM, H.sum, Ideal.log_coe, if_neg (A.L_pos h s).not_ge, ← EReal.coe_add, EReal.coe_neg]

theorem del : delH q k v d (ix4 0 h s 0) = ((-A.Δ h s : ℝ) : EReal) := by
  rw [delH_at, EReal.coe_neg]
  unfold Rows.Δ
  rw [← coe_sum]
  simp only [H.hd, H.hv, H.prob, EReal.coe_mul, ← coe_sum]

end Holds

end Cert.Kernel2Ideal.Attn

end
-- ==== Proof.AttnRef.lean ====
/-
  The attention's reference over real numbers: the gradients that differentiating its forward lines gives.
-/
module

public import proofs.«01_k».proof.Proof.AttnReal
public import proofs.«01_k».proof.Proof.Gen.Reference2Ideal.Read

@[expose] public section

set_option maxRecDepth 16384

noncomputable section

namespace Cert.Reference2Ideal.Attn

open Cert.Reference2Ideal Cert.Reference2Ideal.Gen Cert.Reference2Ideal.Read
open Cert.Kernel2Ideal.Attn (maskH scoreH maxH expH sumH probH Rows Holds neg_inf coe_sum scaleH maskH_at maxH_at)
open Idealize.ShloMosaic Idealize.ShloMosaic.TcCoe Idealize.SL.Sem

variable (q k : FVec Ideal S1x8x4096x96 .f32) (v d : FVec Ideal S1x8x4096x64 .f32)

/-! ## The forward lines are the host's -/

theorem mask_eq : val_main_v9 (F := Ideal) = maskH := rfl
theorem score_eq : val_main_v10_0 (F := Ideal) q k = scoreH q k := rfl
theorem max_eq : val_main_v11 (F := Ideal) q k = maxH q k := by
  unfold val_main_v11 maxH
  rw [score_eq]
  rfl
theorem max_bot (X Y : FVec Ideal S1x8x4096 .f32) (hX : ∀ i, X i = (⊥ : EReal)) : (maximumf X Y : FVec Ideal S1x8x4096 .f32) = Y := by
  funext i
  change max (X i : EReal) (Y i) = Y i
  rw [hX, max_eq_right bot_le]
theorem top_eq : val_main_v18 (F := Ideal) q k = maxH q k := by
  unfold val_main_v18
  rw [max_eq]
  exact max_bot _ _ fun i => (val_main_v17_apply i).trans neg_inf
theorem exp_eq : val_main_v31 (F := Ideal) q k = expH q k := by
  unfold val_main_v31 val_main_v30 val_main_v29 val_main_v28 expH
  rw [score_eq, top_eq]
theorem sum_eq : val_main_v33 (F := Ideal) q k = sumH q k := by
  unfold val_main_v33 val_main_v32 sumH
  rw [exp_eq]
  rfl
theorem prob_eq : val_main_v35 (F := Ideal) q k = probH q k := by
  unfold val_main_v35 val_main_v34 probH
  rw [exp_eq, sum_eq]

/-! ## One operation each -/

theorem inv_row (L : FVec Ideal S1x8x4096x1 .f32) (h : Fin 8) (s r : Fin 4096) :
    (broadcastInDim S1x8x4096x4096 ![0, 1, 2, 3] bcast_S1x8x4096x1_S1x8x4096x4096_0_1_2_3
      (Host.divf (broadcastInDim S1x8x4096x1 ![] bcast_S_S1x8x4096x1 (constant S_ .f32 0x3F800000#32)) (mulf L L)) : FVec Ideal S1x8x4096x4096 .f32) (ix4 0 h s r)
      = Ideal.div 1 ((L (ix4 0 h s 0) : EReal) * (L (ix4 0 h s 0) : EReal)) := by
  pointwise

theorem ct_row (h : Fin 8) (s r : Fin 4096) :
    (Host.dotGeneral dot_S1x8x4096x64_S1x8x4096x64_S1x8x4096x4096_3_3_2_2_01_01 none d v : FVec Ideal S1x8x4096x4096 .f32) (ix4 0 h s r)
      = ∑ e : Fin 64, (d (ix4 0 h s e) : EReal) * (v (ix4 0 h r e) : EReal) := by
  pointwise

/-- A sum over two axes of size one is the element. -/
theorem unit_row (X : FVec Ideal S1x8x4096x1 .f32) (h : Fin 8) (s : Fin 4096) :
    Ideal.hostReduceAdd reducesTo_S1x8x4096x1_S8x4096_d0_3 X 0 (ix2 h s) = X (ix4 0 h s 0) := by
  unfold Ideal.hostReduceAdd
  have e : (Finset.univ.filter fun i => reducesTo_S1x8x4096x1_S8x4096_d0_3.drop i = ix2 h s) = {ix4 0 h s 0} := by
    ext i
    rw [Finset.mem_filter, Finset.mem_singleton]
    constructor
    · rintro ⟨-, hi⟩
      idx_vars i
      have h1 := congrFun hi 0
      have h2 := congrFun hi 1
      have e1 : i1 = h := h1
      have e2 : i2 = s := h2
      rw [e1, e2, Subsingleton.elim i0 0, Subsingleton.elim i3 0]
    · rintro rfl
      refine ⟨Finset.mem_univ _, ?_⟩
      funext a
      fin_cases a <;> rfl
  rw [e, Finset.sum_singleton, zero_add]

theorem mean_row (X : FVec Ideal S1x8x4096x4096 .f32) (h : Fin 8) (s r : Fin 4096) :
    (broadcastInDim S1x8x4096x4096 ![0, 1, 2] bcast_S1x8x4096_S1x8x4096x4096_0_1_2 (broadcastInDim S1x8x4096 ![1, 2] bcast_S8x4096_S1x8x4096_1_2
      (Host.reduceAdd (Host.negf (shapeCast S1x8x4096x1 (Host.reduceAdd X (constant S_ .f32 0x00000000#32) reducesTo_S1x8x4096x4096_S1x8x4096_d3 h_S_) shapeCasts_S1x8x4096_S1x8x4096x1))
        (constant S_ .f32 0x00000000#32) reducesTo_S1x8x4096x1_S8x4096_d0_3 h_S_)) : FVec Ideal S1x8x4096x4096 .f32) (ix4 0 h s r)
      = -∑ r', (X (ix4 0 h s r') : EReal) := by
  pointwise
  rw [unit_row]
  pointwise

theorem quot_row (X : FVec Ideal S1x8x4096x4096 .f32) (L : FVec Ideal S1x8x4096x1 .f32) (h : Fin 8) (s r : Fin 4096) :
    (Host.divf X (broadcastInDim S1x8x4096x4096 ![0, 1, 2, 3] bcast_S1x8x4096x1_S1x8x4096x4096_0_1_2_3 L) : FVec Ideal S1x8x4096x4096 .f32) (ix4 0 h s r)
      = Ideal.div (X (ix4 0 h s r)) (L (ix4 0 h s 0)) := by
  pointwise

theorem mask_row (M : IVec S4096x4096 1) (X : FVec Ideal S1x8x4096x4096 .f32) (h : Fin 8) (s r : Fin 4096) :
    (mulf (select (broadcastInDim S1x8x4096x4096 ![2, 3] bcast_S4096x4096_S1x8x4096x4096_2_3 M) X (broadcastInDim S1x8x4096x4096 ![] bcast_S_S1x8x4096x4096 (constant S_ .f32 0x00000000#32)))
      (broadcastInDim S1x8x4096x4096 ![] bcast_S_S1x8x4096x4096 (constant S_ .f32 0x3DD105EC#32)) : FVec Ideal S1x8x4096x4096 .f32) (ix4 0 h s r)
      = (if M (ix2 s r) = 1#1 then (X (ix4 0 h s r) : EReal) else 0) * scaleH := by
  pointwise
  unfold Scalar.select
  split_ifs with h1 h2 h2
  · rfl
  · exact absurd h1 h2
  · exact absurd h2 h1
  · exact (zero_mul _).symm

theorem dv_row (P : FVec Ideal S1x8x4096x4096 .f32) (h : Fin 8) (r : Fin 4096) (c : Fin 64) :
    (transpose S1x8x4096x64 [0, 1, 3, 2] (Host.dotGeneral dot_S1x8x4096x64_S1x8x4096x4096_S1x8x64x4096_2_2_3_3_01_01 none d P) transposes_S1x8x64x4096_S1x8x4096x64_0_1_3_2 : FVec Ideal S1x8x4096x64 .f32) (ix4 0 h r c)
      = ∑ s : Fin 4096, (d (ix4 0 h s c) : EReal) * (P (ix4 0 h s r) : EReal) := by
  pointwise
theorem dk_row (G : FVec Ideal S1x8x4096x4096 .f32) (h : Fin 8) (r : Fin 4096) (c : Fin 96) :
    (Host.dotGeneral dot_S1x8x4096x4096_S1x8x4096x96_S1x8x4096x96_2_2_3_3_01_01 none G q : FVec Ideal S1x8x4096x96 .f32) (ix4 0 h r c)
      = ∑ s : Fin 4096, (G (ix4 0 h s r) : EReal) * (q (ix4 0 h s c) : EReal) := by
  pointwise
theorem dq_row (G : FVec Ideal S1x8x4096x4096 .f32) (h : Fin 8) (s : Fin 4096) (c : Fin 96) :
    (Host.dotGeneral dot_S1x8x4096x4096_S1x8x4096x96_S1x8x4096x96_3_2_2_3_01_01 none G k : FVec Ideal S1x8x4096x96 .f32) (ix4 0 h s c)
      = ∑ r : Fin 4096, (G (ix4 0 h s r) : EReal) * (k (ix4 0 h r c) : EReal) := by
  pointwise

/-! ## The gradients -/

variable {q k v d} {A : Rows} (H : Holds A q k v d) (h : Fin 8) (s r : Fin 4096)
include H

theorem ct_at : val_main_v42 (F := Ideal) v d (ix4 0 h s r) = (A.Y h s r : EReal) := by
  refine (ct_row v d h s r).trans ?_
  unfold Rows.Y
  rw [← coe_sum]
  refine Finset.sum_congr rfl fun e _ => ?_
  rw [H.hd, H.hv, ← EReal.coe_mul, mul_comm]

theorem inv_at : val_main_v43 (F := Ideal) q k (ix4 0 h s r) = ((1 / (A.L h s * A.L h s) : ℝ) : EReal) := by
  unfold val_main_v43 val_main_v38 val_main_v36 val_main_v37
  rw [sum_eq]
  refine (inv_row _ h s r).trans ?_
  have hL := A.L_pos h s
  rw [H.sum, ← EReal.coe_mul, Ideal.div_coe (by positivity), one_mul]

theorem part_at : val_main_v45 (F := Ideal) q k v d (ix4 0 h s r) = ((A.Y h s r * (1 / (A.L h s * A.L h s)) * A.E h s r : ℝ) : EReal) := by
  rw [val_main_v45_apply, val_main_v44_apply, ct_at H, inv_at H, exp_eq, H.expo]
  change (_ : EReal) * _ * _ = _
  rw [← EReal.coe_mul, ← EReal.coe_mul]

theorem mean_at : val_main_v53 (F := Ideal) q k v d (ix4 0 h s r) = ((-∑ r', A.Y h s r' * (1 / (A.L h s * A.L h s)) * A.E h s r' : ℝ) : EReal) := by
  unfold val_main_v53 val_main_v52 val_main_v51 val_main_v48 val_main_v47 val_main_v46
  refine (mean_row _ h s r).trans ?_
  simp only [part_at H]
  rw [coe_sum, ← EReal.coe_neg]

theorem quot_at : val_main_v50 (F := Ideal) q k v d (ix4 0 h s r) = ((A.Y h s r * (1 / A.L h s) : ℝ) : EReal) := by
  unfold val_main_v50 val_main_v49
  rw [sum_eq]
  refine (quot_row _ _ h s r).trans ?_
  rw [ct_at H, H.sum, Ideal.div_coe (A.L_pos h s).ne', ← EReal.coe_mul]

theorem ds_at : val_main_v58 (F := Ideal) q k v d (ix4 0 h s r) = ((A.G h s r * A.σ : ℝ) : EReal) := by
  unfold val_main_v58 val_main_v56 val_main_v57 val_main_v10_1
  rw [mask_eq]
  refine (mask_row _ _ h s r).trans ?_
  rw [val_main_v55_apply, val_main_v54_apply, quot_at H, mean_at H, exp_eq, H.expo, H.hσ, maskH_at, EReal.coe_mul (A.G h s r)]
  refine congrArg (· * (A.σ : EReal)) ?_
  have hL := A.L_pos h s
  by_cases hs : r.val / 64 ≤ s.val / 64
  · rw [if_pos hs, if_pos rfl]
    change ((_ : EReal) + _) * _ = _
    rw [← EReal.coe_add, ← EReal.coe_mul]
    refine congrArg _ ?_
    unfold Rows.G
    rw [A.Δ_eq]
    unfold Rows.P
    have e : ∑ r', A.Y h s r' * (1 / (A.L h s * A.L h s)) * A.E h s r' = (∑ r', A.E h s r' / A.L h s * A.Y h s r') / A.L h s := by
      rw [Finset.sum_div]
      refine Finset.sum_congr rfl fun r' _ => ?_
      field_simp
    rw [e]
    field_simp
    ring
  · rw [if_neg hs, if_neg (by decide)]
    unfold Rows.G Rows.P Rows.E
    rw [if_neg hs, zero_div, zero_mul, EReal.coe_zero]

theorem dv_at (c : Fin 64) : val_main_v41 (F := Ideal) q k d (ix4 0 h r c) = (A.dv h r c : EReal) := by
  unfold val_main_v41 val_main_v40
  rw [prob_eq]
  refine (dv_row d _ h r c).trans ?_
  unfold Rows.dv
  rw [← coe_sum]
  refine Finset.sum_congr rfl fun s _ => ?_
  rw [H.hd, H.prob, ← EReal.coe_mul, mul_comm]
theorem dk_at (c : Fin 96) : val_main_v59 (F := Ideal) q k v d (ix4 0 h r c) = (A.dk h r c : EReal) := by
  unfold val_main_v59
  refine (dk_row q _ h r c).trans ?_
  unfold Rows.dk
  rw [← coe_sum]
  refine Finset.sum_congr rfl fun s _ => ?_
  rw [ds_at H, H.hq, ← EReal.coe_mul]
theorem dq_at (c : Fin 96) : val_main_v60 (F := Ideal) q k v d (ix4 0 h s c) = (A.dq h s c : EReal) := by
  unfold val_main_v60
  refine (dq_row k _ h s c).trans ?_
  unfold Rows.dq
  rw [← coe_sum]
  refine Finset.sum_congr rfl fun r _ => ?_
  rw [ds_at H, H.hk, ← EReal.coe_mul]

end Cert.Reference2Ideal.Attn

end
-- ==== Proof.AttnGrad.lean ====
/-
  The region's three arrays over real numbers: the gradients.
-/
module

public import proofs.«01_k».proof.Proof.AttnReal

@[expose] public section

set_option maxRecDepth 16384

noncomputable section

namespace Cert.Kernel2Ideal.Attn

open Cert.Kernel2Ideal Cert.Kernel2Ideal.Gen
open Idealize.ShloMosaic Idealize.ShloMosaic.TcCoe Idealize.SL.Sem

/-- The four operands that the host packs. -/
def opK (k : FVec Ideal S1x8x4096x96 .f32) : FVec Ideal S4096x1024 .bf16 := lanes96 k oneH oneH
def opV (v : FVec Ideal S1x8x4096x64 .f32) : FVec Ideal S4096x1024 .bf16 := lanes64 v oneH oneH
def opQ (q k : FVec Ideal S1x8x4096x96 .f32) : FVec Ideal S4096x1024 .bf16 := lanes96 (scaledH q) (hiH (lseH q k)) (loH (lseH q k))
def opD (q k : FVec Ideal S1x8x4096x96 .f32) (v d : FVec Ideal S1x8x4096x64 .f32) : FVec Ideal S4096x1024 .bf16 :=
  lanes64 d (hiH (delH q k v d)) (loH (delH q k v d))

theorem sub_self_coe (x : ℝ) : (x : EReal) - (x : EReal) = 0 := by rw [← EReal.coe_sub, sub_self, EReal.coe_zero]

namespace Holds
variable {A : Rows} {q k : FVec Ideal S1x8x4096x96 .f32} {v d : FVec Ideal S1x8x4096x64 .f32} (H : Holds A q k v d) (h : Fin 8) (s r : Fin 4096)
include H

/-- A head's lanes multiplied: the scaled product with the row's log-sum taken off. -/
theorem sc_q : scA (opK k) (opQ q k) h r s = ((A.S h s r - (A.M h s + Real.log (A.L h s)) : ℝ) : EReal) := by
  unfold scA opK opQ
  simp only [lanes96_at]
  rw [sum_lad 96 30 rfl, oneH_at, hiH_at, loH_at, H.lse, sub_self_coe, mul_zero, add_zero, one_mul, sub_eq_add_neg, EReal.coe_add]
  refine congrArg₂ (· + ·) ?_ rfl
  unfold Rows.S
  rw [Finset.sum_mul, ← coe_sum]
  refine Finset.sum_congr rfl fun c _ => ?_
  rw [scaledH_at, H.hq, H.hk, H.hσ, ← EReal.coe_mul, ← EReal.coe_mul]
  exact congrArg _ (by ring)

/-- The cotangent's lanes and the values': the softmax's cotangent with its mean taken off. -/
theorem sc_d : scA (opV v) (opD q k v d) h r s = ((A.Y h s r - A.Δ h s : ℝ) : EReal) := by
  unfold scA opV opD
  simp only [lanes64_at]
  rw [sum_lad 64 62 rfl, oneH_at, hiH_at, loH_at, H.del, sub_self_coe, mul_zero, add_zero, one_mul, sub_eq_add_neg, EReal.coe_add]
  refine congrArg₂ (· + ·) ?_ rfl
  unfold Rows.Y
  rw [← coe_sum]
  refine Finset.sum_congr rfl fun c _ => ?_
  rw [H.hv, H.hd, EReal.coe_mul]

/-- The weights are the softmax. -/
theorem weight : wA (opK k) (opQ q k) h r s = (A.P h s r : EReal) := by
  unfold wA Rows.P Rows.E
  rw [H.sc_q]
  split_ifs
  · rw [Ideal.exp_coe, ← sub_sub, Real.exp_sub, Real.exp_log (A.L_pos h s)]
  · rw [Ideal.exp_bot, zero_div, EReal.coe_zero]

theorem grad_v (c : Fin 64) (hc : c.val < 128) : dvA (opK k) (opQ q k) (opD q k v d) h r ⟨c.val, hc⟩ = (A.dv h r c : EReal) := by
  unfold dvA Rows.dv
  rw [← coe_sum]
  refine Finset.sum_congr rfl fun s _ => ?_
  rw [H.weight]
  unfold opD
  rw [lanes64_at, lad_col, H.hd, EReal.coe_mul]

theorem grad_k (c : Fin 96) (hc : c.val < 128) : dkA (opK k) (opV v) (opQ q k) (opD q k v d) h r ⟨c.val, hc⟩ = (A.dk h r c : EReal) := by
  unfold dkA Rows.dk Rows.G
  rw [← coe_sum]
  refine Finset.sum_congr rfl fun s _ => ?_
  rw [H.weight, H.sc_d]
  unfold opQ
  rw [lanes96_at, lad_col, scaledH_at, H.hq, H.hσ, ← EReal.coe_mul, ← EReal.coe_mul, ← EReal.coe_mul]
  exact congrArg _ (by ring)

theorem grad_q (c : Fin 96) (hc : c.val < 128) : dqA (opK k) (opV v) (opQ q k) (opD q k v d) h s ⟨c.val, hc⟩ * scaleH = (A.dq h s c : EReal) := by
  have e : dqA (opK k) (opV v) (opQ q k) (opD q k v d) h s ⟨c.val, hc⟩ = ((∑ r, A.G h s r * A.K h r c : ℝ) : EReal) := by
    unfold dqA Rows.G
    rw [← coe_sum]
    refine Finset.sum_congr rfl fun r _ => ?_
    rw [H.weight, H.sc_d]
    unfold opK
    rw [lanes96_at, lad_col, H.hk, ← EReal.coe_mul, ← EReal.coe_mul]
  rw [e, H.hσ, ← EReal.coe_mul, Finset.sum_mul]
  unfold Rows.dq
  exact congrArg _ (Finset.sum_congr rfl fun r _ => by ring)

end Holds

end Cert.Kernel2Ideal.Attn

end
-- ==== Proof.AttnTail.lean ====
/-
  What the host makes of the region's arrays, and the attention's three results.
-/
module

public import proofs.«01_k».proof.Proof.AttnGrad

@[expose] public section

set_option maxRecDepth 16384

noncomputable section

namespace Cert.Kernel2Ideal.Attn

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The heads taken apart again, the first 96 or 64 lanes of each. -/
def heads96 (X : FVec Ideal S4096x1024 .bf16) : FVec Ideal S1x8x4096x96 .f32 :=
  extf .f32 (extractStridedSlice S1x8x4096x96 ![0, 0, 0, 0] (transpose S1x8x4096x128 [0, 2, 1, 3] (shapeCast S1x4096x8x128 X shapeCasts_S4096x1024_S1x4096x8x128)
    transposes_S1x4096x8x128_S1x8x4096x128_0_2_1_3) slices_S1x8x4096x128_S1x8x4096x96_0_0_0_0) bitsLt_bf16_f32
def heads64 (X : FVec Ideal S4096x1024 .bf16) : FVec Ideal S1x8x4096x64 .f32 :=
  extf .f32 (extractStridedSlice S1x8x4096x64 ![0, 0, 0, 0] (transpose S1x8x4096x128 [0, 2, 1, 3] (shapeCast S1x4096x8x128 X shapeCasts_S4096x1024_S1x4096x8x128)
    transposes_S1x4096x8x128_S1x8x4096x128_0_2_1_3) slices_S1x8x4096x128_S1x8x4096x64_0_0_0_0) bitsLt_bf16_f32

theorem heads96_at (X : FVec Ideal S4096x1024 .bf16) (h : Fin 8) (s : Fin 4096) (c : Fin 96) : heads96 X (ix4 0 h s c) = X (ix2 s (hd h ⟨c.val, by omega⟩)) := by
  pointwise [heads96]
  exact congrArg (fun t => X (ix2 s t)) (Fin.ext (by change h.val * 128 + c.val = (hd h ⟨c.val, _⟩).val; simp only [hd]; omega))
theorem heads64_at (X : FVec Ideal S4096x1024 .bf16) (h : Fin 8) (s : Fin 4096) (c : Fin 64) : heads64 X (ix4 0 h s c) = X (ix2 s (hd h ⟨c.val, by omega⟩)) := by
  pointwise [heads64]
  exact congrArg (fun t => X (ix2 s t)) (Fin.ext (by change h.val * 128 + c.val = (hd h ⟨c.val, _⟩).val; simp only [hd]; omega))

variable (T : Valuation τ sig (Elt Ideal))

theorem tail_v63 : StableHlo.after hostOps1 T (Proc.devRef .tc main_v63) = scaledH (heads96 (T (Proc.devRef .tc main_v57_0))) := by
  unfold scaledH heads96
  after_reads_simp
  rfl
theorem tail_v67 : StableHlo.after hostOps1 T (Proc.devRef .tc main_v67) = heads96 (T (Proc.devRef .tc main_v57_1)) := by
  unfold heads96
  after_reads_simp
  rfl
theorem tail_v71 : StableHlo.after hostOps1 T (Proc.devRef .tc main_v71) = heads64 (T (Proc.devRef .tc main_v57_2)) := by
  unfold heads64
  after_reads_simp
  rfl

theorem left_dq (c : Dev nD) : Pipeline.afterTail₀ cfgs (dats m) 0 (V0 m) [hostOps1] c main_v63 = scaledH (heads96 ((dats m 0 c).arrAt 4 cfg0.N)) := by
  unfold Pipeline.afterTail₀
  rw [List.flatten_cons, List.flatten_nil, List.append_nil, tail_v63]
  exact congrArg (fun X => scaledH (heads96 X)) (Pipeline.withArrays_arr spec0 launch0.win.arr_inj c (V0 m c) (fun w => (dats m 0 c).arrAt w cfg0.N) 4)
theorem left_dk (c : Dev nD) : Pipeline.afterTail₀ cfgs (dats m) 0 (V0 m) [hostOps1] c main_v67 = heads96 ((dats m 0 c).arrAt 5 cfg0.N) := by
  unfold Pipeline.afterTail₀
  rw [List.flatten_cons, List.flatten_nil, List.append_nil, tail_v67]
  exact congrArg heads96 (Pipeline.withArrays_arr spec0 launch0.win.arr_inj c (V0 m c) (fun w => (dats m 0 c).arrAt w cfg0.N) 5)
theorem left_dv (c : Dev nD) : Pipeline.afterTail₀ cfgs (dats m) 0 (V0 m) [hostOps1] c main_v71 = heads64 ((dats m 0 c).arrAt 6 cfg0.N) := by
  unfold Pipeline.afterTail₀
  rw [List.flatten_cons, List.flatten_nil, List.append_nil, tail_v71]
  exact congrArg heads64 (Pipeline.withArrays_arr spec0 launch0.win.arr_inj c (V0 m c) (fun w => (dats m 0 c).arrAt w cfg0.N) 6)

/-! ## The results -/

theorem arr_dq (c : Dev nD) (h : Fin 8) (s : Fin 4096) (l : Fin 128) : ((dats m 0 c).arrAt 4 cfg0.N : FVec Ideal S4096x1024 .bf16) (ix2 s (hd h l))
    = dqA (V m c main_v46) (V m c main_v51) (V m c main_v41) (V m c main_v56) h s l := by
  rw [final_dq]
  change dqA _ _ _ _ (colHead (hd h l)) s (colLane (hd h l)) = _
  rw [colHead_hd, colLane_hd]
theorem arr_dk (c : Dev nD) (h : Fin 8) (s : Fin 4096) (l : Fin 128) : ((dats m 0 c).arrAt 5 cfg0.N : FVec Ideal S4096x1024 .bf16) (ix2 s (hd h l))
    = dkA (V m c main_v46) (V m c main_v51) (V m c main_v41) (V m c main_v56) h s l := by
  rw [final_dk]
  change dkA _ _ _ _ (colHead (hd h l)) s (colLane (hd h l)) = _
  rw [colHead_hd, colLane_hd]
theorem arr_dv (c : Dev nD) (h : Fin 8) (s : Fin 4096) (l : Fin 128) : ((dats m 0 c).arrAt 6 cfg0.N : FVec Ideal S4096x1024 .bf16) (ix2 s (hd h l))
    = dvA (V m c main_v46) (V m c main_v41) (V m c main_v56) h s l := by
  rw [final_dv]
  change dvA _ _ _ (colHead (hd h l)) s (colLane (hd h l)) = _
  rw [colHead_hd, colLane_hd]

variable {m} {A : Rows} (c : Dev nD) (H : Holds A (m ((c : Thread nD τ).loc main_arg0)) (m ((c : Thread nD τ).loc main_arg1)) (m ((c : Thread nD τ).loc main_arg2)) (m ((c : Thread nD τ).loc main_arg3)))
  (h : Fin 8) (s : Fin 4096)
include H

theorem out_dq (l : Fin 96) : (Pipeline.afterTail₀ cfgs (dats m) 0 (V0 m) [hostOps1] c main_v63 : FVec Ideal S1x8x4096x96 .f32) (ix4 0 h s l) = (A.dq h s l : EReal) := by
  rw [left_dq, scaledH_at, heads96_at, arr_dq, V41, V46, V51, V56]
  exact H.grad_q h s l _
theorem out_dk (l : Fin 96) : (Pipeline.afterTail₀ cfgs (dats m) 0 (V0 m) [hostOps1] c main_v67 : FVec Ideal S1x8x4096x96 .f32) (ix4 0 h s l) = (A.dk h s l : EReal) := by
  rw [left_dk, heads96_at, arr_dk, V41, V46, V51, V56]
  exact H.grad_k h s l _
theorem out_dv (l : Fin 64) : (Pipeline.afterTail₀ cfgs (dats m) 0 (V0 m) [hostOps1] c main_v71 : FVec Ideal S1x8x4096x64 .f32) (ix4 0 h s l) = (A.dv h s l : EReal) := by
  rw [left_dv, heads64_at, arr_dv, V41, V46, V56]
  exact H.grad_v h s l _

end Cert.Kernel2Ideal.Attn

end
-- ==== Proof.FwdStep.lean ====
/-
  The attention's forward region, one grid point: the scores of a tile, the running maximum and the accumulator of a head
  over the tiles so far, and the two blocks the point writes, for any float values. The four heads of a point do the same,
  so one text serves them all; a load reads a window of a vector (`VecWindow`).
-/
module

public import proofs.«01_k».proof.Proof.Gen.Kernel3Ideal.Skeleton
public import Idealize.ShloMosaic.Lib.VecWindow

@[expose] public section

set_option maxRecDepth 16384

noncomputable section

namespace Cert.Kernel3Ideal.Fwd

open Cert.Kernel3Ideal Cert.Kernel3Ideal.Gen
open Idealize.ShloMosaic Idealize.SL.Sem
open VecWindow (window put)

variable {F : FTy → Type} [FloatOps F] [Named F]

/-! ## The lanes of a head -/

theorem lanes_inb (a : Fin 4) : ∀ d, (![0, 128 * a.val] : Fin 2 → ℕ) d + S512x128.size d ≤ S512x512.size d := by
  intro d; have := a.isLt; fin_cases d <;> simp [S512x128, S512x512] <;> omega

theorem rows_inb (n : ℕ) (a : Fin 4) : ∀ d, (![512 * (n % 8), 128 * a.val] : Fin 2 → ℕ) d + S512x128.size d ≤ S4096x512.size d := by
  intro d; have := a.isLt; have := Nat.mod_lt n (y := 8) (by decide); fin_cases d <;> simp [S512x128, S4096x512] <;> omega

theorem slot_inb (n : ℕ) (a : Fin 4) : ∀ d, (![n % 2, a.val, 0, 0] : Fin 4 → ℕ) d + S1x1x512x512.size d ≤ S2x4x512x512.size d := by
  intro d; have := a.isLt; have := Nat.mod_lt n (y := 2) (by decide); fin_cases d <;> simp [S1x1x512x512, S2x4x512x512] <;> omega

/-- Head `a`'s lanes of a query block. -/
def lanes (x : Vec F S512x512 .bf16) (a : Fin 4) : Vec F S512x128 .bf16 := window x ![0, 128 * a.val] S512x128.size (lanes_inb a)

/-- Head `a`'s lanes of the rows of block `n`. -/
def rows (x : Vec F S4096x512 .bf16) (n : ℕ) (a : Fin 4) : Vec F S512x128 .bf16 := window x ![512 * (n % 8), 128 * a.val] S512x128.size (rows_inb n a)

/-- What the scratch holds for head `a` in the slot of tile `n`. -/
def slot (x : Vec F S2x4x512x512 .f32) (n : ℕ) (a : Fin 4) : Vec F S1x1x512x512 .f32 := window x ![n % 2, a.val, 0, 0] S1x1x512x512.size (slot_inb n a)

/-- A window is read off at its offsets' value. -/
theorem window_at {α : Type} {s : Shape} (x : s.Idx → α) {off off' : Fin s.rank → ℕ} (size : Fin s.rank → ℕ) (inb : ∀ a, off a + size a ≤ s.size a)
    (inb' : ∀ a, off' a + size a ≤ s.size a) (h : off = off') : window x off size inb = window x off' size inb' := by
  subst h; rfl

/-! ## One head -/

/-- The running maximum and the accumulator. -/
abbrev St (F : FTy → Type) [FloatOps F] [Named F] : Type := FVec F S512x1 .f32 × FVec F S512x128 .f32

/-- The scores of a query block against a key block. -/
def scores (q k : Vec F S512x128 .bf16) : FVec F S1x1x512x512 .f32 := k0_pay16 (k0_pay36 q) k

/-- A head's state after a whole tile. -/
def next (s : Vec F S1x1x512x512 .f32) (v : Vec F S512x128 .bf16) (c : St F) : St F := (k0_pay5 c.1 s, k0_pay6 c.1 c.2 s v)

/-- A head's state after its last tile, where only the keys up to the query's own block of 64 count. -/
def last (s : Vec F S1x1x512x512 .f32) (v : Vec F S512x128 .bf16) (c : St F) : St F :=
  (k0_pay59 c.1 s, k0_pay62 (k0_pay60 c.1 s) (k0_pay61 c.1 c.2 s) v)

section Head

variable (q : Vec F S512x512 .bf16) (k v : Vec F S4096x512 .bf16) (a : Fin 4)

/-- The scores of tile `n`. -/
def tile (n : ℕ) : FVec F S1x1x512x512 .f32 := scores (lanes q a) (rows k n a)

/-- The state after the first `n` tiles. -/
def upto : ℕ → St F
  | 0 => (k0_pay40, k0_pay41)
  | n + 1 => next (tile q k a n) (rows v n a) (upto n)

/-- The state at the end of the query block `n`. -/
def final (n : ℕ) : St F := last (tile q k a n) (rows v n a) (upto q k v a n)

/-- The head's output, its accumulator over its sum. -/
def outOf (n : ℕ) : FVec F S512x128 .f32 := k0_pay73 (final q k v a n).2

/-- The head's query lanes with the log-sum in them. -/
def keptOf (n : ℕ) : FVec F S512x128 .bf16 :=
  k0_pay74 (iota .tc S512x128 32 [1] iota_S512x128_d1_w32) (k0_pay36 (lanes q a)) (final q k v a n).1 (final q k v a n).2

end Head

/-- The four heads' states, as the loop carries them. -/
def carried (c : Fin 4 → St F) : FVec F S512x1 .f32 × FVec F S512x128 .f32 × FVec F S512x1 .f32 × FVec F S512x128 .f32 × FVec F S512x1 .f32 × FVec F S512x128 .f32 × FVec F S512x1 .f32 × FVec F S512x128 .f32 :=
  ((c 0).1, (c 0).2, (c 1).1, (c 1).2, (c 2).1, (c 2).2, (c 3).1, (c 3).2)

/-! ## The two blocks -/

/-- Two vectors of 128 lanes side by side. -/
def beside2 {α : Type} (x : Fin 2 → S512x128.Idx → α) : S512x256.Idx → α := fun y =>
  x ⟨(y 1).val / 128, by have : (y 1).val < 256 := (y 1).isLt; omega⟩ ((fun d => match d with | ⟨0, _⟩ => ⟨(y 0).val, (y 0).isLt⟩ | ⟨1, _⟩ => ⟨(y 1).val % 128, Nat.mod_lt _ (by decide)⟩ : S512x128.Idx))

/-- Four vectors of 128 lanes side by side. -/
def beside4 {α : Type} (x : Fin 4 → S512x128.Idx → α) : S512x512.Idx → α := fun y =>
  x ⟨(y 1).val / 128, by have : (y 1).val < 512 := (y 1).isLt; omega⟩ ((fun d => match d with | ⟨0, _⟩ => ⟨(y 0).val, (y 0).isLt⟩ | ⟨1, _⟩ => ⟨(y 1).val % 128, Nat.mod_lt _ (by decide)⟩ : S512x128.Idx))

section Blocks

variable (q : Vec F S512x512 .bf16) (k v : Vec F S4096x512 .bf16) (n : ℕ)

/-- Two heads' outputs in one run of lanes. -/
def pairOf (a b : Fin 4) : FVec F S512x128 .f32 :=
  k0_pay2 (iota .tc S512x128 32 [1] iota_S512x128_d1_w32) (outOf q k v a n) (outOf q k v b n)

/-- The block of the output. -/
def outBlock : Vec F S512x256 .f32 := beside2 (α := Elt F .f32) fun p => match p with | 0 => pairOf q k v n 0 1 | 1 => pairOf q k v n 2 3

/-- The block of the queries with the log-sums. -/
def keptBlock : Vec F S512x512 .bf16 := beside4 (α := Elt F .bf16) fun a => keptOf q k v a n

end Blocks

/-- Two puts side by side leave nothing of what was there. -/
theorem put2 {α : Type} (z : S512x256.Idx → α) (x : Fin 2 → S512x128.Idx → α) :
    put (put z ![0, 0] S512x128.size (x 0)) ![0, 128] S512x128.size (x 1) = beside2 x := by
  funext y
  have hy0 : (y 0).val < 512 := (y 0).isLt
  have hy1 : (y 1).val < 256 := (y 1).isLt
  have key : ∀ (p p' : Fin 2) (w w' : S512x128.Idx), p = p' → (w 0).val = (w' 0).val → (w 1).val = (w' 1).val → x p w = x p' w' := by
    intro p p' w w' hp h0 h1
    subst hp
    refine congrArg _ (funext fun d => ?_)
    fin_cases d
    · exact Fin.ext h0
    · exact Fin.ext h1
  unfold put beside2
  by_cases h1 : 128 ≤ (y 1).val
  · rw [dif_pos]
    · refine key _ _ _ _ (Fin.ext (by show 1 = _ / 128; omega)) ?_ ?_
      · show (y 0).val - 0 = _; exact Nat.sub_zero _
      · show (y 1).val - 128 = (y 1).val % 128; omega
    · intro d; fin_cases d
      · exact ⟨Nat.zero_le _, by show (y 0).val < 0 + 512; omega⟩
      · exact ⟨h1, by show (y 1).val < 128 + 128; omega⟩
  · rw [dif_neg, dif_pos]
    · refine key _ _ _ _ (Fin.ext (by show 0 = _ / 128; omega)) ?_ ?_
      · show (y 0).val - 0 = _; exact Nat.sub_zero _
      · show (y 1).val - 0 = (y 1).val % 128; omega
    · intro d; fin_cases d
      · exact ⟨Nat.zero_le _, by show (y 0).val < 0 + 512; omega⟩
      · exact ⟨Nat.zero_le _, by show (y 1).val < 0 + 128; omega⟩
    · intro h; exact h1 (h 1).1

/-- Four puts side by side leave nothing of what was there. -/
theorem put4 {α : Type} (z : S512x512.Idx → α) (x : Fin 4 → S512x128.Idx → α) :
    put (put (put (put z ![0, 0] S512x128.size (x 0)) ![0, 128] S512x128.size (x 1)) ![0, 256] S512x128.size (x 2)) ![0, 384] S512x128.size (x 3) = beside4 x := by
  funext y
  have hy0 : (y 0).val < 512 := (y 0).isLt
  have hy1 : (y 1).val < 512 := (y 1).isLt
  have key : ∀ (p p' : Fin 4) (w w' : S512x128.Idx), p = p' → (w 0).val = (w' 0).val → (w 1).val = (w' 1).val → x p w = x p' w' := by
    intro p p' w w' hp h0 h1
    subst hp
    refine congrArg _ (funext fun d => ?_)
    fin_cases d
    · exact Fin.ext h0
    · exact Fin.ext h1
  have inside : ∀ o : ℕ, o ≤ (y 1).val → (y 1).val < o + 128 → ∀ d, (![0, o] : Fin 2 → ℕ) d ≤ (y d).val ∧ (y d).val < (![0, o] : Fin 2 → ℕ) d + S512x128.size d := by
    intro o ha hb d; fin_cases d
    · exact ⟨Nat.zero_le _, by show (y 0).val < 0 + 512; omega⟩
    · exact ⟨ha, hb⟩
  unfold put beside4
  by_cases h3 : 384 ≤ (y 1).val
  · rw [dif_pos (inside 384 h3 (by omega))]
    refine key _ _ _ _ (Fin.ext (by show 3 = _ / 128; omega)) (Nat.sub_zero _) ?_
    show (y 1).val - 384 = (y 1).val % 128; omega
  by_cases h2 : 256 ≤ (y 1).val
  · rw [dif_neg (fun h => h3 (h 1).1), dif_pos (inside 256 h2 (by omega))]
    refine key _ _ _ _ (Fin.ext (by show 2 = _ / 128; omega)) (Nat.sub_zero _) ?_
    show (y 1).val - 256 = (y 1).val % 128; omega
  by_cases h1 : 128 ≤ (y 1).val
  · rw [dif_neg (fun h => h3 (h 1).1), dif_neg (fun h => h2 (h 1).1), dif_pos (inside 128 h1 (by omega))]
    refine key _ _ _ _ (Fin.ext (by show 1 = _ / 128; omega)) (Nat.sub_zero _) ?_
    show (y 1).val - 128 = (y 1).val % 128; omega
  · rw [dif_neg (fun h => h3 (h 1).1), dif_neg (fun h => h2 (h 1).1), dif_neg (fun h => h1 (h 1).1), dif_pos (inside 0 (Nat.zero_le _) (by omega))]
    refine key _ _ _ _ (Fin.ext (by show 0 = _ / 128; omega)) (Nat.sub_zero _) ?_
    show (y 1).val - 0 = (y 1).val % 128; omega

end Cert.Kernel3Ideal.Fwd

end
-- ==== Proof.FwdTrip.lean ====
/-
  The attention's forward region: one trip of the loop over the earlier key blocks, as a triple over the values that the
  buffers hold. Before trip `n` the scratch's slot of tile `n` holds the scores of that tile, head by head; the trip takes
  them up and leaves those of the next tile in the other slot.
-/
module

public import proofs.«01_k».proof.Proof.FwdStep
public import proofs.«01_k».proof.Proof.Gen.Kernel3Ideal.Frame

@[expose] public section

set_option maxRecDepth 16384

noncomputable section

namespace Cert.Kernel3Ideal.Fwd

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

/-! ## Where a trip reads and writes -/

section Offsets

variable (i : grid0.Coords) (t : Fin (k0_t1_loop i).trips)

theorem off1_eq : ∀ (i : grid0.Coords) (t : Fin (k0_t1_loop i).trips), k0_off1 i t = ![t.val % 2, 0, 0, 0] := by decide +kernel
theorem off3_eq : ∀ (i : grid0.Coords) (t : Fin (k0_t1_loop i).trips), k0_off3 i t = ![t.val % 2, 1, 0, 0] := by decide +kernel
theorem off5_eq : ∀ (i : grid0.Coords) (t : Fin (k0_t1_loop i).trips), k0_off5 i t = ![t.val % 2, 2, 0, 0] := by decide +kernel
theorem off7_eq : ∀ (i : grid0.Coords) (t : Fin (k0_t1_loop i).trips), k0_off7 i t = ![t.val % 2, 3, 0, 0] := by decide +kernel
theorem off2_eq : ∀ (i : grid0.Coords) (t : Fin (k0_t1_loop i).trips), k0_off2 i t = ![512 * (t.val % 8), 128 * 0] := by decide +kernel
theorem off4_eq : ∀ (i : grid0.Coords) (t : Fin (k0_t1_loop i).trips), k0_off4 i t = ![512 * (t.val % 8), 128 * 1] := by decide +kernel
theorem off6_eq : ∀ (i : grid0.Coords) (t : Fin (k0_t1_loop i).trips), k0_off6 i t = ![512 * (t.val % 8), 128 * 2] := by decide +kernel
theorem off8_eq : ∀ (i : grid0.Coords) (t : Fin (k0_t1_loop i).trips), k0_off8 i t = ![512 * (t.val % 8), 128 * 3] := by decide +kernel
theorem off9_eq : ∀ (i : grid0.Coords) (t : Fin (k0_t1_loop i).trips), k0_off9 i t = ![512 * ((t.val + 1) % 8), 128 * 0] := by decide +kernel
theorem off11_eq : ∀ (i : grid0.Coords) (t : Fin (k0_t1_loop i).trips), k0_off11 i t = ![512 * ((t.val + 1) % 8), 128 * 1] := by decide +kernel
theorem off13_eq : ∀ (i : grid0.Coords) (t : Fin (k0_t1_loop i).trips), k0_off13 i t = ![512 * ((t.val + 1) % 8), 128 * 2] := by decide +kernel
theorem off15_eq : ∀ (i : grid0.Coords) (t : Fin (k0_t1_loop i).trips), k0_off15 i t = ![512 * ((t.val + 1) % 8), 128 * 3] := by decide +kernel
theorem off10_eq : ∀ (i : grid0.Coords) (t : Fin (k0_t1_loop i).trips), k0_off10 i t = ![(t.val + 1) % 2, 0, 0, 0] := by decide +kernel
theorem off12_eq : ∀ (i : grid0.Coords) (t : Fin (k0_t1_loop i).trips), k0_off12 i t = ![(t.val + 1) % 2, 1, 0, 0] := by decide +kernel
theorem off14_eq : ∀ (i : grid0.Coords) (t : Fin (k0_t1_loop i).trips), k0_off14 i t = ![(t.val + 1) % 2, 2, 0, 0] := by decide +kernel
theorem off16_eq : ∀ (i : grid0.Coords) (t : Fin (k0_t1_loop i).trips), k0_off16 i t = ![(t.val + 1) % 2, 3, 0, 0] := by decide +kernel

instance : ClosedOff (k0_off10 i t) := ⟨_, off10_eq i t⟩
instance : ClosedOff (k0_off12 i t) := ⟨_, off12_eq i t⟩
instance : ClosedOff (k0_off14 i t) := ⟨_, off14_eq i t⟩
instance : ClosedOff (k0_off16 i t) := ⟨_, off16_eq i t⟩

end Offsets

section Views

variable {sp : Space} {s : Shape} {e : EltTy} {κ : Kind}

/-- A load at a rectangle of stride one is a window of what the view holds. -/
theorem load_window (v : View sig κ sp s e) (f : v.ty.Contents (Elt F)) {off size : Fin s.rank → ℕ}
    (inb : ∀ a, off a + size a ≤ s.size a) :
    v.readAt (Elt F) (Rect.unit off size inb).toLoadRect f = window (v.read (Elt F) f) off size inb := rfl

/-- The newest of a list of stores lies over what the earlier ones left. -/
theorem read_store (v : View sig κ sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put v f inb w L rfl

end Views

/-- The scratch holds tile `n`'s scores in that tile's slot. -/
def Tiles (q : Vec F S512x512 .bf16) (k : Vec F S4096x512 .bf16) (n : ℕ) (x : Vec F S2x4x512x512 .f32) : Prop :=
  ∀ a : Fin 4, slot x n a = tile q k a n

/-- Four puts over the slot of tile `n` leave their payloads there. -/
theorem slots4 (x : Vec F S2x4x512x512 .f32) (n : ℕ) (w : Fin 4 → FVec F S1x1x512x512 .f32) (a : Fin 4) :
    slot (put (put (put (put x ![n % 2, 0, 0, 0] S1x1x512x512.size (w 0)) ![n % 2, 1, 0, 0] S1x1x512x512.size (w 1))
      ![n % 2, 2, 0, 0] S1x1x512x512.size (w 2)) ![n % 2, 3, 0, 0] S1x1x512x512.size (w 3)) n a = w a := by
  unfold slot
  fin_cases a
  · rw [VecWindow.window_put_of_disjoint (a := (1 : Fin 4)) (ha := by left; show 0 + 1 ≤ 3; decide),
      VecWindow.window_put_of_disjoint (a := (1 : Fin 4)) (ha := by left; show 0 + 1 ≤ 2; decide),
      VecWindow.window_put_of_disjoint (a := (1 : Fin 4)) (ha := by left; show 0 + 1 ≤ 1; decide)]
    exact VecWindow.window_put_same _ _ _ _ _
  · rw [VecWindow.window_put_of_disjoint (a := (1 : Fin 4)) (ha := by left; show 1 + 1 ≤ 3; decide),
      VecWindow.window_put_of_disjoint (a := (1 : Fin 4)) (ha := by left; show 1 + 1 ≤ 2; decide)]
    exact VecWindow.window_put_same _ _ _ _ _
  · rw [VecWindow.window_put_of_disjoint (a := (1 : Fin 4)) (ha := by left; show 2 + 1 ≤ 3; decide)]
    exact VecWindow.window_put_same _ _ _ _ _
  · exact VecWindow.window_put_same _ _ _ _ _

variable (c : Dev nD) (i : grid0.Coords)
  (arg2 : Memref sig .tc .vmem S512x512 .bf16) (harg2 : arg2.IsWhole) (arg3 : Memref sig .tc .vmem S4096x512 .bf16) (harg3 : arg3.IsWhole)
  (arg4 : Memref sig .tc .vmem S4096x512 .bf16) (harg4 : arg4.IsWhole) (arg5 : Memref sig .tc .vmem S512x256 .f32) (harg5 : arg5.IsWhole)
  (arg6 : Memref sig .tc .vmem S512x512 .bf16) (harg6 : arg6.IsWhole) (arg7 : Memref sig .tc .vmem S2x4x512x512 .f32) (harg7 : arg7.IsWhole)

/-- What a trip holds: the keys and the values at their blocks, and tile `n`'s scores in its slot. -/
abbrev Held (q : Vec F S512x512 .bf16) (k v : Vec F S4096x512 .bf16) (n : ℕ) : sProp 𝕄 :=
  iprop(owns (c : Thread nD τ) arg3 fullShare k ∗ owns (c : Thread nD τ) arg4 fullShare v
    ∗ (∃ x, ⌜Tiles q k n x⌝ ∗ owns (c : Thread nD τ) arg7 fullShare x))

set_option maxHeartbeats 1000000 in
/-- One trip. -/
theorem trip_sound (E : Set ℕ) (q : Vec F S512x512 .bf16) (k v : Vec F S4096x512 .bf16) (t : Fin (k0_t1_loop i).trips)
    (arg1 v17 : BitVec 32) (v9 v11 v13 v15 : FVec F S512x1 .f32) (v10 v12 v14 v16 : FVec F S512x128 .f32) (v28 : FVec F S512x512 .f32) :
    Held (F := F) c arg3 arg4 arg7 q k v t.val
      ⊢ wp frame (wpE (defs₀ (F := F)) Variants.none (c : Thread nD τ) none) E
          (k0_t1_body (F := F) i arg2 harg2 arg3 harg3 arg4 harg4 arg5 harg5 arg6 harg6 arg7 harg7 arg1
            (k0_pay36 (lanes q 0)) (k0_pay37 (lanes q 1)) (k0_pay38 (lanes q 2)) (k0_pay39 (lanes q 3)) v9 v10 v11 v12 v13 v14 v15 v16 v17 v28 t
            (carried fun a => upto q k v a t.val))
          (fun r => iprop(⌜r = carried fun a => upto q k v a (t.val + 1)⌝ ∗ Held (F := F) c arg3 arg4 arg7 q k v (t.val + 1))) := by
  unfold Held owns
  iintro ⟨⟨%f3, %h3, H3⟩, ⟨%f4, %h4, H4⟩, ⟨%x, %hx, %f7, %h7, H7⟩⟩
  subst h3; subst h4; subst h7
  unfold k0_t1_body carried
  simp only [k0_part1_eq_skeleton, k0_part2_eq_skeleton, k0_part3_eq_skeleton]
  sl_exec
  sl_step
  have e0 := (window_at (arg7.view.read (Elt F) f7) _ (k0_off1_inb i t) (slot_inb t.val 0) (off1_eq i t)).trans (hx 0)
  have e1 := (window_at (arg7.view.read (Elt F) f7) _ (k0_off3_inb i t) (slot_inb t.val 1) (off3_eq i t)).trans (hx 1)
  have e2 := (window_at (arg7.view.read (Elt F) f7) _ (k0_off5_inb i t) (slot_inb t.val 2) (off5_eq i t)).trans (hx 2)
  have e3 := (window_at (arg7.view.read (Elt F) f7) _ (k0_off7_inb i t) (slot_inb t.val 3) (off7_eq i t)).trans (hx 3)
  have r0 := window_at (arg4.view.read (Elt F) f4) _ (k0_off2_inb i t) (rows_inb t.val 0) (off2_eq i t)
  have r1 := window_at (arg4.view.read (Elt F) f4) _ (k0_off4_inb i t) (rows_inb t.val 1) (off4_eq i t)
  have r2 := window_at (arg4.view.read (Elt F) f4) _ (k0_off6_inb i t) (rows_inb t.val 2) (off6_eq i t)
  have r3 := window_at (arg4.view.read (Elt F) f4) _ (k0_off8_inb i t) (rows_inb t.val 3) (off8_eq i t)
  have n0 := window_at (arg3.view.read (Elt F) f3) _ (k0_off9_inb i t) (rows_inb (t.val + 1) 0) (off9_eq i t)
  have n1 := window_at (arg3.view.read (Elt F) f3) _ (k0_off11_inb i t) (rows_inb (t.val + 1) 1) (off11_eq i t)
  have n2 := window_at (arg3.view.read (Elt F) f3) _ (k0_off13_inb i t) (rows_inb (t.val + 1) 2) (off13_eq i t)
  have n3 := window_at (arg3.view.read (Elt F) f3) _ (k0_off15_inb i t) (rows_inb (t.val + 1) 3) (off15_eq i t)
  isplitr
  · ipureintro
    simp only [Prod.mk.injEq]
    exact ⟨congrArg (k0_pay5 _) e0, congrArg₂ (k0_pay6 _ _) e0 r0, congrArg (k0_pay5 _) e1, congrArg₂ (k0_pay6 _ _) e1 r1,
      congrArg (k0_pay5 _) e2, congrArg₂ (k0_pay6 _ _) e2 r2, congrArg (k0_pay5 _) e3, congrArg₂ (k0_pay6 _ _) e3 r3⟩
  isplitl [H3]
  · iexists _; isplitr; swap; · iexact H3
    ipureintro; rfl
  isplitl [H4]
  · iexists _; isplitr; swap; · iexact H4
    ipureintro; rfl
  iexists _; isplitr; swap
  · iexists _; isplitr; swap; · iexact H7
    ipureintro; rfl
  ipureintro
  intro a
  refine (congrArg (fun z => slot z (t.val + 1) a) ?_).trans
    (slots4 (arg7.view.read (Elt F) f7) (t.val + 1) (fun a => tile q (arg3.view.read (Elt F) f3) a (t.val + 1)) a)
  refine (read_store arg7.view f7 (k0_off16_inb i t) _ _).trans ?_
  rw [read_store arg7.view f7 (k0_off14_inb i t), read_store arg7.view f7 (k0_off12_inb i t), read_store arg7.view f7 (k0_off10_inb i t), View.writes_nil,
    off10_eq, off12_eq, off14_eq, off16_eq]
  have g : ∀ (x y z w x' y' z' w' : FVec F S1x1x512x512 .f32) (b : Vec F S2x4x512x512 .f32) (o p r s : Fin 4 → ℕ), x = x' → y = y' → z = z' → w = w' →
      put (put (put (put b o S1x1x512x512.size x) p S1x1x512x512.size y) r S1x1x512x512.size z) s S1x1x512x512.size w
        = put (put (put (put b o S1x1x512x512.size x') p S1x1x512x512.size y') r S1x1x512x512.size z') s S1x1x512x512.size w' := by
    intro x y z w x' y' z' w' b o p r s h1 h2 h3 h4; subst h1; subst h2; subst h3; subst h4; rfl
  exact g _ _ _ _ _ _ _ _ _ _ _ _ _ (congrArg (scores _) n0) (congrArg (scores _) n1) (congrArg (scores _) n2) (congrArg (scores _) n3)

end Cert.Kernel3Ideal.Fwd

end
-- ==== Proof.FwdBody.lean ====
/-
  The attention's forward region: the body at one grid point, as a triple over the values that the buffers hold.
-/
module

public import proofs.«01_k».proof.Proof.FwdTrip

@[expose] public section

set_option maxRecDepth 16384

noncomputable section

namespace Cert.Kernel3Ideal.Fwd

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

/-! ## The query block's own tile -/

theorem off33_eq : ∀ i : grid0.Coords, k0_off33 i = ![(i 1).val % 2, 0, 0, 0] := by decide +kernel
theorem off35_eq : ∀ i : grid0.Coords, k0_off35 i = ![(i 1).val % 2, 1, 0, 0] := by decide +kernel
theorem off37_eq : ∀ i : grid0.Coords, k0_off37 i = ![(i 1).val % 2, 2, 0, 0] := by decide +kernel
theorem off39_eq : ∀ i : grid0.Coords, k0_off39 i = ![(i 1).val % 2, 3, 0, 0] := by decide +kernel
theorem off34_eq : ∀ i : grid0.Coords, k0_off34 i = ![512 * ((i 1).val % 8), 128 * 0] := by decide +kernel
theorem off36_eq : ∀ i : grid0.Coords, k0_off36 i = ![512 * ((i 1).val % 8), 128 * 1] := by decide +kernel
theorem off38_eq : ∀ i : grid0.Coords, k0_off38 i = ![512 * ((i 1).val % 8), 128 * 2] := by decide +kernel
theorem off40_eq : ∀ i : grid0.Coords, k0_off40 i = ![512 * ((i 1).val % 8), 128 * 3] := by decide +kernel

/-- The loop runs once per earlier key block. -/
theorem trips1 : ∀ i : grid0.Coords, (k0_t1_loop i).trips = (i 1).val := by decide +kernel

/-- The remainder loop runs no trip. -/
theorem trips2 : ∀ i : grid0.Coords, (k0_t2_loop i).trips = 0 := by decide +kernel

variable (c : Dev nD) (i : grid0.Coords)
  (arg2 : Memref sig .tc .vmem S512x512 .bf16) (harg2 : arg2.IsWhole) (arg3 : Memref sig .tc .vmem S4096x512 .bf16) (harg3 : arg3.IsWhole)
  (arg4 : Memref sig .tc .vmem S4096x512 .bf16) (harg4 : arg4.IsWhole) (arg5 : Memref sig .tc .vmem S512x256 .f32) (harg5 : arg5.IsWhole)
  (arg6 : Memref sig .tc .vmem S512x512 .bf16) (harg6 : arg6.IsWhole) (arg7 : Memref sig .tc .vmem S2x4x512x512 .f32) (harg7 : arg7.IsWhole)

set_option maxHeartbeats 4000000 in
/-- One grid point. -/
theorem body_sound (E : Set ℕ) (q : Vec F S512x512 .bf16) (k v : Vec F S4096x512 .bf16) (K : PUnit → sProp 𝕄) :
    iprop(owns (c : Thread nD τ) arg2 fullShare q ∗ owns (c : Thread nD τ) arg3 fullShare k ∗ owns (c : Thread nD τ) arg4 fullShare v
        ∗ (∃ z, owns (c : Thread nD τ) arg5 fullShare z) ∗ (∃ z, owns (c : Thread nD τ) arg6 fullShare z) ∗ (∃ z, owns (c : Thread nD τ) arg7 fullShare z)
        ∗ (iprop(owns (c : Thread nD τ) arg2 fullShare q ∗ owns (c : Thread nD τ) arg3 fullShare k ∗ owns (c : Thread nD τ) arg4 fullShare v
            ∗ owns (c : Thread nD τ) arg5 fullShare (outBlock q k v (i 1).val) ∗ owns (c : Thread nD τ) arg6 fullShare (keptBlock q k v (i 1).val)
            ∗ (∃ z, owns (c : Thread nD τ) arg7 fullShare z)) -∗ K ⟨⟩))
      ⊢ wp frame (wpE (defs₀ (F := F)) Variants.none c none) E
          (cc0_attn_fwd i arg2 harg2 arg3 harg3 arg4 harg4 arg5 harg5 arg6 harg6 arg7 harg7) K := by
  have htr := trips2 i
  unfold owns
  iintro ⟨⟨%f2, %e2, H2⟩, ⟨%f3, %e3, H3⟩, ⟨%f4, %e4, H4⟩, ⟨%y5, %f5, -, H5⟩, ⟨%y6, %f6, -, H6⟩, ⟨%y7, %f7, -, H7⟩, HK⟩
  subst e2; subst e3; subst e4
  simp only [cc0_attn_fwd_eq_skeleton]; unfold cc0_attn_fwd_skel
  simp only [k0_part7_eq_skeleton, k0_part8_eq_skeleton, k0_part9_eq_skeleton, k0_part10_eq_skeleton, k0_part11_eq_skeleton, k0_part12_eq_skeleton]
  sl_exec
  sl_for (fun n acc => iprop(⌜acc = carried fun a => upto (arg2.view.read (Elt F) f2) (arg3.view.read (Elt F) f3) (arg4.view.read (Elt F) f4) a n⌝
    ∗ Held (F := F) c arg3 arg4 arg7 (arg2.view.read (Elt F) f2) (arg3.view.read (Elt F) f3) (arg4.view.read (Elt F) f4) n)) $$ [H3 H4 H7]
  case region =>
    intro t u
    iintro ⟨%hu, H⟩
    subst hu
    iapply (trip_sound c i arg2 harg2 arg3 harg3 arg4 harg4 arg5 harg5 arg6 harg6 arg7 harg7 E (arg2.view.read (Elt F) f2) (arg3.view.read (Elt F) f3) (arg4.view.read (Elt F) f4) t)
    iexact H
  · unfold Held owns
    isplitr
    · ipureintro; rfl
    isplitl [H3]
    · iexists _; isplitr; swap; · iexact H3
      ipureintro; rfl
    isplitl [H4]
    · iexists _; isplitr; swap; · iexact H4
      ipureintro; rfl
    iexists _; isplitr; swap
    · iexists _; isplitr; swap; · iexact H7
      ipureintro; rfl
    ipureintro
    intro a
    refine (congrArg (fun z => slot z 0 a) ?_).trans
      (slots4 (arg7.view.read (Elt F) f7) 0 (fun a => tile (arg2.view.read (Elt F) f2) (arg3.view.read (Elt F) f3) a 0) a)
    refine (read_store arg7.view f7 inb_S2x4x512x512_S1x1x512x512_0_3_0_0 _ _).trans ?_
    rw [read_store arg7.view f7 inb_S2x4x512x512_S1x1x512x512_0_2_0_0, read_store arg7.view f7 inb_S2x4x512x512_S1x1x512x512_0_1_0_0,
      read_store arg7.view f7 inb_S2x4x512x512_S1x1x512x512_0_0_0_0, View.writes_nil]
    rfl
  unfold Held owns
  iintro %acc ⟨%hacc, ⟨%g3, %e3, H3⟩, ⟨%g4, %e4, H4⟩, ⟨%x, %hx, %g7, %e7, H7⟩⟩
  subst hacc
  subst e7
  unfold carried
  sl_exec
  sl_step
  have hx' : Tiles (arg2.view.read (Elt F) f2) (arg3.view.read (Elt F) f3) (i 1).val (arg7.view.read (Elt F) g7) := by
    rw [← trips1 i]; exact hx
  have fin : ∀ (a : Fin 4) (s : Vec F S1x1x512x512 .f32) (w : Vec F S512x128 .bf16),
      s = tile (arg2.view.read (Elt F) f2) (arg3.view.read (Elt F) f3) a (i 1).val → w = rows (arg4.view.read (Elt F) g4) (i 1).val a →
      last s w (upto (arg2.view.read (Elt F) f2) (arg3.view.read (Elt F) f3) (arg4.view.read (Elt F) f4) a (k0_t1_loop i).trips)
        = final (arg2.view.read (Elt F) f2) (arg3.view.read (Elt F) f3) (arg4.view.read (Elt F) f4) a (i 1).val := by
    intro a s w hs hw
    rw [trips1, hs, hw, e4]; rfl
  have F0 := fin 0 _ _ ((window_at (arg7.view.read (Elt F) g7) _ (k0_off33_inb i) (slot_inb (i 1).val 0) (off33_eq i)).trans (hx' 0))
    (window_at (arg4.view.read (Elt F) g4) _ (k0_off34_inb i) (rows_inb (i 1).val 0) (off34_eq i))
  have F1 := fin 1 _ _ ((window_at (arg7.view.read (Elt F) g7) _ (k0_off35_inb i) (slot_inb (i 1).val 1) (off35_eq i)).trans (hx' 1))
    (window_at (arg4.view.read (Elt F) g4) _ (k0_off36_inb i) (rows_inb (i 1).val 1) (off36_eq i))
  have F2 := fin 2 _ _ ((window_at (arg7.view.read (Elt F) g7) _ (k0_off37_inb i) (slot_inb (i 1).val 2) (off37_eq i)).trans (hx' 2))
    (window_at (arg4.view.read (Elt F) g4) _ (k0_off38_inb i) (rows_inb (i 1).val 2) (off38_eq i))
  have F3 := fin 3 _ _ ((window_at (arg7.view.read (Elt F) g7) _ (k0_off39_inb i) (slot_inb (i 1).val 3) (off39_eq i)).trans (hx' 3))
    (window_at (arg4.view.read (Elt F) g4) _ (k0_off40_inb i) (rows_inb (i 1).val 3) (off40_eq i))
  iapply HK
  isplitl [H2]
  · iexists _; isplitr; swap; · iexact H2
    ipureintro; rfl
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro
    refine (read_store arg5.view f5 inb_S512x256_S512x128_0_128 _ _).trans ?_
    rw [read_store arg5.view f5 inb_S512x256_S512x128_0_0, View.writes_nil]
    exact (congrArg₂ (fun (x y : FVec F S512x128 .f32) => put (put (arg5.view.read (Elt F) f5) ![0, 0] S512x128.size x) ![0, 128] S512x128.size y)
      (congrArg₂ (fun (s s' : St F) => k0_pay2 (iota .tc S512x128 32 [1] iota_S512x128_d1_w32) (k0_pay73 s.2) (k0_pay73 s'.2)) F0 F1)
      (congrArg₂ (fun (s s' : St F) => k0_pay2 (iota .tc S512x128 32 [1] iota_S512x128_d1_w32) (k0_pay73 s.2) (k0_pay73 s'.2)) F2 F3)).trans
      (put2 (α := Elt F .f32) (arg5.view.read (Elt F) f5) fun p => match p with
        | 0 => pairOf (arg2.view.read (Elt F) f2) (arg3.view.read (Elt F) f3) (arg4.view.read (Elt F) f4) (i 1).val 0 1
        | 1 => pairOf (arg2.view.read (Elt F) f2) (arg3.view.read (Elt F) f3) (arg4.view.read (Elt F) f4) (i 1).val 2 3)
  isplitl [H6]
  · iexists _; isplitr; swap; · iexact H6
    ipureintro
    refine (read_store arg6.view f6 inb_S512x512_S512x128_0_384 _ _).trans ?_
    rw [read_store arg6.view f6 inb_S512x512_S512x128_0_256, read_store arg6.view f6 inb_S512x512_S512x128_0_128,
      read_store arg6.view f6 inb_S512x512_S512x128_0_0, View.writes_nil]
    have kept : ∀ (a : Fin 4) (s : St F), s = final (arg2.view.read (Elt F) f2) (arg3.view.read (Elt F) f3) (arg4.view.read (Elt F) f4) a (i 1).val →
        k0_pay74 (iota .tc S512x128 32 [1] iota_S512x128_d1_w32) (k0_pay36 (lanes (arg2.view.read (Elt F) f2) a)) s.1 s.2
          = keptOf (arg2.view.read (Elt F) f2) (arg3.view.read (Elt F) f3) (arg4.view.read (Elt F) f4) a (i 1).val := by
      intro a s h; rw [h]; rfl
    have g : ∀ (b : Vec F S512x512 .bf16) (x y z w x' y' z' w' : FVec F S512x128 .bf16), x = x' → y = y' → z = z' → w = w' →
        put (put (put (put b ![0, 0] S512x128.size x) ![0, 128] S512x128.size y) ![0, 256] S512x128.size z) ![0, 384] S512x128.size w
          = put (put (put (put b ![0, 0] S512x128.size x') ![0, 128] S512x128.size y') ![0, 256] S512x128.size z') ![0, 384] S512x128.size w' := by
      intro b x y z w x' y' z' w' h1 h2 h3 h4; subst h1; subst h2; subst h3; subst h4; rfl
    exact (g _ _ _ _ _ _ _ _ _ (kept 0 _ F0) (kept 1 _ F1) (kept 2 _ F2) (kept 3 _ F3)).trans
      (put4 (α := Elt F .bf16) (arg6.view.read (Elt F) f6) fun a => keptOf (arg2.view.read (Elt F) f2) (arg3.view.read (Elt F) f3) (arg4.view.read (Elt F) f4) a (i 1).val)
  iexists _; iexists _; isplitr; swap; · iexact H7
  ipureintro; rfl

end Cert.Kernel3Ideal.Fwd

end
-- ==== Proof.FwdFrame.lean ====
/-
  The attention's forward region as a whole: the pipeline's proof data over the body's triple, and the launch. A point fills
  its scratch before it reads it, so between two points the scratch may hold anything.
-/
module

public import proofs.«01_k».proof.Proof.FwdBody
public import Idealize.ShloMosaic.Lib.Claim

@[expose] public section

set_option maxRecDepth 16384

noncomputable section

namespace Cert.Kernel3Ideal.Fwd

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The blocks of a point -/

/-- The queries' block at point `t`. -/
abbrev qAt (c : Dev nD) (t : Fin cfg0.N) : Vec F S512x512 .bf16 := iblk m c 0 t
/-- The keys' block. -/
abbrev kAt (c : Dev nD) (t : Fin cfg0.N) : Vec F S4096x512 .bf16 := iblk m c 1 t
/-- The values' block. -/
abbrev vAt (c : Dev nD) (t : Fin cfg0.N) : Vec F S4096x512 .bf16 := iblk m c 2 t

/-- What point `t` writes of the output. -/
def outAt (c : Dev nD) (t : Fin cfg0.N) : Vec F S512x256 .f32 := outBlock (qAt m c t) (kAt m c t) (vAt m c t) (grid0.coords t 1).val
/-- What it writes of the queries with the log-sums. -/
def keptAt (c : Dev nD) (t : Fin cfg0.N) : Vec F S512x512 .bf16 := keptBlock (qAt m c t) (kAt m c t) (vAt m c t) (grid0.coords t 1).val

/-! ## The proof data -/

/-- Between two points: the scratch at anything, and the generator's register. -/
def Inv (c : Dev nD) : sProp 𝕄 :=
  iprop((∃ x, owns (c : Thread nD τ) (Memref.whole cc0_scratch0) fullShare x) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨4, _⟩ => keptAt m c t
  Φ _ := Inv c
  q w := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem after_4 (c : Dev nD) (t : Fin cfg0.N) : (dats m 0 c).after 4 t = keptAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body at a point -/

/-- What the pipeline hands the body. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it wants back. -/
def back (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound (c : Dev nD) (t : Fin cfg0.N) :
    given m c t ⊢ wp frame (wpE (defs₀ (F := F)) Variants.none c none) Set.univ (bodyAt0 t) (fun _ => back m c t) := by
  unfold given back bodyAt0
  simp only [before_0, before_1, before_2]
  rw [show (dats m 0 c).owesAt () t.succ = (dats m 0 c).owesAt () t.castSucc from rfl, after_0, after_1, after_2, after_3, after_4,
    show (dats m 0 c).Φ t.castSucc = Inv c from rfl, show (dats m 0 c).Φ t.succ = Inv c from rfl]
  unfold Inv
  iintro ⟨⟨S0, Hg⟩, Ho, ⟨%d0, H0⟩, ⟨%d1, H1⟩, ⟨%d2, H2⟩, ⟨%d3, H3⟩, ⟨%d4, H4⟩⟩
  iapply (body_sound c (grid0.coords t) _ _ _ _ _ _ _ _ _ _ _ _ Set.univ (qAt m c t) (kAt m c t) (vAt m c t) _)
  isplitl [H0]; · iexact H0
  isplitl [H1]; · iexact H1
  isplitl [H2]; · iexact H2
  isplitl [H3]; · iexists _; iexact H3
  isplitl [H4]; · iexists _; iexact H4
  isplitl [S0]; · iexact S0
  iintro ⟨H0, H1, H2, H3, H4, S0⟩
  isplitl [S0 Hg]
  · isplitl [S0]; · iexact S0
    iexact Hg
  isplitl [Ho]; · iexact Ho
  isplitl [H0]; · iexact H0
  isplitl [H1]; · iexact H1
  isplitl [H2]; · iexact H2
  isplitl [H3]; · iexact H3
  iexact H4

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

/-- The kernel's own scratch, owned at anything, and the generator's register. -/
theorem rest_eq (c : Dev nD) : (Pipeline.ΦA spec0 c : sProp 𝕄) = Inv c := by
  unfold Pipeline.ΦA Inv; rw [scopedRest0_eq]; simp only [owns_whole]; try rfl

theorem enter (c : Dev nD) : Pipeline.ΦA spec0 c ⊢ (dats m 0 c).Φ 0 := by
  rw [show (dats m 0 c).Φ 0 = Inv c from rfl, rest_eq]

theorem leave (c : Dev nD) : (dats m 0 c).Φ (Fin.last cfg0.N) ⊢ Pipeline.ΦA spec0 c := by
  rw [show (dats m 0 c).Φ (Fin.last cfg0.N) = Inv c from rfl, rest_eq]

/-! ## The run -/

set_option backward.isDefEq.respectTransparency.types false in
/-- Every execution ends with the pipeline's arrays and the other buffers at what the proof data say, and with every
    semaphore counter at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (fun c => (obligation m c).loose) (fun c w => by simp only [Dat.share, dats, ite_self]) (fun _ _ => rfl) (V0 m) [hostOps1] sfx_sub sfx_fresh sfx_keeps (hmain m Variants.none)
    (A_eq m) (enter m) (leave m) (Q' := _) (fun _ h => h)

/-- The arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Kernel3Ideal.Fwd

end
-- ==== Proof.FwdBits.lean ====
/-
  The frame of the forward program as it was written, from the run over any float values: at the words the mask's name is its
  literal.
-/
module

public import proofs.«01_k».proof.Proof.FwdFrame
public import proofs.«01_k».proof.Proof.Gen.Kernel3
public import proofs.«01_k».proof.Kernel3
public import Idealize.ShloMosaic.PureOps.BitExact
public import Idealize.ShloMosaic.Lib.Claim

@[expose] public section

noncomputable section

namespace Cert.Kernel3Ideal.Fwd

open Idealize.ShloMosaic Idealize.SL.Sem

/-- At the words a named constant is the literal it stands for. -/
local instance written : Named Bits where
  named _ _ {φ} bits := FloatOps.ofBits φ bits

/-- The frame of the program with the mask named, read at the words. -/
def NamedFrame : Prop :=
  ∀ (m : (ℓ : Loc Cert.Kernel3Ideal.nD Cert.Kernel3Ideal.τ Cert.Kernel3Ideal.sig) → Buf (Elt Bits) ℓ) (ρ : Dev Cert.Kernel3Ideal.nD → PrngReg),
    θ_run (Cert.Kernel3Ideal.defs (F := Bits)) (onTc (τ := Cert.Kernel3Ideal.τ) (Cert.Kernel3Ideal.main (F := Bits))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0) ∧
      r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1) ∧
      r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

/-- The frame of the program as written. -/
def WrittenFrame : Prop :=
  ∀ (m : (ℓ : Loc Cert.Kernel3.nD Cert.Kernel3.τ Cert.Kernel3.sig) → Buf (Elt Bits) ℓ) (ρ : Dev Cert.Kernel3.nD → PrngReg),
    θ_run (Cert.Kernel3.defs (F := Bits)) (onTc (τ := Cert.Kernel3.τ) (Cert.Kernel3.main (F := Bits))) ⟨m, fun _ => 0, ρ⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0) ∧
      r.2.mem ((c.tc : Thread Cert.Kernel3.nD Cert.Kernel3.τ).loc Cert.Kernel3.main_arg1) = m ((c.tc : Thread Cert.Kernel3.nD Cert.Kernel3.τ).loc Cert.Kernel3.main_arg1) ∧
      r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

theorem same_frame : NamedFrame = WrittenFrame := by
  sl_kernel_rfl

theorem frame_written : WrittenFrame := same_frame.mp fun m ρ => frame m ρ

end Cert.Kernel3Ideal.Fwd

end
-- ==== Proof.FwdPre.lean ====
/-
  The forward call's precondition read: its arguments are finite, so each of their elements is a real number.
-/
module

public import proofs.«01_k».proof.Proof.Gen.Pre_attn_fwd_finite
public import proofs.«01_k».proof.Proof.AttnPre

@[expose] public section

set_option maxRecDepth 16384

noncomputable section

namespace Cert.Pre_attn_fwd_finite.Fwd

open Cert.Pre_attn_fwd_finite Cert.Pre_attn_fwd_finite.Gen
open Cert.Pre_attn_finite.Attn (andi_one finite96 finite64)
open Idealize.ShloMosaic Idealize.SL.Sem

theorem finite (a0 a1 : FVec Ideal S1x8x4096x96 .f32) (a2 : FVec Ideal S1x8x4096x64 .f32) (h : fn (F := Ideal) a0 a1 a2 = fun _ => 1#1) :
    (∃ X : Fin 8 → Fin 4096 → Fin 96 → ℝ, ∀ h s c, a0 (ix4 0 h s c) = (X h s c : EReal)) ∧ (∃ X : Fin 8 → Fin 4096 → Fin 96 → ℝ, ∀ h s c, a1 (ix4 0 h s c) = (X h s c : EReal))
    ∧ (∃ X : Fin 8 → Fin 4096 → Fin 64 → ℝ, ∀ h s c, a2 (ix4 0 h s c) = (X h s c : EReal)) := by
  have j : S_.Idx := fun a => a.elim0
  have h0 : IntOp.andi (IntOp.andi (Host.reduce IntOp.andi (cmpf .olt (Host.absf a0) (broadcastInDim S1x8x4096x96 ![] bcast_S_S1x8x4096x96 (constant S_ .f32 0x7F800000#32))) (constantI S_ 1 1#1) reducesTo_S1x8x4096x96_S_d0_1_2_3 h_S_ j)
      (Host.reduce IntOp.andi (cmpf .olt (Host.absf a1) (broadcastInDim S1x8x4096x96 ![] bcast_S_S1x8x4096x96 (constant S_ .f32 0x7F800000#32))) (constantI S_ 1 1#1) reducesTo_S1x8x4096x96_S_d0_1_2_3 h_S_ j))
      (Host.reduce IntOp.andi (cmpf .olt (Host.absf a2) (broadcastInDim S1x8x4096x64 ![] bcast_S_S1x8x4096x64 (constant S_ .f32 0x7F800000#32))) (constantI S_ 1 1#1) reducesTo_S1x8x4096x64_S_d0_1_2_3 h_S_ j) = 1#1 := congrFun h j
  obtain ⟨h1, hc⟩ := andi_one _ _ h0
  obtain ⟨ha, hb⟩ := andi_one _ _ h1
  exact ⟨finite96 a0 j ha, finite96 a1 j hb, finite64 a2 j hc⟩

end Cert.Pre_attn_fwd_finite.Fwd

end
-- ==== Proof.FwdPay.lean ====
/-
  The values of the attention's forward region at an index, at exact arithmetic.
-/
module

public import proofs.«01_k».proof.Proof.FwdStep
public import proofs.«01_k».proof.Proof.AttnPay
public import proofs.«01_k».proof.Proof.AttnHost

@[expose] public section

set_option maxRecDepth 16384

noncomputable section

namespace Cert.Kernel3Ideal.Fwd

open Cert.Kernel3Ideal Cert.Kernel3Ideal.Gen
open Cert.Kernel2Ideal.Attn (chunk_word chunk_le neg_inf)
open Idealize.ShloMosaic Idealize.ShloMosaic.TcCoe Idealize.SL.Sem

/-- The mask's constant is minus infinity. -/
theorem mask_bot : Named.named (F := Ideal) κ "mask" (φ := .f32) 0xF149F2CA#32 = (⊥ : EReal) :=
  IdealRules.named_const.ideal_named_scalar _ _ _ _ rfl

theorem zero_word : Ideal.ofBits FTy.f32 0x00000000#32 = (0 : EReal) := by
  simp [Ideal.ofBits, Ideal.ieee]

theorem scores_at (q k : Vec Ideal S512x128 .bf16) (s r : Fin 512) :
    scores (F := Ideal) q k (ix4 0 0 s r) = ∑ c : Fin 128, (q (ix2 s c) : EReal) * (k (ix2 r c) : EReal) := by
  pointwise [scores, k0_pay16, k0_pay36]

theorem start_max (s : Fin 512) (z : Fin 1) : k0_pay40 (F := Ideal) (ix2 s z) = (⊥ : EReal) := mask_bot
theorem start_acc (s : Fin 512) (c : Fin 128) : k0_pay41 (F := Ideal) (ix2 s c) = (0 : EReal) := zero_word

/-- The tile's scores that count on the diagonal. -/
theorem masked_at (x : Vec Ideal S1x1x512x512 .f32) (s r : Fin 512) :
    k0_pay58 (F := Ideal) x (ix2 s r) = if r.val / 64 ≤ s.val / 64 then (x (ix4 0 0 s r) : EReal) else (⊥ : EReal) := by
  have e : k0_pay58 (F := Ideal) x (ix2 s r) = Scalar.select (IntOp.cmpi .sle (IntOp.shrsi ArithUnit.vector (BitVec.ofNat 32 r.val) 6#32) (IntOp.shrsi ArithUnit.vector (BitVec.ofNat 32 s.val) 6#32))
      (x (ix4 0 0 s r) : EReal) (Named.named (F := Ideal) κ "mask" (φ := .f32) 0xF149F2CA#32) := by
    pointwise [k0_pay58]
  rw [e, chunk_word r, chunk_word s, mask_bot]
  have h := chunk_le ⟨r.val / 64, by omega⟩ ⟨s.val / 64, by omega⟩
  dsimp only at h
  rw [h]
  split_ifs <;> rfl

/-- A row's greatest score. -/
def top (x : Fin 512 → EReal) : EReal := (Finset.univ : Finset (Fin 512)).fold max (⊥ : EReal) x

theorem row_max (m : FVec Ideal S512x1 .f32) (X : FVec Ideal S512x512 .f32) (s : Fin 512) (z : Fin 1) :
    (maximumf m (shapeCast S512x1 (multiReduction .maximumf [1] S512 X 0xFF800000#32 reduces_S512x512_S512 (.inl rfl) rfl) shapeCasts_S512_S512x1) : FVec Ideal S512x1 .f32) (ix2 s z)
      = max (m (ix2 s z) : EReal) (top fun r => X (ix2 s r)) := by
  pointwise
  rw [Cert.Kernel2Ideal.Attn.neg_inf]
  rfl

theorem next_max (m : FVec Ideal S512x1 .f32) (x : Vec Ideal S1x1x512x512 .f32) (s : Fin 512) (z : Fin 1) :
    k0_pay5 (F := Ideal) m x (ix2 s z) = max (m (ix2 s z) : EReal) (top fun r => x (ix4 0 0 s r)) := by
  refine (row_max m (k0_pay4 x) s z).trans ?_
  have e : ∀ r, k0_pay4 (F := Ideal) x (ix2 s r) = x (ix4 0 0 s r) := fun r => by pointwise [k0_pay4]
  simp only [e]
theorem last_max (m : FVec Ideal S512x1 .f32) (x : Vec Ideal S1x1x512x512 .f32) (s : Fin 512) (z : Fin 1) :
    k0_pay59 (F := Ideal) m x (ix2 s z) = max (m (ix2 s z) : EReal) (top fun r => if r.val / 64 ≤ s.val / 64 then (x (ix4 0 0 s r) : EReal) else (⊥ : EReal)) := by
  refine (row_max m (k0_pay58 x) s z).trans ?_
  simp only [masked_at]

theorem acc_row (m M : FVec Ideal S512x1 .f32) (X : FVec Ideal S512x512 .f32) (a : FVec Ideal S512x128 .f32) (v : Vec Ideal S512x128 .bf16) (s : Fin 512) (c : Fin 128) :
    (addf (mulf (broadcastTo S512x128 (exp (subf m M)) broadcasts_S512x1_S512x128) a)
      (matmul dot_S512x512_S512x128_S512x128_1_0_0_1_n_n none (truncf .bf16 (exp (subf X (broadcastTo S512x512 M broadcasts_S512x1_S512x512))) bitsLt_bf16_f32)
        (shapeCast S512x128 (v : FVec Ideal S512x128 .bf16) shapeCasts_S512x128_S512x128 : FVec Ideal S512x128 .bf16) (constant S512x128 .f32 0x00000000#32)) : FVec Ideal S512x128 .f32) (ix2 s c)
      = Ideal.exp ((m (ix2 s 0) : EReal) - M (ix2 s 0)) * (a (ix2 s c) : EReal) + ∑ r : Fin 512, Ideal.exp ((X (ix2 s r) : EReal) - M (ix2 s 0)) * (v (ix2 r c) : EReal) := by
  pointwise

theorem next_acc (m : FVec Ideal S512x1 .f32) (a : FVec Ideal S512x128 .f32) (x : Vec Ideal S1x1x512x512 .f32) (v : Vec Ideal S512x128 .bf16) (s : Fin 512) (c : Fin 128) :
    k0_pay6 (F := Ideal) m a x v (ix2 s c) = Ideal.exp ((m (ix2 s 0) : EReal) - k0_pay5 (F := Ideal) m x (ix2 s 0)) * (a (ix2 s c) : EReal)
      + ∑ r : Fin 512, Ideal.exp ((x (ix4 0 0 s r) : EReal) - k0_pay5 (F := Ideal) m x (ix2 s 0)) * (v (ix2 r c) : EReal) := by
  refine (acc_row m (k0_pay5 m x) (k0_pay4 x) a v s c).trans ?_
  have e : ∀ r, k0_pay4 (F := Ideal) x (ix2 s r) = x (ix4 0 0 s r) := fun r => by pointwise [k0_pay4]
  simp only [e]
theorem last_acc (m : FVec Ideal S512x1 .f32) (a : FVec Ideal S512x128 .f32) (x : Vec Ideal S1x1x512x512 .f32) (v : Vec Ideal S512x128 .bf16) (s : Fin 512) (c : Fin 128) :
    k0_pay62 (F := Ideal) (k0_pay60 m x) (k0_pay61 m a x) v (ix2 s c) = Ideal.exp ((m (ix2 s 0) : EReal) - k0_pay59 (F := Ideal) m x (ix2 s 0)) * (a (ix2 s c) : EReal)
      + ∑ r : Fin 512, Ideal.exp ((if r.val / 64 ≤ s.val / 64 then (x (ix4 0 0 s r) : EReal) else (⊥ : EReal)) - k0_pay59 (F := Ideal) m x (ix2 s 0)) * (v (ix2 r c) : EReal) := by
  refine (acc_row m (k0_pay59 m x) (k0_pay58 x) a v s c).trans ?_
  simp only [masked_at]

theorem out_at (a : FVec Ideal S512x128 .f32) (s : Fin 512) (c : Fin 128) :
    k0_pay73 (F := Ideal) a (ix2 s c) = Ideal.div (a (ix2 s c)) (a (ix2 s 64)) := by
  pointwise [k0_pay73, k0_pay72]

/-- What the row's log-sum is, negated. -/
def logsum (m : FVec Ideal S512x1 .f32) (a : FVec Ideal S512x128 .f32) (s : Fin 512) : EReal :=
  0 - ((m (ix2 s 0) : EReal) + Ideal.log (a (ix2 s 64)))

theorem kept_at (q : FVec Ideal S512x128 .bf16) (m : FVec Ideal S512x1 .f32) (a : FVec Ideal S512x128 .f32) (s : Fin 512) (c : Fin 128) :
    k0_pay74 (F := Ideal) (iota .tc S512x128 32 [1] iota_S512x128_d1_w32) q m a (ix2 s c)
      = Scalar.select (IntOp.cmpi .eq (BitVec.ofNat 32 c.val) 96#32) (logsum m a s)
          (Scalar.select (IntOp.cmpi .eq (BitVec.ofNat 32 c.val) 97#32) (logsum m a s - logsum m a s) (q (ix2 s c) : EReal)) := by
  rw [logsum, ← zero_word]
  pointwise [k0_pay74, k0_pay72]

theorem kept_96 (q : FVec Ideal S512x128 .bf16) (m : FVec Ideal S512x1 .f32) (a : FVec Ideal S512x128 .f32) (s : Fin 512) :
    k0_pay74 (F := Ideal) (iota .tc S512x128 32 [1] iota_S512x128_d1_w32) q m a (ix2 s (96 : Fin 128)) = logsum m a s := by
  rw [kept_at]; rfl
theorem kept_97 (q : FVec Ideal S512x128 .bf16) (m : FVec Ideal S512x1 .f32) (a : FVec Ideal S512x128 .f32) (s : Fin 512) :
    k0_pay74 (F := Ideal) (iota .tc S512x128 32 [1] iota_S512x128_d1_w32) q m a (ix2 s (97 : Fin 128)) = logsum m a s - logsum m a s := by
  rw [kept_at]; rfl

theorem low_lane : ∀ c : Fin 128, IntOp.cmpi .slt (BitVec.ofNat 32 c.val) 64#32 = if c.val < 64 then 1#1 else 0#1 := by
  decide +kernel

/-- Two heads' outputs in one run of 128 lanes. -/
theorem pair_at (x y : FVec Ideal S512x128 .f32) (s : Fin 512) (c : Fin 128) :
    k0_pay2 (F := Ideal) (iota .tc S512x128 32 [1] iota_S512x128_d1_w32) x y (ix2 s c)
      = if c.val < 64 then x (ix2 s c) else y (ix2 s (⟨c.val - 64, by omega⟩ : Fin 128)) := by
  pointwise [k0_pay2]
  rw [low_lane]
  by_cases h : c.val < 64
  · rw [if_pos h, if_pos h]; rfl
  · rw [if_neg h, if_neg h]
    have e : (⟨(c.val + 128 - 64) % 128, Nat.mod_lt _ (by decide)⟩ : Fin 128) = ⟨c.val - 64, by omega⟩ := Fin.ext (by show (c.val + 128 - 64) % 128 = c.val - 64; omega)
    exact congrArg (fun t => y (ix2 s t)) e

end Cert.Kernel3Ideal.Fwd

end
-- ==== Proof.FwdReal.lean ====
/-
  The running maximum over real numbers: after any number of tiles the accumulator is the sum of the exponentials over the
  maximum so far, whatever that maximum is.
-/
module

public import proofs.«01_k».proof.Proof.FwdPay
public import proofs.«01_k».proof.Proof.AttnReal

@[expose] public section

set_option maxRecDepth 16384

noncomputable section

namespace Cert.Kernel3Ideal.Fwd

open Cert.Kernel3Ideal Cert.Kernel3Ideal.Gen
open Cert.Kernel2Ideal.Attn (coe_sum)
open Idealize.ShloMosaic Idealize.ShloMosaic.TcCoe Idealize.SL.Sem

/-! ## One step of the running maximum -/

/-- A row's state, when `A M c` is what the keys seen so far add up to over the maximum `M`: nothing seen, or some real maximum. -/
def Holding (A : ℝ → Fin 128 → ℝ) (m : EReal) (a : Fin 128 → EReal) : Prop :=
  (m = ⊥ ∧ (∀ c, a c = 0) ∧ ∀ M c, A M c = 0) ∨ ∃ M : ℝ, m = (M : EReal) ∧ ∀ c, a c = (A M c : EReal)

/-- The exponential over the maximum, of a key that counts. -/
def wgt (M : ℝ) (p : Prop) [Decidable p] (x : ℝ) : ℝ := if p then Real.exp (x - M) else 0

theorem exp_wgt (M : ℝ) (p : Prop) [Decidable p] (x : ℝ) : Ideal.exp ((if p then (x : EReal) else ⊥) - (M : EReal)) = (wgt M p x : EReal) := by
  unfold wgt
  split_ifs
  · rw [← EReal.coe_sub, Ideal.exp_coe]
  · rw [EReal.bot_sub, Ideal.exp_bot, EReal.coe_zero]

theorem top_real (x : Fin 512 → EReal) (hx : ∀ r, x r = ⊥ ∨ ∃ z : ℝ, x r = (z : EReal)) (z0 : ℝ) (h0 : x 0 = (z0 : EReal)) : ∃ T : ℝ, top x = (T : EReal) := by
  have hb : (⊥ : EReal) < top x := by
    unfold top
    rw [Finset.lt_fold_max]
    exact Or.inr ⟨0, Finset.mem_univ _, by rw [h0]; exact EReal.bot_lt_coe _⟩
  have ht : top x < (⊤ : EReal) := by
    unfold top
    rw [Finset.fold_max_lt]
    refine ⟨bot_lt_top, fun r _ => ?_⟩
    rcases hx r with h | ⟨z, h⟩
    · rw [h]; exact bot_lt_top
    · rw [h]; exact EReal.coe_lt_top _
  exact ⟨_, (EReal.coe_toReal ht.ne hb.ne').symm⟩

variable (A : ℝ → Fin 128 → ℝ)

/-- A tile more. `A` scales with its maximum as sums of exponentials do. -/
theorem Holding.step {A : ℝ → Fin 128 → ℝ} {m : EReal} {a : Fin 128 → EReal} (h : Holding A m a)
    (scale : ∀ M M' c, Real.exp (M - M') * A M c = A M' c)
    (p : Fin 512 → Prop) [DecidablePred p] (hp : p 0) (x : Fin 512 → ℝ) (v : Fin 512 → Fin 128 → ℝ) :
    ∃ M : ℝ, max m (top fun r => if p r then (x r : EReal) else ⊥) = (M : EReal) ∧
      ∀ c, Ideal.exp (m - (M : EReal)) * a c + ∑ r, Ideal.exp ((if p r then (x r : EReal) else ⊥) - (M : EReal)) * (v r c : EReal)
        = ((A M c + ∑ r, wgt M (p r) (x r) * v r c : ℝ) : EReal) := by
  obtain ⟨T, hT⟩ := top_real (fun r => if p r then (x r : EReal) else ⊥)
    (fun r => by by_cases hr : p r <;> simp [hr]) (x 0) (if_pos hp)
  rw [hT]
  have hs : ∀ (M : ℝ) (c : Fin 128), ∑ r, Ideal.exp ((if p r then (x r : EReal) else ⊥) - (M : EReal)) * (v r c : EReal) = ((∑ r, wgt M (p r) (x r) * v r c : ℝ) : EReal) := by
    intro M c
    rw [← coe_sum]
    exact Finset.sum_congr rfl fun r _ => by rw [exp_wgt, EReal.coe_mul]
  rcases h with ⟨hm, ha, hA⟩ | ⟨M, hm, ha⟩
  · refine ⟨T, by rw [hm, max_eq_right bot_le], fun c => ?_⟩
    rw [hs, hm, ha, hA, EReal.bot_sub, mul_zero, zero_add, zero_add]
  · refine ⟨max M T, by rw [hm]; exact (EReal.coe_strictMono.monotone.map_max (a := M) (b := T)).symm, fun c => ?_⟩
    rw [hs, hm, ha, ← EReal.coe_sub, Ideal.exp_coe, ← EReal.coe_mul, scale, ← EReal.coe_add]

/-! ## A head -/

/-- Rows of numbers: the scores of each tile against a row, and the values of each tile. -/
structure Nums where
  x : ℕ → Fin 512 → Fin 512 → ℝ
  v : ℕ → Fin 512 → Fin 128 → ℝ

/-- What the first `n` tiles add up to over the maximum `M`. -/
def Nums.sum (B : Nums) (n : ℕ) (s : Fin 512) (M : ℝ) (c : Fin 128) : ℝ := ∑ j ∈ Finset.range n, ∑ r, wgt M True (B.x j s r) * B.v j r c

/-- And with the last one, where only some keys count. -/
def Nums.end_ (B : Nums) (n : ℕ) (s : Fin 512) (M : ℝ) (c : Fin 128) : ℝ := B.sum n s M c + ∑ r, wgt M (r.val / 64 ≤ s.val / 64) (B.x n s r) * B.v n r c

theorem wgt_scale (M M' : ℝ) (p : Prop) [Decidable p] (x : ℝ) : Real.exp (M - M') * wgt M p x = wgt M' p x := by
  unfold wgt
  split_ifs
  · rw [← Real.exp_add]; congr 1; ring
  · exact mul_zero _

theorem Nums.sum_scale (B : Nums) (n : ℕ) (s : Fin 512) (M M' : ℝ) (c : Fin 128) : Real.exp (M - M') * B.sum n s M c = B.sum n s M' c := by
  unfold Nums.sum
  rw [Finset.mul_sum]
  refine Finset.sum_congr rfl fun j _ => ?_
  rw [Finset.mul_sum]
  exact Finset.sum_congr rfl fun r _ => by rw [← mul_assoc, wgt_scale]

section Head

variable (q : Vec Ideal S512x512 .bf16) (k v : Vec Ideal S4096x512 .bf16) (a : Fin 4) (B : Nums) (N : ℕ)
  (hx : ∀ n ≤ N, ∀ s r, tile (F := Ideal) q k a n (ix4 0 0 s r) = (B.x n s r : EReal))
  (hv : ∀ n ≤ N, ∀ r c, rows (F := Ideal) v n a (ix2 r c) = (B.v n r c : EReal))
include hx hv

theorem upto_holds (s : Fin 512) : ∀ n ≤ N, Holding (B.sum n s) ((upto (F := Ideal) q k v a n).1 (ix2 s 0)) (fun c => (upto (F := Ideal) q k v a n).2 (ix2 s c)) := by
  intro n
  induction n with
  | zero =>
    intro _
    exact Or.inl ⟨start_max s 0, fun c => start_acc s c, fun M c => by unfold Nums.sum; rw [Finset.range_zero, Finset.sum_empty]⟩
  | succ n ih =>
    intro hn
    obtain ⟨M, hM, hc⟩ := (ih (by omega)).step (B.sum_scale n s) (fun _ => True) trivial (B.x n s) (B.v n)
    have e1 : (upto (F := Ideal) q k v a (n + 1)).1 (ix2 s 0) = (M : EReal) := by
      refine (next_max _ _ s 0).trans (Eq.trans ?_ hM)
      simp only [hx n (by omega), if_true]
    refine Or.inr ⟨M, e1, fun c => ?_⟩
    refine (next_acc _ _ _ _ s c).trans ?_
    have e2 : k0_pay5 (F := Ideal) (upto (F := Ideal) q k v a n).1 (tile (F := Ideal) q k a n) (ix2 s 0) = (M : EReal) := e1
    rw [e2]
    refine Eq.trans ?_ ((hc c).trans ?_)
    · simp only [hx n (by omega), hv n (by omega), if_true]
    · unfold Nums.sum
      rw [Finset.sum_range_succ]

/-- The state at the end: some real maximum, and the sums over it. -/
theorem final_holds (s : Fin 512) : ∃ M : ℝ, (final (F := Ideal) q k v a N).1 (ix2 s 0) = (M : EReal) ∧ ∀ c, (final (F := Ideal) q k v a N).2 (ix2 s c) = (B.end_ N s M c : EReal) := by
  obtain ⟨M, hM, hc⟩ := (upto_holds q k v a B N hx hv s N le_rfl).step (B.sum_scale N s) (fun r => r.val / 64 ≤ s.val / 64) (by simp) (B.x N s) (B.v N)
  have e1 : (final (F := Ideal) q k v a N).1 (ix2 s 0) = (M : EReal) := by
    refine (last_max _ _ s 0).trans (Eq.trans ?_ hM)
    simp only [hx N le_rfl]
  refine ⟨M, e1, fun c => ?_⟩
  refine (last_acc _ _ _ _ s c).trans ?_
  have e2 : k0_pay59 (F := Ideal) (upto (F := Ideal) q k v a N).1 (tile (F := Ideal) q k a N) (ix2 s 0) = (M : EReal) := e1
  rw [e2]
  refine Eq.trans ?_ (hc c)
  simp only [hx N le_rfl, hv N le_rfl]

end Head

end Cert.Kernel3Ideal.Fwd

end
-- ==== Proof.FwdEntry.lean ====
/-
  The three operands of the attention's forward region, as the host packs them.
-/
module

public import proofs.«01_k».proof.Proof.FwdFrame
public import proofs.«01_k».proof.Proof.FwdReal

@[expose] public section

set_option maxRecDepth 16384

noncomputable section

namespace Cert.Kernel3Ideal.Fwd

open Cert.Kernel3Ideal Cert.Kernel3Ideal.Gen
open Cert.Kernel2Ideal.Attn (Rows Holds lad lanes96 lanes64 lanes96_at lanes64_at oneH oneH_at scaledH scaledH_at hd sum_lad coe_sum scaleH side_row)
open Idealize.ShloMosaic Idealize.ShloMosaic.TcCoe Idealize.SL.Sem
open Idealize.ShloMosaic.Pipeline (Dat)

/-- A head's 96 columns with zeros up to 128, the heads side by side. -/
def lanesQ (A : FVec Ideal S1x8x4096x96 .f32) : FVec Ideal S4096x1024 .bf16 :=
  shapeCast S4096x1024 (transpose S1x4096x8x128 [0, 2, 1, 3] (truncf .bf16 (pad S1x8x4096x128 ![0, 0, 0, 0] ![0, 0, 0, 32] ![0, 0, 0, 0]
    A (sitofp .f32 (constantI S_ 32 0#32)) pads_S1x8x4096x96_S1x8x4096x128_000_000_000_0320 h_S_) bitsLt_bf16_f32) transposes_S1x8x4096x128_S1x4096x8x128_0_2_1_3) shapeCasts_S1x4096x8x128_S4096x1024

theorem pad_rowQ (A : FVec Ideal S1x8x4096x96 .f32) (h : Fin 8) (s : Fin 4096) (c : Fin 128) :
    (pad S1x8x4096x128 ![0, 0, 0, 0] ![0, 0, 0, 32] ![0, 0, 0, 0] A (sitofp .f32 (constantI S_ 32 0#32)) pads_S1x8x4096x96_S1x8x4096x128_000_000_000_0320 h_S_ : FVec Ideal S1x8x4096x128 .f32) (ix4 0 h s c)
      = if hc : c.val < 96 then A (ix4 0 h s ⟨c.val, hc⟩) else (0 : EReal) := by
  pointwise
  split_ifs
  · rfl
  · exact Cert.Kernel2Ideal.Attn.zero_word

theorem lanesQ_at (A : FVec Ideal S1x8x4096x96 .f32) (h : Fin 8) (s : Fin 4096) (c : Fin 128) :
    lanesQ A (ix2 s (hd h c)) = lad 96 (fun c => A (ix4 0 h s c)) 0 0 c := by
  refine (side_row _ h s c).trans ((pad_rowQ _ h s c).trans ?_)
  unfold lad
  split_ifs <;> rfl

variable (m : (ℓ : Loc nD τ sig) → Buf (Elt Ideal) ℓ)

set_option maxRecDepth 400000 in
theorem V6 (c : Dev nD) : V m c main_v6 = lanesQ (scaledH (m ((c : Thread nD τ).loc main_arg0))) := by
  rfl
set_option maxRecDepth 400000 in
theorem V11 (c : Dev nD) : V m c main_v11 = lanes96 (m ((c : Thread nD τ).loc main_arg1)) oneH oneH := by
  rfl
set_option maxRecDepth 400000 in
theorem V16 (c : Dev nD) : V m c main_v16 = lanes64 (m ((c : Thread nD τ).loc main_arg2)) oneH oneH := by
  rfl

/-! ## Over real numbers -/

/-- A value row's lanes: its columns, two ones, zeros. -/
def valLane (A : Rows) (h : Fin 8) (r : Fin 4096) (c : Fin 128) : ℝ := if hc : c.val < 64 then A.W h r ⟨c.val, hc⟩ else if c.val < 66 then 1 else 0

section Real

variable {A : Rows} {q k : FVec Ideal S1x8x4096x96 .f32} {v d : FVec Ideal S1x8x4096x64 .f32} (H : Holds A q k v d) (h : Fin 8) (s r : Fin 4096)
include H

theorem score_lanes : (∑ c : Fin 128, (lanesQ (scaledH q) (ix2 s (hd h c)) : EReal) * (lanes96 k oneH oneH (ix2 r (hd h c)) : EReal)) = (A.S h s r : EReal) := by
  simp only [lanesQ_at, lanes96_at, oneH_at]
  refine (sum_lad 96 30 rfl _ _ _ _ _ _).trans ?_
  rw [zero_mul, add_zero, add_zero]
  unfold Rows.S
  rw [Finset.sum_mul, ← coe_sum]
  refine Finset.sum_congr rfl fun c _ => ?_
  rw [scaledH_at, H.hq, H.hk, H.hσ, ← EReal.coe_mul, ← EReal.coe_mul]
  congr 1
  ring

theorem val_lanes (c : Fin 128) : lanes64 v oneH oneH (ix2 r (hd h c)) = (valLane A h r c : EReal) := by
  rw [lanes64_at]
  unfold lad valLane
  rw [oneH_at]
  by_cases h1 : c.val < 64
  · rw [dif_pos h1, dif_pos h1]
    exact H.hv h r _
  rw [dif_neg h1, dif_neg h1]
  by_cases h2 : c.val < 66
  · rw [if_pos h2, if_pos h2, ite_self, EReal.coe_one]
  · rw [if_neg h2, if_neg h2, if_neg (by omega), EReal.coe_zero]

end Real

end Cert.Kernel3Ideal.Fwd

end
-- ==== Proof.FwdRows.lean ====
/-
  A query row of the attention's forward region over real numbers: the tiles' sums are the row's sums over the keys that it
  sees, and the output and the log-sum do not depend on the maximum that the sums were taken over.
-/
module

public import proofs.«01_k».proof.Proof.FwdEntry

@[expose] public section

set_option maxRecDepth 16384

noncomputable section

namespace Cert.Kernel3Ideal.Fwd

open Cert.Kernel3Ideal Cert.Kernel3Ideal.Gen
open Cert.Kernel2Ideal.Attn (Rows Holds coe_sum)
open Idealize.ShloMosaic Idealize.ShloMosaic.TcCoe Idealize.SL.Sem

/-- Row `r` of block `n`. -/
def rowAt (n : ℕ) (r : Fin 512) : Fin 4096 := ⟨512 * (n % 8) + r.val, by omega⟩

/-- A sum over all rows, block by block. -/
theorem sum_blocks (f : Fin 4096 → ℝ) : ∑ r, f r = ∑ n ∈ Finset.range 8, ∑ r : Fin 512, f (rowAt n r) := by
  have e : ∑ n ∈ Finset.range 8, ∑ r : Fin 512, f (rowAt n r) = ∑ n : Fin 8, ∑ r : Fin 512, f (rowAt n.val r) :=
    (Fin.sum_univ_eq_sum_range (fun n => ∑ r : Fin 512, f (rowAt n r)) 8).symm
  rw [e, ← Fintype.sum_prod_type' (fun (n : Fin 8) (r : Fin 512) => f (rowAt n.val r))]
  have h : (8 * 512 : ℕ) = 4096 := rfl
  rw [← Equiv.sum_comp ((finProdFinEquiv (m := 8) (n := 512)).trans (finCongr h)) f]
  refine Finset.sum_congr rfl fun p _ => congrArg f (Fin.ext ?_)
  have := p.1.isLt
  simp [rowAt, finProdFinEquiv]
  omega

variable (A : Rows) (h : Fin 8)

/-- The numbers of head `h` and the query block `n`. -/
def nums (n : ℕ) : Nums where
  x := fun j s r => A.S h (rowAt n s) (rowAt j r)
  v := fun j r c => valLane A h (rowAt j r) c

/-- The sum of what the keys that query `s` sees add to lane `c`, over the maximum `M`. -/
def over (s : Fin 4096) (M : ℝ) (c : Fin 128) : ℝ := ∑ r, wgt M (r.val / 64 ≤ s.val / 64) (A.S h s r) * valLane A h r c

theorem end_over (n : ℕ) (hn : n < 8) (s : Fin 512) (M : ℝ) (c : Fin 128) : (nums A h n).end_ n s M c = over A h (rowAt n s) M c := by
  unfold over
  rw [sum_blocks, ← Finset.sum_subset (Finset.range_subset_range.mpr (by omega : n + 1 ≤ 8)), Finset.sum_range_succ]
  · unfold Nums.end_ Nums.sum nums
    refine congrArg₂ (· + ·) (Finset.sum_congr rfl fun j hj => Finset.sum_congr rfl fun r _ => ?_) (Finset.sum_congr rfl fun r _ => ?_)
    · have hj := Finset.mem_range.mp hj
      unfold wgt
      rw [if_pos trivial, if_pos]
      simp only [rowAt]
      omega
    · unfold wgt
      have e : (r.val / 64 ≤ s.val / 64) = ((rowAt n r).val / 64 ≤ (rowAt n s).val / 64) := by
        simp only [rowAt]
        exact propext (by omega)
      simp only [e]
  · intro j hj hn'
    have hj := Finset.mem_range.mp hj
    have hn' : ¬ j < n + 1 := fun h => hn' (Finset.mem_range.mpr h)
    refine Finset.sum_eq_zero fun r _ => ?_
    unfold wgt
    rw [if_neg, zero_mul]
    simp only [rowAt]
    omega

variable (s : Fin 4096) (M : ℝ)

theorem over_eq (c : Fin 128) : over A h s M c = Real.exp (A.M h s - M) * ∑ r, A.E h s r * valLane A h r c := by
  unfold over
  rw [Finset.mul_sum]
  refine Finset.sum_congr rfl fun r _ => ?_
  rw [← mul_assoc]
  congr 1
  exact (wgt_scale (A.M h s) M (r.val / 64 ≤ s.val / 64) (A.S h s r)).symm

theorem over_one : over A h s M 64 = Real.exp (A.M h s - M) * A.L h s := by
  rw [over_eq]
  unfold Rows.L
  refine congrArg _ (Finset.sum_congr rfl fun r _ => ?_)
  unfold valLane
  rw [dif_neg (by decide), if_pos (by decide), mul_one]

theorem over_one_pos : 0 < over A h s M 64 := by
  rw [over_one]
  exact mul_pos (Real.exp_pos _) (A.L_pos h s)

/-- The output of query `s`. -/
def outR (c : Fin 64) : ℝ := ∑ r, A.P h s r * A.W h r c

theorem over_out (c : Fin 64) : over A h s M ⟨c.val, by omega⟩ / over A h s M 64 = outR A h s c := by
  rw [over_one, over_eq, mul_div_mul_left _ _ (Real.exp_pos _).ne']
  unfold outR Rows.P
  rw [Finset.sum_div]
  refine Finset.sum_congr rfl fun r _ => ?_
  unfold valLane
  rw [dif_pos c.isLt]
  ring

/-- The row log-sum of query `s`, negated. -/
def lseR : ℝ := -(A.M h s + Real.log (A.L h s))

theorem over_lse : -(M + Real.log (over A h s M 64)) = lseR A h s := by
  rw [over_one, Real.log_mul (Real.exp_pos _).ne' (A.L_pos h s).ne', Real.log_exp]
  unfold lseR
  ring

end Cert.Kernel3Ideal.Fwd

end
-- ==== Proof.FwdArr.lean ====
/-
  The two arrays of the attention's forward region: the output, and the queries with the row log-sums in their spare lanes.
-/
module

public import proofs.«01_k».proof.Proof.FwdRows
public import proofs.«01_k».proof.Proof.AttnArr

@[expose] public section

set_option maxRecDepth 16384

noncomputable section

namespace Cert.Kernel3Ideal.Fwd

open Cert.Kernel3Ideal Cert.Kernel3Ideal.Gen
open Cert.Kernel2Ideal.Attn (Rows Holds coe_sum hd lanes96 lanes64 oneH scaledH colLane colHead colLane_hd colHead_hd)
open Idealize.ShloMosaic Idealize.ShloMosaic.TcCoe Idealize.SL.Sem
open Idealize.ShloMosaic.Pipeline (Dat)
open VecWindow (window)

variable (m : (ℓ : Loc nD τ sig) → Buf (Elt Ideal) ℓ)

/-! ## The blocks of a point -/

/-- Lane `l` of the group's head `a`. -/
def ln4 (a : Fin 4) (l : Fin 128) : Fin 512 := ⟨128 * a.val + l.val, by omega⟩

theorem lanes_at (x : Vec Ideal S512x512 .bf16) (a : Fin 4) (s : Fin 512) (l : Fin 128) : lanes (F := Ideal) x a (ix2 s l) = x (ix2 s (ln4 a l)) := by
  unfold lanes
  refine congrArg x (funext fun d => Fin.ext ?_)
  fin_cases d
  · show 0 + 1 * s.val = s.val; omega
  · show 128 * a.val + 1 * l.val = 128 * a.val + l.val; omega
theorem rows_at (x : Vec Ideal S4096x512 .bf16) (n : ℕ) (a : Fin 4) (r : Fin 512) (l : Fin 128) : rows (F := Ideal) x n a (ix2 r l) = x (ix2 (rowAt n r) (ln4 a l)) := by
  unfold rows
  refine congrArg x (funext fun d => Fin.ext ?_)
  fin_cases d
  · show 512 * (n % 8) + 1 * r.val = 512 * (n % 8) + r.val; omega
  · show 128 * a.val + 1 * l.val = 128 * a.val + l.val; omega

theorem idx : ∀ t : Fin cfg0.N, win0_0.index t = ![t.val % 8, t.val / 8] ∧ win0_1.index t = ![0, t.val / 8] ∧ win0_2.index t = ![0, t.val / 8]
    ∧ win0_3.index t = ![t.val % 8, t.val / 8] ∧ win0_4.index t = ![t.val % 8, t.val / 8] :=
  (by decide +kernel : ∀ t : Fin grid0.N, _)
theorem coord_one : ∀ t : Fin cfg0.N, (grid0.coords t 1).val = t.val % 8 := by decide +kernel
theorem t_lt (t : Fin cfg0.N) : t.val < 16 := by have := t.isLt; have h : cfg0.N = 16 := N_0; omega

/-- The head that point `t`'s group has at place `a`. -/
def head (t : Fin cfg0.N) (a : Fin 4) : Fin 8 := ⟨4 * (t.val / 8) + a.val, by have := t_lt t; omega⟩

theorem q_block (c : Dev nD) (t : Fin cfg0.N) (s : Fin 512) (a : Fin 4) (l : Fin 128) :
    qAt m c t (ix2 s (ln4 a l)) = V m c main_v6 (ix2 (rowAt t.val s) (hd (head t a) l)) := by
  unfold ln4 hd head rowAt
  blk_point [iblk, V, idx t]
theorem k_block (c : Dev nD) (t : Fin cfg0.N) (r : Fin 4096) (a : Fin 4) (l : Fin 128) :
    kAt m c t (ix2 r (ln4 a l)) = V m c main_v11 (ix2 r (hd (head t a) l)) := by
  unfold ln4 hd head
  blk_point [iblk, V, idx t]
theorem v_block (c : Dev nD) (t : Fin cfg0.N) (r : Fin 4096) (a : Fin 4) (l : Fin 128) :
    vAt m c t (ix2 r (ln4 a l)) = V m c main_v16 (ix2 r (hd (head t a) l)) := by
  unfold ln4 hd head
  blk_point [iblk, V, idx t]

/-! ## A head's rows at a point -/

section Point

variable {m} {A : Rows} {d : FVec Ideal S1x8x4096x64 .f32} (c : Dev nD)
  (H : Holds A (m ((c : Thread nD τ).loc main_arg0)) (m ((c : Thread nD τ).loc main_arg1)) (m ((c : Thread nD τ).loc main_arg2)) d)
  (t : Fin cfg0.N) (a : Fin 4) (s : Fin 512)
include H

theorem tile_nums (n : ℕ) (r : Fin 512) : tile (F := Ideal) (qAt m c t) (kAt m c t) a n (ix4 0 0 s r) = ((nums A (head t a) t.val).x n s r : EReal) := by
  unfold tile
  rw [scores_at]
  refine Eq.trans (Finset.sum_congr rfl fun l _ => ?_) (score_lanes H (head t a) (rowAt t.val s) (rowAt n r))
  rw [lanes_at, rows_at, q_block, k_block, V6, V11]

theorem rows_nums (n : ℕ) (r : Fin 512) (l : Fin 128) : rows (F := Ideal) (vAt m c t) n a (ix2 r l) = ((nums A (head t a) t.val).v n r l : EReal) := by
  rw [rows_at, v_block, V16]
  exact val_lanes H (head t a) (rowAt n r) l

theorem nums_mod : (nums A (head t a) t.val) = nums A (head t a) (t.val % 8) := by
  unfold nums
  have e : ∀ s, rowAt t.val s = rowAt (t.val % 8) s := fun s => by unfold rowAt; exact Fin.ext (by simp)
  simp only [e]

theorem state_real : ∃ M : ℝ, (final (F := Ideal) (qAt m c t) (kAt m c t) (vAt m c t) a (grid0.coords t 1).val).1 (ix2 s 0) = (M : EReal)
    ∧ ∀ l, (final (F := Ideal) (qAt m c t) (kAt m c t) (vAt m c t) a (grid0.coords t 1).val).2 (ix2 s l) = (over A (head t a) (rowAt t.val s) M l : EReal) := by
  obtain ⟨M, h1, h2⟩ := final_holds (qAt m c t) (kAt m c t) (vAt m c t) a (nums A (head t a) t.val) (grid0.coords t 1).val
    (fun n _ s r => tile_nums c H t a s n r) (fun n _ r l => rows_nums c H t a n r l) s
  refine ⟨M, h1, fun l => ?_⟩
  rw [h2, nums_mod c H, coord_one, end_over A _ _ (by omega)]
  have e : rowAt (t.val % 8) s = rowAt t.val s := by unfold rowAt; exact Fin.ext (by simp)
  rw [e]

theorem out_point (l : Fin 64) : outOf (F := Ideal) (qAt m c t) (kAt m c t) (vAt m c t) a (grid0.coords t 1).val (ix2 s (⟨l.val, by omega⟩ : Fin 128))
    = (outR A (head t a) (rowAt t.val s) l : EReal) := by
  obtain ⟨M, h1, h2⟩ := state_real c H t a s
  unfold outOf
  have hp := over_one_pos A (head t a) (rowAt t.val s) M
  rw [out_at, h2, h2, Ideal.div_coe hp.ne', ← EReal.coe_mul, mul_one_div, over_out]

theorem logsum_point : logsum (final (F := Ideal) (qAt m c t) (kAt m c t) (vAt m c t) a (grid0.coords t 1).val).1 (final (F := Ideal) (qAt m c t) (kAt m c t) (vAt m c t) a (grid0.coords t 1).val).2 s
    = (lseR A (head t a) (rowAt t.val s) : EReal) := by
  obtain ⟨M, h1, h2⟩ := state_real c H t a s
  unfold logsum
  have hp := over_one_pos A (head t a) (rowAt t.val s) M
  rw [h1, h2, Ideal.log_coe, if_neg hp.not_ge, ← EReal.coe_add, zero_sub, ← EReal.coe_neg, over_lse]

/-- The lanes that a query row is kept with: its log-sum in lane 96, what rounding it left out in lane 97. -/
def keptLane (A : Rows) (X : FVec Ideal S4096x1024 .bf16) (h : Fin 8) (s : Fin 4096) (l : Fin 128) : EReal :=
  if l.val = 96 then (lseR A h s : EReal) else if l.val = 97 then 0 else X (ix2 s (hd h l))

theorem kept_point (l : Fin 128) : keptOf (F := Ideal) (qAt m c t) (kAt m c t) (vAt m c t) a (grid0.coords t 1).val (ix2 s l)
    = keptLane A (V m c main_v6) (head t a) (rowAt t.val s) l := by
  unfold keptOf keptLane
  rw [kept_at, logsum_point c H]
  by_cases h1 : l.val = 96
  · rw [if_pos h1, h1]; rfl
  by_cases h2 : l.val = 97
  · rw [if_neg h1, if_pos h2, h2, ← EReal.coe_sub, sub_self, EReal.coe_zero]; rfl
  rw [if_neg h1, if_neg h2, ← q_block, ← lanes_at (qAt m c t) a s l]
  have e : ∀ l : Fin 128, (l.val = 96 ∨ IntOp.cmpi .eq (BitVec.ofNat 32 l.val) 96#32 = 0#1) ∧ (l.val = 97 ∨ IntOp.cmpi .eq (BitVec.ofNat 32 l.val) 97#32 = 0#1) := by
    decide +kernel
  rw [(e l).1.resolve_left h1, (e l).2.resolve_left h2]
  change k0_pay36 (F := Ideal) (lanes (F := Ideal) (qAt m c t) a) (ix2 s l) = _
  generalize lanes (F := Ideal) (qAt m c t) a = x
  pointwise [k0_pay36]

end Point

/-! ## The arrays -/

/-- The head and the column of an output's column. -/
def outHead (y : Fin 512) : Fin 8 := ⟨y.val / 64, by omega⟩
def outCol (y : Fin 512) : Fin 64 := ⟨y.val % 64, by omega⟩

section Array

variable {m} {A : Rows} {d : FVec Ideal S1x8x4096x64 .f32} (c : Dev nD)
  (H : Holds A (m ((c : Thread nD τ).loc main_arg0)) (m ((c : Thread nD τ).loc main_arg1)) (m ((c : Thread nD τ).loc main_arg2)) d)
include H

theorem pair_point (t : Fin cfg0.N) (a b : Fin 4) (s : Fin 512) (l : Fin 128) :
    pairOf (F := Ideal) (qAt m c t) (kAt m c t) (vAt m c t) (grid0.coords t 1).val a b (ix2 s l)
      = (outR A (head t (if l.val < 64 then a else b)) (rowAt t.val s) ⟨l.val % 64, by omega⟩ : EReal) := by
  unfold pairOf
  rw [pair_at]
  by_cases h : l.val < 64
  · rw [if_pos h, if_pos h, ← out_point c H]
    exact congrArg (fun x => outOf (F := Ideal) (qAt m c t) (kAt m c t) (vAt m c t) a (grid0.coords t 1).val (ix2 s x)) (Fin.ext (by show l.val = l.val % 64; omega))
  · rw [if_neg h, if_neg h, ← out_point c H]
    exact congrArg (fun x => outOf (F := Ideal) (qAt m c t) (kAt m c t) (vAt m c t) b (grid0.coords t 1).val (ix2 s x)) (Fin.ext (by show l.val - 64 = l.val % 64; omega))

theorem out_block (t : Fin cfg0.N) (s : Fin 512) (y : Fin 256) :
    outAt m c t (ix2 s y) = (outR A (head t ⟨y.val / 64, by omega⟩) (rowAt t.val s) ⟨y.val % 64, by omega⟩ : EReal) := by
  have key : ∀ p : Fin 2, ∀ l : Fin 128, y.val = 128 * p.val + l.val → outAt m c t (ix2 s y)
      = (match p with | 0 => pairOf (F := Ideal) (qAt m c t) (kAt m c t) (vAt m c t) (grid0.coords t 1).val 0 1 | 1 => pairOf (F := Ideal) (qAt m c t) (kAt m c t) (vAt m c t) (grid0.coords t 1).val 2 3 : FVec Ideal S512x128 .f32) (ix2 s l) := by
    intro p l hy
    unfold outAt outBlock beside2
    have e1 : (⟨y.val / 128, by omega⟩ : Fin 2) = p := Fin.ext (by show y.val / 128 = p.val; omega)
    have e2 : (⟨y.val % 128, by omega⟩ : Fin 128) = l := Fin.ext (by show y.val % 128 = l.val; omega)
    change (fun p => (match p with | 0 => pairOf (F := Ideal) (qAt m c t) (kAt m c t) (vAt m c t) (grid0.coords t 1).val 0 1 | 1 => pairOf (F := Ideal) (qAt m c t) (kAt m c t) (vAt m c t) (grid0.coords t 1).val 2 3 : FVec Ideal S512x128 .f32)) (⟨y.val / 128, _⟩ : Fin 2) _ = _
    rw [e1]
    refine congrArg _ (funext fun d => ?_)
    fin_cases d
    · rfl
    · exact e2
  by_cases hp : y.val < 128
  · rw [key 0 ⟨y.val, hp⟩ (by simp)]
    refine (pair_point c H t 0 1 s _).trans ?_
    have e : (if y.val < 64 then (0 : Fin 4) else 1) = ⟨y.val / 64, by omega⟩ := by
      split_ifs
      · exact Fin.ext (by show 0 = y.val / 64; omega)
      · exact Fin.ext (by show 1 = y.val / 64; omega)
    rw [e]
  · rw [key 1 ⟨y.val - 128, by omega⟩ (by show y.val = 128 * 1 + (y.val - 128); omega)]
    refine (pair_point c H t 2 3 s _).trans ?_
    have e : (if y.val - 128 < 64 then (2 : Fin 4) else 3) = ⟨y.val / 64, by omega⟩ := by
      split_ifs
      · exact Fin.ext (by show 2 = y.val / 64; omega)
      · exact Fin.ext (by show 3 = y.val / 64; omega)
    have e' : (⟨(y.val - 128) % 64, by omega⟩ : Fin 64) = ⟨y.val % 64, by omega⟩ := Fin.ext (by show (y.val - 128) % 64 = y.val % 64; omega)
    rw [e, e']

theorem kept_block (t : Fin cfg0.N) (s : Fin 512) (a : Fin 4) (l : Fin 128) :
    keptAt m c t (ix2 s (ln4 a l)) = keptLane A (V m c main_v6) (head t a) (rowAt t.val s) l := by
  rw [← kept_point c H]
  unfold keptAt keptBlock beside4
  have e1 : (⟨(ln4 a l).val / 128, by omega⟩ : Fin 4) = a := Fin.ext (by show (128 * a.val + l.val) / 128 = a.val; omega)
  have e2 : (⟨(ln4 a l).val % 128, by omega⟩ : Fin 128) = l := Fin.ext (by show (128 * a.val + l.val) % 128 = l.val; omega)
  change keptOf (F := Ideal) (qAt m c t) (kAt m c t) (vAt m c t) (⟨(ln4 a l).val / 128, _⟩ : Fin 4) (grid0.coords t 1).val _ = _
  rw [e1]
  refine congrArg _ (funext fun d => ?_)
  fin_cases d
  · rfl
  · exact e2

theorem final_out : (dats m 0 c).arrAt 3 cfg0.N = (fun i => (outR A (outHead (i 1)) (i 0) (outCol (i 1)) : EReal) : Vec Ideal S4096x512 .f32) := by
  refine (dats m 0 c).arrAt_eq_of_covers 3 _ (by decide +kernel) fun t _ y => ?_
  blk_simp
  rw [after_3]
  idx_vars y
  have ht := t_lt t
  have e0 : ((View.whole main_v17_0).slice (win0_3.rect t)).emb (ix2 y0 y1) 0 = rowAt t.val y0 := by
    apply Fin.ext; change _ = 512 * (t.val % 8) + y0.val; blk_simp [idx t]; omega
  have e1 : (((View.whole main_v17_0).slice (win0_3.rect t)).emb (ix2 y0 y1) 1).val = 256 * (t.val / 8) + y1.val := by
    blk_simp [idx t]; omega
  have e2 : outHead (((View.whole main_v17_0).slice (win0_3.rect t)).emb (ix2 y0 y1) 1) = head t ⟨y1.val / 64, by omega⟩ := by
    apply Fin.ext; simp only [outHead, head]; rw [e1]; omega
  have e3 : outCol (((View.whole main_v17_0).slice (win0_3.rect t)).emb (ix2 y0 y1) 1) = ⟨y1.val % 64, by omega⟩ := by
    apply Fin.ext; simp only [outCol]; rw [e1]; omega
  rw [e0, e2, e3]
  exact out_block c H t y0 y1

theorem final_kept : (dats m 0 c).arrAt 4 cfg0.N = (fun i => keptLane A (V m c main_v6) (colHead (i 1)) (i 0) (colLane (i 1)) : Vec Ideal S4096x1024 .bf16) := by
  refine (dats m 0 c).arrAt_eq_of_covers 4 _ (by decide +kernel) fun t _ y => ?_
  blk_simp
  rw [after_4]
  idx_vars y
  have ht := t_lt t
  have hy : ln4 ⟨y1.val / 128, by omega⟩ ⟨y1.val % 128, by omega⟩ = y1 := Fin.ext (by show 128 * (y1.val / 128) + y1.val % 128 = y1.val; omega)
  have e0 : ((View.whole main_v17_1).slice (win0_4.rect t)).emb (ix2 y0 y1) 0 = rowAt t.val y0 := by
    apply Fin.ext; change _ = 512 * (t.val % 8) + y0.val; blk_simp [idx t]; omega
  have e1 : ((View.whole main_v17_1).slice (win0_4.rect t)).emb (ix2 y0 y1) 1 = hd (head t ⟨y1.val / 128, by omega⟩) ⟨y1.val % 128, by omega⟩ := by
    apply Fin.ext; change _ = 128 * (4 * (t.val / 8) + y1.val / 128) + y1.val % 128; blk_simp [idx t]; omega
  rw [e0, e1, colHead_hd, colLane_hd, ← kept_block c H, hy]

end Array

end Cert.Kernel3Ideal.Fwd

end
-- ==== Proof.FwdRef.lean ====
/-
  The forward call's reference over real numbers: the softmax's mean of the values, and the row log-sum.
-/
module

public import proofs.«01_k».proof.Proof.FwdRows
public import proofs.«01_k».proof.Proof.FwdArr
public import proofs.«01_k».proof.Proof.Gen.Reference3Ideal.Read

@[expose] public section

set_option maxRecDepth 16384

noncomputable section

namespace Cert.Reference3Ideal.Fwd

open Cert.Reference3Ideal Cert.Reference3Ideal.Gen Cert.Reference3Ideal.Read
open Cert.Kernel2Ideal.Attn (maskH scoreH maxH expH sumH probH Rows Holds neg_inf coe_sum)
open Cert.Kernel3Ideal.Fwd (outR lseR outHead outCol)
open Idealize.ShloMosaic Idealize.ShloMosaic.TcCoe Idealize.SL.Sem

variable (q k : FVec Ideal S1x8x4096x96 .f32) (v : FVec Ideal S1x8x4096x64 .f32)

theorem mask_eq : val_main_v9 (F := Ideal) = maskH := rfl
theorem score_eq : val_main_v10 (F := Ideal) q k = scoreH q k := rfl
theorem max_eq : val_main_v11 (F := Ideal) q k = maxH q k := by
  unfold val_main_v11 maxH
  rw [score_eq]
  rfl
theorem max_bot (X Y : FVec Ideal S1x8x4096 .f32) (hX : ∀ i, X i = (⊥ : EReal)) : (maximumf X Y : FVec Ideal S1x8x4096 .f32) = Y := by
  funext i
  change max (X i : EReal) (Y i) = Y i
  rw [hX, max_eq_right bot_le]
theorem top_eq : val_main_v13 (F := Ideal) q k = maxH q k := by
  unfold val_main_v13
  rw [max_eq]
  exact max_bot _ _ fun i => (val_main_v12_apply i).trans neg_inf
theorem exp_eq : val_main_v17 (F := Ideal) q k = expH q k := by
  unfold val_main_v17 val_main_v16 val_main_v15 val_main_v14 expH
  rw [score_eq, top_eq]
theorem sum_eq : val_main_v19 (F := Ideal) q k = sumH q k := by
  unfold val_main_v19 val_main_v18 sumH
  rw [exp_eq]
  rfl
theorem prob_eq : val_main_v21 (F := Ideal) q k = probH q k := by
  unfold val_main_v21 val_main_v20 probH
  rw [exp_eq, sum_eq]
theorem max_eq' : val_main_v23 (F := Ideal) q k = maxH q k := by
  unfold val_main_v23 maxH
  rw [score_eq]
  rfl
theorem exp_eq' : val_main_v27 (F := Ideal) q k = expH q k := by
  unfold val_main_v27 val_main_v26 val_main_v25 val_main_v24 expH
  rw [score_eq, max_eq']

theorem out_row (P : FVec Ideal S1x8x4096x4096 .f32) (s : Fin 4096) (y : Fin 512) :
    (shapeCast S4096x512 (transpose S1x4096x8x64 [0, 2, 1, 3] (Host.dotGeneral dot_S1x8x4096x4096_S1x8x4096x64_S1x8x4096x64_3_2_2_3_01_01 none P v : FVec Ideal S1x8x4096x64 .f32)
      transposes_S1x8x4096x64_S1x4096x8x64_0_2_1_3) shapeCasts_S1x4096x8x64_S4096x512 : FVec Ideal S4096x512 .f32) (ix2 s y)
      = ∑ r : Fin 4096, (P (ix4 0 (outHead y) s r) : EReal) * (v (ix4 0 (outHead y) r (outCol y)) : EReal) := by
  pointwise
  rfl

theorem sum_row (E : FVec Ideal S1x8x4096x4096 .f32) (h : Fin 8) (s : Fin 4096) :
    (Host.reduceAdd E (constant S_ .f32 0x00000000#32) reducesTo_S1x8x4096x4096_S1x8x4096_d3 h_S_ : FVec Ideal S1x8x4096 .f32) (ix3 0 h s) = ∑ r : Fin 4096, (E (ix4 0 h s r) : EReal) := by
  pointwise

theorem lse_row (M L : FVec Ideal S1x8x4096 .f32) (s : Fin 4096) (h : Fin 8) :
    (Host.negf (transpose S4096x8 [1, 0] (shapeCast S8x4096 (addf M (Host.log L)) shapeCasts_S1x8x4096_S8x4096) transposes_S8x4096_S4096x8_1_0) : FVec Ideal S4096x8 .f32) (ix2 s h)
      = -((M (ix3 0 h s) : EReal) + Ideal.log (L (ix3 0 h s))) := by
  pointwise

variable {q k v} {A : Rows} {d : FVec Ideal S1x8x4096x64 .f32} (H : Holds A q k v d)
include H

theorem out_at (s : Fin 4096) (y : Fin 512) : val_main_v32 (F := Ideal) q k v (ix2 s y) = (outR A (outHead y) s (outCol y) : EReal) := by
  unfold val_main_v32 val_main_v31 val_main_v22
  rw [prob_eq]
  refine (out_row v _ s y).trans ?_
  unfold outR
  rw [← coe_sum]
  refine Finset.sum_congr rfl fun r _ => ?_
  rw [H.prob, H.hv, ← EReal.coe_mul]

theorem lse_at (s : Fin 4096) (h : Fin 8) : val_main_v35 (F := Ideal) q k (ix2 s h) = (lseR A h s : EReal) := by
  unfold val_main_v35 val_main_v34 val_main_v33 val_main_v30 val_main_v29
  refine (lse_row _ _ s h).trans ?_
  have e : val_main_v28 (F := Ideal) q k (ix3 0 h s) = (A.L h s : EReal) := by
    unfold val_main_v28
    rw [exp_eq']
    refine (sum_row _ h s).trans ?_
    simp only [H.expo]
    exact coe_sum _ _
  rw [e, max_eq', H.hM, Ideal.log_coe, if_neg (A.L_pos h s).not_ge, ← EReal.coe_add, ← EReal.coe_neg]
  rfl

end Cert.Reference3Ideal.Fwd

end
-- ==== Proof.FwdTail.lean ====
/-
  The two results of the attention's forward call: the output as the region leaves it, and the row log-sums, whose two parts
  the host takes out of the spare lanes and adds.
-/
module

public import proofs.«01_k».proof.Proof.FwdArr
public import Idealize.ShloMosaic.Lib.StableHlo.RunRead

@[expose] public section

set_option maxRecDepth 16384

noncomputable section

namespace Cert.Kernel3Ideal.Fwd

open Cert.Kernel3Ideal Cert.Kernel3Ideal.Gen
open Cert.Kernel2Ideal.Attn (Rows Holds hd colHead_hd colLane_hd)
open Idealize.ShloMosaic Idealize.ShloMosaic.TcCoe Idealize.SL.Sem
open Idealize.ShloMosaic.Pipeline (Dat)

/-- The two spare lanes of each head added. -/
def spare (X : FVec Ideal S4096x1024 .bf16) : FVec Ideal S4096x8 .f32 :=
  addf (shapeCast S4096x8 (extractStridedSlice S4096x8x1 ![0, 0, 96] (extf .f32 (shapeCast S4096x8x128 X shapeCasts_S4096x1024_S4096x8x128) bitsLt_bf16_f32) slices_S4096x8x128_S4096x8x1_0_0_96) shapeCasts_S4096x8x1_S4096x8)
    (shapeCast S4096x8 (extractStridedSlice S4096x8x1 ![0, 0, 97] (extf .f32 (shapeCast S4096x8x128 X shapeCasts_S4096x1024_S4096x8x128) bitsLt_bf16_f32) slices_S4096x8x128_S4096x8x1_0_0_97) shapeCasts_S4096x8x1_S4096x8)

theorem spare_at (X : FVec Ideal S4096x1024 .bf16) (s : Fin 4096) (h : Fin 8) :
    spare X (ix2 s h) = (X (ix2 s (hd h 96)) : EReal) + (X (ix2 s (hd h 97)) : EReal) := by
  pointwise [spare]
  refine congrArg₂ (· + ·) ?_ ?_
  · exact congrArg (fun t => X (ix2 s t)) (Fin.ext (by change h.val * 128 + 96 = (hd h 96).val; simp only [hd]; change _ = 128 * h.val + 96; omega))
  · exact congrArg (fun t => X (ix2 s t)) (Fin.ext (by change h.val * 128 + 97 = (hd h 97).val; simp only [hd]; change _ = 128 * h.val + 97; omega))

variable (T : Valuation τ sig (Elt Ideal))

theorem tail_v24 : StableHlo.after hostOps1 T (Proc.devRef .tc main_v24) = spare (T (Proc.devRef .tc main_v17_1)) := by
  unfold spare
  after_reads_simp
  rfl
theorem tail_v17 : StableHlo.after hostOps1 T (Proc.devRef .tc main_v17_0) = T (Proc.devRef .tc main_v17_0) := by
  after_reads_simp

variable (m : (ℓ : Loc nD τ sig) → Buf (Elt Ideal) ℓ)

theorem left_out (c : Dev nD) : Pipeline.afterTail₀ cfgs (dats m) 0 (V0 m) [hostOps1] c main_v17_0 = (dats m 0 c).arrAt 3 cfg0.N := by
  unfold Pipeline.afterTail₀
  rw [List.flatten_cons, List.flatten_nil, List.append_nil, tail_v17]
  exact Pipeline.withArrays_arr spec0 launch0.win.arr_inj c (V0 m c) (fun w => (dats m 0 c).arrAt w cfg0.N) 3
theorem left_lse (c : Dev nD) : Pipeline.afterTail₀ cfgs (dats m) 0 (V0 m) [hostOps1] c main_v24 = spare ((dats m 0 c).arrAt 4 cfg0.N) := by
  unfold Pipeline.afterTail₀
  rw [List.flatten_cons, List.flatten_nil, List.append_nil, tail_v24]
  exact congrArg spare (Pipeline.withArrays_arr spec0 launch0.win.arr_inj c (V0 m c) (fun w => (dats m 0 c).arrAt w cfg0.N) 4)

variable {m} {A : Rows} {d : FVec Ideal S1x8x4096x64 .f32} (c : Dev nD)
  (H : Holds A (m ((c : Thread nD τ).loc main_arg0)) (m ((c : Thread nD τ).loc main_arg1)) (m ((c : Thread nD τ).loc main_arg2)) d)
include H

theorem res_out (s : Fin 4096) (y : Fin 512) : ((dats m 0 c).arrAt 3 cfg0.N : FVec Ideal S4096x512 .f32) (ix2 s y) = (outR A (outHead y) s (outCol y) : EReal) := by
  exact congrFun (final_out c H) (ix2 s y)
theorem res_lse (s : Fin 4096) (h : Fin 8) :
    (Pipeline.afterTail₀ cfgs (dats m) 0 (V0 m) [hostOps1] c main_v24 : FVec Ideal S4096x8 .f32) (ix2 s h) = (lseR A h s : EReal) := by
  rw [left_lse, spare_at, final_kept c H]
  change keptLane A _ (Cert.Kernel2Ideal.Attn.colHead (hd h 96)) s (Cert.Kernel2Ideal.Attn.colLane (hd h 96)) + keptLane A _ (Cert.Kernel2Ideal.Attn.colHead (hd h 97)) s (Cert.Kernel2Ideal.Attn.colLane (hd h 97)) = _
  rw [colHead_hd, colLane_hd, colHead_hd, colLane_hd]
  unfold keptLane
  rw [if_pos (by decide), if_neg (by decide), if_pos (by decide), add_zero]

end Cert.Kernel3Ideal.Fwd

end
-- ==== Proof.MlaHost.lean ====
/-
  The host lines before the latent projections' backward region: the rotation's tables, the padded cotangents and weights, and
  the normalised rows, read at an index.
-/
module

public import proofs.«01_k».proof.Proof.Gen.Kernel4Ideal.Frame.Runs
public import Idealize.ShloMosaic.Lib.Pipeline.ValueKit
public import Idealize.ShloMosaic.Lib.Claim
public import Idealize.ShloMosaic.Lib.Pointwise

@[expose] public section

set_option maxRecDepth 16384

noncomputable section

namespace Cert.Kernel4Ideal.Mla

open Cert.Kernel4Ideal Cert.Kernel4Ideal.Gen
open Idealize.ShloMosaic Idealize.ShloMosaic.TcCoe Idealize.SL.Sem
open Idealize.ShloMosaic.Pipeline (Dat)

/-- The value that padding writes. -/
def zeroH : FVec Ideal S_ .f32 := sitofp .f32 (constantI S_ 32 0#32)

/-- The cosine table over a head's lanes. -/
def cosL (C : FVec Ideal S4096x16 .f32) : FVec Ideal S4096x128 .f32 :=
  concatenate S4096x128 1 [⟨S4096x64, broadcastInDim S4096x64 ![] bcast_S_S4096x64 (constant S_ .f32 0x3F800000#32)⟩, ⟨S4096x16, C⟩, ⟨S4096x16, C⟩,
    ⟨S4096x32, broadcastInDim S4096x32 ![] bcast_S_S4096x32 (constant S_ .f32 0x00000000#32)⟩] concatenates_S4096x64_S4096x16_S4096x16_S4096x32_S4096x128_d1
/-- The negated sine on the lower lanes. -/
def sinLo (S : FVec Ideal S4096x16 .f32) : FVec Ideal S4096x128 .f32 :=
  concatenate S4096x128 1 [⟨S4096x64, broadcastInDim S4096x64 ![] bcast_S_S4096x64 (constant S_ .f32 0x00000000#32)⟩, ⟨S4096x16, Host.negf S⟩,
    ⟨S4096x16, broadcastInDim S4096x16 ![] bcast_S_S4096x16 (constant S_ .f32 0x00000000#32)⟩,
    ⟨S4096x32, broadcastInDim S4096x32 ![] bcast_S_S4096x32 (constant S_ .f32 0x00000000#32)⟩] concatenates_S4096x64_S4096x16_S4096x16_S4096x32_S4096x128_d1
/-- The sine on the upper lanes. -/
def sinHi (S : FVec Ideal S4096x16 .f32) : FVec Ideal S4096x128 .f32 :=
  concatenate S4096x128 1 [⟨S4096x64, broadcastInDim S4096x64 ![] bcast_S_S4096x64 (constant S_ .f32 0x00000000#32)⟩,
    ⟨S4096x16, broadcastInDim S4096x16 ![] bcast_S_S4096x16 (constant S_ .f32 0x00000000#32)⟩, ⟨S4096x16, S⟩,
    ⟨S4096x32, broadcastInDim S4096x32 ![] bcast_S_S4096x32 (constant S_ .f32 0x00000000#32)⟩] concatenates_S4096x64_S4096x16_S4096x16_S4096x32_S4096x128_d1
/-- The saved projection's columns. -/
def projH (Q : FVec Ideal S1x4096x768 .f32) (K : FVec Ideal S1x4096x256 .f32) (P : FVec Ideal S1x4096x32 .f32) : FVec Ideal S4096x5888 .f32 :=
  concatenate S4096x5888 1 [⟨S4096x4608, broadcastInDim S4096x4608 ![] bcast_S_S4096x4608 (constant S_ .f32 0x00000000#32)⟩,
    ⟨S4096x768, shapeCast S4096x768 Q shapeCasts_S1x4096x768_S4096x768⟩, ⟨S4096x256, shapeCast S4096x256 K shapeCasts_S1x4096x256_S4096x256⟩,
    ⟨S4096x64, broadcastInDim S4096x64 ![] bcast_S_S4096x64 (constant S_ .f32 0x00000000#32)⟩, ⟨S4096x32, shapeCast S4096x32 P shapeCasts_S1x4096x32_S4096x32⟩,
    ⟨S4096x160, broadcastInDim S4096x160 ![] bcast_S_S4096x160 (constant S_ .f32 0x00000000#32)⟩] concatenates_S4096x4608_S4096x768_S4096x256_S4096x64_S4096x32_S4096x160_S4096x5888_d1
/-- A cotangent's heads, padded to whole lanes. -/
def heads96 (A : FVec Ideal S1x8x4096x96 .f32) : FVec Ideal S4096x1024 .bf16 :=
  shapeCast S4096x1024 (transpose S1x4096x8x128 [0, 2, 1, 3] (truncf .bf16 (pad S1x8x4096x128 ![0, 0, 0, 0] ![0, 0, 0, 32] ![0, 0, 0, 0] A zeroH pads_S1x8x4096x96_S1x8x4096x128_000_000_000_0320 h_S_ : FVec Ideal S1x8x4096x128 .f32) bitsLt_bf16_f32 : FVec Ideal S1x8x4096x128 .bf16) transposes_S1x8x4096x128_S1x4096x8x128_0_2_1_3 : FVec Ideal S1x4096x8x128 .bf16) shapeCasts_S1x4096x8x128_S4096x1024
def heads64 (A : FVec Ideal S1x8x4096x64 .f32) : FVec Ideal S4096x1024 .bf16 :=
  shapeCast S4096x1024 (transpose S1x4096x8x128 [0, 2, 1, 3] (truncf .bf16 (pad S1x8x4096x128 ![0, 0, 0, 0] ![0, 0, 0, 64] ![0, 0, 0, 0] A zeroH pads_S1x8x4096x64_S1x8x4096x128_000_000_000_0640 h_S_ : FVec Ideal S1x8x4096x128 .f32) bitsLt_bf16_f32 : FVec Ideal S1x8x4096x128 .bf16) transposes_S1x8x4096x128_S1x4096x8x128_0_2_1_3 : FVec Ideal S1x4096x8x128 .bf16) shapeCasts_S1x4096x8x128_S4096x1024
/-- The query projection's weight, its columns padded per head, transposed. -/
def weightQ (W : FVec Ideal S1x768x768 .f32) : FVec Ideal S1024x768 .bf16 :=
  truncf .bf16 (transpose S1024x768 [1, 0] (shapeCast S768x1024 (pad S768x8x128 ![0, 0, 0] ![0, 0, 32] ![0, 0, 0] (shapeCast S768x8x96 (shapeCast S768x768 W shapeCasts_S1x768x768_S768x768 : FVec Ideal S768x768 .f32) shapeCasts_S768x768_S768x8x96 : FVec Ideal S768x8x96 .f32) zeroH pads_S768x8x96_S768x8x128_000_000_0320 h_S_ : FVec Ideal S768x8x128 .f32) shapeCasts_S768x8x128_S768x1024 : FVec Ideal S768x1024 .f32) transposes_S768x1024_S1024x768_1_0 : FVec Ideal S1024x768 .f32) bitsLt_bf16_f32
/-- One half of the key-value projection's columns, padded per head. -/
def halfLo (W : FVec Ideal S256x8x128 .f32) : FVec Ideal S256x1024 .f32 :=
  shapeCast S256x1024 (pad S256x8x128 ![0, 0, 0] ![0, 0, 64] ![0, 0, 0] (extractStridedSlice S256x8x64 ![0, 0, 0] W slices_S256x8x128_S256x8x64_0_0_0 : FVec Ideal S256x8x64 .f32) zeroH pads_S256x8x64_S256x8x128_000_000_0640 h_S_ : FVec Ideal S256x8x128 .f32) shapeCasts_S256x8x128_S256x1024
def halfHi (W : FVec Ideal S256x8x128 .f32) : FVec Ideal S256x1024 .f32 :=
  shapeCast S256x1024 (pad S256x8x128 ![0, 0, 0] ![0, 0, 64] ![0, 0, 0] (extractStridedSlice S256x8x64 ![0, 0, 64] W slices_S256x8x128_S256x8x64_0_0_64 : FVec Ideal S256x8x64 .f32) zeroH pads_S256x8x64_S256x8x128_000_000_0640 h_S_ : FVec Ideal S256x8x128 .f32) shapeCasts_S256x8x128_S256x1024
def byHead (W : FVec Ideal S1x256x1024 .f32) : FVec Ideal S256x8x128 .f32 :=
  shapeCast S256x8x128 (shapeCast S256x1024 W shapeCasts_S1x256x1024_S256x1024 : FVec Ideal S256x1024 .f32) shapeCasts_S256x1024_S256x8x128
def weightK (W : FVec Ideal S1x256x1024 .f32) : FVec Ideal S2048x256 .bf16 :=
  truncf .bf16 (transpose S2048x256 [1, 0] (concatenate S256x2048 1 [⟨S256x1024, halfLo (byHead W)⟩, ⟨S256x1024, halfHi (byHead W)⟩] concatenates_S256x1024_S256x1024_S256x2048_d1 : FVec Ideal S256x2048 .f32) transposes_S256x2048_S2048x256_1_0 : FVec Ideal S2048x256 .f32) bitsLt_bf16_f32
/-- The normalised rows, transposed. -/
def normQ (X : FVec Ideal S1x4096x768 .f32) (G : FVec Ideal S1x768 .f32) : FVec Ideal S768x4096 .bf16 :=
  truncf .bf16 (transpose S768x4096 [1, 0] (shapeCast S4096x768 (mulf (mulf X (broadcastInDim S1x4096x768 ![0, 1, 2] bcast_S1x4096x1_S1x4096x768_0_1_2
    (Host.rsqrt (addf (Host.divf (broadcastInDim S1x4096x1 ![0, 1] bcast_S1x4096_S1x4096x1_0_1 (Host.reduceAdd (mulf X X) (constant S_ .f32 0x00000000#32) reducesTo_S1x4096x768_S1x4096_d2 h_S_))
      (broadcastInDim S1x4096x1 ![] bcast_S_S1x4096x1 (constant S_ .f32 0x44400000#32))) (broadcastInDim S1x4096x1 ![] bcast_S_S1x4096x1 (constant S_ .f32 0x358637BD#32))))))
    (broadcastInDim S1x4096x768 ![0, 1, 2] bcast_S1x1x768_S1x4096x768_0_1_2 (broadcastInDim S1x1x768 ![2] bcast_S768_S1x1x768_2 (shapeCast S768 G shapeCasts_S1x768_S768))) : FVec Ideal S1x4096x768 .f32)
    shapeCasts_S1x4096x768_S4096x768 : FVec Ideal S4096x768 .f32) transposes_S4096x768_S768x4096_1_0 : FVec Ideal S768x4096 .f32) bitsLt_bf16_f32
def normK (X : FVec Ideal S1x4096x256 .f32) (G : FVec Ideal S1x256 .f32) : FVec Ideal S256x4096 .bf16 :=
  truncf .bf16 (transpose S256x4096 [1, 0] (shapeCast S4096x256 (mulf (mulf X (broadcastInDim S1x4096x256 ![0, 1, 2] bcast_S1x4096x1_S1x4096x256_0_1_2
    (Host.rsqrt (addf (Host.divf (broadcastInDim S1x4096x1 ![0, 1] bcast_S1x4096_S1x4096x1_0_1 (Host.reduceAdd (mulf X X) (constant S_ .f32 0x00000000#32) reducesTo_S1x4096x256_S1x4096_d2 h_S_))
      (broadcastInDim S1x4096x1 ![] bcast_S_S1x4096x1 (constant S_ .f32 0x43800000#32))) (broadcastInDim S1x4096x1 ![] bcast_S_S1x4096x1 (constant S_ .f32 0x358637BD#32))))))
    (broadcastInDim S1x4096x256 ![0, 1, 2] bcast_S1x1x256_S1x4096x256_0_1_2 (broadcastInDim S1x1x256 ![2] bcast_S256_S1x1x256_2 (shapeCast S256 G shapeCasts_S1x256_S256))) : FVec Ideal S1x4096x256 .f32)
    shapeCasts_S1x4096x256_S4096x256 : FVec Ideal S4096x256 .f32) transposes_S4096x256_S256x4096_1_0 : FVec Ideal S256x4096 .f32) bitsLt_bf16_f32

variable (m : (ℓ : Loc nD τ sig) → Buf (Elt Ideal) ℓ)

theorem V2 (c : Dev nD) : V m c main_v2 = cosL (m ((c : Thread nD τ).loc main_arg7)) := rfl
theorem V7 (c : Dev nD) : V m c main_v7 = sinLo (m ((c : Thread nD τ).loc main_arg8)) := rfl
theorem V11 (c : Dev nD) : V m c main_v11 = sinHi (m ((c : Thread nD τ).loc main_arg8)) := rfl
theorem V18 (c : Dev nD) : V m c main_v18 = projH (m ((c : Thread nD τ).loc main_arg0)) (m ((c : Thread nD τ).loc main_arg1)) (m ((c : Thread nD τ).loc main_arg2)) := rfl
theorem V69 (c : Dev nD) : V m c main_v69 = heads96 (m ((c : Thread nD τ).loc main_arg9)) := rfl
theorem V73 (c : Dev nD) : V m c main_v73 = heads96 (m ((c : Thread nD τ).loc main_arg10)) := rfl
theorem V77 (c : Dev nD) : V m c main_v77 = heads64 (m ((c : Thread nD τ).loc main_arg11)) := rfl
theorem V79 (c : Dev nD) : V m c main_v79 = weightQ (m ((c : Thread nD τ).loc main_arg4)) := rfl
set_option maxHeartbeats 2000000 in
theorem V81 (c : Dev nD) : V m c main_v81 = weightK (m ((c : Thread nD τ).loc main_arg6)) := rfl
theorem V48 (c : Dev nD) : V m c main_v48 = normQ (m ((c : Thread nD τ).loc main_arg0)) (m ((c : Thread nD τ).loc main_arg3)) := rfl
theorem V65 (c : Dev nD) : V m c main_v65 = normK (m ((c : Thread nD τ).loc main_arg1)) (m ((c : Thread nD τ).loc main_arg5)) := rfl

end Cert.Kernel4Ideal.Mla

end
-- ==== Proof.MlaRead.lean ====
/-
  The host lines before the latent projections' backward region, read at an index.
-/
module

public import proofs.«01_k».proof.Proof.MlaHost
public import proofs.«01_k».proof.Proof.Norm

@[expose] public section

set_option maxRecDepth 16384

noncomputable section

namespace Cert.Kernel4Ideal.Mla

open Cert.Kernel4Ideal Cert.Kernel4Ideal.Gen
open Idealize.ShloMosaic Idealize.ShloMosaic.TcCoe Idealize.SL.Sem
open Idealize.ShloMosaic.Pipeline (Dat)

theorem one_word : Ideal.ofBits .f32 0x3F800000#32 = (1 : EReal) := by
  simp [Ideal.ofBits, Ideal.ieee]; rw [← EReal.coe_mul]; norm_num

theorem zero_word : (FloatOps.sitofp (F := Ideal) .f32 (0#32) : EReal) = 0 := by
  show ((((0#32 : BitVec 32).toInt : ℤ) : ℝ) : EReal) = 0
  simp

theorem cosL_at (C : FVec Ideal S4096x16 .f32) (r : Fin 4096) (l : Fin 128) :
    cosL C (ix2 r l) = if h : l.val < 64 then (1 : EReal) else if h : l.val - 64 < 16 then C (ix2 r ⟨l.val - 64, h⟩)
      else if h : l.val - 64 - 16 < 16 then C (ix2 r ⟨l.val - 64 - 16, h⟩) else 0 := by
  rw [← one_word]
  pointwise [cosL]

theorem sinLo_at (S : FVec Ideal S4096x16 .f32) (r : Fin 4096) (l : Fin 128) :
    sinLo S (ix2 r l) = if h : l.val < 64 then (0 : EReal) else if h : l.val - 64 < 16 then -(S (ix2 r ⟨l.val - 64, h⟩) : EReal)
      else if h : l.val - 64 - 16 < 16 then 0 else 0 := by
  pointwise [sinLo]

theorem sinHi_at (S : FVec Ideal S4096x16 .f32) (r : Fin 4096) (l : Fin 128) :
    sinHi S (ix2 r l) = if h : l.val < 64 then (0 : EReal) else if h : l.val - 64 < 16 then 0
      else if h : l.val - 64 - 16 < 16 then S (ix2 r ⟨l.val - 64 - 16, h⟩) else 0 := by
  pointwise [sinHi]

theorem projH_q (Q : FVec Ideal S1x4096x768 .f32) (K : FVec Ideal S1x4096x256 .f32) (P : FVec Ideal S1x4096x32 .f32) (r : Fin 4096) (i : Fin 768) :
    projH Q K P (ix2 r ⟨4608 + i.val, by omega⟩) = Q (ix3 0 r i) := by
  pointwise [projH]

theorem projH_k (Q : FVec Ideal S1x4096x768 .f32) (K : FVec Ideal S1x4096x256 .f32) (P : FVec Ideal S1x4096x32 .f32) (r : Fin 4096) (i : Fin 256) :
    projH Q K P (ix2 r ⟨5376 + i.val, by omega⟩) = K (ix3 0 r i) := by
  pointwise [projH]
  have e : 5376 + i.val - 4608 - 768 = i.val := by omega
  rw [dif_neg (by omega), dif_neg (by omega), dif_pos (by omega)]
  exact congrArg (fun x => K (ix3 0 r x)) (Fin.ext e)

theorem heads96_at (A : FVec Ideal S1x8x4096x96 .f32) (r : Fin 4096) (j : Fin 1024) :
    heads96 A (ix2 r j) = if h : j.val % 128 < 96 then (A (ix4 0 ⟨j.val / 128, by omega⟩ r ⟨j.val % 128, h⟩) : EReal) else 0 := by
  pointwise [heads96, zeroH]
  by_cases h : j.val % 128 < 96
  · simp only [h, show j.val / 128 < 8 by omega, and_self, ↓reduceDIte]
  · rw [dif_neg (fun e => h e.2), dif_neg h]
    exact zero_word

theorem heads64_at (A : FVec Ideal S1x8x4096x64 .f32) (r : Fin 4096) (j : Fin 1024) :
    heads64 A (ix2 r j) = if h : j.val % 128 < 64 then (A (ix4 0 ⟨j.val / 128, by omega⟩ r ⟨j.val % 128, h⟩) : EReal) else 0 := by
  pointwise [heads64, zeroH]
  by_cases h : j.val % 128 < 64
  · simp only [h, show j.val / 128 < 8 by omega, and_self, ↓reduceDIte]
  · rw [dif_neg (fun e => h e.2), dif_neg h]
    exact zero_word

theorem weightQ_at (W : FVec Ideal S1x768x768 .f32) (i : Fin 768) (j : Fin 1024) :
    weightQ W (ix2 j i) = if h : j.val % 128 < 96 then (W (ix3 0 i ⟨96 * (j.val / 128) + j.val % 128, by omega⟩) : EReal) else 0 := by
  pointwise [weightQ, zeroH]
  by_cases h : j.val % 128 < 96
  · rw [dif_pos ⟨by omega, h⟩, dif_pos h]
    exact congrArg (fun x => W (ix3 0 i x)) (Fin.ext (by simp only; omega))
  · rw [dif_neg (fun e => h e.2), dif_neg h]
    exact zero_word

theorem halfLo_at (W : FVec Ideal S1x256x1024 .f32) (i : Fin 256) (j : Fin 1024) :
    halfLo (byHead W) (ix2 i j) = if h : j.val % 128 < 64 then (W (ix3 0 i ⟨128 * (j.val / 128) + j.val % 128, by omega⟩) : EReal) else 0 := by
  pointwise [halfLo, byHead, zeroH]
  by_cases h : j.val % 128 < 64
  · rw [dif_pos ⟨by omega, h⟩, dif_pos h]
    exact congrArg (fun x => W (ix3 0 i x)) (Fin.ext (by simp only; omega))
  · rw [dif_neg (fun e => h e.2), dif_neg h]
    exact zero_word

theorem halfHi_at (W : FVec Ideal S1x256x1024 .f32) (i : Fin 256) (j : Fin 1024) :
    halfHi (byHead W) (ix2 i j) = if h : j.val % 128 < 64 then (W (ix3 0 i ⟨128 * (j.val / 128) + 64 + j.val % 128, by omega⟩) : EReal) else 0 := by
  pointwise [halfHi, byHead, zeroH]
  by_cases h : j.val % 128 < 64
  · rw [dif_pos ⟨by omega, h⟩, dif_pos h]
    exact congrArg (fun x => W (ix3 0 i x)) (Fin.ext (by simp only; omega))
  · rw [dif_neg (fun e => h e.2), dif_neg h]
    exact zero_word

theorem n768 : Ideal.ofBits .f32 0x44400000#32 = ((768 : ℝ) : EReal) := by
  simp [Ideal.ofBits, Ideal.ieee]; rw [← EReal.coe_mul]; norm_num

theorem n256 : Ideal.ofBits .f32 0x43800000#32 = ((256 : ℝ) : EReal) := by
  simp [Ideal.ofBits, Ideal.ieee]; rw [← EReal.coe_mul]; norm_num

/-- A row's mean square, and the small constant. -/
def uq (X : FVec Ideal S1x4096x768 .f32) (r : Fin 4096) : EReal :=
  Ideal.div (∑ k : Fin 768, X (ix3 0 r k) * X (ix3 0 r k)) (768 : ℝ) + (Ideal.ofBits .f32 0x358637BD#32)
def uk (X : FVec Ideal S1x4096x256 .f32) (r : Fin 4096) : EReal :=
  Ideal.div (∑ k : Fin 256, X (ix3 0 r k) * X (ix3 0 r k)) (256 : ℝ) + (Ideal.ofBits .f32 0x358637BD#32)

theorem normQ_at (X : FVec Ideal S1x4096x768 .f32) (G : FVec Ideal S1x768 .f32) (r : Fin 4096) (i : Fin 768) :
    normQ X G (ix2 i r) = X (ix3 0 r i) * Ideal.rsqrt (uq X r) * G (ix2 0 i) := by
  unfold uq
  rw [← n768]
  pointwise [normQ]

theorem normK_at (X : FVec Ideal S1x4096x256 .f32) (G : FVec Ideal S1x256 .f32) (r : Fin 4096) (i : Fin 256) :
    normK X G (ix2 i r) = X (ix3 0 r i) * Ideal.rsqrt (uk X r) * G (ix2 0 i) := by
  unfold uk
  rw [← n256]
  pointwise [normK]

end Cert.Kernel4Ideal.Mla

end
-- ==== Proof.MlaPay.lean ====
/-
  The blocks that one step of the latent projections' backward region keeps, read at an index.
-/
module

public import proofs.«01_k».proof.Proof.MlaRead
public import proofs.«01_k».proof.Proof.Gen.Kernel4Ideal.Frame
public import Idealize.ShloMosaic.Lib.Pipeline.ValueKit
public import Idealize.ShloMosaic.Lib.Claim
public import Idealize.ShloMosaic.Lib.Pointwise

@[expose] public section

set_option maxRecDepth 16384

noncomputable section

namespace Cert.Kernel4Ideal.Mla

open Cert.Kernel4Ideal Cert.Kernel4Ideal.Gen
open Idealize.ShloMosaic Idealize.ShloMosaic.TcCoe Idealize.SL.Sem
open Idealize.ShloMosaic.Pipeline (Dat)

abbrev scaleK : EReal := Ideal.ofBits .f32 0x3DD105EC#32

/-- A head's lanes turned back: each lane by its own factor, and its neighbours sixteen lanes away by theirs. -/
def turn (D : Fin 512 → Fin 128 → EReal) (C S T : Vec Ideal S512x128 .f32) (a : Fin 512) (l : Fin 128) : EReal :=
  D a l * C (ix2 a l) + D a ⟨(l.val + 128 - 16) % 128, Nat.mod_lt _ (by decide)⟩ * S (ix2 a ⟨(l.val + 128 - 16) % 128, Nat.mod_lt _ (by decide)⟩)
    + D a ⟨(l.val + 128 - 112) % 128, Nat.mod_lt _ (by decide)⟩ * T (ix2 a ⟨(l.val + 128 - 112) % 128, Nat.mod_lt _ (by decide)⟩)

theorem lanes (x : S512x128.Idx) : ∃ (p : Fin 512) (q : Fin 128), x = ix2 p q := by
  idx_vars x
  exact ⟨_, _, rfl⟩

theorem below64 : ∀ l : Fin 128, IntOp.cmpi CmpIPredicate.slt (BitVec.ofNat 32 l.val) 64#32 = if l.val < 64 then 1#1 else 0#1 := by
  decide +kernel

theorem pick64 (l : Fin 128) (x : EReal) :
    Scalar.select (IntOp.cmpi CmpIPredicate.slt (BitVec.ofNat 32 l.val) 64#32) x 0 = if l.val < 64 then x else 0 := by
  rw [below64]
  by_cases h : l.val < 64
  · rw [if_pos h, if_pos h]; rfl
  · rw [if_neg h, if_neg h]; rfl

abbrev laneNo : IVec S512x128 32 := iota .tc S512x128 32 [1] iota_S512x128_d1_w32

section Pieces
variable (C S T : Vec Ideal S512x128 .f32) (D : Vec Ideal S512x128 .bf16) (a : Fin 512) (l : Fin 128)

theorem turned0 : k0_pay27 (F := Ideal) C S T D (ix2 a l) = turn (fun x y => D (ix2 x y)) C S T a l * scaleK := by
  unfold turn
  pointwise [k0_pay27, k0_pay66, k0_pay24, k0_pay25, k0_pay26]
theorem turned1 : k0_pay34 (F := Ideal) (k0_pay24 C) (k0_pay25 S) (k0_pay26 T) D (ix2 a l) = turn (fun x y => D (ix2 x y)) C S T a l * scaleK := by
  unfold turn
  pointwise [k0_pay34, k0_pay66, k0_pay24, k0_pay25, k0_pay26]
theorem turned2 : k0_pay40 (F := Ideal) (k0_pay24 C) (k0_pay25 S) (k0_pay26 T) D (ix2 a l) = turn (fun x y => D (ix2 x y)) C S T a l * scaleK := by
  unfold turn
  pointwise [k0_pay40, k0_pay66, k0_pay24, k0_pay25, k0_pay26]
theorem turned3 : k0_pay46 (F := Ideal) (k0_pay24 C) (k0_pay25 S) (k0_pay26 T) D (ix2 a l) = turn (fun x y => D (ix2 x y)) C S T a l * scaleK := by
  unfold turn
  pointwise [k0_pay46, k0_pay66, k0_pay24, k0_pay25, k0_pay26]
theorem turned4 : k0_pay51 (F := Ideal) (k0_pay24 C) (k0_pay25 S) (k0_pay26 T) D (ix2 a l) = turn (fun x y => D (ix2 x y)) C S T a l * scaleK := by
  unfold turn
  pointwise [k0_pay51, k0_pay66, k0_pay24, k0_pay25, k0_pay26]
theorem turned5 : k0_pay56 (F := Ideal) (k0_pay24 C) (k0_pay25 S) (k0_pay26 T) D (ix2 a l) = turn (fun x y => D (ix2 x y)) C S T a l * scaleK := by
  unfold turn
  pointwise [k0_pay56, k0_pay66, k0_pay24, k0_pay25, k0_pay26]
theorem turned6 : k0_pay61 (F := Ideal) (k0_pay24 C) (k0_pay25 S) (k0_pay26 T) D (ix2 a l) = turn (fun x y => D (ix2 x y)) C S T a l * scaleK := by
  unfold turn
  pointwise [k0_pay61, k0_pay66, k0_pay24, k0_pay25, k0_pay26]
theorem turned7 : k0_pay67 (F := Ideal) (k0_pay66 (k0_pay24 C) (k0_pay25 S) (k0_pay26 T) D) (ix2 a l) = turn (fun x y => D (ix2 x y)) C S T a l * scaleK := by
  unfold turn
  pointwise [k0_pay67, k0_pay66, k0_pay24, k0_pay25, k0_pay26]
theorem low0 : k0_pay32 (F := Ideal) (k0_pay28 D) k0_pay30 k0_pay31 (ix2 a l) = if l.val < 64 then (D (ix2 a l) : EReal) else 0 := by
  rw [← pick64]
  pointwise [k0_pay32, k0_pay28, k0_pay30, k0_pay31, laneNo]
theorem low1 : k0_pay38 (F := Ideal) (k0_pay35 D) (k0_pay37 laneNo) (FloatOps.ofBits FTy.f32 0#32) (ix2 a l) = if l.val < 64 then (D (ix2 a l) : EReal) else 0 := by
  rw [← pick64]
  pointwise [k0_pay38, k0_pay35, k0_pay37, laneNo]
theorem low2 : k0_pay44 (F := Ideal) laneNo (k0_pay41 D) k0_pay43 (ix2 a l) = if l.val < 64 then (D (ix2 a l) : EReal) else 0 := by
  rw [← pick64]
  pointwise [k0_pay44, k0_pay41, k0_pay43, laneNo]
theorem low3 : k0_pay49 (F := Ideal) laneNo (k0_pay47 D) (ix2 a l) = if l.val < 64 then (D (ix2 a l) : EReal) else 0 := by
  rw [← pick64]
  pointwise [k0_pay49, k0_pay47, laneNo]
theorem low4 : k0_pay54 (F := Ideal) laneNo (k0_pay52 D) (ix2 a l) = if l.val < 64 then (D (ix2 a l) : EReal) else 0 := by
  rw [← pick64]
  pointwise [k0_pay54, k0_pay52, laneNo]
theorem low5 : k0_pay59 (F := Ideal) laneNo D (ix2 a l) = if l.val < 64 then (D (ix2 a l) : EReal) else 0 := by
  rw [← pick64]
  pointwise [k0_pay59, k0_pay57, k0_pay58, k0_pay62, k0_pay63, k0_pay68, laneNo]
theorem low6 : k0_pay64 (F := Ideal) laneNo D (ix2 a l) = if l.val < 64 then (D (ix2 a l) : EReal) else 0 := by
  rw [← pick64]
  pointwise [k0_pay64, k0_pay57, k0_pay58, k0_pay62, k0_pay63, k0_pay68, laneNo]
theorem low7 : k0_pay69 (F := Ideal) laneNo D (ix2 a l) = if l.val < 64 then (D (ix2 a l) : EReal) else 0 := by
  rw [← pick64]
  pointwise [k0_pay69, k0_pay57, k0_pay58, k0_pay62, k0_pay63, k0_pay68, laneNo]
theorem high0 : k0_pay33 (F := Ideal) laneNo D (ix2 a l) = if l.val < 64 then (D (ix2 a l) : EReal) else 0 := by
  rw [← pick64]
  pointwise [k0_pay33, laneNo]
theorem high1 : k0_pay39 (F := Ideal) laneNo D (ix2 a l) = if l.val < 64 then (D (ix2 a l) : EReal) else 0 := by
  rw [← pick64]
  pointwise [k0_pay39, laneNo]
theorem high2 : k0_pay45 (F := Ideal) laneNo D (ix2 a l) = if l.val < 64 then (D (ix2 a l) : EReal) else 0 := by
  rw [← pick64]
  pointwise [k0_pay45, laneNo]
theorem high3 : k0_pay50 (F := Ideal) laneNo D (ix2 a l) = if l.val < 64 then (D (ix2 a l) : EReal) else 0 := by
  rw [← pick64]
  pointwise [k0_pay50, laneNo]
theorem high4 : k0_pay55 (F := Ideal) laneNo D (ix2 a l) = if l.val < 64 then (D (ix2 a l) : EReal) else 0 := by
  rw [← pick64]
  pointwise [k0_pay55, laneNo]
theorem high5 : k0_pay60 (F := Ideal) laneNo D (ix2 a l) = if l.val < 64 then (D (ix2 a l) : EReal) else 0 := by
  rw [← pick64]
  pointwise [k0_pay60, laneNo]
theorem high6 : k0_pay65 (F := Ideal) laneNo D (ix2 a l) = if l.val < 64 then (D (ix2 a l) : EReal) else 0 := by
  rw [← pick64]
  pointwise [k0_pay65, laneNo]
theorem high7 : k0_pay70 (F := Ideal) laneNo D (ix2 a l) = if l.val < 64 then (D (ix2 a l) : EReal) else 0 := by
  rw [← pick64]
  pointwise [k0_pay70, laneNo]

end Pieces

/-- The turned cotangent of the queries that a step keeps. -/
def dqB (Q : Vec Ideal S512x1024 .bf16) (C S T : Vec Ideal S512x128 .f32) : Vec Ideal S512x1024 .bf16 :=
  (View.whole cc0_scratch0).readCov [
    ⟨Rect.unit ![0, 896] ![512, 128] inb_S512x1024_S512x128_0_896, k0_pay67 (F := Ideal) (k0_pay66 (k0_pay24 C) (k0_pay25 S) (k0_pay26 T) (View.ld Q (Rect.unit ![0, 896] ![512, 128] inb_S512x1024_S512x128_0_896)))⟩,
    ⟨Rect.unit ![0, 768] ![512, 128] inb_S512x1024_S512x128_0_768, k0_pay61 (F := Ideal) (k0_pay24 C) (k0_pay25 S) (k0_pay26 T) (View.ld Q (Rect.unit ![0, 768] ![512, 128] inb_S512x1024_S512x128_0_768))⟩,
    ⟨Rect.unit ![0, 640] ![512, 128] inb_S512x1024_S512x128_0_640, k0_pay56 (F := Ideal) (k0_pay24 C) (k0_pay25 S) (k0_pay26 T) (View.ld Q (Rect.unit ![0, 640] ![512, 128] inb_S512x1024_S512x128_0_640))⟩,
    ⟨Rect.unit ![0, 512] ![512, 128] inb_S512x1024_S512x128_0_512, k0_pay51 (F := Ideal) (k0_pay24 C) (k0_pay25 S) (k0_pay26 T) (View.ld Q (Rect.unit ![0, 512] ![512, 128] inb_S512x1024_S512x128_0_512))⟩,
    ⟨Rect.unit ![0, 384] ![512, 128] inb_S512x1024_S512x128_0_384, k0_pay46 (F := Ideal) (k0_pay24 C) (k0_pay25 S) (k0_pay26 T) (View.ld Q (Rect.unit ![0, 384] ![512, 128] inb_S512x1024_S512x128_0_384))⟩,
    ⟨Rect.unit ![0, 256] ![512, 128] inb_S512x1024_S512x128_0_256, k0_pay40 (F := Ideal) (k0_pay24 C) (k0_pay25 S) (k0_pay26 T) (View.ld Q (Rect.unit ![0, 256] ![512, 128] inb_S512x1024_S512x128_0_256))⟩,
    ⟨Rect.unit ![0, 128] ![512, 128] inb_S512x1024_S512x128_0_128, k0_pay34 (F := Ideal) (k0_pay24 C) (k0_pay25 S) (k0_pay26 T) (View.ld Q (Rect.unit ![0, 128] ![512, 128] inb_S512x1024_S512x128_0_128))⟩,
    ⟨Rect.unit ![0, 0] ![512, 128] inb_S512x1024_S512x128_0_0, k0_pay27 (F := Ideal) C S T (View.ld Q (Rect.unit ![0, 0] ![512, 128] inb_S512x1024_S512x128_0_0))⟩] (Rect.unit ![0, 0] ![512, 1024] inb_S512x1024_S512x1024_0_0).toLoadRect

/-- The cotangents of the keys and of the values that a step keeps, side by side. -/
def dkvB (K Vv : Vec Ideal S512x1024 .bf16) : Vec Ideal S512x2048 .bf16 :=
  (View.whole cc0_scratch1).readCov [
    ⟨Rect.unit ![0, 1920] ![512, 128] inb_S512x2048_S512x128_0_1920, k0_pay70 (F := Ideal) laneNo (View.ld Vv (Rect.unit ![0, 896] ![512, 128] inb_S512x1024_S512x128_0_896))⟩,
    ⟨Rect.unit ![0, 896] ![512, 128] inb_S512x2048_S512x128_0_896, k0_pay69 (F := Ideal) laneNo (View.ld K (Rect.unit ![0, 896] ![512, 128] inb_S512x1024_S512x128_0_896))⟩,
    ⟨Rect.unit ![0, 1792] ![512, 128] inb_S512x2048_S512x128_0_1792, k0_pay65 (F := Ideal) laneNo (View.ld Vv (Rect.unit ![0, 768] ![512, 128] inb_S512x1024_S512x128_0_768))⟩,
    ⟨Rect.unit ![0, 768] ![512, 128] inb_S512x2048_S512x128_0_768, k0_pay64 (F := Ideal) laneNo (View.ld K (Rect.unit ![0, 768] ![512, 128] inb_S512x1024_S512x128_0_768))⟩,
    ⟨Rect.unit ![0, 1664] ![512, 128] inb_S512x2048_S512x128_0_1664, k0_pay60 (F := Ideal) laneNo (View.ld Vv (Rect.unit ![0, 640] ![512, 128] inb_S512x1024_S512x128_0_640))⟩,
    ⟨Rect.unit ![0, 640] ![512, 128] inb_S512x2048_S512x128_0_640, k0_pay59 (F := Ideal) laneNo (View.ld K (Rect.unit ![0, 640] ![512, 128] inb_S512x1024_S512x128_0_640))⟩,
    ⟨Rect.unit ![0, 1536] ![512, 128] inb_S512x2048_S512x128_0_1536, k0_pay55 (F := Ideal) laneNo (View.ld Vv (Rect.unit ![0, 512] ![512, 128] inb_S512x1024_S512x128_0_512))⟩,
    ⟨Rect.unit ![0, 512] ![512, 128] inb_S512x2048_S512x128_0_512, k0_pay54 (F := Ideal) laneNo (k0_pay52 (View.ld K (Rect.unit ![0, 512] ![512, 128] inb_S512x1024_S512x128_0_512)))⟩,
    ⟨Rect.unit ![0, 1408] ![512, 128] inb_S512x2048_S512x128_0_1408, k0_pay50 (F := Ideal) laneNo (View.ld Vv (Rect.unit ![0, 384] ![512, 128] inb_S512x1024_S512x128_0_384))⟩,
    ⟨Rect.unit ![0, 384] ![512, 128] inb_S512x2048_S512x128_0_384, k0_pay49 (F := Ideal) laneNo (k0_pay47 (View.ld K (Rect.unit ![0, 384] ![512, 128] inb_S512x1024_S512x128_0_384)))⟩,
    ⟨Rect.unit ![0, 1280] ![512, 128] inb_S512x2048_S512x128_0_1280, k0_pay45 (F := Ideal) laneNo (View.ld Vv (Rect.unit ![0, 256] ![512, 128] inb_S512x1024_S512x128_0_256))⟩,
    ⟨Rect.unit ![0, 256] ![512, 128] inb_S512x2048_S512x128_0_256, k0_pay44 (F := Ideal) laneNo (k0_pay41 (View.ld K (Rect.unit ![0, 256] ![512, 128] inb_S512x1024_S512x128_0_256))) k0_pay43⟩,
    ⟨Rect.unit ![0, 1152] ![512, 128] inb_S512x2048_S512x128_0_1152, k0_pay39 (F := Ideal) laneNo (View.ld Vv (Rect.unit ![0, 128] ![512, 128] inb_S512x1024_S512x128_0_128))⟩,
    ⟨Rect.unit ![0, 128] ![512, 128] inb_S512x2048_S512x128_0_128, k0_pay38 (F := Ideal) (k0_pay35 (View.ld K (Rect.unit ![0, 128] ![512, 128] inb_S512x1024_S512x128_0_128))) (k0_pay37 laneNo) (FloatOps.ofBits FTy.f32 0#32)⟩,
    ⟨Rect.unit ![0, 1024] ![512, 128] inb_S512x2048_S512x128_0_1024, k0_pay33 (F := Ideal) laneNo (View.ld Vv (Rect.unit ![0, 0] ![512, 128] inb_S512x1024_S512x128_0_0))⟩,
    ⟨Rect.unit ![0, 0] ![512, 128] inb_S512x2048_S512x128_0_0, k0_pay32 (F := Ideal) (k0_pay28 (View.ld K (Rect.unit ![0, 0] ![512, 128] inb_S512x1024_S512x128_0_0))) k0_pay30 k0_pay31⟩] (Rect.unit ![0, 0] ![512, 2048] inb_S512x2048_S512x2048_0_0).toLoadRect

theorem turn_of (Q : Vec Ideal S512x1024 .bf16) (C S T : Vec Ideal S512x128 .f32) (a : Fin 512) (j : Fin 1024) (o : Nat)
    (inb : ∀ d, ![0, o] d + ![512, 128] d ≤ S512x1024.size d) (p : Fin 512) (q : Fin 128) (hp : a.val = p.val)
    (hq : j.val = o + q.val) (ho : o = 128 * (j.val / 128)) :
    turn (fun x y => View.ld Q (Rect.unit ![0, o] ![512, 128] inb) (ix2 x y)) C S T p q * scaleK
      = turn (fun x y => Q (ix2 x ⟨128 * (j.val / 128) + y.val, by omega⟩)) C S T a ⟨j.val % 128, by omega⟩ * scaleK := by
  have e : (fun x y => View.ld Q (Rect.unit ![0, o] ![512, 128] inb) (ix2 x y)) = (fun (x : Fin 512) (y : Fin 128) => Q (ix2 x ⟨128 * (j.val / 128) + y.val, by omega⟩)) := by
    funext x y
    refine View.ld_unit_apply_of _ _ _ _ _ _ fun d => ?_
    match d with
    | ⟨0, _⟩ => exact (Nat.zero_add _).symm
    | ⟨1, _⟩ => exact congrArg (· + y.val) ho.symm
  rw [e]
  have ep : p = a := Fin.ext hp.symm
  have eq : q = ⟨j.val % 128, by omega⟩ := Fin.ext (by show q.val = j.val % 128; omega)
  rw [ep]
  exact congrArg (fun z => turn (fun x y => Q (ix2 x ⟨128 * (j.val / 128) + y.val, by omega⟩)) C S T a z * scaleK) eq

theorem dqB_at (Q : Vec Ideal S512x1024 .bf16) (C S T : Vec Ideal S512x128 .f32) (a : Fin 512) (j : Fin 1024) :
    dqB Q C S T (ix2 a j) = turn (fun x y => Q (ix2 x ⟨128 * (j.val / 128) + y.val, by omega⟩)) C S T a ⟨j.val % 128, by omega⟩ * scaleK := by
  unfold dqB
  rw [View.readCov_eq_canon_ld _ _ _ (View.cover_of_tiledL (s := S512x1024) _ S512x128.size (by sl_kernel_rfl))]
  refine (View.ld_unit_apply_of _ _ _ _ _ (ix2 a j) (fun d => by match d with | ⟨0, _⟩ => exact (Nat.zero_add _).symm | ⟨1, _⟩ => exact (Nat.zero_add _).symm)).trans ?_
  canon_tiles x h
  · obtain ⟨p, q, rfl⟩ := lanes x
    have e : j.val = 896 + q.val := h1.trans (by first | rfl | exact (Nat.zero_add _).symm)
    exact (turned7 _ _ _ _ p q).trans (turn_of Q C S T a j 896 _ p q h0 e (by omega))
  · obtain ⟨p, q, rfl⟩ := lanes x
    have e : j.val = 768 + q.val := h1.trans (by first | rfl | exact (Nat.zero_add _).symm)
    exact (turned6 _ _ _ _ p q).trans (turn_of Q C S T a j 768 _ p q h0 e (by omega))
  · obtain ⟨p, q, rfl⟩ := lanes x
    have e : j.val = 640 + q.val := h1.trans (by first | rfl | exact (Nat.zero_add _).symm)
    exact (turned5 _ _ _ _ p q).trans (turn_of Q C S T a j 640 _ p q h0 e (by omega))
  · obtain ⟨p, q, rfl⟩ := lanes x
    have e : j.val = 512 + q.val := h1.trans (by first | rfl | exact (Nat.zero_add _).symm)
    exact (turned4 _ _ _ _ p q).trans (turn_of Q C S T a j 512 _ p q h0 e (by omega))
  · obtain ⟨p, q, rfl⟩ := lanes x
    have e : j.val = 384 + q.val := h1.trans (by first | rfl | exact (Nat.zero_add _).symm)
    exact (turned3 _ _ _ _ p q).trans (turn_of Q C S T a j 384 _ p q h0 e (by omega))
  · obtain ⟨p, q, rfl⟩ := lanes x
    have e : j.val = 256 + q.val := h1.trans (by first | rfl | exact (Nat.zero_add _).symm)
    exact (turned2 _ _ _ _ p q).trans (turn_of Q C S T a j 256 _ p q h0 e (by omega))
  · obtain ⟨p, q, rfl⟩ := lanes x
    have e : j.val = 128 + q.val := h1.trans (by first | rfl | exact (Nat.zero_add _).symm)
    exact (turned1 _ _ _ _ p q).trans (turn_of Q C S T a j 128 _ p q h0 e (by omega))
  · obtain ⟨p, q, rfl⟩ := lanes x
    have e : j.val = 0 + q.val := h1.trans (by first | rfl | exact (Nat.zero_add _).symm)
    exact (turned0 _ _ _ _ p q).trans (turn_of Q C S T a j 0 _ p q h0 e (by omega))

theorem keep_of (K : Vec Ideal S512x1024 .bf16) (v : EReal) (b o : Nat) (j : Fin 2048) (i : Fin 1024)
    (inb : ∀ d, ![0, o] d + ![512, 128] d ≤ S512x1024.size d) (a p : Fin 512) (q : Fin 128) (hp : a.val = p.val)
    (hq : j.val = b + q.val) (hi : i.val = o + q.val) (hb : b % 128 = 0) (hv : v = K (ix2 a i)) :
    (if q.val < 64 then (View.ld K (Rect.unit ![0, o] ![512, 128] inb) (ix2 p q) : EReal) else 0)
      = if j.val % 128 < 64 then v else 0 := by
  have e : View.ld K (Rect.unit ![0, o] ![512, 128] inb) (ix2 p q) = K (ix2 a i) := by
    refine View.ld_unit_apply_of _ _ _ _ _ _ fun d => ?_
    match d with
    | ⟨0, _⟩ => exact hp.trans (Nat.zero_add _).symm
    | ⟨1, _⟩ => exact hi
  rw [e, ← hv]
  have : j.val % 128 = q.val := by omega
  rw [this]

theorem dkvB_at (K Vv : Vec Ideal S512x1024 .bf16) (a : Fin 512) (j : Fin 2048) :
    dkvB K Vv (ix2 a j) = if j.val % 128 < 64 then (if h : j.val < 1024 then (K (ix2 a ⟨j.val, h⟩) : EReal) else Vv (ix2 a ⟨j.val - 1024, by omega⟩)) else 0 := by
  unfold dkvB
  rw [View.readCov_eq_canon_ld _ _ _ (View.cover_of_tiledL (s := S512x2048) _ S512x128.size (by sl_kernel_rfl))]
  refine (View.ld_unit_apply_of _ _ _ _ _ (ix2 a j) (fun d => by match d with | ⟨0, _⟩ => exact (Nat.zero_add _).symm | ⟨1, _⟩ => exact (Nat.zero_add _).symm)).trans ?_
  canon_tiles x h
  · obtain ⟨p, q, rfl⟩ := lanes x
    have e : j.val = 1920 + q.val := h1.trans (by first | rfl | exact (Nat.zero_add _).symm)
    exact (high7 _ p q).trans (keep_of Vv _ 1920 896 j ⟨j.val - 1024, by have := q.isLt; omega⟩ _ a p q h0 e (by show j.val - 1024 = _; omega) (by decide) (dif_neg (by omega)))
  · obtain ⟨p, q, rfl⟩ := lanes x
    have e : j.val = 896 + q.val := h1.trans (by first | rfl | exact (Nat.zero_add _).symm)
    exact (low7 _ p q).trans (keep_of K _ 896 896 j ⟨j.val, by have := q.isLt; omega⟩ _ a p q h0 e (by show j.val = _; omega) (by decide) (dif_pos (by omega)))
  · obtain ⟨p, q, rfl⟩ := lanes x
    have e : j.val = 1792 + q.val := h1.trans (by first | rfl | exact (Nat.zero_add _).symm)
    exact (high6 _ p q).trans (keep_of Vv _ 1792 768 j ⟨j.val - 1024, by have := q.isLt; omega⟩ _ a p q h0 e (by show j.val - 1024 = _; omega) (by decide) (dif_neg (by omega)))
  · obtain ⟨p, q, rfl⟩ := lanes x
    have e : j.val = 768 + q.val := h1.trans (by first | rfl | exact (Nat.zero_add _).symm)
    exact (low6 _ p q).trans (keep_of K _ 768 768 j ⟨j.val, by have := q.isLt; omega⟩ _ a p q h0 e (by show j.val = _; omega) (by decide) (dif_pos (by omega)))
  · obtain ⟨p, q, rfl⟩ := lanes x
    have e : j.val = 1664 + q.val := h1.trans (by first | rfl | exact (Nat.zero_add _).symm)
    exact (high5 _ p q).trans (keep_of Vv _ 1664 640 j ⟨j.val - 1024, by have := q.isLt; omega⟩ _ a p q h0 e (by show j.val - 1024 = _; omega) (by decide) (dif_neg (by omega)))
  · obtain ⟨p, q, rfl⟩ := lanes x
    have e : j.val = 640 + q.val := h1.trans (by first | rfl | exact (Nat.zero_add _).symm)
    exact (low5 _ p q).trans (keep_of K _ 640 640 j ⟨j.val, by have := q.isLt; omega⟩ _ a p q h0 e (by show j.val = _; omega) (by decide) (dif_pos (by omega)))
  · obtain ⟨p, q, rfl⟩ := lanes x
    have e : j.val = 1536 + q.val := h1.trans (by first | rfl | exact (Nat.zero_add _).symm)
    exact (high4 _ p q).trans (keep_of Vv _ 1536 512 j ⟨j.val - 1024, by have := q.isLt; omega⟩ _ a p q h0 e (by show j.val - 1024 = _; omega) (by decide) (dif_neg (by omega)))
  · obtain ⟨p, q, rfl⟩ := lanes x
    have e : j.val = 512 + q.val := h1.trans (by first | rfl | exact (Nat.zero_add _).symm)
    exact (low4 _ p q).trans (keep_of K _ 512 512 j ⟨j.val, by have := q.isLt; omega⟩ _ a p q h0 e (by show j.val = _; omega) (by decide) (dif_pos (by omega)))
  · obtain ⟨p, q, rfl⟩ := lanes x
    have e : j.val = 1408 + q.val := h1.trans (by first | rfl | exact (Nat.zero_add _).symm)
    exact (high3 _ p q).trans (keep_of Vv _ 1408 384 j ⟨j.val - 1024, by have := q.isLt; omega⟩ _ a p q h0 e (by show j.val - 1024 = _; omega) (by decide) (dif_neg (by omega)))
  · obtain ⟨p, q, rfl⟩ := lanes x
    have e : j.val = 384 + q.val := h1.trans (by first | rfl | exact (Nat.zero_add _).symm)
    exact (low3 _ p q).trans (keep_of K _ 384 384 j ⟨j.val, by have := q.isLt; omega⟩ _ a p q h0 e (by show j.val = _; omega) (by decide) (dif_pos (by omega)))
  · obtain ⟨p, q, rfl⟩ := lanes x
    have e : j.val = 1280 + q.val := h1.trans (by first | rfl | exact (Nat.zero_add _).symm)
    exact (high2 _ p q).trans (keep_of Vv _ 1280 256 j ⟨j.val - 1024, by have := q.isLt; omega⟩ _ a p q h0 e (by show j.val - 1024 = _; omega) (by decide) (dif_neg (by omega)))
  · obtain ⟨p, q, rfl⟩ := lanes x
    have e : j.val = 256 + q.val := h1.trans (by first | rfl | exact (Nat.zero_add _).symm)
    exact (low2 _ p q).trans (keep_of K _ 256 256 j ⟨j.val, by have := q.isLt; omega⟩ _ a p q h0 e (by show j.val = _; omega) (by decide) (dif_pos (by omega)))
  · obtain ⟨p, q, rfl⟩ := lanes x
    have e : j.val = 1152 + q.val := h1.trans (by first | rfl | exact (Nat.zero_add _).symm)
    exact (high1 _ p q).trans (keep_of Vv _ 1152 128 j ⟨j.val - 1024, by have := q.isLt; omega⟩ _ a p q h0 e (by show j.val - 1024 = _; omega) (by decide) (dif_neg (by omega)))
  · obtain ⟨p, q, rfl⟩ := lanes x
    have e : j.val = 128 + q.val := h1.trans (by first | rfl | exact (Nat.zero_add _).symm)
    exact (low1 _ p q).trans (keep_of K _ 128 128 j ⟨j.val, by have := q.isLt; omega⟩ _ a p q h0 e (by show j.val = _; omega) (by decide) (dif_pos (by omega)))
  · obtain ⟨p, q, rfl⟩ := lanes x
    have e : j.val = 1024 + q.val := h1.trans (by first | rfl | exact (Nat.zero_add _).symm)
    exact (high0 _ p q).trans (keep_of Vv _ 1024 0 j ⟨j.val - 1024, by have := q.isLt; omega⟩ _ a p q h0 e (by show j.val - 1024 = _; omega) (by decide) (dif_neg (by omega)))
  · obtain ⟨p, q, rfl⟩ := lanes x
    have e : j.val = 0 + q.val := h1.trans (by first | rfl | exact (Nat.zero_add _).symm)
    exact (low0 _ p q).trans (keep_of K _ 0 0 j ⟨j.val, by have := q.isLt; omega⟩ _ a p q h0 e (by show j.val = _; omega) (by decide) (dif_pos (by omega)))

end Cert.Kernel4Ideal.Mla
end
-- ==== Proof.MlaNorm.lean ====
/-
  The products and the norms' lines of one step of the latent projections' backward region, read at an index.
-/
module

public import proofs.«01_k».proof.Proof.MlaPay
public import proofs.«01_k».proof.Proof.Gen.Kernel4Ideal.Frame
public import Idealize.ShloMosaic.Lib.Pipeline.ValueKit
public import Idealize.ShloMosaic.Lib.Claim
public import Idealize.ShloMosaic.Lib.Pointwise

@[expose] public section

set_option maxRecDepth 16384

noncomputable section

namespace Cert.Kernel4Ideal.Mla

open Cert.Kernel4Ideal Cert.Kernel4Ideal.Gen
open Idealize.ShloMosaic Idealize.ShloMosaic.TcCoe Idealize.SL.Sem
open Idealize.ShloMosaic.Pipeline (Dat)

/-- A row's mean square within a block, and the small constant. -/
def ubq (X : Vec Ideal S512x768 .f32) (a : Fin 512) : EReal :=
  Ideal.div (∑ k : Fin 768, X (ix2 a k) * X (ix2 a k)) (768 : ℝ) + (Ideal.ofBits .f32 0x358637BD#32)
def ubk (X : Vec Ideal S512x256 .f32) (a : Fin 512) : EReal :=
  Ideal.div (∑ k : Fin 256, X (ix2 a k) * X (ix2 a k)) (256 : ℝ) + (Ideal.ofBits .f32 0x358637BD#32)

theorem dwq_at (P : Vec Ideal S512x1024 .bf16) (A : Vec Ideal S768x1024 .f32) (X : Vec Ideal S768x512 .bf16) (i : Fin 768) (j : Fin 1024) :
    k0_pay72 (F := Ideal) P A X (ix2 i j) = A (ix2 i j) + ∑ r : Fin 512, X (ix2 i r) * P (ix2 r j) := by
  pointwise [k0_pay72]

theorem dwk_at (P : Vec Ideal S512x2048 .bf16) (A : Vec Ideal S256x2048 .f32) (X : Vec Ideal S256x512 .bf16) (i : Fin 256) (j : Fin 2048) :
    k0_pay73 (F := Ideal) P A X (ix2 i j) = A (ix2 i j) + ∑ r : Fin 512, X (ix2 i r) * P (ix2 r j) := by
  pointwise [k0_pay73]

theorem dnq_at (P : Vec Ideal S512x1024 .bf16) (W : Vec Ideal S1024x768 .bf16) (a : Fin 512) (k : Fin 768) :
    k0_pay74 (F := Ideal) P W (ix2 a k) = ∑ j : Fin 1024, P (ix2 a j) * W (ix2 j k) := by
  pointwise [k0_pay74]

theorem dnk_at (P : Vec Ideal S512x2048 .bf16) (W : Vec Ideal S2048x256 .bf16) (a : Fin 512) (k : Fin 256) :
    k0_pay75 (F := Ideal) P W (ix2 a k) = ∑ j : Fin 2048, P (ix2 a j) * W (ix2 j k) := by
  pointwise [k0_pay75]

theorem dgq_at (D : FVec Ideal S512x768 .f32) (X : Vec Ideal S512x768 .f32) (A : Vec Ideal S1x768 .f32) (k : Fin 768) :
    k0_pay80 (F := Ideal) D (k0_pay76 X) (k0_pay77 X) A (ix2 0 k)
      = A (ix2 0 k) + ∑ a : Fin 512, D (ix2 a k) * (X (ix2 a k) * Ideal.rsqrt (ubq X a)) := by
  unfold ubq
  rw [← n768]
  pointwise [k0_pay80, k0_pay76, k0_pay77, k0_pay78, k0_pay79]

theorem dgk_at (D : FVec Ideal S512x256 .f32) (X : Vec Ideal S512x256 .f32) (A : Vec Ideal S1x256 .f32) (k : Fin 256) :
    k0_pay2 (F := Ideal) D (k0_pay82 X) (k0_pay84 X) A (ix2 0 k)
      = A (ix2 0 k) + ∑ a : Fin 512, D (ix2 a k) * (X (ix2 a k) * Ideal.rsqrt (ubk X a)) := by
  unfold ubk
  rw [← n256]
  pointwise [k0_pay2, k0_pay1, k0_pay82, k0_pay83, k0_pay84]

theorem dcq_at (D : FVec Ideal S512x768 .f32) (X : Vec Ideal S512x768 .f32) (G : Vec Ideal S1x768 .f32) (a : Fin 512) (k : Fin 768) :
    k0_pay81 (F := Ideal) D (k0_pay76 X) (k0_pay77 X) G (ix2 a k)
      = Ideal.rsqrt (ubq X a) * (D (ix2 a k) * G (ix2 0 k) - X (ix2 a k) * Ideal.rsqrt (ubq X a)
          * Ideal.div (∑ l : Fin 768, D (ix2 a l) * G (ix2 0 l) * (X (ix2 a l) * Ideal.rsqrt (ubq X a))) (768 : ℝ)) := by
  unfold ubq
  rw [← n768]
  pointwise [k0_pay81, k0_pay76, k0_pay77, k0_pay78, k0_pay79]

theorem dck_at (D : FVec Ideal S512x256 .f32) (X : Vec Ideal S512x256 .f32) (G : Vec Ideal S1x256 .f32) (a : Fin 512) (k : Fin 256) :
    k0_pay3 (F := Ideal) D (k0_pay82 X) (k0_pay83 X) (k0_pay84 X) G (ix2 a k)
      = Ideal.rsqrt (ubk X a) * (D (ix2 a k) * G (ix2 0 k) - X (ix2 a k) * Ideal.rsqrt (ubk X a)
          * Ideal.div (∑ l : Fin 256, D (ix2 a l) * G (ix2 0 l) * (X (ix2 a l) * Ideal.rsqrt (ubk X a))) (256 : ℝ)) := by
  unfold ubk
  rw [← n256]
  pointwise [k0_pay3, k0_pay1, k0_pay82, k0_pay83, k0_pay84]

theorem zeros (j : S1x768.Idx) (j' : S1x256.Idx) (i : S768x1024.Idx) (i' : S256x2048.Idx) :
    k0_pay20 (F := Ideal) j = 0 ∧ k0_pay21 (F := Ideal) j' = 0 ∧ k0_pay22 (F := Ideal) i = 0 ∧ k0_pay23 (F := Ideal) i' = 0 := by
  refine ⟨?_, ?_, ?_, ?_⟩
  · pointwise [k0_pay20]
  · pointwise [k0_pay21]
  · pointwise [k0_pay22]
  · pointwise [k0_pay23]

end Cert.Kernel4Ideal.Mla
end
-- ==== Proof.MlaStep.lean ====
/-
  What one step of the latent projections' backward region leaves, as a function of its blocks.
-/
module

public import proofs.«01_k».proof.Proof.MlaNorm
public import proofs.«01_k».proof.Proof.Gen.Kernel4Ideal.Frame
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.Kernel4Ideal.Mla

open Cert.Kernel4Ideal Cert.Kernel4Ideal.Gen
open Idealize.ShloMosaic Idealize.ShloMosaic.TcCoe Idealize.SL.Sem
open Idealize.ShloMosaic.Pipeline (Dat)

/-- The three groups of columns of a step's block, stored one by one. -/
def dcB (P0 : FVec Ideal S512x768 .bf16) (P1 : FVec Ideal S512x256 .bf16) (P2 : FVec Ideal S512x128 .bf16) : Vec Ideal S512x1152 .bf16 :=
  View.canon [⟨Rect.unit ![0, 768] ![512, 256] inb_S512x1152_S512x256_0_768, P1⟩,
    ⟨Rect.unit ![0, 0] ![512, 768] inb_S512x1152_S512x768_0_0, P0⟩,
    ⟨Rect.unit ![0, 1024] ![512, 128] inb_S512x1152_S512x128_0_1024, P2⟩]

theorem dcB_at (P0 : FVec Ideal S512x768 .bf16) (P1 : FVec Ideal S512x256 .bf16) (P2 : FVec Ideal S512x128 .bf16) (a : Fin 512) (j : Fin 1152) :
    dcB P0 P1 P2 (ix2 a j) = if h : j.val < 768 then (P0 (ix2 a ⟨j.val, h⟩) : EReal)
      else if h' : j.val - 768 < 256 then P1 (ix2 a ⟨j.val - 768, h'⟩) else P2 (ix2 a ⟨j.val - 1024, by omega⟩) := by
  unfold dcB
  have cov := View.cover_of_tiledBy (s := S512x1152) (Val := Elt Ideal) (e := .bf16) [⟨Rect.unit ![0, 768] ![512, 256] inb_S512x1152_S512x256_0_768, P1⟩,
    ⟨Rect.unit ![0, 0] ![512, 768] inb_S512x1152_S512x768_0_0, P0⟩,
    ⟨Rect.unit ![0, 1024] ![512, 128] inb_S512x1152_S512x128_0_1024, P2⟩] S512x128.size (by sl_kernel_rfl) (ix2 a j)
  canon_tiles x h using cov
  · idx_vars x
    have e : j.val = 768 + x1.val := h1
    have e0 : a = x0 := Fin.ext h0
    subst e0
    rw [dif_neg (by omega), dif_pos (by omega)]
    exact congrArg (fun z => P1 (ix2 a z)) (Fin.ext (by show x1.val = j.val - 768; omega))
  · idx_vars x
    have e : j.val = x1.val := h1
    have e0 : a = x0 := Fin.ext h0
    subst e0
    rw [dif_pos (by omega)]
    exact congrArg (fun z => P0 (ix2 a z)) (Fin.ext e.symm)
  · idx_vars x
    have e : j.val = 1024 + x1.val := h1
    have e0 : a = x0 := Fin.ext h0
    subst e0
    rw [dif_neg (by omega), dif_neg (by omega)]
    exact congrArg (fun z => P2 (ix2 a z)) (Fin.ext (by show x1.val = j.val - 1024; omega))

/-- The shared rotary lanes' gradient of a step. -/
def kpeB (K : Vec Ideal S512x1024 .bf16) (C S T : Vec Ideal S512x128 .f32) : FVec Ideal S512x128 .bf16 :=
  k0_pay71 (k0_pay24 C) (k0_pay25 S) (k0_pay26 T) laneNo
    (k0_pay63 (k0_pay58 (k0_pay53 (k0_pay48 (k0_pay42 (k0_pay36
      (k0_pay29 (View.ld K (Rect.unit ![0, 0] ![512, 128] inb_S512x1024_S512x128_0_0)))
      (View.ld K (Rect.unit ![0, 128] ![512, 128] inb_S512x1024_S512x128_0_128)))
      (View.ld K (Rect.unit ![0, 256] ![512, 128] inb_S512x1024_S512x128_0_256)))
      (View.ld K (Rect.unit ![0, 384] ![512, 128] inb_S512x1024_S512x128_0_384)))
      (k0_pay52 (View.ld K (Rect.unit ![0, 512] ![512, 128] inb_S512x1024_S512x128_0_512))))
      (View.ld K (Rect.unit ![0, 640] ![512, 128] inb_S512x1024_S512x128_0_640)))
      (View.ld K (Rect.unit ![0, 768] ![512, 128] inb_S512x1024_S512x128_0_768)))
    (View.ld K (Rect.unit ![0, 896] ![512, 128] inb_S512x1024_S512x128_0_896))

/-- A square of the queries' weight gradient, and a strip of the other, as they are read back. -/
def cutQ (P : FVec Ideal S768x1024 .f32) (o b : Nat) (inb : ∀ d : Fin S768x1024.rank, (![o, b] : Fin S768x1024.rank → Nat) d + (![96, 96] : Fin S768x1024.rank → Nat) d ≤ S768x1024.size d) :
    Vec Ideal S96x96 .f32 :=
  let r : Rect S768x1024 := Rect.unit ![o, b] ![96, 96] inb
  (View.whole cc0_scratch2).readCov (Val := Elt Ideal) [⟨Rect.unit ![0, 0] ![768, 1024] inb_S768x1024_S768x1024_0_0, P⟩] r.toLoadRect
def cutK (P : FVec Ideal S256x2048 .f32) (b : Nat) (inb : ∀ d : Fin S256x2048.rank, (![0, b] : Fin S256x2048.rank → Nat) d + (![256, 64] : Fin S256x2048.rank → Nat) d ≤ S256x2048.size d) :
    Vec Ideal S256x64 .f32 :=
  let r : Rect S256x2048 := Rect.unit ![0, b] ![256, 64] inb
  (View.whole cc0_scratch3).readCov (Val := Elt Ideal) [⟨Rect.unit ![0, 0] ![256, 2048] inb_S256x2048_S256x2048_0_0, P⟩] r.toLoadRect

/-- The queries' weight gradient, cut into its rows' groups. -/
def uqB (P : FVec Ideal S768x1024 .f32) : Vec Ideal S8x96x768 .bf16 :=
  View.canon [
    ⟨Rect.unit ![7, 0, 0] ![1, 96, 768] inb_S8x96x768_S1x96x768_7_0_0, k0_pay4 (F := Ideal)
      (cutQ P 672 0 inb_S768x1024_S96x96_672_0)
      (cutQ P 672 128 inb_S768x1024_S96x96_672_128)
      (cutQ P 672 256 inb_S768x1024_S96x96_672_256)
      (cutQ P 672 384 inb_S768x1024_S96x96_672_384)
      (cutQ P 672 512 inb_S768x1024_S96x96_672_512)
      (cutQ P 672 640 inb_S768x1024_S96x96_672_640)
      (cutQ P 672 768 inb_S768x1024_S96x96_672_768)
      (cutQ P 672 896 inb_S768x1024_S96x96_672_896)⟩,
    ⟨Rect.unit ![6, 0, 0] ![1, 96, 768] inb_S8x96x768_S1x96x768_6_0_0, k0_pay18 (F := Ideal)
      (cutQ P 576 0 inb_S768x1024_S96x96_576_0)
      (cutQ P 576 128 inb_S768x1024_S96x96_576_128)
      (cutQ P 576 256 inb_S768x1024_S96x96_576_256)
      (cutQ P 576 384 inb_S768x1024_S96x96_576_384)
      (cutQ P 576 512 inb_S768x1024_S96x96_576_512)
      (cutQ P 576 640 inb_S768x1024_S96x96_576_640)
      (cutQ P 576 768 inb_S768x1024_S96x96_576_768)
      (cutQ P 576 896 inb_S768x1024_S96x96_576_896)⟩,
    ⟨Rect.unit ![5, 0, 0] ![1, 96, 768] inb_S8x96x768_S1x96x768_5_0_0, k0_pay16 (F := Ideal)
      (cutQ P 480 0 inb_S768x1024_S96x96_480_0)
      (cutQ P 480 128 inb_S768x1024_S96x96_480_128)
      (cutQ P 480 256 inb_S768x1024_S96x96_480_256)
      (cutQ P 480 384 inb_S768x1024_S96x96_480_384)
      (cutQ P 480 512 inb_S768x1024_S96x96_480_512)
      (cutQ P 480 640 inb_S768x1024_S96x96_480_640)
      (cutQ P 480 768 inb_S768x1024_S96x96_480_768)
      (cutQ P 480 896 inb_S768x1024_S96x96_480_896)⟩,
    ⟨Rect.unit ![4, 0, 0] ![1, 96, 768] inb_S8x96x768_S1x96x768_4_0_0, k0_pay14 (F := Ideal)
      (cutQ P 384 0 inb_S768x1024_S96x96_384_0)
      (cutQ P 384 128 inb_S768x1024_S96x96_384_128)
      (cutQ P 384 256 inb_S768x1024_S96x96_384_256)
      (cutQ P 384 384 inb_S768x1024_S96x96_384_384)
      (cutQ P 384 512 inb_S768x1024_S96x96_384_512)
      (cutQ P 384 640 inb_S768x1024_S96x96_384_640)
      (cutQ P 384 768 inb_S768x1024_S96x96_384_768)
      (cutQ P 384 896 inb_S768x1024_S96x96_384_896)⟩,
    ⟨Rect.unit ![3, 0, 0] ![1, 96, 768] inb_S8x96x768_S1x96x768_3_0_0, k0_pay12 (F := Ideal)
      (cutQ P 288 0 inb_S768x1024_S96x96_288_0)
      (cutQ P 288 128 inb_S768x1024_S96x96_288_128)
      (cutQ P 288 256 inb_S768x1024_S96x96_288_256)
      (cutQ P 288 384 inb_S768x1024_S96x96_288_384)
      (cutQ P 288 512 inb_S768x1024_S96x96_288_512)
      (cutQ P 288 640 inb_S768x1024_S96x96_288_640)
      (cutQ P 288 768 inb_S768x1024_S96x96_288_768)
      (cutQ P 288 896 inb_S768x1024_S96x96_288_896)⟩,
    ⟨Rect.unit ![2, 0, 0] ![1, 96, 768] inb_S8x96x768_S1x96x768_2_0_0, k0_pay10 (F := Ideal)
      (cutQ P 192 0 inb_S768x1024_S96x96_192_0)
      (cutQ P 192 128 inb_S768x1024_S96x96_192_128)
      (cutQ P 192 256 inb_S768x1024_S96x96_192_256)
      (cutQ P 192 384 inb_S768x1024_S96x96_192_384)
      (cutQ P 192 512 inb_S768x1024_S96x96_192_512)
      (cutQ P 192 640 inb_S768x1024_S96x96_192_640)
      (cutQ P 192 768 inb_S768x1024_S96x96_192_768)
      (cutQ P 192 896 inb_S768x1024_S96x96_192_896)⟩,
    ⟨Rect.unit ![1, 0, 0] ![1, 96, 768] inb_S8x96x768_S1x96x768_1_0_0, k0_pay8 (F := Ideal)
      (cutQ P 96 0 inb_S768x1024_S96x96_96_0)
      (cutQ P 96 128 inb_S768x1024_S96x96_96_128)
      (cutQ P 96 256 inb_S768x1024_S96x96_96_256)
      (cutQ P 96 384 inb_S768x1024_S96x96_96_384)
      (cutQ P 96 512 inb_S768x1024_S96x96_96_512)
      (cutQ P 96 640 inb_S768x1024_S96x96_96_640)
      (cutQ P 96 768 inb_S768x1024_S96x96_96_768)
      (cutQ P 96 896 inb_S768x1024_S96x96_96_896)⟩,
    ⟨Rect.unit ![0, 0, 0] ![1, 96, 768] inb_S8x96x768_S1x96x768_0_0_0, k0_pay6 (F := Ideal)
      (cutQ P 0 0 inb_S768x1024_S96x96_0_0)
      (cutQ P 0 128 inb_S768x1024_S96x96_0_128)
      (cutQ P 0 256 inb_S768x1024_S96x96_0_256)
      (cutQ P 0 384 inb_S768x1024_S96x96_0_384)
      (cutQ P 0 512 inb_S768x1024_S96x96_0_512)
      (cutQ P 0 640 inb_S768x1024_S96x96_0_640)
      (cutQ P 0 768 inb_S768x1024_S96x96_0_768)
      (cutQ P 0 896 inb_S768x1024_S96x96_0_896)⟩]

/-- The keys' and values' weight gradient, cut into its heads. -/
def ukB (P : FVec Ideal S256x2048 .f32) : Vec Ideal S8x256x128 .bf16 :=
  View.canon [
    ⟨Rect.unit ![7, 0, 0] ![1, 256, 128] inb_S8x256x128_S1x256x128_7_0_0, k0_pay5 (F := Ideal)
      (cutK P 896 inb_S256x2048_S256x64_0_896)
      (cutK P 1920 inb_S256x2048_S256x64_0_1920)⟩,
    ⟨Rect.unit ![6, 0, 0] ![1, 256, 128] inb_S8x256x128_S1x256x128_6_0_0, k0_pay19 (F := Ideal)
      (cutK P 768 inb_S256x2048_S256x64_0_768)
      (cutK P 1792 inb_S256x2048_S256x64_0_1792)⟩,
    ⟨Rect.unit ![5, 0, 0] ![1, 256, 128] inb_S8x256x128_S1x256x128_5_0_0, k0_pay17 (F := Ideal)
      (cutK P 640 inb_S256x2048_S256x64_0_640)
      (cutK P 1664 inb_S256x2048_S256x64_0_1664)⟩,
    ⟨Rect.unit ![4, 0, 0] ![1, 256, 128] inb_S8x256x128_S1x256x128_4_0_0, k0_pay15 (F := Ideal)
      (cutK P 512 inb_S256x2048_S256x64_0_512)
      (cutK P 1536 inb_S256x2048_S256x64_0_1536)⟩,
    ⟨Rect.unit ![3, 0, 0] ![1, 256, 128] inb_S8x256x128_S1x256x128_3_0_0, k0_pay13 (F := Ideal)
      (cutK P 384 inb_S256x2048_S256x64_0_384)
      (cutK P 1408 inb_S256x2048_S256x64_0_1408)⟩,
    ⟨Rect.unit ![2, 0, 0] ![1, 256, 128] inb_S8x256x128_S1x256x128_2_0_0, k0_pay11 (F := Ideal)
      (cutK P 256 inb_S256x2048_S256x64_0_256)
      (cutK P 1280 inb_S256x2048_S256x64_0_1280)⟩,
    ⟨Rect.unit ![1, 0, 0] ![1, 256, 128] inb_S8x256x128_S1x256x128_1_0_0, k0_pay9 (F := Ideal)
      (cutK P 128 inb_S256x2048_S256x64_0_128)
      (cutK P 1152 inb_S256x2048_S256x64_0_1152)⟩,
    ⟨Rect.unit ![0, 0, 0] ![1, 256, 128] inb_S8x256x128_S1x256x128_0_0_0, k0_pay7 (F := Ideal)
      (cutK P 0 inb_S256x2048_S256x64_0_0)
      (cutK P 1024 inb_S256x2048_S256x64_0_1024)⟩]

variable (m : (ℓ : Loc nD τ sig) → Buf (Elt Ideal) ℓ)

abbrev dqT (c : Dev nD) (t : Fin cfg0.N) := dqB (iblk m c 2 t) (iblk m c 9 t) (iblk m c 10 t) (iblk m c 11 t)
abbrev dkvT (c : Dev nD) (t : Fin cfg0.N) := dkvB (iblk m c 3 t) (iblk m c 4 t)
abbrev dcT (c : Dev nD) (t : Fin cfg0.N) :=
  dcB (k0_pay81 (k0_pay74 (dqT m c t) (iblk m c 7 t)) (k0_pay76 (X0_0 m c t)) (k0_pay77 (X0_0 m c t)) (iblk m c 5 t))
    (k0_pay3 (k0_pay75 (dkvT m c t) (iblk m c 8 t)) (k0_pay82 (iblk m c 1 t)) (k0_pay83 (iblk m c 1 t)) (k0_pay84 (iblk m c 1 t)) (iblk m c 6 t))
    (kpeB (iblk m c 3 t) (iblk m c 9 t) (iblk m c 10 t) (iblk m c 11 t))

theorem start_dwq (c : Dev nD) (t : Fin cfg0.N) (h : t.val % 8 = 0) (j : S768x1024.Idx) :
    (outsAt0 m c t.val t.isLt).2.2.2.2.2.1 j = k0_pay72 (dqT m c t) (k0_pay22 (F := Ideal)) (iblk m c 12 t) j := by
  rw [outsAt0_A m c t h (by omega)]; frame_out
  rfl
theorem step_dwq (c : Dev nD) (t : Fin cfg0.N) (h : ¬ t.val % 8 = 0) (j : S768x1024.Idx) :
    (outsAt0 m c t.val t.isLt).2.2.2.2.2.1 j = k0_pay72 (dqT m c t) (outsAt0 m c (t.val - 1) (Nat.lt_of_le_of_lt (Nat.sub_le _ _) t.isLt)).2.2.2.2.2.1 (iblk m c 12 t) j := by
  by_cases h' : t.val % 8 = 7
  · rw [outsAt0_C m c t h h']; frame_out
    first | rfl | (simp only [read_unread_whole]; rfl)
  · rw [outsAt0_B m c t h h']; frame_out
    first | rfl | (simp only [read_unread_whole]; rfl)
theorem start_dwk (c : Dev nD) (t : Fin cfg0.N) (h : t.val % 8 = 0) (j : S256x2048.Idx) :
    (outsAt0 m c t.val t.isLt).2.2.2.2.2.2 j = k0_pay73 (dkvT m c t) (k0_pay23 (F := Ideal)) (iblk m c 13 t) j := by
  rw [outsAt0_A m c t h (by omega)]; frame_out
  rfl
theorem step_dwk (c : Dev nD) (t : Fin cfg0.N) (h : ¬ t.val % 8 = 0) (j : S256x2048.Idx) :
    (outsAt0 m c t.val t.isLt).2.2.2.2.2.2 j = k0_pay73 (dkvT m c t) (outsAt0 m c (t.val - 1) (Nat.lt_of_le_of_lt (Nat.sub_le _ _) t.isLt)).2.2.2.2.2.2 (iblk m c 13 t) j := by
  by_cases h' : t.val % 8 = 7
  · rw [outsAt0_C m c t h h']; frame_out
    first | rfl | (simp only [read_unread_whole]; rfl)
  · rw [outsAt0_B m c t h h']; frame_out
    first | rfl | (simp only [read_unread_whole]; rfl)
theorem start_dgq (c : Dev nD) (t : Fin cfg0.N) (h : t.val % 8 = 0) (j : S1x768.Idx) :
    (outsAt0 m c t.val t.isLt).2.1 j = k0_pay80 (k0_pay74 (dqT m c t) (iblk m c 7 t)) (k0_pay76 (X0_0 m c t)) (k0_pay77 (X0_0 m c t)) (k0_pay20 (F := Ideal)) j := by
  rw [outsAt0_A m c t h (by omega)]; frame_out
  rfl
theorem step_dgq (c : Dev nD) (t : Fin cfg0.N) (h : ¬ t.val % 8 = 0) (j : S1x768.Idx) :
    (outsAt0 m c t.val t.isLt).2.1 j = k0_pay80 (k0_pay74 (dqT m c t) (iblk m c 7 t)) (k0_pay76 (X0_0 m c t)) (k0_pay77 (X0_0 m c t)) (outsAt0 m c (t.val - 1) (Nat.lt_of_le_of_lt (Nat.sub_le _ _) t.isLt)).2.1 j := by
  by_cases h' : t.val % 8 = 7
  · rw [outsAt0_C m c t h h']; frame_out
    first | rfl | (simp only [read_unread_whole]; rfl)
  · rw [outsAt0_B m c t h h']; frame_out
    first | rfl | (simp only [read_unread_whole]; rfl)
theorem start_dgk (c : Dev nD) (t : Fin cfg0.N) (h : t.val % 8 = 0) (j : S1x256.Idx) :
    (outsAt0 m c t.val t.isLt).2.2.1 j = k0_pay2 (k0_pay75 (dkvT m c t) (iblk m c 8 t)) (k0_pay82 (iblk m c 1 t)) (k0_pay84 (iblk m c 1 t)) (k0_pay21 (F := Ideal)) j := by
  rw [outsAt0_A m c t h (by omega)]; frame_out
  rfl
theorem step_dgk (c : Dev nD) (t : Fin cfg0.N) (h : ¬ t.val % 8 = 0) (j : S1x256.Idx) :
    (outsAt0 m c t.val t.isLt).2.2.1 j = k0_pay2 (k0_pay75 (dkvT m c t) (iblk m c 8 t)) (k0_pay82 (iblk m c 1 t)) (k0_pay84 (iblk m c 1 t)) (outsAt0 m c (t.val - 1) (Nat.lt_of_le_of_lt (Nat.sub_le _ _) t.isLt)).2.2.1 j := by
  by_cases h' : t.val % 8 = 7
  · rw [outsAt0_C m c t h h']; frame_out
    first | rfl | (simp only [read_unread_whole]; rfl)
  · rw [outsAt0_B m c t h h']; frame_out
    first | rfl | (simp only [read_unread_whole]; rfl)

theorem step_dc (c : Dev nD) (t : Fin cfg0.N) (j : S512x1152.Idx) : (outsAt0 m c t.val t.isLt).1 j = dcT m c t j := by
  by_cases h : t.val % 8 = 0
  · rw [outsAt0_A m c t h (by omega)]; frame_out
    rfl
  by_cases h' : t.val % 8 = 7
  · rw [outsAt0_C m c t h h']; frame_out
    rfl
  · rw [outsAt0_B m c t h h']; frame_out
    rfl

set_option maxHeartbeats 1000000 in
theorem last_uq (c : Dev nD) (t : Fin cfg0.N) (h : ¬ t.val % 8 = 0) (h' : t.val % 8 = 7) (j : S8x96x768.Idx) :
    (outsAt0 m c t.val t.isLt).2.2.2.1 j
      = uqB (k0_pay72 (dqT m c t) (outsAt0 m c (t.val - 1) (Nat.lt_of_le_of_lt (Nat.sub_le _ _) t.isLt)).2.2.2.2.2.1 (iblk m c 12 t)) j := by
  rw [outsAt0_C m c t h h']; frame_out
  simp only [read_unread_whole]
  rfl

set_option maxHeartbeats 1000000 in
theorem last_uk (c : Dev nD) (t : Fin cfg0.N) (h : ¬ t.val % 8 = 0) (h' : t.val % 8 = 7) (j : S8x256x128.Idx) :
    (outsAt0 m c t.val t.isLt).2.2.2.2.1 j
      = ukB (k0_pay73 (dkvT m c t) (outsAt0 m c (t.val - 1) (Nat.lt_of_le_of_lt (Nat.sub_le _ _) t.isLt)).2.2.2.2.2.2 (iblk m c 13 t)) j := by
  rw [outsAt0_C m c t h h']; frame_out
  simp only [read_unread_whole]
  rfl

end Cert.Kernel4Ideal.Mla
end
-- ==== Proof.MlaSlots.lean ====
/-
  The shared rotary lanes and the cut weight gradients, read at an index.
-/
module

public import proofs.«01_k».proof.Proof.MlaStep
public import proofs.«01_k».proof.Proof.Gen.Kernel4Ideal.Frame
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.Kernel4Ideal.Mla

open Cert.Kernel4Ideal Cert.Kernel4Ideal.Gen
open Idealize.ShloMosaic Idealize.ShloMosaic.TcCoe Idealize.SL.Sem
open Idealize.ShloMosaic.Pipeline (Dat)

theorem middle : ∀ l : Fin 128, IntOp.andi (IntOp.cmpi CmpIPredicate.sge (BitVec.ofNat 32 l.val) 64#32) (IntOp.cmpi CmpIPredicate.slt (BitVec.ofNat 32 l.val) 96#32)
    = if 64 ≤ l.val ∧ l.val < 96 then 1#1 else 0#1 := by
  decide +kernel

theorem pick_middle (l : Fin 128) (x : EReal) :
    Scalar.select (IntOp.andi (IntOp.cmpi CmpIPredicate.sge (BitVec.ofNat 32 l.val) 64#32) (IntOp.cmpi CmpIPredicate.slt (BitVec.ofNat 32 l.val) 96#32)) x 0
      = if 64 ≤ l.val ∧ l.val < 96 then x else 0 := by
  rw [middle]
  by_cases h : 64 ≤ l.val ∧ l.val < 96
  · rw [if_pos h, if_pos h]; rfl
  · rw [if_neg h, if_neg h]; rfl

theorem turned_sum (C S T : Vec Ideal S512x128 .f32) (M : FVec Ideal S512x128 .f32) (D : Vec Ideal S512x128 .bf16) (a : Fin 512) (l : Fin 128) :
    k0_pay71 (F := Ideal) (k0_pay24 C) (k0_pay25 S) (k0_pay26 T) laneNo M D (ix2 a l)
      = if 64 ≤ l.val ∧ l.val < 96 then turn (fun x y => M (ix2 x y) + D (ix2 x y)) C S T a l else 0 := by
  rw [← pick_middle]
  unfold turn
  pointwise [k0_pay71, k0_pay24, k0_pay25, k0_pay26, k0_pay68, laneNo]

theorem chain (D0 D1 D2 D3 D4 D5 D6 : Vec Ideal S512x128 .bf16) (a : Fin 512) (l : Fin 128) :
    k0_pay63 (F := Ideal) (k0_pay58 (k0_pay53 (k0_pay48 (k0_pay42 (k0_pay36 (k0_pay29 D0) D1) D2) D3) (k0_pay52 D4)) D5) D6 (ix2 a l)
      = D0 (ix2 a l) + D1 (ix2 a l) + D2 (ix2 a l) + D3 (ix2 a l) + D4 (ix2 a l) + D5 (ix2 a l) + D6 (ix2 a l) := by
  pointwise [k0_pay63, k0_pay58, k0_pay53, k0_pay48, k0_pay42, k0_pay36, k0_pay29, k0_pay28, k0_pay35, k0_pay41, k0_pay47, k0_pay52, k0_pay57, k0_pay62]

theorem kpeB_at (K : Vec Ideal S512x1024 .bf16) (C S T : Vec Ideal S512x128 .f32) (a : Fin 512) (l : Fin 128) :
    kpeB K C S T (ix2 a l) = if 64 ≤ l.val ∧ l.val < 96 then
      turn (fun x y => ∑ h : Fin 8, (K (ix2 x ⟨128 * h.val + y.val, by omega⟩) : EReal)) C S T a l else 0 := by
  unfold kpeB
  rw [turned_sum]
  refine congrArg (fun f => if 64 ≤ l.val ∧ l.val < 96 then turn f C S T a l else 0) (funext fun x => funext fun y => ?_)
  rw [chain, Fin.sum_univ_eight]
  have e : ∀ (o : Nat) (inb : ∀ d, ![0, o] d + ![512, 128] d ≤ S512x1024.size d) (hb : o + y.val < 1024),
      View.ld K (Rect.unit ![0, o] ![512, 128] inb) (ix2 x y) = K (ix2 x ⟨o + y.val, hb⟩) := by
    intro o inb hb
    refine View.ld_unit_apply_of _ _ _ _ _ _ fun d => ?_
    match d with
    | ⟨0, _⟩ => exact (Nat.zero_add _).symm
    | ⟨1, _⟩ => rfl
  rw [e 0 _ (by omega), e 128 _ (by omega), e 256 _ (by omega), e 384 _ (by omega), e 512 _ (by omega), e 640 _ (by omega), e 768 _ (by omega), e 896 _ (by omega)]
  rfl

theorem cutQ_at (P : FVec Ideal S768x1024 .f32) (o b : Nat) (inb) (q e : Fin 96) (h0 : o + q.val < 768) (h1 : b + e.val < 1024) :
    cutQ P o b inb (ix2 q e) = P (ix2 ⟨o + q.val, h0⟩ ⟨b + e.val, h1⟩) := by
  unfold cutQ
  dsimp only
  rw [View.readCov_eq_canon_ld _ _ _ (View.cover_of_tiledL (s := S768x1024) _ S768x1024.size (by sl_kernel_rfl))]
  refine (View.ld_unit_apply_of _ _ _ _ _ (ix2 ⟨o + q.val, h0⟩ ⟨b + e.val, h1⟩) fun d => ?_).trans ?_
  · match d with
    | ⟨0, _⟩ => rfl
    | ⟨1, _⟩ => rfl
  canon_tiles x hx
  idx_vars x
  have e0 : x0 = ⟨o + q.val, h0⟩ := Fin.ext hx0.symm
  have e1 : x1 = ⟨b + e.val, h1⟩ := Fin.ext hx1.symm
  rw [e0, e1]

theorem cutK_at (P : FVec Ideal S256x2048 .f32) (b : Nat) (inb) (i : Fin 256) (e : Fin 64) (h1 : b + e.val < 2048) :
    cutK P b inb (ix2 i e) = P (ix2 i ⟨b + e.val, h1⟩) := by
  unfold cutK
  dsimp only
  rw [View.readCov_eq_canon_ld _ _ _ (View.cover_of_tiledL (s := S256x2048) _ S256x2048.size (by sl_kernel_rfl))]
  refine (View.ld_unit_apply_of _ _ _ _ _ (ix2 i ⟨b + e.val, h1⟩) fun d => ?_).trans ?_
  · match d with
    | ⟨0, _⟩ => exact (Nat.zero_add _).symm
    | ⟨1, _⟩ => rfl
  canon_tiles x hx
  idx_vars x
  rw [show x0 = i from Fin.ext hx0.symm, show x1 = ⟨b + e.val, h1⟩ from Fin.ext hx1.symm]

attribute [local irreducible] cutQ cutK

theorem chain8 (f : Fin 8 → Fin 96 → EReal) (k : Fin 768) :
    (if h : k.val < 96 then f 0 ⟨k.val, h⟩
    else if h : k.val - 96 < 96 then f 1 ⟨k.val - 96, h⟩
    else if h : k.val - 96 - 96 < 96 then f 2 ⟨k.val - 96 - 96, h⟩
    else if h : k.val - 96 - 96 - 96 < 96 then f 3 ⟨k.val - 96 - 96 - 96, h⟩
    else if h : k.val - 96 - 96 - 96 - 96 < 96 then f 4 ⟨k.val - 96 - 96 - 96 - 96, h⟩
    else if h : k.val - 96 - 96 - 96 - 96 - 96 < 96 then f 5 ⟨k.val - 96 - 96 - 96 - 96 - 96, h⟩
    else if h : k.val - 96 - 96 - 96 - 96 - 96 - 96 < 96 then f 6 ⟨k.val - 96 - 96 - 96 - 96 - 96 - 96, h⟩
    else f 7 ⟨k.val - 96 - 96 - 96 - 96 - 96 - 96 - 96, by omega⟩) = f ⟨k.val / 96, by omega⟩ ⟨k.val % 96, by omega⟩ := by
  have hk := k.isLt
  by_cases h0 : k.val < 96
  · rw [dif_pos h0]
    exact congrArg₂ f (Fin.ext (by show 0 = k.val / 96; omega)) (Fin.ext (by show k.val = k.val % 96; omega))
  rw [dif_neg h0]
  by_cases h1 : k.val - 96 < 96
  · rw [dif_pos h1]
    exact congrArg₂ f (Fin.ext (by show 1 = k.val / 96; omega)) (Fin.ext (by show k.val - 96 = k.val % 96; omega))
  rw [dif_neg h1]
  by_cases h2 : k.val - 96 - 96 < 96
  · rw [dif_pos h2]
    exact congrArg₂ f (Fin.ext (by show 2 = k.val / 96; omega)) (Fin.ext (by show k.val - 96 - 96 = k.val % 96; omega))
  rw [dif_neg h2]
  by_cases h3 : k.val - 96 - 96 - 96 < 96
  · rw [dif_pos h3]
    exact congrArg₂ f (Fin.ext (by show 3 = k.val / 96; omega)) (Fin.ext (by show k.val - 96 - 96 - 96 = k.val % 96; omega))
  rw [dif_neg h3]
  by_cases h4 : k.val - 96 - 96 - 96 - 96 < 96
  · rw [dif_pos h4]
    exact congrArg₂ f (Fin.ext (by show 4 = k.val / 96; omega)) (Fin.ext (by show k.val - 96 - 96 - 96 - 96 = k.val % 96; omega))
  rw [dif_neg h4]
  by_cases h5 : k.val - 96 - 96 - 96 - 96 - 96 < 96
  · rw [dif_pos h5]
    exact congrArg₂ f (Fin.ext (by show 5 = k.val / 96; omega)) (Fin.ext (by show k.val - 96 - 96 - 96 - 96 - 96 = k.val % 96; omega))
  rw [dif_neg h5]
  by_cases h6 : k.val - 96 - 96 - 96 - 96 - 96 - 96 < 96
  · rw [dif_pos h6]
    exact congrArg₂ f (Fin.ext (by show 6 = k.val / 96; omega)) (Fin.ext (by show k.val - 96 - 96 - 96 - 96 - 96 - 96 = k.val % 96; omega))
  rw [dif_neg h6]
  exact congrArg₂ f (Fin.ext (by show 7 = k.val / 96; omega)) (Fin.ext (by show k.val - 96 - 96 - 96 - 96 - 96 - 96 - 96 = k.val % 96; omega))

section Cat
variable (v0 v1 v2 v3 v4 v5 v6 v7 : Vec Ideal S96x96 .f32) (q : Fin 96) (k : Fin 768) (f : Fin 8 → Fin 96 → EReal)
  (e0 : ∀ z, v0 (ix2 q z) = f 0 z) (e1 : ∀ z, v1 (ix2 q z) = f 1 z) (e2 : ∀ z, v2 (ix2 q z) = f 2 z) (e3 : ∀ z, v3 (ix2 q z) = f 3 z)
  (e4 : ∀ z, v4 (ix2 q z) = f 4 z) (e5 : ∀ z, v5 (ix2 q z) = f 5 z) (e6 : ∀ z, v6 (ix2 q z) = f 6 z) (e7 : ∀ z, v7 (ix2 q z) = f 7 z)
include e0 e1 e2 e3 e4 e5 e6 e7
theorem cat_4 : k0_pay4 (F := Ideal) v0 v1 v2 v3 v4 v5 v6 v7 (ix3 0 q k) = f ⟨k.val / 96, by omega⟩ ⟨k.val % 96, by omega⟩ := by
  rw [← chain8 f k]
  simp only [← e0, ← e1, ← e2, ← e3, ← e4, ← e5, ← e6, ← e7]
  pointwise [k0_pay4]
theorem cat_6 : k0_pay6 (F := Ideal) v0 v1 v2 v3 v4 v5 v6 v7 (ix3 0 q k) = f ⟨k.val / 96, by omega⟩ ⟨k.val % 96, by omega⟩ := by
  rw [← chain8 f k]
  simp only [← e0, ← e1, ← e2, ← e3, ← e4, ← e5, ← e6, ← e7]
  pointwise [k0_pay6]
theorem cat_8 : k0_pay8 (F := Ideal) v0 v1 v2 v3 v4 v5 v6 v7 (ix3 0 q k) = f ⟨k.val / 96, by omega⟩ ⟨k.val % 96, by omega⟩ := by
  rw [← chain8 f k]
  simp only [← e0, ← e1, ← e2, ← e3, ← e4, ← e5, ← e6, ← e7]
  pointwise [k0_pay8]
theorem cat_10 : k0_pay10 (F := Ideal) v0 v1 v2 v3 v4 v5 v6 v7 (ix3 0 q k) = f ⟨k.val / 96, by omega⟩ ⟨k.val % 96, by omega⟩ := by
  rw [← chain8 f k]
  simp only [← e0, ← e1, ← e2, ← e3, ← e4, ← e5, ← e6, ← e7]
  pointwise [k0_pay10]
theorem cat_12 : k0_pay12 (F := Ideal) v0 v1 v2 v3 v4 v5 v6 v7 (ix3 0 q k) = f ⟨k.val / 96, by omega⟩ ⟨k.val % 96, by omega⟩ := by
  rw [← chain8 f k]
  simp only [← e0, ← e1, ← e2, ← e3, ← e4, ← e5, ← e6, ← e7]
  pointwise [k0_pay12]
theorem cat_14 : k0_pay14 (F := Ideal) v0 v1 v2 v3 v4 v5 v6 v7 (ix3 0 q k) = f ⟨k.val / 96, by omega⟩ ⟨k.val % 96, by omega⟩ := by
  rw [← chain8 f k]
  simp only [← e0, ← e1, ← e2, ← e3, ← e4, ← e5, ← e6, ← e7]
  pointwise [k0_pay14]
theorem cat_16 : k0_pay16 (F := Ideal) v0 v1 v2 v3 v4 v5 v6 v7 (ix3 0 q k) = f ⟨k.val / 96, by omega⟩ ⟨k.val % 96, by omega⟩ := by
  rw [← chain8 f k]
  simp only [← e0, ← e1, ← e2, ← e3, ← e4, ← e5, ← e6, ← e7]
  pointwise [k0_pay16]
theorem cat_18 : k0_pay18 (F := Ideal) v0 v1 v2 v3 v4 v5 v6 v7 (ix3 0 q k) = f ⟨k.val / 96, by omega⟩ ⟨k.val % 96, by omega⟩ := by
  rw [← chain8 f k]
  simp only [← e0, ← e1, ← e2, ← e3, ← e4, ← e5, ← e6, ← e7]
  pointwise [k0_pay18]
end Cat

section Two
variable (w0 w1 : Vec Ideal S256x64 .f32) (i : Fin 256) (l : Fin 128)
theorem two_5 : k0_pay5 (F := Ideal) w0 w1 (ix3 0 i l) = if h : l.val < 64 then (w0 (ix2 i ⟨l.val, h⟩) : EReal) else w1 (ix2 i ⟨l.val - 64, by omega⟩) := by
  pointwise [k0_pay5]
theorem two_7 : k0_pay7 (F := Ideal) w0 w1 (ix3 0 i l) = if h : l.val < 64 then (w0 (ix2 i ⟨l.val, h⟩) : EReal) else w1 (ix2 i ⟨l.val - 64, by omega⟩) := by
  pointwise [k0_pay7]
theorem two_9 : k0_pay9 (F := Ideal) w0 w1 (ix3 0 i l) = if h : l.val < 64 then (w0 (ix2 i ⟨l.val, h⟩) : EReal) else w1 (ix2 i ⟨l.val - 64, by omega⟩) := by
  pointwise [k0_pay9]
theorem two_11 : k0_pay11 (F := Ideal) w0 w1 (ix3 0 i l) = if h : l.val < 64 then (w0 (ix2 i ⟨l.val, h⟩) : EReal) else w1 (ix2 i ⟨l.val - 64, by omega⟩) := by
  pointwise [k0_pay11]
theorem two_13 : k0_pay13 (F := Ideal) w0 w1 (ix3 0 i l) = if h : l.val < 64 then (w0 (ix2 i ⟨l.val, h⟩) : EReal) else w1 (ix2 i ⟨l.val - 64, by omega⟩) := by
  pointwise [k0_pay13]
theorem two_15 : k0_pay15 (F := Ideal) w0 w1 (ix3 0 i l) = if h : l.val < 64 then (w0 (ix2 i ⟨l.val, h⟩) : EReal) else w1 (ix2 i ⟨l.val - 64, by omega⟩) := by
  pointwise [k0_pay15]
theorem two_17 : k0_pay17 (F := Ideal) w0 w1 (ix3 0 i l) = if h : l.val < 64 then (w0 (ix2 i ⟨l.val, h⟩) : EReal) else w1 (ix2 i ⟨l.val - 64, by omega⟩) := by
  pointwise [k0_pay17]
theorem two_19 : k0_pay19 (F := Ideal) w0 w1 (ix3 0 i l) = if h : l.val < 64 then (w0 (ix2 i ⟨l.val, h⟩) : EReal) else w1 (ix2 i ⟨l.val - 64, by omega⟩) := by
  pointwise [k0_pay19]
end Two

theorem uqB_at (P : FVec Ideal S768x1024 .f32) (p : Fin 8) (q : Fin 96) (k : Fin 768) :
    uqB P (ix3 p q k) = P (ix2 ⟨96 * p.val + q.val, by omega⟩ ⟨128 * (k.val / 96) + k.val % 96, by omega⟩) := by
  unfold uqB
  canon_tiles x h
  · idx_vars x
    have e0 : p = 7 := Fin.ext (h0.trans (by have := x0.isLt; show _ = 7; omega))
    have e1 : q = x1 := Fin.ext h1
    have e2 : k = x2 := Fin.ext h2
    subst e0 e1 e2
    rw [Subsingleton.elim x0 0]
    exact cat_4 _ _ _ _ _ _ _ _ q k (fun h z => P (ix2 ⟨672 + q.val, by omega⟩ ⟨128 * h.val + z.val, by omega⟩))
      (fun z => cutQ_at P 672 0 _ q z (by omega) (by omega))
      (fun z => cutQ_at P 672 128 _ q z (by omega) (by omega))
      (fun z => cutQ_at P 672 256 _ q z (by omega) (by omega))
      (fun z => cutQ_at P 672 384 _ q z (by omega) (by omega))
      (fun z => cutQ_at P 672 512 _ q z (by omega) (by omega))
      (fun z => cutQ_at P 672 640 _ q z (by omega) (by omega))
      (fun z => cutQ_at P 672 768 _ q z (by omega) (by omega))
      (fun z => cutQ_at P 672 896 _ q z (by omega) (by omega))
  · idx_vars x
    have e0 : p = 6 := Fin.ext (h0.trans (by have := x0.isLt; show _ = 6; omega))
    have e1 : q = x1 := Fin.ext h1
    have e2 : k = x2 := Fin.ext h2
    subst e0 e1 e2
    rw [Subsingleton.elim x0 0]
    exact cat_18 _ _ _ _ _ _ _ _ q k (fun h z => P (ix2 ⟨576 + q.val, by omega⟩ ⟨128 * h.val + z.val, by omega⟩))
      (fun z => cutQ_at P 576 0 _ q z (by omega) (by omega))
      (fun z => cutQ_at P 576 128 _ q z (by omega) (by omega))
      (fun z => cutQ_at P 576 256 _ q z (by omega) (by omega))
      (fun z => cutQ_at P 576 384 _ q z (by omega) (by omega))
      (fun z => cutQ_at P 576 512 _ q z (by omega) (by omega))
      (fun z => cutQ_at P 576 640 _ q z (by omega) (by omega))
      (fun z => cutQ_at P 576 768 _ q z (by omega) (by omega))
      (fun z => cutQ_at P 576 896 _ q z (by omega) (by omega))
  · idx_vars x
    have e0 : p = 5 := Fin.ext (h0.trans (by have := x0.isLt; show _ = 5; omega))
    have e1 : q = x1 := Fin.ext h1
    have e2 : k = x2 := Fin.ext h2
    subst e0 e1 e2
    rw [Subsingleton.elim x0 0]
    exact cat_16 _ _ _ _ _ _ _ _ q k (fun h z => P (ix2 ⟨480 + q.val, by omega⟩ ⟨128 * h.val + z.val, by omega⟩))
      (fun z => cutQ_at P 480 0 _ q z (by omega) (by omega))
      (fun z => cutQ_at P 480 128 _ q z (by omega) (by omega))
      (fun z => cutQ_at P 480 256 _ q z (by omega) (by omega))
      (fun z => cutQ_at P 480 384 _ q z (by omega) (by omega))
      (fun z => cutQ_at P 480 512 _ q z (by omega) (by omega))
      (fun z => cutQ_at P 480 640 _ q z (by omega) (by omega))
      (fun z => cutQ_at P 480 768 _ q z (by omega) (by omega))
      (fun z => cutQ_at P 480 896 _ q z (by omega) (by omega))
  · idx_vars x
    have e0 : p = 4 := Fin.ext (h0.trans (by have := x0.isLt; show _ = 4; omega))
    have e1 : q = x1 := Fin.ext h1
    have e2 : k = x2 := Fin.ext h2
    subst e0 e1 e2
    rw [Subsingleton.elim x0 0]
    exact cat_14 _ _ _ _ _ _ _ _ q k (fun h z => P (ix2 ⟨384 + q.val, by omega⟩ ⟨128 * h.val + z.val, by omega⟩))
      (fun z => cutQ_at P 384 0 _ q z (by omega) (by omega))
      (fun z => cutQ_at P 384 128 _ q z (by omega) (by omega))
      (fun z => cutQ_at P 384 256 _ q z (by omega) (by omega))
      (fun z => cutQ_at P 384 384 _ q z (by omega) (by omega))
      (fun z => cutQ_at P 384 512 _ q z (by omega) (by omega))
      (fun z => cutQ_at P 384 640 _ q z (by omega) (by omega))
      (fun z => cutQ_at P 384 768 _ q z (by omega) (by omega))
      (fun z => cutQ_at P 384 896 _ q z (by omega) (by omega))
  · idx_vars x
    have e0 : p = 3 := Fin.ext (h0.trans (by have := x0.isLt; show _ = 3; omega))
    have e1 : q = x1 := Fin.ext h1
    have e2 : k = x2 := Fin.ext h2
    subst e0 e1 e2
    rw [Subsingleton.elim x0 0]
    exact cat_12 _ _ _ _ _ _ _ _ q k (fun h z => P (ix2 ⟨288 + q.val, by omega⟩ ⟨128 * h.val + z.val, by omega⟩))
      (fun z => cutQ_at P 288 0 _ q z (by omega) (by omega))
      (fun z => cutQ_at P 288 128 _ q z (by omega) (by omega))
      (fun z => cutQ_at P 288 256 _ q z (by omega) (by omega))
      (fun z => cutQ_at P 288 384 _ q z (by omega) (by omega))
      (fun z => cutQ_at P 288 512 _ q z (by omega) (by omega))
      (fun z => cutQ_at P 288 640 _ q z (by omega) (by omega))
      (fun z => cutQ_at P 288 768 _ q z (by omega) (by omega))
      (fun z => cutQ_at P 288 896 _ q z (by omega) (by omega))
  · idx_vars x
    have e0 : p = 2 := Fin.ext (h0.trans (by have := x0.isLt; show _ = 2; omega))
    have e1 : q = x1 := Fin.ext h1
    have e2 : k = x2 := Fin.ext h2
    subst e0 e1 e2
    rw [Subsingleton.elim x0 0]
    exact cat_10 _ _ _ _ _ _ _ _ q k (fun h z => P (ix2 ⟨192 + q.val, by omega⟩ ⟨128 * h.val + z.val, by omega⟩))
      (fun z => cutQ_at P 192 0 _ q z (by omega) (by omega))
      (fun z => cutQ_at P 192 128 _ q z (by omega) (by omega))
      (fun z => cutQ_at P 192 256 _ q z (by omega) (by omega))
      (fun z => cutQ_at P 192 384 _ q z (by omega) (by omega))
      (fun z => cutQ_at P 192 512 _ q z (by omega) (by omega))
      (fun z => cutQ_at P 192 640 _ q z (by omega) (by omega))
      (fun z => cutQ_at P 192 768 _ q z (by omega) (by omega))
      (fun z => cutQ_at P 192 896 _ q z (by omega) (by omega))
  · idx_vars x
    have e0 : p = 1 := Fin.ext (h0.trans (by have := x0.isLt; show _ = 1; omega))
    have e1 : q = x1 := Fin.ext h1
    have e2 : k = x2 := Fin.ext h2
    subst e0 e1 e2
    rw [Subsingleton.elim x0 0]
    exact cat_8 _ _ _ _ _ _ _ _ q k (fun h z => P (ix2 ⟨96 + q.val, by omega⟩ ⟨128 * h.val + z.val, by omega⟩))
      (fun z => cutQ_at P 96 0 _ q z (by omega) (by omega))
      (fun z => cutQ_at P 96 128 _ q z (by omega) (by omega))
      (fun z => cutQ_at P 96 256 _ q z (by omega) (by omega))
      (fun z => cutQ_at P 96 384 _ q z (by omega) (by omega))
      (fun z => cutQ_at P 96 512 _ q z (by omega) (by omega))
      (fun z => cutQ_at P 96 640 _ q z (by omega) (by omega))
      (fun z => cutQ_at P 96 768 _ q z (by omega) (by omega))
      (fun z => cutQ_at P 96 896 _ q z (by omega) (by omega))
  · idx_vars x
    have e0 : p = 0 := Fin.ext (h0.trans (by have := x0.isLt; show _ = 0; omega))
    have e1 : q = x1 := Fin.ext h1
    have e2 : k = x2 := Fin.ext h2
    subst e0 e1 e2
    rw [Subsingleton.elim x0 0]
    exact cat_6 _ _ _ _ _ _ _ _ q k (fun h z => P (ix2 ⟨0 + q.val, by omega⟩ ⟨128 * h.val + z.val, by omega⟩))
      (fun z => cutQ_at P 0 0 _ q z (by omega) (by omega))
      (fun z => cutQ_at P 0 128 _ q z (by omega) (by omega))
      (fun z => cutQ_at P 0 256 _ q z (by omega) (by omega))
      (fun z => cutQ_at P 0 384 _ q z (by omega) (by omega))
      (fun z => cutQ_at P 0 512 _ q z (by omega) (by omega))
      (fun z => cutQ_at P 0 640 _ q z (by omega) (by omega))
      (fun z => cutQ_at P 0 768 _ q z (by omega) (by omega))
      (fun z => cutQ_at P 0 896 _ q z (by omega) (by omega))

theorem ukB_at (P : FVec Ideal S256x2048 .f32) (p : Fin 8) (i : Fin 256) (l : Fin 128) :
    ukB P (ix3 p i l) = if h : l.val < 64 then (P (ix2 i ⟨128 * p.val + l.val, by omega⟩) : EReal) else P (ix2 i ⟨1024 + 128 * p.val + (l.val - 64), by omega⟩) := by
  unfold ukB
  canon_tiles x h
  · idx_vars x
    have e0 : p = 7 := Fin.ext (h0.trans (by have := x0.isLt; show _ = 7; omega))
    have e1 : i = x1 := Fin.ext h1
    have e2 : l = x2 := Fin.ext h2
    subst e0 e1 e2
    rw [Subsingleton.elim x0 0]
    refine (two_5 _ _ i l).trans ?_
    by_cases h : l.val < 64
    · rw [dif_pos h, dif_pos h]
      exact cutK_at P 896 _ i ⟨l.val, h⟩ (by show 896 + l.val < 2048; omega)
    · rw [dif_neg h, dif_neg h]
      exact cutK_at P 1920 _ i ⟨l.val - 64, by omega⟩ (by show 1920 + (l.val - 64) < 2048; omega)
  · idx_vars x
    have e0 : p = 6 := Fin.ext (h0.trans (by have := x0.isLt; show _ = 6; omega))
    have e1 : i = x1 := Fin.ext h1
    have e2 : l = x2 := Fin.ext h2
    subst e0 e1 e2
    rw [Subsingleton.elim x0 0]
    refine (two_19 _ _ i l).trans ?_
    by_cases h : l.val < 64
    · rw [dif_pos h, dif_pos h]
      exact cutK_at P 768 _ i ⟨l.val, h⟩ (by show 768 + l.val < 2048; omega)
    · rw [dif_neg h, dif_neg h]
      exact cutK_at P 1792 _ i ⟨l.val - 64, by omega⟩ (by show 1792 + (l.val - 64) < 2048; omega)
  · idx_vars x
    have e0 : p = 5 := Fin.ext (h0.trans (by have := x0.isLt; show _ = 5; omega))
    have e1 : i = x1 := Fin.ext h1
    have e2 : l = x2 := Fin.ext h2
    subst e0 e1 e2
    rw [Subsingleton.elim x0 0]
    refine (two_17 _ _ i l).trans ?_
    by_cases h : l.val < 64
    · rw [dif_pos h, dif_pos h]
      exact cutK_at P 640 _ i ⟨l.val, h⟩ (by show 640 + l.val < 2048; omega)
    · rw [dif_neg h, dif_neg h]
      exact cutK_at P 1664 _ i ⟨l.val - 64, by omega⟩ (by show 1664 + (l.val - 64) < 2048; omega)
  · idx_vars x
    have e0 : p = 4 := Fin.ext (h0.trans (by have := x0.isLt; show _ = 4; omega))
    have e1 : i = x1 := Fin.ext h1
    have e2 : l = x2 := Fin.ext h2
    subst e0 e1 e2
    rw [Subsingleton.elim x0 0]
    refine (two_15 _ _ i l).trans ?_
    by_cases h : l.val < 64
    · rw [dif_pos h, dif_pos h]
      exact cutK_at P 512 _ i ⟨l.val, h⟩ (by show 512 + l.val < 2048; omega)
    · rw [dif_neg h, dif_neg h]
      exact cutK_at P 1536 _ i ⟨l.val - 64, by omega⟩ (by show 1536 + (l.val - 64) < 2048; omega)
  · idx_vars x
    have e0 : p = 3 := Fin.ext (h0.trans (by have := x0.isLt; show _ = 3; omega))
    have e1 : i = x1 := Fin.ext h1
    have e2 : l = x2 := Fin.ext h2
    subst e0 e1 e2
    rw [Subsingleton.elim x0 0]
    refine (two_13 _ _ i l).trans ?_
    by_cases h : l.val < 64
    · rw [dif_pos h, dif_pos h]
      exact cutK_at P 384 _ i ⟨l.val, h⟩ (by show 384 + l.val < 2048; omega)
    · rw [dif_neg h, dif_neg h]
      exact cutK_at P 1408 _ i ⟨l.val - 64, by omega⟩ (by show 1408 + (l.val - 64) < 2048; omega)
  · idx_vars x
    have e0 : p = 2 := Fin.ext (h0.trans (by have := x0.isLt; show _ = 2; omega))
    have e1 : i = x1 := Fin.ext h1
    have e2 : l = x2 := Fin.ext h2
    subst e0 e1 e2
    rw [Subsingleton.elim x0 0]
    refine (two_11 _ _ i l).trans ?_
    by_cases h : l.val < 64
    · rw [dif_pos h, dif_pos h]
      exact cutK_at P 256 _ i ⟨l.val, h⟩ (by show 256 + l.val < 2048; omega)
    · rw [dif_neg h, dif_neg h]
      exact cutK_at P 1280 _ i ⟨l.val - 64, by omega⟩ (by show 1280 + (l.val - 64) < 2048; omega)
  · idx_vars x
    have e0 : p = 1 := Fin.ext (h0.trans (by have := x0.isLt; show _ = 1; omega))
    have e1 : i = x1 := Fin.ext h1
    have e2 : l = x2 := Fin.ext h2
    subst e0 e1 e2
    rw [Subsingleton.elim x0 0]
    refine (two_9 _ _ i l).trans ?_
    by_cases h : l.val < 64
    · rw [dif_pos h, dif_pos h]
      exact cutK_at P 128 _ i ⟨l.val, h⟩ (by show 128 + l.val < 2048; omega)
    · rw [dif_neg h, dif_neg h]
      exact cutK_at P 1152 _ i ⟨l.val - 64, by omega⟩ (by show 1152 + (l.val - 64) < 2048; omega)
  · idx_vars x
    have e0 : p = 0 := Fin.ext (h0.trans (by have := x0.isLt; show _ = 0; omega))
    have e1 : i = x1 := Fin.ext h1
    have e2 : l = x2 := Fin.ext h2
    subst e0 e1 e2
    rw [Subsingleton.elim x0 0]
    refine (two_7 _ _ i l).trans ?_
    by_cases h : l.val < 64
    · rw [dif_pos h, dif_pos h]
      exact cutK_at P 0 _ i ⟨l.val, h⟩ (by show 0 + l.val < 2048; omega)
    · rw [dif_neg h, dif_neg h]
      exact cutK_at P 1024 _ i ⟨l.val - 64, by omega⟩ (by show 1024 + (l.val - 64) < 2048; omega)

end Cert.Kernel4Ideal.Mla
end
-- ==== Proof.MlaBlock.lean ====
/-
  The blocks of the latent projections' backward region at its arguments.
-/
module

public import proofs.«01_k».proof.Proof.MlaSlots
public import proofs.«01_k».proof.Proof.Gen.Kernel4Ideal.Frame
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

namespace Cert.Kernel4Ideal.Mla

open Cert.Kernel4Ideal Cert.Kernel4Ideal.Gen
open Idealize.ShloMosaic Idealize.ShloMosaic.TcCoe Idealize.SL.Sem
open Idealize.ShloMosaic.Pipeline (Dat)

theorem weightK_at (W : FVec Ideal S1x256x1024 .f32) (i : Fin 256) (j : Fin 2048) :
    weightK W (ix2 j i) = if h : j.val < 1024 then (halfLo (byHead W) (ix2 i ⟨j.val, h⟩) : EReal) else halfHi (byHead W) (ix2 i ⟨j.val - 1024, by omega⟩) := by
  unfold weightK
  generalize halfLo (byHead W) = A
  generalize halfHi (byHead W) = B
  pointwise

/-! ## The head's lanes turned back -/

/-- A head's cotangent, its last lanes turned back. -/
def turnH (d : Fin 96 → EReal) (C S : FVec Ideal S4096x16 .f32) (r : Fin 4096) (e : Fin 96) : EReal :=
  if e.val < 64 then d e
  else if h : e.val - 64 < 16 then d e * C (ix2 r ⟨e.val - 64, h⟩) + d ⟨e.val - 64 + 80, by omega⟩ * S (ix2 r ⟨e.val - 64, h⟩)
  else d e * C (ix2 r ⟨e.val - 80, by omega⟩) + d ⟨e.val - 80 + 64, by omega⟩ * -(S (ix2 r ⟨e.val - 80, by omega⟩) : EReal)

section Turn
variable (C S : FVec Ideal S4096x16 .f32) (r : Fin 4096) (d : Fin 96 → EReal) (D : Fin 128 → EReal)
  (hD : ∀ l, D l = if h : l.val < 96 then d ⟨l.val, h⟩ else 0)
include hD

theorem low_lanes (l p : Fin 128) (hp : p.val = (l.val + 128 - 16) % 128) :
    D p * sinLo S (ix2 r p) = if h : 80 ≤ l.val ∧ l.val < 96 then d ⟨l.val - 80 + 64, by omega⟩ * -(S (ix2 r ⟨l.val - 80, by omega⟩) : EReal) else 0 := by
  rw [sinLo_at]
  by_cases h : 80 ≤ l.val ∧ l.val < 96
  · have e : p.val = l.val - 80 + 64 := by omega
    rw [dif_pos h, dif_neg (by omega), dif_pos (by omega), hD, dif_pos (by omega)]
    exact congrArg₂ (fun (x : Fin 96) (y : Fin 16) => d x * -(S (ix2 r y) : EReal)) (Fin.ext e) (Fin.ext (by show p.val - 64 = l.val - 80; omega))
  · rw [dif_neg h]
    by_cases h1 : p.val < 64
    · rw [dif_pos h1, mul_zero]
    · rw [dif_neg h1, dif_neg (by omega)]
      split_ifs <;> exact mul_zero _

theorem high_lanes (l p : Fin 128) (hp : p.val = (l.val + 128 - 112) % 128) :
    D p * sinHi S (ix2 r p) = if h : 64 ≤ l.val ∧ l.val < 80 then d ⟨l.val - 64 + 80, by omega⟩ * (S (ix2 r ⟨l.val - 64, by omega⟩) : EReal) else 0 := by
  rw [sinHi_at]
  by_cases h : 64 ≤ l.val ∧ l.val < 80
  · have e : p.val = l.val - 64 + 80 := by omega
    rw [dif_pos h, dif_neg (by omega), dif_neg (by omega), dif_pos (by omega), hD, dif_pos (by omega)]
    exact congrArg₂ (fun (x : Fin 96) (y : Fin 16) => d x * (S (ix2 r y) : EReal)) (Fin.ext e) (Fin.ext (by show p.val - 64 - 16 = l.val - 64; omega))
  · rw [dif_neg h]
    by_cases h1 : p.val < 64
    · rw [dif_pos h1, mul_zero]
    · rw [dif_neg h1]
      by_cases h2 : p.val - 64 < 16
      · rw [dif_pos h2, mul_zero]
      · rw [dif_neg h2, dif_neg (by omega), mul_zero]

theorem turned_lanes (l p q : Fin 128) (hp : p.val = (l.val + 128 - 16) % 128) (hq : q.val = (l.val + 128 - 112) % 128) :
    D l * cosL C (ix2 r l) + D p * sinLo S (ix2 r p) + D q * sinHi S (ix2 r q)
      = if h : l.val < 96 then turnH d C S r ⟨l.val, h⟩ else 0 := by
  rw [low_lanes S r d D hD l p hp, high_lanes S r d D hD l q hq, cosL_at, hD]
  by_cases h0 : l.val < 96
  · rw [dif_pos h0, dif_pos h0]
    unfold turnH
    by_cases h1 : l.val < 64
    · rw [dif_pos h1, dif_neg (by omega), dif_neg (by omega), if_pos h1, mul_one, add_zero, add_zero]
    · rw [dif_neg h1, if_neg h1]
      by_cases h2 : l.val - 64 < 16
      · rw [dif_pos h2, dif_neg (by omega), dif_pos (by omega), add_zero, dif_pos h2]
      · rw [dif_neg h2, dif_pos (by omega), dif_pos (by omega), dif_neg (by omega), add_zero, dif_neg h2]
        exact congrArg (fun (y : Fin 16) => d ⟨l.val, h0⟩ * (C (ix2 r y) : EReal) + d ⟨l.val - 80 + 64, by omega⟩ * -(S (ix2 r ⟨l.val - 80, by omega⟩) : EReal)) (Fin.ext (by show l.val - 64 - 16 = l.val - 80; omega))
  · rw [dif_neg h0, dif_neg h0, zero_mul, dif_neg (by omega), dif_neg (by omega), add_zero, add_zero]
end Turn

/-! ## The columns in their padded places -/

def placeQ (k : Fin 768) : Fin 1024 := ⟨128 * (k.val / 96) + k.val % 96, by omega⟩
def placeK (k : Fin 1024) : Fin 2048 :=
  ⟨if k.val % 128 < 64 then 128 * (k.val / 128) + k.val % 128 else 1024 + 128 * (k.val / 128) + (k.val % 128 - 64), by split_ifs <;> omega⟩

theorem placeQ_inj {a b : Fin 768} (h : placeQ a = placeQ b) : a = b := by
  have e : 128 * (a.val / 96) + a.val % 96 = 128 * (b.val / 96) + b.val % 96 := congrArg Fin.val h
  exact Fin.ext (by omega)
theorem placeK_inj {a b : Fin 1024} (h : placeK a = placeK b) : a = b := by
  have e : (if a.val % 128 < 64 then 128 * (a.val / 128) + a.val % 128 else 1024 + 128 * (a.val / 128) + (a.val % 128 - 64))
    = (if b.val % 128 < 64 then 128 * (b.val / 128) + b.val % 128 else 1024 + 128 * (b.val / 128) + (b.val % 128 - 64)) := congrArg Fin.val h
  refine Fin.ext ?_
  split_ifs at e <;> omega

theorem sum_placeQ (f : Fin 1024 → EReal) (g : Fin 768 → EReal) (h0 : ∀ j, ¬ j.val % 128 < 96 → f j = 0) (h1 : ∀ k, f (placeQ k) = g k) :
    ∑ j, f j = ∑ k, g k := by
  symm
  refine Finset.sum_of_injOn placeQ (fun a _ b _ h => placeQ_inj h) (fun _ _ => Finset.mem_coe.2 (Finset.mem_univ _)) ?_ (fun k _ => (h1 k).symm)
  intro j _ hj
  refine h0 j fun hlt => hj ⟨⟨96 * (j.val / 128) + j.val % 128, by omega⟩, Finset.mem_coe.2 (Finset.mem_univ _), Fin.ext ?_⟩
  show 128 * ((96 * (j.val / 128) + j.val % 128) / 96) + (96 * (j.val / 128) + j.val % 128) % 96 = j.val
  omega
theorem sum_placeK (f : Fin 2048 → EReal) (g : Fin 1024 → EReal) (h0 : ∀ j, ¬ j.val % 128 < 64 → f j = 0) (h1 : ∀ k, f (placeK k) = g k) :
    ∑ j, f j = ∑ k, g k := by
  symm
  refine Finset.sum_of_injOn placeK (fun a _ b _ h => placeK_inj h) (fun _ _ => Finset.mem_coe.2 (Finset.mem_univ _)) ?_ (fun k _ => (h1 k).symm)
  intro j _ hj
  refine h0 j fun hlt => ?_
  by_cases hj' : j.val < 1024
  · refine hj ⟨⟨j.val, hj'⟩, Finset.mem_coe.2 (Finset.mem_univ _), Fin.ext ?_⟩
    show (if j.val % 128 < 64 then _ else _) = j.val
    rw [if_pos hlt]
    show 128 * (j.val / 128) + j.val % 128 = j.val
    omega
  · refine hj ⟨⟨j.val - 1024 + 64, by omega⟩, Finset.mem_coe.2 (Finset.mem_univ _), Fin.ext ?_⟩
    show (if (j.val - 1024 + 64) % 128 < 64 then _ else _) = j.val
    rw [if_neg (by omega)]
    show 1024 + 128 * ((j.val - 1024 + 64) / 128) + ((j.val - 1024 + 64) % 128 - 64) = j.val
    omega

/-- A row's cotangents of the two products, column by column. -/
def qv (DQ : FVec Ideal S1x8x4096x96 .f32) (C S : FVec Ideal S4096x16 .f32) (r : Fin 4096) (k : Fin 768) : EReal :=
  turnH (fun e => DQ (ix4 0 ⟨k.val / 96, by omega⟩ r e)) C S r ⟨k.val % 96, by omega⟩ * scaleK
def kv (DK : FVec Ideal S1x8x4096x96 .f32) (DV : FVec Ideal S1x8x4096x64 .f32) (r : Fin 4096) (k : Fin 1024) : EReal :=
  if h : k.val % 128 < 64 then DK (ix4 0 ⟨k.val / 128, by omega⟩ r ⟨k.val % 128, by omega⟩) else DV (ix4 0 ⟨k.val / 128, by omega⟩ r ⟨k.val % 128 - 64, by omega⟩)

theorem weightQ_place (W : FVec Ideal S1x768x768 .f32) (i k : Fin 768) : weightQ W (ix2 (placeQ k) i) = W (ix3 0 i k) := by
  rw [weightQ_at, dif_pos (by show (128 * (k.val / 96) + k.val % 96) % 128 < 96; omega)]
  exact congrArg (fun z => W (ix3 0 i z)) (Fin.ext (by show 96 * ((128 * (k.val / 96) + k.val % 96) / 128) + (128 * (k.val / 96) + k.val % 96) % 128 = k.val; omega))

theorem weightK_place (W : FVec Ideal S1x256x1024 .f32) (i : Fin 256) (k : Fin 1024) : weightK W (ix2 (placeK k) i) = W (ix3 0 i k) := by
  rw [weightK_at]
  by_cases h : k.val % 128 < 64
  · have e : (placeK k).val = k.val := by
      show (if k.val % 128 < 64 then _ else _) = k.val
      rw [if_pos h]; omega
    rw [dif_pos (by omega), halfLo_at, dif_pos (by show (placeK k).val % 128 < 64; omega)]
    exact congrArg (fun z => W (ix3 0 i z)) (Fin.ext (by show 128 * ((placeK k).val / 128) + (placeK k).val % 128 = k.val; omega))
  · have e : (placeK k).val = 1024 + 128 * (k.val / 128) + (k.val % 128 - 64) := by
      show (if k.val % 128 < 64 then _ else _) = _
      rw [if_neg h]
    rw [dif_neg (by omega), halfHi_at, dif_pos (by show ((placeK k).val - 1024) % 128 < 64; omega)]
    exact congrArg (fun z => W (ix3 0 i z)) (Fin.ext (by show 128 * (((placeK k).val - 1024) / 128) + 64 + ((placeK k).val - 1024) % 128 = k.val; omega))

variable (m : (ℓ : Loc nD τ sig) → Buf (Elt Ideal) ℓ)

theorem idx : ∀ t : Fin cfg0.N, win0_0.index t = ![t.val, 6] ∧ win0_1.index t = ![t.val, 21] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![0, t.val] ∧ win0_13.index t = ![0, t.val] ∧ win0_14.index t = ![t.val, 4] :=
  (by decide +kernel : ∀ t : Fin grid0.N, _)

theorem row_lt (t : Fin cfg0.N) (a : Fin 512) : t.val * 512 + a.val < 4096 := by
  have := t.isLt; have h : cfg0.N = 8 := N_0; omega

abbrev row (t : Fin cfg0.N) (a : Fin 512) : Fin 4096 := ⟨t.val * 512 + a.val, row_lt t a⟩

section Blocks
variable (c : Dev nD) (t : Fin cfg0.N) (a : Fin 512)

theorem b0 (k : Fin 768) : X0_0 m c t (ix2 a k) = m ((c : Thread nD τ).loc main_arg0) (ix3 0 (row t a) k) := by
  rw [← projH_q (m ((c : Thread nD τ).loc main_arg0)) (m ((c : Thread nD τ).loc main_arg1)) (m ((c : Thread nD τ).loc main_arg2)), ← V18 m c]
  unfold X0_0 Pipeline.Window.fill
  rw [dif_pos (moved0_0 t _)]
  blk_point [iblk, V, idx t]
theorem b1 (k : Fin 256) : iblk m c 1 t (ix2 a k) = m ((c : Thread nD τ).loc main_arg1) (ix3 0 (row t a) k) := by
  rw [← projH_k (m ((c : Thread nD τ).loc main_arg0)) (m ((c : Thread nD τ).loc main_arg1)) (m ((c : Thread nD τ).loc main_arg2)), ← V18 m c]
  blk_point [iblk, V, idx t]
theorem b2 (j : Fin 1024) : iblk m c 2 t (ix2 a j) = heads96 (m ((c : Thread nD τ).loc main_arg9)) (ix2 (row t a) j) := by
  rw [← V69 m c]
  blk_point [iblk, V, idx t]
theorem b3 (j : Fin 1024) : iblk m c 3 t (ix2 a j) = heads96 (m ((c : Thread nD τ).loc main_arg10)) (ix2 (row t a) j) := by
  rw [← V73 m c]
  blk_point [iblk, V, idx t]
theorem b4 (j : Fin 1024) : iblk m c 4 t (ix2 a j) = heads64 (m ((c : Thread nD τ).loc main_arg11)) (ix2 (row t a) j) := by
  rw [← V77 m c]
  blk_point [iblk, V, idx t]
theorem b5 (k : Fin 768) : iblk m c 5 t (ix2 0 k) = m ((c : Thread nD τ).loc main_arg3) (ix2 0 k) := by
  blk_point [iblk, V, idx t]
theorem b6 (k : Fin 256) : iblk m c 6 t (ix2 0 k) = m ((c : Thread nD τ).loc main_arg5) (ix2 0 k) := by
  blk_point [iblk, V, idx t]
theorem b7 (j : Fin 1024) (k : Fin 768) : iblk m c 7 t (ix2 j k) = weightQ (m ((c : Thread nD τ).loc main_arg4)) (ix2 j k) := by
  rw [← V79 m c]
  blk_point [iblk, V, idx t]
theorem b8 (j : Fin 2048) (k : Fin 256) : iblk m c 8 t (ix2 j k) = weightK (m ((c : Thread nD τ).loc main_arg6)) (ix2 j k) := by
  rw [← V81 m c]
  blk_point [iblk, V, idx t]
theorem b9 (l : Fin 128) : iblk m c 9 t (ix2 a l) = cosL (m ((c : Thread nD τ).loc main_arg7)) (ix2 (row t a) l) := by
  rw [← V2 m c]
  blk_point [iblk, V, idx t]
theorem b10 (l : Fin 128) : iblk m c 10 t (ix2 a l) = sinLo (m ((c : Thread nD τ).loc main_arg8)) (ix2 (row t a) l) := by
  rw [← V7 m c]
  blk_point [iblk, V, idx t]
theorem b11 (l : Fin 128) : iblk m c 11 t (ix2 a l) = sinHi (m ((c : Thread nD τ).loc main_arg8)) (ix2 (row t a) l) := by
  rw [← V11 m c]
  blk_point [iblk, V, idx t]
theorem b12 (i : Fin 768) : iblk m c 12 t (ix2 i a) = normQ (m ((c : Thread nD τ).loc main_arg0)) (m ((c : Thread nD τ).loc main_arg3)) (ix2 i (row t a)) := by
  rw [← V48 m c]
  blk_point [iblk, V, idx t]
theorem b13 (i : Fin 256) : iblk m c 13 t (ix2 i a) = normK (m ((c : Thread nD τ).loc main_arg1)) (m ((c : Thread nD τ).loc main_arg5)) (ix2 i (row t a)) := by
  rw [← V65 m c]
  blk_point [iblk, V, idx t]
end Blocks

end Cert.Kernel4Ideal.Mla
end
-- ==== Proof.MlaVal.lean ====
/-
  The two turned cotangents of a step and their products with the weights, at the arguments.
-/
module

public import proofs.«01_k».proof.Proof.MlaBlock
public import proofs.«01_k».proof.Proof.Gen.Kernel4Ideal.Frame
public import Idealize.ShloMosaic.Lib.Pipeline.ValueKit
public import Idealize.ShloMosaic.Lib.Claim
public import Idealize.ShloMosaic.Lib.Pointwise

@[expose] public section

set_option maxRecDepth 16384

noncomputable section

namespace Cert.Kernel4Ideal.Mla

open Cert.Kernel4Ideal Cert.Kernel4Ideal.Gen
open Idealize.ShloMosaic Idealize.ShloMosaic.TcCoe Idealize.SL.Sem
open Idealize.ShloMosaic.Pipeline (Dat)

theorem head96 (A : FVec Ideal S1x8x4096x96 .f32) (r : Fin 4096) (p : Fin 8) (y : Fin 128) (j : Fin 1024) (hj : j.val = 128 * p.val + y.val) :
    heads96 A (ix2 r j) = if h : y.val < 96 then (A (ix4 0 p r ⟨y.val, h⟩) : EReal) else 0 := by
  rw [heads96_at]
  by_cases h : y.val < 96
  · rw [dif_pos (by omega), dif_pos h]
    exact congrArg₂ (fun (u : Fin 8) (v : Fin 96) => (A (ix4 0 u r v) : EReal)) (Fin.ext (by show j.val / 128 = p.val; omega)) (Fin.ext (by show j.val % 128 = y.val; omega))
  · rw [dif_neg (by omega), dif_neg h]

/-- A row's product with the transposed weights. -/
def nq (DQ : FVec Ideal S1x8x4096x96 .f32) (C S : FVec Ideal S4096x16 .f32) (W : FVec Ideal S1x768x768 .f32) (r : Fin 4096) (i : Fin 768) : EReal :=
  ∑ k : Fin 768, qv DQ C S r k * W (ix3 0 i k)
def nk (DK : FVec Ideal S1x8x4096x96 .f32) (DV : FVec Ideal S1x8x4096x64 .f32) (W : FVec Ideal S1x256x1024 .f32) (r : Fin 4096) (i : Fin 256) : EReal :=
  ∑ k : Fin 1024, kv DK DV r k * W (ix3 0 i k)

variable (m : (ℓ : Loc nD τ sig) → Buf (Elt Ideal) ℓ) (c : Dev nD) (t : Fin cfg0.N) (a : Fin 512)

abbrev aX := (m ((c : Thread nD τ).loc main_arg0) : FVec Ideal S1x4096x768 .f32)
abbrev aY := (m ((c : Thread nD τ).loc main_arg1) : FVec Ideal S1x4096x256 .f32)
abbrev aGq := (m ((c : Thread nD τ).loc main_arg3) : FVec Ideal S1x768 .f32)
abbrev aWq := (m ((c : Thread nD τ).loc main_arg4) : FVec Ideal S1x768x768 .f32)
abbrev aGk := (m ((c : Thread nD τ).loc main_arg5) : FVec Ideal S1x256 .f32)
abbrev aWk := (m ((c : Thread nD τ).loc main_arg6) : FVec Ideal S1x256x1024 .f32)
abbrev aC := (m ((c : Thread nD τ).loc main_arg7) : FVec Ideal S4096x16 .f32)
abbrev aS := (m ((c : Thread nD τ).loc main_arg8) : FVec Ideal S4096x16 .f32)
abbrev aDQ := (m ((c : Thread nD τ).loc main_arg9) : FVec Ideal S1x8x4096x96 .f32)
abbrev aDK := (m ((c : Thread nD τ).loc main_arg10) : FVec Ideal S1x8x4096x96 .f32)
abbrev aDV := (m ((c : Thread nD τ).loc main_arg11) : FVec Ideal S1x8x4096x64 .f32)

theorem turn_block (D : Fin 512 → Fin 128 → EReal) (d : Fin 96 → EReal) (hD : ∀ l : Fin 128, D a l = if h : l.val < 96 then d ⟨l.val, h⟩ else 0) (l : Fin 128) :
    turn D (iblk m c 9 t) (iblk m c 10 t) (iblk m c 11 t) a l = if h : l.val < 96 then turnH d (aC m c) (aS m c) (row t a) ⟨l.val, h⟩ else 0 := by
  unfold turn
  rw [b9, b10, b11]
  exact turned_lanes (aC m c) (aS m c) (row t a) d (D a) hD l _ _ rfl rfl

theorem dqT_at (j : Fin 1024) : dqT m c t (ix2 a j) = if h : j.val % 128 < 96 then
    turnH (fun e => aDQ m c (ix4 0 ⟨j.val / 128, by omega⟩ (row t a) e)) (aC m c) (aS m c) (row t a) ⟨j.val % 128, h⟩ * scaleK else 0 := by
  unfold dqT
  rw [dqB_at, turn_block m c t a _ (fun e => aDQ m c (ix4 0 ⟨j.val / 128, by omega⟩ (row t a) e)) (fun l => by
    rw [b2, head96 _ _ ⟨j.val / 128, by omega⟩ l _ rfl])]
  by_cases h : j.val % 128 < 96
  · rw [dif_pos h, dif_pos h]
  · rw [dif_neg h, dif_neg h, zero_mul]

theorem dqT_place (k : Fin 768) : dqT m c t (ix2 a (placeQ k)) = qv (aDQ m c) (aC m c) (aS m c) (row t a) k := by
  rw [dqT_at, dif_pos (by show (128 * (k.val / 96) + k.val % 96) % 128 < 96; omega)]
  unfold qv
  exact congrArg₂ (fun (p : Fin 8) (e : Fin 96) => turnH (fun e => aDQ m c (ix4 0 p (row t a) e)) (aC m c) (aS m c) (row t a) e * scaleK)
    (Fin.ext (by show (128 * (k.val / 96) + k.val % 96) / 128 = k.val / 96; omega)) (Fin.ext (by show (128 * (k.val / 96) + k.val % 96) % 128 = k.val % 96; omega))

theorem dkvT_at (j : Fin 2048) : dkvT m c t (ix2 a j) = if j.val % 128 < 64 then (if h : j.val < 1024 then
    (heads96 (aDK m c) (ix2 (row t a) ⟨j.val, h⟩) : EReal) else heads64 (aDV m c) (ix2 (row t a) ⟨j.val - 1024, by omega⟩)) else 0 := by
  unfold dkvT
  rw [dkvB_at]
  simp only [b3, b4]

theorem dkvT_place (k : Fin 1024) : dkvT m c t (ix2 a (placeK k)) = kv (aDK m c) (aDV m c) (row t a) k := by
  rw [dkvT_at]
  unfold kv
  by_cases h : k.val % 128 < 64
  · have e : (placeK k).val = k.val := by
      show (if k.val % 128 < 64 then _ else _) = k.val
      rw [if_pos h]; omega
    rw [if_pos (by omega), dif_pos (by omega), dif_pos h, heads96_at, dif_pos (by show (placeK k).val % 128 < 96; omega)]
    exact congrArg₂ (fun (p : Fin 8) (e : Fin 96) => (aDK m c (ix4 0 p (row t a) e) : EReal))
      (Fin.ext (by show (placeK k).val / 128 = k.val / 128; omega)) (Fin.ext (by show (placeK k).val % 128 = k.val % 128; omega))
  · have e : (placeK k).val = 1024 + 128 * (k.val / 128) + (k.val % 128 - 64) := by
      show (if k.val % 128 < 64 then _ else _) = _
      rw [if_neg h]
    rw [if_pos (by omega), dif_neg (by omega), dif_neg h, heads64_at, dif_pos (by show ((placeK k).val - 1024) % 128 < 64; omega)]
    exact congrArg₂ (fun (p : Fin 8) (e : Fin 64) => (aDV m c (ix4 0 p (row t a) e) : EReal))
      (Fin.ext (by show ((placeK k).val - 1024) / 128 = k.val / 128; omega)) (Fin.ext (by show ((placeK k).val - 1024) % 128 = k.val % 128 - 64; omega))

theorem nq_block (i : Fin 768) : k0_pay74 (F := Ideal) (dqT m c t) (iblk m c 7 t) (ix2 a i) = nq (aDQ m c) (aC m c) (aS m c) (aWq m c) (row t a) i := by
  rw [dnq_at]
  refine sum_placeQ _ _ (fun j hj => ?_) (fun k => ?_)
  · rw [dqT_at, dif_neg hj, zero_mul]
  · rw [dqT_place, b7, weightQ_place]

theorem nk_block (i : Fin 256) : k0_pay75 (F := Ideal) (dkvT m c t) (iblk m c 8 t) (ix2 a i) = nk (aDK m c) (aDV m c) (aWk m c) (row t a) i := by
  rw [dnk_at]
  refine sum_placeK _ _ (fun j hj => ?_) (fun k => ?_)
  · rw [dkvT_at, if_neg hj, zero_mul]
  · rw [dkvT_place, b8, weightK_place]

theorem uq_block : ubq (X0_0 m c t) a = uq (aX m c) (row t a) := by
  unfold ubq uq
  simp only [b0]
theorem uk_block : ubk (iblk m c 1 t) a = uk (aY m c) (row t a) := by
  unfold ubk uk
  simp only [b1]

/-- The shared lanes' gradient. -/
def kp (DK : FVec Ideal S1x8x4096x96 .f32) (C S : FVec Ideal S4096x16 .f32) (r : Fin 4096) (e : Fin 32) : EReal :=
  turnH (fun e => ∑ h : Fin 8, (DK (ix4 0 h r e) : EReal)) C S r ⟨64 + e.val, by omega⟩

theorem kp_block (e : Fin 32) : kpeB (iblk m c 3 t) (iblk m c 9 t) (iblk m c 10 t) (iblk m c 11 t) (ix2 a ⟨64 + e.val, by omega⟩)
    = kp (aDK m c) (aC m c) (aS m c) (row t a) e := by
  rw [kpeB_at, if_pos ⟨by show 64 ≤ 64 + e.val; omega, by show 64 + e.val < 96; omega⟩,
    turn_block m c t a _ (fun e => ∑ h : Fin 8, (aDK m c (ix4 0 h (row t a) e) : EReal)) (fun l => by
      by_cases h : l.val < 96
      · rw [dif_pos h]
        refine Finset.sum_congr rfl fun p _ => ?_
        rw [b3, head96 _ _ p l _ rfl, dif_pos h]
      · rw [dif_neg h]
        refine Finset.sum_eq_zero fun p _ => ?_
        rw [b3, head96 _ _ p l _ rfl, dif_neg h])]
  rw [dif_pos (by show 64 + e.val < 96; omega)]
  rfl

/-! ## What each step adds -/

def dgqTerm (X : FVec Ideal S1x4096x768 .f32) (N : Fin 4096 → Fin 768 → EReal) (r : Fin 4096) (i : Fin 768) : EReal :=
  N r i * (X (ix3 0 r i) * Ideal.rsqrt (uq X r))
def dgkTerm (X : FVec Ideal S1x4096x256 .f32) (N : Fin 4096 → Fin 256 → EReal) (r : Fin 4096) (i : Fin 256) : EReal :=
  N r i * (X (ix3 0 r i) * Ideal.rsqrt (uk X r))
def dcq (X : FVec Ideal S1x4096x768 .f32) (G : FVec Ideal S1x768 .f32) (N : Fin 4096 → Fin 768 → EReal) (r : Fin 4096) (i : Fin 768) : EReal :=
  Ideal.rsqrt (uq X r) * (N r i * G (ix2 0 i) - X (ix3 0 r i) * Ideal.rsqrt (uq X r)
    * Ideal.div (∑ l : Fin 768, N r l * G (ix2 0 l) * (X (ix3 0 r l) * Ideal.rsqrt (uq X r))) (768 : ℝ))
def dck (X : FVec Ideal S1x4096x256 .f32) (G : FVec Ideal S1x256 .f32) (N : Fin 4096 → Fin 256 → EReal) (r : Fin 4096) (i : Fin 256) : EReal :=
  Ideal.rsqrt (uk X r) * (N r i * G (ix2 0 i) - X (ix3 0 r i) * Ideal.rsqrt (uk X r)
    * Ideal.div (∑ l : Fin 256, N r l * G (ix2 0 l) * (X (ix3 0 r l) * Ideal.rsqrt (uk X r))) (256 : ℝ))

abbrev aNq := nq (aDQ m c) (aC m c) (aS m c) (aWq m c)
abbrev aNk := nk (aDK m c) (aDV m c) (aWk m c)

theorem point_dgq (A : Vec Ideal S1x768 .f32) (j : S1x768.Idx) :
    k0_pay80 (F := Ideal) (k0_pay74 (dqT m c t) (iblk m c 7 t)) (k0_pay76 (X0_0 m c t)) (k0_pay77 (X0_0 m c t)) A j
      = A j + ∑ a : Fin 512, dgqTerm (aX m c) (aNq m c) (row t a) (j 1) := by
  idx_vars j
  rw [Subsingleton.elim j0 0, dgq_at]
  unfold dgqTerm
  simp only [nq_block, uq_block, b0]
theorem point_dgk (A : Vec Ideal S1x256 .f32) (j : S1x256.Idx) :
    k0_pay2 (F := Ideal) (k0_pay75 (dkvT m c t) (iblk m c 8 t)) (k0_pay82 (iblk m c 1 t)) (k0_pay84 (iblk m c 1 t)) A j
      = A j + ∑ a : Fin 512, dgkTerm (aY m c) (aNk m c) (row t a) (j 1) := by
  idx_vars j
  rw [Subsingleton.elim j0 0, dgk_at]
  unfold dgkTerm
  simp only [nk_block, uk_block, b1]
theorem point_dcq (i : Fin 768) :
    k0_pay81 (F := Ideal) (k0_pay74 (dqT m c t) (iblk m c 7 t)) (k0_pay76 (X0_0 m c t)) (k0_pay77 (X0_0 m c t)) (iblk m c 5 t) (ix2 a i)
      = dcq (aX m c) (aGq m c) (aNq m c) (row t a) i := by
  rw [dcq_at]
  unfold dcq
  simp only [nq_block, uq_block, b0, b5]
theorem point_dck (i : Fin 256) :
    k0_pay3 (F := Ideal) (k0_pay75 (dkvT m c t) (iblk m c 8 t)) (k0_pay82 (iblk m c 1 t)) (k0_pay83 (iblk m c 1 t)) (k0_pay84 (iblk m c 1 t)) (iblk m c 6 t) (ix2 a i)
      = dck (aY m c) (aGk m c) (aNk m c) (row t a) i := by
  rw [dck_at]
  unfold dck
  simp only [nk_block, uk_block, b1, b6]

/-- A weight gradient's term at a row, in the padded columns. -/
def dwqTerm (r : Fin 4096) (i : Fin 768) (j : Fin 1024) : EReal :=
  normQ (aX m c) (aGq m c) (ix2 i r) * (if h : j.val % 128 < 96 then
    turnH (fun e => aDQ m c (ix4 0 ⟨j.val / 128, by omega⟩ r e)) (aC m c) (aS m c) r ⟨j.val % 128, h⟩ * scaleK else 0)
def dwkTerm (r : Fin 4096) (i : Fin 256) (j : Fin 2048) : EReal :=
  normK (aY m c) (aGk m c) (ix2 i r) * (if j.val % 128 < 64 then (if h : j.val < 1024 then
    (heads96 (aDK m c) (ix2 r ⟨j.val, h⟩) : EReal) else heads64 (aDV m c) (ix2 r ⟨j.val - 1024, by omega⟩)) else 0)

theorem point_dwq (A : Vec Ideal S768x1024 .f32) (j : S768x1024.Idx) :
    k0_pay72 (F := Ideal) (dqT m c t) A (iblk m c 12 t) j = A j + ∑ a : Fin 512, dwqTerm m c (row t a) (j 0) (j 1) := by
  idx_vars j
  rw [dwq_at]
  unfold dwqTerm
  simp only [dqT_at, b12]
theorem point_dwk (A : Vec Ideal S256x2048 .f32) (j : S256x2048.Idx) :
    k0_pay73 (F := Ideal) (dkvT m c t) A (iblk m c 13 t) j = A j + ∑ a : Fin 512, dwkTerm m c (row t a) (j 0) (j 1) := by
  idx_vars j
  rw [dwk_at]
  unfold dwkTerm
  simp only [dkvT_at, b13]

end Cert.Kernel4Ideal.Mla
end
-- ==== Proof.MlaArr.lean ====
/-
  The five arrays that the latent projections' backward region leaves.
-/
module

public import proofs.«01_k».proof.Proof.MlaVal
public import proofs.«01_k».proof.Proof.Gen.Kernel4Ideal.Frame
public import Idealize.ShloMosaic.Lib.Pipeline.ValueKit
public import Idealize.ShloMosaic.Lib.Claim
public import Idealize.ShloMosaic.Lib.Pointwise

@[expose] public section

set_option maxRecDepth 16384

noncomputable section

namespace Cert.Kernel4Ideal.Mla

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem final_dgq : (dats m 0 c).arrAt 15 (cfgs 0).N = fun i : S1x768.Idx => ∑ r : Fin 4096, dgqTerm (aX m c) (aNq m c) r (i 1) := by
  refine (dats m 0 c).arrAt_eq_of_after_last 15 t0_7 (by decide +kernel) _ fun j => ?_
  blk_simp
  rw [after0_15, Pipeline.eq_sum_fin_of_reset_step_apply_last (fun n h => (outsAt0 m c n h).2.1) 8 (fun _ => 0) _
    (fun t h j => by
      rw [start_dgq m c t h j, point_dgq, (zeros j (ix2 0 0) (ix2 0 0) (ix2 0 0)).1])
    (fun t h j => by rw [step_dgq m c t h j, point_dgq])
    (le_of_eq N_0) t0_7 rfl _, zero_add]
  exact Fin.sum_mul_add_congr (fun t a hl => rfl)

theorem final_dgk : (dats m 0 c).arrAt 16 (cfgs 0).N = fun i : S1x256.Idx => ∑ r : Fin 4096, dgkTerm (aY m c) (aNk m c) r (i 1) := by
  refine (dats m 0 c).arrAt_eq_of_after_last 16 t0_7 (by decide +kernel) _ fun j => ?_
  blk_simp
  rw [after0_16, Pipeline.eq_sum_fin_of_reset_step_apply_last (fun n h => (outsAt0 m c n h).2.2.1) 8 (fun _ => 0) _
    (fun t h j => by
      rw [start_dgk m c t h j, point_dgk, (zeros (ix2 0 0) j (ix2 0 0) (ix2 0 0)).2.1])
    (fun t h j => by rw [step_dgk m c t h j, point_dgk])
    (le_of_eq N_0) t0_7 rfl _, zero_add]
  exact Fin.sum_mul_add_congr (fun t a hl => rfl)

theorem kept_dwq (j : S768x1024.Idx) : (outsAt0 m c t0_7.val t0_7.isLt).2.2.2.2.2.1 j = ∑ r : Fin 4096, dwqTerm m c r (j 0) (j 1) := by
  rw [Pipeline.eq_sum_fin_of_reset_step_apply_last (fun n h => (outsAt0 m c n h).2.2.2.2.2.1) 8 (fun _ => 0) _
    (fun t h j => by
      rw [start_dwq m c t h j, point_dwq, (zeros (ix2 0 0) (ix2 0 0) j (ix2 0 0)).2.2.1])
    (fun t h j => by rw [step_dwq m c t h j, point_dwq])
    (le_of_eq N_0) t0_7 rfl _, zero_add]
  exact Fin.sum_mul_add_congr (fun t a hl => rfl)
theorem kept_dwk (j : S256x2048.Idx) : (outsAt0 m c t0_7.val t0_7.isLt).2.2.2.2.2.2 j = ∑ r : Fin 4096, dwkTerm m c r (j 0) (j 1) := by
  rw [Pipeline.eq_sum_fin_of_reset_step_apply_last (fun n h => (outsAt0 m c n h).2.2.2.2.2.2) 8 (fun _ => 0) _
    (fun t h j => by
      rw [start_dwk m c t h j, point_dwk, (zeros (ix2 0 0) (ix2 0 0) (ix2 0 0) j).2.2.2])
    (fun t h j => by rw [step_dwk m c t h j, point_dwk])
    (le_of_eq N_0) t0_7 rfl _, zero_add]
  exact Fin.sum_mul_add_congr (fun t a hl => rfl)

theorem slot_uq (p : Fin 8) (q : Fin 96) (k : Fin 768) :
    (uqB (fun j : S768x1024.Idx => ∑ r : Fin 4096, dwqTerm m c r (j 0) (j 1)) (ix3 p q k) : EReal)
      = ∑ r : Fin 4096, normQ (aX m c) (aGq m c) (ix2 ⟨96 * p.val + q.val, by omega⟩ r) * qv (aDQ m c) (aC m c) (aS m c) r k := by
  rw [uqB_at]
  refine Finset.sum_congr rfl fun r _ => ?_
  unfold dwqTerm qv
  have hl : (128 * (k.val / 96) + k.val % 96) % 128 = k.val % 96 := by omega
  have hd : (128 * (k.val / 96) + k.val % 96) / 128 = k.val / 96 := by omega
  refine congrArg (fun z : EReal => (normQ (aX m c) (aGq m c) (ix2 ⟨96 * p.val + q.val, by omega⟩ r) : EReal) * z) ?_
  refine (dif_pos (by show (128 * (k.val / 96) + k.val % 96) % 128 < 96; omega)).trans ?_
  exact congrArg₂ (fun (p : Fin 8) (e : Fin 96) => turnH (fun e => aDQ m c (ix4 0 p r e)) (aC m c) (aS m c) r e * scaleK) (Fin.ext hd) (Fin.ext hl)

theorem slot_uk (p : Fin 8) (i : Fin 256) (l : Fin 128) :
    (ukB (fun j : S256x2048.Idx => ∑ r : Fin 4096, dwkTerm m c r (j 0) (j 1)) (ix3 p i l) : EReal)
      = ∑ r : Fin 4096, normK (aY m c) (aGk m c) (ix2 i r) * kv (aDK m c) (aDV m c) r ⟨128 * p.val + l.val, by omega⟩ := by
  rw [ukB_at]
  by_cases h : l.val < 64
  · rw [dif_pos h]
    refine Finset.sum_congr rfl fun r _ => ?_
    unfold dwkTerm
    refine congrArg (fun z : EReal => (normK (aY m c) (aGk m c) (ix2 i r) : EReal) * z) ?_
    refine (if_pos (by show (128 * p.val + l.val) % 128 < 64; omega)).trans ((dif_pos (by show 128 * p.val + l.val < 1024; omega)).trans ?_)
    rw [heads96_at]
    refine (dif_pos (by show (128 * p.val + l.val) % 128 < 96; omega)).trans ?_
    unfold kv
    refine Eq.trans ?_ (dif_pos (by show (128 * p.val + l.val) % 128 < 64; omega)).symm
    rfl
  · rw [dif_neg h]
    refine Finset.sum_congr rfl fun r _ => ?_
    unfold dwkTerm
    refine congrArg (fun z : EReal => (normK (aY m c) (aGk m c) (ix2 i r) : EReal) * z) ?_
    refine (if_pos (by show (1024 + 128 * p.val + (l.val - 64)) % 128 < 64; omega)).trans ((dif_neg (by show ¬ 1024 + 128 * p.val + (l.val - 64) < 1024; omega)).trans ?_)
    rw [heads64_at]
    refine (dif_pos (by show (1024 + 128 * p.val + (l.val - 64) - 1024) % 128 < 64; omega)).trans ?_
    unfold kv
    refine Eq.trans ?_ (dif_neg (by show ¬ (128 * p.val + l.val) % 128 < 64; omega)).symm
    exact congrArg₂ (fun (p : Fin 8) (e : Fin 64) => (aDV m c (ix4 0 p r e) : EReal))
      (Fin.ext (by show (1024 + 128 * p.val + (l.val - 64) - 1024) / 128 = (128 * p.val + l.val) / 128; omega))
      (Fin.ext (by show (1024 + 128 * p.val + (l.val - 64) - 1024) % 128 = (128 * p.val + l.val) % 128 - 64; omega))

theorem final_uq : (dats m 0 c).arrAt 17 (cfgs 0).N = fun i : S8x96x768.Idx =>
    ∑ r : Fin 4096, normQ (aX m c) (aGq m c) (ix2 ⟨96 * (i 0).val + (i 1).val, by have h0 : (i 0).val < 8 := (i 0).isLt; have h1 : (i 1).val < 96 := (i 1).isLt; omega⟩ r) * qv (aDQ m c) (aC m c) (aS m c) r (i 2) := by
  refine (dats m 0 c).arrAt_eq_of_after_last 17 t0_7 (by decide +kernel) _ fun j => ?_
  blk_simp
  have e := funext fun j => (step_dwq m c t0_7 (by decide) j).symm.trans (kept_dwq m c j)
  rw [after0_17, last_uq m c t0_7 (by decide) (by decide), e]
  idx_vars j
  exact slot_uq m c j0 j1 j2

theorem final_uk : (dats m 0 c).arrAt 18 (cfgs 0).N = fun i : S8x256x128.Idx =>
    ∑ r : Fin 4096, normK (aY m c) (aGk m c) (ix2 (i 1) r) * kv (aDK m c) (aDV m c) r ⟨128 * (i 0).val + (i 2).val, by have h0 : (i 0).val < 8 := (i 0).isLt; have h1 : (i 2).val < 128 := (i 2).isLt; omega⟩ := by
  refine (dats m 0 c).arrAt_eq_of_after_last 18 t0_7 (by decide +kernel) _ fun j => ?_
  blk_simp
  have e := funext fun j => (step_dwk m c t0_7 (by decide) j).symm.trans (kept_dwk m c j)
  rw [after0_18, last_uk m c t0_7 (by decide) (by decide), e]
  idx_vars j
  exact slot_uk m c j0 j1 j2

/-- The step and the row of the block that an array's element lies in. -/
def stepOf (i : Fin 4096) : Fin cfg0.N := ⟨i.val / 512, by have h : cfg0.N = 8 := N_0; omega⟩
def laneOf (i : Fin 4096) : Fin 512 := ⟨i.val % 512, by omega⟩
theorem row_of (i : Fin 4096) : row (stepOf i) (laneOf i) = i := Fin.ext (by show i.val / 512 * 512 + i.val % 512 = i.val; omega)

theorem final_dc (r : Fin 4096) (j : Fin 1152) :
    ((dats m 0 c).arrAt 14 (cfgs 0).N : FVec Ideal S4096x5760 .bf16) (ix2 r ⟨4608 + j.val, by omega⟩) = dcT m c (stepOf r) (ix2 (laneOf r) j) := by
  refine ((dats m 0 c).arrAt_apply_of_coversWhere 14 (fun i : S4096x5760.Idx => dcT m c (stepOf (i 0)) (ix2 (laneOf (i 0)) (⟨(i 1).val % 1152, Nat.mod_lt _ (by decide)⟩ : Fin 1152)))
    (P := fun i : S4096x5760.Idx => (i 1 : ℕ) / 1152 = 4) (fun β => β (1 : Fin _) = 4) (by decide +kernel) (fun t hf y => ?_) (fun j => Iff.rfl) _).trans ?_
  · blk_simp
    rw [after0_14, step_dc]
    idx_vars y
    have e0 : ((View.whole main_v84_0).slice (win0_14.rect t)).emb (ix2 y0 y1) 0 = row t y0 := by
      apply Fin.ext; blk_simp [idx t]
    have s0 : stepOf (row t y0) = t := Fin.ext (by show (t.val * 512 + y0.val) / 512 = t.val; omega)
    have l0 : laneOf (row t y0) = y0 := Fin.ext (by show (t.val * 512 + y0.val) % 512 = y0.val; omega)
    rw [e0, s0, l0]
    exact congrArg (fun z : Fin 1152 => dcT m c t (ix2 y0 z)) (Fin.ext (by
      show y1.val = (win0_14.index t 1 * 1152 + y1.val) % 1152
      have h1 : y1.val < 1152 := y1.isLt
      omega))
  · refine (if_pos (show (4608 + j.val) / 1152 = 4 by omega)).trans ?_
    exact congrArg (fun z : Fin 1152 => dcT m c (stepOf r) (ix2 (laneOf r) z)) (Fin.ext (by show (4608 + j.val) % 1152 = j.val; omega))

theorem arr_dcq (r : Fin 4096) (i : Fin 768) :
    ((dats m 0 c).arrAt 14 (cfgs 0).N : FVec Ideal S4096x5760 .bf16) (ix2 r ⟨4608 + i.val, by omega⟩) = dcq (aX m c) (aGq m c) (aNq m c) r i := by
  refine (final_dc m c r ⟨i.val, by omega⟩).trans ?_
  unfold dcT
  rw [dcB_at]
  refine (dif_pos i.isLt).trans ?_
  refine (point_dcq m c (stepOf r) (laneOf r) i).trans ?_
  rw [row_of]
theorem arr_dck (r : Fin 4096) (i : Fin 256) :
    ((dats m 0 c).arrAt 14 (cfgs 0).N : FVec Ideal S4096x5760 .bf16) (ix2 r ⟨5376 + i.val, by omega⟩) = dck (aY m c) (aGk m c) (aNk m c) r i := by
  refine (congrArg (fun z => ((dats m 0 c).arrAt 14 (cfgs 0).N : FVec Ideal S4096x5760 .bf16) (ix2 r z)) (Fin.ext (by show 5376 + i.val = 4608 + (768 + i.val); omega))).trans
    ((final_dc m c r ⟨768 + i.val, by omega⟩).trans ?_)
  unfold dcT
  rw [dcB_at]
  refine (dif_neg (by show ¬ 768 + i.val < 768; omega)).trans ((dif_pos (by show 768 + i.val - 768 < 256; omega)).trans ?_)
  refine Eq.trans (congrArg (fun z => k0_pay3 (F := Ideal) (k0_pay75 (dkvT m c (stepOf r)) (iblk m c 8 (stepOf r))) (k0_pay82 (iblk m c 1 (stepOf r))) (k0_pay83 (iblk m c 1 (stepOf r))) (k0_pay84 (iblk m c 1 (stepOf r))) (iblk m c 6 (stepOf r)) (ix2 (laneOf r) z))
    (Fin.ext (by show 768 + i.val - 768 = i.val; omega))) ((point_dck m c (stepOf r) (laneOf r) i).trans ?_)
  rw [row_of]
theorem arr_kp (r : Fin 4096) (e : Fin 32) :
    ((dats m 0 c).arrAt 14 (cfgs 0).N : FVec Ideal S4096x5760 .bf16) (ix2 r ⟨5696 + e.val, by omega⟩) = kp (aDK m c) (aC m c) (aS m c) r e := by
  refine (congrArg (fun z => ((dats m 0 c).arrAt 14 (cfgs 0).N : FVec Ideal S4096x5760 .bf16) (ix2 r z)) (Fin.ext (by show 5696 + e.val = 4608 + (1088 + e.val); omega))).trans
    ((final_dc m c r ⟨1088 + e.val, by omega⟩).trans ?_)
  unfold dcT
  rw [dcB_at]
  refine (dif_neg (by show ¬ 1088 + e.val < 768; omega)).trans ((dif_neg (by show ¬ 1088 + e.val - 768 < 256; omega)).trans ?_)
  refine Eq.trans (congrArg (fun z => kpeB (iblk m c 3 (stepOf r)) (iblk m c 9 (stepOf r)) (iblk m c 10 (stepOf r)) (iblk m c 11 (stepOf r)) (ix2 (laneOf r) z))
    (Fin.ext (by show 1088 + e.val - 1024 = 64 + e.val; omega))) ((kp_block m c (stepOf r) (laneOf r) e).trans ?_)
  rw [row_of]

end Cert.Kernel4Ideal.Mla
end
-- ==== Proof.MlaTail.lean ====
/-
  What the host makes of the region's arrays.
-/
module

public import proofs.«01_k».proof.Proof.MlaArr
public import proofs.«01_k».proof.Proof.Gen.Kernel4Ideal.Frame
public import Idealize.ShloMosaic.Lib.Pipeline.ValueKit
public import Idealize.ShloMosaic.Lib.StableHlo.RunRead
public import Idealize.ShloMosaic.Lib.Claim
public import Idealize.ShloMosaic.Lib.Pointwise

@[expose] public section

set_option maxRecDepth 16384

noncomputable section

namespace Cert.Kernel4Ideal.Mla

open Cert.Kernel4Ideal Cert.Kernel4Ideal.Gen
open Idealize.ShloMosaic Idealize.ShloMosaic.TcCoe Idealize.SL.Sem
open Idealize.ShloMosaic.Pipeline (Dat)

/-- The region's columns, and the weights' gradients from the squares and strips they were cut into. -/
def wideH (A : FVec Ideal S4096x5760 .bf16) : FVec Ideal S1x4096x5760 .f32 :=
  broadcastInDim S1x4096x5760 ![1, 2] bcast_S4096x5760_S1x4096x5760_1_2 (extf .f32 A bitsLt_bf16_f32 : FVec Ideal S4096x5760 .f32)
def uqH (A : FVec Ideal S8x96x768 .bf16) : FVec Ideal S1x768x768 .f32 :=
  shapeCast S1x768x768 (extf .f32 A bitsLt_bf16_f32 : FVec Ideal S8x96x768 .f32) shapeCasts_S8x96x768_S1x768x768
def ukH (A : FVec Ideal S8x256x128 .bf16) : FVec Ideal S1x256x1024 .f32 :=
  shapeCast S1x256x1024 (transpose S256x8x128 [1, 0, 2] (extf .f32 A bitsLt_bf16_f32 : FVec Ideal S8x256x128 .f32) transposes_S8x256x128_S256x8x128_1_0_2 : FVec Ideal S256x8x128 .f32) shapeCasts_S256x8x128_S1x256x1024
def colQ (A : FVec Ideal S1x4096x5760 .f32) : FVec Ideal S1x4096x768 .f32 := extractStridedSlice S1x4096x768 ![0, 0, 4608] A slices_S1x4096x5760_S1x4096x768_0_0_4608
def colK (A : FVec Ideal S1x4096x5760 .f32) : FVec Ideal S1x4096x256 .f32 := extractStridedSlice S1x4096x256 ![0, 0, 5376] A slices_S1x4096x5760_S1x4096x256_0_0_5376
def colP (A : FVec Ideal S1x4096x5760 .f32) : FVec Ideal S1x4096x32 .f32 := extractStridedSlice S1x4096x32 ![0, 0, 5696] A slices_S1x4096x5760_S1x4096x32_0_0_5696

theorem colQ_at (A : FVec Ideal S4096x5760 .bf16) (r : Fin 4096) (i : Fin 768) : colQ (wideH A) (ix3 0 r i) = A (ix2 r ⟨4608 + i.val, by omega⟩) := by
  pointwise [colQ, wideH]
theorem colK_at (A : FVec Ideal S4096x5760 .bf16) (r : Fin 4096) (i : Fin 256) : colK (wideH A) (ix3 0 r i) = A (ix2 r ⟨5376 + i.val, by omega⟩) := by
  pointwise [colK, wideH]
theorem colP_at (A : FVec Ideal S4096x5760 .bf16) (r : Fin 4096) (e : Fin 32) : colP (wideH A) (ix3 0 r e) = A (ix2 r ⟨5696 + e.val, by omega⟩) := by
  pointwise [colP, wideH]
theorem uqH_at (A : FVec Ideal S8x96x768 .bf16) (i k : Fin 768) : uqH A (ix3 0 i k) = A (ix3 ⟨i.val / 96, by omega⟩ ⟨i.val % 96, by omega⟩ k) := by
  pointwise [uqH]
theorem ukH_at (A : FVec Ideal S8x256x128 .bf16) (i : Fin 256) (k : Fin 1024) : ukH A (ix3 0 i k) = A (ix3 ⟨k.val / 128, by omega⟩ i ⟨k.val % 128, by omega⟩) := by
  pointwise [ukH]

section Tail
variable (T : Valuation τ sig (Elt Ideal))
theorem tail_v92 : StableHlo.after hostOps1 T (Proc.devRef .tc main_v92) = colQ (wideH (T (Proc.devRef .tc main_v84_0))) := by
  unfold colQ wideH
  after_reads_simp
theorem tail_v93 : StableHlo.after hostOps1 T (Proc.devRef .tc main_v93) = colK (wideH (T (Proc.devRef .tc main_v84_0))) := by
  unfold colK wideH
  after_reads_simp
theorem tail_v94 : StableHlo.after hostOps1 T (Proc.devRef .tc main_v94) = colP (wideH (T (Proc.devRef .tc main_v84_0))) := by
  unfold colP wideH
  after_reads_simp
theorem tail_v88 : StableHlo.after hostOps1 T (Proc.devRef .tc main_v88) = uqH (T (Proc.devRef .tc main_v84_3)) := by
  unfold uqH
  after_reads_simp
  rfl
theorem tail_v91 : StableHlo.after hostOps1 T (Proc.devRef .tc main_v91) = ukH (T (Proc.devRef .tc main_v84_4)) := by
  unfold ukH
  after_reads_simp
  rfl
end Tail

variable (m : (ℓ : Loc nD τ sig) → Buf (Elt Ideal) ℓ) (c : Dev nD)

theorem kept (w : Fin 19) : Pipeline.withArrays spec0 c (V0 m c) (fun w => (dats m 0 c).arrAt w cfg0.N) (Proc.devRef .tc (Pipeline.arrRef spec0 w))
    = (dats m 0 c).arrAt w cfg0.N :=
  Pipeline.withArrays_arr_shared spec0 c (V0 m c) (fun w => (dats m 0 c).arrAt w cfg0.N)
    (fun w w' hne e => ((dats m 0 c).arrAt_in w (sharedIn0 w w' hne e) _).trans (A_eq m c w)) w

theorem out_dcq (r : Fin 4096) (i : Fin 768) : (Pipeline.afterTail₀ cfgs (dats m) 0 (V0 m) [hostOps1] c main_v92 : FVec Ideal S1x4096x768 .f32) (ix3 0 r i)
    = dcq (aX m c) (aGq m c) (aNq m c) r i := by
  refine Eq.trans ?_ ((colQ_at ((dats m 0 c).arrAt 14 (cfgs 0).N) r i).trans (arr_dcq m c r i))
  unfold Pipeline.afterTail₀
  rw [List.flatten_cons, List.flatten_nil, List.append_nil, tail_v92]
  exact congrArg (fun A => colQ (wideH A) (ix3 0 r i)) (kept m c 14)
theorem out_dck (r : Fin 4096) (i : Fin 256) : (Pipeline.afterTail₀ cfgs (dats m) 0 (V0 m) [hostOps1] c main_v93 : FVec Ideal S1x4096x256 .f32) (ix3 0 r i)
    = dck (aY m c) (aGk m c) (aNk m c) r i := by
  refine Eq.trans ?_ ((colK_at ((dats m 0 c).arrAt 14 (cfgs 0).N) r i).trans (arr_dck m c r i))
  unfold Pipeline.afterTail₀
  rw [List.flatten_cons, List.flatten_nil, List.append_nil, tail_v93]
  exact congrArg (fun A => colK (wideH A) (ix3 0 r i)) (kept m c 14)
theorem out_kp (r : Fin 4096) (e : Fin 32) : (Pipeline.afterTail₀ cfgs (dats m) 0 (V0 m) [hostOps1] c main_v94 : FVec Ideal S1x4096x32 .f32) (ix3 0 r e)
    = kp (aDK m c) (aC m c) (aS m c) r e := by
  refine Eq.trans ?_ ((colP_at ((dats m 0 c).arrAt 14 (cfgs 0).N) r e).trans (arr_kp m c r e))
  unfold Pipeline.afterTail₀
  rw [List.flatten_cons, List.flatten_nil, List.append_nil, tail_v94]
  exact congrArg (fun A => colP (wideH A) (ix3 0 r e)) (kept m c 14)

theorem out_uq (i k : Fin 768) : (Pipeline.afterTail₀ cfgs (dats m) 0 (V0 m) [hostOps1] c main_v88 : FVec Ideal S1x768x768 .f32) (ix3 0 i k)
    = ∑ r : Fin 4096, normQ (aX m c) (aGq m c) (ix2 i r) * qv (aDQ m c) (aC m c) (aS m c) r k := by
  unfold Pipeline.afterTail₀
  rw [List.flatten_cons, List.flatten_nil, List.append_nil, tail_v88]
  refine (congrArg (fun A => uqH A (ix3 0 i k)) (kept m c 17)).trans ?_
  refine (uqH_at _ i k).trans ?_
  refine (congrFun (final_uq m c) (ix3 ⟨i.val / 96, by omega⟩ ⟨i.val % 96, by omega⟩ k)).trans ?_
  exact congrArg (fun z : Fin 768 => (∑ r : Fin 4096, (normQ (aX m c) (aGq m c) (ix2 z r) : EReal) * qv (aDQ m c) (aC m c) (aS m c) r k : EReal)) (Fin.ext (by show 96 * (i.val / 96) + i.val % 96 = i.val; omega))
theorem out_uk (i : Fin 256) (k : Fin 1024) : (Pipeline.afterTail₀ cfgs (dats m) 0 (V0 m) [hostOps1] c main_v91 : FVec Ideal S1x256x1024 .f32) (ix3 0 i k)
    = ∑ r : Fin 4096, normK (aY m c) (aGk m c) (ix2 i r) * kv (aDK m c) (aDV m c) r k := by
  unfold Pipeline.afterTail₀
  rw [List.flatten_cons, List.flatten_nil, List.append_nil, tail_v91]
  refine (congrArg (fun A => ukH A (ix3 0 i k)) (kept m c 18)).trans ?_
  refine (ukH_at _ i k).trans ?_
  refine (congrFun (final_uk m c) (ix3 ⟨k.val / 128, by omega⟩ i ⟨k.val % 128, by omega⟩)).trans ?_
  exact congrArg (fun z : Fin 1024 => (∑ r : Fin 4096, (normK (aY m c) (aGk m c) (ix2 i r) : EReal) * kv (aDK m c) (aDV m c) r z : EReal)) (Fin.ext (by show 128 * (k.val / 128) + k.val % 128 = k.val; omega))

end Cert.Kernel4Ideal.Mla
end
-- ==== Proof.MlaRef.lean ====
/-
  The reference's gradients of the latent projections, at the arguments.
-/
module

public import proofs.«01_k».proof.Proof.MlaVal
public import proofs.«01_k».proof.Proof.Reduce
public import proofs.«01_k».proof.Proof.Norm
public import proofs.«01_k».proof.Proof.AttnHost
public import proofs.«01_k».proof.Proof.Gen.Reference4Ideal.Read

@[expose] public section

set_option maxRecDepth 16384

noncomputable section

open Idealize.ShloMosaic Idealize.ShloMosaic.TcCoe Idealize.SL.Sem

namespace Cert.Reference4Ideal.Mla

open Cert.Reference4Ideal Cert.Reference4Ideal.Gen Cert.Reference4Ideal.Read
open Cert.Kernel4Ideal.Mla (uq uk qv kv nq nk dcq dck dgqTerm dgkTerm kp turnH scaleK n768 n256)

variable (X : FVec Ideal S1x4096x768 .f32) (Y : FVec Ideal S1x4096x256 .f32) (Gq : FVec Ideal S1x768 .f32) (Wq : FVec Ideal S1x768x768 .f32)
  (Gk : FVec Ideal S1x256 .f32) (Wk : FVec Ideal S1x256x1024 .f32) (C S : FVec Ideal S4096x16 .f32)
  (DQ DK : FVec Ideal S1x8x4096x96 .f32) (DV : FVec Ideal S1x8x4096x64 .f32)

theorem uq_read (r : Fin 4096) : val_main_v7 (F := Ideal) X (ix3 0 r 0) = uq X r := by
  unfold uq
  rw [← n768]
  pointwise [val_main_v7, val_main_v6, val_main_cst_1, val_main_v5, val_main_v4, val_main_cst_0, val_main_v3, val_main_v2,
    val_main_cst, val_main_v1]

theorem uk_read (r : Fin 4096) : val_main_v44 (F := Ideal) Y (ix3 0 r 0) = uk Y r := by
  unfold uk
  rw [← n256]
  pointwise [val_main_v44, val_main_v43, val_main_cst_5, val_main_v42, val_main_v41, val_main_cst_4, val_main_v40, val_main_v39,
    val_main_cst_3, val_main_v38]

/-! ## The cotangent of the queries' projection -/

/-- The scaled cotangent of the queries. -/
def sd (h : Fin 8) (r : Fin 4096) (e : Fin 96) : EReal := DQ (ix4 0 h r e) * scaleK

theorem v85_read (r : Fin 4096) (h : Fin 8) (e : Fin 96) : val_main_v85 (F := Ideal) DQ (ix4 0 r h e) = sd DQ h r e := by
  unfold sd
  pointwise [val_main_v85, val_main_v81, val_main_v80, val_main_cst_8]

theorem v143_read (r : Fin 4096) (h : Fin 8) (e : Fin 16) : val_main_v143 (F := Ideal) C S DQ (ix4 0 r h e)
    = sd DQ h r ⟨64 + (16 + e.val), by omega⟩ * C (ix2 r e) + -(sd DQ h r ⟨64 + e.val, by omega⟩) * S (ix2 r e) := by
  simp only [← v85_read]
  pointwise [val_main_v143, val_main_v142, val_main_v141, val_main_v140, val_main_v137, val_main_v136, val_main_v135,
    val_main_v134, val_main_v87, val_main_v24, val_main_v25]

theorem v146_read (r : Fin 4096) (h : Fin 8) (e : Fin 16) : val_main_v146 (F := Ideal) C S DQ (ix4 0 r h e)
    = sd DQ h r ⟨64 + (16 + e.val), by omega⟩ * S (ix2 r e) + sd DQ h r ⟨64 + e.val, by omega⟩ * C (ix2 r e) := by
  simp only [← v85_read]
  pointwise [val_main_v146, val_main_v145, val_main_v144, val_main_v139, val_main_v138, val_main_v135, val_main_v134,
    val_main_v87, val_main_v24, val_main_v25]

theorem v149_read (r : Fin 4096) (h : Fin 8) (e : Fin 32) : val_main_v149 (F := Ideal) C S DQ (ix4 0 r h e)
    = (if h_1 : 16 ≤ e.val ∧ e.val - 16 < 16 then val_main_v143 (F := Ideal) C S DQ (ix4 0 r h ⟨e.val - 16, h_1.2⟩) else (0 : EReal))
      + if h_1 : e.val < 16 then val_main_v146 (F := Ideal) C S DQ (ix4 0 r h ⟨e.val, h_1⟩) else 0 := by
  unfold val_main_v149 val_main_v148 val_main_v147
  generalize val_main_v143 (F := Ideal) C S DQ = D
  generalize val_main_v146 (F := Ideal) C S DQ = D'
  pointwise [val_main_cst_20, val_main_cst_21]

theorem v152_read (r : Fin 4096) (h : Fin 8) (e : Fin 96) : val_main_v152 (F := Ideal) C S DQ (ix4 0 r h e)
    = (if h_1 : 64 ≤ e.val ∧ e.val - 64 < 32 then val_main_v149 (F := Ideal) C S DQ (ix4 0 r h ⟨e.val - 64, h_1.2⟩) else (0 : EReal))
      + if h_1 : e.val < 64 then val_main_v85 (F := Ideal) DQ (ix4 0 r h e) else 0 := by
  unfold val_main_v152 val_main_v150 val_main_v151 val_main_v86
  generalize val_main_v149 (F := Ideal) C S DQ = D
  generalize val_main_v85 (F := Ideal) DQ = D'
  pointwise [val_main_cst_22, val_main_cst_23]

theorem scale_nonneg : ∃ σ : ℝ, 0 ≤ σ ∧ scaleK = (σ : EReal) := by
  refine ⟨_, ?_, by simp [scaleK, Ideal.ofBits, Ideal.ieee]; rw [← EReal.coe_mul]⟩
  norm_num

/-- Two turned lanes whose places are equal. -/
theorem lanes_eq (d : Fin 96 → EReal) (f g : Fin 16 → EReal) {a a' b b' : Fin 96} {x x' : Fin 16} (ha : a.val = a'.val)
    (hb : b.val = b'.val) (hx : x.val = x'.val) : d a * f x + d b * g x = d a' * f x' + d b' * g x' := by
  rw [Fin.ext ha, Fin.ext hb, Fin.ext hx]

/-- A row and head of the projection's cotangent: the turned cotangent, scaled. -/
theorem turn_read (r : Fin 4096) (h : Fin 8) (e : Fin 96) : val_main_v152 (F := Ideal) C S DQ (ix4 0 r h e)
    = turnH (fun e => DQ (ix4 0 h r e)) C S r e * scaleK := by
  obtain ⟨σ, h0, hσ⟩ := scale_nonneg
  have dist : ∀ a b : EReal, (a + b) * scaleK = a * scaleK + b * scaleK := fun a b => by
    rw [hσ]
    exact EReal.right_distrib_of_nonneg_of_ne_top (by exact_mod_cast h0) (EReal.coe_ne_top σ) a b
  rw [v152_read]
  unfold turnH
  by_cases h1 : e.val < 64
  · rw [dif_neg (by omega), dif_pos h1, if_pos h1, v85_read, zero_add]
    rfl
  · rw [dif_pos (by omega), dif_neg h1, if_neg h1, add_zero, v149_read]
    by_cases h2 : e.val - 64 < 16
    · rw [dif_neg (by show ¬(16 ≤ e.val - 64 ∧ _); omega), dif_pos h2, dif_pos h2, zero_add, v146_read, dist, add_comm, mul_right_comm, mul_right_comm _ _ scaleK]
      exact lanes_eq (sd DQ h r) (fun x => C (ix2 r x)) (fun x => S (ix2 r x)) (by show 64 + (e.val - 64) = e.val; omega)
        (by show 64 + (16 + (e.val - 64)) = e.val - 64 + 80; omega) rfl
    · rw [dif_pos (by show 16 ≤ e.val - 64 ∧ e.val - 64 - 16 < 16; omega), dif_neg (show ¬ _ from h2), dif_neg h2, add_zero, v143_read, dist, mul_right_comm, mul_right_comm _ _ scaleK, EReal.neg_mul, ← mul_neg]
      exact lanes_eq (sd DQ h r) (fun x => C (ix2 r x)) (fun x => -(S (ix2 r x))) (by show 64 + (16 + (e.val - 64 - 16)) = e.val; omega)
        (by show 64 + (e.val - 64 - 16) = e.val - 80 + 64; omega) (by show e.val - 64 - 16 = e.val - 80; omega)

theorem qv_read (r : Fin 4096) (k : Fin 768) : val_main_v153 (F := Ideal) C S DQ (ix3 0 r k) = qv DQ C S r k := by
  refine Eq.trans ?_ (turn_read C S DQ r ⟨k.val / 96, by omega⟩ ⟨k.val % 96, by omega⟩)
  unfold val_main_v153
  generalize val_main_v152 (F := Ideal) C S DQ = D
  pointwise

/-! ## The cotangent of the keys' and values' projection -/

theorem v106_read (r : Fin 4096) (h : Fin 8) (e : Fin 128) : val_main_v106 (F := Ideal) DK DV (ix4 0 r h e)
    = (if h_1 : 64 ≤ e.val ∧ e.val - 64 < 64 then DV (ix4 0 h r ⟨e.val - 64, h_1.2⟩) else (0 : EReal))
      + if h_1 : e.val < 64 then DK (ix4 0 h r ⟨e.val, by omega⟩) else 0 := by
  pointwise [val_main_v106, val_main_v105, val_main_v104, val_main_v79, val_main_v82, val_main_v83, val_main_cst_13, val_main_cst_14]

theorem kv_read (r : Fin 4096) (k : Fin 1024) : val_main_v107 (F := Ideal) DK DV (ix3 0 r k) = kv DK DV r k := by
  refine Eq.trans (b := val_main_v106 (F := Ideal) DK DV (ix4 0 r ⟨k.val / 128, by omega⟩ ⟨k.val % 128, by omega⟩)) ?_ ?_
  · unfold val_main_v107
    generalize val_main_v106 (F := Ideal) DK DV = D
    pointwise
  · rw [v106_read]
    unfold kv
    by_cases h1 : k.val % 128 < 64
    · rw [dif_neg (by show ¬(64 ≤ k.val % 128 ∧ _); omega), dif_pos h1, dif_pos h1, zero_add]
    · rw [dif_pos (by show 64 ≤ k.val % 128 ∧ k.val % 128 - 64 < 64; omega), dif_neg (show ¬ _ from h1), dif_neg h1, add_zero]

/-! ## The projections' gradients -/

theorem normQ_read (r : Fin 4096) (i : Fin 768) : val_main_v16 (F := Ideal) X Gq (ix3 0 r i)
    = X (ix3 0 r i) * Ideal.rsqrt (uq X r) * Gq (ix2 0 i) := by
  rw [← uq_read]
  pointwise [val_main_v16, val_main_v15, val_main_v14, val_main_v13, val_main_v12, val_main_v8, val_main_v0]

theorem normK_read (r : Fin 4096) (i : Fin 256) : val_main_v53 (F := Ideal) Y Gk (ix3 0 r i)
    = Y (ix3 0 r i) * Ideal.rsqrt (uk Y r) * Gk (ix2 0 i) := by
  rw [← uk_read]
  pointwise [val_main_v53, val_main_v52, val_main_v51, val_main_v50, val_main_v49, val_main_v45, val_main_v37]

theorem dwq_read (i k : Fin 768) : val_main_v157 (F := Ideal) X Gq C S DQ (ix3 0 i k)
    = ∑ r : Fin 4096, (X (ix3 0 r i) * Ideal.rsqrt (uq X r) * Gq (ix2 0 i)) * qv DQ C S r k := by
  simp only [← normQ_read, ← qv_read]
  unfold val_main_v157 val_main_v155 val_main_v154
  generalize val_main_v153 (F := Ideal) C S DQ = D
  generalize val_main_v16 (F := Ideal) X Gq = D'
  pointwise
  rw [Fin.sum_univ_one]
  exact Finset.sum_congr rfl fun _ _ => mul_comm _ _

theorem dwk_read (i : Fin 256) (k : Fin 1024) : val_main_v111 (F := Ideal) Y Gk DK DV (ix3 0 i k)
    = ∑ r : Fin 4096, (Y (ix3 0 r i) * Ideal.rsqrt (uk Y r) * Gk (ix2 0 i)) * kv DK DV r k := by
  simp only [← normK_read, ← kv_read]
  unfold val_main_v111 val_main_v109 val_main_v108
  generalize val_main_v107 (F := Ideal) DK DV = D
  generalize val_main_v53 (F := Ideal) Y Gk = D'
  pointwise
  rw [Fin.sum_univ_one]
  exact Finset.sum_congr rfl fun _ _ => mul_comm _ _

theorem nq_read (r : Fin 4096) (i : Fin 768) : val_main_v156 (F := Ideal) Wq C S DQ (ix3 0 r i) = nq DQ C S Wq r i := by
  unfold nq
  simp only [← qv_read]
  unfold val_main_v156
  generalize val_main_v153 (F := Ideal) C S DQ = D
  pointwise [val_main_v17]

theorem nk_read (r : Fin 4096) (i : Fin 256) : val_main_v110 (F := Ideal) Wk DK DV (ix3 0 r i) = nk DK DV Wk r i := by
  unfold nk
  simp only [← kv_read]
  unfold val_main_v110
  generalize val_main_v107 (F := Ideal) DK DV = D
  pointwise [val_main_v54]

theorem dgq_read (i : Fin 768) : val_main_v179 (F := Ideal) X Wq C S DQ (ix2 0 i) = ∑ r : Fin 4096, dgqTerm X (nq DQ C S Wq) r i := by
  unfold dgqTerm
  simp only [← nq_read, ← uq_read]
  unfold val_main_v179 val_main_v163 val_main_v160 val_main_v159 val_main_v158
  generalize val_main_v156 (F := Ideal) Wq C S DQ = D
  pointwise [val_main_v13, val_main_v12, val_main_v8, val_main_cst_24, val_main_cst_25]
  rw [Norm.reduce_11n]
  pointwise
  simp only [mul_comm]

theorem dgk_read (i : Fin 256) : val_main_v133 (F := Ideal) Y Wk DK DV (ix2 0 i) = ∑ r : Fin 4096, dgkTerm Y (nk DK DV Wk) r i := by
  unfold dgkTerm
  simp only [← nk_read, ← uk_read]
  unfold val_main_v133 val_main_v117 val_main_v114 val_main_v113 val_main_v112
  generalize val_main_v110 (F := Ideal) Wk DK DV = D
  pointwise [val_main_v50, val_main_v49, val_main_v45, val_main_cst_15, val_main_cst_16]
  rw [Norm.reduce_11n]
  pointwise
  simp only [mul_comm]

/-! ## The latent rows' gradients -/

/-- The part of a row's gradient that goes through its scale. -/
def thruQ (r : Fin 4096) : EReal :=
  Ideal.div ((∑ k : Fin 768, X (ix3 0 r k) * (nq DQ C S Wq r k * Gq (ix2 0 k)))
    * (((-(1 / 2) : ℝ) : EReal) * Ideal.div (Ideal.rsqrt (uq X r)) (uq X r))) ((768 : ℝ) : EReal)
def thruK (r : Fin 4096) : EReal :=
  Ideal.div ((∑ k : Fin 256, Y (ix3 0 r k) * (nk DK DV Wk r k * Gk (ix2 0 k)))
    * (((-(1 / 2) : ℝ) : EReal) * Ideal.div (Ideal.rsqrt (uk Y r)) (uk Y r))) ((256 : ℝ) : EReal)

theorem thruQ_read (r : Fin 4096) (k : Fin 768) : val_main_v174 (F := Ideal) X Gq Wq C S DQ (ix3 0 r k) = thruQ X Gq Wq C S DQ r := by
  unfold thruQ
  rw [← n768, ← Norm.nhalf]
  simp only [← uq_read, ← nq_read]
  unfold val_main_v174 val_main_v173 val_main_v172 val_main_v171 val_main_v169 val_main_v166 val_main_v165 val_main_v164 val_main_v162
  generalize val_main_v156 (F := Ideal) Wq C S DQ = D
  pointwise [val_main_v170, val_main_cst_26, val_main_cst_27, val_main_cst_28, val_main_v161, val_main_v14, val_main_v0, val_main_v11, val_main_v10, val_main_v9,
    val_main_v8, val_main_cst_2]
  rw [Norm.reduce_1n1]
  pointwise

theorem thruK_read (r : Fin 4096) (k : Fin 256) : val_main_v128 (F := Ideal) Y Gk Wk DK DV (ix3 0 r k) = thruK Y Gk Wk DK DV r := by
  unfold thruK
  rw [← n256, ← Norm.nhalf]
  simp only [← uk_read, ← nk_read]
  unfold val_main_v128 val_main_v127 val_main_v126 val_main_v125 val_main_v123 val_main_v120 val_main_v119 val_main_v118 val_main_v116
  generalize val_main_v110 (F := Ideal) Wk DK DV = D
  pointwise [val_main_v124, val_main_cst_17, val_main_cst_18, val_main_cst_19, val_main_v115, val_main_v51, val_main_v37, val_main_v48, val_main_v47, val_main_v46,
    val_main_v45, val_main_cst_6]
  rw [Norm.reduce_1n1]
  pointwise

theorem dcq_read (r : Fin 4096) (k : Fin 768) : val_main_v178 (F := Ideal) X Gq Wq C S DQ (ix3 0 r k) = dcq X Gq (nq DQ C S Wq) r k := by
  obtain ⟨ε, hε, he⟩ := Norm.eps
  unfold dcq
  refine Eq.trans ?_ ((Norm.grad (fun l => X (ix3 0 r l)) (fun l => nq DQ C S Wq r l * Gq (ix2 0 l)) 768 ε (by norm_num) hε 0 k (uq X r) _
    (thruQ X Gq Wq C S DQ r) (by unfold uq; rw [he]) rfl rfl).symm.trans (zero_add _))
  rw [← thruQ_read (k := k), ← uq_read, ← nq_read, zero_add]
  unfold val_main_v178 val_main_v177 val_main_v176 val_main_v175 val_main_v168 val_main_v162
  generalize val_main_v156 (F := Ideal) Wq C S DQ = D
  generalize val_main_v174 (F := Ideal) X Gq Wq C S DQ = D'
  pointwise [val_main_v167, val_main_v161, val_main_v14, val_main_v0, val_main_v8]

theorem dck_read (r : Fin 4096) (k : Fin 256) : val_main_v132 (F := Ideal) Y Gk Wk DK DV (ix3 0 r k) = dck Y Gk (nk DK DV Wk) r k := by
  obtain ⟨ε, hε, he⟩ := Norm.eps
  unfold dck
  refine Eq.trans ?_ ((Norm.grad (fun l => Y (ix3 0 r l)) (fun l => nk DK DV Wk r l * Gk (ix2 0 l)) 256 ε (by norm_num) hε 0 k (uk Y r) _
    (thruK Y Gk Wk DK DV r) (by unfold uk; rw [he]) rfl rfl).symm.trans (zero_add _))
  rw [← thruK_read (k := k), ← uk_read, ← nk_read, zero_add]
  unfold val_main_v132 val_main_v131 val_main_v130 val_main_v129 val_main_v122 val_main_v116
  generalize val_main_v110 (F := Ideal) Wk DK DV = D
  generalize val_main_v128 (F := Ideal) Y Gk Wk DK DV = D'
  pointwise [val_main_v121, val_main_v115, val_main_v51, val_main_v37, val_main_v45]

/-! ## The rotated keys' gradient -/

theorem reduce_heads (h : (⟨4, ![1, 4096, 8, 32]⟩ : Shape).ReducesTo [0, 2] ⟨2, ![4096, 32]⟩) (v : (⟨4, ![1, 4096, 8, 32]⟩ : Shape).Idx → EReal)
    (init : EReal) (r : Fin 4096) (e : Fin 32) : Ideal.hostReduceAdd h v init (ix2 r e) = init + ∑ k : Fin 8, v (ix4 0 r k e) := by
  unfold Ideal.hostReduceAdd
  congr 1
  have key : ∀ i : (⟨4, ![1, 4096, 8, 32]⟩ : Shape).Idx, h.drop i = ix2 r e ↔ i = ix4 0 r (i 2) e := fun i => by
    constructor
    · intro e
      funext a
      apply Fin.ext
      match a with
      | ⟨0, _⟩ => exact (congrArg Fin.val (Subsingleton.elim (α := Fin 1) (i 0) 0))
      | ⟨1, _⟩ => exact congrArg Fin.val (congrFun e 0)
      | ⟨2, _⟩ => rfl
      | ⟨3, _⟩ => exact congrArg Fin.val (congrFun e 1)
    · intro e
      rw [e]
      funext b
      apply Fin.ext
      match b with
      | ⟨0, _⟩ => rfl
      | ⟨1, _⟩ => rfl
  refine Finset.sum_bij' (fun i _ => (i 2 : Fin 8)) (fun k _ => ix4 0 r k e) (fun _ _ => Finset.mem_univ _) ?_ ?_ ?_ ?_
  · intro k _
    exact Finset.mem_filter.2 ⟨Finset.mem_univ _, (key _).2 rfl⟩
  · intro i hi
    exact ((key i).1 (Finset.mem_filter.1 hi).2).symm
  · intro k _
    rfl
  · intro i hi
    exact congrArg v ((key i).1 (Finset.mem_filter.1 hi).2)

theorem reduce_single (h : (⟨4, ![1, 4096, 1, 32]⟩ : Shape).ReducesTo [0, 2] ⟨2, ![4096, 32]⟩) (v : (⟨4, ![1, 4096, 1, 32]⟩ : Shape).Idx → EReal)
    (init : EReal) (r : Fin 4096) (e : Fin 32) : Ideal.hostReduceAdd h v init (ix2 r e) = init + v (ix4 0 r 0 e) := by
  refine Norm.reduce_one h v init _ _ fun i => ⟨fun e => ?_, fun e => ?_⟩
  · funext a
    apply Fin.ext
    match a with
    | ⟨0, _⟩ => exact (congrArg Fin.val (Subsingleton.elim (α := Fin 1) (i 0) 0))
    | ⟨1, _⟩ => exact congrArg Fin.val (congrFun e 0)
    | ⟨2, _⟩ => exact (congrArg Fin.val (Subsingleton.elim (α := Fin 1) (i 2) 0))
    | ⟨3, _⟩ => exact congrArg Fin.val (congrFun e 1)
  · subst e
    funext b
    apply Fin.ext
    match b with
    | ⟨0, _⟩ => rfl
    | ⟨1, _⟩ => rfl

theorem v88_read (r : Fin 4096) (e : Fin 32) : val_main_v88 (F := Ideal) DK (ix2 r e) = ∑ h : Fin 8, DK (ix4 0 h r ⟨64 + e.val, by omega⟩) := by
  pointwise [val_main_v88, val_main_v84, val_main_v82, val_main_cst_9]
  rw [reduce_heads]
  pointwise

theorem v101_read (r : Fin 4096) (e : Fin 32) : val_main_v101 (F := Ideal) C S DK (ix4 0 r 0 e)
    = (if h : 16 ≤ e.val ∧ e.val - 16 < 16 then
        val_main_v88 (F := Ideal) DK (ix2 r ⟨16 + (e.val - 16), by omega⟩) * C (ix2 r ⟨e.val - 16, h.2⟩)
          + -(val_main_v88 (F := Ideal) DK (ix2 r ⟨e.val - 16, by omega⟩)) * S (ix2 r ⟨e.val - 16, h.2⟩) else (0 : EReal))
      + if h : e.val < 16 then val_main_v88 (F := Ideal) DK (ix2 r ⟨16 + e.val, by omega⟩) * S (ix2 r ⟨e.val, h⟩)
          + val_main_v88 (F := Ideal) DK (ix2 r e) * C (ix2 r ⟨e.val, h⟩) else 0 := by
  unfold val_main_v101 val_main_v99 val_main_v100 val_main_v98 val_main_v96 val_main_v97 val_main_v93 val_main_v95 val_main_v94 val_main_v92 val_main_v91 val_main_v90 val_main_v89
  generalize val_main_v88 (F := Ideal) DK = D
  pointwise [val_main_cst_10, val_main_cst_11, val_main_v62, val_main_v63]

theorem v103_read (r : Fin 4096) (e : Fin 32) : val_main_v103 (F := Ideal) C S DK (ix3 0 r e) = val_main_v101 (F := Ideal) C S DK (ix4 0 r 0 e) := by
  unfold val_main_v103 val_main_v102
  generalize val_main_v101 (F := Ideal) C S DK = D
  pointwise [val_main_cst_12]
  rw [reduce_single]
  pointwise

theorem kp_read (r : Fin 4096) (e : Fin 32) : val_main_v103 (F := Ideal) C S DK (ix3 0 r e) = kp DK C S r e := by
  rw [v103_read, v101_read]
  unfold kp turnH
  rw [if_neg (by show ¬ 64 + e.val < 64; omega)]
  by_cases h2 : e.val < 16
  · rw [dif_neg (by omega), dif_pos h2, dif_pos (by show 64 + e.val - 64 < 16; omega), zero_add, v88_read, v88_read, add_comm]
    exact lanes_eq (fun e => ∑ h : Fin 8, DK (ix4 0 h r e)) (fun x => C (ix2 r x)) (fun x => S (ix2 r x)) rfl
      (by show 64 + (16 + e.val) = 64 + e.val - 64 + 80; omega) (by show e.val = 64 + e.val - 64; omega)
  · rw [dif_pos (by omega), dif_neg h2, dif_neg (by show ¬ 64 + e.val - 64 < 16; omega), add_zero, v88_read, v88_read, EReal.neg_mul, ← mul_neg]
    exact lanes_eq (fun e => ∑ h : Fin 8, DK (ix4 0 h r e)) (fun x => C (ix2 r x)) (fun x => -(S (ix2 r x)))
      (by show 64 + (16 + (e.val - 16)) = 64 + e.val; omega) (by show 64 + (e.val - 16) = 64 + e.val - 80 + 64; omega)
      (by show e.val - 16 = 64 + e.val - 80; omega)

end Cert.Reference4Ideal.Mla
end
-- ==== Proof.MlaEq.lean ====
/-
  The call's results are the reference's gradients.
-/
module

public import proofs.«01_k».proof.Proof.MlaTail
public import proofs.«01_k».proof.Proof.MlaRef

@[expose] public section

set_option maxRecDepth 16384

noncomputable section

namespace Cert.Kernel4Ideal.Mla

open Idealize.ShloMosaic Idealize.ShloMosaic.TcCoe Idealize.SL.Sem
open Cert.Kernel4Ideal Cert.Kernel4Ideal.Gen Cert.Reference4Ideal.Read Cert.Reference4Ideal.Mla

variable (m : (ℓ : Loc nD τ sig) → Buf (Elt Ideal) ℓ) (c : Dev nD)

/-- An index of an array with one leading unit axis. -/
theorem idx_rows {n k : Nat} (i : (⟨3, ![1, n, k]⟩ : Shape).Idx) : i = ix3 0 (i 1) (i 2) := by
  funext a
  apply Fin.ext
  match a with
  | ⟨0, _⟩ => exact congrArg Fin.val (Subsingleton.elim (α := Fin 1) (i 0) 0)
  | ⟨1, _⟩ => rfl
  | ⟨2, _⟩ => rfl

theorem idx_row {n : Nat} (i : (⟨2, ![1, n]⟩ : Shape).Idx) : i = ix2 0 (i 1) := by
  funext a
  apply Fin.ext
  match a with
  | ⟨0, _⟩ => exact congrArg Fin.val (Subsingleton.elim (α := Fin 1) (i 0) 0)
  | ⟨1, _⟩ => rfl

/-- Arrays that agree at every row and lane are equal. -/
theorem rows_ext {n k : Nat} (x y : FVec Ideal ⟨3, ![1, n, k]⟩ .f32) (h : ∀ (r : Fin n) (l : Fin k), x (ix3 0 r l) = y (ix3 0 r l)) : x = y := by
  funext i
  rw [idx_rows i]
  exact h _ _

theorem row_ext {n : Nat} (x y : FVec Ideal ⟨2, ![1, n]⟩ .f32) (h : ∀ l : Fin n, x (ix2 0 l) = y (ix2 0 l)) : x = y := by
  funext i
  rw [idx_row i]
  exact h _

/-- A result that the host lines after the region make. -/
abbrev made := Pipeline.afterTail₀ cfgs (dats m) 0 (V0 m) [hostOps1] c

theorem eq_dcq : val_main_v178 (F := Ideal) (aX m c) (aGq m c) (aWq m c) (aC m c) (aS m c) (aDQ m c) = made m c main_v92 :=
  rows_ext _ _ fun r l => (dcq_read _ _ _ _ _ _ r l).trans (out_dcq m c r l).symm

theorem eq_dck : val_main_v132 (F := Ideal) (aY m c) (aGk m c) (aWk m c) (aDK m c) (aDV m c) = made m c main_v93 :=
  rows_ext _ _ fun r l => (dck_read _ _ _ _ _ r l).trans (out_dck m c r l).symm

theorem eq_kp : val_main_v103 (F := Ideal) (aC m c) (aS m c) (aDK m c) = made m c main_v94 :=
  rows_ext _ _ fun r l => (kp_read _ _ _ r l).trans (out_kp m c r l).symm

theorem eq_dgq : val_main_v179 (F := Ideal) (aX m c) (aWq m c) (aC m c) (aS m c) (aDQ m c) = (dats m 0 c).arrAt 15 (cfgs 0).N :=
  (row_ext _ _ fun l => dgq_read _ _ _ _ _ l).trans (final_dgq m c).symm

theorem eq_dgk : val_main_v133 (F := Ideal) (aY m c) (aWk m c) (aDK m c) (aDV m c) = (dats m 0 c).arrAt 16 (cfgs 0).N :=
  (row_ext _ _ fun l => dgk_read _ _ _ _ l).trans (final_dgk m c).symm

theorem eq_dwq : val_main_v157 (F := Ideal) (aX m c) (aGq m c) (aC m c) (aS m c) (aDQ m c) = made m c main_v88 :=
  rows_ext _ _ fun i k => ((dwq_read _ _ _ _ _ i k).trans
    (Finset.sum_congr rfl fun r _ => congrArg (fun z : EReal => z * qv (aDQ m c) (aC m c) (aS m c) r k) (normQ_at _ _ r i).symm)).trans (out_uq m c i k).symm

theorem eq_dwk : val_main_v111 (F := Ideal) (aY m c) (aGk m c) (aDK m c) (aDV m c) = made m c main_v91 :=
  rows_ext _ _ fun i k => ((dwk_read _ _ _ _ i k).trans
    (Finset.sum_congr rfl fun r _ => congrArg (fun z : EReal => z * kv (aDK m c) (aDV m c) r k) (normK_at _ _ r i).symm)).trans (out_uk m c i k).symm

end Cert.Kernel4Ideal.Mla

end
-- ==== Proof.PrepHost.lean ====
/-
  The host lines before the latent projections' forward region: the projections' weights in their padded places, and the arrays that
  the region finds.
-/
module

public import proofs.«01_k».proof.Proof.MlaBlock
public import proofs.«01_k».proof.Proof.Gen.Kernel5Ideal.Frame.Runs
public import Idealize.ShloMosaic.Lib.Pipeline.ValueKit
public import Idealize.ShloMosaic.Lib.Claim
public import Idealize.ShloMosaic.Lib.Pointwise

@[expose] public section

set_option maxRecDepth 16384

noncomputable section

namespace Cert.Kernel5Ideal.Prep

open Cert.Kernel5Ideal Cert.Kernel5Ideal.Gen
open Cert.Kernel4Ideal.Mla (zeroH cosL sinLo sinHi projH halfLo halfHi byHead zero_word projH_q projH_k halfLo_at halfHi_at)
open Idealize.ShloMosaic Idealize.ShloMosaic.TcCoe Idealize.SL.Sem

/-- The query projection's weight, its columns padded per head. -/
def padQ (W : FVec Ideal S1x768x768 .f32) : FVec Ideal S768x1024 .bf16 :=
  truncf .bf16 (shapeCast S768x1024 (pad S768x8x128 ![0, 0, 0] ![0, 0, 32] ![0, 0, 0] (shapeCast S768x8x96 (shapeCast S768x768 W shapeCasts_S1x768x768_S768x768 : FVec Ideal S768x768 .f32) shapeCasts_S768x768_S768x8x96 : FVec Ideal S768x8x96 .f32) zeroH pads_S768x8x96_S768x8x128_000_000_0320 h_S_ : FVec Ideal S768x8x128 .f32) shapeCasts_S768x8x128_S768x1024 : FVec Ideal S768x1024 .f32) bitsLt_bf16_f32

/-- The key-value projection's weight, its two halves padded per head, side by side. -/
def padK (W : FVec Ideal S1x256x1024 .f32) : FVec Ideal S256x2048 .bf16 :=
  truncf .bf16 (concatenate S256x2048 1 [⟨S256x1024, halfLo (byHead W)⟩, ⟨S256x1024, halfHi (byHead W)⟩] concatenates_S256x1024_S256x1024_S256x2048_d1 : FVec Ideal S256x2048 .f32) bitsLt_bf16_f32

theorem padQ_at (W : FVec Ideal S1x768x768 .f32) (i : Fin 768) (j : Fin 1024) :
    padQ W (ix2 i j) = if h : j.val % 128 < 96 then (W (ix3 0 i ⟨96 * (j.val / 128) + j.val % 128, by omega⟩) : EReal) else 0 := by
  pointwise [padQ, zeroH]
  by_cases h : j.val % 128 < 96
  · rw [dif_pos ⟨by omega, h⟩, dif_pos h]
    exact congrArg (fun x => W (ix3 0 i x)) (Fin.ext (by simp only; omega))
  · rw [dif_neg (fun e => h e.2), dif_neg h]
    exact zero_word

theorem padK_lo (W : FVec Ideal S1x256x1024 .f32) (i : Fin 256) (j : Fin 2048) (hj : j.val < 1024) :
    padK W (ix2 i j) = if h : j.val % 128 < 64 then (W (ix3 0 i ⟨128 * (j.val / 128) + j.val % 128, by omega⟩) : EReal) else 0 := by
  refine Eq.trans ?_ (halfLo_at W i ⟨j.val, hj⟩)
  unfold padK
  generalize halfLo (byHead W) = A
  generalize halfHi (byHead W) = B
  pointwise
  exact dif_pos hj

theorem padK_hi (W : FVec Ideal S1x256x1024 .f32) (i : Fin 256) (j : Fin 2048) (hj : 1024 ≤ j.val) :
    padK W (ix2 i j) = if h : (j.val - 1024) % 128 < 64 then (W (ix3 0 i ⟨128 * ((j.val - 1024) / 128) + 64 + (j.val - 1024) % 128, by omega⟩) : EReal) else 0 := by
  refine Eq.trans ?_ (halfHi_at W i ⟨j.val - 1024, by omega⟩)
  unfold padK
  generalize halfLo (byHead W) = A
  generalize halfHi (byHead W) = B
  pointwise
  exact dif_neg (by omega)

/-- The rotary keys' columns of the saved projection, within their window of lanes. -/
theorem projH_p (Q : FVec Ideal S1x4096x768 .f32) (K : FVec Ideal S1x4096x256 .f32) (P : FVec Ideal S1x4096x32 .f32) (r : Fin 4096) (l : Fin 128) :
    projH Q K P (ix2 r ⟨5632 + l.val, by omega⟩) = if h : 64 ≤ l.val ∧ l.val - 64 < 32 then (P (ix3 0 r ⟨l.val - 64, h.2⟩) : EReal) else 0 := by
  pointwise [projH]
  rw [dif_neg (by omega), dif_neg (by omega), dif_neg (by omega)]
  by_cases h : 64 ≤ l.val ∧ l.val - 64 < 32
  · rw [dif_neg (by omega), dif_pos (by omega), dif_pos h]
    exact congrArg (fun x => P (ix3 0 r x)) (Fin.ext (by simp only; omega))
  · rw [dif_neg h]
    split_ifs <;> first | rfl | omega

variable (m : (ℓ : Loc nD τ sig) → Buf (Elt Ideal) ℓ)

theorem V2 (c : Dev nD) : V m c main_v2 = cosL (m ((c : Thread nD τ).loc main_arg7)) := rfl
theorem V7 (c : Dev nD) : V m c main_v7 = sinLo (m ((c : Thread nD τ).loc main_arg8)) := rfl
theorem V11 (c : Dev nD) : V m c main_v11 = sinHi (m ((c : Thread nD τ).loc main_arg8)) := rfl
theorem V18 (c : Dev nD) : V m c main_v18 = projH (m ((c : Thread nD τ).loc main_arg0)) (m ((c : Thread nD τ).loc main_arg1)) (m ((c : Thread nD τ).loc main_arg2)) := rfl
theorem V32 (c : Dev nD) : V m c main_v32 = padQ (m ((c : Thread nD τ).loc main_arg4)) := rfl
set_option maxHeartbeats 2000000 in
theorem V33 (c : Dev nD) : V m c main_v33 = padK (m ((c : Thread nD τ).loc main_arg6)) := rfl

end Cert.Kernel5Ideal.Prep

end
-- ==== Proof.PrepPay.lean ====
/-
  The blocks that one step of the latent projections' forward region leaves, read at an index.
-/
module

public import proofs.«01_k».proof.Proof.PrepHost
public import proofs.«01_k».proof.Proof.Gen.Kernel5Ideal.Frame
public import Idealize.ShloMosaic.Lib.Pipeline.ValueKit
public import Idealize.ShloMosaic.Lib.Claim
public import Idealize.ShloMosaic.Lib.Pointwise

@[expose] public section

set_option maxRecDepth 16384

noncomputable section

namespace Cert.Kernel5Ideal.Prep

open Cert.Kernel5Ideal Cert.Kernel5Ideal.Gen
open Cert.Kernel4Ideal.Mla (lanes n768 n256 scaleK)
open Idealize.ShloMosaic Idealize.ShloMosaic.TcCoe Idealize.SL.Sem
open Idealize.ShloMosaic.Pipeline (Dat)

/-! ## The normalised rows and their products -/

theorem rowQ_at (X : Vec Ideal S512x768 .f32) (G : Vec Ideal S1x768 .f32) (a : Fin 512) (i : Fin 768) :
    k0_pay3 (F := Ideal) X G (ix2 a i)
      = X (ix2 a i) * Ideal.rsqrt (Ideal.div (∑ k : Fin 768, X (ix2 a k) * X (ix2 a k)) (768 : ℝ) + Ideal.ofBits .f32 0x358637BD#32) * G (ix2 0 i) := by
  rw [← n768]
  pointwise [k0_pay3]

theorem rowK_at (X : Vec Ideal S512x256 .f32) (G : Vec Ideal S1x256 .f32) (a : Fin 512) (i : Fin 256) :
    k0_pay6 (F := Ideal) X G (ix2 a i)
      = X (ix2 a i) * Ideal.rsqrt (Ideal.div (∑ k : Fin 256, X (ix2 a k) * X (ix2 a k)) (256 : ℝ) + Ideal.ofBits .f32 0x358637BD#32) * G (ix2 0 i) := by
  rw [← n256]
  pointwise [k0_pay6]

theorem colQ_at (X : Vec Ideal S512x768 .f32) (G : Vec Ideal S1x768 .f32) (a : Fin 512) (i : Fin 768) :
    k0_pay4 (F := Ideal) X G (ix2 i a) = k0_pay3 (F := Ideal) X G (ix2 a i) := by
  unfold k0_pay4
  generalize k0_pay3 (F := Ideal) X G = A
  pointwise

theorem colK_at (X : Vec Ideal S512x256 .f32) (G : Vec Ideal S1x256 .f32) (a : Fin 512) (i : Fin 256) :
    k0_pay7 (F := Ideal) X G (ix2 i a) = k0_pay6 (F := Ideal) X G (ix2 a i) := by
  unfold k0_pay7
  generalize k0_pay6 (F := Ideal) X G = A
  pointwise

theorem prodQ_at (X : Vec Ideal S512x768 .f32) (G : Vec Ideal S1x768 .f32) (W : Vec Ideal S768x1024 .bf16) (a : Fin 512) (j : Fin 1024) :
    k0_pay5 (F := Ideal) X G W (ix2 a j) = ∑ i : Fin 768, k0_pay3 (F := Ideal) X G (ix2 a i) * W (ix2 i j) := by
  unfold k0_pay5
  generalize k0_pay3 (F := Ideal) X G = A
  pointwise

theorem prodK_at (A : FVec Ideal S512x256 .bf16) (W : Vec Ideal S256x2048 .bf16) (a : Fin 512) (j : Fin 2048) :
    k0_pay8 (F := Ideal) A W (ix2 a j) = ∑ i : Fin 256, A (ix2 a i) * W (ix2 i j) := by
  pointwise [k0_pay8]

/-! ## The lanes turned -/

/-- A head's lanes turned: each lane by its own factor, and its neighbours sixteen lanes away by the lane's two others. -/
def rotate (D : Fin 512 → Fin 128 → EReal) (C S T : Vec Ideal S512x128 .f32) (a : Fin 512) (l : Fin 128) : EReal :=
  D a l * C (ix2 a l) + D a ⟨(l.val + 128 - 112) % 128, Nat.mod_lt _ (by decide)⟩ * S (ix2 a l)
    + D a ⟨(l.val + 128 - 16) % 128, Nat.mod_lt _ (by decide)⟩ * T (ix2 a l)

theorem ones96 : ∀ l : Fin 128, l.val < 96 → IntOp.ori (IntOp.cmpi CmpIPredicate.eq (BitVec.ofNat 32 l.val) 96#32) (IntOp.cmpi CmpIPredicate.eq (BitVec.ofNat 32 l.val) 97#32) = 0#1 := by
  decide +kernel
theorem ones64 : ∀ l : Fin 128, l.val < 64 → IntOp.ori (IntOp.cmpi CmpIPredicate.eq (BitVec.ofNat 32 l.val) 64#32) (IntOp.cmpi CmpIPredicate.eq (BitVec.ofNat 32 l.val) 65#32) = 0#1 := by
  decide +kernel

theorem turnedP (C S T P : Vec Ideal S512x128 .f32) (a : Fin 512) (l : Fin 128) (hl : l.val < 96) :
    k0_pay12 (F := Ideal) C S T P (ix2 a l) = rotate (fun x y => P (ix2 x y)) C S T a l := by
  have e := ones96 l hl
  unfold rotate
  pointwise [k0_pay12, k0_pay9, k0_pay10, k0_pay11]
  rw [e]
  exact add_zero _

theorem extraV (a : Fin 512) (l : Fin 128) (hl : l.val < 64) : k0_pay13 (F := Ideal) (ix2 a l) = (0 : EReal) := by
  have e := ones64 l hl
  pointwise [k0_pay13]
  rw [e]
  rfl

section Pieces
variable (Z : FVec Ideal S512x1024 .f32) (V : FVec Ideal S512x2048 .f32) (P C S T : Vec Ideal S512x128 .f32) (a : Fin 512) (l : Fin 128)

theorem query0 : k0_pay14 (F := Ideal) Z (k0_pay9 C) (k0_pay10 S) (k0_pay11 T) (ix2 a l) = rotate (fun x y => Z (ix2 x ⟨y.val, by omega⟩)) C S T a l * scaleK := by
  unfold rotate
  pointwise [k0_pay14, k0_pay9, k0_pay10, k0_pay11]
theorem query1 : k0_pay17 (F := Ideal) Z (k0_pay9 C) (k0_pay10 S) (k0_pay11 T) (ix2 a l) = rotate (fun x y => Z (ix2 x ⟨128 + y.val, by omega⟩)) C S T a l * scaleK := by
  unfold rotate
  pointwise [k0_pay17, k0_pay9, k0_pay10, k0_pay11]
theorem query2 : k0_pay20 (F := Ideal) Z (k0_pay9 C) (k0_pay10 S) (k0_pay11 T) (ix2 a l) = rotate (fun x y => Z (ix2 x ⟨256 + y.val, by omega⟩)) C S T a l * scaleK := by
  unfold rotate
  pointwise [k0_pay20, k0_pay9, k0_pay10, k0_pay11]
theorem query3 : k0_pay23 (F := Ideal) Z (k0_pay9 C) (k0_pay10 S) (k0_pay11 T) (ix2 a l) = rotate (fun x y => Z (ix2 x ⟨384 + y.val, by omega⟩)) C S T a l * scaleK := by
  unfold rotate
  pointwise [k0_pay23, k0_pay9, k0_pay10, k0_pay11]
theorem query4 : k0_pay26 (F := Ideal) Z (k0_pay9 C) (k0_pay10 S) (k0_pay11 T) (ix2 a l) = rotate (fun x y => Z (ix2 x ⟨512 + y.val, by omega⟩)) C S T a l * scaleK := by
  unfold rotate
  pointwise [k0_pay26, k0_pay9, k0_pay10, k0_pay11]
theorem query5 : k0_pay29 (F := Ideal) Z (k0_pay9 C) (k0_pay10 S) (k0_pay11 T) (ix2 a l) = rotate (fun x y => Z (ix2 x ⟨640 + y.val, by omega⟩)) C S T a l * scaleK := by
  unfold rotate
  pointwise [k0_pay29, k0_pay9, k0_pay10, k0_pay11]
theorem query6 : k0_pay33 (F := Ideal) Z (k0_pay9 C) (k0_pay10 S) (k0_pay11 T) (ix2 a l) = rotate (fun x y => Z (ix2 x ⟨768 + y.val, by omega⟩)) C S T a l * scaleK := by
  unfold rotate
  pointwise [k0_pay33, k0_pay9, k0_pay10, k0_pay11]
theorem query7 : k0_pay36 (F := Ideal) Z (k0_pay9 C) (k0_pay10 S) (k0_pay11 T) (ix2 a l) = rotate (fun x y => Z (ix2 x ⟨896 + y.val, by omega⟩)) C S T a l * scaleK := by
  unfold rotate
  pointwise [k0_pay36, k0_pay9, k0_pay10, k0_pay11]
theorem key0 : k0_pay15 (F := Ideal) V P (ix2 a l) = V (ix2 a ⟨l.val, by omega⟩) + P (ix2 a l) := by
  pointwise [k0_pay15]
theorem key1 : k0_pay18 (F := Ideal) V P (ix2 a l) = V (ix2 a ⟨128 + l.val, by omega⟩) + P (ix2 a l) := by
  pointwise [k0_pay18]
theorem key2 : k0_pay21 (F := Ideal) V P (ix2 a l) = V (ix2 a ⟨256 + l.val, by omega⟩) + P (ix2 a l) := by
  pointwise [k0_pay21]
theorem key3 : k0_pay24 (F := Ideal) V P (ix2 a l) = V (ix2 a ⟨384 + l.val, by omega⟩) + P (ix2 a l) := by
  pointwise [k0_pay24]
theorem key4 : k0_pay27 (F := Ideal) V P (ix2 a l) = V (ix2 a ⟨512 + l.val, by omega⟩) + P (ix2 a l) := by
  pointwise [k0_pay27]
theorem key5 : k0_pay31 (F := Ideal) (k0_pay30 V P) (ix2 a l) = V (ix2 a ⟨640 + l.val, by omega⟩) + P (ix2 a l) := by
  pointwise [k0_pay31, k0_pay30]
theorem key6 : k0_pay34 (F := Ideal) V P (ix2 a l) = V (ix2 a ⟨768 + l.val, by omega⟩) + P (ix2 a l) := by
  pointwise [k0_pay34]
theorem key7 : k0_pay1 (F := Ideal) V P (ix2 a l) = V (ix2 a ⟨896 + l.val, by omega⟩) + P (ix2 a l) := by
  pointwise [k0_pay1]
theorem val0 : k0_pay16 (F := Ideal) V P (ix2 a l) = V (ix2 a ⟨1024 + l.val, by omega⟩) + P (ix2 a l) := by
  pointwise [k0_pay16]
theorem val1 : k0_pay19 (F := Ideal) V P (ix2 a l) = V (ix2 a ⟨1152 + l.val, by omega⟩) + P (ix2 a l) := by
  pointwise [k0_pay19]
theorem val2 : k0_pay22 (F := Ideal) V P (ix2 a l) = V (ix2 a ⟨1280 + l.val, by omega⟩) + P (ix2 a l) := by
  pointwise [k0_pay22]
theorem val3 : k0_pay25 (F := Ideal) V P (ix2 a l) = V (ix2 a ⟨1408 + l.val, by omega⟩) + P (ix2 a l) := by
  pointwise [k0_pay25]
theorem val4 : k0_pay28 (F := Ideal) V P (ix2 a l) = V (ix2 a ⟨1536 + l.val, by omega⟩) + P (ix2 a l) := by
  pointwise [k0_pay28]
theorem val5 : k0_pay32 (F := Ideal) V P (ix2 a l) = V (ix2 a ⟨1664 + l.val, by omega⟩) + P (ix2 a l) := by
  pointwise [k0_pay32]
theorem val6 : k0_pay35 (F := Ideal) V P (ix2 a l) = V (ix2 a ⟨1792 + l.val, by omega⟩) + P (ix2 a l) := by
  pointwise [k0_pay35]
theorem val7 : k0_pay2 (F := Ideal) V P (ix2 a l) = V (ix2 a ⟨1920 + l.val, by omega⟩) + P (ix2 a l) := by
  pointwise [k0_pay2]

end Pieces

/-! ## The three blocks of heads -/

/-- The queries that a step leaves. -/
def qB (Z : FVec Ideal S512x1024 .f32) (C S T : Vec Ideal S512x128 .f32) : Vec Ideal S512x1024 .bf16 :=
  View.canon [
    ⟨Rect.unit ![0, 896] ![512, 128] inb_S512x1024_S512x128_0_896, k0_pay36 (F := Ideal) Z (k0_pay9 C) (k0_pay10 S) (k0_pay11 T)⟩,
    ⟨Rect.unit ![0, 768] ![512, 128] inb_S512x1024_S512x128_0_768, k0_pay33 (F := Ideal) Z (k0_pay9 C) (k0_pay10 S) (k0_pay11 T)⟩,
    ⟨Rect.unit ![0, 640] ![512, 128] inb_S512x1024_S512x128_0_640, k0_pay29 (F := Ideal) Z (k0_pay9 C) (k0_pay10 S) (k0_pay11 T)⟩,
    ⟨Rect.unit ![0, 512] ![512, 128] inb_S512x1024_S512x128_0_512, k0_pay26 (F := Ideal) Z (k0_pay9 C) (k0_pay10 S) (k0_pay11 T)⟩,
    ⟨Rect.unit ![0, 384] ![512, 128] inb_S512x1024_S512x128_0_384, k0_pay23 (F := Ideal) Z (k0_pay9 C) (k0_pay10 S) (k0_pay11 T)⟩,
    ⟨Rect.unit ![0, 256] ![512, 128] inb_S512x1024_S512x128_0_256, k0_pay20 (F := Ideal) Z (k0_pay9 C) (k0_pay10 S) (k0_pay11 T)⟩,
    ⟨Rect.unit ![0, 128] ![512, 128] inb_S512x1024_S512x128_0_128, k0_pay17 (F := Ideal) Z (k0_pay9 C) (k0_pay10 S) (k0_pay11 T)⟩,
    ⟨Rect.unit ![0, 0] ![512, 128] inb_S512x1024_S512x128_0_0, k0_pay14 (F := Ideal) Z (k0_pay9 C) (k0_pay10 S) (k0_pay11 T)⟩]

/-- The keys that a step leaves. -/
def kB (V : FVec Ideal S512x2048 .f32) (P : Vec Ideal S512x128 .f32) : Vec Ideal S512x1024 .bf16 :=
  View.canon [
    ⟨Rect.unit ![0, 896] ![512, 128] inb_S512x1024_S512x128_0_896, k0_pay1 (F := Ideal) V P⟩,
    ⟨Rect.unit ![0, 768] ![512, 128] inb_S512x1024_S512x128_0_768, k0_pay34 (F := Ideal) V P⟩,
    ⟨Rect.unit ![0, 640] ![512, 128] inb_S512x1024_S512x128_0_640, k0_pay31 (F := Ideal) (k0_pay30 V P)⟩,
    ⟨Rect.unit ![0, 512] ![512, 128] inb_S512x1024_S512x128_0_512, k0_pay27 (F := Ideal) V P⟩,
    ⟨Rect.unit ![0, 384] ![512, 128] inb_S512x1024_S512x128_0_384, k0_pay24 (F := Ideal) V P⟩,
    ⟨Rect.unit ![0, 256] ![512, 128] inb_S512x1024_S512x128_0_256, k0_pay21 (F := Ideal) V P⟩,
    ⟨Rect.unit ![0, 128] ![512, 128] inb_S512x1024_S512x128_0_128, k0_pay18 (F := Ideal) V P⟩,
    ⟨Rect.unit ![0, 0] ![512, 128] inb_S512x1024_S512x128_0_0, k0_pay15 (F := Ideal) V P⟩]

/-- The values that a step leaves. -/
def vB (V : FVec Ideal S512x2048 .f32) (P : Vec Ideal S512x128 .f32) : Vec Ideal S512x1024 .bf16 :=
  View.canon [
    ⟨Rect.unit ![0, 896] ![512, 128] inb_S512x1024_S512x128_0_896, k0_pay2 (F := Ideal) V P⟩,
    ⟨Rect.unit ![0, 768] ![512, 128] inb_S512x1024_S512x128_0_768, k0_pay35 (F := Ideal) V P⟩,
    ⟨Rect.unit ![0, 640] ![512, 128] inb_S512x1024_S512x128_0_640, k0_pay32 (F := Ideal) V P⟩,
    ⟨Rect.unit ![0, 512] ![512, 128] inb_S512x1024_S512x128_0_512, k0_pay28 (F := Ideal) V P⟩,
    ⟨Rect.unit ![0, 384] ![512, 128] inb_S512x1024_S512x128_0_384, k0_pay25 (F := Ideal) V P⟩,
    ⟨Rect.unit ![0, 256] ![512, 128] inb_S512x1024_S512x128_0_256, k0_pay22 (F := Ideal) V P⟩,
    ⟨Rect.unit ![0, 128] ![512, 128] inb_S512x1024_S512x128_0_128, k0_pay19 (F := Ideal) V P⟩,
    ⟨Rect.unit ![0, 0] ![512, 128] inb_S512x1024_S512x128_0_0, k0_pay16 (F := Ideal) V P⟩]

theorem rotate_of (Z : FVec Ideal S512x1024 .f32) (C S T : Vec Ideal S512x128 .f32) (a : Fin 512) (j : Fin 1024) (p : Fin 512) (q : Fin 128)
    (f : Fin 128 → Fin 1024) (o : Nat) (hf : ∀ y : Fin 128, (f y).val = o + y.val) (hp : a.val = p.val) (hq : j.val = o + q.val) (ho : o = 128 * (j.val / 128)) :
    rotate (fun x y => Z (ix2 x (f y))) C S T p q * scaleK
      = rotate (fun x y => Z (ix2 x ⟨128 * (j.val / 128) + y.val, by omega⟩)) C S T a ⟨j.val % 128, by omega⟩ * scaleK := by
  have ep : p = a := Fin.ext hp.symm
  have eq : q = ⟨j.val % 128, by omega⟩ := Fin.ext (by show q.val = j.val % 128; omega)
  have ef : f = fun y => ⟨128 * (j.val / 128) + y.val, by omega⟩ := funext fun y => Fin.ext ((hf y).trans (congrArg (· + y.val) ho))
  rw [ep, ef]
  exact congrArg (fun z => rotate (fun x y => Z (ix2 x ⟨128 * (j.val / 128) + y.val, by omega⟩)) C S T a z * scaleK) eq

theorem added_of (V : FVec Ideal S512x2048 .f32) (P : Vec Ideal S512x128 .f32) (a p : Fin 512) (q q' : Fin 128) (k k' : Fin 2048)
    (hp : a.val = p.val) (hq : q.val = q'.val) (hk : k.val = k'.val) :
    (V (ix2 p k) + P (ix2 p q) : EReal) = V (ix2 a k') + P (ix2 a q') := by
  obtain rfl : p = a := Fin.ext hp.symm
  obtain rfl : q = q' := Fin.ext hq
  obtain rfl : k = k' := Fin.ext hk
  rfl

theorem qB_at (Z : FVec Ideal S512x1024 .f32) (C S T : Vec Ideal S512x128 .f32) (a : Fin 512) (j : Fin 1024) :
    qB Z C S T (ix2 a j) = rotate (fun x y => Z (ix2 x ⟨128 * (j.val / 128) + y.val, by omega⟩)) C S T a ⟨j.val % 128, by omega⟩ * scaleK := by
  unfold qB
  canon_tiles x h
  · obtain ⟨p, q, rfl⟩ := lanes x
    have e : j.val = 896 + q.val := h1.trans (by first | rfl | exact (Nat.zero_add _).symm)
    exact (query7 _ _ _ _ p q).trans (rotate_of Z C S T a j p q _ 896 (fun y => by first | rfl | exact (Nat.zero_add _).symm) h0 e (by omega))
  · obtain ⟨p, q, rfl⟩ := lanes x
    have e : j.val = 768 + q.val := h1.trans (by first | rfl | exact (Nat.zero_add _).symm)
    exact (query6 _ _ _ _ p q).trans (rotate_of Z C S T a j p q _ 768 (fun y => by first | rfl | exact (Nat.zero_add _).symm) h0 e (by omega))
  · obtain ⟨p, q, rfl⟩ := lanes x
    have e : j.val = 640 + q.val := h1.trans (by first | rfl | exact (Nat.zero_add _).symm)
    exact (query5 _ _ _ _ p q).trans (rotate_of Z C S T a j p q _ 640 (fun y => by first | rfl | exact (Nat.zero_add _).symm) h0 e (by omega))
  · obtain ⟨p, q, rfl⟩ := lanes x
    have e : j.val = 512 + q.val := h1.trans (by first | rfl | exact (Nat.zero_add _).symm)
    exact (query4 _ _ _ _ p q).trans (rotate_of Z C S T a j p q _ 512 (fun y => by first | rfl | exact (Nat.zero_add _).symm) h0 e (by omega))
  · obtain ⟨p, q, rfl⟩ := lanes x
    have e : j.val = 384 + q.val := h1.trans (by first | rfl | exact (Nat.zero_add _).symm)
    exact (query3 _ _ _ _ p q).trans (rotate_of Z C S T a j p q _ 384 (fun y => by first | rfl | exact (Nat.zero_add _).symm) h0 e (by omega))
  · obtain ⟨p, q, rfl⟩ := lanes x
    have e : j.val = 256 + q.val := h1.trans (by first | rfl | exact (Nat.zero_add _).symm)
    exact (query2 _ _ _ _ p q).trans (rotate_of Z C S T a j p q _ 256 (fun y => by first | rfl | exact (Nat.zero_add _).symm) h0 e (by omega))
  · obtain ⟨p, q, rfl⟩ := lanes x
    have e : j.val = 128 + q.val := h1.trans (by first | rfl | exact (Nat.zero_add _).symm)
    exact (query1 _ _ _ _ p q).trans (rotate_of Z C S T a j p q _ 128 (fun y => by first | rfl | exact (Nat.zero_add _).symm) h0 e (by omega))
  · obtain ⟨p, q, rfl⟩ := lanes x
    have e : j.val = 0 + q.val := h1.trans (by first | rfl | exact (Nat.zero_add _).symm)
    exact (query0 _ _ _ _ p q).trans (rotate_of Z C S T a j p q _ 0 (fun y => by first | rfl | exact (Nat.zero_add _).symm) h0 e (by omega))

theorem kB_at (V : FVec Ideal S512x2048 .f32) (P : Vec Ideal S512x128 .f32) (a : Fin 512) (j : Fin 1024) :
    kB V P (ix2 a j) = V (ix2 a ⟨0 + j.val, by omega⟩) + P (ix2 a ⟨j.val % 128, by omega⟩) := by
  unfold kB
  canon_tiles x h
  · obtain ⟨p, q, rfl⟩ := lanes x
    have e : j.val = 896 + q.val := h1.trans (by first | rfl | exact (Nat.zero_add _).symm)
    exact (key7 _ _ p q).trans (added_of V P a p _ _ _ _ h0 (by show q.val = j.val % 128; omega) (by simp only; omega))
  · obtain ⟨p, q, rfl⟩ := lanes x
    have e : j.val = 768 + q.val := h1.trans (by first | rfl | exact (Nat.zero_add _).symm)
    exact (key6 _ _ p q).trans (added_of V P a p _ _ _ _ h0 (by show q.val = j.val % 128; omega) (by simp only; omega))
  · obtain ⟨p, q, rfl⟩ := lanes x
    have e : j.val = 640 + q.val := h1.trans (by first | rfl | exact (Nat.zero_add _).symm)
    exact (key5 _ _ p q).trans (added_of V P a p _ _ _ _ h0 (by show q.val = j.val % 128; omega) (by simp only; omega))
  · obtain ⟨p, q, rfl⟩ := lanes x
    have e : j.val = 512 + q.val := h1.trans (by first | rfl | exact (Nat.zero_add _).symm)
    exact (key4 _ _ p q).trans (added_of V P a p _ _ _ _ h0 (by show q.val = j.val % 128; omega) (by simp only; omega))
  · obtain ⟨p, q, rfl⟩ := lanes x
    have e : j.val = 384 + q.val := h1.trans (by first | rfl | exact (Nat.zero_add _).symm)
    exact (key3 _ _ p q).trans (added_of V P a p _ _ _ _ h0 (by show q.val = j.val % 128; omega) (by simp only; omega))
  · obtain ⟨p, q, rfl⟩ := lanes x
    have e : j.val = 256 + q.val := h1.trans (by first | rfl | exact (Nat.zero_add _).symm)
    exact (key2 _ _ p q).trans (added_of V P a p _ _ _ _ h0 (by show q.val = j.val % 128; omega) (by simp only; omega))
  · obtain ⟨p, q, rfl⟩ := lanes x
    have e : j.val = 128 + q.val := h1.trans (by first | rfl | exact (Nat.zero_add _).symm)
    exact (key1 _ _ p q).trans (added_of V P a p _ _ _ _ h0 (by show q.val = j.val % 128; omega) (by simp only; omega))
  · obtain ⟨p, q, rfl⟩ := lanes x
    have e : j.val = 0 + q.val := h1.trans (by first | rfl | exact (Nat.zero_add _).symm)
    exact (key0 _ _ p q).trans (added_of V P a p _ _ _ _ h0 (by show q.val = j.val % 128; omega) (by simp only; omega))

theorem vB_at (V : FVec Ideal S512x2048 .f32) (P : Vec Ideal S512x128 .f32) (a : Fin 512) (j : Fin 1024) :
    vB V P (ix2 a j) = V (ix2 a ⟨1024 + j.val, by omega⟩) + P (ix2 a ⟨j.val % 128, by omega⟩) := by
  unfold vB
  canon_tiles x h
  · obtain ⟨p, q, rfl⟩ := lanes x
    have e : j.val = 896 + q.val := h1.trans (by first | rfl | exact (Nat.zero_add _).symm)
    exact (val7 _ _ p q).trans (added_of V P a p _ _ _ _ h0 (by show q.val = j.val % 128; omega) (by simp only; omega))
  · obtain ⟨p, q, rfl⟩ := lanes x
    have e : j.val = 768 + q.val := h1.trans (by first | rfl | exact (Nat.zero_add _).symm)
    exact (val6 _ _ p q).trans (added_of V P a p _ _ _ _ h0 (by show q.val = j.val % 128; omega) (by simp only; omega))
  · obtain ⟨p, q, rfl⟩ := lanes x
    have e : j.val = 640 + q.val := h1.trans (by first | rfl | exact (Nat.zero_add _).symm)
    exact (val5 _ _ p q).trans (added_of V P a p _ _ _ _ h0 (by show q.val = j.val % 128; omega) (by simp only; omega))
  · obtain ⟨p, q, rfl⟩ := lanes x
    have e : j.val = 512 + q.val := h1.trans (by first | rfl | exact (Nat.zero_add _).symm)
    exact (val4 _ _ p q).trans (added_of V P a p _ _ _ _ h0 (by show q.val = j.val % 128; omega) (by simp only; omega))
  · obtain ⟨p, q, rfl⟩ := lanes x
    have e : j.val = 384 + q.val := h1.trans (by first | rfl | exact (Nat.zero_add _).symm)
    exact (val3 _ _ p q).trans (added_of V P a p _ _ _ _ h0 (by show q.val = j.val % 128; omega) (by simp only; omega))
  · obtain ⟨p, q, rfl⟩ := lanes x
    have e : j.val = 256 + q.val := h1.trans (by first | rfl | exact (Nat.zero_add _).symm)
    exact (val2 _ _ p q).trans (added_of V P a p _ _ _ _ h0 (by show q.val = j.val % 128; omega) (by simp only; omega))
  · obtain ⟨p, q, rfl⟩ := lanes x
    have e : j.val = 128 + q.val := h1.trans (by first | rfl | exact (Nat.zero_add _).symm)
    exact (val1 _ _ p q).trans (added_of V P a p _ _ _ _ h0 (by show q.val = j.val % 128; omega) (by simp only; omega))
  · obtain ⟨p, q, rfl⟩ := lanes x
    have e : j.val = 0 + q.val := h1.trans (by first | rfl | exact (Nat.zero_add _).symm)
    exact (val0 _ _ p q).trans (added_of V P a p _ _ _ _ h0 (by show q.val = j.val % 128; omega) (by simp only; omega))

/-! ## What a step leaves -/

variable (m : (ℓ : Loc nD τ sig) → Buf (Elt Ideal) ℓ) (c : Dev nD) (t : Fin cfg0.N)

theorem left_q : (outsAt0 m c t).1 = qB (k0_pay5 (X0_0 m c t) (iblk m c 3 t) (iblk m c 5 t)) (iblk m c 7 t) (iblk m c 8 t) (iblk m c 9 t) := by
  unfold outsAt0; frame_out
theorem left_k : (outsAt0 m c t).2.1 = kB (k0_pay8 (k0_pay6 (iblk m c 1 t) (iblk m c 4 t)) (iblk m c 6 t)) (k0_pay12 (iblk m c 7 t) (iblk m c 8 t) (iblk m c 9 t) (iblk m c 2 t)) := by
  unfold outsAt0; frame_out
theorem left_v : (outsAt0 m c t).2.2.1 = vB (k0_pay8 (k0_pay6 (iblk m c 1 t) (iblk m c 4 t)) (iblk m c 6 t)) (k0_pay13 (F := Ideal)) := by
  unfold outsAt0; frame_out
theorem left_cq : (outsAt0 m c t).2.2.2.1 = k0_pay4 (X0_0 m c t) (iblk m c 3 t) := by
  unfold outsAt0; frame_out
theorem left_ck : (outsAt0 m c t).2.2.2.2 = k0_pay7 (iblk m c 1 t) (iblk m c 4 t) := by
  unfold outsAt0; frame_out

end Cert.Kernel5Ideal.Prep

end
-- ==== Proof.PrepVal.lean ====
/-
  What the latent projections' forward region computes, as functions of the arguments; and the blocks that a step finds.
-/
module

public import proofs.«01_k».proof.Proof.PrepPay
public import Idealize.ShloMosaic.Lib.Pipeline.ValueKit
public import Idealize.ShloMosaic.Lib.Claim
public import Idealize.ShloMosaic.Lib.Pointwise

@[expose] public section

set_option maxRecDepth 16384

noncomputable section

namespace Cert.Kernel5Ideal.Prep

open Cert.Kernel5Ideal Cert.Kernel5Ideal.Gen
open Cert.Kernel4Ideal.Mla (cosL sinLo sinHi projH projH_q projH_k cosL_at sinLo_at sinHi_at uq uk scaleK)
open Idealize.ShloMosaic Idealize.ShloMosaic.TcCoe Idealize.SL.Sem
open Idealize.ShloMosaic.Pipeline (Dat)

/-! ## The results, one element at a time -/

/-- An element of a normalised row. -/
def rowQ (X : FVec Ideal S1x4096x768 .f32) (G : FVec Ideal S1x768 .f32) (r : Fin 4096) (i : Fin 768) : EReal :=
  X (ix3 0 r i) * Ideal.rsqrt (uq X r) * G (ix2 0 i)
def rowK (Y : FVec Ideal S1x4096x256 .f32) (G : FVec Ideal S1x256 .f32) (r : Fin 4096) (i : Fin 256) : EReal :=
  Y (ix3 0 r i) * Ideal.rsqrt (uk Y r) * G (ix2 0 i)

/-- A column of a row's product with its weight. -/
def colQ (X : FVec Ideal S1x4096x768 .f32) (G : FVec Ideal S1x768 .f32) (W : FVec Ideal S1x768x768 .f32) (r : Fin 4096) (k : Fin 768) : EReal :=
  ∑ i : Fin 768, rowQ X G r i * W (ix3 0 i k)
def colK (Y : FVec Ideal S1x4096x256 .f32) (G : FVec Ideal S1x256 .f32) (W : FVec Ideal S1x256x1024 .f32) (r : Fin 4096) (k : Fin 1024) : EReal :=
  ∑ i : Fin 256, rowK Y G r i * W (ix3 0 i k)

/-- A head's lanes, the last thirty-two turned by the row's angles. -/
def ahead (d : Fin 96 → EReal) (C S : FVec Ideal S4096x16 .f32) (r : Fin 4096) (e : Fin 96) : EReal :=
  if e.val < 64 then d e
  else if h : e.val - 64 < 16 then d e * C (ix2 r ⟨e.val - 64, h⟩) + d ⟨e.val - 64 + 80, by omega⟩ * -(S (ix2 r ⟨e.val - 64, h⟩) : EReal)
  else d e * C (ix2 r ⟨e.val - 80, by omega⟩) + d ⟨e.val - 80 + 64, by omega⟩ * S (ix2 r ⟨e.val - 80, by omega⟩)

/-- The rotary keys of a row in the last lanes of a head. -/
def peRow (P : FVec Ideal S1x4096x32 .f32) (r : Fin 4096) (e : Fin 96) : EReal :=
  if h : 64 ≤ e.val then P (ix3 0 r ⟨e.val - 64, by omega⟩) else 0

theorem peRow_hi (P : FVec Ideal S1x4096x32 .f32) (r : Fin 4096) (e : Fin 96) (h : 64 ≤ e.val) : peRow P r e = P (ix3 0 r ⟨e.val - 64, by omega⟩) := dif_pos h
theorem peRow_lo (P : FVec Ideal S1x4096x32 .f32) (r : Fin 4096) (e : Fin 96) (h : ¬ 64 ≤ e.val) : peRow P r e = 0 := dif_neg h

section Results
variable (X : FVec Ideal S1x4096x768 .f32) (Y : FVec Ideal S1x4096x256 .f32) (P : FVec Ideal S1x4096x32 .f32) (Gq : FVec Ideal S1x768 .f32)
  (Wq : FVec Ideal S1x768x768 .f32) (Gk : FVec Ideal S1x256 .f32) (Wk : FVec Ideal S1x256x1024 .f32) (C S : FVec Ideal S4096x16 .f32)

def queries (h : Fin 8) (r : Fin 4096) (e : Fin 96) : EReal :=
  ahead (fun e => colQ X Gq Wq r ⟨96 * h.val + e.val, by omega⟩) C S r e * scaleK
def keys (h : Fin 8) (r : Fin 4096) (e : Fin 96) : EReal :=
  if e.val < 64 then colK Y Gk Wk r ⟨128 * h.val + e.val, by omega⟩ else ahead (peRow P r) C S r e
def vals (h : Fin 8) (r : Fin 4096) (e : Fin 64) : EReal := colK Y Gk Wk r ⟨128 * h.val + 64 + e.val, by omega⟩

end Results

theorem ahead_lanes (C S : FVec Ideal S4096x16 .f32) (r : Fin 4096) (d : Fin 96 → EReal) (D : Fin 128 → EReal)
    (hD : ∀ (l : Fin 128) (h : l.val < 96), D l = d ⟨l.val, h⟩) (l p q : Fin 128) (hl : l.val < 96) (hp : p.val = (l.val + 128 - 112) % 128) (hq : q.val = (l.val + 128 - 16) % 128) :
    D l * cosL C (ix2 r l) + D p * sinLo S (ix2 r l) + D q * sinHi S (ix2 r l) = ahead d C S r ⟨l.val, hl⟩ := by
  rw [cosL_at, sinLo_at, sinHi_at]
  unfold ahead
  by_cases h1 : l.val < 64
  · rw [dif_pos h1, dif_pos h1, dif_pos h1, if_pos h1, mul_one, mul_zero, mul_zero, add_zero, add_zero, hD l hl]
  · rw [dif_neg h1, dif_neg h1, dif_neg h1, if_neg h1]
    by_cases h2 : l.val - 64 < 16
    · rw [dif_pos h2, dif_pos h2, dif_pos h2, dif_pos h2, mul_zero, add_zero, hD l hl, hD p (by omega)]
      exact congrArg (fun z : Fin 96 => d ⟨l.val, hl⟩ * (C (ix2 r ⟨l.val - 64, h2⟩) : EReal) + d z * -(S (ix2 r ⟨l.val - 64, h2⟩) : EReal)) (Fin.ext (by show p.val = l.val - 64 + 80; omega))
    · have h3 : l.val - 64 - 16 < 16 := by omega
      rw [dif_neg h2, dif_neg h2, dif_neg h2, dif_neg h2, dif_pos h3, dif_pos h3, dif_pos h3, mul_zero, add_zero, hD l hl, hD q (by omega)]
      exact congrArg₂ (fun (z : Fin 96) (y : Fin 16) => d ⟨l.val, hl⟩ * (C (ix2 r y) : EReal) + d z * (S (ix2 r y) : EReal)) (Fin.ext (by show q.val = l.val - 80 + 64; omega)) (Fin.ext (by show l.val - 64 - 16 = l.val - 80; omega))

/-! ## The blocks that a step finds -/

variable (m : (ℓ : Loc nD τ sig) → Buf (Elt Ideal) ℓ)

theorem idx : ∀ t : Fin cfg0.N, win0_0.index t = ![t.val, 6] ∧ win0_1.index t = ![t.val, 21] ∧ win0_2.index t = ![t.val, 44]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![0, t.val] ∧ win0_14.index t = ![0, t.val] :=
  (by decide +kernel : ∀ t : Fin grid0.N, _)

theorem row_lt (t : Fin cfg0.N) (a : Fin 512) : t.val * 512 + a.val < 4096 := by
  have := t.isLt; have h : cfg0.N = 8 := N_0; omega

abbrev row (t : Fin cfg0.N) (a : Fin 512) : Fin 4096 := ⟨t.val * 512 + a.val, row_lt t a⟩

section Args
variable (c : Dev nD)
abbrev aX : FVec Ideal S1x4096x768 .f32 := m ((c : Thread nD τ).loc main_arg0)
abbrev aY : FVec Ideal S1x4096x256 .f32 := m ((c : Thread nD τ).loc main_arg1)
abbrev aP : FVec Ideal S1x4096x32 .f32 := m ((c : Thread nD τ).loc main_arg2)
abbrev aGq : FVec Ideal S1x768 .f32 := m ((c : Thread nD τ).loc main_arg3)
abbrev aWq : FVec Ideal S1x768x768 .f32 := m ((c : Thread nD τ).loc main_arg4)
abbrev aGk : FVec Ideal S1x256 .f32 := m ((c : Thread nD τ).loc main_arg5)
abbrev aWk : FVec Ideal S1x256x1024 .f32 := m ((c : Thread nD τ).loc main_arg6)
abbrev aC : FVec Ideal S4096x16 .f32 := m ((c : Thread nD τ).loc main_arg7)
abbrev aS : FVec Ideal S4096x16 .f32 := m ((c : Thread nD τ).loc main_arg8)
end Args

section Blocks
variable (c : Dev nD) (t : Fin cfg0.N) (a : Fin 512)

theorem b0 (k : Fin 768) : X0_0 m c t (ix2 a k) = aX m c (ix3 0 (row t a) k) := by
  rw [← projH_q (aX m c) (aY m c) (aP m c), ← V18 m c]
  unfold X0_0 Pipeline.Window.fill
  rw [dif_pos (moved0_0 t _)]
  blk_point [iblk, V, idx t]
theorem b1 (k : Fin 256) : iblk m c 1 t (ix2 a k) = aY m c (ix3 0 (row t a) k) := by
  rw [← projH_k (aX m c) (aY m c) (aP m c), ← V18 m c]
  blk_point [iblk, V, idx t]
theorem b2 (l : Fin 128) : iblk m c 2 t (ix2 a l) = projH (aX m c) (aY m c) (aP m c) (ix2 (row t a) ⟨5632 + l.val, by omega⟩) := by
  rw [← V18 m c]
  blk_point [iblk, V, idx t]
theorem b3 (k : Fin 768) : iblk m c 3 t (ix2 0 k) = aGq m c (ix2 0 k) := by
  blk_point [iblk, V, idx t]
theorem b4 (k : Fin 256) : iblk m c 4 t (ix2 0 k) = aGk m c (ix2 0 k) := by
  blk_point [iblk, V, idx t]
theorem b5 (i : Fin 768) (j : Fin 1024) : iblk m c 5 t (ix2 i j) = padQ (aWq m c) (ix2 i j) := by
  rw [← V32 m c]
  blk_point [iblk, V, idx t]
theorem b6 (i : Fin 256) (j : Fin 2048) : iblk m c 6 t (ix2 i j) = padK (aWk m c) (ix2 i j) := by
  rw [← V33 m c]
  blk_point [iblk, V, idx t]
theorem b7 (l : Fin 128) : iblk m c 7 t (ix2 a l) = cosL (aC m c) (ix2 (row t a) l) := by
  rw [← V2 m c]
  blk_point [iblk, V, idx t]
theorem b8 (l : Fin 128) : iblk m c 8 t (ix2 a l) = sinLo (aS m c) (ix2 (row t a) l) := by
  rw [← V7 m c]
  blk_point [iblk, V, idx t]
theorem b9 (l : Fin 128) : iblk m c 9 t (ix2 a l) = sinHi (aS m c) (ix2 (row t a) l) := by
  rw [← V11 m c]
  blk_point [iblk, V, idx t]

/-! ## The values of a step -/

theorem nq_step (i : Fin 768) : k0_pay3 (F := Ideal) (X0_0 m c t) (iblk m c 3 t) (ix2 a i) = rowQ (aX m c) (aGq m c) (row t a) i := by
  refine (rowQ_at _ _ a i).trans ?_
  simp only [b0, b3]
  rfl

theorem nk_step (i : Fin 256) : k0_pay6 (F := Ideal) (iblk m c 1 t) (iblk m c 4 t) (ix2 a i) = rowK (aY m c) (aGk m c) (row t a) i := by
  refine (rowK_at _ _ a i).trans ?_
  simp only [b1, b4]
  rfl

theorem prodQ_step (j : Fin 1024) (h : j.val % 128 < 96) : k0_pay5 (F := Ideal) (X0_0 m c t) (iblk m c 3 t) (iblk m c 5 t) (ix2 a j)
    = colQ (aX m c) (aGq m c) (aWq m c) (row t a) ⟨96 * (j.val / 128) + j.val % 128, by omega⟩ := by
  refine (prodQ_at _ _ _ a j).trans (Finset.sum_congr rfl fun i _ => ?_)
  rw [nq_step, b5, padQ_at, dif_pos h]

theorem prodK_step (j : Fin 2048) : k0_pay8 (F := Ideal) (k0_pay6 (iblk m c 1 t) (iblk m c 4 t)) (iblk m c 6 t) (ix2 a j)
    = ∑ i : Fin 256, rowK (aY m c) (aGk m c) (row t a) i * padK (aWk m c) (ix2 i j) := by
  refine (prodK_at _ _ a j).trans (Finset.sum_congr rfl fun i _ => ?_)
  rw [nk_step, b6]

theorem q_step (j : Fin 1024) (hj : j.val % 128 < 96) : (outsAt0 m c t).1 (ix2 a j)
    = queries (aX m c) (aGq m c) (aWq m c) (aC m c) (aS m c) ⟨j.val / 128, by omega⟩ (row t a) ⟨j.val % 128, hj⟩ := by
  rw [left_q]
  refine (qB_at _ _ _ _ a j).trans ?_
  unfold queries rotate
  rw [b7, b8, b9]
  refine congrArg (fun z : EReal => z * scaleK) (ahead_lanes (aC m c) (aS m c) (row t a)
    (fun e => colQ (aX m c) (aGq m c) (aWq m c) (row t a) ⟨96 * (j.val / 128) + e.val, by omega⟩)
    (fun y => k0_pay5 (F := Ideal) (X0_0 m c t) (iblk m c 3 t) (iblk m c 5 t) (ix2 a ⟨128 * (j.val / 128) + y.val, by omega⟩))
    (fun l h => ?_) ⟨j.val % 128, by omega⟩ _ _ hj rfl rfl)
  refine (prodQ_step m c t a _ (by show (128 * (j.val / 128) + l.val) % 128 < 96; omega)).trans ?_
  exact congrArg (fun z => colQ (aX m c) (aGq m c) (aWq m c) (row t a) z) (Fin.ext (by
    show 96 * ((128 * (j.val / 128) + l.val) / 128) + (128 * (j.val / 128) + l.val) % 128 = 96 * (j.val / 128) + l.val; omega))

theorem pe_step (l : Fin 128) (hl : l.val < 96) : k0_pay12 (F := Ideal) (iblk m c 7 t) (iblk m c 8 t) (iblk m c 9 t) (iblk m c 2 t) (ix2 a l)
    = ahead (peRow (aP m c) (row t a)) (aC m c) (aS m c) (row t a) ⟨l.val, hl⟩ := by
  refine (turnedP _ _ _ _ a l hl).trans ?_
  unfold rotate
  rw [b7, b8, b9]
  refine ahead_lanes (aC m c) (aS m c) (row t a) (peRow (aP m c) (row t a)) (fun y => iblk m c 2 t (ix2 a y)) (fun y h => ?_) l _ _ hl rfl rfl
  refine (b2 m c t a y).trans ((projH_p _ _ _ _ y).trans ?_)
  by_cases h6 : 64 ≤ y.val
  · rw [dif_pos ⟨h6, by omega⟩, peRow_hi _ _ _ h6]
  · rw [dif_neg (fun e => h6 e.1), peRow_lo _ _ _ h6]

theorem k_step (j : Fin 1024) (hj : j.val % 128 < 96) : (outsAt0 m c t).2.1 (ix2 a j)
    = keys (aY m c) (aP m c) (aGk m c) (aWk m c) (aC m c) (aS m c) ⟨j.val / 128, by omega⟩ (row t a) ⟨j.val % 128, hj⟩ := by
  rw [left_k]
  refine (kB_at _ _ a j).trans ?_
  rw [prodK_step, pe_step m c t a ⟨j.val % 128, by omega⟩ hj]
  unfold keys
  by_cases h : j.val % 128 < 64
  · refine Eq.trans ?_ (if_pos h).symm
    have e : ahead (peRow (aP m c) (row t a)) (aC m c) (aS m c) (row t a) ⟨j.val % 128, hj⟩ = 0 := by
      unfold ahead peRow
      refine (if_pos h).trans (dif_neg ?_)
      show ¬ 64 ≤ j.val % 128
      omega
    rw [e, add_zero]
    unfold colK
    refine Finset.sum_congr rfl fun i _ => ?_
    rw [padK_lo _ i _ (by show 0 + j.val < 1024; omega), dif_pos (by show (0 + j.val) % 128 < 64; omega)]
    exact congrArg (fun z => rowK (aY m c) (aGk m c) (row t a) i * (aWk m c (ix3 0 i z) : EReal)) (Fin.ext (by
      show 128 * ((0 + j.val) / 128) + (0 + j.val) % 128 = 128 * (j.val / 128) + j.val % 128; omega))
  · refine Eq.trans ?_ (if_neg h).symm
    rw [Finset.sum_eq_zero fun i _ => ?_, zero_add]
    rw [padK_lo _ i _ (by show 0 + j.val < 1024; omega), dif_neg (by show ¬ (0 + j.val) % 128 < 64; omega), mul_zero]

theorem v_step (j : Fin 1024) (hj : j.val % 128 < 64) : (outsAt0 m c t).2.2.1 (ix2 a j)
    = vals (aY m c) (aGk m c) (aWk m c) ⟨j.val / 128, by omega⟩ (row t a) ⟨j.val % 128, hj⟩ := by
  rw [left_v]
  refine (vB_at _ _ a j).trans ?_
  rw [prodK_step, extraV a ⟨j.val % 128, by omega⟩ hj, add_zero]
  unfold vals colK
  refine Finset.sum_congr rfl fun i _ => ?_
  rw [padK_hi _ i _ (by show 1024 ≤ 1024 + j.val; omega), dif_pos (by show (1024 + j.val - 1024) % 128 < 64; omega)]
  exact congrArg (fun z => rowK (aY m c) (aGk m c) (row t a) i * (aWk m c (ix3 0 i z) : EReal)) (Fin.ext (by
    show 128 * ((1024 + j.val - 1024) / 128) + 64 + (1024 + j.val - 1024) % 128 = 128 * (j.val / 128) + 64 + j.val % 128; omega))

theorem cq_step (i : Fin 768) : (outsAt0 m c t).2.2.2.1 (ix2 i a) = rowQ (aX m c) (aGq m c) (row t a) i := by
  rw [left_cq]
  exact (colQ_at _ _ a i).trans (nq_step m c t a i)
theorem ck_step (i : Fin 256) : (outsAt0 m c t).2.2.2.2 (ix2 i a) = rowK (aY m c) (aGk m c) (row t a) i := by
  rw [left_ck]
  exact (colK_at _ _ a i).trans (nk_step m c t a i)

end Blocks

end Cert.Kernel5Ideal.Prep

end
-- ==== Proof.PrepArr.lean ====
/-
  The five arrays that the latent projections' forward region leaves, and the results that the host lines after it make.
-/
module

public import proofs.«01_k».proof.Proof.PrepVal
public import Idealize.ShloMosaic.Lib.Pipeline.ValueKit
public import Idealize.ShloMosaic.Lib.Pipeline.ReadBack
public import Idealize.ShloMosaic.Lib.StableHlo.RunRead
public import Idealize.ShloMosaic.Lib.Claim
public import Idealize.ShloMosaic.Lib.Pointwise

@[expose] public section

set_option maxRecDepth 16384

noncomputable section

namespace Cert.Kernel5Ideal.Prep

open Cert.Kernel5Ideal Cert.Kernel5Ideal.Gen
open Idealize.ShloMosaic Idealize.ShloMosaic.TcCoe Idealize.SL.Sem
open Idealize.ShloMosaic.Pipeline (Dat)

section Arrays
variable (m : (ℓ : Loc nD τ sig) → Buf (Elt Ideal) ℓ) (c : Dev nD)

/-- The step and the row of the block that an array's row lies in. -/
def stepOf (i : Fin 4096) : Fin cfg0.N := ⟨i.val / 512, by have h : cfg0.N = 8 := N_0; omega⟩
def laneOf (i : Fin 4096) : Fin 512 := ⟨i.val % 512, by omega⟩
theorem row_of (i : Fin 4096) : row (stepOf i) (laneOf i) = i := Fin.ext (by show i.val / 512 * 512 + i.val % 512 = i.val; omega)
theorem stepOf_row (t : Fin cfg0.N) (a : Fin 512) : stepOf (row t a) = t := Fin.ext (by show (t.val * 512 + a.val) / 512 = t.val; omega)
theorem laneOf_row (t : Fin cfg0.N) (a : Fin 512) : laneOf (row t a) = a := Fin.ext (by show (t.val * 512 + a.val) % 512 = a.val; omega)

theorem final_q : (dats m 0 c).arrAt 10 (cfgs 0).N = fun i : S4096x1024.Idx => (outsAt0 m c (stepOf (i 0))).1 (ix2 (laneOf (i 0)) (i 1)) := by
  refine (dats m 0 c).arrAt_eq_of_covers 10 _ (by decide +kernel) fun t _ y => ?_
  blk_simp
  rw [after0_10]
  idx_vars y
  have e0 : ((View.whole main_v34_0).slice (win0_10.rect t)).emb (ix2 y0 y1) 0 = row t y0 := by
    apply Fin.ext; blk_simp [idx t]
  have e1 : ((View.whole main_v34_0).slice (win0_10.rect t)).emb (ix2 y0 y1) 1 = y1 := by
    apply Fin.ext; blk_simp [idx t]
  rw [e0, e1, stepOf_row, laneOf_row]

theorem final_k : (dats m 0 c).arrAt 11 (cfgs 0).N = fun i : S4096x1024.Idx => (outsAt0 m c (stepOf (i 0))).2.1 (ix2 (laneOf (i 0)) (i 1)) := by
  refine (dats m 0 c).arrAt_eq_of_covers 11 _ (by decide +kernel) fun t _ y => ?_
  blk_simp
  rw [after0_11]
  idx_vars y
  have e0 : ((View.whole main_v34_1).slice (win0_11.rect t)).emb (ix2 y0 y1) 0 = row t y0 := by
    apply Fin.ext; blk_simp [idx t]
  have e1 : ((View.whole main_v34_1).slice (win0_11.rect t)).emb (ix2 y0 y1) 1 = y1 := by
    apply Fin.ext; blk_simp [idx t]
  rw [e0, e1, stepOf_row, laneOf_row]

theorem final_v : (dats m 0 c).arrAt 12 (cfgs 0).N = fun i : S4096x1024.Idx => (outsAt0 m c (stepOf (i 0))).2.2.1 (ix2 (laneOf (i 0)) (i 1)) := by
  refine (dats m 0 c).arrAt_eq_of_covers 12 _ (by decide +kernel) fun t _ y => ?_
  blk_simp
  rw [after0_12]
  idx_vars y
  have e0 : ((View.whole main_v34_2).slice (win0_12.rect t)).emb (ix2 y0 y1) 0 = row t y0 := by
    apply Fin.ext; blk_simp [idx t]
  have e1 : ((View.whole main_v34_2).slice (win0_12.rect t)).emb (ix2 y0 y1) 1 = y1 := by
    apply Fin.ext; blk_simp [idx t]
  rw [e0, e1, stepOf_row, laneOf_row]

theorem final_cq : (dats m 0 c).arrAt 13 (cfgs 0).N = fun i : S768x4096.Idx => rowQ (aX m c) (aGq m c) (i 1) (i 0) := by
  refine (dats m 0 c).arrAt_eq_of_covers 13 _ (by decide +kernel) fun t _ y => ?_
  blk_simp
  rw [after0_13]
  idx_vars y
  have e0 : ((View.whole main_v34_3).slice (win0_13.rect t)).emb (ix2 y0 y1) 0 = y0 := by
    apply Fin.ext; blk_simp [idx t]
  have e1 : ((View.whole main_v34_3).slice (win0_13.rect t)).emb (ix2 y0 y1) 1 = row t y1 := by
    apply Fin.ext; blk_simp [idx t]
  rw [e0, e1]
  exact cq_step m c t y1 y0

theorem final_ck : (dats m 0 c).arrAt 14 (cfgs 0).N = fun i : S256x4096.Idx => rowK (aY m c) (aGk m c) (i 1) (i 0) := by
  refine (dats m 0 c).arrAt_eq_of_covers 14 _ (by decide +kernel) fun t _ y => ?_
  blk_simp
  rw [after0_14]
  idx_vars y
  have e0 : ((View.whole main_v34_4).slice (win0_14.rect t)).emb (ix2 y0 y1) 0 = y0 := by
    apply Fin.ext; blk_simp [idx t]
  have e1 : ((View.whole main_v34_4).slice (win0_14.rect t)).emb (ix2 y0 y1) 1 = row t y1 := by
    apply Fin.ext; blk_simp [idx t]
  rw [e0, e1]
  exact ck_step m c t y1 y0

end Arrays

/-! ## The host lines after the region -/

def heads96 (A : FVec Ideal S4096x1024 .bf16) : FVec Ideal S1x8x4096x96 .f32 :=
  transpose S1x8x4096x96 [0, 2, 1, 3] (extractStridedSlice S1x4096x8x96 ![0, 0, 0, 0] (shapeCast S1x4096x8x128 (extf .f32 A bitsLt_bf16_f32 : FVec Ideal S4096x1024 .f32) shapeCasts_S4096x1024_S1x4096x8x128 : FVec Ideal S1x4096x8x128 .f32) slices_S1x4096x8x128_S1x4096x8x96_0_0_0_0 : FVec Ideal S1x4096x8x96 .f32) transposes_S1x4096x8x96_S1x8x4096x96_0_2_1_3
def heads64 (A : FVec Ideal S4096x1024 .bf16) : FVec Ideal S1x8x4096x64 .f32 :=
  transpose S1x8x4096x64 [0, 2, 1, 3] (extractStridedSlice S1x4096x8x64 ![0, 0, 0, 0] (shapeCast S1x4096x8x128 (extf .f32 A bitsLt_bf16_f32 : FVec Ideal S4096x1024 .f32) shapeCasts_S4096x1024_S1x4096x8x128 : FVec Ideal S1x4096x8x128 .f32) slices_S1x4096x8x128_S1x4096x8x64_0_0_0_0 : FVec Ideal S1x4096x8x64 .f32) transposes_S1x4096x8x64_S1x8x4096x64_0_2_1_3
def rowsQ (A : FVec Ideal S768x4096 .bf16) : FVec Ideal S1x4096x768 .f32 :=
  broadcastInDim S1x4096x768 ![1, 2] bcast_S4096x768_S1x4096x768_1_2 (transpose S4096x768 [1, 0] (extf .f32 A bitsLt_bf16_f32 : FVec Ideal S768x4096 .f32) transposes_S768x4096_S4096x768_1_0 : FVec Ideal S4096x768 .f32)
def rowsK (A : FVec Ideal S256x4096 .bf16) : FVec Ideal S1x4096x256 .f32 :=
  broadcastInDim S1x4096x256 ![1, 2] bcast_S4096x256_S1x4096x256_1_2 (transpose S4096x256 [1, 0] (extf .f32 A bitsLt_bf16_f32 : FVec Ideal S256x4096 .f32) transposes_S256x4096_S4096x256_1_0 : FVec Ideal S4096x256 .f32)

theorem heads96_at (A : FVec Ideal S4096x1024 .bf16) (h : Fin 8) (r : Fin 4096) (e : Fin 96) : heads96 A (ix4 0 h r e) = A (ix2 r ⟨128 * h.val + e.val, by omega⟩) := by
  pointwise [heads96]
  exact congrArg (fun z : Fin 1024 => (A (ix2 r z) : EReal)) (Fin.ext (by show h.val * 128 + e.val = 128 * h.val + e.val; omega))
theorem heads64_at (A : FVec Ideal S4096x1024 .bf16) (h : Fin 8) (r : Fin 4096) (e : Fin 64) : heads64 A (ix4 0 h r e) = A (ix2 r ⟨128 * h.val + e.val, by omega⟩) := by
  pointwise [heads64]
  exact congrArg (fun z : Fin 1024 => (A (ix2 r z) : EReal)) (Fin.ext (by show h.val * 128 + e.val = 128 * h.val + e.val; omega))
theorem rowsQ_at (A : FVec Ideal S768x4096 .bf16) (r : Fin 4096) (i : Fin 768) : rowsQ A (ix3 0 r i) = A (ix2 i r) := by
  pointwise [rowsQ]
theorem rowsK_at (A : FVec Ideal S256x4096 .bf16) (r : Fin 4096) (i : Fin 256) : rowsK A (ix3 0 r i) = A (ix2 i r) := by
  pointwise [rowsK]

section Tail
variable (T : Valuation τ sig (Elt Ideal))
theorem tail_v38 : StableHlo.after hostOps1 T (Proc.devRef .tc main_v38) = heads96 (T (Proc.devRef .tc main_v34_0)) := by
  unfold heads96
  after_reads_simp
  first | done | rfl
theorem tail_v42 : StableHlo.after hostOps1 T (Proc.devRef .tc main_v42) = heads96 (T (Proc.devRef .tc main_v34_1)) := by
  unfold heads96
  after_reads_simp
  first | done | rfl
theorem tail_v46 : StableHlo.after hostOps1 T (Proc.devRef .tc main_v46) = heads64 (T (Proc.devRef .tc main_v34_2)) := by
  unfold heads64
  after_reads_simp
  first | done | rfl
theorem tail_v49 : StableHlo.after hostOps1 T (Proc.devRef .tc main_v49) = rowsQ (T (Proc.devRef .tc main_v34_3)) := by
  unfold rowsQ
  after_reads_simp
  first | done | rfl
theorem tail_v52 : StableHlo.after hostOps1 T (Proc.devRef .tc main_v52) = rowsK (T (Proc.devRef .tc main_v34_4)) := by
  unfold rowsK
  after_reads_simp
  first | done | rfl
end Tail

variable (m : (ℓ : Loc nD τ sig) → Buf (Elt Ideal) ℓ) (c : Dev nD)

theorem kept (w : Fin 15) : Pipeline.withArrays spec0 c (V0 m c) (fun w => (dats m 0 c).arrAt w cfg0.N) (Proc.devRef .tc (Pipeline.arrRef spec0 w))
    = (dats m 0 c).arrAt w cfg0.N :=
  Pipeline.withArrays_arr_shared spec0 c (V0 m c) (fun w => (dats m 0 c).arrAt w cfg0.N)
    (fun w w' hne e => ((dats m 0 c).arrAt_in w (sharedIn0 w w' hne e) _).trans (A_eq m c w)) w

/-- A result that the host lines after the region make. -/
abbrev made := Pipeline.afterTail₀ cfgs (dats m) 0 (V0 m) [hostOps1] c

theorem out_q (h : Fin 8) (r : Fin 4096) (e : Fin 96) : (made m c main_v38 : FVec Ideal S1x8x4096x96 .f32) (ix4 0 h r e)
    = queries (aX m c) (aGq m c) (aWq m c) (aC m c) (aS m c) h r e := by
  unfold made Pipeline.afterTail₀
  rw [List.flatten_cons, List.flatten_nil, List.append_nil, tail_v38]
  refine (congrArg (fun A => heads96 A (ix4 0 h r e)) (kept m c 10)).trans ((heads96_at _ h r e).trans ?_)
  refine (congrFun (final_q m c) (ix2 r ⟨128 * h.val + e.val, by omega⟩)).trans ?_
  refine (q_step m c (stepOf r) (laneOf r) ⟨128 * h.val + e.val, by omega⟩ (by show (128 * h.val + e.val) % 128 < 96; omega)).trans ?_
  rw [row_of]
  exact congrArg₂ (fun (x : Fin 8) (y : Fin 96) => queries (aX m c) (aGq m c) (aWq m c) (aC m c) (aS m c) x r y)
    (Fin.ext (by show (128 * h.val + e.val) / 128 = h.val; omega)) (Fin.ext (by show (128 * h.val + e.val) % 128 = e.val; omega))

theorem out_k (h : Fin 8) (r : Fin 4096) (e : Fin 96) : (made m c main_v42 : FVec Ideal S1x8x4096x96 .f32) (ix4 0 h r e)
    = keys (aY m c) (aP m c) (aGk m c) (aWk m c) (aC m c) (aS m c) h r e := by
  unfold made Pipeline.afterTail₀
  rw [List.flatten_cons, List.flatten_nil, List.append_nil, tail_v42]
  refine (congrArg (fun A => heads96 A (ix4 0 h r e)) (kept m c 11)).trans ((heads96_at _ h r e).trans ?_)
  refine (congrFun (final_k m c) (ix2 r ⟨128 * h.val + e.val, by omega⟩)).trans ?_
  refine (k_step m c (stepOf r) (laneOf r) ⟨128 * h.val + e.val, by omega⟩ (by show (128 * h.val + e.val) % 128 < 96; omega)).trans ?_
  rw [row_of]
  exact congrArg₂ (fun (x : Fin 8) (y : Fin 96) => keys (aY m c) (aP m c) (aGk m c) (aWk m c) (aC m c) (aS m c) x r y)
    (Fin.ext (by show (128 * h.val + e.val) / 128 = h.val; omega)) (Fin.ext (by show (128 * h.val + e.val) % 128 = e.val; omega))

theorem out_v (h : Fin 8) (r : Fin 4096) (e : Fin 64) : (made m c main_v46 : FVec Ideal S1x8x4096x64 .f32) (ix4 0 h r e)
    = vals (aY m c) (aGk m c) (aWk m c) h r e := by
  unfold made Pipeline.afterTail₀
  rw [List.flatten_cons, List.flatten_nil, List.append_nil, tail_v46]
  refine (congrArg (fun A => heads64 A (ix4 0 h r e)) (kept m c 12)).trans ((heads64_at _ h r e).trans ?_)
  refine (congrFun (final_v m c) (ix2 r ⟨128 * h.val + e.val, by omega⟩)).trans ?_
  refine (v_step m c (stepOf r) (laneOf r) ⟨128 * h.val + e.val, by omega⟩ (by show (128 * h.val + e.val) % 128 < 64; omega)).trans ?_
  rw [row_of]
  exact congrArg₂ (fun (x : Fin 8) (y : Fin 64) => vals (aY m c) (aGk m c) (aWk m c) x r y)
    (Fin.ext (by show (128 * h.val + e.val) / 128 = h.val; omega)) (Fin.ext (by show (128 * h.val + e.val) % 128 = e.val; omega))

theorem out_cq (r : Fin 4096) (i : Fin 768) : (made m c main_v49 : FVec Ideal S1x4096x768 .f32) (ix3 0 r i) = rowQ (aX m c) (aGq m c) r i := by
  unfold made Pipeline.afterTail₀
  rw [List.flatten_cons, List.flatten_nil, List.append_nil, tail_v49]
  refine (congrArg (fun A => rowsQ A (ix3 0 r i)) (kept m c 13)).trans ((rowsQ_at _ r i).trans ?_)
  exact congrFun (final_cq m c) (ix2 i r)
theorem out_ck (r : Fin 4096) (i : Fin 256) : (made m c main_v52 : FVec Ideal S1x4096x256 .f32) (ix3 0 r i) = rowK (aY m c) (aGk m c) r i := by
  unfold made Pipeline.afterTail₀
  rw [List.flatten_cons, List.flatten_nil, List.append_nil, tail_v52]
  refine (congrArg (fun A => rowsK A (ix3 0 r i)) (kept m c 14)).trans ((rowsK_at _ r i).trans ?_)
  exact congrFun (final_ck m c) (ix2 i r)

end Cert.Kernel5Ideal.Prep

end
-- ==== Proof.PrepRef.lean ====
/-
  The reference's latent projections, read at an index.
-/
module

public import proofs.«01_k».proof.Proof.PrepVal
public import proofs.«01_k».proof.Proof.Gen.Reference5Ideal.Read
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Reference5Ideal.Prep

open Cert.Reference5Ideal Cert.Reference5Ideal.Gen Cert.Reference5Ideal.Read
open Cert.Kernel4Ideal.Mla (uq uk scaleK n768 n256)
open Cert.Kernel5Ideal.Prep (rowQ rowK colQ colK ahead peRow peRow_hi queries keys vals)

variable (X : FVec Ideal S1x4096x768 .f32) (Y : FVec Ideal S1x4096x256 .f32) (P : FVec Ideal S1x4096x32 .f32) (Gq : FVec Ideal S1x768 .f32)
  (Wq : FVec Ideal S1x768x768 .f32) (Gk : FVec Ideal S1x256 .f32) (Wk : FVec Ideal S1x256x1024 .f32) (C S : FVec Ideal S4096x16 .f32)

theorem uq_read (r : Fin 4096) : val_main_v7 (F := Ideal) X (ix3 0 r 0) = uq X r := by
  unfold uq
  rw [← n768]
  pointwise [val_main_v7, val_main_v6, val_main_cst_1, val_main_v5, val_main_v4, val_main_cst_0, val_main_v3, val_main_v2,
    val_main_cst, val_main_v1]

theorem uk_read (r : Fin 4096) : val_main_v21 (F := Ideal) Y (ix3 0 r 0) = uk Y r := by
  unfold uk
  rw [← n256]
  pointwise [val_main_v21, val_main_v20, val_main_cst_4, val_main_v19, val_main_v18, val_main_cst_3, val_main_v17, val_main_v16,
    val_main_cst_2, val_main_v15]

theorem cq_read (r : Fin 4096) (i : Fin 768) : val_main_v13 (F := Ideal) X Gq (ix3 0 r i) = rowQ X Gq r i := by
  unfold rowQ
  rw [← uq_read]
  unfold val_main_v13 val_main_v12 val_main_v11 val_main_v10 val_main_v9 val_main_v8 val_main_v0
  generalize val_main_v7 (F := Ideal) X = D
  pointwise

theorem ck_read (r : Fin 4096) (i : Fin 256) : val_main_v27 (F := Ideal) Y Gk (ix3 0 r i) = rowK Y Gk r i := by
  unfold rowK
  rw [← uk_read]
  unfold val_main_v27 val_main_v26 val_main_v25 val_main_v24 val_main_v23 val_main_v22 val_main_v14
  generalize val_main_v21 (F := Ideal) Y = D
  pointwise

theorem v30_read (r : Fin 4096) (h : Fin 8) (e : Fin 96) : val_main_v30 (F := Ideal) X Gq Wq (ix4 0 r h e) = colQ X Gq Wq r ⟨96 * h.val + e.val, by omega⟩ := by
  unfold colQ
  simp only [← cq_read]
  unfold val_main_v30 val_main_v29 val_main_v28
  generalize val_main_v13 (F := Ideal) X Gq = D
  pointwise
  exact Finset.sum_congr rfl fun x _ => congrArg (fun z => (D (ix3 0 r x) : EReal) * Wq (ix3 0 x z)) (Fin.ext (by show h.val * 96 + e.val = 96 * h.val + e.val; omega))

theorem v50_read (r : Fin 4096) (h : Fin 8) (e : Fin 128) : val_main_v50 (F := Ideal) Y Gk Wk (ix4 0 r h e) = colK Y Gk Wk r ⟨128 * h.val + e.val, by omega⟩ := by
  unfold colK
  simp only [← ck_read]
  unfold val_main_v50 val_main_v49 val_main_v48
  generalize val_main_v27 (F := Ideal) Y Gk = D
  pointwise
  exact Finset.sum_congr rfl fun x _ => congrArg (fun z => (D (ix3 0 r x) : EReal) * Wk (ix3 0 x z)) (Fin.ext (by show h.val * 128 + e.val = 128 * h.val + e.val; omega))

/-! ## The queries -/

section Queries
variable (r : Fin 4096) (h : Fin 8)

theorem v41_read (e : Fin 16) : val_main_v41 (F := Ideal) X Gq Wq C S (ix4 0 r h e)
    = val_main_v30 (F := Ideal) X Gq Wq (ix4 0 r h ⟨64 + e.val, by omega⟩) * C (ix2 r e)
      - val_main_v30 (F := Ideal) X Gq Wq (ix4 0 r h ⟨64 + (16 + e.val), by omega⟩) * S (ix2 r e) := by
  unfold val_main_v41 val_main_v38 val_main_v40 val_main_v37 val_main_v39 val_main_v35 val_main_v36 val_main_v33 val_main_v34 val_main_v32
  generalize val_main_v30 (F := Ideal) X Gq Wq = D
  pointwise

theorem v46_read (e : Fin 16) : val_main_v46 (F := Ideal) X Gq Wq C S (ix4 0 r h e)
    = val_main_v30 (F := Ideal) X Gq Wq (ix4 0 r h ⟨64 + e.val, by omega⟩) * S (ix2 r e)
      + val_main_v30 (F := Ideal) X Gq Wq (ix4 0 r h ⟨64 + (16 + e.val), by omega⟩) * C (ix2 r e) := by
  unfold val_main_v46 val_main_v43 val_main_v45 val_main_v42 val_main_v44 val_main_v35 val_main_v36 val_main_v33 val_main_v34 val_main_v32
  generalize val_main_v30 (F := Ideal) X Gq Wq = D
  pointwise

theorem v71_read (e : Fin 96) : val_main_v71 (F := Ideal) X Gq Wq C S (ix4 0 h r e)
    = (if h1 : e.val < 64 then (val_main_v30 (F := Ideal) X Gq Wq (ix4 0 r h e) : EReal)
      else if h2 : e.val - 64 < 16 then val_main_v41 (F := Ideal) X Gq Wq C S (ix4 0 r h ⟨e.val - 64, h2⟩)
      else val_main_v46 (F := Ideal) X Gq Wq C S (ix4 0 r h ⟨e.val - 64 - 16, by omega⟩)) * scaleK := by
  unfold val_main_v71 val_main_v70 val_main_v67 val_main_v66 val_main_v47 val_main_v31
  generalize val_main_v30 (F := Ideal) X Gq Wq = D
  generalize val_main_v41 (F := Ideal) X Gq Wq C S = D1
  generalize val_main_v46 (F := Ideal) X Gq Wq C S = D2
  pointwise [val_main_cst_5]

theorem q_read (e : Fin 96) : val_main_v71 (F := Ideal) X Gq Wq C S (ix4 0 h r e) = queries X Gq Wq C S h r e := by
  rw [v71_read]
  unfold queries
  refine congrArg (fun z : EReal => z * scaleK) ?_
  unfold ahead
  by_cases h1 : e.val < 64
  · rw [dif_pos h1, if_pos h1, v30_read]
  · rw [dif_neg h1, if_neg h1]
    by_cases h2 : e.val - 64 < 16
    · rw [dif_pos h2, dif_pos h2, v41_read, v30_read, v30_read, sub_eq_add_neg, ← mul_neg]
      exact congrArg₂ (fun (x y : Fin 768) => colQ X Gq Wq r x * (C (ix2 r ⟨e.val - 64, h2⟩) : EReal) + colQ X Gq Wq r y * -(S (ix2 r ⟨e.val - 64, h2⟩) : EReal))
        (Fin.ext (by show 96 * h.val + (64 + (e.val - 64)) = 96 * h.val + e.val; omega))
        (Fin.ext (by show 96 * h.val + (64 + (16 + (e.val - 64))) = 96 * h.val + (e.val - 64 + 80); omega))
    · rw [dif_neg h2, dif_neg h2, v46_read, v30_read, v30_read, add_comm]
      have e1 : (⟨e.val - 64 - 16, by omega⟩ : Fin 16) = ⟨e.val - 80, by omega⟩ := Fin.ext (by show e.val - 64 - 16 = e.val - 80; omega)
      rw [e1]
      exact congrArg₂ (fun (x y : Fin 768) => colQ X Gq Wq r x * (C (ix2 r ⟨e.val - 80, by omega⟩) : EReal) + colQ X Gq Wq r y * (S (ix2 r ⟨e.val - 80, by omega⟩) : EReal))
        (Fin.ext (by show 96 * h.val + (64 + (16 + (e.val - 64 - 16))) = 96 * h.val + e.val; omega))
        (Fin.ext (by show 96 * h.val + (64 + (e.val - 64 - 16)) = 96 * h.val + (e.val - 80 + 64); omega))

end Queries

/-! ## The keys and the values -/

section Keys
variable (r : Fin 4096) (h : Fin 8)

theorem v60_read (e : Fin 16) : val_main_v60 (F := Ideal) P C S (ix4 0 r 0 e)
    = P (ix3 0 r ⟨e.val, by omega⟩) * C (ix2 r e) - P (ix3 0 r ⟨16 + e.val, by omega⟩) * S (ix2 r e) := by
  pointwise [val_main_v60, val_main_v58, val_main_v59, val_main_v54, val_main_v55, val_main_v56, val_main_v57, val_main_v53]

theorem v63_read (e : Fin 16) : val_main_v63 (F := Ideal) P C S (ix4 0 r 0 e)
    = P (ix3 0 r ⟨e.val, by omega⟩) * S (ix2 r e) + P (ix3 0 r ⟨16 + e.val, by omega⟩) * C (ix2 r e) := by
  pointwise [val_main_v63, val_main_v61, val_main_v62, val_main_v54, val_main_v55, val_main_v56, val_main_v57, val_main_v53]

theorem v69_read (e : Fin 96) : val_main_v69 (F := Ideal) Y P Gk Wk C S (ix4 0 h r e)
    = if h1 : e.val < 64 then (val_main_v50 (F := Ideal) Y Gk Wk (ix4 0 r h ⟨e.val, by omega⟩) : EReal)
      else if h2 : e.val - 64 < 16 then val_main_v60 (F := Ideal) P C S (ix4 0 r 0 ⟨e.val - 64, h2⟩)
      else val_main_v63 (F := Ideal) P C S (ix4 0 r 0 ⟨e.val - 64 - 16, by omega⟩) := by
  unfold val_main_v69 val_main_v68 val_main_v65 val_main_v64 val_main_v51
  generalize val_main_v50 (F := Ideal) Y Gk Wk = D
  generalize val_main_v60 (F := Ideal) P C S = D1
  generalize val_main_v63 (F := Ideal) P C S = D2
  pointwise

theorem k_read (e : Fin 96) : val_main_v69 (F := Ideal) Y P Gk Wk C S (ix4 0 h r e) = keys Y P Gk Wk C S h r e := by
  rw [v69_read]
  unfold keys
  by_cases h1 : e.val < 64
  · rw [dif_pos h1, if_pos h1, v50_read]
  · rw [dif_neg h1, if_neg h1]
    unfold ahead
    rw [if_neg h1]
    by_cases h2 : e.val - 64 < 16
    · rw [dif_pos h2, dif_pos h2, v60_read, peRow_hi _ _ e (by omega), peRow_hi _ _ ⟨e.val - 64 + 80, by omega⟩ (by show 64 ≤ e.val - 64 + 80; omega), sub_eq_add_neg, ← mul_neg]
      exact congrArg (fun y : Fin 32 => (P (ix3 0 r ⟨e.val - 64, by omega⟩) : EReal) * C (ix2 r ⟨e.val - 64, h2⟩) + (P (ix3 0 r y) : EReal) * -(S (ix2 r ⟨e.val - 64, h2⟩) : EReal))
        (Fin.ext (by show 16 + (e.val - 64) = e.val - 64 + 80 - 64; omega))
    · rw [dif_neg h2, dif_neg h2, v63_read, peRow_hi _ _ e (by omega), peRow_hi _ _ ⟨e.val - 80 + 64, by omega⟩ (by show 64 ≤ e.val - 80 + 64; omega), add_comm]
      have e1 : (⟨e.val - 64 - 16, by omega⟩ : Fin 16) = ⟨e.val - 80, by omega⟩ := Fin.ext (by show e.val - 64 - 16 = e.val - 80; omega)
      rw [e1]
      exact congrArg₂ (fun (x y : Fin 32) => (P (ix3 0 r x) : EReal) * C (ix2 r ⟨e.val - 80, by omega⟩) + (P (ix3 0 r y) : EReal) * (S (ix2 r ⟨e.val - 80, by omega⟩) : EReal))
        (Fin.ext (by show 16 + (e.val - 64 - 16) = e.val - 64; omega)) (Fin.ext (by show e.val - 64 - 16 = e.val - 80 + 64 - 64; omega))

theorem v_read (e : Fin 64) : val_main_v72 (F := Ideal) Y Gk Wk (ix4 0 h r e) = vals Y Gk Wk h r e := by
  unfold vals
  refine Eq.trans (b := val_main_v50 (F := Ideal) Y Gk Wk (ix4 0 r h ⟨64 + e.val, by omega⟩)) ?_ ?_
  · unfold val_main_v72 val_main_v52
    generalize val_main_v50 (F := Ideal) Y Gk Wk = D
    pointwise
  · rw [v50_read]
    exact congrArg (colK Y Gk Wk r) (Fin.ext (by show 128 * h.val + (64 + e.val) = 128 * h.val + 64 + e.val; omega))

end Keys

end Cert.Reference5Ideal.Prep

end
-- ==== Proof.PrepEq.lean ====
/-
  The latent projections' forward region and its reference have the same results.
-/
module

public import proofs.«01_k».proof.Proof.PrepArr
public import proofs.«01_k».proof.Proof.PrepRef
public import proofs.«01_k».proof.Proof.MlaEq

@[expose] public section

set_option maxRecDepth 16384

noncomputable section

open Idealize.ShloMosaic Idealize.ShloMosaic.TcCoe Idealize.SL.Sem

namespace Cert.Kernel5Ideal.Prep

open Cert.Kernel5Ideal Cert.Kernel5Ideal.Gen Cert.Reference5Ideal.Read Cert.Reference5Ideal.Prep
open Cert.Kernel4Ideal.Mla (rows_ext)

variable (m : (ℓ : Loc nD τ sig) → Buf (Elt Ideal) ℓ) (c : Dev nD)

theorem idx_heads {n k l : Nat} (i : (⟨4, ![1, n, k, l]⟩ : Shape).Idx) : i = ix4 0 (i 1) (i 2) (i 3) := by
  funext a
  apply Fin.ext
  match a with
  | ⟨0, _⟩ => exact congrArg Fin.val (Subsingleton.elim (α := Fin 1) (i 0) 0)
  | ⟨1, _⟩ => rfl
  | ⟨2, _⟩ => rfl
  | ⟨3, _⟩ => rfl

/-- Arrays that agree at every head, row and lane are equal. -/
theorem heads_ext {n k l : Nat} (x y : FVec Ideal ⟨4, ![1, n, k, l]⟩ .f32) (h : ∀ (p : Fin n) (r : Fin k) (e : Fin l), x (ix4 0 p r e) = y (ix4 0 p r e)) : x = y := by
  funext i
  rw [idx_heads i]
  exact h _ _ _

theorem eq_q : val_main_v71 (F := Ideal) (aX m c) (aGq m c) (aWq m c) (aC m c) (aS m c) = made m c main_v38 :=
  heads_ext _ _ fun h r e => (q_read _ _ _ _ _ r h e).trans (out_q m c h r e).symm
theorem eq_k : val_main_v69 (F := Ideal) (aY m c) (aP m c) (aGk m c) (aWk m c) (aC m c) (aS m c) = made m c main_v42 :=
  heads_ext _ _ fun h r e => (k_read _ _ _ _ _ _ r h e).trans (out_k m c h r e).symm
theorem eq_v : val_main_v72 (F := Ideal) (aY m c) (aGk m c) (aWk m c) = made m c main_v46 :=
  heads_ext _ _ fun h r e => (v_read _ _ _ r h e).trans (out_v m c h r e).symm
theorem eq_cq : val_main_v13 (F := Ideal) (aX m c) (aGq m c) = made m c main_v49 :=
  rows_ext _ _ fun r i => (cq_read _ _ r i).trans (out_cq m c r i).symm
theorem eq_ck : val_main_v27 (F := Ideal) (aY m c) (aGk m c) = made m c main_v52 :=
  rows_ext _ _ fun r i => (ck_read _ _ r i).trans (out_ck m c r i).symm

end Cert.Kernel5Ideal.Prep

end
-- ==== Proof.lean ====
module

public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Skeleton
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Skeleton
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Skeleton
public import proofs.«01_k».proof.Proof.Gen.Kernel5Ideal.Frame
public import proofs.«01_k».proof.Proof.Gen.Reference5Ideal.Run
public import proofs.«01_k».proof.Proof.Gen.Reference5Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.DhRef
public import proofs.«01_k».proof.Proof.AttnBits
public import proofs.«01_k».proof.Proof.AttnPre
public import proofs.«01_k».proof.Proof.AttnRef
public import proofs.«01_k».proof.Proof.AttnTail
public import proofs.«01_k».proof.Proof.FwdBits
public import proofs.«01_k».proof.Proof.FwdPre
public import proofs.«01_k».proof.Proof.FwdRef
public import proofs.«01_k».proof.Proof.FwdTail
public import proofs.«01_k».proof.Proof.MlaEq
public import proofs.«01_k».proof.Proof.PrepEq
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem quiescent_reference : Cert.quiescent_ReferenceIdeal := by
  intro m g _
  exact (θ_run _ _ _).mono (fun r h => ⟨fun c => (h c).2.2, sem_eq_zero_of_no_sems (by decide) r.2⟩)
    (Cert.ReferenceIdeal.Value.run m g)

open Cert.KernelIdeal.Val Cert.ReferenceIdeal.Val Cert.ReferenceIdeal.Read in
theorem algebraic : Cert.algebraic_KernelIdeal_ReferenceIdeal := by
  pair_intro
  · run_from Cert.KernelIdeal.Value.run_blocks m g
  · run_from Cert.ReferenceIdeal.Value.run m' g'
    · obtain ⟨h0, h1, h2, h3, h4⟩ := hagree c
      rw [val_main_v43_eq, h0, h1, h2, h3, h4]
      refine Eq.trans ?_ (final_dx m c).symm
      funext i
      idx_vars i
      exact dx_read _ _ _ _ _ _ _
    · refine (val_main_v42_eq _ _ _).trans (Eq.trans ?_ (final_dg m c).symm)
      funext i
      idx_vars i
      rw [Subsingleton.elim i0 0]
      exact dg_read _ _ _ _

/-! ## The attention -/

theorem quiescent_reference2 : Cert.quiescent_Reference2Ideal := by
  intro m g _
  exact (θ_run _ _ _).mono (fun r h => ⟨fun c => (h c).2.2.2, sem_eq_zero_of_no_sems (by decide) r.2⟩)
    (Cert.Reference2Ideal.Value.run m g)

/-- The attention's run, the three results read. -/
theorem attn_run (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v63) = Pipeline.afterTail₀ Cert.Kernel2Ideal.cfgs (Cert.Kernel2Ideal.Attn.dats m) 0 (Cert.Kernel2Ideal.Gen.V0 m) [Cert.Kernel2Ideal.Gen.hostOps1] c Cert.Kernel2Ideal.main_v63
      ∧ r.2.mem ((c.tc : Thread Cert.Kernel2Ideal.nD Cert.Kernel2Ideal.τ).loc Cert.Kernel2Ideal.main_v67) = Pipeline.afterTail₀ Cert.Kernel2Ideal.cfgs (Cert.Kernel2Ideal.Attn.dats m) 0 (Cert.Kernel2Ideal.Gen.V0 m) [Cert.Kernel2Ideal.Gen.hostOps1] c Cert.Kernel2Ideal.main_v67
      ∧ r.2.mem ((c.tc : Thread Cert.Kernel2Ideal.nD Cert.Kernel2Ideal.τ).loc Cert.Kernel2Ideal.main_v71) = Pipeline.afterTail₀ Cert.Kernel2Ideal.cfgs (Cert.Kernel2Ideal.Attn.dats m) 0 (Cert.Kernel2Ideal.Gen.V0 m) [Cert.Kernel2Ideal.Gen.hostOps1] c Cert.Kernel2Ideal.main_v71
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)) :=
  (θ_run _ _ _).mono (fun r h c =>
      ⟨(h.1.1 c).2 _ (Pipeline.mem_restRefs_of Cert.Kernel2Ideal.main_v63 (by decide) (by decide)), (h.1.1 c).2 _ (Pipeline.mem_restRefs_of Cert.Kernel2Ideal.main_v67 (by decide) (by decide)),
        (h.1.1 c).2 _ (Pipeline.mem_restRefs_of Cert.Kernel2Ideal.main_v71 (by decide) (by decide)), h.2.1 c⟩)
    (θ_run_and (Cert.Kernel2Ideal.Attn.run m g) (Cert.Kernel2Ideal.Attn.frame m g))

open Cert.Kernel2Ideal.Attn Cert.Reference2Ideal.Read Cert.Reference2Ideal.Attn in
theorem same_results (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (hpre : Cert.Pre_Kernel2Ideal_attn_finite m) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    Cert.Reference2Ideal.Value.res_main_v60 m' c = Pipeline.afterTail₀ Cert.Kernel2Ideal.cfgs (dats m) 0 (Cert.Kernel2Ideal.Gen.V0 m) [Cert.Kernel2Ideal.Gen.hostOps1] c Cert.Kernel2Ideal.main_v63
    ∧ Cert.Reference2Ideal.Value.res_main_v59 m' c = Pipeline.afterTail₀ Cert.Kernel2Ideal.cfgs (dats m) 0 (Cert.Kernel2Ideal.Gen.V0 m) [Cert.Kernel2Ideal.Gen.hostOps1] c Cert.Kernel2Ideal.main_v67
    ∧ Cert.Reference2Ideal.Value.res_main_v41 m' c = Pipeline.afterTail₀ Cert.Kernel2Ideal.cfgs (dats m) 0 (Cert.Kernel2Ideal.Gen.V0 m) [Cert.Kernel2Ideal.Gen.hostOps1] c Cert.Kernel2Ideal.main_v71 := by
  obtain ⟨⟨Q, hQ⟩, ⟨K, hK⟩, ⟨W, hW⟩, ⟨D, hD⟩⟩ := Cert.Pre_attn_finite.Attn.finite _ _ _ _ (hpre c)
  obtain ⟨A, H⟩ := holds_of hQ hK hW hD
  refine ⟨?_, ?_, ?_⟩
  · refine (val_main_v60_eq m' c).trans ?_
    rw [h0, h1, h2, h3]
    funext i
    idx_vars i
    rw [Subsingleton.elim i0 0]
    exact (dq_at H _ _ _).trans (out_dq c H _ _ _).symm
  · refine (val_main_v59_eq m' c).trans ?_
    rw [h0, h1, h2, h3]
    funext i
    idx_vars i
    rw [Subsingleton.elim i0 0]
    exact (dk_at H _ _ _).trans (out_dk c H _ _ _).symm
  · refine (val_main_v41_eq m' c).trans ?_
    rw [h0, h1, h3]
    funext i
    idx_vars i
    rw [Subsingleton.elim i0 0]
    exact (dv_at H _ _ _).trans (out_dv c H _ _ _).symm

theorem algebraic2 : Cert.algebraic_Kernel2Ideal_Reference2Ideal_pre_attn_finite := by
  intro m g m' g' hpre hagree
  refine ⟨_, _, _, attn_run m g, (θ_run _ _ _).mono (fun r h c => ?_) (Cert.Reference2Ideal.Value.run m' g')⟩
  obtain ⟨a0, a1, a2, a3⟩ := hagree c
  obtain ⟨e0, e1, e2⟩ := same_results m m' hpre c a0 a1 a2 a3
  exact ⟨(h c).1.trans e0, (h c).2.1.trans e1, (h c).2.2.1.trans e2, (h c).2.2.2⟩

/-! ## The attention's forward call -/

theorem quiescent_reference3 : Cert.quiescent_Reference3Ideal := by
  intro m g _
  exact (θ_run _ _ _).mono (fun r h => ⟨fun c => (h c).2.2, sem_eq_zero_of_no_sems (by decide) r.2⟩)
    (Cert.Reference3Ideal.Value.run m g)

/-- The forward call's run, the two results read. -/
theorem fwd_run (m : (ℓ : Loc Cert.Kernel3Ideal.nD Cert.Kernel3Ideal.τ Cert.Kernel3Ideal.sig) → Buf (Elt Ideal) ℓ) (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
      r.2.mem ((c.tc : Thread Cert.Kernel3Ideal.nD Cert.Kernel3Ideal.τ).loc Cert.Kernel3Ideal.main_v17_0) = (Cert.Kernel3Ideal.Fwd.dats m 0 c).arrAt 3 Cert.Kernel3Ideal.cfg0.N
      ∧ r.2.mem ((c.tc : Thread Cert.Kernel3Ideal.nD Cert.Kernel3Ideal.τ).loc Cert.Kernel3Ideal.main_v24) = Pipeline.afterTail₀ Cert.Kernel3Ideal.cfgs (Cert.Kernel3Ideal.Fwd.dats m) 0 (Cert.Kernel3Ideal.Gen.V0 m) [Cert.Kernel3Ideal.Gen.hostOps1] c Cert.Kernel3Ideal.main_v24
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)) :=
  (θ_run _ _ _).mono (fun r h c => ⟨(h.1.1 c).1 3, (h.1.1 c).2 _ (Pipeline.mem_restRefs_of Cert.Kernel3Ideal.main_v24 (by decide) (by decide)), h.2.1 c⟩)
    (θ_run_and (Cert.Kernel3Ideal.Fwd.run m g) (Cert.Kernel3Ideal.Fwd.frame m g))

open Cert.Kernel3Ideal.Fwd Cert.Reference3Ideal.Read Cert.Reference3Ideal.Fwd in
theorem same_results3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (hpre : Cert.Pre_Kernel3Ideal_attn_fwd_finite m) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) :
    Cert.Reference3Ideal.Value.res_main_v32 m' c = (Cert.Kernel3Ideal.Fwd.dats m 0 c).arrAt 3 Cert.Kernel3Ideal.cfg0.N
    ∧ Cert.Reference3Ideal.Value.res_main_v35 m' c = Pipeline.afterTail₀ Cert.Kernel3Ideal.cfgs (Cert.Kernel3Ideal.Fwd.dats m) 0 (Cert.Kernel3Ideal.Gen.V0 m) [Cert.Kernel3Ideal.Gen.hostOps1] c Cert.Kernel3Ideal.main_v24 := by
  obtain ⟨⟨Q, hQ⟩, ⟨X, hX⟩, ⟨W, hW⟩⟩ := Cert.Pre_attn_fwd_finite.Fwd.finite _ _ _ (hpre c)
  obtain ⟨A, H⟩ := Cert.Kernel2Ideal.Attn.holds_of (d := fun _ => (0 : EReal)) (D := fun _ _ _ => 0) hQ hX hW (fun _ _ _ => EReal.coe_zero.symm)
  refine ⟨?_, ?_⟩
  · refine (val_main_v32_eq m' c).trans ?_
    rw [h0, h1, h2]
    funext i
    idx_vars i
    exact (out_at H _ _).trans (res_out c H _ _).symm
  · refine (val_main_v35_eq m' c).trans ?_
    rw [h0, h1]
    funext i
    idx_vars i
    exact (lse_at H _ _).trans (res_lse c H _ _).symm

theorem algebraic3 : Cert.algebraic_Kernel3Ideal_Reference3Ideal_pre_attn_fwd_finite := by
  intro m g m' g' hpre hagree
  refine ⟨_, _, fwd_run m g, (θ_run _ _ _).mono (fun r h c => ?_) (Cert.Reference3Ideal.Value.run m' g')⟩
  obtain ⟨a0, a1, a2⟩ := hagree c
  obtain ⟨e0, e1⟩ := same_results3 m m' hpre c a0 a1 a2
  exact ⟨(h c).1.trans e0, (h c).2.1.trans e1, (h c).2.2⟩

/-! ## The latent projections' backward call -/

theorem quiescent_reference4 : Cert.quiescent_Reference4Ideal := by
  intro m g _
  exact (θ_run _ _ _).mono (fun r h => ⟨fun c => (h c).2.2.2.2.2.2.2, sem_eq_zero_of_no_sems (by decide) r.2⟩)
    (Cert.Reference4Ideal.Value.run m g)

/-- The backward call's run, its seven results read. -/
theorem mla_run (m : (ℓ : Loc Cert.Kernel4Ideal.nD Cert.Kernel4Ideal.τ Cert.Kernel4Ideal.sig) → Buf (Elt Ideal) ℓ) (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
      r.2.mem ((c.tc : Thread Cert.Kernel4Ideal.nD Cert.Kernel4Ideal.τ).loc Cert.Kernel4Ideal.main_v92) = Cert.Kernel4Ideal.Mla.made m c Cert.Kernel4Ideal.main_v92
      ∧ r.2.mem ((c.tc : Thread Cert.Kernel4Ideal.nD Cert.Kernel4Ideal.τ).loc Cert.Kernel4Ideal.main_v93) = Cert.Kernel4Ideal.Mla.made m c Cert.Kernel4Ideal.main_v93
      ∧ r.2.mem ((c.tc : Thread Cert.Kernel4Ideal.nD Cert.Kernel4Ideal.τ).loc Cert.Kernel4Ideal.main_v94) = Cert.Kernel4Ideal.Mla.made m c Cert.Kernel4Ideal.main_v94
      ∧ r.2.mem ((c.tc : Thread Cert.Kernel4Ideal.nD Cert.Kernel4Ideal.τ).loc Cert.Kernel4Ideal.main_v84_1) = (Cert.Kernel4Ideal.Gen.dats m 0 c).arrAt 15 (Cert.Kernel4Ideal.cfgs 0).N
      ∧ r.2.mem ((c.tc : Thread Cert.Kernel4Ideal.nD Cert.Kernel4Ideal.τ).loc Cert.Kernel4Ideal.main_v88) = Cert.Kernel4Ideal.Mla.made m c Cert.Kernel4Ideal.main_v88
      ∧ r.2.mem ((c.tc : Thread Cert.Kernel4Ideal.nD Cert.Kernel4Ideal.τ).loc Cert.Kernel4Ideal.main_v84_2) = (Cert.Kernel4Ideal.Gen.dats m 0 c).arrAt 16 (Cert.Kernel4Ideal.cfgs 0).N
      ∧ r.2.mem ((c.tc : Thread Cert.Kernel4Ideal.nD Cert.Kernel4Ideal.τ).loc Cert.Kernel4Ideal.main_v91) = Cert.Kernel4Ideal.Mla.made m c Cert.Kernel4Ideal.main_v91
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)) :=
  (θ_run _ _ _).mono (fun r h c => ⟨(h.1 c).2 _ (Pipeline.mem_restRefs_of Cert.Kernel4Ideal.main_v92 (by decide) (by decide)),
      (h.1 c).2 _ (Pipeline.mem_restRefs_of Cert.Kernel4Ideal.main_v93 (by decide) (by decide)),
      (h.1 c).2 _ (Pipeline.mem_restRefs_of Cert.Kernel4Ideal.main_v94 (by decide) (by decide)),
      (h.1 c).1 15,
      (h.1 c).2 _ (Pipeline.mem_restRefs_of Cert.Kernel4Ideal.main_v88 (by decide) (by decide)),
      (h.1 c).1 16,
      (h.1 c).2 _ (Pipeline.mem_restRefs_of Cert.Kernel4Ideal.main_v91 (by decide) (by decide)), h.2 c⟩)
    (θ_run_and (Cert.Kernel4Ideal.Gen.run_main m g) (Cert.Kernel4Ideal.Gen.unchanged m g))

open Cert.Reference4Ideal.Read Cert.Kernel4Ideal.Mla in
theorem algebraic4 : Cert.algebraic_Kernel4Ideal_Reference4Ideal := by
  intro m g m' g' hpre hagree
  refine ⟨_, _, _, _, _, _, _, mla_run m g, (θ_run _ _ _).mono (fun r h c => ?_) (Cert.Reference4Ideal.Value.run m' g')⟩
  obtain ⟨a0, a1, a2, a3, a4, a5, a6, a7, a8, a9, a10, a11⟩ := hagree c
  have e0 : val_main_v178 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9))
      = Cert.Kernel4Ideal.Mla.made m c Cert.Kernel4Ideal.main_v92 := by
    rw [a0, a3, a4, a7, a8, a9]
    exact eq_dcq m c
  have e1 : val_main_v132 (F := Ideal) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11))
      = Cert.Kernel4Ideal.Mla.made m c Cert.Kernel4Ideal.main_v93 := by
    rw [a1, a5, a6, a10, a11]
    exact eq_dck m c
  have e2 : val_main_v103 (F := Ideal) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg10))
      = Cert.Kernel4Ideal.Mla.made m c Cert.Kernel4Ideal.main_v94 := by
    rw [a7, a8, a10]
    exact eq_kp m c
  have e3 : val_main_v179 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9))
      = (Cert.Kernel4Ideal.Gen.dats m 0 c).arrAt 15 (Cert.Kernel4Ideal.cfgs 0).N := by
    rw [a0, a4, a7, a8, a9]
    exact eq_dgq m c
  have e4 : val_main_v157 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9))
      = Cert.Kernel4Ideal.Mla.made m c Cert.Kernel4Ideal.main_v88 := by
    rw [a0, a3, a7, a8, a9]
    exact eq_dwq m c
  have e5 : val_main_v133 (F := Ideal) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11))
      = (Cert.Kernel4Ideal.Gen.dats m 0 c).arrAt 16 (Cert.Kernel4Ideal.cfgs 0).N := by
    rw [a1, a6, a10, a11]
    exact eq_dgk m c
  have e6 : val_main_v111 (F := Ideal) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11))
      = Cert.Kernel4Ideal.Mla.made m c Cert.Kernel4Ideal.main_v91 := by
    rw [a1, a5, a10, a11]
    exact eq_dwk m c
  obtain ⟨h0, h1, h2, h3, h4, h5, h6, hu⟩ := h c
  exact ⟨h0.trans ((val_main_v178_eq _).trans e0),
    h1.trans ((val_main_v132_eq _).trans e1),
    h2.trans ((val_main_v103_eq _).trans e2),
    h3.trans ((val_main_v179_eq _).trans e3),
    h4.trans ((val_main_v157_eq _).trans e4),
    h5.trans ((val_main_v133_eq _).trans e5),
    h6.trans ((val_main_v111_eq _).trans e6), hu⟩

/-! ## The latent projections' forward call -/

theorem quiescent_reference5 : Cert.quiescent_Reference5Ideal := by
  intro m g _
  exact (θ_run _ _ _).mono (fun r h => ⟨fun c => (h c).2.2.2.2.2, sem_eq_zero_of_no_sems (by decide) r.2⟩)
    (Cert.Reference5Ideal.Value.run m g)

/-- The forward call's run, its five results read. -/
theorem prep_run (m : (ℓ : Loc Cert.Kernel5Ideal.nD Cert.Kernel5Ideal.τ Cert.Kernel5Ideal.sig) → Buf (Elt Ideal) ℓ) (g : Dev Cert.Kernel5Ideal.nD → PrngReg) :
    θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
      r.2.mem ((c.tc : Thread Cert.Kernel5Ideal.nD Cert.Kernel5Ideal.τ).loc Cert.Kernel5Ideal.main_v38) = Cert.Kernel5Ideal.Prep.made m c Cert.Kernel5Ideal.main_v38
      ∧ r.2.mem ((c.tc : Thread Cert.Kernel5Ideal.nD Cert.Kernel5Ideal.τ).loc Cert.Kernel5Ideal.main_v42) = Cert.Kernel5Ideal.Prep.made m c Cert.Kernel5Ideal.main_v42
      ∧ r.2.mem ((c.tc : Thread Cert.Kernel5Ideal.nD Cert.Kernel5Ideal.τ).loc Cert.Kernel5Ideal.main_v46) = Cert.Kernel5Ideal.Prep.made m c Cert.Kernel5Ideal.main_v46
      ∧ r.2.mem ((c.tc : Thread Cert.Kernel5Ideal.nD Cert.Kernel5Ideal.τ).loc Cert.Kernel5Ideal.main_v49) = Cert.Kernel5Ideal.Prep.made m c Cert.Kernel5Ideal.main_v49
      ∧ r.2.mem ((c.tc : Thread Cert.Kernel5Ideal.nD Cert.Kernel5Ideal.τ).loc Cert.Kernel5Ideal.main_v52) = Cert.Kernel5Ideal.Prep.made m c Cert.Kernel5Ideal.main_v52
      ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)) :=
  (θ_run _ _ _).mono (fun r h c => ⟨(h.1 c).2 _ (Pipeline.mem_restRefs_of Cert.Kernel5Ideal.main_v38 (by decide) (by decide)),
      (h.1 c).2 _ (Pipeline.mem_restRefs_of Cert.Kernel5Ideal.main_v42 (by decide) (by decide)),
      (h.1 c).2 _ (Pipeline.mem_restRefs_of Cert.Kernel5Ideal.main_v46 (by decide) (by decide)),
      (h.1 c).2 _ (Pipeline.mem_restRefs_of Cert.Kernel5Ideal.main_v49 (by decide) (by decide)),
      (h.1 c).2 _ (Pipeline.mem_restRefs_of Cert.Kernel5Ideal.main_v52 (by decide) (by decide)), h.2 c⟩)
    (θ_run_and (Cert.Kernel5Ideal.Gen.run_main m g) (Cert.Kernel5Ideal.Gen.unchanged m g))

open Cert.Reference5Ideal.Read Cert.Kernel5Ideal.Prep in
theorem algebraic5 : Cert.algebraic_Kernel5Ideal_Reference5Ideal := by
  intro m g m' g' hpre hagree
  refine ⟨_, _, _, _, _, prep_run m g, (θ_run _ _ _).mono (fun r h c => ?_) (Cert.Reference5Ideal.Value.run m' g')⟩
  obtain ⟨a0, a1, a2, a3, a4, a5, a6, a7, a8⟩ := hagree c
  have e0 : val_main_v71 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8))
      = Cert.Kernel5Ideal.Prep.made m c Cert.Kernel5Ideal.main_v38 := by
    rw [a0, a3, a4, a7, a8]
    exact eq_q m c
  have e1 : val_main_v69 (F := Ideal) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8))
      = Cert.Kernel5Ideal.Prep.made m c Cert.Kernel5Ideal.main_v42 := by
    rw [a1, a2, a5, a6, a7, a8]
    exact eq_k m c
  have e2 : val_main_v72 (F := Ideal) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6))
      = Cert.Kernel5Ideal.Prep.made m c Cert.Kernel5Ideal.main_v46 := by
    rw [a1, a5, a6]
    exact eq_v m c
  have e3 : val_main_v13 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg3))
      = Cert.Kernel5Ideal.Prep.made m c Cert.Kernel5Ideal.main_v49 := by
    rw [a0, a3]
    exact eq_cq m c
  have e4 : val_main_v27 (F := Ideal) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg5))
      = Cert.Kernel5Ideal.Prep.made m c Cert.Kernel5Ideal.main_v52 := by
    rw [a1, a5]
    exact eq_ck m c
  obtain ⟨h0, h1, h2, h3, h4, hu⟩ := h c
  exact ⟨h0.trans ((val_main_v71_eq _ _).trans e0),
    h1.trans ((val_main_v69_eq _ _ _ _ _ _).trans e1),
    h2.trans ((val_main_v72_eq _ _ _).trans e2),
    h3.trans ((val_main_v13_eq _ _).trans e3),
    h4.trans ((val_main_v27_eq _ _).trans e4), hu⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_attn_finite.Gen.facts, Cert.Pre_attn_fwd_finite.Gen.facts,
  fun m ρ _ => Cert.Kernel.Gen.frame m ρ, fun m ρ _ => Cert.KernelIdeal.Gen.frame m ρ, quiescent_reference,
  fun m ρ _ => Cert.Kernel2Ideal.Attn.frame_written m ρ, fun m ρ _ => Cert.Kernel2Ideal.Attn.frame m ρ, fun m ρ _ => Cert.Kernel2Ideal.Attn.frame m ρ,
  quiescent_reference2, fun m ρ _ => quiescent_reference2 m ρ trivial,
  fun m ρ _ => Cert.Kernel3Ideal.Fwd.frame_written m ρ, fun m ρ _ => Cert.Kernel3Ideal.Fwd.frame m ρ, fun m ρ _ => Cert.Kernel3Ideal.Fwd.frame m ρ,
  quiescent_reference3, fun m ρ _ => quiescent_reference3 m ρ trivial,
  fun m ρ _ => Cert.Kernel4.Gen.frame m ρ, fun m ρ _ => Cert.Kernel4Ideal.Gen.frame m ρ, quiescent_reference4,
  fun m ρ _ => Cert.Kernel5.Gen.frame m ρ, fun m ρ _ => Cert.Kernel5Ideal.Gen.frame m ρ, quiescent_reference5,
  trivial, algebraic, IdealRules.named_const.statement Cert.Kernel2Ideal.κ "mask" .f32 0xF149F2CA#32 ⊥ rfl, algebraic2,
  IdealRules.named_const.statement Cert.Kernel3Ideal.κ "mask" .f32 0xF149F2CA#32 ⊥ rfl, algebraic3,
  trivial, algebraic4,
  trivial, algebraic5⟩

end Cert.Proof

end
